-- ==== Defs.lean ====
def Pre_Kernel [hPre_words_in_vocabulary : Cert.Pre_words_in_vocabulary.Facts] (m : (ℓ : Loc Cert.Kernel.nD Cert.Kernel.τ Cert.Kernel.sig) → Buf (Elt Bits) ℓ) : Prop :=
  ∀ c : Dev Cert.Kernel.nD,
    (Cert.Pre_words_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_words_in_vocabulary : Cert.Pre_words_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_vocabulary [hPre_words_in_vocabulary : Cert.Pre_words_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_words_in_vocabulary : Cert.Pre_words_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_words_in_vocabulary : Cert.Pre_words_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_words_in_vocabulary [hReferenceIdeal : Cert.ReferenceIdeal.Facts] [hPre_words_in_vocabulary : Cert.Pre_words_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_in_vocabulary : Cert.Pre_words_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_words_in_vocabulary : Cert.Pre_words_in_vocabulary.Facts),
    quiescent_Kernel (hKernel := hKernel) (hPre_words_in_vocabulary := hPre_words_in_vocabulary)
    ∧ quiescent_KernelIdeal (hKernelIdeal := hKernelIdeal) (hPre_words_in_vocabulary := hPre_words_in_vocabulary)
    ∧ quiescent_ReferenceIdeal (hReferenceIdeal := hReferenceIdeal)
    ∧ quiescent_ReferenceIdeal_pre_words_in_vocabulary (hReferenceIdeal := hReferenceIdeal) (hPre_words_in_vocabulary := hPre_words_in_vocabulary)
    ∧ preserves_Kernel_KernelIdeal
    ∧ algebraic_KernelIdeal_ReferenceIdeal (hKernelIdeal := hKernelIdeal) (hReferenceIdeal := hReferenceIdeal) (hPre_words_in_vocabulary := hPre_words_in_vocabulary)
-- ==== Pre_words_in_vocabulary.lean ====
abbrev S8x2048 : Shape := ⟨2, ![8, 2048]⟩
abbrev S10000x10000 : Shape := ⟨2, ![10000, 10000]⟩
abbrev S10000 : Shape := ⟨1, ![10000]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : IVec S8x2048 32) (main_arg1 : FVec F S10000x10000 .f32) (main_arg2 : FVec F S10000 .f32) : IVec S_ 1 :=
  let main_c : IVec S_ 32 := constantI S_ 32 0#32
  let main_v0 : IVec S8x2048 32 := broadcastInDim S8x2048 ![] bcast_S_S8x2048 main_c
  let main_v1 : IVec S8x2048 1 := cmpi .sge main_arg0 main_v0
  let main_c_0 : IVec S_ 32 := constantI S_ 32 10000#32
  let main_v2 : IVec S8x2048 32 := broadcastInDim S8x2048 ![] bcast_S_S8x2048 main_c_0
  let main_v3 : IVec S8x2048 1 := cmpi .slt main_arg0 main_v2
  let main_v4 : IVec S8x2048 1 := andi main_v1 main_v3
  let main_c_1 : IVec S_ 1 := constantI S_ 1 1#1
  let main_v5 : IVec S_ 1 := (fun x v => Host.reduce IntOp.andi x v reducesTo_S8x2048_S_d0_1 h_S_) main_v4 main_c_1
  main_v5
-- ==== Kernel.lean ====
abbrev S8x2048 : Shape := ⟨2, ![8, 2048]⟩
abbrev S10000x10000 : Shape := ⟨2, ![10000, 10000]⟩
abbrev S10000 : Shape := ⟨1, ![10000]⟩
abbrev S_ : Shape := ⟨0, ![]⟩
abbrev S10112 : Shape := ⟨1, ![10112]⟩
abbrev S79x1x128 : Shape := ⟨3, ![79, 1, 128]⟩
abbrev S8x8x256x1 : Shape := ⟨4, ![8, 8, 256, 1]⟩
abbrev S10000x128 : Shape := ⟨2, ![10000, 128]⟩
abbrev S8x2048x2048 : Shape := ⟨3, ![8, 2048, 2048]⟩
abbrev S1x1x256x1 : Shape := ⟨4, ![1, 1, 256, 1]⟩
abbrev S1x256x2048 : Shape := ⟨3, ![1, 256, 2048]⟩
abbrev S256x1x10112 : Shape := ⟨3, ![256, 1, 10112]⟩
abbrev S10112x1x256 : Shape := ⟨3, ![10112, 1, 256]⟩
abbrev S2048x1x256 : Shape := ⟨3, ![2048, 1, 256]⟩
abbrev S256x1x128 : Shape := ⟨3, ![256, 1, 128]⟩
abbrev S256x128 : Shape := ⟨2, ![256, 128]⟩
abbrev S2 : Shape := ⟨1, ![2]⟩
abbrev S1x1 : Shape := ⟨2, ![1, 1]⟩
abbrev S1 : Shape := ⟨1, ![1]⟩
abbrev S1x1x9984 : Shape := ⟨3, ![1, 1, 9984]⟩
abbrev S1x9984 : Shape := ⟨2, ![1, 9984]⟩
abbrev S20224x128 : Shape := ⟨2, ![20224, 128]⟩
abbrev S128x256 : Shape := ⟨2, ![128, 256]⟩
abbrev S128x1x256 : Shape := ⟨3, ![128, 1, 256]⟩
abbrev S8x128 : Shape := ⟨2, ![8, 128]⟩
abbrev S1x128 : Shape := ⟨2, ![1, 128]⟩
abbrev S64x128 : Shape := ⟨2, ![64, 128]⟩
abbrev S1x1x256 : Shape := ⟨3, ![1, 1, 256]⟩
abbrev S256 : Shape := ⟨1, ![256]⟩
abbrev S1x1x128 : Shape := ⟨3, ![1, 1, 128]⟩
abbrev S128 : Shape := ⟨1, ![128]⟩
abbrev S256x1 : Shape := ⟨2, ![256, 1]⟩
abbrev S4096x128 : Shape := ⟨2, ![4096, 128]⟩
abbrev S2048x128 : Shape := ⟨2, ![2048, 128]⟩
abbrev S128x2048 : Shape := ⟨2, ![128, 2048]⟩
abbrev S128x1 : Shape := ⟨2, ![128, 1]⟩
abbrev S1x128x2048 : Shape := ⟨3, ![1, 128, 2048]⟩

abbrev nBuf : Space → Nat
  | .hbm => 9
  | .vmem => 12
  | .smem => 1
  | _ => 0

abbrev bufTy : (tb : Table) → Fin (tcTables nBuf tb) → BufTy
  | .hbm, ⟨0, _⟩ => ⟨S10000x10000, .f32⟩
  | .hbm, ⟨1, _⟩ => ⟨S10000, .f32⟩
  | .hbm, ⟨2, _⟩ => ⟨S_, .i32⟩
  | .hbm, ⟨3, _⟩ => ⟨S_, .f32⟩
  | .hbm, ⟨4, _⟩ => ⟨S10112, .f32⟩
  | .hbm, ⟨5, _⟩ => ⟨S79x1x128, .f32⟩
  | .hbm, ⟨6, _⟩ => ⟨S8x8x256x1, .i32⟩
  | .hbm, ⟨7, _⟩ => ⟨S10000x128, .f32⟩
  | .hbm, ⟨8, _⟩ => ⟨S8x2048x2048, .f32⟩
  | .local _ .vmem, ⟨0, _⟩ => ⟨S10000x128, .f32⟩
  | .local _ .vmem, ⟨1, _⟩ => ⟨S1x1x256x1, .i32⟩
  | .local _ .vmem, ⟨2, _⟩ => ⟨S1x1x256x1, .i32⟩
  | .local _ .vmem, ⟨3, _⟩ => ⟨S79x1x128, .f32⟩
  | .local _ .vmem, ⟨4, _⟩ => ⟨S1x256x2048, .f32⟩
  | .local _ .vmem, ⟨5, _⟩ => ⟨S1x256x2048, .f32⟩
  | .local _ .vmem, ⟨6, _⟩ => ⟨S256x1x10112, .f32⟩
  | .local _ .vmem, ⟨7, _⟩ => ⟨S256x1x10112, .f32⟩
  | .local _ .vmem, ⟨8, _⟩ => ⟨S10112x1x256, .f32⟩
  | .local _ .vmem, ⟨9, _⟩ => ⟨S2048x1x256, .f32⟩
  | .local _ .vmem, ⟨10, _⟩ => ⟨S256x1x128, .f32⟩
  | .local _ .vmem, ⟨11, _⟩ => ⟨S256x128, .f32⟩
  | .local _ .smem, ⟨0, _⟩ => ⟨S8x2048, .i32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_49 : BitVec 32 := 0#32
  let c4_i32_50 : BitVec 32 := 4#32
  let v87 : BitVec 32 := Scalar.addi c0_i32_49 c4_i32_50
  let c1_i32_51 : BitVec 32 := 1#32
  ⟨c0_i32_49, v87, c1_i32_51⟩
def k0_off1 (i : grid0.Coords) (k0_t1 : Fin k0_t1_loop.trips) : Fin 2 → Nat :=
  let arg0 : BitVec 32 := BitVec.ofNat 32 (i 0).val
  let v91 : Index := Scalar.indexCast arg0
  let c0_i32_54 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c0_i32_53 : BitVec 32 := 0#32
  let v89 : BitVec 32 := Scalar.addi v88 c0_i32_53
  let v90 : BitVec 32 := Scalar.addi c0_i32_54 v89
  let v92 : Index := Scalar.indexCast v90
  ![v91.toNat, v92.toNat]
def k0_off2 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c0_i32_53 : BitVec 32 := 0#32
  let v89 : BitVec 32 := Scalar.addi v88 c0_i32_53
  let c0_i32_55 : BitVec 32 := 0#32
  let c0_i32_56 : BitVec 32 := 0#32
  ![v89.toNat, 0, 0]
def k0_off3 (v93 : BitVec 32) : Fin 2 → Nat :=
  let c0_i32_57 : BitVec 32 := 0#32
  ![v93.toNat, 0]

def k0_chk1 (i : grid0.Coords) (v93 : BitVec 32) : Prop :=
  (∀ (k0_h1 : k0_cond1 i = 1#1), ∀ a, (k0_off3 v93) a + S1x9984.size a ≤ S10000x10000.size a)
theorem k0_off3_inb : ∀ (i : grid0.Coords) (v93 : BitVec 32) (k0_hw1 : k0_chk1 i v93), ∀ (k0_h1 : k0_cond1 i = 1#1), ∀ a, (k0_off3 v93) a + S1x9984.size a ≤ S10000x10000.size a := fun i v93 k0_hw1 k0_h1 => k0_hw1 k0_h1

def k0_off4 (i : grid0.Coords) (k0_t1 : Fin k0_t1_loop.trips) : Fin 2 → Nat :=
  let arg0 : BitVec 32 := BitVec.ofNat 32 (i 0).val
  let v101 : Index := Scalar.indexCast arg0
  let c0_i32_59 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c1_i32_58 : BitVec 32 := 1#32
  let v99 : BitVec 32 := Scalar.addi v88 c1_i32_58
  let v100 : BitVec 32 := Scalar.addi c0_i32_59 v99
  let v102 : Index := Scalar.indexCast v100
  ![v101.toNat, v102.toNat]
def k0_off5 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c1_i32_58 : BitVec 32 := 1#32
  let v99 : BitVec 32 := Scalar.addi v88 c1_i32_58
  let c0_i32_60 : BitVec 32 := 0#32
  let c0_i32_61 : BitVec 32 := 0#32
  ![v99.toNat, 0, 0]
def k0_off6 (v103 : BitVec 32) : Fin 2 → Nat :=
  let c0_i32_62 : BitVec 32 := 0#32
  ![v103.toNat, 0]

def k0_chk2 (i : grid0.Coords) (v103 : BitVec 32) : Prop :=
  (∀ (k0_h1 : k0_cond1 i = 1#1), ∀ a, (k0_off6 v103) a + S1x9984.size a ≤ S10000x10000.size a)
theorem k0_off6_inb : ∀ (i : grid0.Coords) (v103 : BitVec 32) (k0_hw2 : k0_chk2 i v103), ∀ (k0_h1 : k0_cond1 i = 1#1), ∀ a, (k0_off6 v103) a + S1x9984.size a ≤ S10000x10000.size a := fun i v103 k0_hw2 k0_h1 => k0_hw2 k0_h1

def k0_off7 (i : grid0.Coords) (k0_t1 : Fin k0_t1_loop.trips) : Fin 2 → Nat :=
  let arg0 : BitVec 32 := BitVec.ofNat 32 (i 0).val
  let v111 : Index := Scalar.indexCast arg0
  let c0_i32_64 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c2_i32_63 : BitVec 32 := 2#32
  let v109 : BitVec 32 := Scalar.addi v88 c2_i32_63
  let v110 : BitVec 32 := Scalar.addi c0_i32_64 v109
  let v112 : Index := Scalar.indexCast v110
  ![v111.toNat, v112.toNat]
def k0_off8 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c2_i32_63 : BitVec 32 := 2#32
  let v109 : BitVec 32 := Scalar.addi v88 c2_i32_63
  let c0_i32_65 : BitVec 32 := 0#32
  let c0_i32_66 : BitVec 32 := 0#32
  ![v109.toNat, 0, 0]
def k0_off9 (v113 : BitVec 32) : Fin 2 → Nat :=
  let c0_i32_67 : BitVec 32 := 0#32
  ![v113.toNat, 0]

def k0_chk3 (i : grid0.Coords) (v113 : BitVec 32) : Prop :=
  (∀ (k0_h1 : k0_cond1 i = 1#1), ∀ a, (k0_off9 v113) a + S1x9984.size a ≤ S10000x10000.size a)
theorem k0_off9_inb : ∀ (i : grid0.Coords) (v113 : BitVec 32) (k0_hw3 : k0_chk3 i v113), ∀ (k0_h1 : k0_cond1 i = 1#1), ∀ a, (k0_off9 v113) a + S1x9984.size a ≤ S10000x10000.size a := fun i v113 k0_hw3 k0_h1 => k0_hw3 k0_h1

def k0_off10 (i : grid0.Coords) (k0_t1 : Fin k0_t1_loop.trips) : Fin 2 → Nat :=
  let arg0 : BitVec 32 := BitVec.ofNat 32 (i 0).val
  let v121 : Index := Scalar.indexCast arg0
  let c0_i32_68 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c3_i32 : BitVec 32 := 3#32
  let v119 : BitVec 32 := Scalar.addi v88 c3_i32
  let v120 : BitVec 32 := Scalar.addi c0_i32_68 v119
  let v122 : Index := Scalar.indexCast v120
  ![v121.toNat, v122.toNat]
def k0_off11 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c3_i32 : BitVec 32 := 3#32
  let v119 : BitVec 32 := Scalar.addi v88 c3_i32
  let c0_i32_69 : BitVec 32 := 0#32
  let c0_i32_70 : BitVec 32 := 0#32
  ![v119.toNat, 0, 0]
def k0_off12 (v123 : BitVec 32) : Fin 2 → Nat :=
  let c0_i32_71 : BitVec 32 := 0#32
  ![v123.toNat, 0]

def k0_chk4 (i : grid0.Coords) (v123 : BitVec 32) : Prop :=
  (∀ (k0_h1 : k0_cond1 i = 1#1), ∀ a, (k0_off12 v123) a + S1x9984.size a ≤ S10000x10000.size a)
theorem k0_off12_inb : ∀ (i : grid0.Coords) (v123 : BitVec 32) (k0_hw4 : k0_chk4 i v123), ∀ (k0_h1 : k0_cond1 i = 1#1), ∀ a, (k0_off12 v123) a + S1x9984.size a ≤ S10000x10000.size a := fun i v123 k0_hw4 k0_h1 => k0_hw4 k0_h1

def k0_off13 (i : grid0.Coords) (k0_t1 : Fin k0_t1_loop.trips) : Fin 2 → Nat :=
  let arg0 : BitVec 32 := BitVec.ofNat 32 (i 0).val
  let v131 : Index := Scalar.indexCast arg0
  let c0_i32_73 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c4_i32_72 : BitVec 32 := 4#32
  let v129 : BitVec 32 := Scalar.addi v88 c4_i32_72
  let v130 : BitVec 32 := Scalar.addi c0_i32_73 v129
  let v132 : Index := Scalar.indexCast v130
  ![v131.toNat, v132.toNat]
def k0_off14 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c4_i32_72 : BitVec 32 := 4#32
  let v129 : BitVec 32 := Scalar.addi v88 c4_i32_72
  let c0_i32_74 : BitVec 32 := 0#32
  let c0_i32_75 : BitVec 32 := 0#32
  ![v129.toNat, 0, 0]
def k0_off15 (v133 : BitVec 32) : Fin 2 → Nat :=
  let c0_i32_76 : BitVec 32 := 0#32
  ![v133.toNat, 0]

def k0_chk5 (i : grid0.Coords) (v133 : BitVec 32) : Prop :=
  (∀ (k0_h1 : k0_cond1 i = 1#1), ∀ a, (k0_off15 v133) a + S1x9984.size a ≤ S10000x10000.size a)
theorem k0_off15_inb : ∀ (i : grid0.Coords) (v133 : BitVec 32) (k0_hw5 : k0_chk5 i v133), ∀ (k0_h1 : k0_cond1 i = 1#1), ∀ a, (k0_off15 v133) a + S1x9984.size a ≤ S10000x10000.size a := fun i v133 k0_hw5 k0_h1 => k0_hw5 k0_h1

def k0_off16 (i : grid0.Coords) (k0_t1 : Fin k0_t1_loop.trips) : Fin 2 → Nat :=
  let arg0 : BitVec 32 := BitVec.ofNat 32 (i 0).val
  let v141 : Index := Scalar.indexCast arg0
  let c0_i32_77 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c5_i32 : BitVec 32 := 5#32
  let v139 : BitVec 32 := Scalar.addi v88 c5_i32
  let v140 : BitVec 32 := Scalar.addi c0_i32_77 v139
  let v142 : Index := Scalar.indexCast v140
  ![v141.toNat, v142.toNat]
def k0_off17 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c5_i32 : BitVec 32 := 5#32
  let v139 : BitVec 32 := Scalar.addi v88 c5_i32
  let c0_i32_78 : BitVec 32 := 0#32
  let c0_i32_79 : BitVec 32 := 0#32
  ![v139.toNat, 0, 0]
def k0_off18 (v143 : BitVec 32) : Fin 2 → Nat :=
  let c0_i32_80 : BitVec 32 := 0#32
  ![v143.toNat, 0]

def k0_chk6 (i : grid0.Coords) (v143 : BitVec 32) : Prop :=
  (∀ (k0_h1 : k0_cond1 i = 1#1), ∀ a, (k0_off18 v143) a + S1x9984.size a ≤ S10000x10000.size a)
theorem k0_off18_inb : ∀ (i : grid0.Coords) (v143 : BitVec 32) (k0_hw6 : k0_chk6 i v143), ∀ (k0_h1 : k0_cond1 i = 1#1), ∀ a, (k0_off18 v143) a + S1x9984.size a ≤ S10000x10000.size a := fun i v143 k0_hw6 k0_h1 => k0_hw6 k0_h1

def k0_off19 (i : grid0.Coords) (k0_t1 : Fin k0_t1_loop.trips) : Fin 2 → Nat :=
  let arg0 : BitVec 32 := BitVec.ofNat 32 (i 0).val
  let v151 : Index := Scalar.indexCast arg0
  let c0_i32_81 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c6_i32 : BitVec 32 := 6#32
  let v149 : BitVec 32 := Scalar.addi v88 c6_i32
  let v150 : BitVec 32 := Scalar.addi c0_i32_81 v149
  let v152 : Index := Scalar.indexCast v150
  ![v151.toNat, v152.toNat]
def k0_off20 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c6_i32 : BitVec 32 := 6#32
  let v149 : BitVec 32 := Scalar.addi v88 c6_i32
  let c0_i32_82 : BitVec 32 := 0#32
  let c0_i32_83 : BitVec 32 := 0#32
  ![v149.toNat, 0, 0]
def k0_off21 (v153 : BitVec 32) : Fin 2 → Nat :=
  let c0_i32_84 : BitVec 32 := 0#32
  ![v153.toNat, 0]

def k0_chk7 (i : grid0.Coords) (v153 : BitVec 32) : Prop :=
  (∀ (k0_h1 : k0_cond1 i = 1#1), ∀ a, (k0_off21 v153) a + S1x9984.size a ≤ S10000x10000.size a)
theorem k0_off21_inb : ∀ (i : grid0.Coords) (v153 : BitVec 32) (k0_hw7 : k0_chk7 i v153), ∀ (k0_h1 : k0_cond1 i = 1#1), ∀ a, (k0_off21 v153) a + S1x9984.size a ≤ S10000x10000.size a := fun i v153 k0_hw7 k0_h1 => k0_hw7 k0_h1

def k0_off22 (i : grid0.Coords) (k0_t1 : Fin k0_t1_loop.trips) : Fin 2 → Nat :=
  let arg0 : BitVec 32 := BitVec.ofNat 32 (i 0).val
  let v161 : Index := Scalar.indexCast arg0
  let c0_i32_85 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c7_i32 : BitVec 32 := 7#32
  let v159 : BitVec 32 := Scalar.addi v88 c7_i32
  let v160 : BitVec 32 := Scalar.addi c0_i32_85 v159
  let v162 : Index := Scalar.indexCast v160
  ![v161.toNat, v162.toNat]
def k0_off23 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c7_i32 : BitVec 32 := 7#32
  let v159 : BitVec 32 := Scalar.addi v88 c7_i32
  let c0_i32_86 : BitVec 32 := 0#32
  let c0_i32_87 : BitVec 32 := 0#32
  ![v159.toNat, 0, 0]
def k0_off24 (v163 : BitVec 32) : Fin 2 → Nat :=
  let c0_i32_88 : BitVec 32 := 0#32
  ![v163.toNat, 0]

def k0_chk8 (i : grid0.Coords) (v163 : BitVec 32) : Prop :=
  (∀ (k0_h1 : k0_cond1 i = 1#1), ∀ a, (k0_off24 v163) a + S1x9984.size a ≤ S10000x10000.size a)
theorem k0_off24_inb : ∀ (i : grid0.Coords) (v163 : BitVec 32) (k0_hw8 : k0_chk8 i v163), ∀ (k0_h1 : k0_cond1 i = 1#1), ∀ a, (k0_off24 v163) a + S1x9984.size a ≤ S10000x10000.size a := fun i v163 k0_hw8 k0_h1 => k0_hw8 k0_h1

def k0_off25 (i : grid0.Coords) (k0_t1 : Fin k0_t1_loop.trips) : Fin 2 → Nat :=
  let arg0 : BitVec 32 := BitVec.ofNat 32 (i 0).val
  let v171 : Index := Scalar.indexCast arg0
  let c0_i32_90 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c8_i32_89 : BitVec 32 := 8#32
  let v169 : BitVec 32 := Scalar.addi v88 c8_i32_89
  let v170 : BitVec 32 := Scalar.addi c0_i32_90 v169
  let v172 : Index := Scalar.indexCast v170
  ![v171.toNat, v172.toNat]
def k0_off26 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c8_i32_89 : BitVec 32 := 8#32
  let v169 : BitVec 32 := Scalar.addi v88 c8_i32_89
  let c0_i32_91 : BitVec 32 := 0#32
  let c0_i32_92 : BitVec 32 := 0#32
  ![v169.toNat, 0, 0]
def k0_off27 (v173 : BitVec 32) : Fin 2 → Nat :=
  let c0_i32_93 : BitVec 32 := 0#32
  ![v173.toNat, 0]

def k0_chk9 (i : grid0.Coords) (v173 : BitVec 32) : Prop :=
  (∀ (k0_h1 : k0_cond1 i = 1#1), ∀ a, (k0_off27 v173) a + S1x9984.size a ≤ S10000x10000.size a)
theorem k0_off27_inb : ∀ (i : grid0.Coords) (v173 : BitVec 32) (k0_hw9 : k0_chk9 i v173), ∀ (k0_h1 : k0_cond1 i = 1#1), ∀ a, (k0_off27 v173) a + S1x9984.size a ≤ S10000x10000.size a := fun i v173 k0_hw9 k0_h1 => k0_hw9 k0_h1

def k0_off28 (i : grid0.Coords) (k0_t1 : Fin k0_t1_loop.trips) : Fin 2 → Nat :=
  let arg0 : BitVec 32 := BitVec.ofNat 32 (i 0).val
  let v181 : Index := Scalar.indexCast arg0
  let c0_i32_94 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c9_i32 : BitVec 32 := 9#32
  let v179 : BitVec 32 := Scalar.addi v88 c9_i32
  let v180 : BitVec 32 := Scalar.addi c0_i32_94 v179
  let v182 : Index := Scalar.indexCast v180
  ![v181.toNat, v182.toNat]
def k0_off29 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c9_i32 : BitVec 32 := 9#32
  let v179 : BitVec 32 := Scalar.addi v88 c9_i32
  let c0_i32_95 : BitVec 32 := 0#32
  let c0_i32_96 : BitVec 32 := 0#32
  ![v179.toNat, 0, 0]
def k0_off30 (v183 : BitVec 32) : Fin 2 → Nat :=
  let c0_i32_97 : BitVec 32 := 0#32
  ![v183.toNat, 0]

def k0_chk10 (i : grid0.Coords) (v183 : BitVec 32) : Prop :=
  (∀ (k0_h1 : k0_cond1 i = 1#1), ∀ a, (k0_off30 v183) a + S1x9984.size a ≤ S10000x10000.size a)
theorem k0_off30_inb : ∀ (i : grid0.Coords) (v183 : BitVec 32) (k0_hw10 : k0_chk10 i v183), ∀ (k0_h1 : k0_cond1 i = 1#1), ∀ a, (k0_off30 v183) a + S1x9984.size a ≤ S10000x10000.size a := fun i v183 k0_hw10 k0_h1 => k0_hw10 k0_h1

def k0_off31 (i : grid0.Coords) (k0_t1 : Fin k0_t1_loop.trips) : Fin 2 → Nat :=
  let arg0 : BitVec 32 := BitVec.ofNat 32 (i 0).val
  let v191 : Index := Scalar.indexCast arg0
  let c0_i32_98 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c10_i32 : BitVec 32 := 10#32
  let v189 : BitVec 32 := Scalar.addi v88 c10_i32
  let v190 : BitVec 32 := Scalar.addi c0_i32_98 v189
  let v192 : Index := Scalar.indexCast v190
  ![v191.toNat, v192.toNat]
def k0_off32 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c10_i32 : BitVec 32 := 10#32
  let v189 : BitVec 32 := Scalar.addi v88 c10_i32
  let c0_i32_99 : BitVec 32 := 0#32
  let c0_i32_100 : BitVec 32 := 0#32
  ![v189.toNat, 0, 0]
def k0_off33 (v193 : BitVec 32) : Fin 2 → Nat :=
  let c0_i32_101 : BitVec 32 := 0#32
  ![v193.toNat, 0]

def k0_chk11 (i : grid0.Coords) (v193 : BitVec 32) : Prop :=
  (∀ (k0_h1 : k0_cond1 i = 1#1), ∀ a, (k0_off33 v193) a + S1x9984.size a ≤ S10000x10000.size a)
theorem k0_off33_inb : ∀ (i : grid0.Coords) (v193 : BitVec 32) (k0_hw11 : k0_chk11 i v193), ∀ (k0_h1 : k0_cond1 i = 1#1), ∀ a, (k0_off33 v193) a + S1x9984.size a ≤ S10000x10000.size a := fun i v193 k0_hw11 k0_h1 => k0_hw11 k0_h1

def k0_off34 (i : grid0.Coords) (k0_t1 : Fin k0_t1_loop.trips) : Fin 2 → Nat :=
  let arg0 : BitVec 32 := BitVec.ofNat 32 (i 0).val
  let v201 : Index := Scalar.indexCast arg0
  let c0_i32_102 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c11_i32 : BitVec 32 := 11#32
  let v199 : BitVec 32 := Scalar.addi v88 c11_i32
  let v200 : BitVec 32 := Scalar.addi c0_i32_102 v199
  let v202 : Index := Scalar.indexCast v200
  ![v201.toNat, v202.toNat]
def k0_off35 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c11_i32 : BitVec 32 := 11#32
  let v199 : BitVec 32 := Scalar.addi v88 c11_i32
  let c0_i32_103 : BitVec 32 := 0#32
  let c0_i32_104 : BitVec 32 := 0#32
  ![v199.toNat, 0, 0]
def k0_off36 (v203 : BitVec 32) : Fin 2 → Nat :=
  let c0_i32_105 : BitVec 32 := 0#32
  ![v203.toNat, 0]

def k0_chk12 (i : grid0.Coords) (v203 : BitVec 32) : Prop :=
  (∀ (k0_h1 : k0_cond1 i = 1#1), ∀ a, (k0_off36 v203) a + S1x9984.size a ≤ S10000x10000.size a)
theorem k0_off36_inb : ∀ (i : grid0.Coords) (v203 : BitVec 32) (k0_hw12 : k0_chk12 i v203), ∀ (k0_h1 : k0_cond1 i = 1#1), ∀ a, (k0_off36 v203) a + S1x9984.size a ≤ S10000x10000.size a := fun i v203 k0_hw12 k0_h1 => k0_hw12 k0_h1

def k0_off37 (i : grid0.Coords) (k0_t1 : Fin k0_t1_loop.trips) : Fin 2 → Nat :=
  let arg0 : BitVec 32 := BitVec.ofNat 32 (i 0).val
  let v211 : Index := Scalar.indexCast arg0
  let c0_i32_106 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c12_i32 : BitVec 32 := 12#32
  let v209 : BitVec 32 := Scalar.addi v88 c12_i32
  let v210 : BitVec 32 := Scalar.addi c0_i32_106 v209
  let v212 : Index := Scalar.indexCast v210
  ![v211.toNat, v212.toNat]
def k0_off38 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c12_i32 : BitVec 32 := 12#32
  let v209 : BitVec 32 := Scalar.addi v88 c12_i32
  let c0_i32_107 : BitVec 32 := 0#32
  let c0_i32_108 : BitVec 32 := 0#32
  ![v209.toNat, 0, 0]
def k0_off39 (v213 : BitVec 32) : Fin 2 → Nat :=
  let c0_i32_109 : BitVec 32 := 0#32
  ![v213.toNat, 0]

def k0_chk13 (i : grid0.Coords) (v213 : BitVec 32) : Prop :=
  (∀ (k0_h1 : k0_cond1 i = 1#1), ∀ a, (k0_off39 v213) a + S1x9984.size a ≤ S10000x10000.size a)
theorem k0_off39_inb : ∀ (i : grid0.Coords) (v213 : BitVec 32) (k0_hw13 : k0_chk13 i v213), ∀ (k0_h1 : k0_cond1 i = 1#1), ∀ a, (k0_off39 v213) a + S1x9984.size a ≤ S10000x10000.size a := fun i v213 k0_hw13 k0_h1 => k0_hw13 k0_h1

def k0_off40 (i : grid0.Coords) (k0_t1 : Fin k0_t1_loop.trips) : Fin 2 → Nat :=
  let arg0 : BitVec 32 := BitVec.ofNat 32 (i 0).val
  let v221 : Index := Scalar.indexCast arg0
  let c0_i32_110 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c13_i32 : BitVec 32 := 13#32
  let v219 : BitVec 32 := Scalar.addi v88 c13_i32
  let v220 : BitVec 32 := Scalar.addi c0_i32_110 v219
  let v222 : Index := Scalar.indexCast v220
  ![v221.toNat, v222.toNat]
def k0_off41 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c13_i32 : BitVec 32 := 13#32
  let v219 : BitVec 32 := Scalar.addi v88 c13_i32
  let c0_i32_111 : BitVec 32 := 0#32
  let c0_i32_112 : BitVec 32 := 0#32
  ![v219.toNat, 0, 0]
def k0_off42 (v223 : BitVec 32) : Fin 2 → Nat :=
  let c0_i32_113 : BitVec 32 := 0#32
  ![v223.toNat, 0]

def k0_chk14 (i : grid0.Coords) (v223 : BitVec 32) : Prop :=
  (∀ (k0_h1 : k0_cond1 i = 1#1), ∀ a, (k0_off42 v223) a + S1x9984.size a ≤ S10000x10000.size a)
theorem k0_off42_inb : ∀ (i : grid0.Coords) (v223 : BitVec 32) (k0_hw14 : k0_chk14 i v223), ∀ (k0_h1 : k0_cond1 i = 1#1), ∀ a, (k0_off42 v223) a + S1x9984.size a ≤ S10000x10000.size a := fun i v223 k0_hw14 k0_h1 => k0_hw14 k0_h1

def k0_off43 (i : grid0.Coords) (k0_t1 : Fin k0_t1_loop.trips) : Fin 2 → Nat :=
  let arg0 : BitVec 32 := BitVec.ofNat 32 (i 0).val
  let v231 : Index := Scalar.indexCast arg0
  let c0_i32_114 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c14_i32 : BitVec 32 := 14#32
  let v229 : BitVec 32 := Scalar.addi v88 c14_i32
  let v230 : BitVec 32 := Scalar.addi c0_i32_114 v229
  let v232 : Index := Scalar.indexCast v230
  ![v231.toNat, v232.toNat]
def k0_off44 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c14_i32 : BitVec 32 := 14#32
  let v229 : BitVec 32 := Scalar.addi v88 c14_i32
  let c0_i32_115 : BitVec 32 := 0#32
  let c0_i32_116 : BitVec 32 := 0#32
  ![v229.toNat, 0, 0]
def k0_off45 (v233 : BitVec 32) : Fin 2 → Nat :=
  let c0_i32_117 : BitVec 32 := 0#32
  ![v233.toNat, 0]

def k0_chk15 (i : grid0.Coords) (v233 : BitVec 32) : Prop :=
  (∀ (k0_h1 : k0_cond1 i = 1#1), ∀ a, (k0_off45 v233) a + S1x9984.size a ≤ S10000x10000.size a)
theorem k0_off45_inb : ∀ (i : grid0.Coords) (v233 : BitVec 32) (k0_hw15 : k0_chk15 i v233), ∀ (k0_h1 : k0_cond1 i = 1#1), ∀ a, (k0_off45 v233) a + S1x9984.size a ≤ S10000x10000.size a := fun i v233 k0_hw15 k0_h1 => k0_hw15 k0_h1

def k0_off46 (i : grid0.Coords) (k0_t1 : Fin k0_t1_loop.trips) : Fin 2 → Nat :=
  let arg0 : BitVec 32 := BitVec.ofNat 32 (i 0).val
  let v241 : Index := Scalar.indexCast arg0
  let c0_i32_118 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c15_i32 : BitVec 32 := 15#32
  let v239 : BitVec 32 := Scalar.addi v88 c15_i32
  let v240 : BitVec 32 := Scalar.addi c0_i32_118 v239
  let v242 : Index := Scalar.indexCast v240
  ![v241.toNat, v242.toNat]
def k0_off47 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c15_i32 : BitVec 32 := 15#32
  let v239 : BitVec 32 := Scalar.addi v88 c15_i32
  let c0_i32_119 : BitVec 32 := 0#32
  let c0_i32_120 : BitVec 32 := 0#32
  ![v239.toNat, 0, 0]
def k0_off48 (v243 : BitVec 32) : Fin 2 → Nat :=
  let c0_i32_121 : BitVec 32 := 0#32
  ![v243.toNat, 0]

def k0_chk16 (i : grid0.Coords) (v243 : BitVec 32) : Prop :=
  (∀ (k0_h1 : k0_cond1 i = 1#1), ∀ a, (k0_off48 v243) a + S1x9984.size a ≤ S10000x10000.size a)
theorem k0_off48_inb : ∀ (i : grid0.Coords) (v243 : BitVec 32) (k0_hw16 : k0_chk16 i v243), ∀ (k0_h1 : k0_cond1 i = 1#1), ∀ a, (k0_off48 v243) a + S1x9984.size a ≤ S10000x10000.size a := fun i v243 k0_hw16 k0_h1 => k0_hw16 k0_h1

def k0_off49 (i : grid0.Coords) (k0_t1 : Fin k0_t1_loop.trips) : Fin 2 → Nat :=
  let arg0 : BitVec 32 := BitVec.ofNat 32 (i 0).val
  let v251 : Index := Scalar.indexCast arg0
  let c0_i32_122 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c16_i32 : BitVec 32 := 16#32
  let v249 : BitVec 32 := Scalar.addi v88 c16_i32
  let v250 : BitVec 32 := Scalar.addi c0_i32_122 v249
  let v252 : Index := Scalar.indexCast v250
  ![v251.toNat, v252.toNat]
def k0_off50 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c16_i32 : BitVec 32 := 16#32
  let v249 : BitVec 32 := Scalar.addi v88 c16_i32
  let c0_i32_123 : BitVec 32 := 0#32
  let c0_i32_124 : BitVec 32 := 0#32
  ![v249.toNat, 0, 0]
def k0_off51 (v253 : BitVec 32) : Fin 2 → Nat :=
  let c0_i32_125 : BitVec 32 := 0#32
  ![v253.toNat, 0]

def k0_chk17 (i : grid0.Coords) (v253 : BitVec 32) : Prop :=
  (∀ (k0_h1 : k0_cond1 i = 1#1), ∀ a, (k0_off51 v253) a + S1x9984.size a ≤ S10000x10000.size a)
theorem k0_off51_inb : ∀ (i : grid0.Coords) (v253 : BitVec 32) (k0_hw17 : k0_chk17 i v253), ∀ (k0_h1 : k0_cond1 i = 1#1), ∀ a, (k0_off51 v253) a + S1x9984.size a ≤ S10000x10000.size a := fun i v253 k0_hw17 k0_h1 => k0_hw17 k0_h1

def k0_off52 (i : grid0.Coords) (k0_t1 : Fin k0_t1_loop.trips) : Fin 2 → Nat :=
  let arg0 : BitVec 32 := BitVec.ofNat 32 (i 0).val
  let v261 : Index := Scalar.indexCast arg0
  let c0_i32_126 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c17_i32 : BitVec 32 := 17#32
  let v259 : BitVec 32 := Scalar.addi v88 c17_i32
  let v260 : BitVec 32 := Scalar.addi c0_i32_126 v259
  let v262 : Index := Scalar.indexCast v260
  ![v261.toNat, v262.toNat]
def k0_off53 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c17_i32 : BitVec 32 := 17#32
  let v259 : BitVec 32 := Scalar.addi v88 c17_i32
  let c0_i32_127 : BitVec 32 := 0#32
  let c0_i32_128 : BitVec 32 := 0#32
  ![v259.toNat, 0, 0]
def k0_off54 (v263 : BitVec 32) : Fin 2 → Nat :=
  let c0_i32_129 : BitVec 32 := 0#32
  ![v263.toNat, 0]

def k0_chk18 (i : grid0.Coords) (v263 : BitVec 32) : Prop :=
  (∀ (k0_h1 : k0_cond1 i = 1#1), ∀ a, (k0_off54 v263) a + S1x9984.size a ≤ S10000x10000.size a)
theorem k0_off54_inb : ∀ (i : grid0.Coords) (v263 : BitVec 32) (k0_hw18 : k0_chk18 i v263), ∀ (k0_h1 : k0_cond1 i = 1#1), ∀ a, (k0_off54 v263) a + S1x9984.size a ≤ S10000x10000.size a := fun i v263 k0_hw18 k0_h1 => k0_hw18 k0_h1

def k0_off55 (i : grid0.Coords) (k0_t1 : Fin k0_t1_loop.trips) : Fin 2 → Nat :=
  let arg0 : BitVec 32 := BitVec.ofNat 32 (i 0).val
  let v271 : Index := Scalar.indexCast arg0
  let c0_i32_130 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c18_i32 : BitVec 32 := 18#32
  let v269 : BitVec 32 := Scalar.addi v88 c18_i32
  let v270 : BitVec 32 := Scalar.addi c0_i32_130 v269
  let v272 : Index := Scalar.indexCast v270
  ![v271.toNat, v272.toNat]
def k0_off56 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c18_i32 : BitVec 32 := 18#32
  let v269 : BitVec 32 := Scalar.addi v88 c18_i32
  let c0_i32_131 : BitVec 32 := 0#32
  let c0_i32_132 : BitVec 32 := 0#32
  ![v269.toNat, 0, 0]
def k0_off57 (v273 : BitVec 32) : Fin 2 → Nat :=
  let c0_i32_133 : BitVec 32 := 0#32
  ![v273.toNat, 0]

def k0_chk19 (i : grid0.Coords) (v273 : BitVec 32) : Prop :=
  (∀ (k0_h1 : k0_cond1 i = 1#1), ∀ a, (k0_off57 v273) a + S1x9984.size a ≤ S10000x10000.size a)
theorem k0_off57_inb : ∀ (i : grid0.Coords) (v273 : BitVec 32) (k0_hw19 : k0_chk19 i v273), ∀ (k0_h1 : k0_cond1 i = 1#1), ∀ a, (k0_off57 v273) a + S1x9984.size a ≤ S10000x10000.size a := fun i v273 k0_hw19 k0_h1 => k0_hw19 k0_h1

def k0_off58 (i : grid0.Coords) (k0_t1 : Fin k0_t1_loop.trips) : Fin 2 → Nat :=
  let arg0 : BitVec 32 := BitVec.ofNat 32 (i 0).val
  let v281 : Index := Scalar.indexCast arg0
  let c0_i32_134 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c19_i32 : BitVec 32 := 19#32
  let v279 : BitVec 32 := Scalar.addi v88 c19_i32
  let v280 : BitVec 32 := Scalar.addi c0_i32_134 v279
  let v282 : Index := Scalar.indexCast v280
  ![v281.toNat, v282.toNat]
def k0_off59 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c19_i32 : BitVec 32 := 19#32
  let v279 : BitVec 32 := Scalar.addi v88 c19_i32
  let c0_i32_135 : BitVec 32 := 0#32
  let c0_i32_136 : BitVec 32 := 0#32
  ![v279.toNat, 0, 0]
def k0_off60 (v283 : BitVec 32) : Fin 2 → Nat :=
  let c0_i32_137 : BitVec 32 := 0#32
  ![v283.toNat, 0]

def k0_chk20 (i : grid0.Coords) (v283 : BitVec 32) : Prop :=
  (∀ (k0_h1 : k0_cond1 i = 1#1), ∀ a, (k0_off60 v283) a + S1x9984.size a ≤ S10000x10000.size a)
theorem k0_off60_inb : ∀ (i : grid0.Coords) (v283 : BitVec 32) (k0_hw20 : k0_chk20 i v283), ∀ (k0_h1 : k0_cond1 i = 1#1), ∀ a, (k0_off60 v283) a + S1x9984.size a ≤ S10000x10000.size a := fun i v283 k0_hw20 k0_h1 => k0_hw20 k0_h1

def k0_off61 (i : grid0.Coords) (k0_t1 : Fin k0_t1_loop.trips) : Fin 2 → Nat :=
  let arg0 : BitVec 32 := BitVec.ofNat 32 (i 0).val
  let v291 : Index := Scalar.indexCast arg0
  let c0_i32_138 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c20_i32 : BitVec 32 := 20#32
  let v289 : BitVec 32 := Scalar.addi v88 c20_i32
  let v290 : BitVec 32 := Scalar.addi c0_i32_138 v289
  let v292 : Index := Scalar.indexCast v290
  ![v291.toNat, v292.toNat]
def k0_off62 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c20_i32 : BitVec 32 := 20#32
  let v289 : BitVec 32 := Scalar.addi v88 c20_i32
  let c0_i32_139 : BitVec 32 := 0#32
  let c0_i32_140 : BitVec 32 := 0#32
  ![v289.toNat, 0, 0]
def k0_off63 (v293 : BitVec 32) : Fin 2 → Nat :=
  let c0_i32_141 : BitVec 32 := 0#32
  ![v293.toNat, 0]

def k0_chk21 (i : grid0.Coords) (v293 : BitVec 32) : Prop :=
  (∀ (k0_h1 : k0_cond1 i = 1#1), ∀ a, (k0_off63 v293) a + S1x9984.size a ≤ S10000x10000.size a)
theorem k0_off63_inb : ∀ (i : grid0.Coords) (v293 : BitVec 32) (k0_hw21 : k0_chk21 i v293), ∀ (k0_h1 : k0_cond1 i = 1#1), ∀ a, (k0_off63 v293) a + S1x9984.size a ≤ S10000x10000.size a := fun i v293 k0_hw21 k0_h1 => k0_hw21 k0_h1

def k0_off64 (i : grid0.Coords) (k0_t1 : Fin k0_t1_loop.trips) : Fin 2 → Nat :=
  let arg0 : BitVec 32 := BitVec.ofNat 32 (i 0).val
  let v301 : Index := Scalar.indexCast arg0
  let c0_i32_142 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c21_i32 : BitVec 32 := 21#32
  let v299 : BitVec 32 := Scalar.addi v88 c21_i32
  let v300 : BitVec 32 := Scalar.addi c0_i32_142 v299
  let v302 : Index := Scalar.indexCast v300
  ![v301.toNat, v302.toNat]
def k0_off65 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c21_i32 : BitVec 32 := 21#32
  let v299 : BitVec 32 := Scalar.addi v88 c21_i32
  let c0_i32_143 : BitVec 32 := 0#32
  let c0_i32_144 : BitVec 32 := 0#32
  ![v299.toNat, 0, 0]
def k0_off66 (v303 : BitVec 32) : Fin 2 → Nat :=
  let c0_i32_145 : BitVec 32 := 0#32
  ![v303.toNat, 0]

def k0_chk22 (i : grid0.Coords) (v303 : BitVec 32) : Prop :=
  (∀ (k0_h1 : k0_cond1 i = 1#1), ∀ a, (k0_off66 v303) a + S1x9984.size a ≤ S10000x10000.size a)
theorem k0_off66_inb : ∀ (i : grid0.Coords) (v303 : BitVec 32) (k0_hw22 : k0_chk22 i v303), ∀ (k0_h1 : k0_cond1 i = 1#1), ∀ a, (k0_off66 v303) a + S1x9984.size a ≤ S10000x10000.size a := fun i v303 k0_hw22 k0_h1 => k0_hw22 k0_h1

def k0_off67 (i : grid0.Coords) (k0_t1 : Fin k0_t1_loop.trips) : Fin 2 → Nat :=
  let arg0 : BitVec 32 := BitVec.ofNat 32 (i 0).val
  let v311 : Index := Scalar.indexCast arg0
  let c0_i32_146 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c22_i32 : BitVec 32 := 22#32
  let v309 : BitVec 32 := Scalar.addi v88 c22_i32
  let v310 : BitVec 32 := Scalar.addi c0_i32_146 v309
  let v312 : Index := Scalar.indexCast v310
  ![v311.toNat, v312.toNat]
def k0_off68 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c22_i32 : BitVec 32 := 22#32
  let v309 : BitVec 32 := Scalar.addi v88 c22_i32
  let c0_i32_147 : BitVec 32 := 0#32
  let c0_i32_148 : BitVec 32 := 0#32
  ![v309.toNat, 0, 0]
def k0_off69 (v313 : BitVec 32) : Fin 2 → Nat :=
  let c0_i32_149 : BitVec 32 := 0#32
  ![v313.toNat, 0]

def k0_chk23 (i : grid0.Coords) (v313 : BitVec 32) : Prop :=
  (∀ (k0_h1 : k0_cond1 i = 1#1), ∀ a, (k0_off69 v313) a + S1x9984.size a ≤ S10000x10000.size a)
theorem k0_off69_inb : ∀ (i : grid0.Coords) (v313 : BitVec 32) (k0_hw23 : k0_chk23 i v313), ∀ (k0_h1 : k0_cond1 i = 1#1), ∀ a, (k0_off69 v313) a + S1x9984.size a ≤ S10000x10000.size a := fun i v313 k0_hw23 k0_h1 => k0_hw23 k0_h1

def k0_off70 (i : grid0.Coords) (k0_t1 : Fin k0_t1_loop.trips) : Fin 2 → Nat :=
  let arg0 : BitVec 32 := BitVec.ofNat 32 (i 0).val
  let v321 : Index := Scalar.indexCast arg0
  let c0_i32_150 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c23_i32 : BitVec 32 := 23#32
  let v319 : BitVec 32 := Scalar.addi v88 c23_i32
  let v320 : BitVec 32 := Scalar.addi c0_i32_150 v319
  let v322 : Index := Scalar.indexCast v320
  ![v321.toNat, v322.toNat]
def k0_off71 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c23_i32 : BitVec 32 := 23#32
  let v319 : BitVec 32 := Scalar.addi v88 c23_i32
  let c0_i32_151 : BitVec 32 := 0#32
  let c0_i32_152 : BitVec 32 := 0#32
  ![v319.toNat, 0, 0]
def k0_off72 (v323 : BitVec 32) : Fin 2 → Nat :=
  let c0_i32_153 : BitVec 32 := 0#32
  ![v323.toNat, 0]

def k0_chk24 (i : grid0.Coords) (v323 : BitVec 32) : Prop :=
  (∀ (k0_h1 : k0_cond1 i = 1#1), ∀ a, (k0_off72 v323) a + S1x9984.size a ≤ S10000x10000.size a)
theorem k0_off72_inb : ∀ (i : grid0.Coords) (v323 : BitVec 32) (k0_hw24 : k0_chk24 i v323), ∀ (k0_h1 : k0_cond1 i = 1#1), ∀ a, (k0_off72 v323) a + S1x9984.size a ≤ S10000x10000.size a := fun i v323 k0_hw24 k0_h1 => k0_hw24 k0_h1

def k0_off73 (i : grid0.Coords) (k0_t1 : Fin k0_t1_loop.trips) : Fin 2 → Nat :=
  let arg0 : BitVec 32 := BitVec.ofNat 32 (i 0).val
  let v331 : Index := Scalar.indexCast arg0
  let c0_i32_154 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c24_i32 : BitVec 32 := 24#32
  let v329 : BitVec 32 := Scalar.addi v88 c24_i32
  let v330 : BitVec 32 := Scalar.addi c0_i32_154 v329
  let v332 : Index := Scalar.indexCast v330
  ![v331.toNat, v332.toNat]
def k0_off74 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c24_i32 : BitVec 32 := 24#32
  let v329 : BitVec 32 := Scalar.addi v88 c24_i32
  let c0_i32_155 : BitVec 32 := 0#32
  let c0_i32_156 : BitVec 32 := 0#32
  ![v329.toNat, 0, 0]
def k0_off75 (v333 : BitVec 32) : Fin 2 → Nat :=
  let c0_i32_157 : BitVec 32 := 0#32
  ![v333.toNat, 0]

def k0_chk25 (i : grid0.Coords) (v333 : BitVec 32) : Prop :=
  (∀ (k0_h1 : k0_cond1 i = 1#1), ∀ a, (k0_off75 v333) a + S1x9984.size a ≤ S10000x10000.size a)
theorem k0_off75_inb : ∀ (i : grid0.Coords) (v333 : BitVec 32) (k0_hw25 : k0_chk25 i v333), ∀ (k0_h1 : k0_cond1 i = 1#1), ∀ a, (k0_off75 v333) a + S1x9984.size a ≤ S10000x10000.size a := fun i v333 k0_hw25 k0_h1 => k0_hw25 k0_h1

def k0_off76 (i : grid0.Coords) (k0_t1 : Fin k0_t1_loop.trips) : Fin 2 → Nat :=
  let arg0 : BitVec 32 := BitVec.ofNat 32 (i 0).val
  let v341 : Index := Scalar.indexCast arg0
  let c0_i32_158 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c25_i32 : BitVec 32 := 25#32
  let v339 : BitVec 32 := Scalar.addi v88 c25_i32
  let v340 : BitVec 32 := Scalar.addi c0_i32_158 v339
  let v342 : Index := Scalar.indexCast v340
  ![v341.toNat, v342.toNat]
def k0_off77 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c25_i32 : BitVec 32 := 25#32
  let v339 : BitVec 32 := Scalar.addi v88 c25_i32
  let c0_i32_159 : BitVec 32 := 0#32
  let c0_i32_160 : BitVec 32 := 0#32
  ![v339.toNat, 0, 0]
def k0_off78 (v343 : BitVec 32) : Fin 2 → Nat :=
  let c0_i32_161 : BitVec 32 := 0#32
  ![v343.toNat, 0]

def k0_chk26 (i : grid0.Coords) (v343 : BitVec 32) : Prop :=
  (∀ (k0_h1 : k0_cond1 i = 1#1), ∀ a, (k0_off78 v343) a + S1x9984.size a ≤ S10000x10000.size a)
theorem k0_off78_inb : ∀ (i : grid0.Coords) (v343 : BitVec 32) (k0_hw26 : k0_chk26 i v343), ∀ (k0_h1 : k0_cond1 i = 1#1), ∀ a, (k0_off78 v343) a + S1x9984.size a ≤ S10000x10000.size a := fun i v343 k0_hw26 k0_h1 => k0_hw26 k0_h1

def k0_off79 (i : grid0.Coords) (k0_t1 : Fin k0_t1_loop.trips) : Fin 2 → Nat :=
  let arg0 : BitVec 32 := BitVec.ofNat 32 (i 0).val
  let v351 : Index := Scalar.indexCast arg0
  let c0_i32_162 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c26_i32 : BitVec 32 := 26#32
  let v349 : BitVec 32 := Scalar.addi v88 c26_i32
  let v350 : BitVec 32 := Scalar.addi c0_i32_162 v349
  let v352 : Index := Scalar.indexCast v350
  ![v351.toNat, v352.toNat]
def k0_off80 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c26_i32 : BitVec 32 := 26#32
  let v349 : BitVec 32 := Scalar.addi v88 c26_i32
  let c0_i32_163 : BitVec 32 := 0#32
  let c0_i32_164 : BitVec 32 := 0#32
  ![v349.toNat, 0, 0]
def k0_off81 (v353 : BitVec 32) : Fin 2 → Nat :=
  let c0_i32_165 : BitVec 32 := 0#32
  ![v353.toNat, 0]

def k0_chk27 (i : grid0.Coords) (v353 : BitVec 32) : Prop :=
  (∀ (k0_h1 : k0_cond1 i = 1#1), ∀ a, (k0_off81 v353) a + S1x9984.size a ≤ S10000x10000.size a)
theorem k0_off81_inb : ∀ (i : grid0.Coords) (v353 : BitVec 32) (k0_hw27 : k0_chk27 i v353), ∀ (k0_h1 : k0_cond1 i = 1#1), ∀ a, (k0_off81 v353) a + S1x9984.size a ≤ S10000x10000.size a := fun i v353 k0_hw27 k0_h1 => k0_hw27 k0_h1

def k0_off82 (i : grid0.Coords) (k0_t1 : Fin k0_t1_loop.trips) : Fin 2 → Nat :=
  let arg0 : BitVec 32 := BitVec.ofNat 32 (i 0).val
  let v361 : Index := Scalar.indexCast arg0
  let c0_i32_166 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c27_i32 : BitVec 32 := 27#32
  let v359 : BitVec 32 := Scalar.addi v88 c27_i32
  let v360 : BitVec 32 := Scalar.addi c0_i32_166 v359
  let v362 : Index := Scalar.indexCast v360
  ![v361.toNat, v362.toNat]
def k0_off83 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c27_i32 : BitVec 32 := 27#32
  let v359 : BitVec 32 := Scalar.addi v88 c27_i32
  let c0_i32_167 : BitVec 32 := 0#32
  let c0_i32_168 : BitVec 32 := 0#32
  ![v359.toNat, 0, 0]
def k0_off84 (v363 : BitVec 32) : Fin 2 → Nat :=
  let c0_i32_169 : BitVec 32 := 0#32
  ![v363.toNat, 0]

def k0_chk28 (i : grid0.Coords) (v363 : BitVec 32) : Prop :=
  (∀ (k0_h1 : k0_cond1 i = 1#1), ∀ a, (k0_off84 v363) a + S1x9984.size a ≤ S10000x10000.size a)
theorem k0_off84_inb : ∀ (i : grid0.Coords) (v363 : BitVec 32) (k0_hw28 : k0_chk28 i v363), ∀ (k0_h1 : k0_cond1 i = 1#1), ∀ a, (k0_off84 v363) a + S1x9984.size a ≤ S10000x10000.size a := fun i v363 k0_hw28 k0_h1 => k0_hw28 k0_h1

def k0_off85 (i : grid0.Coords) (k0_t1 : Fin k0_t1_loop.trips) : Fin 2 → Nat :=
  let arg0 : BitVec 32 := BitVec.ofNat 32 (i 0).val
  let v371 : Index := Scalar.indexCast arg0
  let c0_i32_170 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c28_i32 : BitVec 32 := 28#32
  let v369 : BitVec 32 := Scalar.addi v88 c28_i32
  let v370 : BitVec 32 := Scalar.addi c0_i32_170 v369
  let v372 : Index := Scalar.indexCast v370
  ![v371.toNat, v372.toNat]
def k0_off86 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c28_i32 : BitVec 32 := 28#32
  let v369 : BitVec 32 := Scalar.addi v88 c28_i32
  let c0_i32_171 : BitVec 32 := 0#32
  let c0_i32_172 : BitVec 32 := 0#32
  ![v369.toNat, 0, 0]
def k0_off87 (v373 : BitVec 32) : Fin 2 → Nat :=
  let c0_i32_173 : BitVec 32 := 0#32
  ![v373.toNat, 0]

def k0_chk29 (i : grid0.Coords) (v373 : BitVec 32) : Prop :=
  (∀ (k0_h1 : k0_cond1 i = 1#1), ∀ a, (k0_off87 v373) a + S1x9984.size a ≤ S10000x10000.size a)
theorem k0_off87_inb : ∀ (i : grid0.Coords) (v373 : BitVec 32) (k0_hw29 : k0_chk29 i v373), ∀ (k0_h1 : k0_cond1 i = 1#1), ∀ a, (k0_off87 v373) a + S1x9984.size a ≤ S10000x10000.size a := fun i v373 k0_hw29 k0_h1 => k0_hw29 k0_h1

def k0_off88 (i : grid0.Coords) (k0_t1 : Fin k0_t1_loop.trips) : Fin 2 → Nat :=
  let arg0 : BitVec 32 := BitVec.ofNat 32 (i 0).val
  let v381 : Index := Scalar.indexCast arg0
  let c0_i32_174 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c29_i32 : BitVec 32 := 29#32
  let v379 : BitVec 32 := Scalar.addi v88 c29_i32
  let v380 : BitVec 32 := Scalar.addi c0_i32_174 v379
  let v382 : Index := Scalar.indexCast v380
  ![v381.toNat, v382.toNat]
def k0_off89 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c29_i32 : BitVec 32 := 29#32
  let v379 : BitVec 32 := Scalar.addi v88 c29_i32
  let c0_i32_175 : BitVec 32 := 0#32
  let c0_i32_176 : BitVec 32 := 0#32
  ![v379.toNat, 0, 0]
def k0_off90 (v383 : BitVec 32) : Fin 2 → Nat :=
  let c0_i32_177 : BitVec 32 := 0#32
  ![v383.toNat, 0]

def k0_chk30 (i : grid0.Coords) (v383 : BitVec 32) : Prop :=
  (∀ (k0_h1 : k0_cond1 i = 1#1), ∀ a, (k0_off90 v383) a + S1x9984.size a ≤ S10000x10000.size a)
theorem k0_off90_inb : ∀ (i : grid0.Coords) (v383 : BitVec 32) (k0_hw30 : k0_chk30 i v383), ∀ (k0_h1 : k0_cond1 i = 1#1), ∀ a, (k0_off90 v383) a + S1x9984.size a ≤ S10000x10000.size a := fun i v383 k0_hw30 k0_h1 => k0_hw30 k0_h1

def k0_off91 (i : grid0.Coords) (k0_t1 : Fin k0_t1_loop.trips) : Fin 2 → Nat :=
  let arg0 : BitVec 32 := BitVec.ofNat 32 (i 0).val
  let v391 : Index := Scalar.indexCast arg0
  let c0_i32_178 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c30_i32 : BitVec 32 := 30#32
  let v389 : BitVec 32 := Scalar.addi v88 c30_i32
  let v390 : BitVec 32 := Scalar.addi c0_i32_178 v389
  let v392 : Index := Scalar.indexCast v390
  ![v391.toNat, v392.toNat]
def k0_off92 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c30_i32 : BitVec 32 := 30#32
  let v389 : BitVec 32 := Scalar.addi v88 c30_i32
  let c0_i32_179 : BitVec 32 := 0#32
  let c0_i32_180 : BitVec 32 := 0#32
  ![v389.toNat, 0, 0]
def k0_off93 (v393 : BitVec 32) : Fin 2 → Nat :=
  let c0_i32_181 : BitVec 32 := 0#32
  ![v393.toNat, 0]

def k0_chk31 (i : grid0.Coords) (v393 : BitVec 32) : Prop :=
  (∀ (k0_h1 : k0_cond1 i = 1#1), ∀ a, (k0_off93 v393) a + S1x9984.size a ≤ S10000x10000.size a)
theorem k0_off93_inb : ∀ (i : grid0.Coords) (v393 : BitVec 32) (k0_hw31 : k0_chk31 i v393), ∀ (k0_h1 : k0_cond1 i = 1#1), ∀ a, (k0_off93 v393) a + S1x9984.size a ≤ S10000x10000.size a := fun i v393 k0_hw31 k0_h1 => k0_hw31 k0_h1

def k0_off94 (i : grid0.Coords) (k0_t1 : Fin k0_t1_loop.trips) : Fin 2 → Nat :=
  let arg0 : BitVec 32 := BitVec.ofNat 32 (i 0).val
  let v401 : Index := Scalar.indexCast arg0
  let c0_i32_182 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c31_i32 : BitVec 32 := 31#32
  let v399 : BitVec 32 := Scalar.addi v88 c31_i32
  let v400 : BitVec 32 := Scalar.addi c0_i32_182 v399
  let v402 : Index := Scalar.indexCast v400
  ![v401.toNat, v402.toNat]
def k0_off95 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c31_i32 : BitVec 32 := 31#32
  let v399 : BitVec 32 := Scalar.addi v88 c31_i32
  let c0_i32_183 : BitVec 32 := 0#32
  let c0_i32_184 : BitVec 32 := 0#32
  ![v399.toNat, 0, 0]
def k0_off96 (v403 : BitVec 32) : Fin 2 → Nat :=
  let c0_i32_185 : BitVec 32 := 0#32
  ![v403.toNat, 0]

def k0_chk32 (i : grid0.Coords) (v403 : BitVec 32) : Prop :=
  (∀ (k0_h1 : k0_cond1 i = 1#1), ∀ a, (k0_off96 v403) a + S1x9984.size a ≤ S10000x10000.size a)
theorem k0_off96_inb : ∀ (i : grid0.Coords) (v403 : BitVec 32) (k0_hw32 : k0_chk32 i v403), ∀ (k0_h1 : k0_cond1 i = 1#1), ∀ a, (k0_off96 v403) a + S1x9984.size a ≤ S10000x10000.size a := fun i v403 k0_hw32 k0_h1 => k0_hw32 k0_h1

def k0_off97 (i : grid0.Coords) (k0_t1 : Fin k0_t1_loop.trips) : Fin 2 → Nat :=
  let arg0 : BitVec 32 := BitVec.ofNat 32 (i 0).val
  let v411 : Index := Scalar.indexCast arg0
  let c0_i32_187 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c32_i32_186 : BitVec 32 := 32#32
  let v409 : BitVec 32 := Scalar.addi v88 c32_i32_186
  let v410 : BitVec 32 := Scalar.addi c0_i32_187 v409
  let v412 : Index := Scalar.indexCast v410
  ![v411.toNat, v412.toNat]
def k0_off98 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c32_i32_186 : BitVec 32 := 32#32
  let v409 : BitVec 32 := Scalar.addi v88 c32_i32_186
  let c0_i32_188 : BitVec 32 := 0#32
  let c0_i32_189 : BitVec 32 := 0#32
  ![v409.toNat, 0, 0]
def k0_off99 (v413 : BitVec 32) : Fin 2 → Nat :=
  let c0_i32_190 : BitVec 32 := 0#32
  ![v413.toNat, 0]

def k0_chk33 (i : grid0.Coords) (v413 : BitVec 32) : Prop :=
  (∀ (k0_h1 : k0_cond1 i = 1#1), ∀ a, (k0_off99 v413) a + S1x9984.size a ≤ S10000x10000.size a)
theorem k0_off99_inb : ∀ (i : grid0.Coords) (v413 : BitVec 32) (k0_hw33 : k0_chk33 i v413), ∀ (k0_h1 : k0_cond1 i = 1#1), ∀ a, (k0_off99 v413) a + S1x9984.size a ≤ S10000x10000.size a := fun i v413 k0_hw33 k0_h1 => k0_hw33 k0_h1

def k0_off100 (i : grid0.Coords) (k0_t1 : Fin k0_t1_loop.trips) : Fin 2 → Nat :=
  let arg0 : BitVec 32 := BitVec.ofNat 32 (i 0).val
  let v421 : Index := Scalar.indexCast arg0
  let c0_i32_191 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c33_i32 : BitVec 32 := 33#32
  let v419 : BitVec 32 := Scalar.addi v88 c33_i32
  let v420 : BitVec 32 := Scalar.addi c0_i32_191 v419
  let v422 : Index := Scalar.indexCast v420
  ![v421.toNat, v422.toNat]
def k0_off101 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c33_i32 : BitVec 32 := 33#32
  let v419 : BitVec 32 := Scalar.addi v88 c33_i32
  let c0_i32_192 : BitVec 32 := 0#32
  let c0_i32_193 : BitVec 32 := 0#32
  ![v419.toNat, 0, 0]
def k0_off102 (v423 : BitVec 32) : Fin 2 → Nat :=
  let c0_i32_194 : BitVec 32 := 0#32
  ![v423.toNat, 0]

def k0_chk34 (i : grid0.Coords) (v423 : BitVec 32) : Prop :=
  (∀ (k0_h1 : k0_cond1 i = 1#1), ∀ a, (k0_off102 v423) a + S1x9984.size a ≤ S10000x10000.size a)
theorem k0_off102_inb : ∀ (i : grid0.Coords) (v423 : BitVec 32) (k0_hw34 : k0_chk34 i v423), ∀ (k0_h1 : k0_cond1 i = 1#1), ∀ a, (k0_off102 v423) a + S1x9984.size a ≤ S10000x10000.size a := fun i v423 k0_hw34 k0_h1 => k0_hw34 k0_h1

def k0_off103 (i : grid0.Coords) (k0_t1 : Fin k0_t1_loop.trips) : Fin 2 → Nat :=
  let arg0 : BitVec 32 := BitVec.ofNat 32 (i 0).val
  let v431 : Index := Scalar.indexCast arg0
  let c0_i32_195 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c34_i32 : BitVec 32 := 34#32
  let v429 : BitVec 32 := Scalar.addi v88 c34_i32
  let v430 : BitVec 32 := Scalar.addi c0_i32_195 v429
  let v432 : Index := Scalar.indexCast v430
  ![v431.toNat, v432.toNat]
def k0_off104 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c34_i32 : BitVec 32 := 34#32
  let v429 : BitVec 32 := Scalar.addi v88 c34_i32
  let c0_i32_196 : BitVec 32 := 0#32
  let c0_i32_197 : BitVec 32 := 0#32
  ![v429.toNat, 0, 0]
def k0_off105 (v433 : BitVec 32) : Fin 2 → Nat :=
  let c0_i32_198 : BitVec 32 := 0#32
  ![v433.toNat, 0]

def k0_chk35 (i : grid0.Coords) (v433 : BitVec 32) : Prop :=
  (∀ (k0_h1 : k0_cond1 i = 1#1), ∀ a, (k0_off105 v433) a + S1x9984.size a ≤ S10000x10000.size a)
theorem k0_off105_inb : ∀ (i : grid0.Coords) (v433 : BitVec 32) (k0_hw35 : k0_chk35 i v433), ∀ (k0_h1 : k0_cond1 i = 1#1), ∀ a, (k0_off105 v433) a + S1x9984.size a ≤ S10000x10000.size a := fun i v433 k0_hw35 k0_h1 => k0_hw35 k0_h1

def k0_off106 (i : grid0.Coords) (k0_t1 : Fin k0_t1_loop.trips) : Fin 2 → Nat :=
  let arg0 : BitVec 32 := BitVec.ofNat 32 (i 0).val
  let v441 : Index := Scalar.indexCast arg0
  let c0_i32_199 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c35_i32 : BitVec 32 := 35#32
  let v439 : BitVec 32 := Scalar.addi v88 c35_i32
  let v440 : BitVec 32 := Scalar.addi c0_i32_199 v439
  let v442 : Index := Scalar.indexCast v440
  ![v441.toNat, v442.toNat]
def k0_off107 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c35_i32 : BitVec 32 := 35#32
  let v439 : BitVec 32 := Scalar.addi v88 c35_i32
  let c0_i32_200 : BitVec 32 := 0#32
  let c0_i32_201 : BitVec 32 := 0#32
  ![v439.toNat, 0, 0]
def k0_off108 (v443 : BitVec 32) : Fin 2 → Nat :=
  let c0_i32_202 : BitVec 32 := 0#32
  ![v443.toNat, 0]

def k0_chk36 (i : grid0.Coords) (v443 : BitVec 32) : Prop :=
  (∀ (k0_h1 : k0_cond1 i = 1#1), ∀ a, (k0_off108 v443) a + S1x9984.size a ≤ S10000x10000.size a)
theorem k0_off108_inb : ∀ (i : grid0.Coords) (v443 : BitVec 32) (k0_hw36 : k0_chk36 i v443), ∀ (k0_h1 : k0_cond1 i = 1#1), ∀ a, (k0_off108 v443) a + S1x9984.size a ≤ S10000x10000.size a := fun i v443 k0_hw36 k0_h1 => k0_hw36 k0_h1

def k0_off109 (i : grid0.Coords) (k0_t1 : Fin k0_t1_loop.trips) : Fin 2 → Nat :=
  let arg0 : BitVec 32 := BitVec.ofNat 32 (i 0).val
  let v451 : Index := Scalar.indexCast arg0
  let c0_i32_203 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c36_i32 : BitVec 32 := 36#32
  let v449 : BitVec 32 := Scalar.addi v88 c36_i32
  let v450 : BitVec 32 := Scalar.addi c0_i32_203 v449
  let v452 : Index := Scalar.indexCast v450
  ![v451.toNat, v452.toNat]
def k0_off110 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c36_i32 : BitVec 32 := 36#32
  let v449 : BitVec 32 := Scalar.addi v88 c36_i32
  let c0_i32_204 : BitVec 32 := 0#32
  let c0_i32_205 : BitVec 32 := 0#32
  ![v449.toNat, 0, 0]
def k0_off111 (v453 : BitVec 32) : Fin 2 → Nat :=
  let c0_i32_206 : BitVec 32 := 0#32
  ![v453.toNat, 0]

def k0_chk37 (i : grid0.Coords) (v453 : BitVec 32) : Prop :=
  (∀ (k0_h1 : k0_cond1 i = 1#1), ∀ a, (k0_off111 v453) a + S1x9984.size a ≤ S10000x10000.size a)
theorem k0_off111_inb : ∀ (i : grid0.Coords) (v453 : BitVec 32) (k0_hw37 : k0_chk37 i v453), ∀ (k0_h1 : k0_cond1 i = 1#1), ∀ a, (k0_off111 v453) a + S1x9984.size a ≤ S10000x10000.size a := fun i v453 k0_hw37 k0_h1 => k0_hw37 k0_h1

def k0_off112 (i : grid0.Coords) (k0_t1 : Fin k0_t1_loop.trips) : Fin 2 → Nat :=
  let arg0 : BitVec 32 := BitVec.ofNat 32 (i 0).val
  let v461 : Index := Scalar.indexCast arg0
  let c0_i32_207 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c37_i32 : BitVec 32 := 37#32
  let v459 : BitVec 32 := Scalar.addi v88 c37_i32
  let v460 : BitVec 32 := Scalar.addi c0_i32_207 v459
  let v462 : Index := Scalar.indexCast v460
  ![v461.toNat, v462.toNat]
def k0_off113 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c37_i32 : BitVec 32 := 37#32
  let v459 : BitVec 32 := Scalar.addi v88 c37_i32
  let c0_i32_208 : BitVec 32 := 0#32
  let c0_i32_209 : BitVec 32 := 0#32
  ![v459.toNat, 0, 0]
def k0_off114 (v463 : BitVec 32) : Fin 2 → Nat :=
  let c0_i32_210 : BitVec 32 := 0#32
  ![v463.toNat, 0]

def k0_chk38 (i : grid0.Coords) (v463 : BitVec 32) : Prop :=
  (∀ (k0_h1 : k0_cond1 i = 1#1), ∀ a, (k0_off114 v463) a + S1x9984.size a ≤ S10000x10000.size a)
theorem k0_off114_inb : ∀ (i : grid0.Coords) (v463 : BitVec 32) (k0_hw38 : k0_chk38 i v463), ∀ (k0_h1 : k0_cond1 i = 1#1), ∀ a, (k0_off114 v463) a + S1x9984.size a ≤ S10000x10000.size a := fun i v463 k0_hw38 k0_h1 => k0_hw38 k0_h1

def k0_off115 (i : grid0.Coords) (k0_t1 : Fin k0_t1_loop.trips) : Fin 2 → Nat :=
  let arg0 : BitVec 32 := BitVec.ofNat 32 (i 0).val
  let v471 : Index := Scalar.indexCast arg0
  let c0_i32_211 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c38_i32 : BitVec 32 := 38#32
  let v469 : BitVec 32 := Scalar.addi v88 c38_i32
  let v470 : BitVec 32 := Scalar.addi c0_i32_211 v469
  let v472 : Index := Scalar.indexCast v470
  ![v471.toNat, v472.toNat]
def k0_off116 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c38_i32 : BitVec 32 := 38#32
  let v469 : BitVec 32 := Scalar.addi v88 c38_i32
  let c0_i32_212 : BitVec 32 := 0#32
  let c0_i32_213 : BitVec 32 := 0#32
  ![v469.toNat, 0, 0]
def k0_off117 (v473 : BitVec 32) : Fin 2 → Nat :=
  let c0_i32_214 : BitVec 32 := 0#32
  ![v473.toNat, 0]

def k0_chk39 (i : grid0.Coords) (v473 : BitVec 32) : Prop :=
  (∀ (k0_h1 : k0_cond1 i = 1#1), ∀ a, (k0_off117 v473) a + S1x9984.size a ≤ S10000x10000.size a)
theorem k0_off117_inb : ∀ (i : grid0.Coords) (v473 : BitVec 32) (k0_hw39 : k0_chk39 i v473), ∀ (k0_h1 : k0_cond1 i = 1#1), ∀ a, (k0_off117 v473) a + S1x9984.size a ≤ S10000x10000.size a := fun i v473 k0_hw39 k0_h1 => k0_hw39 k0_h1

def k0_off118 (i : grid0.Coords) (k0_t1 : Fin k0_t1_loop.trips) : Fin 2 → Nat :=
  let arg0 : BitVec 32 := BitVec.ofNat 32 (i 0).val
  let v481 : Index := Scalar.indexCast arg0
  let c0_i32_215 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c39_i32 : BitVec 32 := 39#32
  let v479 : BitVec 32 := Scalar.addi v88 c39_i32
  let v480 : BitVec 32 := Scalar.addi c0_i32_215 v479
  let v482 : Index := Scalar.indexCast v480
  ![v481.toNat, v482.toNat]
def k0_off119 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c39_i32 : BitVec 32 := 39#32
  let v479 : BitVec 32 := Scalar.addi v88 c39_i32
  let c0_i32_216 : BitVec 32 := 0#32
  let c0_i32_217 : BitVec 32 := 0#32
  ![v479.toNat, 0, 0]
def k0_off120 (v483 : BitVec 32) : Fin 2 → Nat :=
  let c0_i32_218 : BitVec 32 := 0#32
  ![v483.toNat, 0]

def k0_chk40 (i : grid0.Coords) (v483 : BitVec 32) : Prop :=
  (∀ (k0_h1 : k0_cond1 i = 1#1), ∀ a, (k0_off120 v483) a + S1x9984.size a ≤ S10000x10000.size a)
theorem k0_off120_inb : ∀ (i : grid0.Coords) (v483 : BitVec 32) (k0_hw40 : k0_chk40 i v483), ∀ (k0_h1 : k0_cond1 i = 1#1), ∀ a, (k0_off120 v483) a + S1x9984.size a ≤ S10000x10000.size a := fun i v483 k0_hw40 k0_h1 => k0_hw40 k0_h1

def k0_off121 (i : grid0.Coords) (k0_t1 : Fin k0_t1_loop.trips) : Fin 2 → Nat :=
  let arg0 : BitVec 32 := BitVec.ofNat 32 (i 0).val
  let v491 : Index := Scalar.indexCast arg0
  let c0_i32_219 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c40_i32 : BitVec 32 := 40#32
  let v489 : BitVec 32 := Scalar.addi v88 c40_i32
  let v490 : BitVec 32 := Scalar.addi c0_i32_219 v489
  let v492 : Index := Scalar.indexCast v490
  ![v491.toNat, v492.toNat]
def k0_off122 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c40_i32 : BitVec 32 := 40#32
  let v489 : BitVec 32 := Scalar.addi v88 c40_i32
  let c0_i32_220 : BitVec 32 := 0#32
  let c0_i32_221 : BitVec 32 := 0#32
  ![v489.toNat, 0, 0]
def k0_off123 (v493 : BitVec 32) : Fin 2 → Nat :=
  let c0_i32_222 : BitVec 32 := 0#32
  ![v493.toNat, 0]

def k0_chk41 (i : grid0.Coords) (v493 : BitVec 32) : Prop :=
  (∀ (k0_h1 : k0_cond1 i = 1#1), ∀ a, (k0_off123 v493) a + S1x9984.size a ≤ S10000x10000.size a)
theorem k0_off123_inb : ∀ (i : grid0.Coords) (v493 : BitVec 32) (k0_hw41 : k0_chk41 i v493), ∀ (k0_h1 : k0_cond1 i = 1#1), ∀ a, (k0_off123 v493) a + S1x9984.size a ≤ S10000x10000.size a := fun i v493 k0_hw41 k0_h1 => k0_hw41 k0_h1

def k0_off124 (i : grid0.Coords) (k0_t1 : Fin k0_t1_loop.trips) : Fin 2 → Nat :=
  let arg0 : BitVec 32 := BitVec.ofNat 32 (i 0).val
  let v501 : Index := Scalar.indexCast arg0
  let c0_i32_223 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c41_i32 : BitVec 32 := 41#32
  let v499 : BitVec 32 := Scalar.addi v88 c41_i32
  let v500 : BitVec 32 := Scalar.addi c0_i32_223 v499
  let v502 : Index := Scalar.indexCast v500
  ![v501.toNat, v502.toNat]
def k0_off125 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c41_i32 : BitVec 32 := 41#32
  let v499 : BitVec 32 := Scalar.addi v88 c41_i32
  let c0_i32_224 : BitVec 32 := 0#32
  let c0_i32_225 : BitVec 32 := 0#32
  ![v499.toNat, 0, 0]
def k0_off126 (v503 : BitVec 32) : Fin 2 → Nat :=
  let c0_i32_226 : BitVec 32 := 0#32
  ![v503.toNat, 0]

def k0_chk42 (i : grid0.Coords) (v503 : BitVec 32) : Prop :=
  (∀ (k0_h1 : k0_cond1 i = 1#1), ∀ a, (k0_off126 v503) a + S1x9984.size a ≤ S10000x10000.size a)
theorem k0_off126_inb : ∀ (i : grid0.Coords) (v503 : BitVec 32) (k0_hw42 : k0_chk42 i v503), ∀ (k0_h1 : k0_cond1 i = 1#1), ∀ a, (k0_off126 v503) a + S1x9984.size a ≤ S10000x10000.size a := fun i v503 k0_hw42 k0_h1 => k0_hw42 k0_h1

def k0_off127 (i : grid0.Coords) (k0_t1 : Fin k0_t1_loop.trips) : Fin 2 → Nat :=
  let arg0 : BitVec 32 := BitVec.ofNat 32 (i 0).val
  let v511 : Index := Scalar.indexCast arg0
  let c0_i32_227 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c42_i32 : BitVec 32 := 42#32
  let v509 : BitVec 32 := Scalar.addi v88 c42_i32
  let v510 : BitVec 32 := Scalar.addi c0_i32_227 v509
  let v512 : Index := Scalar.indexCast v510
  ![v511.toNat, v512.toNat]
def k0_off128 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c42_i32 : BitVec 32 := 42#32
  let v509 : BitVec 32 := Scalar.addi v88 c42_i32
  let c0_i32_228 : BitVec 32 := 0#32
  let c0_i32_229 : BitVec 32 := 0#32
  ![v509.toNat, 0, 0]
def k0_off129 (v513 : BitVec 32) : Fin 2 → Nat :=
  let c0_i32_230 : BitVec 32 := 0#32
  ![v513.toNat, 0]

def k0_chk43 (i : grid0.Coords) (v513 : BitVec 32) : Prop :=
  (∀ (k0_h1 : k0_cond1 i = 1#1), ∀ a, (k0_off129 v513) a + S1x9984.size a ≤ S10000x10000.size a)
theorem k0_off129_inb : ∀ (i : grid0.Coords) (v513 : BitVec 32) (k0_hw43 : k0_chk43 i v513), ∀ (k0_h1 : k0_cond1 i = 1#1), ∀ a, (k0_off129 v513) a + S1x9984.size a ≤ S10000x10000.size a := fun i v513 k0_hw43 k0_h1 => k0_hw43 k0_h1

def k0_off130 (i : grid0.Coords) (k0_t1 : Fin k0_t1_loop.trips) : Fin 2 → Nat :=
  let arg0 : BitVec 32 := BitVec.ofNat 32 (i 0).val
  let v521 : Index := Scalar.indexCast arg0
  let c0_i32_231 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c43_i32 : BitVec 32 := 43#32
  let v519 : BitVec 32 := Scalar.addi v88 c43_i32
  let v520 : BitVec 32 := Scalar.addi c0_i32_231 v519
  let v522 : Index := Scalar.indexCast v520
  ![v521.toNat, v522.toNat]
def k0_off131 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c43_i32 : BitVec 32 := 43#32
  let v519 : BitVec 32 := Scalar.addi v88 c43_i32
  let c0_i32_232 : BitVec 32 := 0#32
  let c0_i32_233 : BitVec 32 := 0#32
  ![v519.toNat, 0, 0]
def k0_off132 (v523 : BitVec 32) : Fin 2 → Nat :=
  let c0_i32_234 : BitVec 32 := 0#32
  ![v523.toNat, 0]

def k0_chk44 (i : grid0.Coords) (v523 : BitVec 32) : Prop :=
  (∀ (k0_h1 : k0_cond1 i = 1#1), ∀ a, (k0_off132 v523) a + S1x9984.size a ≤ S10000x10000.size a)
theorem k0_off132_inb : ∀ (i : grid0.Coords) (v523 : BitVec 32) (k0_hw44 : k0_chk44 i v523), ∀ (k0_h1 : k0_cond1 i = 1#1), ∀ a, (k0_off132 v523) a + S1x9984.size a ≤ S10000x10000.size a := fun i v523 k0_hw44 k0_h1 => k0_hw44 k0_h1

def k0_off133 (i : grid0.Coords) (k0_t1 : Fin k0_t1_loop.trips) : Fin 2 → Nat :=
  let arg0 : BitVec 32 := BitVec.ofNat 32 (i 0).val
  let v531 : Index := Scalar.indexCast arg0
  let c0_i32_235 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c44_i32 : BitVec 32 := 44#32
  let v529 : BitVec 32 := Scalar.addi v88 c44_i32
  let v530 : BitVec 32 := Scalar.addi c0_i32_235 v529
  let v532 : Index := Scalar.indexCast v530
  ![v531.toNat, v532.toNat]
def k0_off134 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c44_i32 : BitVec 32 := 44#32
  let v529 : BitVec 32 := Scalar.addi v88 c44_i32
  let c0_i32_236 : BitVec 32 := 0#32
  let c0_i32_237 : BitVec 32 := 0#32
  ![v529.toNat, 0, 0]
def k0_off135 (v533 : BitVec 32) : Fin 2 → Nat :=
  let c0_i32_238 : BitVec 32 := 0#32
  ![v533.toNat, 0]

def k0_chk45 (i : grid0.Coords) (v533 : BitVec 32) : Prop :=
  (∀ (k0_h1 : k0_cond1 i = 1#1), ∀ a, (k0_off135 v533) a + S1x9984.size a ≤ S10000x10000.size a)
theorem k0_off135_inb : ∀ (i : grid0.Coords) (v533 : BitVec 32) (k0_hw45 : k0_chk45 i v533), ∀ (k0_h1 : k0_cond1 i = 1#1), ∀ a, (k0_off135 v533) a + S1x9984.size a ≤ S10000x10000.size a := fun i v533 k0_hw45 k0_h1 => k0_hw45 k0_h1

def k0_off136 (i : grid0.Coords) (k0_t1 : Fin k0_t1_loop.trips) : Fin 2 → Nat :=
  let arg0 : BitVec 32 := BitVec.ofNat 32 (i 0).val
  let v541 : Index := Scalar.indexCast arg0
  let c0_i32_239 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c45_i32 : BitVec 32 := 45#32
  let v539 : BitVec 32 := Scalar.addi v88 c45_i32
  let v540 : BitVec 32 := Scalar.addi c0_i32_239 v539
  let v542 : Index := Scalar.indexCast v540
  ![v541.toNat, v542.toNat]
def k0_off137 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c45_i32 : BitVec 32 := 45#32
  let v539 : BitVec 32 := Scalar.addi v88 c45_i32
  let c0_i32_240 : BitVec 32 := 0#32
  let c0_i32_241 : BitVec 32 := 0#32
  ![v539.toNat, 0, 0]
def k0_off138 (v543 : BitVec 32) : Fin 2 → Nat :=
  let c0_i32_242 : BitVec 32 := 0#32
  ![v543.toNat, 0]

def k0_chk46 (i : grid0.Coords) (v543 : BitVec 32) : Prop :=
  (∀ (k0_h1 : k0_cond1 i = 1#1), ∀ a, (k0_off138 v543) a + S1x9984.size a ≤ S10000x10000.size a)
theorem k0_off138_inb : ∀ (i : grid0.Coords) (v543 : BitVec 32) (k0_hw46 : k0_chk46 i v543), ∀ (k0_h1 : k0_cond1 i = 1#1), ∀ a, (k0_off138 v543) a + S1x9984.size a ≤ S10000x10000.size a := fun i v543 k0_hw46 k0_h1 => k0_hw46 k0_h1

def k0_off139 (i : grid0.Coords) (k0_t1 : Fin k0_t1_loop.trips) : Fin 2 → Nat :=
  let arg0 : BitVec 32 := BitVec.ofNat 32 (i 0).val
  let v551 : Index := Scalar.indexCast arg0
  let c0_i32_243 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c46_i32 : BitVec 32 := 46#32
  let v549 : BitVec 32 := Scalar.addi v88 c46_i32
  let v550 : BitVec 32 := Scalar.addi c0_i32_243 v549
  let v552 : Index := Scalar.indexCast v550
  ![v551.toNat, v552.toNat]
def k0_off140 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c46_i32 : BitVec 32 := 46#32
  let v549 : BitVec 32 := Scalar.addi v88 c46_i32
  let c0_i32_244 : BitVec 32 := 0#32
  let c0_i32_245 : BitVec 32 := 0#32
  ![v549.toNat, 0, 0]
def k0_off141 (v553 : BitVec 32) : Fin 2 → Nat :=
  let c0_i32_246 : BitVec 32 := 0#32
  ![v553.toNat, 0]

def k0_chk47 (i : grid0.Coords) (v553 : BitVec 32) : Prop :=
  (∀ (k0_h1 : k0_cond1 i = 1#1), ∀ a, (k0_off141 v553) a + S1x9984.size a ≤ S10000x10000.size a)
theorem k0_off141_inb : ∀ (i : grid0.Coords) (v553 : BitVec 32) (k0_hw47 : k0_chk47 i v553), ∀ (k0_h1 : k0_cond1 i = 1#1), ∀ a, (k0_off141 v553) a + S1x9984.size a ≤ S10000x10000.size a := fun i v553 k0_hw47 k0_h1 => k0_hw47 k0_h1

def k0_off142 (i : grid0.Coords) (k0_t1 : Fin k0_t1_loop.trips) : Fin 2 → Nat :=
  let arg0 : BitVec 32 := BitVec.ofNat 32 (i 0).val
  let v561 : Index := Scalar.indexCast arg0
  let c0_i32_247 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c47_i32 : BitVec 32 := 47#32
  let v559 : BitVec 32 := Scalar.addi v88 c47_i32
  let v560 : BitVec 32 := Scalar.addi c0_i32_247 v559
  let v562 : Index := Scalar.indexCast v560
  ![v561.toNat, v562.toNat]
def k0_off143 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c47_i32 : BitVec 32 := 47#32
  let v559 : BitVec 32 := Scalar.addi v88 c47_i32
  let c0_i32_248 : BitVec 32 := 0#32
  let c0_i32_249 : BitVec 32 := 0#32
  ![v559.toNat, 0, 0]
def k0_off144 (v563 : BitVec 32) : Fin 2 → Nat :=
  let c0_i32_250 : BitVec 32 := 0#32
  ![v563.toNat, 0]

def k0_chk48 (i : grid0.Coords) (v563 : BitVec 32) : Prop :=
  (∀ (k0_h1 : k0_cond1 i = 1#1), ∀ a, (k0_off144 v563) a + S1x9984.size a ≤ S10000x10000.size a)
theorem k0_off144_inb : ∀ (i : grid0.Coords) (v563 : BitVec 32) (k0_hw48 : k0_chk48 i v563), ∀ (k0_h1 : k0_cond1 i = 1#1), ∀ a, (k0_off144 v563) a + S1x9984.size a ≤ S10000x10000.size a := fun i v563 k0_hw48 k0_h1 => k0_hw48 k0_h1

def k0_off145 (i : grid0.Coords) (k0_t1 : Fin k0_t1_loop.trips) : Fin 2 → Nat :=
  let arg0 : BitVec 32 := BitVec.ofNat 32 (i 0).val
  let v571 : Index := Scalar.indexCast arg0
  let c0_i32_251 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c48_i32 : BitVec 32 := 48#32
  let v569 : BitVec 32 := Scalar.addi v88 c48_i32
  let v570 : BitVec 32 := Scalar.addi c0_i32_251 v569
  let v572 : Index := Scalar.indexCast v570
  ![v571.toNat, v572.toNat]
def k0_off146 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c48_i32 : BitVec 32 := 48#32
  let v569 : BitVec 32 := Scalar.addi v88 c48_i32
  let c0_i32_252 : BitVec 32 := 0#32
  let c0_i32_253 : BitVec 32 := 0#32
  ![v569.toNat, 0, 0]
def k0_off147 (v573 : BitVec 32) : Fin 2 → Nat :=
  let c0_i32_254 : BitVec 32 := 0#32
  ![v573.toNat, 0]

def k0_chk49 (i : grid0.Coords) (v573 : BitVec 32) : Prop :=
  (∀ (k0_h1 : k0_cond1 i = 1#1), ∀ a, (k0_off147 v573) a + S1x9984.size a ≤ S10000x10000.size a)
theorem k0_off147_inb : ∀ (i : grid0.Coords) (v573 : BitVec 32) (k0_hw49 : k0_chk49 i v573), ∀ (k0_h1 : k0_cond1 i = 1#1), ∀ a, (k0_off147 v573) a + S1x9984.size a ≤ S10000x10000.size a := fun i v573 k0_hw49 k0_h1 => k0_hw49 k0_h1

def k0_off148 (i : grid0.Coords) (k0_t1 : Fin k0_t1_loop.trips) : Fin 2 → Nat :=
  let arg0 : BitVec 32 := BitVec.ofNat 32 (i 0).val
  let v581 : Index := Scalar.indexCast arg0
  let c0_i32_255 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c49_i32 : BitVec 32 := 49#32
  let v579 : BitVec 32 := Scalar.addi v88 c49_i32
  let v580 : BitVec 32 := Scalar.addi c0_i32_255 v579
  let v582 : Index := Scalar.indexCast v580
  ![v581.toNat, v582.toNat]
def k0_off149 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c49_i32 : BitVec 32 := 49#32
  let v579 : BitVec 32 := Scalar.addi v88 c49_i32
  let c0_i32_256 : BitVec 32 := 0#32
  let c0_i32_257 : BitVec 32 := 0#32
  ![v579.toNat, 0, 0]
def k0_off150 (v583 : BitVec 32) : Fin 2 → Nat :=
  let c0_i32_258 : BitVec 32 := 0#32
  ![v583.toNat, 0]

def k0_chk50 (i : grid0.Coords) (v583 : BitVec 32) : Prop :=
  (∀ (k0_h1 : k0_cond1 i = 1#1), ∀ a, (k0_off150 v583) a + S1x9984.size a ≤ S10000x10000.size a)
theorem k0_off150_inb : ∀ (i : grid0.Coords) (v583 : BitVec 32) (k0_hw50 : k0_chk50 i v583), ∀ (k0_h1 : k0_cond1 i = 1#1), ∀ a, (k0_off150 v583) a + S1x9984.size a ≤ S10000x10000.size a := fun i v583 k0_hw50 k0_h1 => k0_hw50 k0_h1

def k0_off151 (i : grid0.Coords) (k0_t1 : Fin k0_t1_loop.trips) : Fin 2 → Nat :=
  let arg0 : BitVec 32 := BitVec.ofNat 32 (i 0).val
  let v591 : Index := Scalar.indexCast arg0
  let c0_i32_259 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c50_i32 : BitVec 32 := 50#32
  let v589 : BitVec 32 := Scalar.addi v88 c50_i32
  let v590 : BitVec 32 := Scalar.addi c0_i32_259 v589
  let v592 : Index := Scalar.indexCast v590
  ![v591.toNat, v592.toNat]
def k0_off152 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c50_i32 : BitVec 32 := 50#32
  let v589 : BitVec 32 := Scalar.addi v88 c50_i32
  let c0_i32_260 : BitVec 32 := 0#32
  let c0_i32_261 : BitVec 32 := 0#32
  ![v589.toNat, 0, 0]
def k0_off153 (v593 : BitVec 32) : Fin 2 → Nat :=
  let c0_i32_262 : BitVec 32 := 0#32
  ![v593.toNat, 0]

def k0_chk51 (i : grid0.Coords) (v593 : BitVec 32) : Prop :=
  (∀ (k0_h1 : k0_cond1 i = 1#1), ∀ a, (k0_off153 v593) a + S1x9984.size a ≤ S10000x10000.size a)
theorem k0_off153_inb : ∀ (i : grid0.Coords) (v593 : BitVec 32) (k0_hw51 : k0_chk51 i v593), ∀ (k0_h1 : k0_cond1 i = 1#1), ∀ a, (k0_off153 v593) a + S1x9984.size a ≤ S10000x10000.size a := fun i v593 k0_hw51 k0_h1 => k0_hw51 k0_h1

def k0_off154 (i : grid0.Coords) (k0_t1 : Fin k0_t1_loop.trips) : Fin 2 → Nat :=
  let arg0 : BitVec 32 := BitVec.ofNat 32 (i 0).val
  let v601 : Index := Scalar.indexCast arg0
  let c0_i32_263 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c51_i32 : BitVec 32 := 51#32
  let v599 : BitVec 32 := Scalar.addi v88 c51_i32
  let v600 : BitVec 32 := Scalar.addi c0_i32_263 v599
  let v602 : Index := Scalar.indexCast v600
  ![v601.toNat, v602.toNat]
def k0_off155 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c51_i32 : BitVec 32 := 51#32
  let v599 : BitVec 32 := Scalar.addi v88 c51_i32
  let c0_i32_264 : BitVec 32 := 0#32
  let c0_i32_265 : BitVec 32 := 0#32
  ![v599.toNat, 0, 0]
def k0_off156 (v603 : BitVec 32) : Fin 2 → Nat :=
  let c0_i32_266 : BitVec 32 := 0#32
  ![v603.toNat, 0]

def k0_chk52 (i : grid0.Coords) (v603 : BitVec 32) : Prop :=
  (∀ (k0_h1 : k0_cond1 i = 1#1), ∀ a, (k0_off156 v603) a + S1x9984.size a ≤ S10000x10000.size a)
theorem k0_off156_inb : ∀ (i : grid0.Coords) (v603 : BitVec 32) (k0_hw52 : k0_chk52 i v603), ∀ (k0_h1 : k0_cond1 i = 1#1), ∀ a, (k0_off156 v603) a + S1x9984.size a ≤ S10000x10000.size a := fun i v603 k0_hw52 k0_h1 => k0_hw52 k0_h1

def k0_off157 (i : grid0.Coords) (k0_t1 : Fin k0_t1_loop.trips) : Fin 2 → Nat :=
  let arg0 : BitVec 32 := BitVec.ofNat 32 (i 0).val
  let v611 : Index := Scalar.indexCast arg0
  let c0_i32_267 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c52_i32 : BitVec 32 := 52#32
  let v609 : BitVec 32 := Scalar.addi v88 c52_i32
  let v610 : BitVec 32 := Scalar.addi c0_i32_267 v609
  let v612 : Index := Scalar.indexCast v610
  ![v611.toNat, v612.toNat]
def k0_off158 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c52_i32 : BitVec 32 := 52#32
  let v609 : BitVec 32 := Scalar.addi v88 c52_i32
  let c0_i32_268 : BitVec 32 := 0#32
  let c0_i32_269 : BitVec 32 := 0#32
  ![v609.toNat, 0, 0]
def k0_off159 (v613 : BitVec 32) : Fin 2 → Nat :=
  let c0_i32_270 : BitVec 32 := 0#32
  ![v613.toNat, 0]

def k0_chk53 (i : grid0.Coords) (v613 : BitVec 32) : Prop :=
  (∀ (k0_h1 : k0_cond1 i = 1#1), ∀ a, (k0_off159 v613) a + S1x9984.size a ≤ S10000x10000.size a)
theorem k0_off159_inb : ∀ (i : grid0.Coords) (v613 : BitVec 32) (k0_hw53 : k0_chk53 i v613), ∀ (k0_h1 : k0_cond1 i = 1#1), ∀ a, (k0_off159 v613) a + S1x9984.size a ≤ S10000x10000.size a := fun i v613 k0_hw53 k0_h1 => k0_hw53 k0_h1

def k0_off160 (i : grid0.Coords) (k0_t1 : Fin k0_t1_loop.trips) : Fin 2 → Nat :=
  let arg0 : BitVec 32 := BitVec.ofNat 32 (i 0).val
  let v621 : Index := Scalar.indexCast arg0
  let c0_i32_271 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c53_i32 : BitVec 32 := 53#32
  let v619 : BitVec 32 := Scalar.addi v88 c53_i32
  let v620 : BitVec 32 := Scalar.addi c0_i32_271 v619
  let v622 : Index := Scalar.indexCast v620
  ![v621.toNat, v622.toNat]
def k0_off161 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c53_i32 : BitVec 32 := 53#32
  let v619 : BitVec 32 := Scalar.addi v88 c53_i32
  let c0_i32_272 : BitVec 32 := 0#32
  let c0_i32_273 : BitVec 32 := 0#32
  ![v619.toNat, 0, 0]
def k0_off162 (v623 : BitVec 32) : Fin 2 → Nat :=
  let c0_i32_274 : BitVec 32 := 0#32
  ![v623.toNat, 0]

def k0_chk54 (i : grid0.Coords) (v623 : BitVec 32) : Prop :=
  (∀ (k0_h1 : k0_cond1 i = 1#1), ∀ a, (k0_off162 v623) a + S1x9984.size a ≤ S10000x10000.size a)
theorem k0_off162_inb : ∀ (i : grid0.Coords) (v623 : BitVec 32) (k0_hw54 : k0_chk54 i v623), ∀ (k0_h1 : k0_cond1 i = 1#1), ∀ a, (k0_off162 v623) a + S1x9984.size a ≤ S10000x10000.size a := fun i v623 k0_hw54 k0_h1 => k0_hw54 k0_h1

def k0_off163 (i : grid0.Coords) (k0_t1 : Fin k0_t1_loop.trips) : Fin 2 → Nat :=
  let arg0 : BitVec 32 := BitVec.ofNat 32 (i 0).val
  let v631 : Index := Scalar.indexCast arg0
  let c0_i32_275 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c54_i32 : BitVec 32 := 54#32
  let v629 : BitVec 32 := Scalar.addi v88 c54_i32
  let v630 : BitVec 32 := Scalar.addi c0_i32_275 v629
  let v632 : Index := Scalar.indexCast v630
  ![v631.toNat, v632.toNat]
def k0_off164 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c54_i32 : BitVec 32 := 54#32
  let v629 : BitVec 32 := Scalar.addi v88 c54_i32
  let c0_i32_276 : BitVec 32 := 0#32
  let c0_i32_277 : BitVec 32 := 0#32
  ![v629.toNat, 0, 0]
def k0_off165 (v633 : BitVec 32) : Fin 2 → Nat :=
  let c0_i32_278 : BitVec 32 := 0#32
  ![v633.toNat, 0]

def k0_chk55 (i : grid0.Coords) (v633 : BitVec 32) : Prop :=
  (∀ (k0_h1 : k0_cond1 i = 1#1), ∀ a, (k0_off165 v633) a + S1x9984.size a ≤ S10000x10000.size a)
theorem k0_off165_inb : ∀ (i : grid0.Coords) (v633 : BitVec 32) (k0_hw55 : k0_chk55 i v633), ∀ (k0_h1 : k0_cond1 i = 1#1), ∀ a, (k0_off165 v633) a + S1x9984.size a ≤ S10000x10000.size a := fun i v633 k0_hw55 k0_h1 => k0_hw55 k0_h1

def k0_off166 (i : grid0.Coords) (k0_t1 : Fin k0_t1_loop.trips) : Fin 2 → Nat :=
  let arg0 : BitVec 32 := BitVec.ofNat 32 (i 0).val
  let v641 : Index := Scalar.indexCast arg0
  let c0_i32_279 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c55_i32 : BitVec 32 := 55#32
  let v639 : BitVec 32 := Scalar.addi v88 c55_i32
  let v640 : BitVec 32 := Scalar.addi c0_i32_279 v639
  let v642 : Index := Scalar.indexCast v640
  ![v641.toNat, v642.toNat]
def k0_off167 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c55_i32 : BitVec 32 := 55#32
  let v639 : BitVec 32 := Scalar.addi v88 c55_i32
  let c0_i32_280 : BitVec 32 := 0#32
  let c0_i32_281 : BitVec 32 := 0#32
  ![v639.toNat, 0, 0]
def k0_off168 (v643 : BitVec 32) : Fin 2 → Nat :=
  let c0_i32_282 : BitVec 32 := 0#32
  ![v643.toNat, 0]

def k0_chk56 (i : grid0.Coords) (v643 : BitVec 32) : Prop :=
  (∀ (k0_h1 : k0_cond1 i = 1#1), ∀ a, (k0_off168 v643) a + S1x9984.size a ≤ S10000x10000.size a)
theorem k0_off168_inb : ∀ (i : grid0.Coords) (v643 : BitVec 32) (k0_hw56 : k0_chk56 i v643), ∀ (k0_h1 : k0_cond1 i = 1#1), ∀ a, (k0_off168 v643) a + S1x9984.size a ≤ S10000x10000.size a := fun i v643 k0_hw56 k0_h1 => k0_hw56 k0_h1

def k0_off169 (i : grid0.Coords) (k0_t1 : Fin k0_t1_loop.trips) : Fin 2 → Nat :=
  let arg0 : BitVec 32 := BitVec.ofNat 32 (i 0).val
  let v651 : Index := Scalar.indexCast arg0
  let c0_i32_283 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c56_i32 : BitVec 32 := 56#32
  let v649 : BitVec 32 := Scalar.addi v88 c56_i32
  let v650 : BitVec 32 := Scalar.addi c0_i32_283 v649
  let v652 : Index := Scalar.indexCast v650
  ![v651.toNat, v652.toNat]
def k0_off170 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c56_i32 : BitVec 32 := 56#32
  let v649 : BitVec 32 := Scalar.addi v88 c56_i32
  let c0_i32_284 : BitVec 32 := 0#32
  let c0_i32_285 : BitVec 32 := 0#32
  ![v649.toNat, 0, 0]
def k0_off171 (v653 : BitVec 32) : Fin 2 → Nat :=
  let c0_i32_286 : BitVec 32 := 0#32
  ![v653.toNat, 0]

def k0_chk57 (i : grid0.Coords) (v653 : BitVec 32) : Prop :=
  (∀ (k0_h1 : k0_cond1 i = 1#1), ∀ a, (k0_off171 v653) a + S1x9984.size a ≤ S10000x10000.size a)
theorem k0_off171_inb : ∀ (i : grid0.Coords) (v653 : BitVec 32) (k0_hw57 : k0_chk57 i v653), ∀ (k0_h1 : k0_cond1 i = 1#1), ∀ a, (k0_off171 v653) a + S1x9984.size a ≤ S10000x10000.size a := fun i v653 k0_hw57 k0_h1 => k0_hw57 k0_h1

def k0_off172 (i : grid0.Coords) (k0_t1 : Fin k0_t1_loop.trips) : Fin 2 → Nat :=
  let arg0 : BitVec 32 := BitVec.ofNat 32 (i 0).val
  let v661 : Index := Scalar.indexCast arg0
  let c0_i32_287 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c57_i32 : BitVec 32 := 57#32
  let v659 : BitVec 32 := Scalar.addi v88 c57_i32
  let v660 : BitVec 32 := Scalar.addi c0_i32_287 v659
  let v662 : Index := Scalar.indexCast v660
  ![v661.toNat, v662.toNat]
def k0_off173 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c57_i32 : BitVec 32 := 57#32
  let v659 : BitVec 32 := Scalar.addi v88 c57_i32
  let c0_i32_288 : BitVec 32 := 0#32
  let c0_i32_289 : BitVec 32 := 0#32
  ![v659.toNat, 0, 0]
def k0_off174 (v663 : BitVec 32) : Fin 2 → Nat :=
  let c0_i32_290 : BitVec 32 := 0#32
  ![v663.toNat, 0]

def k0_chk58 (i : grid0.Coords) (v663 : BitVec 32) : Prop :=
  (∀ (k0_h1 : k0_cond1 i = 1#1), ∀ a, (k0_off174 v663) a + S1x9984.size a ≤ S10000x10000.size a)
theorem k0_off174_inb : ∀ (i : grid0.Coords) (v663 : BitVec 32) (k0_hw58 : k0_chk58 i v663), ∀ (k0_h1 : k0_cond1 i = 1#1), ∀ a, (k0_off174 v663) a + S1x9984.size a ≤ S10000x10000.size a := fun i v663 k0_hw58 k0_h1 => k0_hw58 k0_h1

def k0_off175 (i : grid0.Coords) (k0_t1 : Fin k0_t1_loop.trips) : Fin 2 → Nat :=
  let arg0 : BitVec 32 := BitVec.ofNat 32 (i 0).val
  let v671 : Index := Scalar.indexCast arg0
  let c0_i32_291 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c58_i32 : BitVec 32 := 58#32
  let v669 : BitVec 32 := Scalar.addi v88 c58_i32
  let v670 : BitVec 32 := Scalar.addi c0_i32_291 v669
  let v672 : Index := Scalar.indexCast v670
  ![v671.toNat, v672.toNat]
def k0_off176 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c58_i32 : BitVec 32 := 58#32
  let v669 : BitVec 32 := Scalar.addi v88 c58_i32
  let c0_i32_292 : BitVec 32 := 0#32
  let c0_i32_293 : BitVec 32 := 0#32
  ![v669.toNat, 0, 0]
def k0_off177 (v673 : BitVec 32) : Fin 2 → Nat :=
  let c0_i32_294 : BitVec 32 := 0#32
  ![v673.toNat, 0]

def k0_chk59 (i : grid0.Coords) (v673 : BitVec 32) : Prop :=
  (∀ (k0_h1 : k0_cond1 i = 1#1), ∀ a, (k0_off177 v673) a + S1x9984.size a ≤ S10000x10000.size a)
theorem k0_off177_inb : ∀ (i : grid0.Coords) (v673 : BitVec 32) (k0_hw59 : k0_chk59 i v673), ∀ (k0_h1 : k0_cond1 i = 1#1), ∀ a, (k0_off177 v673) a + S1x9984.size a ≤ S10000x10000.size a := fun i v673 k0_hw59 k0_h1 => k0_hw59 k0_h1

def k0_off178 (i : grid0.Coords) (k0_t1 : Fin k0_t1_loop.trips) : Fin 2 → Nat :=
  let arg0 : BitVec 32 := BitVec.ofNat 32 (i 0).val
  let v681 : Index := Scalar.indexCast arg0
  let c0_i32_295 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c59_i32 : BitVec 32 := 59#32
  let v679 : BitVec 32 := Scalar.addi v88 c59_i32
  let v680 : BitVec 32 := Scalar.addi c0_i32_295 v679
  let v682 : Index := Scalar.indexCast v680
  ![v681.toNat, v682.toNat]
def k0_off179 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c59_i32 : BitVec 32 := 59#32
  let v679 : BitVec 32 := Scalar.addi v88 c59_i32
  let c0_i32_296 : BitVec 32 := 0#32
  let c0_i32_297 : BitVec 32 := 0#32
  ![v679.toNat, 0, 0]
def k0_off180 (v683 : BitVec 32) : Fin 2 → Nat :=
  let c0_i32_298 : BitVec 32 := 0#32
  ![v683.toNat, 0]

def k0_chk60 (i : grid0.Coords) (v683 : BitVec 32) : Prop :=
  (∀ (k0_h1 : k0_cond1 i = 1#1), ∀ a, (k0_off180 v683) a + S1x9984.size a ≤ S10000x10000.size a)
theorem k0_off180_inb : ∀ (i : grid0.Coords) (v683 : BitVec 32) (k0_hw60 : k0_chk60 i v683), ∀ (k0_h1 : k0_cond1 i = 1#1), ∀ a, (k0_off180 v683) a + S1x9984.size a ≤ S10000x10000.size a := fun i v683 k0_hw60 k0_h1 => k0_hw60 k0_h1

def k0_off181 (i : grid0.Coords) (k0_t1 : Fin k0_t1_loop.trips) : Fin 2 → Nat :=
  let arg0 : BitVec 32 := BitVec.ofNat 32 (i 0).val
  let v691 : Index := Scalar.indexCast arg0
  let c0_i32_299 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c60_i32 : BitVec 32 := 60#32
  let v689 : BitVec 32 := Scalar.addi v88 c60_i32
  let v690 : BitVec 32 := Scalar.addi c0_i32_299 v689
  let v692 : Index := Scalar.indexCast v690
  ![v691.toNat, v692.toNat]
def k0_off182 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c60_i32 : BitVec 32 := 60#32
  let v689 : BitVec 32 := Scalar.addi v88 c60_i32
  let c0_i32_300 : BitVec 32 := 0#32
  let c0_i32_301 : BitVec 32 := 0#32
  ![v689.toNat, 0, 0]
def k0_off183 (v693 : BitVec 32) : Fin 2 → Nat :=
  let c0_i32_302 : BitVec 32 := 0#32
  ![v693.toNat, 0]

def k0_chk61 (i : grid0.Coords) (v693 : BitVec 32) : Prop :=
  (∀ (k0_h1 : k0_cond1 i = 1#1), ∀ a, (k0_off183 v693) a + S1x9984.size a ≤ S10000x10000.size a)
theorem k0_off183_inb : ∀ (i : grid0.Coords) (v693 : BitVec 32) (k0_hw61 : k0_chk61 i v693), ∀ (k0_h1 : k0_cond1 i = 1#1), ∀ a, (k0_off183 v693) a + S1x9984.size a ≤ S10000x10000.size a := fun i v693 k0_hw61 k0_h1 => k0_hw61 k0_h1

def k0_off184 (i : grid0.Coords) (k0_t1 : Fin k0_t1_loop.trips) : Fin 2 → Nat :=
  let arg0 : BitVec 32 := BitVec.ofNat 32 (i 0).val
  let v701 : Index := Scalar.indexCast arg0
  let c0_i32_303 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c61_i32 : BitVec 32 := 61#32
  let v699 : BitVec 32 := Scalar.addi v88 c61_i32
  let v700 : BitVec 32 := Scalar.addi c0_i32_303 v699
  let v702 : Index := Scalar.indexCast v700
  ![v701.toNat, v702.toNat]
def k0_off185 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c61_i32 : BitVec 32 := 61#32
  let v699 : BitVec 32 := Scalar.addi v88 c61_i32
  let c0_i32_304 : BitVec 32 := 0#32
  let c0_i32_305 : BitVec 32 := 0#32
  ![v699.toNat, 0, 0]
def k0_off186 (v703 : BitVec 32) : Fin 2 → Nat :=
  let c0_i32_306 : BitVec 32 := 0#32
  ![v703.toNat, 0]

def k0_chk62 (i : grid0.Coords) (v703 : BitVec 32) : Prop :=
  (∀ (k0_h1 : k0_cond1 i = 1#1), ∀ a, (k0_off186 v703) a + S1x9984.size a ≤ S10000x10000.size a)
theorem k0_off186_inb : ∀ (i : grid0.Coords) (v703 : BitVec 32) (k0_hw62 : k0_chk62 i v703), ∀ (k0_h1 : k0_cond1 i = 1#1), ∀ a, (k0_off186 v703) a + S1x9984.size a ≤ S10000x10000.size a := fun i v703 k0_hw62 k0_h1 => k0_hw62 k0_h1

def k0_off187 (i : grid0.Coords) (k0_t1 : Fin k0_t1_loop.trips) : Fin 2 → Nat :=
  let arg0 : BitVec 32 := BitVec.ofNat 32 (i 0).val
  let v711 : Index := Scalar.indexCast arg0
  let c0_i32_307 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c62_i32 : BitVec 32 := 62#32
  let v709 : BitVec 32 := Scalar.addi v88 c62_i32
  let v710 : BitVec 32 := Scalar.addi c0_i32_307 v709
  let v712 : Index := Scalar.indexCast v710
  ![v711.toNat, v712.toNat]
def k0_off188 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c62_i32 : BitVec 32 := 62#32
  let v709 : BitVec 32 := Scalar.addi v88 c62_i32
  let c0_i32_308 : BitVec 32 := 0#32
  let c0_i32_309 : BitVec 32 := 0#32
  ![v709.toNat, 0, 0]
def k0_off189 (v713 : BitVec 32) : Fin 2 → Nat :=
  let c0_i32_310 : BitVec 32 := 0#32
  ![v713.toNat, 0]

def k0_chk63 (i : grid0.Coords) (v713 : BitVec 32) : Prop :=
  (∀ (k0_h1 : k0_cond1 i = 1#1), ∀ a, (k0_off189 v713) a + S1x9984.size a ≤ S10000x10000.size a)
theorem k0_off189_inb : ∀ (i : grid0.Coords) (v713 : BitVec 32) (k0_hw63 : k0_chk63 i v713), ∀ (k0_h1 : k0_cond1 i = 1#1), ∀ a, (k0_off189 v713) a + S1x9984.size a ≤ S10000x10000.size a := fun i v713 k0_hw63 k0_h1 => k0_hw63 k0_h1

def k0_off190 (i : grid0.Coords) (k0_t1 : Fin k0_t1_loop.trips) : Fin 2 → Nat :=
  let arg0 : BitVec 32 := BitVec.ofNat 32 (i 0).val
  let v721 : Index := Scalar.indexCast arg0
  let c0_i32_311 : BitVec 32 := 0#32
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c63_i32 : BitVec 32 := 63#32
  let v719 : BitVec 32 := Scalar.addi v88 c63_i32
  let v720 : BitVec 32 := Scalar.addi c0_i32_311 v719
  let v722 : Index := Scalar.indexCast v720
  ![v721.toNat, v722.toNat]
def k0_off191 (k0_t1 : Fin k0_t1_loop.trips) : Fin 3 → Nat :=
  let c0_i32_49 : BitVec 32 := 0#32
  let c1_i32_51 : BitVec 32 := 1#32
  let arg15 : BitVec 32 := Scf.iv c0_i32_49 c1_i32_51 k0_t1
  let c64_i32 : BitVec 32 := 64#32
  let v88 : BitVec 32 := Scalar.muli arg15 c64_i32
  let c63_i32 : BitVec 32 := 63#32
  let v719 : BitVec 32 := Scalar.addi v88 c63_i32
  let c0_i32_312 : BitVec 32 := 0#32
  let c0_i32_313 : BitVec 32 := 0#32
  ![v719.toNat, 0, 0]
def k0_off192 (v723 : BitVec 32) : Fin 2 → Nat :=
  let c0_i32_314 : BitVec 32 := 0#32
  ![v723.toNat, 0]

def k0_chk64 (i : grid0.Coords) (v723 : BitVec 32) : Prop :=
  (∀ (k0_h1 : k0_cond1 i = 1#1), ∀ a, (k0_off192 v723) a + S1x9984.size a ≤ S10000x10000.size a)
theorem k0_off192_inb : ∀ (i : grid0.Coords) (v723 : BitVec 32) (k0_hw64 : k0_chk64 i v723), ∀ (k0_h1 : k0_cond1 i = 1#1), ∀ a, (k0_off192 v723) a + S1x9984.size a ≤ S10000x10000.size a := fun i v723 k0_hw64 k0_h1 => k0_hw64 k0_h1

def k0_cond2 (i : grid0.Coords) : BitVec 1 :=
  let arg1 : BitVec 32 := BitVec.ofNat 32 (i 1).val
  let c2_i32 : BitVec 32 := 2#32
  let v0 : BitVec 32 := Scalar.remsi arg1 c2_i32
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  v6

@[reducible] def k0_t2_loop : Scf.Loop 32 :=
  let c0_i32_49 : BitVec 32 := 0#32
  let c256_i32_50 : BitVec 32 := 256#32
  let v87 : BitVec 32 := Scalar.addi c0_i32_49 c256_i32_50
  let c1_i32_51 : BitVec 32 := 1#32
  ⟨c0_i32_49, v87, c1_i32_51⟩
def k0_off193 (k0_t2 : Fin k0_t2_loop.trips) : Fin 3 → Nat :=
  let c0_i32_49 : BitVec 32 := 0#32
  let c1_i32_51 : BitVec 32 := 1#32
  let arg15 : BitVec 32 := Scf.iv c0_i32_49 c1_i32_51 k0_t2
  let c0_i32_53 : BitVec 32 := 0#32
  let c0_i32_54 : BitVec 32 := 0#32
  ![arg15.toNat, 0, 0]
def k0_cond3 (i : grid0.Coords) : BitVec 1 :=
  let arg1 : BitVec 32 := BitVec.ofNat 32 (i 1).val
  let c2_i32 : BitVec 32 := 2#32
  let v0 : BitVec 32 := Scalar.remsi arg1 c2_i32
  let c1_i32 : BitVec 32 := 1#32
  let v7 : BitVec 1 := Scalar.cmpi .eq v0 c1_i32
  let v8 : BitVec 32 := Scalar.extui v7
  let c0_i32_3 : BitVec 32 := 0#32
  let v9 : BitVec 1 := Scalar.cmpi .ne v8 c0_i32_3
  v9

@[reducible] def k0_t3_loop : Scf.Loop 32 :=
  let c0_i32_49 : BitVec 32 := 0#32
  let c256_i32_50 : BitVec 32 := 256#32
  let v87 : BitVec 32 := Scalar.addi c0_i32_49 c256_i32_50
  let c1_i32_51 : BitVec 32 := 1#32
  ⟨c0_i32_49, v87, c1_i32_51⟩
def k0_off194 (k0_t3 : Fin k0_t3_loop.trips) : Fin 3 → Nat :=
  let c0_i32_49 : BitVec 32 := 0#32
  let c1_i32_51 : BitVec 32 := 1#32
  let arg15 : BitVec 32 := Scf.iv c0_i32_49 c1_i32_51 k0_t3
  let c0_i32_53 : BitVec 32 := 0#32
  let c0_i32_54 : BitVec 32 := 0#32
  ![arg15.toNat, 0, 0]
def k0_cond4 (i : grid0.Coords) : BitVec 1 :=
  let arg1 : BitVec 32 := BitVec.ofNat 32 (i 1).val
  let c1_i32_4 : BitVec 32 := 1#32
  let v10 : BitVec 32 := Scalar.addi arg1 c1_i32_4
  let c8_i32 : BitVec 32 := 8#32
  let v11 : BitVec 1 := Scalar.cmpi .slt v10 c8_i32
  let c2_i32 : BitVec 32 := 2#32
  let v0 : BitVec 32 := Scalar.remsi arg1 c2_i32
  let c0_i32_5 : BitVec 32 := 0#32
  let v12 : BitVec 1 := Scalar.cmpi .eq v0 c0_i32_5
  let v13 : BitVec 1 := Scalar.andi v11 v12
  let v14 : BitVec 32 := Scalar.extui v13
  let c0_i32_6 : BitVec 32 := 0#32
  let v15 : BitVec 1 := Scalar.cmpi .ne v14 c0_i32_6
  v15

@[reducible] def k0_t4_loop : Scf.Loop 32 :=
  let c0_i32_51 : BitVec 32 := 0#32
  let c4_i32_52 : BitVec 32 := 4#32
  let v89 : BitVec 32 := Scalar.addi c0_i32_51 c4_i32_52
  let c1_i32_53 : BitVec 32 := 1#32
  ⟨c0_i32_51, v89, c1_i32_53⟩
def k0_off195 (i : grid0.Coords) (k0_t4 : Fin k0_t4_loop.trips) : Fin 2 → Nat :=
  let arg0 : BitVec 32 := BitVec.ofNat 32 (i 0).val
  let v93 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c0_i32_55 : BitVec 32 := 0#32
  let v91 : BitVec 32 := Scalar.addi v90 c0_i32_55
  let v92 : BitVec 32 := Scalar.addi v88 v91
  let v94 : Index := Scalar.indexCast v92
  ![v93.toNat, v94.toNat]
def k0_off196 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c0_i32_55 : BitVec 32 := 0#32
  let v91 : BitVec 32 := Scalar.addi v90 c0_i32_55
  let c0_i32_56 : BitVec 32 := 0#32
  let c0_i32_57 : BitVec 32 := 0#32
  ![v91.toNat, 0, 0]
def k0_off197 (v95 : BitVec 32) : Fin 2 → Nat :=
  let c0_i32_58 : BitVec 32 := 0#32
  ![v95.toNat, 0]

def k0_chk65 (i : grid0.Coords) (v95 : BitVec 32) : Prop :=
  (∀ (k0_h4 : k0_cond4 i = 1#1), ∀ a, (k0_off197 v95) a + S1x9984.size a ≤ S10000x10000.size a)
theorem k0_off197_inb : ∀ (i : grid0.Coords) (v95 : BitVec 32) (k0_hw65 : k0_chk65 i v95), ∀ (k0_h4 : k0_cond4 i = 1#1), ∀ a, (k0_off197 v95) a + S1x9984.size a ≤ S10000x10000.size a := fun i v95 k0_hw65 k0_h4 => k0_hw65 k0_h4

def k0_off198 (i : grid0.Coords) (k0_t4 : Fin k0_t4_loop.trips) : Fin 2 → Nat :=
  let arg0 : BitVec 32 := BitVec.ofNat 32 (i 0).val
  let v103 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c1_i32_59 : BitVec 32 := 1#32
  let v101 : BitVec 32 := Scalar.addi v90 c1_i32_59
  let v102 : BitVec 32 := Scalar.addi v88 v101
  let v104 : Index := Scalar.indexCast v102
  ![v103.toNat, v104.toNat]
def k0_off199 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c1_i32_59 : BitVec 32 := 1#32
  let v101 : BitVec 32 := Scalar.addi v90 c1_i32_59
  let c0_i32_60 : BitVec 32 := 0#32
  let c0_i32_61 : BitVec 32 := 0#32
  ![v101.toNat, 0, 0]
def k0_off200 (v105 : BitVec 32) : Fin 2 → Nat :=
  let c0_i32_62 : BitVec 32 := 0#32
  ![v105.toNat, 0]

def k0_chk66 (i : grid0.Coords) (v105 : BitVec 32) : Prop :=
  (∀ (k0_h4 : k0_cond4 i = 1#1), ∀ a, (k0_off200 v105) a + S1x9984.size a ≤ S10000x10000.size a)
theorem k0_off200_inb : ∀ (i : grid0.Coords) (v105 : BitVec 32) (k0_hw66 : k0_chk66 i v105), ∀ (k0_h4 : k0_cond4 i = 1#1), ∀ a, (k0_off200 v105) a + S1x9984.size a ≤ S10000x10000.size a := fun i v105 k0_hw66 k0_h4 => k0_hw66 k0_h4

def k0_off201 (i : grid0.Coords) (k0_t4 : Fin k0_t4_loop.trips) : Fin 2 → Nat :=
  let arg0 : BitVec 32 := BitVec.ofNat 32 (i 0).val
  let v113 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c2_i32_63 : BitVec 32 := 2#32
  let v111 : BitVec 32 := Scalar.addi v90 c2_i32_63
  let v112 : BitVec 32 := Scalar.addi v88 v111
  let v114 : Index := Scalar.indexCast v112
  ![v113.toNat, v114.toNat]
def k0_off202 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c2_i32_63 : BitVec 32 := 2#32
  let v111 : BitVec 32 := Scalar.addi v90 c2_i32_63
  let c0_i32_64 : BitVec 32 := 0#32
  let c0_i32_65 : BitVec 32 := 0#32
  ![v111.toNat, 0, 0]
def k0_off203 (v115 : BitVec 32) : Fin 2 → Nat :=
  let c0_i32_66 : BitVec 32 := 0#32
  ![v115.toNat, 0]

def k0_chk67 (i : grid0.Coords) (v115 : BitVec 32) : Prop :=
  (∀ (k0_h4 : k0_cond4 i = 1#1), ∀ a, (k0_off203 v115) a + S1x9984.size a ≤ S10000x10000.size a)
theorem k0_off203_inb : ∀ (i : grid0.Coords) (v115 : BitVec 32) (k0_hw67 : k0_chk67 i v115), ∀ (k0_h4 : k0_cond4 i = 1#1), ∀ a, (k0_off203 v115) a + S1x9984.size a ≤ S10000x10000.size a := fun i v115 k0_hw67 k0_h4 => k0_hw67 k0_h4

def k0_off204 (i : grid0.Coords) (k0_t4 : Fin k0_t4_loop.trips) : Fin 2 → Nat :=
  let arg0 : BitVec 32 := BitVec.ofNat 32 (i 0).val
  let v123 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c3_i32 : BitVec 32 := 3#32
  let v121 : BitVec 32 := Scalar.addi v90 c3_i32
  let v122 : BitVec 32 := Scalar.addi v88 v121
  let v124 : Index := Scalar.indexCast v122
  ![v123.toNat, v124.toNat]
def k0_off205 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c3_i32 : BitVec 32 := 3#32
  let v121 : BitVec 32 := Scalar.addi v90 c3_i32
  let c0_i32_67 : BitVec 32 := 0#32
  let c0_i32_68 : BitVec 32 := 0#32
  ![v121.toNat, 0, 0]
def k0_off206 (v125 : BitVec 32) : Fin 2 → Nat :=
  let c0_i32_69 : BitVec 32 := 0#32
  ![v125.toNat, 0]

def k0_chk68 (i : grid0.Coords) (v125 : BitVec 32) : Prop :=
  (∀ (k0_h4 : k0_cond4 i = 1#1), ∀ a, (k0_off206 v125) a + S1x9984.size a ≤ S10000x10000.size a)
theorem k0_off206_inb : ∀ (i : grid0.Coords) (v125 : BitVec 32) (k0_hw68 : k0_chk68 i v125), ∀ (k0_h4 : k0_cond4 i = 1#1), ∀ a, (k0_off206 v125) a + S1x9984.size a ≤ S10000x10000.size a := fun i v125 k0_hw68 k0_h4 => k0_hw68 k0_h4

def k0_off207 (i : grid0.Coords) (k0_t4 : Fin k0_t4_loop.trips) : Fin 2 → Nat :=
  let arg0 : BitVec 32 := BitVec.ofNat 32 (i 0).val
  let v133 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c4_i32_70 : BitVec 32 := 4#32
  let v131 : BitVec 32 := Scalar.addi v90 c4_i32_70
  let v132 : BitVec 32 := Scalar.addi v88 v131
  let v134 : Index := Scalar.indexCast v132
  ![v133.toNat, v134.toNat]
def k0_off208 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c4_i32_70 : BitVec 32 := 4#32
  let v131 : BitVec 32 := Scalar.addi v90 c4_i32_70
  let c0_i32_71 : BitVec 32 := 0#32
  let c0_i32_72 : BitVec 32 := 0#32
  ![v131.toNat, 0, 0]
def k0_off209 (v135 : BitVec 32) : Fin 2 → Nat :=
  let c0_i32_73 : BitVec 32 := 0#32
  ![v135.toNat, 0]

def k0_chk69 (i : grid0.Coords) (v135 : BitVec 32) : Prop :=
  (∀ (k0_h4 : k0_cond4 i = 1#1), ∀ a, (k0_off209 v135) a + S1x9984.size a ≤ S10000x10000.size a)
theorem k0_off209_inb : ∀ (i : grid0.Coords) (v135 : BitVec 32) (k0_hw69 : k0_chk69 i v135), ∀ (k0_h4 : k0_cond4 i = 1#1), ∀ a, (k0_off209 v135) a + S1x9984.size a ≤ S10000x10000.size a := fun i v135 k0_hw69 k0_h4 => k0_hw69 k0_h4

def k0_off210 (i : grid0.Coords) (k0_t4 : Fin k0_t4_loop.trips) : Fin 2 → Nat :=
  let arg0 : BitVec 32 := BitVec.ofNat 32 (i 0).val
  let v143 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c5_i32 : BitVec 32 := 5#32
  let v141 : BitVec 32 := Scalar.addi v90 c5_i32
  let v142 : BitVec 32 := Scalar.addi v88 v141
  let v144 : Index := Scalar.indexCast v142
  ![v143.toNat, v144.toNat]
def k0_off211 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c5_i32 : BitVec 32 := 5#32
  let v141 : BitVec 32 := Scalar.addi v90 c5_i32
  let c0_i32_74 : BitVec 32 := 0#32
  let c0_i32_75 : BitVec 32 := 0#32
  ![v141.toNat, 0, 0]
def k0_off212 (v145 : BitVec 32) : Fin 2 → Nat :=
  let c0_i32_76 : BitVec 32 := 0#32
  ![v145.toNat, 0]

def k0_chk70 (i : grid0.Coords) (v145 : BitVec 32) : Prop :=
  (∀ (k0_h4 : k0_cond4 i = 1#1), ∀ a, (k0_off212 v145) a + S1x9984.size a ≤ S10000x10000.size a)
theorem k0_off212_inb : ∀ (i : grid0.Coords) (v145 : BitVec 32) (k0_hw70 : k0_chk70 i v145), ∀ (k0_h4 : k0_cond4 i = 1#1), ∀ a, (k0_off212 v145) a + S1x9984.size a ≤ S10000x10000.size a := fun i v145 k0_hw70 k0_h4 => k0_hw70 k0_h4

def k0_off213 (i : grid0.Coords) (k0_t4 : Fin k0_t4_loop.trips) : Fin 2 → Nat :=
  let arg0 : BitVec 32 := BitVec.ofNat 32 (i 0).val
  let v153 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c6_i32 : BitVec 32 := 6#32
  let v151 : BitVec 32 := Scalar.addi v90 c6_i32
  let v152 : BitVec 32 := Scalar.addi v88 v151
  let v154 : Index := Scalar.indexCast v152
  ![v153.toNat, v154.toNat]
def k0_off214 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c6_i32 : BitVec 32 := 6#32
  let v151 : BitVec 32 := Scalar.addi v90 c6_i32
  let c0_i32_77 : BitVec 32 := 0#32
  let c0_i32_78 : BitVec 32 := 0#32
  ![v151.toNat, 0, 0]
def k0_off215 (v155 : BitVec 32) : Fin 2 → Nat :=
  let c0_i32_79 : BitVec 32 := 0#32
  ![v155.toNat, 0]

def k0_chk71 (i : grid0.Coords) (v155 : BitVec 32) : Prop :=
  (∀ (k0_h4 : k0_cond4 i = 1#1), ∀ a, (k0_off215 v155) a + S1x9984.size a ≤ S10000x10000.size a)
theorem k0_off215_inb : ∀ (i : grid0.Coords) (v155 : BitVec 32) (k0_hw71 : k0_chk71 i v155), ∀ (k0_h4 : k0_cond4 i = 1#1), ∀ a, (k0_off215 v155) a + S1x9984.size a ≤ S10000x10000.size a := fun i v155 k0_hw71 k0_h4 => k0_hw71 k0_h4

def k0_off216 (i : grid0.Coords) (k0_t4 : Fin k0_t4_loop.trips) : Fin 2 → Nat :=
  let arg0 : BitVec 32 := BitVec.ofNat 32 (i 0).val
  let v163 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c7_i32 : BitVec 32 := 7#32
  let v161 : BitVec 32 := Scalar.addi v90 c7_i32
  let v162 : BitVec 32 := Scalar.addi v88 v161
  let v164 : Index := Scalar.indexCast v162
  ![v163.toNat, v164.toNat]
def k0_off217 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c7_i32 : BitVec 32 := 7#32
  let v161 : BitVec 32 := Scalar.addi v90 c7_i32
  let c0_i32_80 : BitVec 32 := 0#32
  let c0_i32_81 : BitVec 32 := 0#32
  ![v161.toNat, 0, 0]
def k0_off218 (v165 : BitVec 32) : Fin 2 → Nat :=
  let c0_i32_82 : BitVec 32 := 0#32
  ![v165.toNat, 0]

def k0_chk72 (i : grid0.Coords) (v165 : BitVec 32) : Prop :=
  (∀ (k0_h4 : k0_cond4 i = 1#1), ∀ a, (k0_off218 v165) a + S1x9984.size a ≤ S10000x10000.size a)
theorem k0_off218_inb : ∀ (i : grid0.Coords) (v165 : BitVec 32) (k0_hw72 : k0_chk72 i v165), ∀ (k0_h4 : k0_cond4 i = 1#1), ∀ a, (k0_off218 v165) a + S1x9984.size a ≤ S10000x10000.size a := fun i v165 k0_hw72 k0_h4 => k0_hw72 k0_h4

def k0_off219 (i : grid0.Coords) (k0_t4 : Fin k0_t4_loop.trips) : Fin 2 → Nat :=
  let arg0 : BitVec 32 := BitVec.ofNat 32 (i 0).val
  let v173 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c8_i32_83 : BitVec 32 := 8#32
  let v171 : BitVec 32 := Scalar.addi v90 c8_i32_83
  let v172 : BitVec 32 := Scalar.addi v88 v171
  let v174 : Index := Scalar.indexCast v172
  ![v173.toNat, v174.toNat]
def k0_off220 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c8_i32_83 : BitVec 32 := 8#32
  let v171 : BitVec 32 := Scalar.addi v90 c8_i32_83
  let c0_i32_84 : BitVec 32 := 0#32
  let c0_i32_85 : BitVec 32 := 0#32
  ![v171.toNat, 0, 0]
def k0_off221 (v175 : BitVec 32) : Fin 2 → Nat :=
  let c0_i32_86 : BitVec 32 := 0#32
  ![v175.toNat, 0]

def k0_chk73 (i : grid0.Coords) (v175 : BitVec 32) : Prop :=
  (∀ (k0_h4 : k0_cond4 i = 1#1), ∀ a, (k0_off221 v175) a + S1x9984.size a ≤ S10000x10000.size a)
theorem k0_off221_inb : ∀ (i : grid0.Coords) (v175 : BitVec 32) (k0_hw73 : k0_chk73 i v175), ∀ (k0_h4 : k0_cond4 i = 1#1), ∀ a, (k0_off221 v175) a + S1x9984.size a ≤ S10000x10000.size a := fun i v175 k0_hw73 k0_h4 => k0_hw73 k0_h4

def k0_off222 (i : grid0.Coords) (k0_t4 : Fin k0_t4_loop.trips) : Fin 2 → Nat :=
  let arg0 : BitVec 32 := BitVec.ofNat 32 (i 0).val
  let v183 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c9_i32 : BitVec 32 := 9#32
  let v181 : BitVec 32 := Scalar.addi v90 c9_i32
  let v182 : BitVec 32 := Scalar.addi v88 v181
  let v184 : Index := Scalar.indexCast v182
  ![v183.toNat, v184.toNat]
def k0_off223 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c9_i32 : BitVec 32 := 9#32
  let v181 : BitVec 32 := Scalar.addi v90 c9_i32
  let c0_i32_87 : BitVec 32 := 0#32
  let c0_i32_88 : BitVec 32 := 0#32
  ![v181.toNat, 0, 0]
def k0_off224 (v185 : BitVec 32) : Fin 2 → Nat :=
  let c0_i32_89 : BitVec 32 := 0#32
  ![v185.toNat, 0]

def k0_chk74 (i : grid0.Coords) (v185 : BitVec 32) : Prop :=
  (∀ (k0_h4 : k0_cond4 i = 1#1), ∀ a, (k0_off224 v185) a + S1x9984.size a ≤ S10000x10000.size a)
theorem k0_off224_inb : ∀ (i : grid0.Coords) (v185 : BitVec 32) (k0_hw74 : k0_chk74 i v185), ∀ (k0_h4 : k0_cond4 i = 1#1), ∀ a, (k0_off224 v185) a + S1x9984.size a ≤ S10000x10000.size a := fun i v185 k0_hw74 k0_h4 => k0_hw74 k0_h4

def k0_off225 (i : grid0.Coords) (k0_t4 : Fin k0_t4_loop.trips) : Fin 2 → Nat :=
  let arg0 : BitVec 32 := BitVec.ofNat 32 (i 0).val
  let v193 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c10_i32 : BitVec 32 := 10#32
  let v191 : BitVec 32 := Scalar.addi v90 c10_i32
  let v192 : BitVec 32 := Scalar.addi v88 v191
  let v194 : Index := Scalar.indexCast v192
  ![v193.toNat, v194.toNat]
def k0_off226 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c10_i32 : BitVec 32 := 10#32
  let v191 : BitVec 32 := Scalar.addi v90 c10_i32
  let c0_i32_90 : BitVec 32 := 0#32
  let c0_i32_91 : BitVec 32 := 0#32
  ![v191.toNat, 0, 0]
def k0_off227 (v195 : BitVec 32) : Fin 2 → Nat :=
  let c0_i32_92 : BitVec 32 := 0#32
  ![v195.toNat, 0]

def k0_chk75 (i : grid0.Coords) (v195 : BitVec 32) : Prop :=
  (∀ (k0_h4 : k0_cond4 i = 1#1), ∀ a, (k0_off227 v195) a + S1x9984.size a ≤ S10000x10000.size a)
theorem k0_off227_inb : ∀ (i : grid0.Coords) (v195 : BitVec 32) (k0_hw75 : k0_chk75 i v195), ∀ (k0_h4 : k0_cond4 i = 1#1), ∀ a, (k0_off227 v195) a + S1x9984.size a ≤ S10000x10000.size a := fun i v195 k0_hw75 k0_h4 => k0_hw75 k0_h4

def k0_off228 (i : grid0.Coords) (k0_t4 : Fin k0_t4_loop.trips) : Fin 2 → Nat :=
  let arg0 : BitVec 32 := BitVec.ofNat 32 (i 0).val
  let v203 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c11_i32 : BitVec 32 := 11#32
  let v201 : BitVec 32 := Scalar.addi v90 c11_i32
  let v202 : BitVec 32 := Scalar.addi v88 v201
  let v204 : Index := Scalar.indexCast v202
  ![v203.toNat, v204.toNat]
def k0_off229 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c11_i32 : BitVec 32 := 11#32
  let v201 : BitVec 32 := Scalar.addi v90 c11_i32
  let c0_i32_93 : BitVec 32 := 0#32
  let c0_i32_94 : BitVec 32 := 0#32
  ![v201.toNat, 0, 0]
def k0_off230 (v205 : BitVec 32) : Fin 2 → Nat :=
  let c0_i32_95 : BitVec 32 := 0#32
  ![v205.toNat, 0]

def k0_chk76 (i : grid0.Coords) (v205 : BitVec 32) : Prop :=
  (∀ (k0_h4 : k0_cond4 i = 1#1), ∀ a, (k0_off230 v205) a + S1x9984.size a ≤ S10000x10000.size a)
theorem k0_off230_inb : ∀ (i : grid0.Coords) (v205 : BitVec 32) (k0_hw76 : k0_chk76 i v205), ∀ (k0_h4 : k0_cond4 i = 1#1), ∀ a, (k0_off230 v205) a + S1x9984.size a ≤ S10000x10000.size a := fun i v205 k0_hw76 k0_h4 => k0_hw76 k0_h4

def k0_off231 (i : grid0.Coords) (k0_t4 : Fin k0_t4_loop.trips) : Fin 2 → Nat :=
  let arg0 : BitVec 32 := BitVec.ofNat 32 (i 0).val
  let v213 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c12_i32 : BitVec 32 := 12#32
  let v211 : BitVec 32 := Scalar.addi v90 c12_i32
  let v212 : BitVec 32 := Scalar.addi v88 v211
  let v214 : Index := Scalar.indexCast v212
  ![v213.toNat, v214.toNat]
def k0_off232 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c12_i32 : BitVec 32 := 12#32
  let v211 : BitVec 32 := Scalar.addi v90 c12_i32
  let c0_i32_96 : BitVec 32 := 0#32
  let c0_i32_97 : BitVec 32 := 0#32
  ![v211.toNat, 0, 0]
def k0_off233 (v215 : BitVec 32) : Fin 2 → Nat :=
  let c0_i32_98 : BitVec 32 := 0#32
  ![v215.toNat, 0]

def k0_chk77 (i : grid0.Coords) (v215 : BitVec 32) : Prop :=
  (∀ (k0_h4 : k0_cond4 i = 1#1), ∀ a, (k0_off233 v215) a + S1x9984.size a ≤ S10000x10000.size a)
theorem k0_off233_inb : ∀ (i : grid0.Coords) (v215 : BitVec 32) (k0_hw77 : k0_chk77 i v215), ∀ (k0_h4 : k0_cond4 i = 1#1), ∀ a, (k0_off233 v215) a + S1x9984.size a ≤ S10000x10000.size a := fun i v215 k0_hw77 k0_h4 => k0_hw77 k0_h4

def k0_off234 (i : grid0.Coords) (k0_t4 : Fin k0_t4_loop.trips) : Fin 2 → Nat :=
  let arg0 : BitVec 32 := BitVec.ofNat 32 (i 0).val
  let v223 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c13_i32 : BitVec 32 := 13#32
  let v221 : BitVec 32 := Scalar.addi v90 c13_i32
  let v222 : BitVec 32 := Scalar.addi v88 v221
  let v224 : Index := Scalar.indexCast v222
  ![v223.toNat, v224.toNat]
def k0_off235 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c13_i32 : BitVec 32 := 13#32
  let v221 : BitVec 32 := Scalar.addi v90 c13_i32
  let c0_i32_99 : BitVec 32 := 0#32
  let c0_i32_100 : BitVec 32 := 0#32
  ![v221.toNat, 0, 0]
def k0_off236 (v225 : BitVec 32) : Fin 2 → Nat :=
  let c0_i32_101 : BitVec 32 := 0#32
  ![v225.toNat, 0]

def k0_chk78 (i : grid0.Coords) (v225 : BitVec 32) : Prop :=
  (∀ (k0_h4 : k0_cond4 i = 1#1), ∀ a, (k0_off236 v225) a + S1x9984.size a ≤ S10000x10000.size a)
theorem k0_off236_inb : ∀ (i : grid0.Coords) (v225 : BitVec 32) (k0_hw78 : k0_chk78 i v225), ∀ (k0_h4 : k0_cond4 i = 1#1), ∀ a, (k0_off236 v225) a + S1x9984.size a ≤ S10000x10000.size a := fun i v225 k0_hw78 k0_h4 => k0_hw78 k0_h4

def k0_off237 (i : grid0.Coords) (k0_t4 : Fin k0_t4_loop.trips) : Fin 2 → Nat :=
  let arg0 : BitVec 32 := BitVec.ofNat 32 (i 0).val
  let v233 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c14_i32 : BitVec 32 := 14#32
  let v231 : BitVec 32 := Scalar.addi v90 c14_i32
  let v232 : BitVec 32 := Scalar.addi v88 v231
  let v234 : Index := Scalar.indexCast v232
  ![v233.toNat, v234.toNat]
def k0_off238 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c14_i32 : BitVec 32 := 14#32
  let v231 : BitVec 32 := Scalar.addi v90 c14_i32
  let c0_i32_102 : BitVec 32 := 0#32
  let c0_i32_103 : BitVec 32 := 0#32
  ![v231.toNat, 0, 0]
def k0_off239 (v235 : BitVec 32) : Fin 2 → Nat :=
  let c0_i32_104 : BitVec 32 := 0#32
  ![v235.toNat, 0]

def k0_chk79 (i : grid0.Coords) (v235 : BitVec 32) : Prop :=
  (∀ (k0_h4 : k0_cond4 i = 1#1), ∀ a, (k0_off239 v235) a + S1x9984.size a ≤ S10000x10000.size a)
theorem k0_off239_inb : ∀ (i : grid0.Coords) (v235 : BitVec 32) (k0_hw79 : k0_chk79 i v235), ∀ (k0_h4 : k0_cond4 i = 1#1), ∀ a, (k0_off239 v235) a + S1x9984.size a ≤ S10000x10000.size a := fun i v235 k0_hw79 k0_h4 => k0_hw79 k0_h4

def k0_off240 (i : grid0.Coords) (k0_t4 : Fin k0_t4_loop.trips) : Fin 2 → Nat :=
  let arg0 : BitVec 32 := BitVec.ofNat 32 (i 0).val
  let v243 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c15_i32 : BitVec 32 := 15#32
  let v241 : BitVec 32 := Scalar.addi v90 c15_i32
  let v242 : BitVec 32 := Scalar.addi v88 v241
  let v244 : Index := Scalar.indexCast v242
  ![v243.toNat, v244.toNat]
def k0_off241 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c15_i32 : BitVec 32 := 15#32
  let v241 : BitVec 32 := Scalar.addi v90 c15_i32
  let c0_i32_105 : BitVec 32 := 0#32
  let c0_i32_106 : BitVec 32 := 0#32
  ![v241.toNat, 0, 0]
def k0_off242 (v245 : BitVec 32) : Fin 2 → Nat :=
  let c0_i32_107 : BitVec 32 := 0#32
  ![v245.toNat, 0]

def k0_chk80 (i : grid0.Coords) (v245 : BitVec 32) : Prop :=
  (∀ (k0_h4 : k0_cond4 i = 1#1), ∀ a, (k0_off242 v245) a + S1x9984.size a ≤ S10000x10000.size a)
theorem k0_off242_inb : ∀ (i : grid0.Coords) (v245 : BitVec 32) (k0_hw80 : k0_chk80 i v245), ∀ (k0_h4 : k0_cond4 i = 1#1), ∀ a, (k0_off242 v245) a + S1x9984.size a ≤ S10000x10000.size a := fun i v245 k0_hw80 k0_h4 => k0_hw80 k0_h4

def k0_off243 (i : grid0.Coords) (k0_t4 : Fin k0_t4_loop.trips) : Fin 2 → Nat :=
  let arg0 : BitVec 32 := BitVec.ofNat 32 (i 0).val
  let v253 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c16_i32 : BitVec 32 := 16#32
  let v251 : BitVec 32 := Scalar.addi v90 c16_i32
  let v252 : BitVec 32 := Scalar.addi v88 v251
  let v254 : Index := Scalar.indexCast v252
  ![v253.toNat, v254.toNat]
def k0_off244 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c16_i32 : BitVec 32 := 16#32
  let v251 : BitVec 32 := Scalar.addi v90 c16_i32
  let c0_i32_108 : BitVec 32 := 0#32
  let c0_i32_109 : BitVec 32 := 0#32
  ![v251.toNat, 0, 0]
def k0_off245 (v255 : BitVec 32) : Fin 2 → Nat :=
  let c0_i32_110 : BitVec 32 := 0#32
  ![v255.toNat, 0]

def k0_chk81 (i : grid0.Coords) (v255 : BitVec 32) : Prop :=
  (∀ (k0_h4 : k0_cond4 i = 1#1), ∀ a, (k0_off245 v255) a + S1x9984.size a ≤ S10000x10000.size a)
theorem k0_off245_inb : ∀ (i : grid0.Coords) (v255 : BitVec 32) (k0_hw81 : k0_chk81 i v255), ∀ (k0_h4 : k0_cond4 i = 1#1), ∀ a, (k0_off245 v255) a + S1x9984.size a ≤ S10000x10000.size a := fun i v255 k0_hw81 k0_h4 => k0_hw81 k0_h4

def k0_off246 (i : grid0.Coords) (k0_t4 : Fin k0_t4_loop.trips) : Fin 2 → Nat :=
  let arg0 : BitVec 32 := BitVec.ofNat 32 (i 0).val
  let v263 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c17_i32 : BitVec 32 := 17#32
  let v261 : BitVec 32 := Scalar.addi v90 c17_i32
  let v262 : BitVec 32 := Scalar.addi v88 v261
  let v264 : Index := Scalar.indexCast v262
  ![v263.toNat, v264.toNat]
def k0_off247 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c17_i32 : BitVec 32 := 17#32
  let v261 : BitVec 32 := Scalar.addi v90 c17_i32
  let c0_i32_111 : BitVec 32 := 0#32
  let c0_i32_112 : BitVec 32 := 0#32
  ![v261.toNat, 0, 0]
def k0_off248 (v265 : BitVec 32) : Fin 2 → Nat :=
  let c0_i32_113 : BitVec 32 := 0#32
  ![v265.toNat, 0]

def k0_chk82 (i : grid0.Coords) (v265 : BitVec 32) : Prop :=
  (∀ (k0_h4 : k0_cond4 i = 1#1), ∀ a, (k0_off248 v265) a + S1x9984.size a ≤ S10000x10000.size a)
theorem k0_off248_inb : ∀ (i : grid0.Coords) (v265 : BitVec 32) (k0_hw82 : k0_chk82 i v265), ∀ (k0_h4 : k0_cond4 i = 1#1), ∀ a, (k0_off248 v265) a + S1x9984.size a ≤ S10000x10000.size a := fun i v265 k0_hw82 k0_h4 => k0_hw82 k0_h4

def k0_off249 (i : grid0.Coords) (k0_t4 : Fin k0_t4_loop.trips) : Fin 2 → Nat :=
  let arg0 : BitVec 32 := BitVec.ofNat 32 (i 0).val
  let v273 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c18_i32 : BitVec 32 := 18#32
  let v271 : BitVec 32 := Scalar.addi v90 c18_i32
  let v272 : BitVec 32 := Scalar.addi v88 v271
  let v274 : Index := Scalar.indexCast v272
  ![v273.toNat, v274.toNat]
def k0_off250 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c18_i32 : BitVec 32 := 18#32
  let v271 : BitVec 32 := Scalar.addi v90 c18_i32
  let c0_i32_114 : BitVec 32 := 0#32
  let c0_i32_115 : BitVec 32 := 0#32
  ![v271.toNat, 0, 0]
def k0_off251 (v275 : BitVec 32) : Fin 2 → Nat :=
  let c0_i32_116 : BitVec 32 := 0#32
  ![v275.toNat, 0]

def k0_chk83 (i : grid0.Coords) (v275 : BitVec 32) : Prop :=
  (∀ (k0_h4 : k0_cond4 i = 1#1), ∀ a, (k0_off251 v275) a + S1x9984.size a ≤ S10000x10000.size a)
theorem k0_off251_inb : ∀ (i : grid0.Coords) (v275 : BitVec 32) (k0_hw83 : k0_chk83 i v275), ∀ (k0_h4 : k0_cond4 i = 1#1), ∀ a, (k0_off251 v275) a + S1x9984.size a ≤ S10000x10000.size a := fun i v275 k0_hw83 k0_h4 => k0_hw83 k0_h4

def k0_off252 (i : grid0.Coords) (k0_t4 : Fin k0_t4_loop.trips) : Fin 2 → Nat :=
  let arg0 : BitVec 32 := BitVec.ofNat 32 (i 0).val
  let v283 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c19_i32 : BitVec 32 := 19#32
  let v281 : BitVec 32 := Scalar.addi v90 c19_i32
  let v282 : BitVec 32 := Scalar.addi v88 v281
  let v284 : Index := Scalar.indexCast v282
  ![v283.toNat, v284.toNat]
def k0_off253 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c19_i32 : BitVec 32 := 19#32
  let v281 : BitVec 32 := Scalar.addi v90 c19_i32
  let c0_i32_117 : BitVec 32 := 0#32
  let c0_i32_118 : BitVec 32 := 0#32
  ![v281.toNat, 0, 0]
def k0_off254 (v285 : BitVec 32) : Fin 2 → Nat :=
  let c0_i32_119 : BitVec 32 := 0#32
  ![v285.toNat, 0]

def k0_chk84 (i : grid0.Coords) (v285 : BitVec 32) : Prop :=
  (∀ (k0_h4 : k0_cond4 i = 1#1), ∀ a, (k0_off254 v285) a + S1x9984.size a ≤ S10000x10000.size a)
theorem k0_off254_inb : ∀ (i : grid0.Coords) (v285 : BitVec 32) (k0_hw84 : k0_chk84 i v285), ∀ (k0_h4 : k0_cond4 i = 1#1), ∀ a, (k0_off254 v285) a + S1x9984.size a ≤ S10000x10000.size a := fun i v285 k0_hw84 k0_h4 => k0_hw84 k0_h4

def k0_off255 (i : grid0.Coords) (k0_t4 : Fin k0_t4_loop.trips) : Fin 2 → Nat :=
  let arg0 : BitVec 32 := BitVec.ofNat 32 (i 0).val
  let v293 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c20_i32 : BitVec 32 := 20#32
  let v291 : BitVec 32 := Scalar.addi v90 c20_i32
  let v292 : BitVec 32 := Scalar.addi v88 v291
  let v294 : Index := Scalar.indexCast v292
  ![v293.toNat, v294.toNat]
def k0_off256 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c20_i32 : BitVec 32 := 20#32
  let v291 : BitVec 32 := Scalar.addi v90 c20_i32
  let c0_i32_120 : BitVec 32 := 0#32
  let c0_i32_121 : BitVec 32 := 0#32
  ![v291.toNat, 0, 0]
def k0_off257 (v295 : BitVec 32) : Fin 2 → Nat :=
  let c0_i32_122 : BitVec 32 := 0#32
  ![v295.toNat, 0]

def k0_chk85 (i : grid0.Coords) (v295 : BitVec 32) : Prop :=
  (∀ (k0_h4 : k0_cond4 i = 1#1), ∀ a, (k0_off257 v295) a + S1x9984.size a ≤ S10000x10000.size a)
theorem k0_off257_inb : ∀ (i : grid0.Coords) (v295 : BitVec 32) (k0_hw85 : k0_chk85 i v295), ∀ (k0_h4 : k0_cond4 i = 1#1), ∀ a, (k0_off257 v295) a + S1x9984.size a ≤ S10000x10000.size a := fun i v295 k0_hw85 k0_h4 => k0_hw85 k0_h4

def k0_off258 (i : grid0.Coords) (k0_t4 : Fin k0_t4_loop.trips) : Fin 2 → Nat :=
  let arg0 : BitVec 32 := BitVec.ofNat 32 (i 0).val
  let v303 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c21_i32 : BitVec 32 := 21#32
  let v301 : BitVec 32 := Scalar.addi v90 c21_i32
  let v302 : BitVec 32 := Scalar.addi v88 v301
  let v304 : Index := Scalar.indexCast v302
  ![v303.toNat, v304.toNat]
def k0_off259 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c21_i32 : BitVec 32 := 21#32
  let v301 : BitVec 32 := Scalar.addi v90 c21_i32
  let c0_i32_123 : BitVec 32 := 0#32
  let c0_i32_124 : BitVec 32 := 0#32
  ![v301.toNat, 0, 0]
def k0_off260 (v305 : BitVec 32) : Fin 2 → Nat :=
  let c0_i32_125 : BitVec 32 := 0#32
  ![v305.toNat, 0]

def k0_chk86 (i : grid0.Coords) (v305 : BitVec 32) : Prop :=
  (∀ (k0_h4 : k0_cond4 i = 1#1), ∀ a, (k0_off260 v305) a + S1x9984.size a ≤ S10000x10000.size a)
theorem k0_off260_inb : ∀ (i : grid0.Coords) (v305 : BitVec 32) (k0_hw86 : k0_chk86 i v305), ∀ (k0_h4 : k0_cond4 i = 1#1), ∀ a, (k0_off260 v305) a + S1x9984.size a ≤ S10000x10000.size a := fun i v305 k0_hw86 k0_h4 => k0_hw86 k0_h4

def k0_off261 (i : grid0.Coords) (k0_t4 : Fin k0_t4_loop.trips) : Fin 2 → Nat :=
  let arg0 : BitVec 32 := BitVec.ofNat 32 (i 0).val
  let v313 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c22_i32 : BitVec 32 := 22#32
  let v311 : BitVec 32 := Scalar.addi v90 c22_i32
  let v312 : BitVec 32 := Scalar.addi v88 v311
  let v314 : Index := Scalar.indexCast v312
  ![v313.toNat, v314.toNat]
def k0_off262 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c22_i32 : BitVec 32 := 22#32
  let v311 : BitVec 32 := Scalar.addi v90 c22_i32
  let c0_i32_126 : BitVec 32 := 0#32
  let c0_i32_127 : BitVec 32 := 0#32
  ![v311.toNat, 0, 0]
def k0_off263 (v315 : BitVec 32) : Fin 2 → Nat :=
  let c0_i32_128 : BitVec 32 := 0#32
  ![v315.toNat, 0]

def k0_chk87 (i : grid0.Coords) (v315 : BitVec 32) : Prop :=
  (∀ (k0_h4 : k0_cond4 i = 1#1), ∀ a, (k0_off263 v315) a + S1x9984.size a ≤ S10000x10000.size a)
theorem k0_off263_inb : ∀ (i : grid0.Coords) (v315 : BitVec 32) (k0_hw87 : k0_chk87 i v315), ∀ (k0_h4 : k0_cond4 i = 1#1), ∀ a, (k0_off263 v315) a + S1x9984.size a ≤ S10000x10000.size a := fun i v315 k0_hw87 k0_h4 => k0_hw87 k0_h4

def k0_off264 (i : grid0.Coords) (k0_t4 : Fin k0_t4_loop.trips) : Fin 2 → Nat :=
  let arg0 : BitVec 32 := BitVec.ofNat 32 (i 0).val
  let v323 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c23_i32 : BitVec 32 := 23#32
  let v321 : BitVec 32 := Scalar.addi v90 c23_i32
  let v322 : BitVec 32 := Scalar.addi v88 v321
  let v324 : Index := Scalar.indexCast v322
  ![v323.toNat, v324.toNat]
def k0_off265 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c23_i32 : BitVec 32 := 23#32
  let v321 : BitVec 32 := Scalar.addi v90 c23_i32
  let c0_i32_129 : BitVec 32 := 0#32
  let c0_i32_130 : BitVec 32 := 0#32
  ![v321.toNat, 0, 0]
def k0_off266 (v325 : BitVec 32) : Fin 2 → Nat :=
  let c0_i32_131 : BitVec 32 := 0#32
  ![v325.toNat, 0]

def k0_chk88 (i : grid0.Coords) (v325 : BitVec 32) : Prop :=
  (∀ (k0_h4 : k0_cond4 i = 1#1), ∀ a, (k0_off266 v325) a + S1x9984.size a ≤ S10000x10000.size a)
theorem k0_off266_inb : ∀ (i : grid0.Coords) (v325 : BitVec 32) (k0_hw88 : k0_chk88 i v325), ∀ (k0_h4 : k0_cond4 i = 1#1), ∀ a, (k0_off266 v325) a + S1x9984.size a ≤ S10000x10000.size a := fun i v325 k0_hw88 k0_h4 => k0_hw88 k0_h4

def k0_off267 (i : grid0.Coords) (k0_t4 : Fin k0_t4_loop.trips) : Fin 2 → Nat :=
  let arg0 : BitVec 32 := BitVec.ofNat 32 (i 0).val
  let v333 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c24_i32 : BitVec 32 := 24#32
  let v331 : BitVec 32 := Scalar.addi v90 c24_i32
  let v332 : BitVec 32 := Scalar.addi v88 v331
  let v334 : Index := Scalar.indexCast v332
  ![v333.toNat, v334.toNat]
def k0_off268 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c24_i32 : BitVec 32 := 24#32
  let v331 : BitVec 32 := Scalar.addi v90 c24_i32
  let c0_i32_132 : BitVec 32 := 0#32
  let c0_i32_133 : BitVec 32 := 0#32
  ![v331.toNat, 0, 0]
def k0_off269 (v335 : BitVec 32) : Fin 2 → Nat :=
  let c0_i32_134 : BitVec 32 := 0#32
  ![v335.toNat, 0]

def k0_chk89 (i : grid0.Coords) (v335 : BitVec 32) : Prop :=
  (∀ (k0_h4 : k0_cond4 i = 1#1), ∀ a, (k0_off269 v335) a + S1x9984.size a ≤ S10000x10000.size a)
theorem k0_off269_inb : ∀ (i : grid0.Coords) (v335 : BitVec 32) (k0_hw89 : k0_chk89 i v335), ∀ (k0_h4 : k0_cond4 i = 1#1), ∀ a, (k0_off269 v335) a + S1x9984.size a ≤ S10000x10000.size a := fun i v335 k0_hw89 k0_h4 => k0_hw89 k0_h4

def k0_off270 (i : grid0.Coords) (k0_t4 : Fin k0_t4_loop.trips) : Fin 2 → Nat :=
  let arg0 : BitVec 32 := BitVec.ofNat 32 (i 0).val
  let v343 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c25_i32 : BitVec 32 := 25#32
  let v341 : BitVec 32 := Scalar.addi v90 c25_i32
  let v342 : BitVec 32 := Scalar.addi v88 v341
  let v344 : Index := Scalar.indexCast v342
  ![v343.toNat, v344.toNat]
def k0_off271 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c25_i32 : BitVec 32 := 25#32
  let v341 : BitVec 32 := Scalar.addi v90 c25_i32
  let c0_i32_135 : BitVec 32 := 0#32
  let c0_i32_136 : BitVec 32 := 0#32
  ![v341.toNat, 0, 0]
def k0_off272 (v345 : BitVec 32) : Fin 2 → Nat :=
  let c0_i32_137 : BitVec 32 := 0#32
  ![v345.toNat, 0]

def k0_chk90 (i : grid0.Coords) (v345 : BitVec 32) : Prop :=
  (∀ (k0_h4 : k0_cond4 i = 1#1), ∀ a, (k0_off272 v345) a + S1x9984.size a ≤ S10000x10000.size a)
theorem k0_off272_inb : ∀ (i : grid0.Coords) (v345 : BitVec 32) (k0_hw90 : k0_chk90 i v345), ∀ (k0_h4 : k0_cond4 i = 1#1), ∀ a, (k0_off272 v345) a + S1x9984.size a ≤ S10000x10000.size a := fun i v345 k0_hw90 k0_h4 => k0_hw90 k0_h4

def k0_off273 (i : grid0.Coords) (k0_t4 : Fin k0_t4_loop.trips) : Fin 2 → Nat :=
  let arg0 : BitVec 32 := BitVec.ofNat 32 (i 0).val
  let v353 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c26_i32 : BitVec 32 := 26#32
  let v351 : BitVec 32 := Scalar.addi v90 c26_i32
  let v352 : BitVec 32 := Scalar.addi v88 v351
  let v354 : Index := Scalar.indexCast v352
  ![v353.toNat, v354.toNat]
def k0_off274 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c26_i32 : BitVec 32 := 26#32
  let v351 : BitVec 32 := Scalar.addi v90 c26_i32
  let c0_i32_138 : BitVec 32 := 0#32
  let c0_i32_139 : BitVec 32 := 0#32
  ![v351.toNat, 0, 0]
def k0_off275 (v355 : BitVec 32) : Fin 2 → Nat :=
  let c0_i32_140 : BitVec 32 := 0#32
  ![v355.toNat, 0]

def k0_chk91 (i : grid0.Coords) (v355 : BitVec 32) : Prop :=
  (∀ (k0_h4 : k0_cond4 i = 1#1), ∀ a, (k0_off275 v355) a + S1x9984.size a ≤ S10000x10000.size a)
theorem k0_off275_inb : ∀ (i : grid0.Coords) (v355 : BitVec 32) (k0_hw91 : k0_chk91 i v355), ∀ (k0_h4 : k0_cond4 i = 1#1), ∀ a, (k0_off275 v355) a + S1x9984.size a ≤ S10000x10000.size a := fun i v355 k0_hw91 k0_h4 => k0_hw91 k0_h4

def k0_off276 (i : grid0.Coords) (k0_t4 : Fin k0_t4_loop.trips) : Fin 2 → Nat :=
  let arg0 : BitVec 32 := BitVec.ofNat 32 (i 0).val
  let v363 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c27_i32 : BitVec 32 := 27#32
  let v361 : BitVec 32 := Scalar.addi v90 c27_i32
  let v362 : BitVec 32 := Scalar.addi v88 v361
  let v364 : Index := Scalar.indexCast v362
  ![v363.toNat, v364.toNat]
def k0_off277 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c27_i32 : BitVec 32 := 27#32
  let v361 : BitVec 32 := Scalar.addi v90 c27_i32
  let c0_i32_141 : BitVec 32 := 0#32
  let c0_i32_142 : BitVec 32 := 0#32
  ![v361.toNat, 0, 0]
def k0_off278 (v365 : BitVec 32) : Fin 2 → Nat :=
  let c0_i32_143 : BitVec 32 := 0#32
  ![v365.toNat, 0]

def k0_chk92 (i : grid0.Coords) (v365 : BitVec 32) : Prop :=
  (∀ (k0_h4 : k0_cond4 i = 1#1), ∀ a, (k0_off278 v365) a + S1x9984.size a ≤ S10000x10000.size a)
theorem k0_off278_inb : ∀ (i : grid0.Coords) (v365 : BitVec 32) (k0_hw92 : k0_chk92 i v365), ∀ (k0_h4 : k0_cond4 i = 1#1), ∀ a, (k0_off278 v365) a + S1x9984.size a ≤ S10000x10000.size a := fun i v365 k0_hw92 k0_h4 => k0_hw92 k0_h4

def k0_off279 (i : grid0.Coords) (k0_t4 : Fin k0_t4_loop.trips) : Fin 2 → Nat :=
  let arg0 : BitVec 32 := BitVec.ofNat 32 (i 0).val
  let v373 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c28_i32 : BitVec 32 := 28#32
  let v371 : BitVec 32 := Scalar.addi v90 c28_i32
  let v372 : BitVec 32 := Scalar.addi v88 v371
  let v374 : Index := Scalar.indexCast v372
  ![v373.toNat, v374.toNat]
def k0_off280 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c28_i32 : BitVec 32 := 28#32
  let v371 : BitVec 32 := Scalar.addi v90 c28_i32
  let c0_i32_144 : BitVec 32 := 0#32
  let c0_i32_145 : BitVec 32 := 0#32
  ![v371.toNat, 0, 0]
def k0_off281 (v375 : BitVec 32) : Fin 2 → Nat :=
  let c0_i32_146 : BitVec 32 := 0#32
  ![v375.toNat, 0]

def k0_chk93 (i : grid0.Coords) (v375 : BitVec 32) : Prop :=
  (∀ (k0_h4 : k0_cond4 i = 1#1), ∀ a, (k0_off281 v375) a + S1x9984.size a ≤ S10000x10000.size a)
theorem k0_off281_inb : ∀ (i : grid0.Coords) (v375 : BitVec 32) (k0_hw93 : k0_chk93 i v375), ∀ (k0_h4 : k0_cond4 i = 1#1), ∀ a, (k0_off281 v375) a + S1x9984.size a ≤ S10000x10000.size a := fun i v375 k0_hw93 k0_h4 => k0_hw93 k0_h4

def k0_off282 (i : grid0.Coords) (k0_t4 : Fin k0_t4_loop.trips) : Fin 2 → Nat :=
  let arg0 : BitVec 32 := BitVec.ofNat 32 (i 0).val
  let v383 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c29_i32 : BitVec 32 := 29#32
  let v381 : BitVec 32 := Scalar.addi v90 c29_i32
  let v382 : BitVec 32 := Scalar.addi v88 v381
  let v384 : Index := Scalar.indexCast v382
  ![v383.toNat, v384.toNat]
def k0_off283 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c29_i32 : BitVec 32 := 29#32
  let v381 : BitVec 32 := Scalar.addi v90 c29_i32
  let c0_i32_147 : BitVec 32 := 0#32
  let c0_i32_148 : BitVec 32 := 0#32
  ![v381.toNat, 0, 0]
def k0_off284 (v385 : BitVec 32) : Fin 2 → Nat :=
  let c0_i32_149 : BitVec 32 := 0#32
  ![v385.toNat, 0]

def k0_chk94 (i : grid0.Coords) (v385 : BitVec 32) : Prop :=
  (∀ (k0_h4 : k0_cond4 i = 1#1), ∀ a, (k0_off284 v385) a + S1x9984.size a ≤ S10000x10000.size a)
theorem k0_off284_inb : ∀ (i : grid0.Coords) (v385 : BitVec 32) (k0_hw94 : k0_chk94 i v385), ∀ (k0_h4 : k0_cond4 i = 1#1), ∀ a, (k0_off284 v385) a + S1x9984.size a ≤ S10000x10000.size a := fun i v385 k0_hw94 k0_h4 => k0_hw94 k0_h4

def k0_off285 (i : grid0.Coords) (k0_t4 : Fin k0_t4_loop.trips) : Fin 2 → Nat :=
  let arg0 : BitVec 32 := BitVec.ofNat 32 (i 0).val
  let v393 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c30_i32 : BitVec 32 := 30#32
  let v391 : BitVec 32 := Scalar.addi v90 c30_i32
  let v392 : BitVec 32 := Scalar.addi v88 v391
  let v394 : Index := Scalar.indexCast v392
  ![v393.toNat, v394.toNat]
def k0_off286 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c30_i32 : BitVec 32 := 30#32
  let v391 : BitVec 32 := Scalar.addi v90 c30_i32
  let c0_i32_150 : BitVec 32 := 0#32
  let c0_i32_151 : BitVec 32 := 0#32
  ![v391.toNat, 0, 0]
def k0_off287 (v395 : BitVec 32) : Fin 2 → Nat :=
  let c0_i32_152 : BitVec 32 := 0#32
  ![v395.toNat, 0]

def k0_chk95 (i : grid0.Coords) (v395 : BitVec 32) : Prop :=
  (∀ (k0_h4 : k0_cond4 i = 1#1), ∀ a, (k0_off287 v395) a + S1x9984.size a ≤ S10000x10000.size a)
theorem k0_off287_inb : ∀ (i : grid0.Coords) (v395 : BitVec 32) (k0_hw95 : k0_chk95 i v395), ∀ (k0_h4 : k0_cond4 i = 1#1), ∀ a, (k0_off287 v395) a + S1x9984.size a ≤ S10000x10000.size a := fun i v395 k0_hw95 k0_h4 => k0_hw95 k0_h4

def k0_off288 (i : grid0.Coords) (k0_t4 : Fin k0_t4_loop.trips) : Fin 2 → Nat :=
  let arg0 : BitVec 32 := BitVec.ofNat 32 (i 0).val
  let v403 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c31_i32 : BitVec 32 := 31#32
  let v401 : BitVec 32 := Scalar.addi v90 c31_i32
  let v402 : BitVec 32 := Scalar.addi v88 v401
  let v404 : Index := Scalar.indexCast v402
  ![v403.toNat, v404.toNat]
def k0_off289 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c31_i32 : BitVec 32 := 31#32
  let v401 : BitVec 32 := Scalar.addi v90 c31_i32
  let c0_i32_153 : BitVec 32 := 0#32
  let c0_i32_154 : BitVec 32 := 0#32
  ![v401.toNat, 0, 0]
def k0_off290 (v405 : BitVec 32) : Fin 2 → Nat :=
  let c0_i32_155 : BitVec 32 := 0#32
  ![v405.toNat, 0]

def k0_chk96 (i : grid0.Coords) (v405 : BitVec 32) : Prop :=
  (∀ (k0_h4 : k0_cond4 i = 1#1), ∀ a, (k0_off290 v405) a + S1x9984.size a ≤ S10000x10000.size a)
theorem k0_off290_inb : ∀ (i : grid0.Coords) (v405 : BitVec 32) (k0_hw96 : k0_chk96 i v405), ∀ (k0_h4 : k0_cond4 i = 1#1), ∀ a, (k0_off290 v405) a + S1x9984.size a ≤ S10000x10000.size a := fun i v405 k0_hw96 k0_h4 => k0_hw96 k0_h4

def k0_off291 (i : grid0.Coords) (k0_t4 : Fin k0_t4_loop.trips) : Fin 2 → Nat :=
  let arg0 : BitVec 32 := BitVec.ofNat 32 (i 0).val
  let v413 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c32_i32_156 : BitVec 32 := 32#32
  let v411 : BitVec 32 := Scalar.addi v90 c32_i32_156
  let v412 : BitVec 32 := Scalar.addi v88 v411
  let v414 : Index := Scalar.indexCast v412
  ![v413.toNat, v414.toNat]
def k0_off292 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c32_i32_156 : BitVec 32 := 32#32
  let v411 : BitVec 32 := Scalar.addi v90 c32_i32_156
  let c0_i32_157 : BitVec 32 := 0#32
  let c0_i32_158 : BitVec 32 := 0#32
  ![v411.toNat, 0, 0]
def k0_off293 (v415 : BitVec 32) : Fin 2 → Nat :=
  let c0_i32_159 : BitVec 32 := 0#32
  ![v415.toNat, 0]

def k0_chk97 (i : grid0.Coords) (v415 : BitVec 32) : Prop :=
  (∀ (k0_h4 : k0_cond4 i = 1#1), ∀ a, (k0_off293 v415) a + S1x9984.size a ≤ S10000x10000.size a)
theorem k0_off293_inb : ∀ (i : grid0.Coords) (v415 : BitVec 32) (k0_hw97 : k0_chk97 i v415), ∀ (k0_h4 : k0_cond4 i = 1#1), ∀ a, (k0_off293 v415) a + S1x9984.size a ≤ S10000x10000.size a := fun i v415 k0_hw97 k0_h4 => k0_hw97 k0_h4

def k0_off294 (i : grid0.Coords) (k0_t4 : Fin k0_t4_loop.trips) : Fin 2 → Nat :=
  let arg0 : BitVec 32 := BitVec.ofNat 32 (i 0).val
  let v423 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c33_i32 : BitVec 32 := 33#32
  let v421 : BitVec 32 := Scalar.addi v90 c33_i32
  let v422 : BitVec 32 := Scalar.addi v88 v421
  let v424 : Index := Scalar.indexCast v422
  ![v423.toNat, v424.toNat]
def k0_off295 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c33_i32 : BitVec 32 := 33#32
  let v421 : BitVec 32 := Scalar.addi v90 c33_i32
  let c0_i32_160 : BitVec 32 := 0#32
  let c0_i32_161 : BitVec 32 := 0#32
  ![v421.toNat, 0, 0]
def k0_off296 (v425 : BitVec 32) : Fin 2 → Nat :=
  let c0_i32_162 : BitVec 32 := 0#32
  ![v425.toNat, 0]

def k0_chk98 (i : grid0.Coords) (v425 : BitVec 32) : Prop :=
  (∀ (k0_h4 : k0_cond4 i = 1#1), ∀ a, (k0_off296 v425) a + S1x9984.size a ≤ S10000x10000.size a)
theorem k0_off296_inb : ∀ (i : grid0.Coords) (v425 : BitVec 32) (k0_hw98 : k0_chk98 i v425), ∀ (k0_h4 : k0_cond4 i = 1#1), ∀ a, (k0_off296 v425) a + S1x9984.size a ≤ S10000x10000.size a := fun i v425 k0_hw98 k0_h4 => k0_hw98 k0_h4

def k0_off297 (i : grid0.Coords) (k0_t4 : Fin k0_t4_loop.trips) : Fin 2 → Nat :=
  let arg0 : BitVec 32 := BitVec.ofNat 32 (i 0).val
  let v433 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c34_i32 : BitVec 32 := 34#32
  let v431 : BitVec 32 := Scalar.addi v90 c34_i32
  let v432 : BitVec 32 := Scalar.addi v88 v431
  let v434 : Index := Scalar.indexCast v432
  ![v433.toNat, v434.toNat]
def k0_off298 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c34_i32 : BitVec 32 := 34#32
  let v431 : BitVec 32 := Scalar.addi v90 c34_i32
  let c0_i32_163 : BitVec 32 := 0#32
  let c0_i32_164 : BitVec 32 := 0#32
  ![v431.toNat, 0, 0]
def k0_off299 (v435 : BitVec 32) : Fin 2 → Nat :=
  let c0_i32_165 : BitVec 32 := 0#32
  ![v435.toNat, 0]

def k0_chk99 (i : grid0.Coords) (v435 : BitVec 32) : Prop :=
  (∀ (k0_h4 : k0_cond4 i = 1#1), ∀ a, (k0_off299 v435) a + S1x9984.size a ≤ S10000x10000.size a)
theorem k0_off299_inb : ∀ (i : grid0.Coords) (v435 : BitVec 32) (k0_hw99 : k0_chk99 i v435), ∀ (k0_h4 : k0_cond4 i = 1#1), ∀ a, (k0_off299 v435) a + S1x9984.size a ≤ S10000x10000.size a := fun i v435 k0_hw99 k0_h4 => k0_hw99 k0_h4

def k0_off300 (i : grid0.Coords) (k0_t4 : Fin k0_t4_loop.trips) : Fin 2 → Nat :=
  let arg0 : BitVec 32 := BitVec.ofNat 32 (i 0).val
  let v443 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c35_i32 : BitVec 32 := 35#32
  let v441 : BitVec 32 := Scalar.addi v90 c35_i32
  let v442 : BitVec 32 := Scalar.addi v88 v441
  let v444 : Index := Scalar.indexCast v442
  ![v443.toNat, v444.toNat]
def k0_off301 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c35_i32 : BitVec 32 := 35#32
  let v441 : BitVec 32 := Scalar.addi v90 c35_i32
  let c0_i32_166 : BitVec 32 := 0#32
  let c0_i32_167 : BitVec 32 := 0#32
  ![v441.toNat, 0, 0]
def k0_off302 (v445 : BitVec 32) : Fin 2 → Nat :=
  let c0_i32_168 : BitVec 32 := 0#32
  ![v445.toNat, 0]

def k0_chk100 (i : grid0.Coords) (v445 : BitVec 32) : Prop :=
  (∀ (k0_h4 : k0_cond4 i = 1#1), ∀ a, (k0_off302 v445) a + S1x9984.size a ≤ S10000x10000.size a)
theorem k0_off302_inb : ∀ (i : grid0.Coords) (v445 : BitVec 32) (k0_hw100 : k0_chk100 i v445), ∀ (k0_h4 : k0_cond4 i = 1#1), ∀ a, (k0_off302 v445) a + S1x9984.size a ≤ S10000x10000.size a := fun i v445 k0_hw100 k0_h4 => k0_hw100 k0_h4

def k0_off303 (i : grid0.Coords) (k0_t4 : Fin k0_t4_loop.trips) : Fin 2 → Nat :=
  let arg0 : BitVec 32 := BitVec.ofNat 32 (i 0).val
  let v453 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c36_i32 : BitVec 32 := 36#32
  let v451 : BitVec 32 := Scalar.addi v90 c36_i32
  let v452 : BitVec 32 := Scalar.addi v88 v451
  let v454 : Index := Scalar.indexCast v452
  ![v453.toNat, v454.toNat]
def k0_off304 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c36_i32 : BitVec 32 := 36#32
  let v451 : BitVec 32 := Scalar.addi v90 c36_i32
  let c0_i32_169 : BitVec 32 := 0#32
  let c0_i32_170 : BitVec 32 := 0#32
  ![v451.toNat, 0, 0]
def k0_off305 (v455 : BitVec 32) : Fin 2 → Nat :=
  let c0_i32_171 : BitVec 32 := 0#32
  ![v455.toNat, 0]

def k0_chk101 (i : grid0.Coords) (v455 : BitVec 32) : Prop :=
  (∀ (k0_h4 : k0_cond4 i = 1#1), ∀ a, (k0_off305 v455) a + S1x9984.size a ≤ S10000x10000.size a)
theorem k0_off305_inb : ∀ (i : grid0.Coords) (v455 : BitVec 32) (k0_hw101 : k0_chk101 i v455), ∀ (k0_h4 : k0_cond4 i = 1#1), ∀ a, (k0_off305 v455) a + S1x9984.size a ≤ S10000x10000.size a := fun i v455 k0_hw101 k0_h4 => k0_hw101 k0_h4

def k0_off306 (i : grid0.Coords) (k0_t4 : Fin k0_t4_loop.trips) : Fin 2 → Nat :=
  let arg0 : BitVec 32 := BitVec.ofNat 32 (i 0).val
  let v463 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c37_i32 : BitVec 32 := 37#32
  let v461 : BitVec 32 := Scalar.addi v90 c37_i32
  let v462 : BitVec 32 := Scalar.addi v88 v461
  let v464 : Index := Scalar.indexCast v462
  ![v463.toNat, v464.toNat]
def k0_off307 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c37_i32 : BitVec 32 := 37#32
  let v461 : BitVec 32 := Scalar.addi v90 c37_i32
  let c0_i32_172 : BitVec 32 := 0#32
  let c0_i32_173 : BitVec 32 := 0#32
  ![v461.toNat, 0, 0]
def k0_off308 (v465 : BitVec 32) : Fin 2 → Nat :=
  let c0_i32_174 : BitVec 32 := 0#32
  ![v465.toNat, 0]

def k0_chk102 (i : grid0.Coords) (v465 : BitVec 32) : Prop :=
  (∀ (k0_h4 : k0_cond4 i = 1#1), ∀ a, (k0_off308 v465) a + S1x9984.size a ≤ S10000x10000.size a)
theorem k0_off308_inb : ∀ (i : grid0.Coords) (v465 : BitVec 32) (k0_hw102 : k0_chk102 i v465), ∀ (k0_h4 : k0_cond4 i = 1#1), ∀ a, (k0_off308 v465) a + S1x9984.size a ≤ S10000x10000.size a := fun i v465 k0_hw102 k0_h4 => k0_hw102 k0_h4

def k0_off309 (i : grid0.Coords) (k0_t4 : Fin k0_t4_loop.trips) : Fin 2 → Nat :=
  let arg0 : BitVec 32 := BitVec.ofNat 32 (i 0).val
  let v473 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c38_i32 : BitVec 32 := 38#32
  let v471 : BitVec 32 := Scalar.addi v90 c38_i32
  let v472 : BitVec 32 := Scalar.addi v88 v471
  let v474 : Index := Scalar.indexCast v472
  ![v473.toNat, v474.toNat]
def k0_off310 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c38_i32 : BitVec 32 := 38#32
  let v471 : BitVec 32 := Scalar.addi v90 c38_i32
  let c0_i32_175 : BitVec 32 := 0#32
  let c0_i32_176 : BitVec 32 := 0#32
  ![v471.toNat, 0, 0]
def k0_off311 (v475 : BitVec 32) : Fin 2 → Nat :=
  let c0_i32_177 : BitVec 32 := 0#32
  ![v475.toNat, 0]

def k0_chk103 (i : grid0.Coords) (v475 : BitVec 32) : Prop :=
  (∀ (k0_h4 : k0_cond4 i = 1#1), ∀ a, (k0_off311 v475) a + S1x9984.size a ≤ S10000x10000.size a)
theorem k0_off311_inb : ∀ (i : grid0.Coords) (v475 : BitVec 32) (k0_hw103 : k0_chk103 i v475), ∀ (k0_h4 : k0_cond4 i = 1#1), ∀ a, (k0_off311 v475) a + S1x9984.size a ≤ S10000x10000.size a := fun i v475 k0_hw103 k0_h4 => k0_hw103 k0_h4

def k0_off312 (i : grid0.Coords) (k0_t4 : Fin k0_t4_loop.trips) : Fin 2 → Nat :=
  let arg0 : BitVec 32 := BitVec.ofNat 32 (i 0).val
  let v483 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c39_i32 : BitVec 32 := 39#32
  let v481 : BitVec 32 := Scalar.addi v90 c39_i32
  let v482 : BitVec 32 := Scalar.addi v88 v481
  let v484 : Index := Scalar.indexCast v482
  ![v483.toNat, v484.toNat]
def k0_off313 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c39_i32 : BitVec 32 := 39#32
  let v481 : BitVec 32 := Scalar.addi v90 c39_i32
  let c0_i32_178 : BitVec 32 := 0#32
  let c0_i32_179 : BitVec 32 := 0#32
  ![v481.toNat, 0, 0]
def k0_off314 (v485 : BitVec 32) : Fin 2 → Nat :=
  let c0_i32_180 : BitVec 32 := 0#32
  ![v485.toNat, 0]

def k0_chk104 (i : grid0.Coords) (v485 : BitVec 32) : Prop :=
  (∀ (k0_h4 : k0_cond4 i = 1#1), ∀ a, (k0_off314 v485) a + S1x9984.size a ≤ S10000x10000.size a)
theorem k0_off314_inb : ∀ (i : grid0.Coords) (v485 : BitVec 32) (k0_hw104 : k0_chk104 i v485), ∀ (k0_h4 : k0_cond4 i = 1#1), ∀ a, (k0_off314 v485) a + S1x9984.size a ≤ S10000x10000.size a := fun i v485 k0_hw104 k0_h4 => k0_hw104 k0_h4

def k0_off315 (i : grid0.Coords) (k0_t4 : Fin k0_t4_loop.trips) : Fin 2 → Nat :=
  let arg0 : BitVec 32 := BitVec.ofNat 32 (i 0).val
  let v493 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c40_i32 : BitVec 32 := 40#32
  let v491 : BitVec 32 := Scalar.addi v90 c40_i32
  let v492 : BitVec 32 := Scalar.addi v88 v491
  let v494 : Index := Scalar.indexCast v492
  ![v493.toNat, v494.toNat]
def k0_off316 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c40_i32 : BitVec 32 := 40#32
  let v491 : BitVec 32 := Scalar.addi v90 c40_i32
  let c0_i32_181 : BitVec 32 := 0#32
  let c0_i32_182 : BitVec 32 := 0#32
  ![v491.toNat, 0, 0]
def k0_off317 (v495 : BitVec 32) : Fin 2 → Nat :=
  let c0_i32_183 : BitVec 32 := 0#32
  ![v495.toNat, 0]

def k0_chk105 (i : grid0.Coords) (v495 : BitVec 32) : Prop :=
  (∀ (k0_h4 : k0_cond4 i = 1#1), ∀ a, (k0_off317 v495) a + S1x9984.size a ≤ S10000x10000.size a)
theorem k0_off317_inb : ∀ (i : grid0.Coords) (v495 : BitVec 32) (k0_hw105 : k0_chk105 i v495), ∀ (k0_h4 : k0_cond4 i = 1#1), ∀ a, (k0_off317 v495) a + S1x9984.size a ≤ S10000x10000.size a := fun i v495 k0_hw105 k0_h4 => k0_hw105 k0_h4

def k0_off318 (i : grid0.Coords) (k0_t4 : Fin k0_t4_loop.trips) : Fin 2 → Nat :=
  let arg0 : BitVec 32 := BitVec.ofNat 32 (i 0).val
  let v503 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c41_i32 : BitVec 32 := 41#32
  let v501 : BitVec 32 := Scalar.addi v90 c41_i32
  let v502 : BitVec 32 := Scalar.addi v88 v501
  let v504 : Index := Scalar.indexCast v502
  ![v503.toNat, v504.toNat]
def k0_off319 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c41_i32 : BitVec 32 := 41#32
  let v501 : BitVec 32 := Scalar.addi v90 c41_i32
  let c0_i32_184 : BitVec 32 := 0#32
  let c0_i32_185 : BitVec 32 := 0#32
  ![v501.toNat, 0, 0]
def k0_off320 (v505 : BitVec 32) : Fin 2 → Nat :=
  let c0_i32_186 : BitVec 32 := 0#32
  ![v505.toNat, 0]

def k0_chk106 (i : grid0.Coords) (v505 : BitVec 32) : Prop :=
  (∀ (k0_h4 : k0_cond4 i = 1#1), ∀ a, (k0_off320 v505) a + S1x9984.size a ≤ S10000x10000.size a)
theorem k0_off320_inb : ∀ (i : grid0.Coords) (v505 : BitVec 32) (k0_hw106 : k0_chk106 i v505), ∀ (k0_h4 : k0_cond4 i = 1#1), ∀ a, (k0_off320 v505) a + S1x9984.size a ≤ S10000x10000.size a := fun i v505 k0_hw106 k0_h4 => k0_hw106 k0_h4

def k0_off321 (i : grid0.Coords) (k0_t4 : Fin k0_t4_loop.trips) : Fin 2 → Nat :=
  let arg0 : BitVec 32 := BitVec.ofNat 32 (i 0).val
  let v513 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c42_i32 : BitVec 32 := 42#32
  let v511 : BitVec 32 := Scalar.addi v90 c42_i32
  let v512 : BitVec 32 := Scalar.addi v88 v511
  let v514 : Index := Scalar.indexCast v512
  ![v513.toNat, v514.toNat]
def k0_off322 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c42_i32 : BitVec 32 := 42#32
  let v511 : BitVec 32 := Scalar.addi v90 c42_i32
  let c0_i32_187 : BitVec 32 := 0#32
  let c0_i32_188 : BitVec 32 := 0#32
  ![v511.toNat, 0, 0]
def k0_off323 (v515 : BitVec 32) : Fin 2 → Nat :=
  let c0_i32_189 : BitVec 32 := 0#32
  ![v515.toNat, 0]

def k0_chk107 (i : grid0.Coords) (v515 : BitVec 32) : Prop :=
  (∀ (k0_h4 : k0_cond4 i = 1#1), ∀ a, (k0_off323 v515) a + S1x9984.size a ≤ S10000x10000.size a)
theorem k0_off323_inb : ∀ (i : grid0.Coords) (v515 : BitVec 32) (k0_hw107 : k0_chk107 i v515), ∀ (k0_h4 : k0_cond4 i = 1#1), ∀ a, (k0_off323 v515) a + S1x9984.size a ≤ S10000x10000.size a := fun i v515 k0_hw107 k0_h4 => k0_hw107 k0_h4

def k0_off324 (i : grid0.Coords) (k0_t4 : Fin k0_t4_loop.trips) : Fin 2 → Nat :=
  let arg0 : BitVec 32 := BitVec.ofNat 32 (i 0).val
  let v523 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c43_i32 : BitVec 32 := 43#32
  let v521 : BitVec 32 := Scalar.addi v90 c43_i32
  let v522 : BitVec 32 := Scalar.addi v88 v521
  let v524 : Index := Scalar.indexCast v522
  ![v523.toNat, v524.toNat]
def k0_off325 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c43_i32 : BitVec 32 := 43#32
  let v521 : BitVec 32 := Scalar.addi v90 c43_i32
  let c0_i32_190 : BitVec 32 := 0#32
  let c0_i32_191 : BitVec 32 := 0#32
  ![v521.toNat, 0, 0]
def k0_off326 (v525 : BitVec 32) : Fin 2 → Nat :=
  let c0_i32_192 : BitVec 32 := 0#32
  ![v525.toNat, 0]

def k0_chk108 (i : grid0.Coords) (v525 : BitVec 32) : Prop :=
  (∀ (k0_h4 : k0_cond4 i = 1#1), ∀ a, (k0_off326 v525) a + S1x9984.size a ≤ S10000x10000.size a)
theorem k0_off326_inb : ∀ (i : grid0.Coords) (v525 : BitVec 32) (k0_hw108 : k0_chk108 i v525), ∀ (k0_h4 : k0_cond4 i = 1#1), ∀ a, (k0_off326 v525) a + S1x9984.size a ≤ S10000x10000.size a := fun i v525 k0_hw108 k0_h4 => k0_hw108 k0_h4

def k0_off327 (i : grid0.Coords) (k0_t4 : Fin k0_t4_loop.trips) : Fin 2 → Nat :=
  let arg0 : BitVec 32 := BitVec.ofNat 32 (i 0).val
  let v533 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c44_i32 : BitVec 32 := 44#32
  let v531 : BitVec 32 := Scalar.addi v90 c44_i32
  let v532 : BitVec 32 := Scalar.addi v88 v531
  let v534 : Index := Scalar.indexCast v532
  ![v533.toNat, v534.toNat]
def k0_off328 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c44_i32 : BitVec 32 := 44#32
  let v531 : BitVec 32 := Scalar.addi v90 c44_i32
  let c0_i32_193 : BitVec 32 := 0#32
  let c0_i32_194 : BitVec 32 := 0#32
  ![v531.toNat, 0, 0]
def k0_off329 (v535 : BitVec 32) : Fin 2 → Nat :=
  let c0_i32_195 : BitVec 32 := 0#32
  ![v535.toNat, 0]

def k0_chk109 (i : grid0.Coords) (v535 : BitVec 32) : Prop :=
  (∀ (k0_h4 : k0_cond4 i = 1#1), ∀ a, (k0_off329 v535) a + S1x9984.size a ≤ S10000x10000.size a)
theorem k0_off329_inb : ∀ (i : grid0.Coords) (v535 : BitVec 32) (k0_hw109 : k0_chk109 i v535), ∀ (k0_h4 : k0_cond4 i = 1#1), ∀ a, (k0_off329 v535) a + S1x9984.size a ≤ S10000x10000.size a := fun i v535 k0_hw109 k0_h4 => k0_hw109 k0_h4

def k0_off330 (i : grid0.Coords) (k0_t4 : Fin k0_t4_loop.trips) : Fin 2 → Nat :=
  let arg0 : BitVec 32 := BitVec.ofNat 32 (i 0).val
  let v543 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c45_i32 : BitVec 32 := 45#32
  let v541 : BitVec 32 := Scalar.addi v90 c45_i32
  let v542 : BitVec 32 := Scalar.addi v88 v541
  let v544 : Index := Scalar.indexCast v542
  ![v543.toNat, v544.toNat]
def k0_off331 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c45_i32 : BitVec 32 := 45#32
  let v541 : BitVec 32 := Scalar.addi v90 c45_i32
  let c0_i32_196 : BitVec 32 := 0#32
  let c0_i32_197 : BitVec 32 := 0#32
  ![v541.toNat, 0, 0]
def k0_off332 (v545 : BitVec 32) : Fin 2 → Nat :=
  let c0_i32_198 : BitVec 32 := 0#32
  ![v545.toNat, 0]

def k0_chk110 (i : grid0.Coords) (v545 : BitVec 32) : Prop :=
  (∀ (k0_h4 : k0_cond4 i = 1#1), ∀ a, (k0_off332 v545) a + S1x9984.size a ≤ S10000x10000.size a)
theorem k0_off332_inb : ∀ (i : grid0.Coords) (v545 : BitVec 32) (k0_hw110 : k0_chk110 i v545), ∀ (k0_h4 : k0_cond4 i = 1#1), ∀ a, (k0_off332 v545) a + S1x9984.size a ≤ S10000x10000.size a := fun i v545 k0_hw110 k0_h4 => k0_hw110 k0_h4

def k0_off333 (i : grid0.Coords) (k0_t4 : Fin k0_t4_loop.trips) : Fin 2 → Nat :=
  let arg0 : BitVec 32 := BitVec.ofNat 32 (i 0).val
  let v553 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c46_i32 : BitVec 32 := 46#32
  let v551 : BitVec 32 := Scalar.addi v90 c46_i32
  let v552 : BitVec 32 := Scalar.addi v88 v551
  let v554 : Index := Scalar.indexCast v552
  ![v553.toNat, v554.toNat]
def k0_off334 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c46_i32 : BitVec 32 := 46#32
  let v551 : BitVec 32 := Scalar.addi v90 c46_i32
  let c0_i32_199 : BitVec 32 := 0#32
  let c0_i32_200 : BitVec 32 := 0#32
  ![v551.toNat, 0, 0]
def k0_off335 (v555 : BitVec 32) : Fin 2 → Nat :=
  let c0_i32_201 : BitVec 32 := 0#32
  ![v555.toNat, 0]

def k0_chk111 (i : grid0.Coords) (v555 : BitVec 32) : Prop :=
  (∀ (k0_h4 : k0_cond4 i = 1#1), ∀ a, (k0_off335 v555) a + S1x9984.size a ≤ S10000x10000.size a)
theorem k0_off335_inb : ∀ (i : grid0.Coords) (v555 : BitVec 32) (k0_hw111 : k0_chk111 i v555), ∀ (k0_h4 : k0_cond4 i = 1#1), ∀ a, (k0_off335 v555) a + S1x9984.size a ≤ S10000x10000.size a := fun i v555 k0_hw111 k0_h4 => k0_hw111 k0_h4

def k0_off336 (i : grid0.Coords) (k0_t4 : Fin k0_t4_loop.trips) : Fin 2 → Nat :=
  let arg0 : BitVec 32 := BitVec.ofNat 32 (i 0).val
  let v563 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c47_i32 : BitVec 32 := 47#32
  let v561 : BitVec 32 := Scalar.addi v90 c47_i32
  let v562 : BitVec 32 := Scalar.addi v88 v561
  let v564 : Index := Scalar.indexCast v562
  ![v563.toNat, v564.toNat]
def k0_off337 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c47_i32 : BitVec 32 := 47#32
  let v561 : BitVec 32 := Scalar.addi v90 c47_i32
  let c0_i32_202 : BitVec 32 := 0#32
  let c0_i32_203 : BitVec 32 := 0#32
  ![v561.toNat, 0, 0]
def k0_off338 (v565 : BitVec 32) : Fin 2 → Nat :=
  let c0_i32_204 : BitVec 32 := 0#32
  ![v565.toNat, 0]

def k0_chk112 (i : grid0.Coords) (v565 : BitVec 32) : Prop :=
  (∀ (k0_h4 : k0_cond4 i = 1#1), ∀ a, (k0_off338 v565) a + S1x9984.size a ≤ S10000x10000.size a)
theorem k0_off338_inb : ∀ (i : grid0.Coords) (v565 : BitVec 32) (k0_hw112 : k0_chk112 i v565), ∀ (k0_h4 : k0_cond4 i = 1#1), ∀ a, (k0_off338 v565) a + S1x9984.size a ≤ S10000x10000.size a := fun i v565 k0_hw112 k0_h4 => k0_hw112 k0_h4

def k0_off339 (i : grid0.Coords) (k0_t4 : Fin k0_t4_loop.trips) : Fin 2 → Nat :=
  let arg0 : BitVec 32 := BitVec.ofNat 32 (i 0).val
  let v573 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c48_i32 : BitVec 32 := 48#32
  let v571 : BitVec 32 := Scalar.addi v90 c48_i32
  let v572 : BitVec 32 := Scalar.addi v88 v571
  let v574 : Index := Scalar.indexCast v572
  ![v573.toNat, v574.toNat]
def k0_off340 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c48_i32 : BitVec 32 := 48#32
  let v571 : BitVec 32 := Scalar.addi v90 c48_i32
  let c0_i32_205 : BitVec 32 := 0#32
  let c0_i32_206 : BitVec 32 := 0#32
  ![v571.toNat, 0, 0]
def k0_off341 (v575 : BitVec 32) : Fin 2 → Nat :=
  let c0_i32_207 : BitVec 32 := 0#32
  ![v575.toNat, 0]

def k0_chk113 (i : grid0.Coords) (v575 : BitVec 32) : Prop :=
  (∀ (k0_h4 : k0_cond4 i = 1#1), ∀ a, (k0_off341 v575) a + S1x9984.size a ≤ S10000x10000.size a)
theorem k0_off341_inb : ∀ (i : grid0.Coords) (v575 : BitVec 32) (k0_hw113 : k0_chk113 i v575), ∀ (k0_h4 : k0_cond4 i = 1#1), ∀ a, (k0_off341 v575) a + S1x9984.size a ≤ S10000x10000.size a := fun i v575 k0_hw113 k0_h4 => k0_hw113 k0_h4

def k0_off342 (i : grid0.Coords) (k0_t4 : Fin k0_t4_loop.trips) : Fin 2 → Nat :=
  let arg0 : BitVec 32 := BitVec.ofNat 32 (i 0).val
  let v583 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c49_i32 : BitVec 32 := 49#32
  let v581 : BitVec 32 := Scalar.addi v90 c49_i32
  let v582 : BitVec 32 := Scalar.addi v88 v581
  let v584 : Index := Scalar.indexCast v582
  ![v583.toNat, v584.toNat]
def k0_off343 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c49_i32 : BitVec 32 := 49#32
  let v581 : BitVec 32 := Scalar.addi v90 c49_i32
  let c0_i32_208 : BitVec 32 := 0#32
  let c0_i32_209 : BitVec 32 := 0#32
  ![v581.toNat, 0, 0]
def k0_off344 (v585 : BitVec 32) : Fin 2 → Nat :=
  let c0_i32_210 : BitVec 32 := 0#32
  ![v585.toNat, 0]

def k0_chk114 (i : grid0.Coords) (v585 : BitVec 32) : Prop :=
  (∀ (k0_h4 : k0_cond4 i = 1#1), ∀ a, (k0_off344 v585) a + S1x9984.size a ≤ S10000x10000.size a)
theorem k0_off344_inb : ∀ (i : grid0.Coords) (v585 : BitVec 32) (k0_hw114 : k0_chk114 i v585), ∀ (k0_h4 : k0_cond4 i = 1#1), ∀ a, (k0_off344 v585) a + S1x9984.size a ≤ S10000x10000.size a := fun i v585 k0_hw114 k0_h4 => k0_hw114 k0_h4

def k0_off345 (i : grid0.Coords) (k0_t4 : Fin k0_t4_loop.trips) : Fin 2 → Nat :=
  let arg0 : BitVec 32 := BitVec.ofNat 32 (i 0).val
  let v593 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c50_i32 : BitVec 32 := 50#32
  let v591 : BitVec 32 := Scalar.addi v90 c50_i32
  let v592 : BitVec 32 := Scalar.addi v88 v591
  let v594 : Index := Scalar.indexCast v592
  ![v593.toNat, v594.toNat]
def k0_off346 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c50_i32 : BitVec 32 := 50#32
  let v591 : BitVec 32 := Scalar.addi v90 c50_i32
  let c0_i32_211 : BitVec 32 := 0#32
  let c0_i32_212 : BitVec 32 := 0#32
  ![v591.toNat, 0, 0]
def k0_off347 (v595 : BitVec 32) : Fin 2 → Nat :=
  let c0_i32_213 : BitVec 32 := 0#32
  ![v595.toNat, 0]

def k0_chk115 (i : grid0.Coords) (v595 : BitVec 32) : Prop :=
  (∀ (k0_h4 : k0_cond4 i = 1#1), ∀ a, (k0_off347 v595) a + S1x9984.size a ≤ S10000x10000.size a)
theorem k0_off347_inb : ∀ (i : grid0.Coords) (v595 : BitVec 32) (k0_hw115 : k0_chk115 i v595), ∀ (k0_h4 : k0_cond4 i = 1#1), ∀ a, (k0_off347 v595) a + S1x9984.size a ≤ S10000x10000.size a := fun i v595 k0_hw115 k0_h4 => k0_hw115 k0_h4

def k0_off348 (i : grid0.Coords) (k0_t4 : Fin k0_t4_loop.trips) : Fin 2 → Nat :=
  let arg0 : BitVec 32 := BitVec.ofNat 32 (i 0).val
  let v603 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c51_i32 : BitVec 32 := 51#32
  let v601 : BitVec 32 := Scalar.addi v90 c51_i32
  let v602 : BitVec 32 := Scalar.addi v88 v601
  let v604 : Index := Scalar.indexCast v602
  ![v603.toNat, v604.toNat]
def k0_off349 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c51_i32 : BitVec 32 := 51#32
  let v601 : BitVec 32 := Scalar.addi v90 c51_i32
  let c0_i32_214 : BitVec 32 := 0#32
  let c0_i32_215 : BitVec 32 := 0#32
  ![v601.toNat, 0, 0]
def k0_off350 (v605 : BitVec 32) : Fin 2 → Nat :=
  let c0_i32_216 : BitVec 32 := 0#32
  ![v605.toNat, 0]

def k0_chk116 (i : grid0.Coords) (v605 : BitVec 32) : Prop :=
  (∀ (k0_h4 : k0_cond4 i = 1#1), ∀ a, (k0_off350 v605) a + S1x9984.size a ≤ S10000x10000.size a)
theorem k0_off350_inb : ∀ (i : grid0.Coords) (v605 : BitVec 32) (k0_hw116 : k0_chk116 i v605), ∀ (k0_h4 : k0_cond4 i = 1#1), ∀ a, (k0_off350 v605) a + S1x9984.size a ≤ S10000x10000.size a := fun i v605 k0_hw116 k0_h4 => k0_hw116 k0_h4

def k0_off351 (i : grid0.Coords) (k0_t4 : Fin k0_t4_loop.trips) : Fin 2 → Nat :=
  let arg0 : BitVec 32 := BitVec.ofNat 32 (i 0).val
  let v613 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c52_i32 : BitVec 32 := 52#32
  let v611 : BitVec 32 := Scalar.addi v90 c52_i32
  let v612 : BitVec 32 := Scalar.addi v88 v611
  let v614 : Index := Scalar.indexCast v612
  ![v613.toNat, v614.toNat]
def k0_off352 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c52_i32 : BitVec 32 := 52#32
  let v611 : BitVec 32 := Scalar.addi v90 c52_i32
  let c0_i32_217 : BitVec 32 := 0#32
  let c0_i32_218 : BitVec 32 := 0#32
  ![v611.toNat, 0, 0]
def k0_off353 (v615 : BitVec 32) : Fin 2 → Nat :=
  let c0_i32_219 : BitVec 32 := 0#32
  ![v615.toNat, 0]

def k0_chk117 (i : grid0.Coords) (v615 : BitVec 32) : Prop :=
  (∀ (k0_h4 : k0_cond4 i = 1#1), ∀ a, (k0_off353 v615) a + S1x9984.size a ≤ S10000x10000.size a)
theorem k0_off353_inb : ∀ (i : grid0.Coords) (v615 : BitVec 32) (k0_hw117 : k0_chk117 i v615), ∀ (k0_h4 : k0_cond4 i = 1#1), ∀ a, (k0_off353 v615) a + S1x9984.size a ≤ S10000x10000.size a := fun i v615 k0_hw117 k0_h4 => k0_hw117 k0_h4

def k0_off354 (i : grid0.Coords) (k0_t4 : Fin k0_t4_loop.trips) : Fin 2 → Nat :=
  let arg0 : BitVec 32 := BitVec.ofNat 32 (i 0).val
  let v623 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c53_i32 : BitVec 32 := 53#32
  let v621 : BitVec 32 := Scalar.addi v90 c53_i32
  let v622 : BitVec 32 := Scalar.addi v88 v621
  let v624 : Index := Scalar.indexCast v622
  ![v623.toNat, v624.toNat]
def k0_off355 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c53_i32 : BitVec 32 := 53#32
  let v621 : BitVec 32 := Scalar.addi v90 c53_i32
  let c0_i32_220 : BitVec 32 := 0#32
  let c0_i32_221 : BitVec 32 := 0#32
  ![v621.toNat, 0, 0]
def k0_off356 (v625 : BitVec 32) : Fin 2 → Nat :=
  let c0_i32_222 : BitVec 32 := 0#32
  ![v625.toNat, 0]

def k0_chk118 (i : grid0.Coords) (v625 : BitVec 32) : Prop :=
  (∀ (k0_h4 : k0_cond4 i = 1#1), ∀ a, (k0_off356 v625) a + S1x9984.size a ≤ S10000x10000.size a)
theorem k0_off356_inb : ∀ (i : grid0.Coords) (v625 : BitVec 32) (k0_hw118 : k0_chk118 i v625), ∀ (k0_h4 : k0_cond4 i = 1#1), ∀ a, (k0_off356 v625) a + S1x9984.size a ≤ S10000x10000.size a := fun i v625 k0_hw118 k0_h4 => k0_hw118 k0_h4

def k0_off357 (i : grid0.Coords) (k0_t4 : Fin k0_t4_loop.trips) : Fin 2 → Nat :=
  let arg0 : BitVec 32 := BitVec.ofNat 32 (i 0).val
  let v633 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c54_i32 : BitVec 32 := 54#32
  let v631 : BitVec 32 := Scalar.addi v90 c54_i32
  let v632 : BitVec 32 := Scalar.addi v88 v631
  let v634 : Index := Scalar.indexCast v632
  ![v633.toNat, v634.toNat]
def k0_off358 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c54_i32 : BitVec 32 := 54#32
  let v631 : BitVec 32 := Scalar.addi v90 c54_i32
  let c0_i32_223 : BitVec 32 := 0#32
  let c0_i32_224 : BitVec 32 := 0#32
  ![v631.toNat, 0, 0]
def k0_off359 (v635 : BitVec 32) : Fin 2 → Nat :=
  let c0_i32_225 : BitVec 32 := 0#32
  ![v635.toNat, 0]

def k0_chk119 (i : grid0.Coords) (v635 : BitVec 32) : Prop :=
  (∀ (k0_h4 : k0_cond4 i = 1#1), ∀ a, (k0_off359 v635) a + S1x9984.size a ≤ S10000x10000.size a)
theorem k0_off359_inb : ∀ (i : grid0.Coords) (v635 : BitVec 32) (k0_hw119 : k0_chk119 i v635), ∀ (k0_h4 : k0_cond4 i = 1#1), ∀ a, (k0_off359 v635) a + S1x9984.size a ≤ S10000x10000.size a := fun i v635 k0_hw119 k0_h4 => k0_hw119 k0_h4

def k0_off360 (i : grid0.Coords) (k0_t4 : Fin k0_t4_loop.trips) : Fin 2 → Nat :=
  let arg0 : BitVec 32 := BitVec.ofNat 32 (i 0).val
  let v643 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c55_i32 : BitVec 32 := 55#32
  let v641 : BitVec 32 := Scalar.addi v90 c55_i32
  let v642 : BitVec 32 := Scalar.addi v88 v641
  let v644 : Index := Scalar.indexCast v642
  ![v643.toNat, v644.toNat]
def k0_off361 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c55_i32 : BitVec 32 := 55#32
  let v641 : BitVec 32 := Scalar.addi v90 c55_i32
  let c0_i32_226 : BitVec 32 := 0#32
  let c0_i32_227 : BitVec 32 := 0#32
  ![v641.toNat, 0, 0]
def k0_off362 (v645 : BitVec 32) : Fin 2 → Nat :=
  let c0_i32_228 : BitVec 32 := 0#32
  ![v645.toNat, 0]

def k0_chk120 (i : grid0.Coords) (v645 : BitVec 32) : Prop :=
  (∀ (k0_h4 : k0_cond4 i = 1#1), ∀ a, (k0_off362 v645) a + S1x9984.size a ≤ S10000x10000.size a)
theorem k0_off362_inb : ∀ (i : grid0.Coords) (v645 : BitVec 32) (k0_hw120 : k0_chk120 i v645), ∀ (k0_h4 : k0_cond4 i = 1#1), ∀ a, (k0_off362 v645) a + S1x9984.size a ≤ S10000x10000.size a := fun i v645 k0_hw120 k0_h4 => k0_hw120 k0_h4

def k0_off363 (i : grid0.Coords) (k0_t4 : Fin k0_t4_loop.trips) : Fin 2 → Nat :=
  let arg0 : BitVec 32 := BitVec.ofNat 32 (i 0).val
  let v653 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c56_i32 : BitVec 32 := 56#32
  let v651 : BitVec 32 := Scalar.addi v90 c56_i32
  let v652 : BitVec 32 := Scalar.addi v88 v651
  let v654 : Index := Scalar.indexCast v652
  ![v653.toNat, v654.toNat]
def k0_off364 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c56_i32 : BitVec 32 := 56#32
  let v651 : BitVec 32 := Scalar.addi v90 c56_i32
  let c0_i32_229 : BitVec 32 := 0#32
  let c0_i32_230 : BitVec 32 := 0#32
  ![v651.toNat, 0, 0]
def k0_off365 (v655 : BitVec 32) : Fin 2 → Nat :=
  let c0_i32_231 : BitVec 32 := 0#32
  ![v655.toNat, 0]

def k0_chk121 (i : grid0.Coords) (v655 : BitVec 32) : Prop :=
  (∀ (k0_h4 : k0_cond4 i = 1#1), ∀ a, (k0_off365 v655) a + S1x9984.size a ≤ S10000x10000.size a)
theorem k0_off365_inb : ∀ (i : grid0.Coords) (v655 : BitVec 32) (k0_hw121 : k0_chk121 i v655), ∀ (k0_h4 : k0_cond4 i = 1#1), ∀ a, (k0_off365 v655) a + S1x9984.size a ≤ S10000x10000.size a := fun i v655 k0_hw121 k0_h4 => k0_hw121 k0_h4

def k0_off366 (i : grid0.Coords) (k0_t4 : Fin k0_t4_loop.trips) : Fin 2 → Nat :=
  let arg0 : BitVec 32 := BitVec.ofNat 32 (i 0).val
  let v663 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c57_i32 : BitVec 32 := 57#32
  let v661 : BitVec 32 := Scalar.addi v90 c57_i32
  let v662 : BitVec 32 := Scalar.addi v88 v661
  let v664 : Index := Scalar.indexCast v662
  ![v663.toNat, v664.toNat]
def k0_off367 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c57_i32 : BitVec 32 := 57#32
  let v661 : BitVec 32 := Scalar.addi v90 c57_i32
  let c0_i32_232 : BitVec 32 := 0#32
  let c0_i32_233 : BitVec 32 := 0#32
  ![v661.toNat, 0, 0]
def k0_off368 (v665 : BitVec 32) : Fin 2 → Nat :=
  let c0_i32_234 : BitVec 32 := 0#32
  ![v665.toNat, 0]

def k0_chk122 (i : grid0.Coords) (v665 : BitVec 32) : Prop :=
  (∀ (k0_h4 : k0_cond4 i = 1#1), ∀ a, (k0_off368 v665) a + S1x9984.size a ≤ S10000x10000.size a)
theorem k0_off368_inb : ∀ (i : grid0.Coords) (v665 : BitVec 32) (k0_hw122 : k0_chk122 i v665), ∀ (k0_h4 : k0_cond4 i = 1#1), ∀ a, (k0_off368 v665) a + S1x9984.size a ≤ S10000x10000.size a := fun i v665 k0_hw122 k0_h4 => k0_hw122 k0_h4

def k0_off369 (i : grid0.Coords) (k0_t4 : Fin k0_t4_loop.trips) : Fin 2 → Nat :=
  let arg0 : BitVec 32 := BitVec.ofNat 32 (i 0).val
  let v673 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c58_i32 : BitVec 32 := 58#32
  let v671 : BitVec 32 := Scalar.addi v90 c58_i32
  let v672 : BitVec 32 := Scalar.addi v88 v671
  let v674 : Index := Scalar.indexCast v672
  ![v673.toNat, v674.toNat]
def k0_off370 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c58_i32 : BitVec 32 := 58#32
  let v671 : BitVec 32 := Scalar.addi v90 c58_i32
  let c0_i32_235 : BitVec 32 := 0#32
  let c0_i32_236 : BitVec 32 := 0#32
  ![v671.toNat, 0, 0]
def k0_off371 (v675 : BitVec 32) : Fin 2 → Nat :=
  let c0_i32_237 : BitVec 32 := 0#32
  ![v675.toNat, 0]

def k0_chk123 (i : grid0.Coords) (v675 : BitVec 32) : Prop :=
  (∀ (k0_h4 : k0_cond4 i = 1#1), ∀ a, (k0_off371 v675) a + S1x9984.size a ≤ S10000x10000.size a)
theorem k0_off371_inb : ∀ (i : grid0.Coords) (v675 : BitVec 32) (k0_hw123 : k0_chk123 i v675), ∀ (k0_h4 : k0_cond4 i = 1#1), ∀ a, (k0_off371 v675) a + S1x9984.size a ≤ S10000x10000.size a := fun i v675 k0_hw123 k0_h4 => k0_hw123 k0_h4

def k0_off372 (i : grid0.Coords) (k0_t4 : Fin k0_t4_loop.trips) : Fin 2 → Nat :=
  let arg0 : BitVec 32 := BitVec.ofNat 32 (i 0).val
  let v683 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c59_i32 : BitVec 32 := 59#32
  let v681 : BitVec 32 := Scalar.addi v90 c59_i32
  let v682 : BitVec 32 := Scalar.addi v88 v681
  let v684 : Index := Scalar.indexCast v682
  ![v683.toNat, v684.toNat]
def k0_off373 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c59_i32 : BitVec 32 := 59#32
  let v681 : BitVec 32 := Scalar.addi v90 c59_i32
  let c0_i32_238 : BitVec 32 := 0#32
  let c0_i32_239 : BitVec 32 := 0#32
  ![v681.toNat, 0, 0]
def k0_off374 (v685 : BitVec 32) : Fin 2 → Nat :=
  let c0_i32_240 : BitVec 32 := 0#32
  ![v685.toNat, 0]

def k0_chk124 (i : grid0.Coords) (v685 : BitVec 32) : Prop :=
  (∀ (k0_h4 : k0_cond4 i = 1#1), ∀ a, (k0_off374 v685) a + S1x9984.size a ≤ S10000x10000.size a)
theorem k0_off374_inb : ∀ (i : grid0.Coords) (v685 : BitVec 32) (k0_hw124 : k0_chk124 i v685), ∀ (k0_h4 : k0_cond4 i = 1#1), ∀ a, (k0_off374 v685) a + S1x9984.size a ≤ S10000x10000.size a := fun i v685 k0_hw124 k0_h4 => k0_hw124 k0_h4

def k0_off375 (i : grid0.Coords) (k0_t4 : Fin k0_t4_loop.trips) : Fin 2 → Nat :=
  let arg0 : BitVec 32 := BitVec.ofNat 32 (i 0).val
  let v693 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c60_i32 : BitVec 32 := 60#32
  let v691 : BitVec 32 := Scalar.addi v90 c60_i32
  let v692 : BitVec 32 := Scalar.addi v88 v691
  let v694 : Index := Scalar.indexCast v692
  ![v693.toNat, v694.toNat]
def k0_off376 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c60_i32 : BitVec 32 := 60#32
  let v691 : BitVec 32 := Scalar.addi v90 c60_i32
  let c0_i32_241 : BitVec 32 := 0#32
  let c0_i32_242 : BitVec 32 := 0#32
  ![v691.toNat, 0, 0]
def k0_off377 (v695 : BitVec 32) : Fin 2 → Nat :=
  let c0_i32_243 : BitVec 32 := 0#32
  ![v695.toNat, 0]

def k0_chk125 (i : grid0.Coords) (v695 : BitVec 32) : Prop :=
  (∀ (k0_h4 : k0_cond4 i = 1#1), ∀ a, (k0_off377 v695) a + S1x9984.size a ≤ S10000x10000.size a)
theorem k0_off377_inb : ∀ (i : grid0.Coords) (v695 : BitVec 32) (k0_hw125 : k0_chk125 i v695), ∀ (k0_h4 : k0_cond4 i = 1#1), ∀ a, (k0_off377 v695) a + S1x9984.size a ≤ S10000x10000.size a := fun i v695 k0_hw125 k0_h4 => k0_hw125 k0_h4

def k0_off378 (i : grid0.Coords) (k0_t4 : Fin k0_t4_loop.trips) : Fin 2 → Nat :=
  let arg0 : BitVec 32 := BitVec.ofNat 32 (i 0).val
  let v703 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c61_i32 : BitVec 32 := 61#32
  let v701 : BitVec 32 := Scalar.addi v90 c61_i32
  let v702 : BitVec 32 := Scalar.addi v88 v701
  let v704 : Index := Scalar.indexCast v702
  ![v703.toNat, v704.toNat]
def k0_off379 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c61_i32 : BitVec 32 := 61#32
  let v701 : BitVec 32 := Scalar.addi v90 c61_i32
  let c0_i32_244 : BitVec 32 := 0#32
  let c0_i32_245 : BitVec 32 := 0#32
  ![v701.toNat, 0, 0]
def k0_off380 (v705 : BitVec 32) : Fin 2 → Nat :=
  let c0_i32_246 : BitVec 32 := 0#32
  ![v705.toNat, 0]

def k0_chk126 (i : grid0.Coords) (v705 : BitVec 32) : Prop :=
  (∀ (k0_h4 : k0_cond4 i = 1#1), ∀ a, (k0_off380 v705) a + S1x9984.size a ≤ S10000x10000.size a)
theorem k0_off380_inb : ∀ (i : grid0.Coords) (v705 : BitVec 32) (k0_hw126 : k0_chk126 i v705), ∀ (k0_h4 : k0_cond4 i = 1#1), ∀ a, (k0_off380 v705) a + S1x9984.size a ≤ S10000x10000.size a := fun i v705 k0_hw126 k0_h4 => k0_hw126 k0_h4

def k0_off381 (i : grid0.Coords) (k0_t4 : Fin k0_t4_loop.trips) : Fin 2 → Nat :=
  let arg0 : BitVec 32 := BitVec.ofNat 32 (i 0).val
  let v713 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c62_i32 : BitVec 32 := 62#32
  let v711 : BitVec 32 := Scalar.addi v90 c62_i32
  let v712 : BitVec 32 := Scalar.addi v88 v711
  let v714 : Index := Scalar.indexCast v712
  ![v713.toNat, v714.toNat]
def k0_off382 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c62_i32 : BitVec 32 := 62#32
  let v711 : BitVec 32 := Scalar.addi v90 c62_i32
  let c0_i32_247 : BitVec 32 := 0#32
  let c0_i32_248 : BitVec 32 := 0#32
  ![v711.toNat, 0, 0]
def k0_off383 (v715 : BitVec 32) : Fin 2 → Nat :=
  let c0_i32_249 : BitVec 32 := 0#32
  ![v715.toNat, 0]

def k0_chk127 (i : grid0.Coords) (v715 : BitVec 32) : Prop :=
  (∀ (k0_h4 : k0_cond4 i = 1#1), ∀ a, (k0_off383 v715) a + S1x9984.size a ≤ S10000x10000.size a)
theorem k0_off383_inb : ∀ (i : grid0.Coords) (v715 : BitVec 32) (k0_hw127 : k0_chk127 i v715), ∀ (k0_h4 : k0_cond4 i = 1#1), ∀ a, (k0_off383 v715) a + S1x9984.size a ≤ S10000x10000.size a := fun i v715 k0_hw127 k0_h4 => k0_hw127 k0_h4

def k0_off384 (i : grid0.Coords) (k0_t4 : Fin k0_t4_loop.trips) : Fin 2 → Nat :=
  let arg0 : BitVec 32 := BitVec.ofNat 32 (i 0).val
  let v723 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c63_i32 : BitVec 32 := 63#32
  let v721 : BitVec 32 := Scalar.addi v90 c63_i32
  let v722 : BitVec 32 := Scalar.addi v88 v721
  let v724 : Index := Scalar.indexCast v722
  ![v723.toNat, v724.toNat]
def k0_off385 (k0_t4 : Fin k0_t4_loop.trips) : Fin 3 → Nat :=
  let c0_i32_51 : BitVec 32 := 0#32
  let c1_i32_53 : BitVec 32 := 1#32
  let arg15 : BitVec 32 := Scf.iv c0_i32_51 c1_i32_53 k0_t4
  let c64_i32 : BitVec 32 := 64#32
  let v90 : BitVec 32 := Scalar.muli arg15 c64_i32
  let c63_i32 : BitVec 32 := 63#32
  let v721 : BitVec 32 := Scalar.addi v90 c63_i32
  let c0_i32_250 : BitVec 32 := 0#32
  let c0_i32_251 : BitVec 32 := 0#32
  ![v721.toNat, 0, 0]
def k0_off386 (v725 : BitVec 32) : Fin 2 → Nat :=
  let c0_i32_252 : BitVec 32 := 0#32
  ![v725.toNat, 0]

def k0_chk128 (i : grid0.Coords) (v725 : BitVec 32) : Prop :=
  (∀ (k0_h4 : k0_cond4 i = 1#1), ∀ a, (k0_off386 v725) a + S1x9984.size a ≤ S10000x10000.size a)
theorem k0_off386_inb : ∀ (i : grid0.Coords) (v725 : BitVec 32) (k0_hw128 : k0_chk128 i v725), ∀ (k0_h4 : k0_cond4 i = 1#1), ∀ a, (k0_off386 v725) a + S1x9984.size a ≤ S10000x10000.size a := fun i v725 k0_hw128 k0_h4 => k0_hw128 k0_h4

def k0_cond5 (i : grid0.Coords) : BitVec 1 :=
  let arg1 : BitVec 32 := BitVec.ofNat 32 (i 1).val
  let c1_i32_7 : BitVec 32 := 1#32
  let v16 : BitVec 32 := Scalar.addi arg1 c1_i32_7
  let c8_i32_8 : BitVec 32 := 8#32
  let v17 : BitVec 1 := Scalar.cmpi .slt v16 c8_i32_8
  let c2_i32 : BitVec 32 := 2#32
  let v0 : BitVec 32 := Scalar.remsi arg1 c2_i32
  let c1_i32_9 : BitVec 32 := 1#32
  let v18 : BitVec 1 := Scalar.cmpi .eq v0 c1_i32_9
  let v19 : BitVec 1 := Scalar.andi v17 v18
  let v20 : BitVec 32 := Scalar.extui v19
  let c0_i32_10 : BitVec 32 := 0#32
  let v21 : BitVec 1 := Scalar.cmpi .ne v20 c0_i32_10
  v21

@[reducible] def k0_t5_loop : Scf.Loop 32 :=
  let c0_i32_51 : BitVec 32 := 0#32
  let c4_i32_52 : BitVec 32 := 4#32
  let v89 : BitVec 32 := Scalar.addi c0_i32_51 c4_i32_52
  let c1_i32_53 : BitVec 32 := 1#32
  ⟨c0_i32_51, v89, c1_i32_53⟩
def k0_off387 (i : grid0.Coords) (k0_t5 : Fin k0_t5_loop.trips) : Fin 2 → Nat :=
  let arg0 : BitVec 32 := BitVec.ofNat 32 (i 0).val
  let v93 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c0_i32_55 : BitVec 32 := 0#32
  let v91 : BitVec 32 := Scalar.addi v90 c0_i32_55
  let v92 : BitVec 32 := Scalar.addi v88 v91
  let v94 : Index := Scalar.indexCast v92
  ![v93.toNat, v94.toNat]
def k0_off388 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c0_i32_55 : BitVec 32 := 0#32
  let v91 : BitVec 32 := Scalar.addi v90 c0_i32_55
  let c0_i32_56 : BitVec 32 := 0#32
  let c0_i32_57 : BitVec 32 := 0#32
  ![v91.toNat, 0, 0]
def k0_off389 (v95 : BitVec 32) : Fin 2 → Nat :=
  let c0_i32_58 : BitVec 32 := 0#32
  ![v95.toNat, 0]

def k0_chk129 (i : grid0.Coords) (v95 : BitVec 32) : Prop :=
  (∀ (k0_h5 : k0_cond5 i = 1#1), ∀ a, (k0_off389 v95) a + S1x9984.size a ≤ S10000x10000.size a)
theorem k0_off389_inb : ∀ (i : grid0.Coords) (v95 : BitVec 32) (k0_hw129 : k0_chk129 i v95), ∀ (k0_h5 : k0_cond5 i = 1#1), ∀ a, (k0_off389 v95) a + S1x9984.size a ≤ S10000x10000.size a := fun i v95 k0_hw129 k0_h5 => k0_hw129 k0_h5

def k0_off390 (i : grid0.Coords) (k0_t5 : Fin k0_t5_loop.trips) : Fin 2 → Nat :=
  let arg0 : BitVec 32 := BitVec.ofNat 32 (i 0).val
  let v103 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c1_i32_59 : BitVec 32 := 1#32
  let v101 : BitVec 32 := Scalar.addi v90 c1_i32_59
  let v102 : BitVec 32 := Scalar.addi v88 v101
  let v104 : Index := Scalar.indexCast v102
  ![v103.toNat, v104.toNat]
def k0_off391 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c1_i32_59 : BitVec 32 := 1#32
  let v101 : BitVec 32 := Scalar.addi v90 c1_i32_59
  let c0_i32_60 : BitVec 32 := 0#32
  let c0_i32_61 : BitVec 32 := 0#32
  ![v101.toNat, 0, 0]
def k0_off392 (v105 : BitVec 32) : Fin 2 → Nat :=
  let c0_i32_62 : BitVec 32 := 0#32
  ![v105.toNat, 0]

def k0_chk130 (i : grid0.Coords) (v105 : BitVec 32) : Prop :=
  (∀ (k0_h5 : k0_cond5 i = 1#1), ∀ a, (k0_off392 v105) a + S1x9984.size a ≤ S10000x10000.size a)
theorem k0_off392_inb : ∀ (i : grid0.Coords) (v105 : BitVec 32) (k0_hw130 : k0_chk130 i v105), ∀ (k0_h5 : k0_cond5 i = 1#1), ∀ a, (k0_off392 v105) a + S1x9984.size a ≤ S10000x10000.size a := fun i v105 k0_hw130 k0_h5 => k0_hw130 k0_h5

def k0_off393 (i : grid0.Coords) (k0_t5 : Fin k0_t5_loop.trips) : Fin 2 → Nat :=
  let arg0 : BitVec 32 := BitVec.ofNat 32 (i 0).val
  let v113 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c2_i32_63 : BitVec 32 := 2#32
  let v111 : BitVec 32 := Scalar.addi v90 c2_i32_63
  let v112 : BitVec 32 := Scalar.addi v88 v111
  let v114 : Index := Scalar.indexCast v112
  ![v113.toNat, v114.toNat]
def k0_off394 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c2_i32_63 : BitVec 32 := 2#32
  let v111 : BitVec 32 := Scalar.addi v90 c2_i32_63
  let c0_i32_64 : BitVec 32 := 0#32
  let c0_i32_65 : BitVec 32 := 0#32
  ![v111.toNat, 0, 0]
def k0_off395 (v115 : BitVec 32) : Fin 2 → Nat :=
  let c0_i32_66 : BitVec 32 := 0#32
  ![v115.toNat, 0]

def k0_chk131 (i : grid0.Coords) (v115 : BitVec 32) : Prop :=
  (∀ (k0_h5 : k0_cond5 i = 1#1), ∀ a, (k0_off395 v115) a + S1x9984.size a ≤ S10000x10000.size a)
theorem k0_off395_inb : ∀ (i : grid0.Coords) (v115 : BitVec 32) (k0_hw131 : k0_chk131 i v115), ∀ (k0_h5 : k0_cond5 i = 1#1), ∀ a, (k0_off395 v115) a + S1x9984.size a ≤ S10000x10000.size a := fun i v115 k0_hw131 k0_h5 => k0_hw131 k0_h5

def k0_off396 (i : grid0.Coords) (k0_t5 : Fin k0_t5_loop.trips) : Fin 2 → Nat :=
  let arg0 : BitVec 32 := BitVec.ofNat 32 (i 0).val
  let v123 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c3_i32 : BitVec 32 := 3#32
  let v121 : BitVec 32 := Scalar.addi v90 c3_i32
  let v122 : BitVec 32 := Scalar.addi v88 v121
  let v124 : Index := Scalar.indexCast v122
  ![v123.toNat, v124.toNat]
def k0_off397 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c3_i32 : BitVec 32 := 3#32
  let v121 : BitVec 32 := Scalar.addi v90 c3_i32
  let c0_i32_67 : BitVec 32 := 0#32
  let c0_i32_68 : BitVec 32 := 0#32
  ![v121.toNat, 0, 0]
def k0_off398 (v125 : BitVec 32) : Fin 2 → Nat :=
  let c0_i32_69 : BitVec 32 := 0#32
  ![v125.toNat, 0]

def k0_chk132 (i : grid0.Coords) (v125 : BitVec 32) : Prop :=
  (∀ (k0_h5 : k0_cond5 i = 1#1), ∀ a, (k0_off398 v125) a + S1x9984.size a ≤ S10000x10000.size a)
theorem k0_off398_inb : ∀ (i : grid0.Coords) (v125 : BitVec 32) (k0_hw132 : k0_chk132 i v125), ∀ (k0_h5 : k0_cond5 i = 1#1), ∀ a, (k0_off398 v125) a + S1x9984.size a ≤ S10000x10000.size a := fun i v125 k0_hw132 k0_h5 => k0_hw132 k0_h5

def k0_off399 (i : grid0.Coords) (k0_t5 : Fin k0_t5_loop.trips) : Fin 2 → Nat :=
  let arg0 : BitVec 32 := BitVec.ofNat 32 (i 0).val
  let v133 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c4_i32_70 : BitVec 32 := 4#32
  let v131 : BitVec 32 := Scalar.addi v90 c4_i32_70
  let v132 : BitVec 32 := Scalar.addi v88 v131
  let v134 : Index := Scalar.indexCast v132
  ![v133.toNat, v134.toNat]
def k0_off400 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c4_i32_70 : BitVec 32 := 4#32
  let v131 : BitVec 32 := Scalar.addi v90 c4_i32_70
  let c0_i32_71 : BitVec 32 := 0#32
  let c0_i32_72 : BitVec 32 := 0#32
  ![v131.toNat, 0, 0]
def k0_off401 (v135 : BitVec 32) : Fin 2 → Nat :=
  let c0_i32_73 : BitVec 32 := 0#32
  ![v135.toNat, 0]

def k0_chk133 (i : grid0.Coords) (v135 : BitVec 32) : Prop :=
  (∀ (k0_h5 : k0_cond5 i = 1#1), ∀ a, (k0_off401 v135) a + S1x9984.size a ≤ S10000x10000.size a)
theorem k0_off401_inb : ∀ (i : grid0.Coords) (v135 : BitVec 32) (k0_hw133 : k0_chk133 i v135), ∀ (k0_h5 : k0_cond5 i = 1#1), ∀ a, (k0_off401 v135) a + S1x9984.size a ≤ S10000x10000.size a := fun i v135 k0_hw133 k0_h5 => k0_hw133 k0_h5

def k0_off402 (i : grid0.Coords) (k0_t5 : Fin k0_t5_loop.trips) : Fin 2 → Nat :=
  let arg0 : BitVec 32 := BitVec.ofNat 32 (i 0).val
  let v143 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c5_i32 : BitVec 32 := 5#32
  let v141 : BitVec 32 := Scalar.addi v90 c5_i32
  let v142 : BitVec 32 := Scalar.addi v88 v141
  let v144 : Index := Scalar.indexCast v142
  ![v143.toNat, v144.toNat]
def k0_off403 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c5_i32 : BitVec 32 := 5#32
  let v141 : BitVec 32 := Scalar.addi v90 c5_i32
  let c0_i32_74 : BitVec 32 := 0#32
  let c0_i32_75 : BitVec 32 := 0#32
  ![v141.toNat, 0, 0]
def k0_off404 (v145 : BitVec 32) : Fin 2 → Nat :=
  let c0_i32_76 : BitVec 32 := 0#32
  ![v145.toNat, 0]

def k0_chk134 (i : grid0.Coords) (v145 : BitVec 32) : Prop :=
  (∀ (k0_h5 : k0_cond5 i = 1#1), ∀ a, (k0_off404 v145) a + S1x9984.size a ≤ S10000x10000.size a)
theorem k0_off404_inb : ∀ (i : grid0.Coords) (v145 : BitVec 32) (k0_hw134 : k0_chk134 i v145), ∀ (k0_h5 : k0_cond5 i = 1#1), ∀ a, (k0_off404 v145) a + S1x9984.size a ≤ S10000x10000.size a := fun i v145 k0_hw134 k0_h5 => k0_hw134 k0_h5

def k0_off405 (i : grid0.Coords) (k0_t5 : Fin k0_t5_loop.trips) : Fin 2 → Nat :=
  let arg0 : BitVec 32 := BitVec.ofNat 32 (i 0).val
  let v153 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c6_i32 : BitVec 32 := 6#32
  let v151 : BitVec 32 := Scalar.addi v90 c6_i32
  let v152 : BitVec 32 := Scalar.addi v88 v151
  let v154 : Index := Scalar.indexCast v152
  ![v153.toNat, v154.toNat]
def k0_off406 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c6_i32 : BitVec 32 := 6#32
  let v151 : BitVec 32 := Scalar.addi v90 c6_i32
  let c0_i32_77 : BitVec 32 := 0#32
  let c0_i32_78 : BitVec 32 := 0#32
  ![v151.toNat, 0, 0]
def k0_off407 (v155 : BitVec 32) : Fin 2 → Nat :=
  let c0_i32_79 : BitVec 32 := 0#32
  ![v155.toNat, 0]

def k0_chk135 (i : grid0.Coords) (v155 : BitVec 32) : Prop :=
  (∀ (k0_h5 : k0_cond5 i = 1#1), ∀ a, (k0_off407 v155) a + S1x9984.size a ≤ S10000x10000.size a)
theorem k0_off407_inb : ∀ (i : grid0.Coords) (v155 : BitVec 32) (k0_hw135 : k0_chk135 i v155), ∀ (k0_h5 : k0_cond5 i = 1#1), ∀ a, (k0_off407 v155) a + S1x9984.size a ≤ S10000x10000.size a := fun i v155 k0_hw135 k0_h5 => k0_hw135 k0_h5

def k0_off408 (i : grid0.Coords) (k0_t5 : Fin k0_t5_loop.trips) : Fin 2 → Nat :=
  let arg0 : BitVec 32 := BitVec.ofNat 32 (i 0).val
  let v163 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c7_i32 : BitVec 32 := 7#32
  let v161 : BitVec 32 := Scalar.addi v90 c7_i32
  let v162 : BitVec 32 := Scalar.addi v88 v161
  let v164 : Index := Scalar.indexCast v162
  ![v163.toNat, v164.toNat]
def k0_off409 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c7_i32 : BitVec 32 := 7#32
  let v161 : BitVec 32 := Scalar.addi v90 c7_i32
  let c0_i32_80 : BitVec 32 := 0#32
  let c0_i32_81 : BitVec 32 := 0#32
  ![v161.toNat, 0, 0]
def k0_off410 (v165 : BitVec 32) : Fin 2 → Nat :=
  let c0_i32_82 : BitVec 32 := 0#32
  ![v165.toNat, 0]

def k0_chk136 (i : grid0.Coords) (v165 : BitVec 32) : Prop :=
  (∀ (k0_h5 : k0_cond5 i = 1#1), ∀ a, (k0_off410 v165) a + S1x9984.size a ≤ S10000x10000.size a)
theorem k0_off410_inb : ∀ (i : grid0.Coords) (v165 : BitVec 32) (k0_hw136 : k0_chk136 i v165), ∀ (k0_h5 : k0_cond5 i = 1#1), ∀ a, (k0_off410 v165) a + S1x9984.size a ≤ S10000x10000.size a := fun i v165 k0_hw136 k0_h5 => k0_hw136 k0_h5

def k0_off411 (i : grid0.Coords) (k0_t5 : Fin k0_t5_loop.trips) : Fin 2 → Nat :=
  let arg0 : BitVec 32 := BitVec.ofNat 32 (i 0).val
  let v173 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c8_i32_83 : BitVec 32 := 8#32
  let v171 : BitVec 32 := Scalar.addi v90 c8_i32_83
  let v172 : BitVec 32 := Scalar.addi v88 v171
  let v174 : Index := Scalar.indexCast v172
  ![v173.toNat, v174.toNat]
def k0_off412 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c8_i32_83 : BitVec 32 := 8#32
  let v171 : BitVec 32 := Scalar.addi v90 c8_i32_83
  let c0_i32_84 : BitVec 32 := 0#32
  let c0_i32_85 : BitVec 32 := 0#32
  ![v171.toNat, 0, 0]
def k0_off413 (v175 : BitVec 32) : Fin 2 → Nat :=
  let c0_i32_86 : BitVec 32 := 0#32
  ![v175.toNat, 0]

def k0_chk137 (i : grid0.Coords) (v175 : BitVec 32) : Prop :=
  (∀ (k0_h5 : k0_cond5 i = 1#1), ∀ a, (k0_off413 v175) a + S1x9984.size a ≤ S10000x10000.size a)
theorem k0_off413_inb : ∀ (i : grid0.Coords) (v175 : BitVec 32) (k0_hw137 : k0_chk137 i v175), ∀ (k0_h5 : k0_cond5 i = 1#1), ∀ a, (k0_off413 v175) a + S1x9984.size a ≤ S10000x10000.size a := fun i v175 k0_hw137 k0_h5 => k0_hw137 k0_h5

def k0_off414 (i : grid0.Coords) (k0_t5 : Fin k0_t5_loop.trips) : Fin 2 → Nat :=
  let arg0 : BitVec 32 := BitVec.ofNat 32 (i 0).val
  let v183 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c9_i32 : BitVec 32 := 9#32
  let v181 : BitVec 32 := Scalar.addi v90 c9_i32
  let v182 : BitVec 32 := Scalar.addi v88 v181
  let v184 : Index := Scalar.indexCast v182
  ![v183.toNat, v184.toNat]
def k0_off415 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c9_i32 : BitVec 32 := 9#32
  let v181 : BitVec 32 := Scalar.addi v90 c9_i32
  let c0_i32_87 : BitVec 32 := 0#32
  let c0_i32_88 : BitVec 32 := 0#32
  ![v181.toNat, 0, 0]
def k0_off416 (v185 : BitVec 32) : Fin 2 → Nat :=
  let c0_i32_89 : BitVec 32 := 0#32
  ![v185.toNat, 0]

def k0_chk138 (i : grid0.Coords) (v185 : BitVec 32) : Prop :=
  (∀ (k0_h5 : k0_cond5 i = 1#1), ∀ a, (k0_off416 v185) a + S1x9984.size a ≤ S10000x10000.size a)
theorem k0_off416_inb : ∀ (i : grid0.Coords) (v185 : BitVec 32) (k0_hw138 : k0_chk138 i v185), ∀ (k0_h5 : k0_cond5 i = 1#1), ∀ a, (k0_off416 v185) a + S1x9984.size a ≤ S10000x10000.size a := fun i v185 k0_hw138 k0_h5 => k0_hw138 k0_h5

def k0_off417 (i : grid0.Coords) (k0_t5 : Fin k0_t5_loop.trips) : Fin 2 → Nat :=
  let arg0 : BitVec 32 := BitVec.ofNat 32 (i 0).val
  let v193 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c10_i32 : BitVec 32 := 10#32
  let v191 : BitVec 32 := Scalar.addi v90 c10_i32
  let v192 : BitVec 32 := Scalar.addi v88 v191
  let v194 : Index := Scalar.indexCast v192
  ![v193.toNat, v194.toNat]
def k0_off418 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c10_i32 : BitVec 32 := 10#32
  let v191 : BitVec 32 := Scalar.addi v90 c10_i32
  let c0_i32_90 : BitVec 32 := 0#32
  let c0_i32_91 : BitVec 32 := 0#32
  ![v191.toNat, 0, 0]
def k0_off419 (v195 : BitVec 32) : Fin 2 → Nat :=
  let c0_i32_92 : BitVec 32 := 0#32
  ![v195.toNat, 0]

def k0_chk139 (i : grid0.Coords) (v195 : BitVec 32) : Prop :=
  (∀ (k0_h5 : k0_cond5 i = 1#1), ∀ a, (k0_off419 v195) a + S1x9984.size a ≤ S10000x10000.size a)
theorem k0_off419_inb : ∀ (i : grid0.Coords) (v195 : BitVec 32) (k0_hw139 : k0_chk139 i v195), ∀ (k0_h5 : k0_cond5 i = 1#1), ∀ a, (k0_off419 v195) a + S1x9984.size a ≤ S10000x10000.size a := fun i v195 k0_hw139 k0_h5 => k0_hw139 k0_h5

def k0_off420 (i : grid0.Coords) (k0_t5 : Fin k0_t5_loop.trips) : Fin 2 → Nat :=
  let arg0 : BitVec 32 := BitVec.ofNat 32 (i 0).val
  let v203 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c11_i32 : BitVec 32 := 11#32
  let v201 : BitVec 32 := Scalar.addi v90 c11_i32
  let v202 : BitVec 32 := Scalar.addi v88 v201
  let v204 : Index := Scalar.indexCast v202
  ![v203.toNat, v204.toNat]
def k0_off421 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c11_i32 : BitVec 32 := 11#32
  let v201 : BitVec 32 := Scalar.addi v90 c11_i32
  let c0_i32_93 : BitVec 32 := 0#32
  let c0_i32_94 : BitVec 32 := 0#32
  ![v201.toNat, 0, 0]
def k0_off422 (v205 : BitVec 32) : Fin 2 → Nat :=
  let c0_i32_95 : BitVec 32 := 0#32
  ![v205.toNat, 0]

def k0_chk140 (i : grid0.Coords) (v205 : BitVec 32) : Prop :=
  (∀ (k0_h5 : k0_cond5 i = 1#1), ∀ a, (k0_off422 v205) a + S1x9984.size a ≤ S10000x10000.size a)
theorem k0_off422_inb : ∀ (i : grid0.Coords) (v205 : BitVec 32) (k0_hw140 : k0_chk140 i v205), ∀ (k0_h5 : k0_cond5 i = 1#1), ∀ a, (k0_off422 v205) a + S1x9984.size a ≤ S10000x10000.size a := fun i v205 k0_hw140 k0_h5 => k0_hw140 k0_h5

def k0_off423 (i : grid0.Coords) (k0_t5 : Fin k0_t5_loop.trips) : Fin 2 → Nat :=
  let arg0 : BitVec 32 := BitVec.ofNat 32 (i 0).val
  let v213 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c12_i32 : BitVec 32 := 12#32
  let v211 : BitVec 32 := Scalar.addi v90 c12_i32
  let v212 : BitVec 32 := Scalar.addi v88 v211
  let v214 : Index := Scalar.indexCast v212
  ![v213.toNat, v214.toNat]
def k0_off424 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c12_i32 : BitVec 32 := 12#32
  let v211 : BitVec 32 := Scalar.addi v90 c12_i32
  let c0_i32_96 : BitVec 32 := 0#32
  let c0_i32_97 : BitVec 32 := 0#32
  ![v211.toNat, 0, 0]
def k0_off425 (v215 : BitVec 32) : Fin 2 → Nat :=
  let c0_i32_98 : BitVec 32 := 0#32
  ![v215.toNat, 0]

def k0_chk141 (i : grid0.Coords) (v215 : BitVec 32) : Prop :=
  (∀ (k0_h5 : k0_cond5 i = 1#1), ∀ a, (k0_off425 v215) a + S1x9984.size a ≤ S10000x10000.size a)
theorem k0_off425_inb : ∀ (i : grid0.Coords) (v215 : BitVec 32) (k0_hw141 : k0_chk141 i v215), ∀ (k0_h5 : k0_cond5 i = 1#1), ∀ a, (k0_off425 v215) a + S1x9984.size a ≤ S10000x10000.size a := fun i v215 k0_hw141 k0_h5 => k0_hw141 k0_h5

def k0_off426 (i : grid0.Coords) (k0_t5 : Fin k0_t5_loop.trips) : Fin 2 → Nat :=
  let arg0 : BitVec 32 := BitVec.ofNat 32 (i 0).val
  let v223 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c13_i32 : BitVec 32 := 13#32
  let v221 : BitVec 32 := Scalar.addi v90 c13_i32
  let v222 : BitVec 32 := Scalar.addi v88 v221
  let v224 : Index := Scalar.indexCast v222
  ![v223.toNat, v224.toNat]
def k0_off427 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c13_i32 : BitVec 32 := 13#32
  let v221 : BitVec 32 := Scalar.addi v90 c13_i32
  let c0_i32_99 : BitVec 32 := 0#32
  let c0_i32_100 : BitVec 32 := 0#32
  ![v221.toNat, 0, 0]
def k0_off428 (v225 : BitVec 32) : Fin 2 → Nat :=
  let c0_i32_101 : BitVec 32 := 0#32
  ![v225.toNat, 0]

def k0_chk142 (i : grid0.Coords) (v225 : BitVec 32) : Prop :=
  (∀ (k0_h5 : k0_cond5 i = 1#1), ∀ a, (k0_off428 v225) a + S1x9984.size a ≤ S10000x10000.size a)
theorem k0_off428_inb : ∀ (i : grid0.Coords) (v225 : BitVec 32) (k0_hw142 : k0_chk142 i v225), ∀ (k0_h5 : k0_cond5 i = 1#1), ∀ a, (k0_off428 v225) a + S1x9984.size a ≤ S10000x10000.size a := fun i v225 k0_hw142 k0_h5 => k0_hw142 k0_h5

def k0_off429 (i : grid0.Coords) (k0_t5 : Fin k0_t5_loop.trips) : Fin 2 → Nat :=
  let arg0 : BitVec 32 := BitVec.ofNat 32 (i 0).val
  let v233 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c14_i32 : BitVec 32 := 14#32
  let v231 : BitVec 32 := Scalar.addi v90 c14_i32
  let v232 : BitVec 32 := Scalar.addi v88 v231
  let v234 : Index := Scalar.indexCast v232
  ![v233.toNat, v234.toNat]
def k0_off430 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c14_i32 : BitVec 32 := 14#32
  let v231 : BitVec 32 := Scalar.addi v90 c14_i32
  let c0_i32_102 : BitVec 32 := 0#32
  let c0_i32_103 : BitVec 32 := 0#32
  ![v231.toNat, 0, 0]
def k0_off431 (v235 : BitVec 32) : Fin 2 → Nat :=
  let c0_i32_104 : BitVec 32 := 0#32
  ![v235.toNat, 0]

def k0_chk143 (i : grid0.Coords) (v235 : BitVec 32) : Prop :=
  (∀ (k0_h5 : k0_cond5 i = 1#1), ∀ a, (k0_off431 v235) a + S1x9984.size a ≤ S10000x10000.size a)
theorem k0_off431_inb : ∀ (i : grid0.Coords) (v235 : BitVec 32) (k0_hw143 : k0_chk143 i v235), ∀ (k0_h5 : k0_cond5 i = 1#1), ∀ a, (k0_off431 v235) a + S1x9984.size a ≤ S10000x10000.size a := fun i v235 k0_hw143 k0_h5 => k0_hw143 k0_h5

def k0_off432 (i : grid0.Coords) (k0_t5 : Fin k0_t5_loop.trips) : Fin 2 → Nat :=
  let arg0 : BitVec 32 := BitVec.ofNat 32 (i 0).val
  let v243 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c15_i32 : BitVec 32 := 15#32
  let v241 : BitVec 32 := Scalar.addi v90 c15_i32
  let v242 : BitVec 32 := Scalar.addi v88 v241
  let v244 : Index := Scalar.indexCast v242
  ![v243.toNat, v244.toNat]
def k0_off433 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c15_i32 : BitVec 32 := 15#32
  let v241 : BitVec 32 := Scalar.addi v90 c15_i32
  let c0_i32_105 : BitVec 32 := 0#32
  let c0_i32_106 : BitVec 32 := 0#32
  ![v241.toNat, 0, 0]
def k0_off434 (v245 : BitVec 32) : Fin 2 → Nat :=
  let c0_i32_107 : BitVec 32 := 0#32
  ![v245.toNat, 0]

def k0_chk144 (i : grid0.Coords) (v245 : BitVec 32) : Prop :=
  (∀ (k0_h5 : k0_cond5 i = 1#1), ∀ a, (k0_off434 v245) a + S1x9984.size a ≤ S10000x10000.size a)
theorem k0_off434_inb : ∀ (i : grid0.Coords) (v245 : BitVec 32) (k0_hw144 : k0_chk144 i v245), ∀ (k0_h5 : k0_cond5 i = 1#1), ∀ a, (k0_off434 v245) a + S1x9984.size a ≤ S10000x10000.size a := fun i v245 k0_hw144 k0_h5 => k0_hw144 k0_h5

def k0_off435 (i : grid0.Coords) (k0_t5 : Fin k0_t5_loop.trips) : Fin 2 → Nat :=
  let arg0 : BitVec 32 := BitVec.ofNat 32 (i 0).val
  let v253 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c16_i32 : BitVec 32 := 16#32
  let v251 : BitVec 32 := Scalar.addi v90 c16_i32
  let v252 : BitVec 32 := Scalar.addi v88 v251
  let v254 : Index := Scalar.indexCast v252
  ![v253.toNat, v254.toNat]
def k0_off436 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c16_i32 : BitVec 32 := 16#32
  let v251 : BitVec 32 := Scalar.addi v90 c16_i32
  let c0_i32_108 : BitVec 32 := 0#32
  let c0_i32_109 : BitVec 32 := 0#32
  ![v251.toNat, 0, 0]
def k0_off437 (v255 : BitVec 32) : Fin 2 → Nat :=
  let c0_i32_110 : BitVec 32 := 0#32
  ![v255.toNat, 0]

def k0_chk145 (i : grid0.Coords) (v255 : BitVec 32) : Prop :=
  (∀ (k0_h5 : k0_cond5 i = 1#1), ∀ a, (k0_off437 v255) a + S1x9984.size a ≤ S10000x10000.size a)
theorem k0_off437_inb : ∀ (i : grid0.Coords) (v255 : BitVec 32) (k0_hw145 : k0_chk145 i v255), ∀ (k0_h5 : k0_cond5 i = 1#1), ∀ a, (k0_off437 v255) a + S1x9984.size a ≤ S10000x10000.size a := fun i v255 k0_hw145 k0_h5 => k0_hw145 k0_h5

def k0_off438 (i : grid0.Coords) (k0_t5 : Fin k0_t5_loop.trips) : Fin 2 → Nat :=
  let arg0 : BitVec 32 := BitVec.ofNat 32 (i 0).val
  let v263 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c17_i32 : BitVec 32 := 17#32
  let v261 : BitVec 32 := Scalar.addi v90 c17_i32
  let v262 : BitVec 32 := Scalar.addi v88 v261
  let v264 : Index := Scalar.indexCast v262
  ![v263.toNat, v264.toNat]
def k0_off439 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c17_i32 : BitVec 32 := 17#32
  let v261 : BitVec 32 := Scalar.addi v90 c17_i32
  let c0_i32_111 : BitVec 32 := 0#32
  let c0_i32_112 : BitVec 32 := 0#32
  ![v261.toNat, 0, 0]
def k0_off440 (v265 : BitVec 32) : Fin 2 → Nat :=
  let c0_i32_113 : BitVec 32 := 0#32
  ![v265.toNat, 0]

def k0_chk146 (i : grid0.Coords) (v265 : BitVec 32) : Prop :=
  (∀ (k0_h5 : k0_cond5 i = 1#1), ∀ a, (k0_off440 v265) a + S1x9984.size a ≤ S10000x10000.size a)
theorem k0_off440_inb : ∀ (i : grid0.Coords) (v265 : BitVec 32) (k0_hw146 : k0_chk146 i v265), ∀ (k0_h5 : k0_cond5 i = 1#1), ∀ a, (k0_off440 v265) a + S1x9984.size a ≤ S10000x10000.size a := fun i v265 k0_hw146 k0_h5 => k0_hw146 k0_h5

def k0_off441 (i : grid0.Coords) (k0_t5 : Fin k0_t5_loop.trips) : Fin 2 → Nat :=
  let arg0 : BitVec 32 := BitVec.ofNat 32 (i 0).val
  let v273 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c18_i32 : BitVec 32 := 18#32
  let v271 : BitVec 32 := Scalar.addi v90 c18_i32
  let v272 : BitVec 32 := Scalar.addi v88 v271
  let v274 : Index := Scalar.indexCast v272
  ![v273.toNat, v274.toNat]
def k0_off442 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c18_i32 : BitVec 32 := 18#32
  let v271 : BitVec 32 := Scalar.addi v90 c18_i32
  let c0_i32_114 : BitVec 32 := 0#32
  let c0_i32_115 : BitVec 32 := 0#32
  ![v271.toNat, 0, 0]
def k0_off443 (v275 : BitVec 32) : Fin 2 → Nat :=
  let c0_i32_116 : BitVec 32 := 0#32
  ![v275.toNat, 0]

def k0_chk147 (i : grid0.Coords) (v275 : BitVec 32) : Prop :=
  (∀ (k0_h5 : k0_cond5 i = 1#1), ∀ a, (k0_off443 v275) a + S1x9984.size a ≤ S10000x10000.size a)
theorem k0_off443_inb : ∀ (i : grid0.Coords) (v275 : BitVec 32) (k0_hw147 : k0_chk147 i v275), ∀ (k0_h5 : k0_cond5 i = 1#1), ∀ a, (k0_off443 v275) a + S1x9984.size a ≤ S10000x10000.size a := fun i v275 k0_hw147 k0_h5 => k0_hw147 k0_h5

def k0_off444 (i : grid0.Coords) (k0_t5 : Fin k0_t5_loop.trips) : Fin 2 → Nat :=
  let arg0 : BitVec 32 := BitVec.ofNat 32 (i 0).val
  let v283 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c19_i32 : BitVec 32 := 19#32
  let v281 : BitVec 32 := Scalar.addi v90 c19_i32
  let v282 : BitVec 32 := Scalar.addi v88 v281
  let v284 : Index := Scalar.indexCast v282
  ![v283.toNat, v284.toNat]
def k0_off445 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c19_i32 : BitVec 32 := 19#32
  let v281 : BitVec 32 := Scalar.addi v90 c19_i32
  let c0_i32_117 : BitVec 32 := 0#32
  let c0_i32_118 : BitVec 32 := 0#32
  ![v281.toNat, 0, 0]
def k0_off446 (v285 : BitVec 32) : Fin 2 → Nat :=
  let c0_i32_119 : BitVec 32 := 0#32
  ![v285.toNat, 0]

def k0_chk148 (i : grid0.Coords) (v285 : BitVec 32) : Prop :=
  (∀ (k0_h5 : k0_cond5 i = 1#1), ∀ a, (k0_off446 v285) a + S1x9984.size a ≤ S10000x10000.size a)
theorem k0_off446_inb : ∀ (i : grid0.Coords) (v285 : BitVec 32) (k0_hw148 : k0_chk148 i v285), ∀ (k0_h5 : k0_cond5 i = 1#1), ∀ a, (k0_off446 v285) a + S1x9984.size a ≤ S10000x10000.size a := fun i v285 k0_hw148 k0_h5 => k0_hw148 k0_h5

def k0_off447 (i : grid0.Coords) (k0_t5 : Fin k0_t5_loop.trips) : Fin 2 → Nat :=
  let arg0 : BitVec 32 := BitVec.ofNat 32 (i 0).val
  let v293 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c20_i32 : BitVec 32 := 20#32
  let v291 : BitVec 32 := Scalar.addi v90 c20_i32
  let v292 : BitVec 32 := Scalar.addi v88 v291
  let v294 : Index := Scalar.indexCast v292
  ![v293.toNat, v294.toNat]
def k0_off448 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c20_i32 : BitVec 32 := 20#32
  let v291 : BitVec 32 := Scalar.addi v90 c20_i32
  let c0_i32_120 : BitVec 32 := 0#32
  let c0_i32_121 : BitVec 32 := 0#32
  ![v291.toNat, 0, 0]
def k0_off449 (v295 : BitVec 32) : Fin 2 → Nat :=
  let c0_i32_122 : BitVec 32 := 0#32
  ![v295.toNat, 0]

def k0_chk149 (i : grid0.Coords) (v295 : BitVec 32) : Prop :=
  (∀ (k0_h5 : k0_cond5 i = 1#1), ∀ a, (k0_off449 v295) a + S1x9984.size a ≤ S10000x10000.size a)
theorem k0_off449_inb : ∀ (i : grid0.Coords) (v295 : BitVec 32) (k0_hw149 : k0_chk149 i v295), ∀ (k0_h5 : k0_cond5 i = 1#1), ∀ a, (k0_off449 v295) a + S1x9984.size a ≤ S10000x10000.size a := fun i v295 k0_hw149 k0_h5 => k0_hw149 k0_h5

def k0_off450 (i : grid0.Coords) (k0_t5 : Fin k0_t5_loop.trips) : Fin 2 → Nat :=
  let arg0 : BitVec 32 := BitVec.ofNat 32 (i 0).val
  let v303 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c21_i32 : BitVec 32 := 21#32
  let v301 : BitVec 32 := Scalar.addi v90 c21_i32
  let v302 : BitVec 32 := Scalar.addi v88 v301
  let v304 : Index := Scalar.indexCast v302
  ![v303.toNat, v304.toNat]
def k0_off451 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c21_i32 : BitVec 32 := 21#32
  let v301 : BitVec 32 := Scalar.addi v90 c21_i32
  let c0_i32_123 : BitVec 32 := 0#32
  let c0_i32_124 : BitVec 32 := 0#32
  ![v301.toNat, 0, 0]
def k0_off452 (v305 : BitVec 32) : Fin 2 → Nat :=
  let c0_i32_125 : BitVec 32 := 0#32
  ![v305.toNat, 0]

def k0_chk150 (i : grid0.Coords) (v305 : BitVec 32) : Prop :=
  (∀ (k0_h5 : k0_cond5 i = 1#1), ∀ a, (k0_off452 v305) a + S1x9984.size a ≤ S10000x10000.size a)
theorem k0_off452_inb : ∀ (i : grid0.Coords) (v305 : BitVec 32) (k0_hw150 : k0_chk150 i v305), ∀ (k0_h5 : k0_cond5 i = 1#1), ∀ a, (k0_off452 v305) a + S1x9984.size a ≤ S10000x10000.size a := fun i v305 k0_hw150 k0_h5 => k0_hw150 k0_h5

def k0_off453 (i : grid0.Coords) (k0_t5 : Fin k0_t5_loop.trips) : Fin 2 → Nat :=
  let arg0 : BitVec 32 := BitVec.ofNat 32 (i 0).val
  let v313 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c22_i32 : BitVec 32 := 22#32
  let v311 : BitVec 32 := Scalar.addi v90 c22_i32
  let v312 : BitVec 32 := Scalar.addi v88 v311
  let v314 : Index := Scalar.indexCast v312
  ![v313.toNat, v314.toNat]
def k0_off454 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c22_i32 : BitVec 32 := 22#32
  let v311 : BitVec 32 := Scalar.addi v90 c22_i32
  let c0_i32_126 : BitVec 32 := 0#32
  let c0_i32_127 : BitVec 32 := 0#32
  ![v311.toNat, 0, 0]
def k0_off455 (v315 : BitVec 32) : Fin 2 → Nat :=
  let c0_i32_128 : BitVec 32 := 0#32
  ![v315.toNat, 0]

def k0_chk151 (i : grid0.Coords) (v315 : BitVec 32) : Prop :=
  (∀ (k0_h5 : k0_cond5 i = 1#1), ∀ a, (k0_off455 v315) a + S1x9984.size a ≤ S10000x10000.size a)
theorem k0_off455_inb : ∀ (i : grid0.Coords) (v315 : BitVec 32) (k0_hw151 : k0_chk151 i v315), ∀ (k0_h5 : k0_cond5 i = 1#1), ∀ a, (k0_off455 v315) a + S1x9984.size a ≤ S10000x10000.size a := fun i v315 k0_hw151 k0_h5 => k0_hw151 k0_h5

def k0_off456 (i : grid0.Coords) (k0_t5 : Fin k0_t5_loop.trips) : Fin 2 → Nat :=
  let arg0 : BitVec 32 := BitVec.ofNat 32 (i 0).val
  let v323 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c23_i32 : BitVec 32 := 23#32
  let v321 : BitVec 32 := Scalar.addi v90 c23_i32
  let v322 : BitVec 32 := Scalar.addi v88 v321
  let v324 : Index := Scalar.indexCast v322
  ![v323.toNat, v324.toNat]
def k0_off457 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c23_i32 : BitVec 32 := 23#32
  let v321 : BitVec 32 := Scalar.addi v90 c23_i32
  let c0_i32_129 : BitVec 32 := 0#32
  let c0_i32_130 : BitVec 32 := 0#32
  ![v321.toNat, 0, 0]
def k0_off458 (v325 : BitVec 32) : Fin 2 → Nat :=
  let c0_i32_131 : BitVec 32 := 0#32
  ![v325.toNat, 0]

def k0_chk152 (i : grid0.Coords) (v325 : BitVec 32) : Prop :=
  (∀ (k0_h5 : k0_cond5 i = 1#1), ∀ a, (k0_off458 v325) a + S1x9984.size a ≤ S10000x10000.size a)
theorem k0_off458_inb : ∀ (i : grid0.Coords) (v325 : BitVec 32) (k0_hw152 : k0_chk152 i v325), ∀ (k0_h5 : k0_cond5 i = 1#1), ∀ a, (k0_off458 v325) a + S1x9984.size a ≤ S10000x10000.size a := fun i v325 k0_hw152 k0_h5 => k0_hw152 k0_h5

def k0_off459 (i : grid0.Coords) (k0_t5 : Fin k0_t5_loop.trips) : Fin 2 → Nat :=
  let arg0 : BitVec 32 := BitVec.ofNat 32 (i 0).val
  let v333 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c24_i32 : BitVec 32 := 24#32
  let v331 : BitVec 32 := Scalar.addi v90 c24_i32
  let v332 : BitVec 32 := Scalar.addi v88 v331
  let v334 : Index := Scalar.indexCast v332
  ![v333.toNat, v334.toNat]
def k0_off460 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c24_i32 : BitVec 32 := 24#32
  let v331 : BitVec 32 := Scalar.addi v90 c24_i32
  let c0_i32_132 : BitVec 32 := 0#32
  let c0_i32_133 : BitVec 32 := 0#32
  ![v331.toNat, 0, 0]
def k0_off461 (v335 : BitVec 32) : Fin 2 → Nat :=
  let c0_i32_134 : BitVec 32 := 0#32
  ![v335.toNat, 0]

def k0_chk153 (i : grid0.Coords) (v335 : BitVec 32) : Prop :=
  (∀ (k0_h5 : k0_cond5 i = 1#1), ∀ a, (k0_off461 v335) a + S1x9984.size a ≤ S10000x10000.size a)
theorem k0_off461_inb : ∀ (i : grid0.Coords) (v335 : BitVec 32) (k0_hw153 : k0_chk153 i v335), ∀ (k0_h5 : k0_cond5 i = 1#1), ∀ a, (k0_off461 v335) a + S1x9984.size a ≤ S10000x10000.size a := fun i v335 k0_hw153 k0_h5 => k0_hw153 k0_h5

def k0_off462 (i : grid0.Coords) (k0_t5 : Fin k0_t5_loop.trips) : Fin 2 → Nat :=
  let arg0 : BitVec 32 := BitVec.ofNat 32 (i 0).val
  let v343 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c25_i32 : BitVec 32 := 25#32
  let v341 : BitVec 32 := Scalar.addi v90 c25_i32
  let v342 : BitVec 32 := Scalar.addi v88 v341
  let v344 : Index := Scalar.indexCast v342
  ![v343.toNat, v344.toNat]
def k0_off463 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c25_i32 : BitVec 32 := 25#32
  let v341 : BitVec 32 := Scalar.addi v90 c25_i32
  let c0_i32_135 : BitVec 32 := 0#32
  let c0_i32_136 : BitVec 32 := 0#32
  ![v341.toNat, 0, 0]
def k0_off464 (v345 : BitVec 32) : Fin 2 → Nat :=
  let c0_i32_137 : BitVec 32 := 0#32
  ![v345.toNat, 0]

def k0_chk154 (i : grid0.Coords) (v345 : BitVec 32) : Prop :=
  (∀ (k0_h5 : k0_cond5 i = 1#1), ∀ a, (k0_off464 v345) a + S1x9984.size a ≤ S10000x10000.size a)
theorem k0_off464_inb : ∀ (i : grid0.Coords) (v345 : BitVec 32) (k0_hw154 : k0_chk154 i v345), ∀ (k0_h5 : k0_cond5 i = 1#1), ∀ a, (k0_off464 v345) a + S1x9984.size a ≤ S10000x10000.size a := fun i v345 k0_hw154 k0_h5 => k0_hw154 k0_h5

def k0_off465 (i : grid0.Coords) (k0_t5 : Fin k0_t5_loop.trips) : Fin 2 → Nat :=
  let arg0 : BitVec 32 := BitVec.ofNat 32 (i 0).val
  let v353 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c26_i32 : BitVec 32 := 26#32
  let v351 : BitVec 32 := Scalar.addi v90 c26_i32
  let v352 : BitVec 32 := Scalar.addi v88 v351
  let v354 : Index := Scalar.indexCast v352
  ![v353.toNat, v354.toNat]
def k0_off466 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c26_i32 : BitVec 32 := 26#32
  let v351 : BitVec 32 := Scalar.addi v90 c26_i32
  let c0_i32_138 : BitVec 32 := 0#32
  let c0_i32_139 : BitVec 32 := 0#32
  ![v351.toNat, 0, 0]
def k0_off467 (v355 : BitVec 32) : Fin 2 → Nat :=
  let c0_i32_140 : BitVec 32 := 0#32
  ![v355.toNat, 0]

def k0_chk155 (i : grid0.Coords) (v355 : BitVec 32) : Prop :=
  (∀ (k0_h5 : k0_cond5 i = 1#1), ∀ a, (k0_off467 v355) a + S1x9984.size a ≤ S10000x10000.size a)
theorem k0_off467_inb : ∀ (i : grid0.Coords) (v355 : BitVec 32) (k0_hw155 : k0_chk155 i v355), ∀ (k0_h5 : k0_cond5 i = 1#1), ∀ a, (k0_off467 v355) a + S1x9984.size a ≤ S10000x10000.size a := fun i v355 k0_hw155 k0_h5 => k0_hw155 k0_h5

def k0_off468 (i : grid0.Coords) (k0_t5 : Fin k0_t5_loop.trips) : Fin 2 → Nat :=
  let arg0 : BitVec 32 := BitVec.ofNat 32 (i 0).val
  let v363 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c27_i32 : BitVec 32 := 27#32
  let v361 : BitVec 32 := Scalar.addi v90 c27_i32
  let v362 : BitVec 32 := Scalar.addi v88 v361
  let v364 : Index := Scalar.indexCast v362
  ![v363.toNat, v364.toNat]
def k0_off469 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c27_i32 : BitVec 32 := 27#32
  let v361 : BitVec 32 := Scalar.addi v90 c27_i32
  let c0_i32_141 : BitVec 32 := 0#32
  let c0_i32_142 : BitVec 32 := 0#32
  ![v361.toNat, 0, 0]
def k0_off470 (v365 : BitVec 32) : Fin 2 → Nat :=
  let c0_i32_143 : BitVec 32 := 0#32
  ![v365.toNat, 0]

def k0_chk156 (i : grid0.Coords) (v365 : BitVec 32) : Prop :=
  (∀ (k0_h5 : k0_cond5 i = 1#1), ∀ a, (k0_off470 v365) a + S1x9984.size a ≤ S10000x10000.size a)
theorem k0_off470_inb : ∀ (i : grid0.Coords) (v365 : BitVec 32) (k0_hw156 : k0_chk156 i v365), ∀ (k0_h5 : k0_cond5 i = 1#1), ∀ a, (k0_off470 v365) a + S1x9984.size a ≤ S10000x10000.size a := fun i v365 k0_hw156 k0_h5 => k0_hw156 k0_h5

def k0_off471 (i : grid0.Coords) (k0_t5 : Fin k0_t5_loop.trips) : Fin 2 → Nat :=
  let arg0 : BitVec 32 := BitVec.ofNat 32 (i 0).val
  let v373 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c28_i32 : BitVec 32 := 28#32
  let v371 : BitVec 32 := Scalar.addi v90 c28_i32
  let v372 : BitVec 32 := Scalar.addi v88 v371
  let v374 : Index := Scalar.indexCast v372
  ![v373.toNat, v374.toNat]
def k0_off472 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c28_i32 : BitVec 32 := 28#32
  let v371 : BitVec 32 := Scalar.addi v90 c28_i32
  let c0_i32_144 : BitVec 32 := 0#32
  let c0_i32_145 : BitVec 32 := 0#32
  ![v371.toNat, 0, 0]
def k0_off473 (v375 : BitVec 32) : Fin 2 → Nat :=
  let c0_i32_146 : BitVec 32 := 0#32
  ![v375.toNat, 0]

def k0_chk157 (i : grid0.Coords) (v375 : BitVec 32) : Prop :=
  (∀ (k0_h5 : k0_cond5 i = 1#1), ∀ a, (k0_off473 v375) a + S1x9984.size a ≤ S10000x10000.size a)
theorem k0_off473_inb : ∀ (i : grid0.Coords) (v375 : BitVec 32) (k0_hw157 : k0_chk157 i v375), ∀ (k0_h5 : k0_cond5 i = 1#1), ∀ a, (k0_off473 v375) a + S1x9984.size a ≤ S10000x10000.size a := fun i v375 k0_hw157 k0_h5 => k0_hw157 k0_h5

def k0_off474 (i : grid0.Coords) (k0_t5 : Fin k0_t5_loop.trips) : Fin 2 → Nat :=
  let arg0 : BitVec 32 := BitVec.ofNat 32 (i 0).val
  let v383 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c29_i32 : BitVec 32 := 29#32
  let v381 : BitVec 32 := Scalar.addi v90 c29_i32
  let v382 : BitVec 32 := Scalar.addi v88 v381
  let v384 : Index := Scalar.indexCast v382
  ![v383.toNat, v384.toNat]
def k0_off475 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c29_i32 : BitVec 32 := 29#32
  let v381 : BitVec 32 := Scalar.addi v90 c29_i32
  let c0_i32_147 : BitVec 32 := 0#32
  let c0_i32_148 : BitVec 32 := 0#32
  ![v381.toNat, 0, 0]
def k0_off476 (v385 : BitVec 32) : Fin 2 → Nat :=
  let c0_i32_149 : BitVec 32 := 0#32
  ![v385.toNat, 0]

def k0_chk158 (i : grid0.Coords) (v385 : BitVec 32) : Prop :=
  (∀ (k0_h5 : k0_cond5 i = 1#1), ∀ a, (k0_off476 v385) a + S1x9984.size a ≤ S10000x10000.size a)
theorem k0_off476_inb : ∀ (i : grid0.Coords) (v385 : BitVec 32) (k0_hw158 : k0_chk158 i v385), ∀ (k0_h5 : k0_cond5 i = 1#1), ∀ a, (k0_off476 v385) a + S1x9984.size a ≤ S10000x10000.size a := fun i v385 k0_hw158 k0_h5 => k0_hw158 k0_h5

def k0_off477 (i : grid0.Coords) (k0_t5 : Fin k0_t5_loop.trips) : Fin 2 → Nat :=
  let arg0 : BitVec 32 := BitVec.ofNat 32 (i 0).val
  let v393 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c30_i32 : BitVec 32 := 30#32
  let v391 : BitVec 32 := Scalar.addi v90 c30_i32
  let v392 : BitVec 32 := Scalar.addi v88 v391
  let v394 : Index := Scalar.indexCast v392
  ![v393.toNat, v394.toNat]
def k0_off478 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c30_i32 : BitVec 32 := 30#32
  let v391 : BitVec 32 := Scalar.addi v90 c30_i32
  let c0_i32_150 : BitVec 32 := 0#32
  let c0_i32_151 : BitVec 32 := 0#32
  ![v391.toNat, 0, 0]
def k0_off479 (v395 : BitVec 32) : Fin 2 → Nat :=
  let c0_i32_152 : BitVec 32 := 0#32
  ![v395.toNat, 0]

def k0_chk159 (i : grid0.Coords) (v395 : BitVec 32) : Prop :=
  (∀ (k0_h5 : k0_cond5 i = 1#1), ∀ a, (k0_off479 v395) a + S1x9984.size a ≤ S10000x10000.size a)
theorem k0_off479_inb : ∀ (i : grid0.Coords) (v395 : BitVec 32) (k0_hw159 : k0_chk159 i v395), ∀ (k0_h5 : k0_cond5 i = 1#1), ∀ a, (k0_off479 v395) a + S1x9984.size a ≤ S10000x10000.size a := fun i v395 k0_hw159 k0_h5 => k0_hw159 k0_h5

def k0_off480 (i : grid0.Coords) (k0_t5 : Fin k0_t5_loop.trips) : Fin 2 → Nat :=
  let arg0 : BitVec 32 := BitVec.ofNat 32 (i 0).val
  let v403 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c31_i32 : BitVec 32 := 31#32
  let v401 : BitVec 32 := Scalar.addi v90 c31_i32
  let v402 : BitVec 32 := Scalar.addi v88 v401
  let v404 : Index := Scalar.indexCast v402
  ![v403.toNat, v404.toNat]
def k0_off481 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c31_i32 : BitVec 32 := 31#32
  let v401 : BitVec 32 := Scalar.addi v90 c31_i32
  let c0_i32_153 : BitVec 32 := 0#32
  let c0_i32_154 : BitVec 32 := 0#32
  ![v401.toNat, 0, 0]
def k0_off482 (v405 : BitVec 32) : Fin 2 → Nat :=
  let c0_i32_155 : BitVec 32 := 0#32
  ![v405.toNat, 0]

def k0_chk160 (i : grid0.Coords) (v405 : BitVec 32) : Prop :=
  (∀ (k0_h5 : k0_cond5 i = 1#1), ∀ a, (k0_off482 v405) a + S1x9984.size a ≤ S10000x10000.size a)
theorem k0_off482_inb : ∀ (i : grid0.Coords) (v405 : BitVec 32) (k0_hw160 : k0_chk160 i v405), ∀ (k0_h5 : k0_cond5 i = 1#1), ∀ a, (k0_off482 v405) a + S1x9984.size a ≤ S10000x10000.size a := fun i v405 k0_hw160 k0_h5 => k0_hw160 k0_h5

def k0_off483 (i : grid0.Coords) (k0_t5 : Fin k0_t5_loop.trips) : Fin 2 → Nat :=
  let arg0 : BitVec 32 := BitVec.ofNat 32 (i 0).val
  let v413 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c32_i32_156 : BitVec 32 := 32#32
  let v411 : BitVec 32 := Scalar.addi v90 c32_i32_156
  let v412 : BitVec 32 := Scalar.addi v88 v411
  let v414 : Index := Scalar.indexCast v412
  ![v413.toNat, v414.toNat]
def k0_off484 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c32_i32_156 : BitVec 32 := 32#32
  let v411 : BitVec 32 := Scalar.addi v90 c32_i32_156
  let c0_i32_157 : BitVec 32 := 0#32
  let c0_i32_158 : BitVec 32 := 0#32
  ![v411.toNat, 0, 0]
def k0_off485 (v415 : BitVec 32) : Fin 2 → Nat :=
  let c0_i32_159 : BitVec 32 := 0#32
  ![v415.toNat, 0]

def k0_chk161 (i : grid0.Coords) (v415 : BitVec 32) : Prop :=
  (∀ (k0_h5 : k0_cond5 i = 1#1), ∀ a, (k0_off485 v415) a + S1x9984.size a ≤ S10000x10000.size a)
theorem k0_off485_inb : ∀ (i : grid0.Coords) (v415 : BitVec 32) (k0_hw161 : k0_chk161 i v415), ∀ (k0_h5 : k0_cond5 i = 1#1), ∀ a, (k0_off485 v415) a + S1x9984.size a ≤ S10000x10000.size a := fun i v415 k0_hw161 k0_h5 => k0_hw161 k0_h5

def k0_off486 (i : grid0.Coords) (k0_t5 : Fin k0_t5_loop.trips) : Fin 2 → Nat :=
  let arg0 : BitVec 32 := BitVec.ofNat 32 (i 0).val
  let v423 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c33_i32 : BitVec 32 := 33#32
  let v421 : BitVec 32 := Scalar.addi v90 c33_i32
  let v422 : BitVec 32 := Scalar.addi v88 v421
  let v424 : Index := Scalar.indexCast v422
  ![v423.toNat, v424.toNat]
def k0_off487 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c33_i32 : BitVec 32 := 33#32
  let v421 : BitVec 32 := Scalar.addi v90 c33_i32
  let c0_i32_160 : BitVec 32 := 0#32
  let c0_i32_161 : BitVec 32 := 0#32
  ![v421.toNat, 0, 0]
def k0_off488 (v425 : BitVec 32) : Fin 2 → Nat :=
  let c0_i32_162 : BitVec 32 := 0#32
  ![v425.toNat, 0]

def k0_chk162 (i : grid0.Coords) (v425 : BitVec 32) : Prop :=
  (∀ (k0_h5 : k0_cond5 i = 1#1), ∀ a, (k0_off488 v425) a + S1x9984.size a ≤ S10000x10000.size a)
theorem k0_off488_inb : ∀ (i : grid0.Coords) (v425 : BitVec 32) (k0_hw162 : k0_chk162 i v425), ∀ (k0_h5 : k0_cond5 i = 1#1), ∀ a, (k0_off488 v425) a + S1x9984.size a ≤ S10000x10000.size a := fun i v425 k0_hw162 k0_h5 => k0_hw162 k0_h5

def k0_off489 (i : grid0.Coords) (k0_t5 : Fin k0_t5_loop.trips) : Fin 2 → Nat :=
  let arg0 : BitVec 32 := BitVec.ofNat 32 (i 0).val
  let v433 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c34_i32 : BitVec 32 := 34#32
  let v431 : BitVec 32 := Scalar.addi v90 c34_i32
  let v432 : BitVec 32 := Scalar.addi v88 v431
  let v434 : Index := Scalar.indexCast v432
  ![v433.toNat, v434.toNat]
def k0_off490 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c34_i32 : BitVec 32 := 34#32
  let v431 : BitVec 32 := Scalar.addi v90 c34_i32
  let c0_i32_163 : BitVec 32 := 0#32
  let c0_i32_164 : BitVec 32 := 0#32
  ![v431.toNat, 0, 0]
def k0_off491 (v435 : BitVec 32) : Fin 2 → Nat :=
  let c0_i32_165 : BitVec 32 := 0#32
  ![v435.toNat, 0]

def k0_chk163 (i : grid0.Coords) (v435 : BitVec 32) : Prop :=
  (∀ (k0_h5 : k0_cond5 i = 1#1), ∀ a, (k0_off491 v435) a + S1x9984.size a ≤ S10000x10000.size a)
theorem k0_off491_inb : ∀ (i : grid0.Coords) (v435 : BitVec 32) (k0_hw163 : k0_chk163 i v435), ∀ (k0_h5 : k0_cond5 i = 1#1), ∀ a, (k0_off491 v435) a + S1x9984.size a ≤ S10000x10000.size a := fun i v435 k0_hw163 k0_h5 => k0_hw163 k0_h5

def k0_off492 (i : grid0.Coords) (k0_t5 : Fin k0_t5_loop.trips) : Fin 2 → Nat :=
  let arg0 : BitVec 32 := BitVec.ofNat 32 (i 0).val
  let v443 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c35_i32 : BitVec 32 := 35#32
  let v441 : BitVec 32 := Scalar.addi v90 c35_i32
  let v442 : BitVec 32 := Scalar.addi v88 v441
  let v444 : Index := Scalar.indexCast v442
  ![v443.toNat, v444.toNat]
def k0_off493 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c35_i32 : BitVec 32 := 35#32
  let v441 : BitVec 32 := Scalar.addi v90 c35_i32
  let c0_i32_166 : BitVec 32 := 0#32
  let c0_i32_167 : BitVec 32 := 0#32
  ![v441.toNat, 0, 0]
def k0_off494 (v445 : BitVec 32) : Fin 2 → Nat :=
  let c0_i32_168 : BitVec 32 := 0#32
  ![v445.toNat, 0]

def k0_chk164 (i : grid0.Coords) (v445 : BitVec 32) : Prop :=
  (∀ (k0_h5 : k0_cond5 i = 1#1), ∀ a, (k0_off494 v445) a + S1x9984.size a ≤ S10000x10000.size a)
theorem k0_off494_inb : ∀ (i : grid0.Coords) (v445 : BitVec 32) (k0_hw164 : k0_chk164 i v445), ∀ (k0_h5 : k0_cond5 i = 1#1), ∀ a, (k0_off494 v445) a + S1x9984.size a ≤ S10000x10000.size a := fun i v445 k0_hw164 k0_h5 => k0_hw164 k0_h5

def k0_off495 (i : grid0.Coords) (k0_t5 : Fin k0_t5_loop.trips) : Fin 2 → Nat :=
  let arg0 : BitVec 32 := BitVec.ofNat 32 (i 0).val
  let v453 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c36_i32 : BitVec 32 := 36#32
  let v451 : BitVec 32 := Scalar.addi v90 c36_i32
  let v452 : BitVec 32 := Scalar.addi v88 v451
  let v454 : Index := Scalar.indexCast v452
  ![v453.toNat, v454.toNat]
def k0_off496 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c36_i32 : BitVec 32 := 36#32
  let v451 : BitVec 32 := Scalar.addi v90 c36_i32
  let c0_i32_169 : BitVec 32 := 0#32
  let c0_i32_170 : BitVec 32 := 0#32
  ![v451.toNat, 0, 0]
def k0_off497 (v455 : BitVec 32) : Fin 2 → Nat :=
  let c0_i32_171 : BitVec 32 := 0#32
  ![v455.toNat, 0]

def k0_chk165 (i : grid0.Coords) (v455 : BitVec 32) : Prop :=
  (∀ (k0_h5 : k0_cond5 i = 1#1), ∀ a, (k0_off497 v455) a + S1x9984.size a ≤ S10000x10000.size a)
theorem k0_off497_inb : ∀ (i : grid0.Coords) (v455 : BitVec 32) (k0_hw165 : k0_chk165 i v455), ∀ (k0_h5 : k0_cond5 i = 1#1), ∀ a, (k0_off497 v455) a + S1x9984.size a ≤ S10000x10000.size a := fun i v455 k0_hw165 k0_h5 => k0_hw165 k0_h5

def k0_off498 (i : grid0.Coords) (k0_t5 : Fin k0_t5_loop.trips) : Fin 2 → Nat :=
  let arg0 : BitVec 32 := BitVec.ofNat 32 (i 0).val
  let v463 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c37_i32 : BitVec 32 := 37#32
  let v461 : BitVec 32 := Scalar.addi v90 c37_i32
  let v462 : BitVec 32 := Scalar.addi v88 v461
  let v464 : Index := Scalar.indexCast v462
  ![v463.toNat, v464.toNat]
def k0_off499 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c37_i32 : BitVec 32 := 37#32
  let v461 : BitVec 32 := Scalar.addi v90 c37_i32
  let c0_i32_172 : BitVec 32 := 0#32
  let c0_i32_173 : BitVec 32 := 0#32
  ![v461.toNat, 0, 0]
def k0_off500 (v465 : BitVec 32) : Fin 2 → Nat :=
  let c0_i32_174 : BitVec 32 := 0#32
  ![v465.toNat, 0]

def k0_chk166 (i : grid0.Coords) (v465 : BitVec 32) : Prop :=
  (∀ (k0_h5 : k0_cond5 i = 1#1), ∀ a, (k0_off500 v465) a + S1x9984.size a ≤ S10000x10000.size a)
theorem k0_off500_inb : ∀ (i : grid0.Coords) (v465 : BitVec 32) (k0_hw166 : k0_chk166 i v465), ∀ (k0_h5 : k0_cond5 i = 1#1), ∀ a, (k0_off500 v465) a + S1x9984.size a ≤ S10000x10000.size a := fun i v465 k0_hw166 k0_h5 => k0_hw166 k0_h5

def k0_off501 (i : grid0.Coords) (k0_t5 : Fin k0_t5_loop.trips) : Fin 2 → Nat :=
  let arg0 : BitVec 32 := BitVec.ofNat 32 (i 0).val
  let v473 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c38_i32 : BitVec 32 := 38#32
  let v471 : BitVec 32 := Scalar.addi v90 c38_i32
  let v472 : BitVec 32 := Scalar.addi v88 v471
  let v474 : Index := Scalar.indexCast v472
  ![v473.toNat, v474.toNat]
def k0_off502 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c38_i32 : BitVec 32 := 38#32
  let v471 : BitVec 32 := Scalar.addi v90 c38_i32
  let c0_i32_175 : BitVec 32 := 0#32
  let c0_i32_176 : BitVec 32 := 0#32
  ![v471.toNat, 0, 0]
def k0_off503 (v475 : BitVec 32) : Fin 2 → Nat :=
  let c0_i32_177 : BitVec 32 := 0#32
  ![v475.toNat, 0]

def k0_chk167 (i : grid0.Coords) (v475 : BitVec 32) : Prop :=
  (∀ (k0_h5 : k0_cond5 i = 1#1), ∀ a, (k0_off503 v475) a + S1x9984.size a ≤ S10000x10000.size a)
theorem k0_off503_inb : ∀ (i : grid0.Coords) (v475 : BitVec 32) (k0_hw167 : k0_chk167 i v475), ∀ (k0_h5 : k0_cond5 i = 1#1), ∀ a, (k0_off503 v475) a + S1x9984.size a ≤ S10000x10000.size a := fun i v475 k0_hw167 k0_h5 => k0_hw167 k0_h5

def k0_off504 (i : grid0.Coords) (k0_t5 : Fin k0_t5_loop.trips) : Fin 2 → Nat :=
  let arg0 : BitVec 32 := BitVec.ofNat 32 (i 0).val
  let v483 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c39_i32 : BitVec 32 := 39#32
  let v481 : BitVec 32 := Scalar.addi v90 c39_i32
  let v482 : BitVec 32 := Scalar.addi v88 v481
  let v484 : Index := Scalar.indexCast v482
  ![v483.toNat, v484.toNat]
def k0_off505 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c39_i32 : BitVec 32 := 39#32
  let v481 : BitVec 32 := Scalar.addi v90 c39_i32
  let c0_i32_178 : BitVec 32 := 0#32
  let c0_i32_179 : BitVec 32 := 0#32
  ![v481.toNat, 0, 0]
def k0_off506 (v485 : BitVec 32) : Fin 2 → Nat :=
  let c0_i32_180 : BitVec 32 := 0#32
  ![v485.toNat, 0]

def k0_chk168 (i : grid0.Coords) (v485 : BitVec 32) : Prop :=
  (∀ (k0_h5 : k0_cond5 i = 1#1), ∀ a, (k0_off506 v485) a + S1x9984.size a ≤ S10000x10000.size a)
theorem k0_off506_inb : ∀ (i : grid0.Coords) (v485 : BitVec 32) (k0_hw168 : k0_chk168 i v485), ∀ (k0_h5 : k0_cond5 i = 1#1), ∀ a, (k0_off506 v485) a + S1x9984.size a ≤ S10000x10000.size a := fun i v485 k0_hw168 k0_h5 => k0_hw168 k0_h5

def k0_off507 (i : grid0.Coords) (k0_t5 : Fin k0_t5_loop.trips) : Fin 2 → Nat :=
  let arg0 : BitVec 32 := BitVec.ofNat 32 (i 0).val
  let v493 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c40_i32 : BitVec 32 := 40#32
  let v491 : BitVec 32 := Scalar.addi v90 c40_i32
  let v492 : BitVec 32 := Scalar.addi v88 v491
  let v494 : Index := Scalar.indexCast v492
  ![v493.toNat, v494.toNat]
def k0_off508 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c40_i32 : BitVec 32 := 40#32
  let v491 : BitVec 32 := Scalar.addi v90 c40_i32
  let c0_i32_181 : BitVec 32 := 0#32
  let c0_i32_182 : BitVec 32 := 0#32
  ![v491.toNat, 0, 0]
def k0_off509 (v495 : BitVec 32) : Fin 2 → Nat :=
  let c0_i32_183 : BitVec 32 := 0#32
  ![v495.toNat, 0]

def k0_chk169 (i : grid0.Coords) (v495 : BitVec 32) : Prop :=
  (∀ (k0_h5 : k0_cond5 i = 1#1), ∀ a, (k0_off509 v495) a + S1x9984.size a ≤ S10000x10000.size a)
theorem k0_off509_inb : ∀ (i : grid0.Coords) (v495 : BitVec 32) (k0_hw169 : k0_chk169 i v495), ∀ (k0_h5 : k0_cond5 i = 1#1), ∀ a, (k0_off509 v495) a + S1x9984.size a ≤ S10000x10000.size a := fun i v495 k0_hw169 k0_h5 => k0_hw169 k0_h5

def k0_off510 (i : grid0.Coords) (k0_t5 : Fin k0_t5_loop.trips) : Fin 2 → Nat :=
  let arg0 : BitVec 32 := BitVec.ofNat 32 (i 0).val
  let v503 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c41_i32 : BitVec 32 := 41#32
  let v501 : BitVec 32 := Scalar.addi v90 c41_i32
  let v502 : BitVec 32 := Scalar.addi v88 v501
  let v504 : Index := Scalar.indexCast v502
  ![v503.toNat, v504.toNat]
def k0_off511 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c41_i32 : BitVec 32 := 41#32
  let v501 : BitVec 32 := Scalar.addi v90 c41_i32
  let c0_i32_184 : BitVec 32 := 0#32
  let c0_i32_185 : BitVec 32 := 0#32
  ![v501.toNat, 0, 0]
def k0_off512 (v505 : BitVec 32) : Fin 2 → Nat :=
  let c0_i32_186 : BitVec 32 := 0#32
  ![v505.toNat, 0]

def k0_chk170 (i : grid0.Coords) (v505 : BitVec 32) : Prop :=
  (∀ (k0_h5 : k0_cond5 i = 1#1), ∀ a, (k0_off512 v505) a + S1x9984.size a ≤ S10000x10000.size a)
theorem k0_off512_inb : ∀ (i : grid0.Coords) (v505 : BitVec 32) (k0_hw170 : k0_chk170 i v505), ∀ (k0_h5 : k0_cond5 i = 1#1), ∀ a, (k0_off512 v505) a + S1x9984.size a ≤ S10000x10000.size a := fun i v505 k0_hw170 k0_h5 => k0_hw170 k0_h5

def k0_off513 (i : grid0.Coords) (k0_t5 : Fin k0_t5_loop.trips) : Fin 2 → Nat :=
  let arg0 : BitVec 32 := BitVec.ofNat 32 (i 0).val
  let v513 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c42_i32 : BitVec 32 := 42#32
  let v511 : BitVec 32 := Scalar.addi v90 c42_i32
  let v512 : BitVec 32 := Scalar.addi v88 v511
  let v514 : Index := Scalar.indexCast v512
  ![v513.toNat, v514.toNat]
def k0_off514 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c42_i32 : BitVec 32 := 42#32
  let v511 : BitVec 32 := Scalar.addi v90 c42_i32
  let c0_i32_187 : BitVec 32 := 0#32
  let c0_i32_188 : BitVec 32 := 0#32
  ![v511.toNat, 0, 0]
def k0_off515 (v515 : BitVec 32) : Fin 2 → Nat :=
  let c0_i32_189 : BitVec 32 := 0#32
  ![v515.toNat, 0]

def k0_chk171 (i : grid0.Coords) (v515 : BitVec 32) : Prop :=
  (∀ (k0_h5 : k0_cond5 i = 1#1), ∀ a, (k0_off515 v515) a + S1x9984.size a ≤ S10000x10000.size a)
theorem k0_off515_inb : ∀ (i : grid0.Coords) (v515 : BitVec 32) (k0_hw171 : k0_chk171 i v515), ∀ (k0_h5 : k0_cond5 i = 1#1), ∀ a, (k0_off515 v515) a + S1x9984.size a ≤ S10000x10000.size a := fun i v515 k0_hw171 k0_h5 => k0_hw171 k0_h5

def k0_off516 (i : grid0.Coords) (k0_t5 : Fin k0_t5_loop.trips) : Fin 2 → Nat :=
  let arg0 : BitVec 32 := BitVec.ofNat 32 (i 0).val
  let v523 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c43_i32 : BitVec 32 := 43#32
  let v521 : BitVec 32 := Scalar.addi v90 c43_i32
  let v522 : BitVec 32 := Scalar.addi v88 v521
  let v524 : Index := Scalar.indexCast v522
  ![v523.toNat, v524.toNat]
def k0_off517 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c43_i32 : BitVec 32 := 43#32
  let v521 : BitVec 32 := Scalar.addi v90 c43_i32
  let c0_i32_190 : BitVec 32 := 0#32
  let c0_i32_191 : BitVec 32 := 0#32
  ![v521.toNat, 0, 0]
def k0_off518 (v525 : BitVec 32) : Fin 2 → Nat :=
  let c0_i32_192 : BitVec 32 := 0#32
  ![v525.toNat, 0]

def k0_chk172 (i : grid0.Coords) (v525 : BitVec 32) : Prop :=
  (∀ (k0_h5 : k0_cond5 i = 1#1), ∀ a, (k0_off518 v525) a + S1x9984.size a ≤ S10000x10000.size a)
theorem k0_off518_inb : ∀ (i : grid0.Coords) (v525 : BitVec 32) (k0_hw172 : k0_chk172 i v525), ∀ (k0_h5 : k0_cond5 i = 1#1), ∀ a, (k0_off518 v525) a + S1x9984.size a ≤ S10000x10000.size a := fun i v525 k0_hw172 k0_h5 => k0_hw172 k0_h5

def k0_off519 (i : grid0.Coords) (k0_t5 : Fin k0_t5_loop.trips) : Fin 2 → Nat :=
  let arg0 : BitVec 32 := BitVec.ofNat 32 (i 0).val
  let v533 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c44_i32 : BitVec 32 := 44#32
  let v531 : BitVec 32 := Scalar.addi v90 c44_i32
  let v532 : BitVec 32 := Scalar.addi v88 v531
  let v534 : Index := Scalar.indexCast v532
  ![v533.toNat, v534.toNat]
def k0_off520 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c44_i32 : BitVec 32 := 44#32
  let v531 : BitVec 32 := Scalar.addi v90 c44_i32
  let c0_i32_193 : BitVec 32 := 0#32
  let c0_i32_194 : BitVec 32 := 0#32
  ![v531.toNat, 0, 0]
def k0_off521 (v535 : BitVec 32) : Fin 2 → Nat :=
  let c0_i32_195 : BitVec 32 := 0#32
  ![v535.toNat, 0]

def k0_chk173 (i : grid0.Coords) (v535 : BitVec 32) : Prop :=
  (∀ (k0_h5 : k0_cond5 i = 1#1), ∀ a, (k0_off521 v535) a + S1x9984.size a ≤ S10000x10000.size a)
theorem k0_off521_inb : ∀ (i : grid0.Coords) (v535 : BitVec 32) (k0_hw173 : k0_chk173 i v535), ∀ (k0_h5 : k0_cond5 i = 1#1), ∀ a, (k0_off521 v535) a + S1x9984.size a ≤ S10000x10000.size a := fun i v535 k0_hw173 k0_h5 => k0_hw173 k0_h5

def k0_off522 (i : grid0.Coords) (k0_t5 : Fin k0_t5_loop.trips) : Fin 2 → Nat :=
  let arg0 : BitVec 32 := BitVec.ofNat 32 (i 0).val
  let v543 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c45_i32 : BitVec 32 := 45#32
  let v541 : BitVec 32 := Scalar.addi v90 c45_i32
  let v542 : BitVec 32 := Scalar.addi v88 v541
  let v544 : Index := Scalar.indexCast v542
  ![v543.toNat, v544.toNat]
def k0_off523 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c45_i32 : BitVec 32 := 45#32
  let v541 : BitVec 32 := Scalar.addi v90 c45_i32
  let c0_i32_196 : BitVec 32 := 0#32
  let c0_i32_197 : BitVec 32 := 0#32
  ![v541.toNat, 0, 0]
def k0_off524 (v545 : BitVec 32) : Fin 2 → Nat :=
  let c0_i32_198 : BitVec 32 := 0#32
  ![v545.toNat, 0]

def k0_chk174 (i : grid0.Coords) (v545 : BitVec 32) : Prop :=
  (∀ (k0_h5 : k0_cond5 i = 1#1), ∀ a, (k0_off524 v545) a + S1x9984.size a ≤ S10000x10000.size a)
theorem k0_off524_inb : ∀ (i : grid0.Coords) (v545 : BitVec 32) (k0_hw174 : k0_chk174 i v545), ∀ (k0_h5 : k0_cond5 i = 1#1), ∀ a, (k0_off524 v545) a + S1x9984.size a ≤ S10000x10000.size a := fun i v545 k0_hw174 k0_h5 => k0_hw174 k0_h5

def k0_off525 (i : grid0.Coords) (k0_t5 : Fin k0_t5_loop.trips) : Fin 2 → Nat :=
  let arg0 : BitVec 32 := BitVec.ofNat 32 (i 0).val
  let v553 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c46_i32 : BitVec 32 := 46#32
  let v551 : BitVec 32 := Scalar.addi v90 c46_i32
  let v552 : BitVec 32 := Scalar.addi v88 v551
  let v554 : Index := Scalar.indexCast v552
  ![v553.toNat, v554.toNat]
def k0_off526 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c46_i32 : BitVec 32 := 46#32
  let v551 : BitVec 32 := Scalar.addi v90 c46_i32
  let c0_i32_199 : BitVec 32 := 0#32
  let c0_i32_200 : BitVec 32 := 0#32
  ![v551.toNat, 0, 0]
def k0_off527 (v555 : BitVec 32) : Fin 2 → Nat :=
  let c0_i32_201 : BitVec 32 := 0#32
  ![v555.toNat, 0]

def k0_chk175 (i : grid0.Coords) (v555 : BitVec 32) : Prop :=
  (∀ (k0_h5 : k0_cond5 i = 1#1), ∀ a, (k0_off527 v555) a + S1x9984.size a ≤ S10000x10000.size a)
theorem k0_off527_inb : ∀ (i : grid0.Coords) (v555 : BitVec 32) (k0_hw175 : k0_chk175 i v555), ∀ (k0_h5 : k0_cond5 i = 1#1), ∀ a, (k0_off527 v555) a + S1x9984.size a ≤ S10000x10000.size a := fun i v555 k0_hw175 k0_h5 => k0_hw175 k0_h5

def k0_off528 (i : grid0.Coords) (k0_t5 : Fin k0_t5_loop.trips) : Fin 2 → Nat :=
  let arg0 : BitVec 32 := BitVec.ofNat 32 (i 0).val
  let v563 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c47_i32 : BitVec 32 := 47#32
  let v561 : BitVec 32 := Scalar.addi v90 c47_i32
  let v562 : BitVec 32 := Scalar.addi v88 v561
  let v564 : Index := Scalar.indexCast v562
  ![v563.toNat, v564.toNat]
def k0_off529 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c47_i32 : BitVec 32 := 47#32
  let v561 : BitVec 32 := Scalar.addi v90 c47_i32
  let c0_i32_202 : BitVec 32 := 0#32
  let c0_i32_203 : BitVec 32 := 0#32
  ![v561.toNat, 0, 0]
def k0_off530 (v565 : BitVec 32) : Fin 2 → Nat :=
  let c0_i32_204 : BitVec 32 := 0#32
  ![v565.toNat, 0]

def k0_chk176 (i : grid0.Coords) (v565 : BitVec 32) : Prop :=
  (∀ (k0_h5 : k0_cond5 i = 1#1), ∀ a, (k0_off530 v565) a + S1x9984.size a ≤ S10000x10000.size a)
theorem k0_off530_inb : ∀ (i : grid0.Coords) (v565 : BitVec 32) (k0_hw176 : k0_chk176 i v565), ∀ (k0_h5 : k0_cond5 i = 1#1), ∀ a, (k0_off530 v565) a + S1x9984.size a ≤ S10000x10000.size a := fun i v565 k0_hw176 k0_h5 => k0_hw176 k0_h5

def k0_off531 (i : grid0.Coords) (k0_t5 : Fin k0_t5_loop.trips) : Fin 2 → Nat :=
  let arg0 : BitVec 32 := BitVec.ofNat 32 (i 0).val
  let v573 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c48_i32 : BitVec 32 := 48#32
  let v571 : BitVec 32 := Scalar.addi v90 c48_i32
  let v572 : BitVec 32 := Scalar.addi v88 v571
  let v574 : Index := Scalar.indexCast v572
  ![v573.toNat, v574.toNat]
def k0_off532 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c48_i32 : BitVec 32 := 48#32
  let v571 : BitVec 32 := Scalar.addi v90 c48_i32
  let c0_i32_205 : BitVec 32 := 0#32
  let c0_i32_206 : BitVec 32 := 0#32
  ![v571.toNat, 0, 0]
def k0_off533 (v575 : BitVec 32) : Fin 2 → Nat :=
  let c0_i32_207 : BitVec 32 := 0#32
  ![v575.toNat, 0]

def k0_chk177 (i : grid0.Coords) (v575 : BitVec 32) : Prop :=
  (∀ (k0_h5 : k0_cond5 i = 1#1), ∀ a, (k0_off533 v575) a + S1x9984.size a ≤ S10000x10000.size a)
theorem k0_off533_inb : ∀ (i : grid0.Coords) (v575 : BitVec 32) (k0_hw177 : k0_chk177 i v575), ∀ (k0_h5 : k0_cond5 i = 1#1), ∀ a, (k0_off533 v575) a + S1x9984.size a ≤ S10000x10000.size a := fun i v575 k0_hw177 k0_h5 => k0_hw177 k0_h5

def k0_off534 (i : grid0.Coords) (k0_t5 : Fin k0_t5_loop.trips) : Fin 2 → Nat :=
  let arg0 : BitVec 32 := BitVec.ofNat 32 (i 0).val
  let v583 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c49_i32 : BitVec 32 := 49#32
  let v581 : BitVec 32 := Scalar.addi v90 c49_i32
  let v582 : BitVec 32 := Scalar.addi v88 v581
  let v584 : Index := Scalar.indexCast v582
  ![v583.toNat, v584.toNat]
def k0_off535 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c49_i32 : BitVec 32 := 49#32
  let v581 : BitVec 32 := Scalar.addi v90 c49_i32
  let c0_i32_208 : BitVec 32 := 0#32
  let c0_i32_209 : BitVec 32 := 0#32
  ![v581.toNat, 0, 0]
def k0_off536 (v585 : BitVec 32) : Fin 2 → Nat :=
  let c0_i32_210 : BitVec 32 := 0#32
  ![v585.toNat, 0]

def k0_chk178 (i : grid0.Coords) (v585 : BitVec 32) : Prop :=
  (∀ (k0_h5 : k0_cond5 i = 1#1), ∀ a, (k0_off536 v585) a + S1x9984.size a ≤ S10000x10000.size a)
theorem k0_off536_inb : ∀ (i : grid0.Coords) (v585 : BitVec 32) (k0_hw178 : k0_chk178 i v585), ∀ (k0_h5 : k0_cond5 i = 1#1), ∀ a, (k0_off536 v585) a + S1x9984.size a ≤ S10000x10000.size a := fun i v585 k0_hw178 k0_h5 => k0_hw178 k0_h5

def k0_off537 (i : grid0.Coords) (k0_t5 : Fin k0_t5_loop.trips) : Fin 2 → Nat :=
  let arg0 : BitVec 32 := BitVec.ofNat 32 (i 0).val
  let v593 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c50_i32 : BitVec 32 := 50#32
  let v591 : BitVec 32 := Scalar.addi v90 c50_i32
  let v592 : BitVec 32 := Scalar.addi v88 v591
  let v594 : Index := Scalar.indexCast v592
  ![v593.toNat, v594.toNat]
def k0_off538 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c50_i32 : BitVec 32 := 50#32
  let v591 : BitVec 32 := Scalar.addi v90 c50_i32
  let c0_i32_211 : BitVec 32 := 0#32
  let c0_i32_212 : BitVec 32 := 0#32
  ![v591.toNat, 0, 0]
def k0_off539 (v595 : BitVec 32) : Fin 2 → Nat :=
  let c0_i32_213 : BitVec 32 := 0#32
  ![v595.toNat, 0]

def k0_chk179 (i : grid0.Coords) (v595 : BitVec 32) : Prop :=
  (∀ (k0_h5 : k0_cond5 i = 1#1), ∀ a, (k0_off539 v595) a + S1x9984.size a ≤ S10000x10000.size a)
theorem k0_off539_inb : ∀ (i : grid0.Coords) (v595 : BitVec 32) (k0_hw179 : k0_chk179 i v595), ∀ (k0_h5 : k0_cond5 i = 1#1), ∀ a, (k0_off539 v595) a + S1x9984.size a ≤ S10000x10000.size a := fun i v595 k0_hw179 k0_h5 => k0_hw179 k0_h5

def k0_off540 (i : grid0.Coords) (k0_t5 : Fin k0_t5_loop.trips) : Fin 2 → Nat :=
  let arg0 : BitVec 32 := BitVec.ofNat 32 (i 0).val
  let v603 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c51_i32 : BitVec 32 := 51#32
  let v601 : BitVec 32 := Scalar.addi v90 c51_i32
  let v602 : BitVec 32 := Scalar.addi v88 v601
  let v604 : Index := Scalar.indexCast v602
  ![v603.toNat, v604.toNat]
def k0_off541 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c51_i32 : BitVec 32 := 51#32
  let v601 : BitVec 32 := Scalar.addi v90 c51_i32
  let c0_i32_214 : BitVec 32 := 0#32
  let c0_i32_215 : BitVec 32 := 0#32
  ![v601.toNat, 0, 0]
def k0_off542 (v605 : BitVec 32) : Fin 2 → Nat :=
  let c0_i32_216 : BitVec 32 := 0#32
  ![v605.toNat, 0]

def k0_chk180 (i : grid0.Coords) (v605 : BitVec 32) : Prop :=
  (∀ (k0_h5 : k0_cond5 i = 1#1), ∀ a, (k0_off542 v605) a + S1x9984.size a ≤ S10000x10000.size a)
theorem k0_off542_inb : ∀ (i : grid0.Coords) (v605 : BitVec 32) (k0_hw180 : k0_chk180 i v605), ∀ (k0_h5 : k0_cond5 i = 1#1), ∀ a, (k0_off542 v605) a + S1x9984.size a ≤ S10000x10000.size a := fun i v605 k0_hw180 k0_h5 => k0_hw180 k0_h5

def k0_off543 (i : grid0.Coords) (k0_t5 : Fin k0_t5_loop.trips) : Fin 2 → Nat :=
  let arg0 : BitVec 32 := BitVec.ofNat 32 (i 0).val
  let v613 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c52_i32 : BitVec 32 := 52#32
  let v611 : BitVec 32 := Scalar.addi v90 c52_i32
  let v612 : BitVec 32 := Scalar.addi v88 v611
  let v614 : Index := Scalar.indexCast v612
  ![v613.toNat, v614.toNat]
def k0_off544 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c52_i32 : BitVec 32 := 52#32
  let v611 : BitVec 32 := Scalar.addi v90 c52_i32
  let c0_i32_217 : BitVec 32 := 0#32
  let c0_i32_218 : BitVec 32 := 0#32
  ![v611.toNat, 0, 0]
def k0_off545 (v615 : BitVec 32) : Fin 2 → Nat :=
  let c0_i32_219 : BitVec 32 := 0#32
  ![v615.toNat, 0]

def k0_chk181 (i : grid0.Coords) (v615 : BitVec 32) : Prop :=
  (∀ (k0_h5 : k0_cond5 i = 1#1), ∀ a, (k0_off545 v615) a + S1x9984.size a ≤ S10000x10000.size a)
theorem k0_off545_inb : ∀ (i : grid0.Coords) (v615 : BitVec 32) (k0_hw181 : k0_chk181 i v615), ∀ (k0_h5 : k0_cond5 i = 1#1), ∀ a, (k0_off545 v615) a + S1x9984.size a ≤ S10000x10000.size a := fun i v615 k0_hw181 k0_h5 => k0_hw181 k0_h5

def k0_off546 (i : grid0.Coords) (k0_t5 : Fin k0_t5_loop.trips) : Fin 2 → Nat :=
  let arg0 : BitVec 32 := BitVec.ofNat 32 (i 0).val
  let v623 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c53_i32 : BitVec 32 := 53#32
  let v621 : BitVec 32 := Scalar.addi v90 c53_i32
  let v622 : BitVec 32 := Scalar.addi v88 v621
  let v624 : Index := Scalar.indexCast v622
  ![v623.toNat, v624.toNat]
def k0_off547 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c53_i32 : BitVec 32 := 53#32
  let v621 : BitVec 32 := Scalar.addi v90 c53_i32
  let c0_i32_220 : BitVec 32 := 0#32
  let c0_i32_221 : BitVec 32 := 0#32
  ![v621.toNat, 0, 0]
def k0_off548 (v625 : BitVec 32) : Fin 2 → Nat :=
  let c0_i32_222 : BitVec 32 := 0#32
  ![v625.toNat, 0]

def k0_chk182 (i : grid0.Coords) (v625 : BitVec 32) : Prop :=
  (∀ (k0_h5 : k0_cond5 i = 1#1), ∀ a, (k0_off548 v625) a + S1x9984.size a ≤ S10000x10000.size a)
theorem k0_off548_inb : ∀ (i : grid0.Coords) (v625 : BitVec 32) (k0_hw182 : k0_chk182 i v625), ∀ (k0_h5 : k0_cond5 i = 1#1), ∀ a, (k0_off548 v625) a + S1x9984.size a ≤ S10000x10000.size a := fun i v625 k0_hw182 k0_h5 => k0_hw182 k0_h5

def k0_off549 (i : grid0.Coords) (k0_t5 : Fin k0_t5_loop.trips) : Fin 2 → Nat :=
  let arg0 : BitVec 32 := BitVec.ofNat 32 (i 0).val
  let v633 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c54_i32 : BitVec 32 := 54#32
  let v631 : BitVec 32 := Scalar.addi v90 c54_i32
  let v632 : BitVec 32 := Scalar.addi v88 v631
  let v634 : Index := Scalar.indexCast v632
  ![v633.toNat, v634.toNat]
def k0_off550 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c54_i32 : BitVec 32 := 54#32
  let v631 : BitVec 32 := Scalar.addi v90 c54_i32
  let c0_i32_223 : BitVec 32 := 0#32
  let c0_i32_224 : BitVec 32 := 0#32
  ![v631.toNat, 0, 0]
def k0_off551 (v635 : BitVec 32) : Fin 2 → Nat :=
  let c0_i32_225 : BitVec 32 := 0#32
  ![v635.toNat, 0]

def k0_chk183 (i : grid0.Coords) (v635 : BitVec 32) : Prop :=
  (∀ (k0_h5 : k0_cond5 i = 1#1), ∀ a, (k0_off551 v635) a + S1x9984.size a ≤ S10000x10000.size a)
theorem k0_off551_inb : ∀ (i : grid0.Coords) (v635 : BitVec 32) (k0_hw183 : k0_chk183 i v635), ∀ (k0_h5 : k0_cond5 i = 1#1), ∀ a, (k0_off551 v635) a + S1x9984.size a ≤ S10000x10000.size a := fun i v635 k0_hw183 k0_h5 => k0_hw183 k0_h5

def k0_off552 (i : grid0.Coords) (k0_t5 : Fin k0_t5_loop.trips) : Fin 2 → Nat :=
  let arg0 : BitVec 32 := BitVec.ofNat 32 (i 0).val
  let v643 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c55_i32 : BitVec 32 := 55#32
  let v641 : BitVec 32 := Scalar.addi v90 c55_i32
  let v642 : BitVec 32 := Scalar.addi v88 v641
  let v644 : Index := Scalar.indexCast v642
  ![v643.toNat, v644.toNat]
def k0_off553 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c55_i32 : BitVec 32 := 55#32
  let v641 : BitVec 32 := Scalar.addi v90 c55_i32
  let c0_i32_226 : BitVec 32 := 0#32
  let c0_i32_227 : BitVec 32 := 0#32
  ![v641.toNat, 0, 0]
def k0_off554 (v645 : BitVec 32) : Fin 2 → Nat :=
  let c0_i32_228 : BitVec 32 := 0#32
  ![v645.toNat, 0]

def k0_chk184 (i : grid0.Coords) (v645 : BitVec 32) : Prop :=
  (∀ (k0_h5 : k0_cond5 i = 1#1), ∀ a, (k0_off554 v645) a + S1x9984.size a ≤ S10000x10000.size a)
theorem k0_off554_inb : ∀ (i : grid0.Coords) (v645 : BitVec 32) (k0_hw184 : k0_chk184 i v645), ∀ (k0_h5 : k0_cond5 i = 1#1), ∀ a, (k0_off554 v645) a + S1x9984.size a ≤ S10000x10000.size a := fun i v645 k0_hw184 k0_h5 => k0_hw184 k0_h5

def k0_off555 (i : grid0.Coords) (k0_t5 : Fin k0_t5_loop.trips) : Fin 2 → Nat :=
  let arg0 : BitVec 32 := BitVec.ofNat 32 (i 0).val
  let v653 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c56_i32 : BitVec 32 := 56#32
  let v651 : BitVec 32 := Scalar.addi v90 c56_i32
  let v652 : BitVec 32 := Scalar.addi v88 v651
  let v654 : Index := Scalar.indexCast v652
  ![v653.toNat, v654.toNat]
def k0_off556 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c56_i32 : BitVec 32 := 56#32
  let v651 : BitVec 32 := Scalar.addi v90 c56_i32
  let c0_i32_229 : BitVec 32 := 0#32
  let c0_i32_230 : BitVec 32 := 0#32
  ![v651.toNat, 0, 0]
def k0_off557 (v655 : BitVec 32) : Fin 2 → Nat :=
  let c0_i32_231 : BitVec 32 := 0#32
  ![v655.toNat, 0]

def k0_chk185 (i : grid0.Coords) (v655 : BitVec 32) : Prop :=
  (∀ (k0_h5 : k0_cond5 i = 1#1), ∀ a, (k0_off557 v655) a + S1x9984.size a ≤ S10000x10000.size a)
theorem k0_off557_inb : ∀ (i : grid0.Coords) (v655 : BitVec 32) (k0_hw185 : k0_chk185 i v655), ∀ (k0_h5 : k0_cond5 i = 1#1), ∀ a, (k0_off557 v655) a + S1x9984.size a ≤ S10000x10000.size a := fun i v655 k0_hw185 k0_h5 => k0_hw185 k0_h5

def k0_off558 (i : grid0.Coords) (k0_t5 : Fin k0_t5_loop.trips) : Fin 2 → Nat :=
  let arg0 : BitVec 32 := BitVec.ofNat 32 (i 0).val
  let v663 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c57_i32 : BitVec 32 := 57#32
  let v661 : BitVec 32 := Scalar.addi v90 c57_i32
  let v662 : BitVec 32 := Scalar.addi v88 v661
  let v664 : Index := Scalar.indexCast v662
  ![v663.toNat, v664.toNat]
def k0_off559 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c57_i32 : BitVec 32 := 57#32
  let v661 : BitVec 32 := Scalar.addi v90 c57_i32
  let c0_i32_232 : BitVec 32 := 0#32
  let c0_i32_233 : BitVec 32 := 0#32
  ![v661.toNat, 0, 0]
def k0_off560 (v665 : BitVec 32) : Fin 2 → Nat :=
  let c0_i32_234 : BitVec 32 := 0#32
  ![v665.toNat, 0]

def k0_chk186 (i : grid0.Coords) (v665 : BitVec 32) : Prop :=
  (∀ (k0_h5 : k0_cond5 i = 1#1), ∀ a, (k0_off560 v665) a + S1x9984.size a ≤ S10000x10000.size a)
theorem k0_off560_inb : ∀ (i : grid0.Coords) (v665 : BitVec 32) (k0_hw186 : k0_chk186 i v665), ∀ (k0_h5 : k0_cond5 i = 1#1), ∀ a, (k0_off560 v665) a + S1x9984.size a ≤ S10000x10000.size a := fun i v665 k0_hw186 k0_h5 => k0_hw186 k0_h5

def k0_off561 (i : grid0.Coords) (k0_t5 : Fin k0_t5_loop.trips) : Fin 2 → Nat :=
  let arg0 : BitVec 32 := BitVec.ofNat 32 (i 0).val
  let v673 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c58_i32 : BitVec 32 := 58#32
  let v671 : BitVec 32 := Scalar.addi v90 c58_i32
  let v672 : BitVec 32 := Scalar.addi v88 v671
  let v674 : Index := Scalar.indexCast v672
  ![v673.toNat, v674.toNat]
def k0_off562 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c58_i32 : BitVec 32 := 58#32
  let v671 : BitVec 32 := Scalar.addi v90 c58_i32
  let c0_i32_235 : BitVec 32 := 0#32
  let c0_i32_236 : BitVec 32 := 0#32
  ![v671.toNat, 0, 0]
def k0_off563 (v675 : BitVec 32) : Fin 2 → Nat :=
  let c0_i32_237 : BitVec 32 := 0#32
  ![v675.toNat, 0]

def k0_chk187 (i : grid0.Coords) (v675 : BitVec 32) : Prop :=
  (∀ (k0_h5 : k0_cond5 i = 1#1), ∀ a, (k0_off563 v675) a + S1x9984.size a ≤ S10000x10000.size a)
theorem k0_off563_inb : ∀ (i : grid0.Coords) (v675 : BitVec 32) (k0_hw187 : k0_chk187 i v675), ∀ (k0_h5 : k0_cond5 i = 1#1), ∀ a, (k0_off563 v675) a + S1x9984.size a ≤ S10000x10000.size a := fun i v675 k0_hw187 k0_h5 => k0_hw187 k0_h5

def k0_off564 (i : grid0.Coords) (k0_t5 : Fin k0_t5_loop.trips) : Fin 2 → Nat :=
  let arg0 : BitVec 32 := BitVec.ofNat 32 (i 0).val
  let v683 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c59_i32 : BitVec 32 := 59#32
  let v681 : BitVec 32 := Scalar.addi v90 c59_i32
  let v682 : BitVec 32 := Scalar.addi v88 v681
  let v684 : Index := Scalar.indexCast v682
  ![v683.toNat, v684.toNat]
def k0_off565 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c59_i32 : BitVec 32 := 59#32
  let v681 : BitVec 32 := Scalar.addi v90 c59_i32
  let c0_i32_238 : BitVec 32 := 0#32
  let c0_i32_239 : BitVec 32 := 0#32
  ![v681.toNat, 0, 0]
def k0_off566 (v685 : BitVec 32) : Fin 2 → Nat :=
  let c0_i32_240 : BitVec 32 := 0#32
  ![v685.toNat, 0]

def k0_chk188 (i : grid0.Coords) (v685 : BitVec 32) : Prop :=
  (∀ (k0_h5 : k0_cond5 i = 1#1), ∀ a, (k0_off566 v685) a + S1x9984.size a ≤ S10000x10000.size a)
theorem k0_off566_inb : ∀ (i : grid0.Coords) (v685 : BitVec 32) (k0_hw188 : k0_chk188 i v685), ∀ (k0_h5 : k0_cond5 i = 1#1), ∀ a, (k0_off566 v685) a + S1x9984.size a ≤ S10000x10000.size a := fun i v685 k0_hw188 k0_h5 => k0_hw188 k0_h5

def k0_off567 (i : grid0.Coords) (k0_t5 : Fin k0_t5_loop.trips) : Fin 2 → Nat :=
  let arg0 : BitVec 32 := BitVec.ofNat 32 (i 0).val
  let v693 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c60_i32 : BitVec 32 := 60#32
  let v691 : BitVec 32 := Scalar.addi v90 c60_i32
  let v692 : BitVec 32 := Scalar.addi v88 v691
  let v694 : Index := Scalar.indexCast v692
  ![v693.toNat, v694.toNat]
def k0_off568 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c60_i32 : BitVec 32 := 60#32
  let v691 : BitVec 32 := Scalar.addi v90 c60_i32
  let c0_i32_241 : BitVec 32 := 0#32
  let c0_i32_242 : BitVec 32 := 0#32
  ![v691.toNat, 0, 0]
def k0_off569 (v695 : BitVec 32) : Fin 2 → Nat :=
  let c0_i32_243 : BitVec 32 := 0#32
  ![v695.toNat, 0]

def k0_chk189 (i : grid0.Coords) (v695 : BitVec 32) : Prop :=
  (∀ (k0_h5 : k0_cond5 i = 1#1), ∀ a, (k0_off569 v695) a + S1x9984.size a ≤ S10000x10000.size a)
theorem k0_off569_inb : ∀ (i : grid0.Coords) (v695 : BitVec 32) (k0_hw189 : k0_chk189 i v695), ∀ (k0_h5 : k0_cond5 i = 1#1), ∀ a, (k0_off569 v695) a + S1x9984.size a ≤ S10000x10000.size a := fun i v695 k0_hw189 k0_h5 => k0_hw189 k0_h5

def k0_off570 (i : grid0.Coords) (k0_t5 : Fin k0_t5_loop.trips) : Fin 2 → Nat :=
  let arg0 : BitVec 32 := BitVec.ofNat 32 (i 0).val
  let v703 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c61_i32 : BitVec 32 := 61#32
  let v701 : BitVec 32 := Scalar.addi v90 c61_i32
  let v702 : BitVec 32 := Scalar.addi v88 v701
  let v704 : Index := Scalar.indexCast v702
  ![v703.toNat, v704.toNat]
def k0_off571 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c61_i32 : BitVec 32 := 61#32
  let v701 : BitVec 32 := Scalar.addi v90 c61_i32
  let c0_i32_244 : BitVec 32 := 0#32
  let c0_i32_245 : BitVec 32 := 0#32
  ![v701.toNat, 0, 0]
def k0_off572 (v705 : BitVec 32) : Fin 2 → Nat :=
  let c0_i32_246 : BitVec 32 := 0#32
  ![v705.toNat, 0]

def k0_chk190 (i : grid0.Coords) (v705 : BitVec 32) : Prop :=
  (∀ (k0_h5 : k0_cond5 i = 1#1), ∀ a, (k0_off572 v705) a + S1x9984.size a ≤ S10000x10000.size a)
theorem k0_off572_inb : ∀ (i : grid0.Coords) (v705 : BitVec 32) (k0_hw190 : k0_chk190 i v705), ∀ (k0_h5 : k0_cond5 i = 1#1), ∀ a, (k0_off572 v705) a + S1x9984.size a ≤ S10000x10000.size a := fun i v705 k0_hw190 k0_h5 => k0_hw190 k0_h5

def k0_off573 (i : grid0.Coords) (k0_t5 : Fin k0_t5_loop.trips) : Fin 2 → Nat :=
  let arg0 : BitVec 32 := BitVec.ofNat 32 (i 0).val
  let v713 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c62_i32 : BitVec 32 := 62#32
  let v711 : BitVec 32 := Scalar.addi v90 c62_i32
  let v712 : BitVec 32 := Scalar.addi v88 v711
  let v714 : Index := Scalar.indexCast v712
  ![v713.toNat, v714.toNat]
def k0_off574 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c62_i32 : BitVec 32 := 62#32
  let v711 : BitVec 32 := Scalar.addi v90 c62_i32
  let c0_i32_247 : BitVec 32 := 0#32
  let c0_i32_248 : BitVec 32 := 0#32
  ![v711.toNat, 0, 0]
def k0_off575 (v715 : BitVec 32) : Fin 2 → Nat :=
  let c0_i32_249 : BitVec 32 := 0#32
  ![v715.toNat, 0]

def k0_chk191 (i : grid0.Coords) (v715 : BitVec 32) : Prop :=
  (∀ (k0_h5 : k0_cond5 i = 1#1), ∀ a, (k0_off575 v715) a + S1x9984.size a ≤ S10000x10000.size a)
theorem k0_off575_inb : ∀ (i : grid0.Coords) (v715 : BitVec 32) (k0_hw191 : k0_chk191 i v715), ∀ (k0_h5 : k0_cond5 i = 1#1), ∀ a, (k0_off575 v715) a + S1x9984.size a ≤ S10000x10000.size a := fun i v715 k0_hw191 k0_h5 => k0_hw191 k0_h5

def k0_off576 (i : grid0.Coords) (k0_t5 : Fin k0_t5_loop.trips) : Fin 2 → Nat :=
  let arg0 : BitVec 32 := BitVec.ofNat 32 (i 0).val
  let v723 : Index := Scalar.indexCast arg0
  let arg1 : BitVec 32 := BitVec.ofNat 32 (i 1).val
  let c1_i32_48 : BitVec 32 := 1#32
  let v87 : BitVec 32 := Scalar.addi arg1 c1_i32_48
  let c256_i32_49 : BitVec 32 := 256#32
  let v88 : BitVec 32 := Scalar.muli v87 c256_i32_49
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c63_i32 : BitVec 32 := 63#32
  let v721 : BitVec 32 := Scalar.addi v90 c63_i32
  let v722 : BitVec 32 := Scalar.addi v88 v721
  let v724 : Index := Scalar.indexCast v722
  ![v723.toNat, v724.toNat]
def k0_off577 (k0_t5 : Fin k0_t5_loop.trips) : Fin 3 → Nat :=
  let c0_i32_51 : BitVec 32 := 0#32
  let c1_i32_53 : BitVec 32 := 1#32
  let arg15 : BitVec 32 := Scf.iv c0_i32_51 c1_i32_53 k0_t5
  let c64_i32 : BitVec 32 := 64#32
  let v90 : BitVec 32 := Scalar.muli arg15 c64_i32
  let c63_i32 : BitVec 32 := 63#32
  let v721 : BitVec 32 := Scalar.addi v90 c63_i32
  let c0_i32_250 : BitVec 32 := 0#32
  let c0_i32_251 : BitVec 32 := 0#32
  ![v721.toNat, 0, 0]
def k0_off578 (v725 : BitVec 32) : Fin 2 → Nat :=
  let c0_i32_252 : BitVec 32 := 0#32
  ![v725.toNat, 0]

def k0_chk192 (i : grid0.Coords) (v725 : BitVec 32) : Prop :=
  (∀ (k0_h5 : k0_cond5 i = 1#1), ∀ a, (k0_off578 v725) a + S1x9984.size a ≤ S10000x10000.size a)
theorem k0_off578_inb : ∀ (i : grid0.Coords) (v725 : BitVec 32) (k0_hw192 : k0_chk192 i v725), ∀ (k0_h5 : k0_cond5 i = 1#1), ∀ a, (k0_off578 v725) a + S1x9984.size a ≤ S10000x10000.size a := fun i v725 k0_hw192 k0_h5 => k0_hw192 k0_h5

@[reducible] def k0_t6_loop : Scf.Loop 32 :=
  let c0_i32_15 : BitVec 32 := 0#32
  let c4_i32 : BitVec 32 := 4#32
  let v28 : BitVec 32 := Scalar.addi c0_i32_15 c4_i32
  let c1_i32_16 : BitVec 32 := 1#32
  ⟨c0_i32_15, v28, c1_i32_16⟩
def k0_off579 (i : grid0.Coords) (k0_t6 : Fin k0_t6_loop.trips) : Fin 2 → Nat :=
  let arg0 : BitVec 32 := BitVec.ofNat 32 (i 0).val
  let v91 : Index := Scalar.indexCast arg0
  let arg1 : BitVec 32 := BitVec.ofNat 32 (i 1).val
  let c256_i32_48 : BitVec 32 := 256#32
  let v88 : BitVec 32 := Scalar.muli arg1 c256_i32_48
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v89 : BitVec 32 := Scalar.addi v88 v87
  let c0_i32_49 : BitVec 32 := 0#32
  let v90 : BitVec 32 := Scalar.addi v89 c0_i32_49
  let v92 : Index := Scalar.indexCast v90
  ![v91.toNat, v92.toNat]
def k0_mult1 (v93 : BitVec 32) : BitVec 32 :=
  let c3_i32 : BitVec 32 := 3#32
  let v94 : BitVec 32 := Scalar.shrsi v93 c3_i32
  let c3_i32_50 : BitVec 32 := 3#32
  let v95 : BitVec 32 := Scalar.shli v94 c3_i32_50
  v95

def k0_off580 (v93 : BitVec 32) : Fin 2 → Nat :=
  let c3_i32 : BitVec 32 := 3#32
  let v94 : BitVec 32 := Scalar.shrsi v93 c3_i32
  let c3_i32_50 : BitVec 32 := 3#32
  let v95 : BitVec 32 := Scalar.shli v94 c3_i32_50
  let v96 : BitVec 32 := v95
  let v97 : Index := Scalar.indexCast v96
  let c0_51 : Index := 0#32
  ![v97.toNat, 0]

def k0_chk193 (v93 : BitVec 32) : Prop :=
  (8 ∣ (k0_mult1 v93).toNat) ∧
  (∀ a, (k0_off580 v93) a + S8x128.size a ≤ S10000x128.size a)
theorem k0_mult1_dvd : ∀ (v93 : BitVec 32) (k0_hw193 : k0_chk193 v93), 8 ∣ (k0_mult1 v93).toNat := fun v93 k0_hw193 => k0_hw193.1
theorem k0_off580_inb : ∀ (v93 : BitVec 32) (k0_hw193 : k0_chk193 v93), ∀ a, (k0_off580 v93) a + S8x128.size a ≤ S10000x128.size a := fun v93 k0_hw193 => k0_hw193.2

def k0_off581 (i : grid0.Coords) (k0_t6 : Fin k0_t6_loop.trips) : Fin 2 → Nat :=
  let arg0 : BitVec 32 := BitVec.ofNat 32 (i 0).val
  let v107 : Index := Scalar.indexCast arg0
  let arg1 : BitVec 32 := BitVec.ofNat 32 (i 1).val
  let c256_i32_53 : BitVec 32 := 256#32
  let v104 : BitVec 32 := Scalar.muli arg1 c256_i32_53
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v105 : BitVec 32 := Scalar.addi v104 v87
  let c1_i32_54 : BitVec 32 := 1#32
  let v106 : BitVec 32 := Scalar.addi v105 c1_i32_54
  let v108 : Index := Scalar.indexCast v106
  ![v107.toNat, v108.toNat]
def k0_mult2 (v109 : BitVec 32) : BitVec 32 :=
  let c3_i32_55 : BitVec 32 := 3#32
  let v110 : BitVec 32 := Scalar.shrsi v109 c3_i32_55
  let c3_i32_56 : BitVec 32 := 3#32
  let v111 : BitVec 32 := Scalar.shli v110 c3_i32_56
  v111

def k0_off582 (v109 : BitVec 32) : Fin 2 → Nat :=
  let c3_i32_55 : BitVec 32 := 3#32
  let v110 : BitVec 32 := Scalar.shrsi v109 c3_i32_55
  let c3_i32_56 : BitVec 32 := 3#32
  let v111 : BitVec 32 := Scalar.shli v110 c3_i32_56
  let v112 : BitVec 32 := v111
  let v113 : Index := Scalar.indexCast v112
  let c0_57 : Index := 0#32
  ![v113.toNat, 0]

def k0_chk194 (v109 : BitVec 32) : Prop :=
  (8 ∣ (k0_mult2 v109).toNat) ∧
  (∀ a, (k0_off582 v109) a + S8x128.size a ≤ S10000x128.size a)
theorem k0_mult2_dvd : ∀ (v109 : BitVec 32) (k0_hw194 : k0_chk194 v109), 8 ∣ (k0_mult2 v109).toNat := fun v109 k0_hw194 => k0_hw194.1
theorem k0_off582_inb : ∀ (v109 : BitVec 32) (k0_hw194 : k0_chk194 v109), ∀ a, (k0_off582 v109) a + S8x128.size a ≤ S10000x128.size a := fun v109 k0_hw194 => k0_hw194.2

def k0_off583 (i : grid0.Coords) (k0_t6 : Fin k0_t6_loop.trips) : Fin 2 → Nat :=
  let arg0 : BitVec 32 := BitVec.ofNat 32 (i 0).val
  let v123 : Index := Scalar.indexCast arg0
  let arg1 : BitVec 32 := BitVec.ofNat 32 (i 1).val
  let c256_i32_60 : BitVec 32 := 256#32
  let v120 : BitVec 32 := Scalar.muli arg1 c256_i32_60
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v121 : BitVec 32 := Scalar.addi v120 v87
  let c2_i32_61 : BitVec 32 := 2#32
  let v122 : BitVec 32 := Scalar.addi v121 c2_i32_61
  let v124 : Index := Scalar.indexCast v122
  ![v123.toNat, v124.toNat]
def k0_mult3 (v125 : BitVec 32) : BitVec 32 :=
  let c3_i32_62 : BitVec 32 := 3#32
  let v126 : BitVec 32 := Scalar.shrsi v125 c3_i32_62
  let c3_i32_63 : BitVec 32 := 3#32
  let v127 : BitVec 32 := Scalar.shli v126 c3_i32_63
  v127

def k0_off584 (v125 : BitVec 32) : Fin 2 → Nat :=
  let c3_i32_62 : BitVec 32 := 3#32
  let v126 : BitVec 32 := Scalar.shrsi v125 c3_i32_62
  let c3_i32_63 : BitVec 32 := 3#32
  let v127 : BitVec 32 := Scalar.shli v126 c3_i32_63
  let v128 : BitVec 32 := v127
  let v129 : Index := Scalar.indexCast v128
  let c0_64 : Index := 0#32
  ![v129.toNat, 0]

def k0_chk195 (v125 : BitVec 32) : Prop :=
  (8 ∣ (k0_mult3 v125).toNat) ∧
  (∀ a, (k0_off584 v125) a + S8x128.size a ≤ S10000x128.size a)
theorem k0_mult3_dvd : ∀ (v125 : BitVec 32) (k0_hw195 : k0_chk195 v125), 8 ∣ (k0_mult3 v125).toNat := fun v125 k0_hw195 => k0_hw195.1
theorem k0_off584_inb : ∀ (v125 : BitVec 32) (k0_hw195 : k0_chk195 v125), ∀ a, (k0_off584 v125) a + S8x128.size a ≤ S10000x128.size a := fun v125 k0_hw195 => k0_hw195.2

def k0_off585 (i : grid0.Coords) (k0_t6 : Fin k0_t6_loop.trips) : Fin 2 → Nat :=
  let arg0 : BitVec 32 := BitVec.ofNat 32 (i 0).val
  let v139 : Index := Scalar.indexCast arg0
  let arg1 : BitVec 32 := BitVec.ofNat 32 (i 1).val
  let c256_i32_67 : BitVec 32 := 256#32
  let v136 : BitVec 32 := Scalar.muli arg1 c256_i32_67
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v137 : BitVec 32 := Scalar.addi v136 v87
  let c3_i32_68 : BitVec 32 := 3#32
  let v138 : BitVec 32 := Scalar.addi v137 c3_i32_68
  let v140 : Index := Scalar.indexCast v138
  ![v139.toNat, v140.toNat]
def k0_mult4 (v141 : BitVec 32) : BitVec 32 :=
  let c3_i32_69 : BitVec 32 := 3#32
  let v142 : BitVec 32 := Scalar.shrsi v141 c3_i32_69
  let c3_i32_70 : BitVec 32 := 3#32
  let v143 : BitVec 32 := Scalar.shli v142 c3_i32_70
  v143

def k0_off586 (v141 : BitVec 32) : Fin 2 → Nat :=
  let c3_i32_69 : BitVec 32 := 3#32
  let v142 : BitVec 32 := Scalar.shrsi v141 c3_i32_69
  let c3_i32_70 : BitVec 32 := 3#32
  let v143 : BitVec 32 := Scalar.shli v142 c3_i32_70
  let v144 : BitVec 32 := v143
  let v145 : Index := Scalar.indexCast v144
  let c0_71 : Index := 0#32
  ![v145.toNat, 0]

def k0_chk196 (v141 : BitVec 32) : Prop :=
  (8 ∣ (k0_mult4 v141).toNat) ∧
  (∀ a, (k0_off586 v141) a + S8x128.size a ≤ S10000x128.size a)
theorem k0_mult4_dvd : ∀ (v141 : BitVec 32) (k0_hw196 : k0_chk196 v141), 8 ∣ (k0_mult4 v141).toNat := fun v141 k0_hw196 => k0_hw196.1
theorem k0_off586_inb : ∀ (v141 : BitVec 32) (k0_hw196 : k0_chk196 v141), ∀ a, (k0_off586 v141) a + S8x128.size a ≤ S10000x128.size a := fun v141 k0_hw196 => k0_hw196.2

def k0_off587 (i : grid0.Coords) (k0_t6 : Fin k0_t6_loop.trips) : Fin 2 → Nat :=
  let arg0 : BitVec 32 := BitVec.ofNat 32 (i 0).val
  let v155 : Index := Scalar.indexCast arg0
  let arg1 : BitVec 32 := BitVec.ofNat 32 (i 1).val
  let c256_i32_74 : BitVec 32 := 256#32
  let v152 : BitVec 32 := Scalar.muli arg1 c256_i32_74
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v153 : BitVec 32 := Scalar.addi v152 v87
  let c4_i32_75 : BitVec 32 := 4#32
  let v154 : BitVec 32 := Scalar.addi v153 c4_i32_75
  let v156 : Index := Scalar.indexCast v154
  ![v155.toNat, v156.toNat]
def k0_mult5 (v157 : BitVec 32) : BitVec 32 :=
  let c3_i32_76 : BitVec 32 := 3#32
  let v158 : BitVec 32 := Scalar.shrsi v157 c3_i32_76
  let c3_i32_77 : BitVec 32 := 3#32
  let v159 : BitVec 32 := Scalar.shli v158 c3_i32_77
  v159

def k0_off588 (v157 : BitVec 32) : Fin 2 → Nat :=
  let c3_i32_76 : BitVec 32 := 3#32
  let v158 : BitVec 32 := Scalar.shrsi v157 c3_i32_76
  let c3_i32_77 : BitVec 32 := 3#32
  let v159 : BitVec 32 := Scalar.shli v158 c3_i32_77
  let v160 : BitVec 32 := v159
  let v161 : Index := Scalar.indexCast v160
  let c0_78 : Index := 0#32
  ![v161.toNat, 0]

def k0_chk197 (v157 : BitVec 32) : Prop :=
  (8 ∣ (k0_mult5 v157).toNat) ∧
  (∀ a, (k0_off588 v157) a + S8x128.size a ≤ S10000x128.size a)
theorem k0_mult5_dvd : ∀ (v157 : BitVec 32) (k0_hw197 : k0_chk197 v157), 8 ∣ (k0_mult5 v157).toNat := fun v157 k0_hw197 => k0_hw197.1
theorem k0_off588_inb : ∀ (v157 : BitVec 32) (k0_hw197 : k0_chk197 v157), ∀ a, (k0_off588 v157) a + S8x128.size a ≤ S10000x128.size a := fun v157 k0_hw197 => k0_hw197.2

def k0_off589 (i : grid0.Coords) (k0_t6 : Fin k0_t6_loop.trips) : Fin 2 → Nat :=
  let arg0 : BitVec 32 := BitVec.ofNat 32 (i 0).val
  let v171 : Index := Scalar.indexCast arg0
  let arg1 : BitVec 32 := BitVec.ofNat 32 (i 1).val
  let c256_i32_81 : BitVec 32 := 256#32
  let v168 : BitVec 32 := Scalar.muli arg1 c256_i32_81
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v169 : BitVec 32 := Scalar.addi v168 v87
  let c5_i32 : BitVec 32 := 5#32
  let v170 : BitVec 32 := Scalar.addi v169 c5_i32
  let v172 : Index := Scalar.indexCast v170
  ![v171.toNat, v172.toNat]
def k0_mult6 (v173 : BitVec 32) : BitVec 32 :=
  let c3_i32_82 : BitVec 32 := 3#32
  let v174 : BitVec 32 := Scalar.shrsi v173 c3_i32_82
  let c3_i32_83 : BitVec 32 := 3#32
  let v175 : BitVec 32 := Scalar.shli v174 c3_i32_83
  v175

def k0_off590 (v173 : BitVec 32) : Fin 2 → Nat :=
  let c3_i32_82 : BitVec 32 := 3#32
  let v174 : BitVec 32 := Scalar.shrsi v173 c3_i32_82
  let c3_i32_83 : BitVec 32 := 3#32
  let v175 : BitVec 32 := Scalar.shli v174 c3_i32_83
  let v176 : BitVec 32 := v175
  let v177 : Index := Scalar.indexCast v176
  let c0_84 : Index := 0#32
  ![v177.toNat, 0]

def k0_chk198 (v173 : BitVec 32) : Prop :=
  (8 ∣ (k0_mult6 v173).toNat) ∧
  (∀ a, (k0_off590 v173) a + S8x128.size a ≤ S10000x128.size a)
theorem k0_mult6_dvd : ∀ (v173 : BitVec 32) (k0_hw198 : k0_chk198 v173), 8 ∣ (k0_mult6 v173).toNat := fun v173 k0_hw198 => k0_hw198.1
theorem k0_off590_inb : ∀ (v173 : BitVec 32) (k0_hw198 : k0_chk198 v173), ∀ a, (k0_off590 v173) a + S8x128.size a ≤ S10000x128.size a := fun v173 k0_hw198 => k0_hw198.2

def k0_off591 (i : grid0.Coords) (k0_t6 : Fin k0_t6_loop.trips) : Fin 2 → Nat :=
  let arg0 : BitVec 32 := BitVec.ofNat 32 (i 0).val
  let v187 : Index := Scalar.indexCast arg0
  let arg1 : BitVec 32 := BitVec.ofNat 32 (i 1).val
  let c256_i32_87 : BitVec 32 := 256#32
  let v184 : BitVec 32 := Scalar.muli arg1 c256_i32_87
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v185 : BitVec 32 := Scalar.addi v184 v87
  let c6_i32 : BitVec 32 := 6#32
  let v186 : BitVec 32 := Scalar.addi v185 c6_i32
  let v188 : Index := Scalar.indexCast v186
  ![v187.toNat, v188.toNat]
def k0_mult7 (v189 : BitVec 32) : BitVec 32 :=
  let c3_i32_88 : BitVec 32 := 3#32
  let v190 : BitVec 32 := Scalar.shrsi v189 c3_i32_88
  let c3_i32_89 : BitVec 32 := 3#32
  let v191 : BitVec 32 := Scalar.shli v190 c3_i32_89
  v191

def k0_off592 (v189 : BitVec 32) : Fin 2 → Nat :=
  let c3_i32_88 : BitVec 32 := 3#32
  let v190 : BitVec 32 := Scalar.shrsi v189 c3_i32_88
  let c3_i32_89 : BitVec 32 := 3#32
  let v191 : BitVec 32 := Scalar.shli v190 c3_i32_89
  let v192 : BitVec 32 := v191
  let v193 : Index := Scalar.indexCast v192
  let c0_90 : Index := 0#32
  ![v193.toNat, 0]

def k0_chk199 (v189 : BitVec 32) : Prop :=
  (8 ∣ (k0_mult7 v189).toNat) ∧
  (∀ a, (k0_off592 v189) a + S8x128.size a ≤ S10000x128.size a)
theorem k0_mult7_dvd : ∀ (v189 : BitVec 32) (k0_hw199 : k0_chk199 v189), 8 ∣ (k0_mult7 v189).toNat := fun v189 k0_hw199 => k0_hw199.1
theorem k0_off592_inb : ∀ (v189 : BitVec 32) (k0_hw199 : k0_chk199 v189), ∀ a, (k0_off592 v189) a + S8x128.size a ≤ S10000x128.size a := fun v189 k0_hw199 => k0_hw199.2

def k0_off593 (i : grid0.Coords) (k0_t6 : Fin k0_t6_loop.trips) : Fin 2 → Nat :=
  let arg0 : BitVec 32 := BitVec.ofNat 32 (i 0).val
  let v203 : Index := Scalar.indexCast arg0
  let arg1 : BitVec 32 := BitVec.ofNat 32 (i 1).val
  let c256_i32_93 : BitVec 32 := 256#32
  let v200 : BitVec 32 := Scalar.muli arg1 c256_i32_93
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v201 : BitVec 32 := Scalar.addi v200 v87
  let c7_i32_94 : BitVec 32 := 7#32
  let v202 : BitVec 32 := Scalar.addi v201 c7_i32_94
  let v204 : Index := Scalar.indexCast v202
  ![v203.toNat, v204.toNat]
def k0_mult8 (v205 : BitVec 32) : BitVec 32 :=
  let c3_i32_95 : BitVec 32 := 3#32
  let v206 : BitVec 32 := Scalar.shrsi v205 c3_i32_95
  let c3_i32_96 : BitVec 32 := 3#32
  let v207 : BitVec 32 := Scalar.shli v206 c3_i32_96
  v207

def k0_off594 (v205 : BitVec 32) : Fin 2 → Nat :=
  let c3_i32_95 : BitVec 32 := 3#32
  let v206 : BitVec 32 := Scalar.shrsi v205 c3_i32_95
  let c3_i32_96 : BitVec 32 := 3#32
  let v207 : BitVec 32 := Scalar.shli v206 c3_i32_96
  let v208 : BitVec 32 := v207
  let v209 : Index := Scalar.indexCast v208
  let c0_97 : Index := 0#32
  ![v209.toNat, 0]

def k0_chk200 (v205 : BitVec 32) : Prop :=
  (8 ∣ (k0_mult8 v205).toNat) ∧
  (∀ a, (k0_off594 v205) a + S8x128.size a ≤ S10000x128.size a)
theorem k0_mult8_dvd : ∀ (v205 : BitVec 32) (k0_hw200 : k0_chk200 v205), 8 ∣ (k0_mult8 v205).toNat := fun v205 k0_hw200 => k0_hw200.1
theorem k0_off594_inb : ∀ (v205 : BitVec 32) (k0_hw200 : k0_chk200 v205), ∀ a, (k0_off594 v205) a + S8x128.size a ≤ S10000x128.size a := fun v205 k0_hw200 => k0_hw200.2

def k0_off595 (i : grid0.Coords) (k0_t6 : Fin k0_t6_loop.trips) : Fin 2 → Nat :=
  let arg0 : BitVec 32 := BitVec.ofNat 32 (i 0).val
  let v219 : Index := Scalar.indexCast arg0
  let arg1 : BitVec 32 := BitVec.ofNat 32 (i 1).val
  let c256_i32_100 : BitVec 32 := 256#32
  let v216 : BitVec 32 := Scalar.muli arg1 c256_i32_100
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v217 : BitVec 32 := Scalar.addi v216 v87
  let c8_i32_101 : BitVec 32 := 8#32
  let v218 : BitVec 32 := Scalar.addi v217 c8_i32_101
  let v220 : Index := Scalar.indexCast v218
  ![v219.toNat, v220.toNat]
def k0_mult9 (v221 : BitVec 32) : BitVec 32 :=
  let c3_i32_102 : BitVec 32 := 3#32
  let v222 : BitVec 32 := Scalar.shrsi v221 c3_i32_102
  let c3_i32_103 : BitVec 32 := 3#32
  let v223 : BitVec 32 := Scalar.shli v222 c3_i32_103
  v223

def k0_off596 (v221 : BitVec 32) : Fin 2 → Nat :=
  let c3_i32_102 : BitVec 32 := 3#32
  let v222 : BitVec 32 := Scalar.shrsi v221 c3_i32_102
  let c3_i32_103 : BitVec 32 := 3#32
  let v223 : BitVec 32 := Scalar.shli v222 c3_i32_103
  let v224 : BitVec 32 := v223
  let v225 : Index := Scalar.indexCast v224
  let c0_104 : Index := 0#32
  ![v225.toNat, 0]

def k0_chk201 (v221 : BitVec 32) : Prop :=
  (8 ∣ (k0_mult9 v221).toNat) ∧
  (∀ a, (k0_off596 v221) a + S8x128.size a ≤ S10000x128.size a)
theorem k0_mult9_dvd : ∀ (v221 : BitVec 32) (k0_hw201 : k0_chk201 v221), 8 ∣ (k0_mult9 v221).toNat := fun v221 k0_hw201 => k0_hw201.1
theorem k0_off596_inb : ∀ (v221 : BitVec 32) (k0_hw201 : k0_chk201 v221), ∀ a, (k0_off596 v221) a + S8x128.size a ≤ S10000x128.size a := fun v221 k0_hw201 => k0_hw201.2

def k0_off597 (i : grid0.Coords) (k0_t6 : Fin k0_t6_loop.trips) : Fin 2 → Nat :=
  let arg0 : BitVec 32 := BitVec.ofNat 32 (i 0).val
  let v235 : Index := Scalar.indexCast arg0
  let arg1 : BitVec 32 := BitVec.ofNat 32 (i 1).val
  let c256_i32_107 : BitVec 32 := 256#32
  let v232 : BitVec 32 := Scalar.muli arg1 c256_i32_107
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v233 : BitVec 32 := Scalar.addi v232 v87
  let c9_i32 : BitVec 32 := 9#32
  let v234 : BitVec 32 := Scalar.addi v233 c9_i32
  let v236 : Index := Scalar.indexCast v234
  ![v235.toNat, v236.toNat]
def k0_mult10 (v237 : BitVec 32) : BitVec 32 :=
  let c3_i32_108 : BitVec 32 := 3#32
  let v238 : BitVec 32 := Scalar.shrsi v237 c3_i32_108
  let c3_i32_109 : BitVec 32 := 3#32
  let v239 : BitVec 32 := Scalar.shli v238 c3_i32_109
  v239

def k0_off598 (v237 : BitVec 32) : Fin 2 → Nat :=
  let c3_i32_108 : BitVec 32 := 3#32
  let v238 : BitVec 32 := Scalar.shrsi v237 c3_i32_108
  let c3_i32_109 : BitVec 32 := 3#32
  let v239 : BitVec 32 := Scalar.shli v238 c3_i32_109
  let v240 : BitVec 32 := v239
  let v241 : Index := Scalar.indexCast v240
  let c0_110 : Index := 0#32
  ![v241.toNat, 0]

def k0_chk202 (v237 : BitVec 32) : Prop :=
  (8 ∣ (k0_mult10 v237).toNat) ∧
  (∀ a, (k0_off598 v237) a + S8x128.size a ≤ S10000x128.size a)
theorem k0_mult10_dvd : ∀ (v237 : BitVec 32) (k0_hw202 : k0_chk202 v237), 8 ∣ (k0_mult10 v237).toNat := fun v237 k0_hw202 => k0_hw202.1
theorem k0_off598_inb : ∀ (v237 : BitVec 32) (k0_hw202 : k0_chk202 v237), ∀ a, (k0_off598 v237) a + S8x128.size a ≤ S10000x128.size a := fun v237 k0_hw202 => k0_hw202.2

def k0_off599 (i : grid0.Coords) (k0_t6 : Fin k0_t6_loop.trips) : Fin 2 → Nat :=
  let arg0 : BitVec 32 := BitVec.ofNat 32 (i 0).val
  let v251 : Index := Scalar.indexCast arg0
  let arg1 : BitVec 32 := BitVec.ofNat 32 (i 1).val
  let c256_i32_113 : BitVec 32 := 256#32
  let v248 : BitVec 32 := Scalar.muli arg1 c256_i32_113
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v249 : BitVec 32 := Scalar.addi v248 v87
  let c10_i32 : BitVec 32 := 10#32
  let v250 : BitVec 32 := Scalar.addi v249 c10_i32
  let v252 : Index := Scalar.indexCast v250
  ![v251.toNat, v252.toNat]
def k0_mult11 (v253 : BitVec 32) : BitVec 32 :=
  let c3_i32_114 : BitVec 32 := 3#32
  let v254 : BitVec 32 := Scalar.shrsi v253 c3_i32_114
  let c3_i32_115 : BitVec 32 := 3#32
  let v255 : BitVec 32 := Scalar.shli v254 c3_i32_115
  v255

def k0_off600 (v253 : BitVec 32) : Fin 2 → Nat :=
  let c3_i32_114 : BitVec 32 := 3#32
  let v254 : BitVec 32 := Scalar.shrsi v253 c3_i32_114
  let c3_i32_115 : BitVec 32 := 3#32
  let v255 : BitVec 32 := Scalar.shli v254 c3_i32_115
  let v256 : BitVec 32 := v255
  let v257 : Index := Scalar.indexCast v256
  let c0_116 : Index := 0#32
  ![v257.toNat, 0]

def k0_chk203 (v253 : BitVec 32) : Prop :=
  (8 ∣ (k0_mult11 v253).toNat) ∧
  (∀ a, (k0_off600 v253) a + S8x128.size a ≤ S10000x128.size a)
theorem k0_mult11_dvd : ∀ (v253 : BitVec 32) (k0_hw203 : k0_chk203 v253), 8 ∣ (k0_mult11 v253).toNat := fun v253 k0_hw203 => k0_hw203.1
theorem k0_off600_inb : ∀ (v253 : BitVec 32) (k0_hw203 : k0_chk203 v253), ∀ a, (k0_off600 v253) a + S8x128.size a ≤ S10000x128.size a := fun v253 k0_hw203 => k0_hw203.2

def k0_off601 (i : grid0.Coords) (k0_t6 : Fin k0_t6_loop.trips) : Fin 2 → Nat :=
  let arg0 : BitVec 32 := BitVec.ofNat 32 (i 0).val
  let v267 : Index := Scalar.indexCast arg0
  let arg1 : BitVec 32 := BitVec.ofNat 32 (i 1).val
  let c256_i32_119 : BitVec 32 := 256#32
  let v264 : BitVec 32 := Scalar.muli arg1 c256_i32_119
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v265 : BitVec 32 := Scalar.addi v264 v87
  let c11_i32 : BitVec 32 := 11#32
  let v266 : BitVec 32 := Scalar.addi v265 c11_i32
  let v268 : Index := Scalar.indexCast v266
  ![v267.toNat, v268.toNat]
def k0_mult12 (v269 : BitVec 32) : BitVec 32 :=
  let c3_i32_120 : BitVec 32 := 3#32
  let v270 : BitVec 32 := Scalar.shrsi v269 c3_i32_120
  let c3_i32_121 : BitVec 32 := 3#32
  let v271 : BitVec 32 := Scalar.shli v270 c3_i32_121
  v271

def k0_off602 (v269 : BitVec 32) : Fin 2 → Nat :=
  let c3_i32_120 : BitVec 32 := 3#32
  let v270 : BitVec 32 := Scalar.shrsi v269 c3_i32_120
  let c3_i32_121 : BitVec 32 := 3#32
  let v271 : BitVec 32 := Scalar.shli v270 c3_i32_121
  let v272 : BitVec 32 := v271
  let v273 : Index := Scalar.indexCast v272
  let c0_122 : Index := 0#32
  ![v273.toNat, 0]

def k0_chk204 (v269 : BitVec 32) : Prop :=
  (8 ∣ (k0_mult12 v269).toNat) ∧
  (∀ a, (k0_off602 v269) a + S8x128.size a ≤ S10000x128.size a)
theorem k0_mult12_dvd : ∀ (v269 : BitVec 32) (k0_hw204 : k0_chk204 v269), 8 ∣ (k0_mult12 v269).toNat := fun v269 k0_hw204 => k0_hw204.1
theorem k0_off602_inb : ∀ (v269 : BitVec 32) (k0_hw204 : k0_chk204 v269), ∀ a, (k0_off602 v269) a + S8x128.size a ≤ S10000x128.size a := fun v269 k0_hw204 => k0_hw204.2

def k0_off603 (i : grid0.Coords) (k0_t6 : Fin k0_t6_loop.trips) : Fin 2 → Nat :=
  let arg0 : BitVec 32 := BitVec.ofNat 32 (i 0).val
  let v283 : Index := Scalar.indexCast arg0
  let arg1 : BitVec 32 := BitVec.ofNat 32 (i 1).val
  let c256_i32_125 : BitVec 32 := 256#32
  let v280 : BitVec 32 := Scalar.muli arg1 c256_i32_125
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v281 : BitVec 32 := Scalar.addi v280 v87
  let c12_i32 : BitVec 32 := 12#32
  let v282 : BitVec 32 := Scalar.addi v281 c12_i32
  let v284 : Index := Scalar.indexCast v282
  ![v283.toNat, v284.toNat]
def k0_mult13 (v285 : BitVec 32) : BitVec 32 :=
  let c3_i32_126 : BitVec 32 := 3#32
  let v286 : BitVec 32 := Scalar.shrsi v285 c3_i32_126
  let c3_i32_127 : BitVec 32 := 3#32
  let v287 : BitVec 32 := Scalar.shli v286 c3_i32_127
  v287

def k0_off604 (v285 : BitVec 32) : Fin 2 → Nat :=
  let c3_i32_126 : BitVec 32 := 3#32
  let v286 : BitVec 32 := Scalar.shrsi v285 c3_i32_126
  let c3_i32_127 : BitVec 32 := 3#32
  let v287 : BitVec 32 := Scalar.shli v286 c3_i32_127
  let v288 : BitVec 32 := v287
  let v289 : Index := Scalar.indexCast v288
  let c0_128 : Index := 0#32
  ![v289.toNat, 0]

def k0_chk205 (v285 : BitVec 32) : Prop :=
  (8 ∣ (k0_mult13 v285).toNat) ∧
  (∀ a, (k0_off604 v285) a + S8x128.size a ≤ S10000x128.size a)
theorem k0_mult13_dvd : ∀ (v285 : BitVec 32) (k0_hw205 : k0_chk205 v285), 8 ∣ (k0_mult13 v285).toNat := fun v285 k0_hw205 => k0_hw205.1
theorem k0_off604_inb : ∀ (v285 : BitVec 32) (k0_hw205 : k0_chk205 v285), ∀ a, (k0_off604 v285) a + S8x128.size a ≤ S10000x128.size a := fun v285 k0_hw205 => k0_hw205.2

def k0_off605 (i : grid0.Coords) (k0_t6 : Fin k0_t6_loop.trips) : Fin 2 → Nat :=
  let arg0 : BitVec 32 := BitVec.ofNat 32 (i 0).val
  let v299 : Index := Scalar.indexCast arg0
  let arg1 : BitVec 32 := BitVec.ofNat 32 (i 1).val
  let c256_i32_131 : BitVec 32 := 256#32
  let v296 : BitVec 32 := Scalar.muli arg1 c256_i32_131
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v297 : BitVec 32 := Scalar.addi v296 v87
  let c13_i32 : BitVec 32 := 13#32
  let v298 : BitVec 32 := Scalar.addi v297 c13_i32
  let v300 : Index := Scalar.indexCast v298
  ![v299.toNat, v300.toNat]
def k0_mult14 (v301 : BitVec 32) : BitVec 32 :=
  let c3_i32_132 : BitVec 32 := 3#32
  let v302 : BitVec 32 := Scalar.shrsi v301 c3_i32_132
  let c3_i32_133 : BitVec 32 := 3#32
  let v303 : BitVec 32 := Scalar.shli v302 c3_i32_133
  v303

def k0_off606 (v301 : BitVec 32) : Fin 2 → Nat :=
  let c3_i32_132 : BitVec 32 := 3#32
  let v302 : BitVec 32 := Scalar.shrsi v301 c3_i32_132
  let c3_i32_133 : BitVec 32 := 3#32
  let v303 : BitVec 32 := Scalar.shli v302 c3_i32_133
  let v304 : BitVec 32 := v303
  let v305 : Index := Scalar.indexCast v304
  let c0_134 : Index := 0#32
  ![v305.toNat, 0]

def k0_chk206 (v301 : BitVec 32) : Prop :=
  (8 ∣ (k0_mult14 v301).toNat) ∧
  (∀ a, (k0_off606 v301) a + S8x128.size a ≤ S10000x128.size a)
theorem k0_mult14_dvd : ∀ (v301 : BitVec 32) (k0_hw206 : k0_chk206 v301), 8 ∣ (k0_mult14 v301).toNat := fun v301 k0_hw206 => k0_hw206.1
theorem k0_off606_inb : ∀ (v301 : BitVec 32) (k0_hw206 : k0_chk206 v301), ∀ a, (k0_off606 v301) a + S8x128.size a ≤ S10000x128.size a := fun v301 k0_hw206 => k0_hw206.2

def k0_off607 (i : grid0.Coords) (k0_t6 : Fin k0_t6_loop.trips) : Fin 2 → Nat :=
  let arg0 : BitVec 32 := BitVec.ofNat 32 (i 0).val
  let v315 : Index := Scalar.indexCast arg0
  let arg1 : BitVec 32 := BitVec.ofNat 32 (i 1).val
  let c256_i32_137 : BitVec 32 := 256#32
  let v312 : BitVec 32 := Scalar.muli arg1 c256_i32_137
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v313 : BitVec 32 := Scalar.addi v312 v87
  let c14_i32 : BitVec 32 := 14#32
  let v314 : BitVec 32 := Scalar.addi v313 c14_i32
  let v316 : Index := Scalar.indexCast v314
  ![v315.toNat, v316.toNat]
def k0_mult15 (v317 : BitVec 32) : BitVec 32 :=
  let c3_i32_138 : BitVec 32 := 3#32
  let v318 : BitVec 32 := Scalar.shrsi v317 c3_i32_138
  let c3_i32_139 : BitVec 32 := 3#32
  let v319 : BitVec 32 := Scalar.shli v318 c3_i32_139
  v319

def k0_off608 (v317 : BitVec 32) : Fin 2 → Nat :=
  let c3_i32_138 : BitVec 32 := 3#32
  let v318 : BitVec 32 := Scalar.shrsi v317 c3_i32_138
  let c3_i32_139 : BitVec 32 := 3#32
  let v319 : BitVec 32 := Scalar.shli v318 c3_i32_139
  let v320 : BitVec 32 := v319
  let v321 : Index := Scalar.indexCast v320
  let c0_140 : Index := 0#32
  ![v321.toNat, 0]

def k0_chk207 (v317 : BitVec 32) : Prop :=
  (8 ∣ (k0_mult15 v317).toNat) ∧
  (∀ a, (k0_off608 v317) a + S8x128.size a ≤ S10000x128.size a)
theorem k0_mult15_dvd : ∀ (v317 : BitVec 32) (k0_hw207 : k0_chk207 v317), 8 ∣ (k0_mult15 v317).toNat := fun v317 k0_hw207 => k0_hw207.1
theorem k0_off608_inb : ∀ (v317 : BitVec 32) (k0_hw207 : k0_chk207 v317), ∀ a, (k0_off608 v317) a + S8x128.size a ≤ S10000x128.size a := fun v317 k0_hw207 => k0_hw207.2

def k0_off609 (i : grid0.Coords) (k0_t6 : Fin k0_t6_loop.trips) : Fin 2 → Nat :=
  let arg0 : BitVec 32 := BitVec.ofNat 32 (i 0).val
  let v331 : Index := Scalar.indexCast arg0
  let arg1 : BitVec 32 := BitVec.ofNat 32 (i 1).val
  let c256_i32_143 : BitVec 32 := 256#32
  let v328 : BitVec 32 := Scalar.muli arg1 c256_i32_143
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v329 : BitVec 32 := Scalar.addi v328 v87
  let c15_i32 : BitVec 32 := 15#32
  let v330 : BitVec 32 := Scalar.addi v329 c15_i32
  let v332 : Index := Scalar.indexCast v330
  ![v331.toNat, v332.toNat]
def k0_mult16 (v333 : BitVec 32) : BitVec 32 :=
  let c3_i32_144 : BitVec 32 := 3#32
  let v334 : BitVec 32 := Scalar.shrsi v333 c3_i32_144
  let c3_i32_145 : BitVec 32 := 3#32
  let v335 : BitVec 32 := Scalar.shli v334 c3_i32_145
  v335

def k0_off610 (v333 : BitVec 32) : Fin 2 → Nat :=
  let c3_i32_144 : BitVec 32 := 3#32
  let v334 : BitVec 32 := Scalar.shrsi v333 c3_i32_144
  let c3_i32_145 : BitVec 32 := 3#32
  let v335 : BitVec 32 := Scalar.shli v334 c3_i32_145
  let v336 : BitVec 32 := v335
  let v337 : Index := Scalar.indexCast v336
  let c0_146 : Index := 0#32
  ![v337.toNat, 0]

def k0_chk208 (v333 : BitVec 32) : Prop :=
  (8 ∣ (k0_mult16 v333).toNat) ∧
  (∀ a, (k0_off610 v333) a + S8x128.size a ≤ S10000x128.size a)
theorem k0_mult16_dvd : ∀ (v333 : BitVec 32) (k0_hw208 : k0_chk208 v333), 8 ∣ (k0_mult16 v333).toNat := fun v333 k0_hw208 => k0_hw208.1
theorem k0_off610_inb : ∀ (v333 : BitVec 32) (k0_hw208 : k0_chk208 v333), ∀ a, (k0_off610 v333) a + S8x128.size a ≤ S10000x128.size a := fun v333 k0_hw208 => k0_hw208.2

def k0_off611 (i : grid0.Coords) (k0_t6 : Fin k0_t6_loop.trips) : Fin 2 → Nat :=
  let arg0 : BitVec 32 := BitVec.ofNat 32 (i 0).val
  let v347 : Index := Scalar.indexCast arg0
  let arg1 : BitVec 32 := BitVec.ofNat 32 (i 1).val
  let c256_i32_149 : BitVec 32 := 256#32
  let v344 : BitVec 32 := Scalar.muli arg1 c256_i32_149
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v345 : BitVec 32 := Scalar.addi v344 v87
  let c16_i32 : BitVec 32 := 16#32
  let v346 : BitVec 32 := Scalar.addi v345 c16_i32
  let v348 : Index := Scalar.indexCast v346
  ![v347.toNat, v348.toNat]
def k0_mult17 (v349 : BitVec 32) : BitVec 32 :=
  let c3_i32_150 : BitVec 32 := 3#32
  let v350 : BitVec 32 := Scalar.shrsi v349 c3_i32_150
  let c3_i32_151 : BitVec 32 := 3#32
  let v351 : BitVec 32 := Scalar.shli v350 c3_i32_151
  v351

def k0_off612 (v349 : BitVec 32) : Fin 2 → Nat :=
  let c3_i32_150 : BitVec 32 := 3#32
  let v350 : BitVec 32 := Scalar.shrsi v349 c3_i32_150
  let c3_i32_151 : BitVec 32 := 3#32
  let v351 : BitVec 32 := Scalar.shli v350 c3_i32_151
  let v352 : BitVec 32 := v351
  let v353 : Index := Scalar.indexCast v352
  let c0_152 : Index := 0#32
  ![v353.toNat, 0]

def k0_chk209 (v349 : BitVec 32) : Prop :=
  (8 ∣ (k0_mult17 v349).toNat) ∧
  (∀ a, (k0_off612 v349) a + S8x128.size a ≤ S10000x128.size a)
theorem k0_mult17_dvd : ∀ (v349 : BitVec 32) (k0_hw209 : k0_chk209 v349), 8 ∣ (k0_mult17 v349).toNat := fun v349 k0_hw209 => k0_hw209.1
theorem k0_off612_inb : ∀ (v349 : BitVec 32) (k0_hw209 : k0_chk209 v349), ∀ a, (k0_off612 v349) a + S8x128.size a ≤ S10000x128.size a := fun v349 k0_hw209 => k0_hw209.2

def k0_off613 (i : grid0.Coords) (k0_t6 : Fin k0_t6_loop.trips) : Fin 2 → Nat :=
  let arg0 : BitVec 32 := BitVec.ofNat 32 (i 0).val
  let v363 : Index := Scalar.indexCast arg0
  let arg1 : BitVec 32 := BitVec.ofNat 32 (i 1).val
  let c256_i32_155 : BitVec 32 := 256#32
  let v360 : BitVec 32 := Scalar.muli arg1 c256_i32_155
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v361 : BitVec 32 := Scalar.addi v360 v87
  let c17_i32 : BitVec 32 := 17#32
  let v362 : BitVec 32 := Scalar.addi v361 c17_i32
  let v364 : Index := Scalar.indexCast v362
  ![v363.toNat, v364.toNat]
def k0_mult18 (v365 : BitVec 32) : BitVec 32 :=
  let c3_i32_156 : BitVec 32 := 3#32
  let v366 : BitVec 32 := Scalar.shrsi v365 c3_i32_156
  let c3_i32_157 : BitVec 32 := 3#32
  let v367 : BitVec 32 := Scalar.shli v366 c3_i32_157
  v367

def k0_off614 (v365 : BitVec 32) : Fin 2 → Nat :=
  let c3_i32_156 : BitVec 32 := 3#32
  let v366 : BitVec 32 := Scalar.shrsi v365 c3_i32_156
  let c3_i32_157 : BitVec 32 := 3#32
  let v367 : BitVec 32 := Scalar.shli v366 c3_i32_157
  let v368 : BitVec 32 := v367
  let v369 : Index := Scalar.indexCast v368
  let c0_158 : Index := 0#32
  ![v369.toNat, 0]

def k0_chk210 (v365 : BitVec 32) : Prop :=
  (8 ∣ (k0_mult18 v365).toNat) ∧
  (∀ a, (k0_off614 v365) a + S8x128.size a ≤ S10000x128.size a)
theorem k0_mult18_dvd : ∀ (v365 : BitVec 32) (k0_hw210 : k0_chk210 v365), 8 ∣ (k0_mult18 v365).toNat := fun v365 k0_hw210 => k0_hw210.1
theorem k0_off614_inb : ∀ (v365 : BitVec 32) (k0_hw210 : k0_chk210 v365), ∀ a, (k0_off614 v365) a + S8x128.size a ≤ S10000x128.size a := fun v365 k0_hw210 => k0_hw210.2

def k0_off615 (i : grid0.Coords) (k0_t6 : Fin k0_t6_loop.trips) : Fin 2 → Nat :=
  let arg0 : BitVec 32 := BitVec.ofNat 32 (i 0).val
  let v379 : Index := Scalar.indexCast arg0
  let arg1 : BitVec 32 := BitVec.ofNat 32 (i 1).val
  let c256_i32_161 : BitVec 32 := 256#32
  let v376 : BitVec 32 := Scalar.muli arg1 c256_i32_161
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v377 : BitVec 32 := Scalar.addi v376 v87
  let c18_i32 : BitVec 32 := 18#32
  let v378 : BitVec 32 := Scalar.addi v377 c18_i32
  let v380 : Index := Scalar.indexCast v378
  ![v379.toNat, v380.toNat]
def k0_mult19 (v381 : BitVec 32) : BitVec 32 :=
  let c3_i32_162 : BitVec 32 := 3#32
  let v382 : BitVec 32 := Scalar.shrsi v381 c3_i32_162
  let c3_i32_163 : BitVec 32 := 3#32
  let v383 : BitVec 32 := Scalar.shli v382 c3_i32_163
  v383

def k0_off616 (v381 : BitVec 32) : Fin 2 → Nat :=
  let c3_i32_162 : BitVec 32 := 3#32
  let v382 : BitVec 32 := Scalar.shrsi v381 c3_i32_162
  let c3_i32_163 : BitVec 32 := 3#32
  let v383 : BitVec 32 := Scalar.shli v382 c3_i32_163
  let v384 : BitVec 32 := v383
  let v385 : Index := Scalar.indexCast v384
  let c0_164 : Index := 0#32
  ![v385.toNat, 0]

def k0_chk211 (v381 : BitVec 32) : Prop :=
  (8 ∣ (k0_mult19 v381).toNat) ∧
  (∀ a, (k0_off616 v381) a + S8x128.size a ≤ S10000x128.size a)
theorem k0_mult19_dvd : ∀ (v381 : BitVec 32) (k0_hw211 : k0_chk211 v381), 8 ∣ (k0_mult19 v381).toNat := fun v381 k0_hw211 => k0_hw211.1
theorem k0_off616_inb : ∀ (v381 : BitVec 32) (k0_hw211 : k0_chk211 v381), ∀ a, (k0_off616 v381) a + S8x128.size a ≤ S10000x128.size a := fun v381 k0_hw211 => k0_hw211.2

def k0_off617 (i : grid0.Coords) (k0_t6 : Fin k0_t6_loop.trips) : Fin 2 → Nat :=
  let arg0 : BitVec 32 := BitVec.ofNat 32 (i 0).val
  let v395 : Index := Scalar.indexCast arg0
  let arg1 : BitVec 32 := BitVec.ofNat 32 (i 1).val
  let c256_i32_167 : BitVec 32 := 256#32
  let v392 : BitVec 32 := Scalar.muli arg1 c256_i32_167
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v393 : BitVec 32 := Scalar.addi v392 v87
  let c19_i32 : BitVec 32 := 19#32
  let v394 : BitVec 32 := Scalar.addi v393 c19_i32
  let v396 : Index := Scalar.indexCast v394
  ![v395.toNat, v396.toNat]
def k0_mult20 (v397 : BitVec 32) : BitVec 32 :=
  let c3_i32_168 : BitVec 32 := 3#32
  let v398 : BitVec 32 := Scalar.shrsi v397 c3_i32_168
  let c3_i32_169 : BitVec 32 := 3#32
  let v399 : BitVec 32 := Scalar.shli v398 c3_i32_169
  v399

def k0_off618 (v397 : BitVec 32) : Fin 2 → Nat :=
  let c3_i32_168 : BitVec 32 := 3#32
  let v398 : BitVec 32 := Scalar.shrsi v397 c3_i32_168
  let c3_i32_169 : BitVec 32 := 3#32
  let v399 : BitVec 32 := Scalar.shli v398 c3_i32_169
  let v400 : BitVec 32 := v399
  let v401 : Index := Scalar.indexCast v400
  let c0_170 : Index := 0#32
  ![v401.toNat, 0]

def k0_chk212 (v397 : BitVec 32) : Prop :=
  (8 ∣ (k0_mult20 v397).toNat) ∧
  (∀ a, (k0_off618 v397) a + S8x128.size a ≤ S10000x128.size a)
theorem k0_mult20_dvd : ∀ (v397 : BitVec 32) (k0_hw212 : k0_chk212 v397), 8 ∣ (k0_mult20 v397).toNat := fun v397 k0_hw212 => k0_hw212.1
theorem k0_off618_inb : ∀ (v397 : BitVec 32) (k0_hw212 : k0_chk212 v397), ∀ a, (k0_off618 v397) a + S8x128.size a ≤ S10000x128.size a := fun v397 k0_hw212 => k0_hw212.2

def k0_off619 (i : grid0.Coords) (k0_t6 : Fin k0_t6_loop.trips) : Fin 2 → Nat :=
  let arg0 : BitVec 32 := BitVec.ofNat 32 (i 0).val
  let v411 : Index := Scalar.indexCast arg0
  let arg1 : BitVec 32 := BitVec.ofNat 32 (i 1).val
  let c256_i32_173 : BitVec 32 := 256#32
  let v408 : BitVec 32 := Scalar.muli arg1 c256_i32_173
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v409 : BitVec 32 := Scalar.addi v408 v87
  let c20_i32 : BitVec 32 := 20#32
  let v410 : BitVec 32 := Scalar.addi v409 c20_i32
  let v412 : Index := Scalar.indexCast v410
  ![v411.toNat, v412.toNat]
def k0_mult21 (v413 : BitVec 32) : BitVec 32 :=
  let c3_i32_174 : BitVec 32 := 3#32
  let v414 : BitVec 32 := Scalar.shrsi v413 c3_i32_174
  let c3_i32_175 : BitVec 32 := 3#32
  let v415 : BitVec 32 := Scalar.shli v414 c3_i32_175
  v415

def k0_off620 (v413 : BitVec 32) : Fin 2 → Nat :=
  let c3_i32_174 : BitVec 32 := 3#32
  let v414 : BitVec 32 := Scalar.shrsi v413 c3_i32_174
  let c3_i32_175 : BitVec 32 := 3#32
  let v415 : BitVec 32 := Scalar.shli v414 c3_i32_175
  let v416 : BitVec 32 := v415
  let v417 : Index := Scalar.indexCast v416
  let c0_176 : Index := 0#32
  ![v417.toNat, 0]

def k0_chk213 (v413 : BitVec 32) : Prop :=
  (8 ∣ (k0_mult21 v413).toNat) ∧
  (∀ a, (k0_off620 v413) a + S8x128.size a ≤ S10000x128.size a)
theorem k0_mult21_dvd : ∀ (v413 : BitVec 32) (k0_hw213 : k0_chk213 v413), 8 ∣ (k0_mult21 v413).toNat := fun v413 k0_hw213 => k0_hw213.1
theorem k0_off620_inb : ∀ (v413 : BitVec 32) (k0_hw213 : k0_chk213 v413), ∀ a, (k0_off620 v413) a + S8x128.size a ≤ S10000x128.size a := fun v413 k0_hw213 => k0_hw213.2

def k0_off621 (i : grid0.Coords) (k0_t6 : Fin k0_t6_loop.trips) : Fin 2 → Nat :=
  let arg0 : BitVec 32 := BitVec.ofNat 32 (i 0).val
  let v427 : Index := Scalar.indexCast arg0
  let arg1 : BitVec 32 := BitVec.ofNat 32 (i 1).val
  let c256_i32_179 : BitVec 32 := 256#32
  let v424 : BitVec 32 := Scalar.muli arg1 c256_i32_179
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v425 : BitVec 32 := Scalar.addi v424 v87
  let c21_i32 : BitVec 32 := 21#32
  let v426 : BitVec 32 := Scalar.addi v425 c21_i32
  let v428 : Index := Scalar.indexCast v426
  ![v427.toNat, v428.toNat]
def k0_mult22 (v429 : BitVec 32) : BitVec 32 :=
  let c3_i32_180 : BitVec 32 := 3#32
  let v430 : BitVec 32 := Scalar.shrsi v429 c3_i32_180
  let c3_i32_181 : BitVec 32 := 3#32
  let v431 : BitVec 32 := Scalar.shli v430 c3_i32_181
  v431

def k0_off622 (v429 : BitVec 32) : Fin 2 → Nat :=
  let c3_i32_180 : BitVec 32 := 3#32
  let v430 : BitVec 32 := Scalar.shrsi v429 c3_i32_180
  let c3_i32_181 : BitVec 32 := 3#32
  let v431 : BitVec 32 := Scalar.shli v430 c3_i32_181
  let v432 : BitVec 32 := v431
  let v433 : Index := Scalar.indexCast v432
  let c0_182 : Index := 0#32
  ![v433.toNat, 0]

def k0_chk214 (v429 : BitVec 32) : Prop :=
  (8 ∣ (k0_mult22 v429).toNat) ∧
  (∀ a, (k0_off622 v429) a + S8x128.size a ≤ S10000x128.size a)
theorem k0_mult22_dvd : ∀ (v429 : BitVec 32) (k0_hw214 : k0_chk214 v429), 8 ∣ (k0_mult22 v429).toNat := fun v429 k0_hw214 => k0_hw214.1
theorem k0_off622_inb : ∀ (v429 : BitVec 32) (k0_hw214 : k0_chk214 v429), ∀ a, (k0_off622 v429) a + S8x128.size a ≤ S10000x128.size a := fun v429 k0_hw214 => k0_hw214.2

def k0_off623 (i : grid0.Coords) (k0_t6 : Fin k0_t6_loop.trips) : Fin 2 → Nat :=
  let arg0 : BitVec 32 := BitVec.ofNat 32 (i 0).val
  let v443 : Index := Scalar.indexCast arg0
  let arg1 : BitVec 32 := BitVec.ofNat 32 (i 1).val
  let c256_i32_185 : BitVec 32 := 256#32
  let v440 : BitVec 32 := Scalar.muli arg1 c256_i32_185
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v441 : BitVec 32 := Scalar.addi v440 v87
  let c22_i32 : BitVec 32 := 22#32
  let v442 : BitVec 32 := Scalar.addi v441 c22_i32
  let v444 : Index := Scalar.indexCast v442
  ![v443.toNat, v444.toNat]
def k0_mult23 (v445 : BitVec 32) : BitVec 32 :=
  let c3_i32_186 : BitVec 32 := 3#32
  let v446 : BitVec 32 := Scalar.shrsi v445 c3_i32_186
  let c3_i32_187 : BitVec 32 := 3#32
  let v447 : BitVec 32 := Scalar.shli v446 c3_i32_187
  v447

def k0_off624 (v445 : BitVec 32) : Fin 2 → Nat :=
  let c3_i32_186 : BitVec 32 := 3#32
  let v446 : BitVec 32 := Scalar.shrsi v445 c3_i32_186
  let c3_i32_187 : BitVec 32 := 3#32
  let v447 : BitVec 32 := Scalar.shli v446 c3_i32_187
  let v448 : BitVec 32 := v447
  let v449 : Index := Scalar.indexCast v448
  let c0_188 : Index := 0#32
  ![v449.toNat, 0]

def k0_chk215 (v445 : BitVec 32) : Prop :=
  (8 ∣ (k0_mult23 v445).toNat) ∧
  (∀ a, (k0_off624 v445) a + S8x128.size a ≤ S10000x128.size a)
theorem k0_mult23_dvd : ∀ (v445 : BitVec 32) (k0_hw215 : k0_chk215 v445), 8 ∣ (k0_mult23 v445).toNat := fun v445 k0_hw215 => k0_hw215.1
theorem k0_off624_inb : ∀ (v445 : BitVec 32) (k0_hw215 : k0_chk215 v445), ∀ a, (k0_off624 v445) a + S8x128.size a ≤ S10000x128.size a := fun v445 k0_hw215 => k0_hw215.2

def k0_off625 (i : grid0.Coords) (k0_t6 : Fin k0_t6_loop.trips) : Fin 2 → Nat :=
  let arg0 : BitVec 32 := BitVec.ofNat 32 (i 0).val
  let v459 : Index := Scalar.indexCast arg0
  let arg1 : BitVec 32 := BitVec.ofNat 32 (i 1).val
  let c256_i32_191 : BitVec 32 := 256#32
  let v456 : BitVec 32 := Scalar.muli arg1 c256_i32_191
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v457 : BitVec 32 := Scalar.addi v456 v87
  let c23_i32 : BitVec 32 := 23#32
  let v458 : BitVec 32 := Scalar.addi v457 c23_i32
  let v460 : Index := Scalar.indexCast v458
  ![v459.toNat, v460.toNat]
def k0_mult24 (v461 : BitVec 32) : BitVec 32 :=
  let c3_i32_192 : BitVec 32 := 3#32
  let v462 : BitVec 32 := Scalar.shrsi v461 c3_i32_192
  let c3_i32_193 : BitVec 32 := 3#32
  let v463 : BitVec 32 := Scalar.shli v462 c3_i32_193
  v463

def k0_off626 (v461 : BitVec 32) : Fin 2 → Nat :=
  let c3_i32_192 : BitVec 32 := 3#32
  let v462 : BitVec 32 := Scalar.shrsi v461 c3_i32_192
  let c3_i32_193 : BitVec 32 := 3#32
  let v463 : BitVec 32 := Scalar.shli v462 c3_i32_193
  let v464 : BitVec 32 := v463
  let v465 : Index := Scalar.indexCast v464
  let c0_194 : Index := 0#32
  ![v465.toNat, 0]

def k0_chk216 (v461 : BitVec 32) : Prop :=
  (8 ∣ (k0_mult24 v461).toNat) ∧
  (∀ a, (k0_off626 v461) a + S8x128.size a ≤ S10000x128.size a)
theorem k0_mult24_dvd : ∀ (v461 : BitVec 32) (k0_hw216 : k0_chk216 v461), 8 ∣ (k0_mult24 v461).toNat := fun v461 k0_hw216 => k0_hw216.1
theorem k0_off626_inb : ∀ (v461 : BitVec 32) (k0_hw216 : k0_chk216 v461), ∀ a, (k0_off626 v461) a + S8x128.size a ≤ S10000x128.size a := fun v461 k0_hw216 => k0_hw216.2

def k0_off627 (i : grid0.Coords) (k0_t6 : Fin k0_t6_loop.trips) : Fin 2 → Nat :=
  let arg0 : BitVec 32 := BitVec.ofNat 32 (i 0).val
  let v475 : Index := Scalar.indexCast arg0
  let arg1 : BitVec 32 := BitVec.ofNat 32 (i 1).val
  let c256_i32_197 : BitVec 32 := 256#32
  let v472 : BitVec 32 := Scalar.muli arg1 c256_i32_197
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v473 : BitVec 32 := Scalar.addi v472 v87
  let c24_i32 : BitVec 32 := 24#32
  let v474 : BitVec 32 := Scalar.addi v473 c24_i32
  let v476 : Index := Scalar.indexCast v474
  ![v475.toNat, v476.toNat]
def k0_mult25 (v477 : BitVec 32) : BitVec 32 :=
  let c3_i32_198 : BitVec 32 := 3#32
  let v478 : BitVec 32 := Scalar.shrsi v477 c3_i32_198
  let c3_i32_199 : BitVec 32 := 3#32
  let v479 : BitVec 32 := Scalar.shli v478 c3_i32_199
  v479

def k0_off628 (v477 : BitVec 32) : Fin 2 → Nat :=
  let c3_i32_198 : BitVec 32 := 3#32
  let v478 : BitVec 32 := Scalar.shrsi v477 c3_i32_198
  let c3_i32_199 : BitVec 32 := 3#32
  let v479 : BitVec 32 := Scalar.shli v478 c3_i32_199
  let v480 : BitVec 32 := v479
  let v481 : Index := Scalar.indexCast v480
  let c0_200 : Index := 0#32
  ![v481.toNat, 0]

def k0_chk217 (v477 : BitVec 32) : Prop :=
  (8 ∣ (k0_mult25 v477).toNat) ∧
  (∀ a, (k0_off628 v477) a + S8x128.size a ≤ S10000x128.size a)
theorem k0_mult25_dvd : ∀ (v477 : BitVec 32) (k0_hw217 : k0_chk217 v477), 8 ∣ (k0_mult25 v477).toNat := fun v477 k0_hw217 => k0_hw217.1
theorem k0_off628_inb : ∀ (v477 : BitVec 32) (k0_hw217 : k0_chk217 v477), ∀ a, (k0_off628 v477) a + S8x128.size a ≤ S10000x128.size a := fun v477 k0_hw217 => k0_hw217.2

def k0_off629 (i : grid0.Coords) (k0_t6 : Fin k0_t6_loop.trips) : Fin 2 → Nat :=
  let arg0 : BitVec 32 := BitVec.ofNat 32 (i 0).val
  let v491 : Index := Scalar.indexCast arg0
  let arg1 : BitVec 32 := BitVec.ofNat 32 (i 1).val
  let c256_i32_203 : BitVec 32 := 256#32
  let v488 : BitVec 32 := Scalar.muli arg1 c256_i32_203
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v489 : BitVec 32 := Scalar.addi v488 v87
  let c25_i32 : BitVec 32 := 25#32
  let v490 : BitVec 32 := Scalar.addi v489 c25_i32
  let v492 : Index := Scalar.indexCast v490
  ![v491.toNat, v492.toNat]
def k0_mult26 (v493 : BitVec 32) : BitVec 32 :=
  let c3_i32_204 : BitVec 32 := 3#32
  let v494 : BitVec 32 := Scalar.shrsi v493 c3_i32_204
  let c3_i32_205 : BitVec 32 := 3#32
  let v495 : BitVec 32 := Scalar.shli v494 c3_i32_205
  v495

def k0_off630 (v493 : BitVec 32) : Fin 2 → Nat :=
  let c3_i32_204 : BitVec 32 := 3#32
  let v494 : BitVec 32 := Scalar.shrsi v493 c3_i32_204
  let c3_i32_205 : BitVec 32 := 3#32
  let v495 : BitVec 32 := Scalar.shli v494 c3_i32_205
  let v496 : BitVec 32 := v495
  let v497 : Index := Scalar.indexCast v496
  let c0_206 : Index := 0#32
  ![v497.toNat, 0]

def k0_chk218 (v493 : BitVec 32) : Prop :=
  (8 ∣ (k0_mult26 v493).toNat) ∧
  (∀ a, (k0_off630 v493) a + S8x128.size a ≤ S10000x128.size a)
theorem k0_mult26_dvd : ∀ (v493 : BitVec 32) (k0_hw218 : k0_chk218 v493), 8 ∣ (k0_mult26 v493).toNat := fun v493 k0_hw218 => k0_hw218.1
theorem k0_off630_inb : ∀ (v493 : BitVec 32) (k0_hw218 : k0_chk218 v493), ∀ a, (k0_off630 v493) a + S8x128.size a ≤ S10000x128.size a := fun v493 k0_hw218 => k0_hw218.2

def k0_off631 (i : grid0.Coords) (k0_t6 : Fin k0_t6_loop.trips) : Fin 2 → Nat :=
  let arg0 : BitVec 32 := BitVec.ofNat 32 (i 0).val
  let v507 : Index := Scalar.indexCast arg0
  let arg1 : BitVec 32 := BitVec.ofNat 32 (i 1).val
  let c256_i32_209 : BitVec 32 := 256#32
  let v504 : BitVec 32 := Scalar.muli arg1 c256_i32_209
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v505 : BitVec 32 := Scalar.addi v504 v87
  let c26_i32 : BitVec 32 := 26#32
  let v506 : BitVec 32 := Scalar.addi v505 c26_i32
  let v508 : Index := Scalar.indexCast v506
  ![v507.toNat, v508.toNat]
def k0_mult27 (v509 : BitVec 32) : BitVec 32 :=
  let c3_i32_210 : BitVec 32 := 3#32
  let v510 : BitVec 32 := Scalar.shrsi v509 c3_i32_210
  let c3_i32_211 : BitVec 32 := 3#32
  let v511 : BitVec 32 := Scalar.shli v510 c3_i32_211
  v511

def k0_off632 (v509 : BitVec 32) : Fin 2 → Nat :=
  let c3_i32_210 : BitVec 32 := 3#32
  let v510 : BitVec 32 := Scalar.shrsi v509 c3_i32_210
  let c3_i32_211 : BitVec 32 := 3#32
  let v511 : BitVec 32 := Scalar.shli v510 c3_i32_211
  let v512 : BitVec 32 := v511
  let v513 : Index := Scalar.indexCast v512
  let c0_212 : Index := 0#32
  ![v513.toNat, 0]

def k0_chk219 (v509 : BitVec 32) : Prop :=
  (8 ∣ (k0_mult27 v509).toNat) ∧
  (∀ a, (k0_off632 v509) a + S8x128.size a ≤ S10000x128.size a)
theorem k0_mult27_dvd : ∀ (v509 : BitVec 32) (k0_hw219 : k0_chk219 v509), 8 ∣ (k0_mult27 v509).toNat := fun v509 k0_hw219 => k0_hw219.1
theorem k0_off632_inb : ∀ (v509 : BitVec 32) (k0_hw219 : k0_chk219 v509), ∀ a, (k0_off632 v509) a + S8x128.size a ≤ S10000x128.size a := fun v509 k0_hw219 => k0_hw219.2

def k0_off633 (i : grid0.Coords) (k0_t6 : Fin k0_t6_loop.trips) : Fin 2 → Nat :=
  let arg0 : BitVec 32 := BitVec.ofNat 32 (i 0).val
  let v523 : Index := Scalar.indexCast arg0
  let arg1 : BitVec 32 := BitVec.ofNat 32 (i 1).val
  let c256_i32_215 : BitVec 32 := 256#32
  let v520 : BitVec 32 := Scalar.muli arg1 c256_i32_215
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v521 : BitVec 32 := Scalar.addi v520 v87
  let c27_i32 : BitVec 32 := 27#32
  let v522 : BitVec 32 := Scalar.addi v521 c27_i32
  let v524 : Index := Scalar.indexCast v522
  ![v523.toNat, v524.toNat]
def k0_mult28 (v525 : BitVec 32) : BitVec 32 :=
  let c3_i32_216 : BitVec 32 := 3#32
  let v526 : BitVec 32 := Scalar.shrsi v525 c3_i32_216
  let c3_i32_217 : BitVec 32 := 3#32
  let v527 : BitVec 32 := Scalar.shli v526 c3_i32_217
  v527

def k0_off634 (v525 : BitVec 32) : Fin 2 → Nat :=
  let c3_i32_216 : BitVec 32 := 3#32
  let v526 : BitVec 32 := Scalar.shrsi v525 c3_i32_216
  let c3_i32_217 : BitVec 32 := 3#32
  let v527 : BitVec 32 := Scalar.shli v526 c3_i32_217
  let v528 : BitVec 32 := v527
  let v529 : Index := Scalar.indexCast v528
  let c0_218 : Index := 0#32
  ![v529.toNat, 0]

def k0_chk220 (v525 : BitVec 32) : Prop :=
  (8 ∣ (k0_mult28 v525).toNat) ∧
  (∀ a, (k0_off634 v525) a + S8x128.size a ≤ S10000x128.size a)
theorem k0_mult28_dvd : ∀ (v525 : BitVec 32) (k0_hw220 : k0_chk220 v525), 8 ∣ (k0_mult28 v525).toNat := fun v525 k0_hw220 => k0_hw220.1
theorem k0_off634_inb : ∀ (v525 : BitVec 32) (k0_hw220 : k0_chk220 v525), ∀ a, (k0_off634 v525) a + S8x128.size a ≤ S10000x128.size a := fun v525 k0_hw220 => k0_hw220.2

def k0_off635 (i : grid0.Coords) (k0_t6 : Fin k0_t6_loop.trips) : Fin 2 → Nat :=
  let arg0 : BitVec 32 := BitVec.ofNat 32 (i 0).val
  let v539 : Index := Scalar.indexCast arg0
  let arg1 : BitVec 32 := BitVec.ofNat 32 (i 1).val
  let c256_i32_221 : BitVec 32 := 256#32
  let v536 : BitVec 32 := Scalar.muli arg1 c256_i32_221
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v537 : BitVec 32 := Scalar.addi v536 v87
  let c28_i32 : BitVec 32 := 28#32
  let v538 : BitVec 32 := Scalar.addi v537 c28_i32
  let v540 : Index := Scalar.indexCast v538
  ![v539.toNat, v540.toNat]
def k0_mult29 (v541 : BitVec 32) : BitVec 32 :=
  let c3_i32_222 : BitVec 32 := 3#32
  let v542 : BitVec 32 := Scalar.shrsi v541 c3_i32_222
  let c3_i32_223 : BitVec 32 := 3#32
  let v543 : BitVec 32 := Scalar.shli v542 c3_i32_223
  v543

def k0_off636 (v541 : BitVec 32) : Fin 2 → Nat :=
  let c3_i32_222 : BitVec 32 := 3#32
  let v542 : BitVec 32 := Scalar.shrsi v541 c3_i32_222
  let c3_i32_223 : BitVec 32 := 3#32
  let v543 : BitVec 32 := Scalar.shli v542 c3_i32_223
  let v544 : BitVec 32 := v543
  let v545 : Index := Scalar.indexCast v544
  let c0_224 : Index := 0#32
  ![v545.toNat, 0]

def k0_chk221 (v541 : BitVec 32) : Prop :=
  (8 ∣ (k0_mult29 v541).toNat) ∧
  (∀ a, (k0_off636 v541) a + S8x128.size a ≤ S10000x128.size a)
theorem k0_mult29_dvd : ∀ (v541 : BitVec 32) (k0_hw221 : k0_chk221 v541), 8 ∣ (k0_mult29 v541).toNat := fun v541 k0_hw221 => k0_hw221.1
theorem k0_off636_inb : ∀ (v541 : BitVec 32) (k0_hw221 : k0_chk221 v541), ∀ a, (k0_off636 v541) a + S8x128.size a ≤ S10000x128.size a := fun v541 k0_hw221 => k0_hw221.2

def k0_off637 (i : grid0.Coords) (k0_t6 : Fin k0_t6_loop.trips) : Fin 2 → Nat :=
  let arg0 : BitVec 32 := BitVec.ofNat 32 (i 0).val
  let v555 : Index := Scalar.indexCast arg0
  let arg1 : BitVec 32 := BitVec.ofNat 32 (i 1).val
  let c256_i32_227 : BitVec 32 := 256#32
  let v552 : BitVec 32 := Scalar.muli arg1 c256_i32_227
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v553 : BitVec 32 := Scalar.addi v552 v87
  let c29_i32 : BitVec 32 := 29#32
  let v554 : BitVec 32 := Scalar.addi v553 c29_i32
  let v556 : Index := Scalar.indexCast v554
  ![v555.toNat, v556.toNat]
def k0_mult30 (v557 : BitVec 32) : BitVec 32 :=
  let c3_i32_228 : BitVec 32 := 3#32
  let v558 : BitVec 32 := Scalar.shrsi v557 c3_i32_228
  let c3_i32_229 : BitVec 32 := 3#32
  let v559 : BitVec 32 := Scalar.shli v558 c3_i32_229
  v559

def k0_off638 (v557 : BitVec 32) : Fin 2 → Nat :=
  let c3_i32_228 : BitVec 32 := 3#32
  let v558 : BitVec 32 := Scalar.shrsi v557 c3_i32_228
  let c3_i32_229 : BitVec 32 := 3#32
  let v559 : BitVec 32 := Scalar.shli v558 c3_i32_229
  let v560 : BitVec 32 := v559
  let v561 : Index := Scalar.indexCast v560
  let c0_230 : Index := 0#32
  ![v561.toNat, 0]

def k0_chk222 (v557 : BitVec 32) : Prop :=
  (8 ∣ (k0_mult30 v557).toNat) ∧
  (∀ a, (k0_off638 v557) a + S8x128.size a ≤ S10000x128.size a)
theorem k0_mult30_dvd : ∀ (v557 : BitVec 32) (k0_hw222 : k0_chk222 v557), 8 ∣ (k0_mult30 v557).toNat := fun v557 k0_hw222 => k0_hw222.1
theorem k0_off638_inb : ∀ (v557 : BitVec 32) (k0_hw222 : k0_chk222 v557), ∀ a, (k0_off638 v557) a + S8x128.size a ≤ S10000x128.size a := fun v557 k0_hw222 => k0_hw222.2

def k0_off639 (i : grid0.Coords) (k0_t6 : Fin k0_t6_loop.trips) : Fin 2 → Nat :=
  let arg0 : BitVec 32 := BitVec.ofNat 32 (i 0).val
  let v571 : Index := Scalar.indexCast arg0
  let arg1 : BitVec 32 := BitVec.ofNat 32 (i 1).val
  let c256_i32_233 : BitVec 32 := 256#32
  let v568 : BitVec 32 := Scalar.muli arg1 c256_i32_233
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v569 : BitVec 32 := Scalar.addi v568 v87
  let c30_i32 : BitVec 32 := 30#32
  let v570 : BitVec 32 := Scalar.addi v569 c30_i32
  let v572 : Index := Scalar.indexCast v570
  ![v571.toNat, v572.toNat]
def k0_mult31 (v573 : BitVec 32) : BitVec 32 :=
  let c3_i32_234 : BitVec 32 := 3#32
  let v574 : BitVec 32 := Scalar.shrsi v573 c3_i32_234
  let c3_i32_235 : BitVec 32 := 3#32
  let v575 : BitVec 32 := Scalar.shli v574 c3_i32_235
  v575

def k0_off640 (v573 : BitVec 32) : Fin 2 → Nat :=
  let c3_i32_234 : BitVec 32 := 3#32
  let v574 : BitVec 32 := Scalar.shrsi v573 c3_i32_234
  let c3_i32_235 : BitVec 32 := 3#32
  let v575 : BitVec 32 := Scalar.shli v574 c3_i32_235
  let v576 : BitVec 32 := v575
  let v577 : Index := Scalar.indexCast v576
  let c0_236 : Index := 0#32
  ![v577.toNat, 0]

def k0_chk223 (v573 : BitVec 32) : Prop :=
  (8 ∣ (k0_mult31 v573).toNat) ∧
  (∀ a, (k0_off640 v573) a + S8x128.size a ≤ S10000x128.size a)
theorem k0_mult31_dvd : ∀ (v573 : BitVec 32) (k0_hw223 : k0_chk223 v573), 8 ∣ (k0_mult31 v573).toNat := fun v573 k0_hw223 => k0_hw223.1
theorem k0_off640_inb : ∀ (v573 : BitVec 32) (k0_hw223 : k0_chk223 v573), ∀ a, (k0_off640 v573) a + S8x128.size a ≤ S10000x128.size a := fun v573 k0_hw223 => k0_hw223.2

def k0_off641 (i : grid0.Coords) (k0_t6 : Fin k0_t6_loop.trips) : Fin 2 → Nat :=
  let arg0 : BitVec 32 := BitVec.ofNat 32 (i 0).val
  let v587 : Index := Scalar.indexCast arg0
  let arg1 : BitVec 32 := BitVec.ofNat 32 (i 1).val
  let c256_i32_239 : BitVec 32 := 256#32
  let v584 : BitVec 32 := Scalar.muli arg1 c256_i32_239
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v585 : BitVec 32 := Scalar.addi v584 v87
  let c31_i32 : BitVec 32 := 31#32
  let v586 : BitVec 32 := Scalar.addi v585 c31_i32
  let v588 : Index := Scalar.indexCast v586
  ![v587.toNat, v588.toNat]
def k0_mult32 (v589 : BitVec 32) : BitVec 32 :=
  let c3_i32_240 : BitVec 32 := 3#32
  let v590 : BitVec 32 := Scalar.shrsi v589 c3_i32_240
  let c3_i32_241 : BitVec 32 := 3#32
  let v591 : BitVec 32 := Scalar.shli v590 c3_i32_241
  v591

def k0_off642 (v589 : BitVec 32) : Fin 2 → Nat :=
  let c3_i32_240 : BitVec 32 := 3#32
  let v590 : BitVec 32 := Scalar.shrsi v589 c3_i32_240
  let c3_i32_241 : BitVec 32 := 3#32
  let v591 : BitVec 32 := Scalar.shli v590 c3_i32_241
  let v592 : BitVec 32 := v591
  let v593 : Index := Scalar.indexCast v592
  let c0_242 : Index := 0#32
  ![v593.toNat, 0]

def k0_chk224 (v589 : BitVec 32) : Prop :=
  (8 ∣ (k0_mult32 v589).toNat) ∧
  (∀ a, (k0_off642 v589) a + S8x128.size a ≤ S10000x128.size a)
theorem k0_mult32_dvd : ∀ (v589 : BitVec 32) (k0_hw224 : k0_chk224 v589), 8 ∣ (k0_mult32 v589).toNat := fun v589 k0_hw224 => k0_hw224.1
theorem k0_off642_inb : ∀ (v589 : BitVec 32) (k0_hw224 : k0_chk224 v589), ∀ a, (k0_off642 v589) a + S8x128.size a ≤ S10000x128.size a := fun v589 k0_hw224 => k0_hw224.2

def k0_off643 (i : grid0.Coords) (k0_t6 : Fin k0_t6_loop.trips) : Fin 2 → Nat :=
  let arg0 : BitVec 32 := BitVec.ofNat 32 (i 0).val
  let v603 : Index := Scalar.indexCast arg0
  let arg1 : BitVec 32 := BitVec.ofNat 32 (i 1).val
  let c256_i32_245 : BitVec 32 := 256#32
  let v600 : BitVec 32 := Scalar.muli arg1 c256_i32_245
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v601 : BitVec 32 := Scalar.addi v600 v87
  let c32_i32_246 : BitVec 32 := 32#32
  let v602 : BitVec 32 := Scalar.addi v601 c32_i32_246
  let v604 : Index := Scalar.indexCast v602
  ![v603.toNat, v604.toNat]
def k0_mult33 (v605 : BitVec 32) : BitVec 32 :=
  let c3_i32_247 : BitVec 32 := 3#32
  let v606 : BitVec 32 := Scalar.shrsi v605 c3_i32_247
  let c3_i32_248 : BitVec 32 := 3#32
  let v607 : BitVec 32 := Scalar.shli v606 c3_i32_248
  v607

def k0_off644 (v605 : BitVec 32) : Fin 2 → Nat :=
  let c3_i32_247 : BitVec 32 := 3#32
  let v606 : BitVec 32 := Scalar.shrsi v605 c3_i32_247
  let c3_i32_248 : BitVec 32 := 3#32
  let v607 : BitVec 32 := Scalar.shli v606 c3_i32_248
  let v608 : BitVec 32 := v607
  let v609 : Index := Scalar.indexCast v608
  let c0_249 : Index := 0#32
  ![v609.toNat, 0]

def k0_chk225 (v605 : BitVec 32) : Prop :=
  (8 ∣ (k0_mult33 v605).toNat) ∧
  (∀ a, (k0_off644 v605) a + S8x128.size a ≤ S10000x128.size a)
theorem k0_mult33_dvd : ∀ (v605 : BitVec 32) (k0_hw225 : k0_chk225 v605), 8 ∣ (k0_mult33 v605).toNat := fun v605 k0_hw225 => k0_hw225.1
theorem k0_off644_inb : ∀ (v605 : BitVec 32) (k0_hw225 : k0_chk225 v605), ∀ a, (k0_off644 v605) a + S8x128.size a ≤ S10000x128.size a := fun v605 k0_hw225 => k0_hw225.2

def k0_off645 (i : grid0.Coords) (k0_t6 : Fin k0_t6_loop.trips) : Fin 2 → Nat :=
  let arg0 : BitVec 32 := BitVec.ofNat 32 (i 0).val
  let v619 : Index := Scalar.indexCast arg0
  let arg1 : BitVec 32 := BitVec.ofNat 32 (i 1).val
  let c256_i32_252 : BitVec 32 := 256#32
  let v616 : BitVec 32 := Scalar.muli arg1 c256_i32_252
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v617 : BitVec 32 := Scalar.addi v616 v87
  let c33_i32 : BitVec 32 := 33#32
  let v618 : BitVec 32 := Scalar.addi v617 c33_i32
  let v620 : Index := Scalar.indexCast v618
  ![v619.toNat, v620.toNat]
def k0_mult34 (v621 : BitVec 32) : BitVec 32 :=
  let c3_i32_253 : BitVec 32 := 3#32
  let v622 : BitVec 32 := Scalar.shrsi v621 c3_i32_253
  let c3_i32_254 : BitVec 32 := 3#32
  let v623 : BitVec 32 := Scalar.shli v622 c3_i32_254
  v623

def k0_off646 (v621 : BitVec 32) : Fin 2 → Nat :=
  let c3_i32_253 : BitVec 32 := 3#32
  let v622 : BitVec 32 := Scalar.shrsi v621 c3_i32_253
  let c3_i32_254 : BitVec 32 := 3#32
  let v623 : BitVec 32 := Scalar.shli v622 c3_i32_254
  let v624 : BitVec 32 := v623
  let v625 : Index := Scalar.indexCast v624
  let c0_255 : Index := 0#32
  ![v625.toNat, 0]

def k0_chk226 (v621 : BitVec 32) : Prop :=
  (8 ∣ (k0_mult34 v621).toNat) ∧
  (∀ a, (k0_off646 v621) a + S8x128.size a ≤ S10000x128.size a)
theorem k0_mult34_dvd : ∀ (v621 : BitVec 32) (k0_hw226 : k0_chk226 v621), 8 ∣ (k0_mult34 v621).toNat := fun v621 k0_hw226 => k0_hw226.1
theorem k0_off646_inb : ∀ (v621 : BitVec 32) (k0_hw226 : k0_chk226 v621), ∀ a, (k0_off646 v621) a + S8x128.size a ≤ S10000x128.size a := fun v621 k0_hw226 => k0_hw226.2

def k0_off647 (i : grid0.Coords) (k0_t6 : Fin k0_t6_loop.trips) : Fin 2 → Nat :=
  let arg0 : BitVec 32 := BitVec.ofNat 32 (i 0).val
  let v635 : Index := Scalar.indexCast arg0
  let arg1 : BitVec 32 := BitVec.ofNat 32 (i 1).val
  let c256_i32_258 : BitVec 32 := 256#32
  let v632 : BitVec 32 := Scalar.muli arg1 c256_i32_258
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v633 : BitVec 32 := Scalar.addi v632 v87
  let c34_i32 : BitVec 32 := 34#32
  let v634 : BitVec 32 := Scalar.addi v633 c34_i32
  let v636 : Index := Scalar.indexCast v634
  ![v635.toNat, v636.toNat]
def k0_mult35 (v637 : BitVec 32) : BitVec 32 :=
  let c3_i32_259 : BitVec 32 := 3#32
  let v638 : BitVec 32 := Scalar.shrsi v637 c3_i32_259
  let c3_i32_260 : BitVec 32 := 3#32
  let v639 : BitVec 32 := Scalar.shli v638 c3_i32_260
  v639

def k0_off648 (v637 : BitVec 32) : Fin 2 → Nat :=
  let c3_i32_259 : BitVec 32 := 3#32
  let v638 : BitVec 32 := Scalar.shrsi v637 c3_i32_259
  let c3_i32_260 : BitVec 32 := 3#32
  let v639 : BitVec 32 := Scalar.shli v638 c3_i32_260
  let v640 : BitVec 32 := v639
  let v641 : Index := Scalar.indexCast v640
  let c0_261 : Index := 0#32
  ![v641.toNat, 0]

def k0_chk227 (v637 : BitVec 32) : Prop :=
  (8 ∣ (k0_mult35 v637).toNat) ∧
  (∀ a, (k0_off648 v637) a + S8x128.size a ≤ S10000x128.size a)
theorem k0_mult35_dvd : ∀ (v637 : BitVec 32) (k0_hw227 : k0_chk227 v637), 8 ∣ (k0_mult35 v637).toNat := fun v637 k0_hw227 => k0_hw227.1
theorem k0_off648_inb : ∀ (v637 : BitVec 32) (k0_hw227 : k0_chk227 v637), ∀ a, (k0_off648 v637) a + S8x128.size a ≤ S10000x128.size a := fun v637 k0_hw227 => k0_hw227.2

def k0_off649 (i : grid0.Coords) (k0_t6 : Fin k0_t6_loop.trips) : Fin 2 → Nat :=
  let arg0 : BitVec 32 := BitVec.ofNat 32 (i 0).val
  let v651 : Index := Scalar.indexCast arg0
  let arg1 : BitVec 32 := BitVec.ofNat 32 (i 1).val
  let c256_i32_264 : BitVec 32 := 256#32
  let v648 : BitVec 32 := Scalar.muli arg1 c256_i32_264
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v649 : BitVec 32 := Scalar.addi v648 v87
  let c35_i32 : BitVec 32 := 35#32
  let v650 : BitVec 32 := Scalar.addi v649 c35_i32
  let v652 : Index := Scalar.indexCast v650
  ![v651.toNat, v652.toNat]
def k0_mult36 (v653 : BitVec 32) : BitVec 32 :=
  let c3_i32_265 : BitVec 32 := 3#32
  let v654 : BitVec 32 := Scalar.shrsi v653 c3_i32_265
  let c3_i32_266 : BitVec 32 := 3#32
  let v655 : BitVec 32 := Scalar.shli v654 c3_i32_266
  v655

def k0_off650 (v653 : BitVec 32) : Fin 2 → Nat :=
  let c3_i32_265 : BitVec 32 := 3#32
  let v654 : BitVec 32 := Scalar.shrsi v653 c3_i32_265
  let c3_i32_266 : BitVec 32 := 3#32
  let v655 : BitVec 32 := Scalar.shli v654 c3_i32_266
  let v656 : BitVec 32 := v655
  let v657 : Index := Scalar.indexCast v656
  let c0_267 : Index := 0#32
  ![v657.toNat, 0]

def k0_chk228 (v653 : BitVec 32) : Prop :=
  (8 ∣ (k0_mult36 v653).toNat) ∧
  (∀ a, (k0_off650 v653) a + S8x128.size a ≤ S10000x128.size a)
theorem k0_mult36_dvd : ∀ (v653 : BitVec 32) (k0_hw228 : k0_chk228 v653), 8 ∣ (k0_mult36 v653).toNat := fun v653 k0_hw228 => k0_hw228.1
theorem k0_off650_inb : ∀ (v653 : BitVec 32) (k0_hw228 : k0_chk228 v653), ∀ a, (k0_off650 v653) a + S8x128.size a ≤ S10000x128.size a := fun v653 k0_hw228 => k0_hw228.2

def k0_off651 (i : grid0.Coords) (k0_t6 : Fin k0_t6_loop.trips) : Fin 2 → Nat :=
  let arg0 : BitVec 32 := BitVec.ofNat 32 (i 0).val
  let v667 : Index := Scalar.indexCast arg0
  let arg1 : BitVec 32 := BitVec.ofNat 32 (i 1).val
  let c256_i32_270 : BitVec 32 := 256#32
  let v664 : BitVec 32 := Scalar.muli arg1 c256_i32_270
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v665 : BitVec 32 := Scalar.addi v664 v87
  let c36_i32 : BitVec 32 := 36#32
  let v666 : BitVec 32 := Scalar.addi v665 c36_i32
  let v668 : Index := Scalar.indexCast v666
  ![v667.toNat, v668.toNat]
def k0_mult37 (v669 : BitVec 32) : BitVec 32 :=
  let c3_i32_271 : BitVec 32 := 3#32
  let v670 : BitVec 32 := Scalar.shrsi v669 c3_i32_271
  let c3_i32_272 : BitVec 32 := 3#32
  let v671 : BitVec 32 := Scalar.shli v670 c3_i32_272
  v671

def k0_off652 (v669 : BitVec 32) : Fin 2 → Nat :=
  let c3_i32_271 : BitVec 32 := 3#32
  let v670 : BitVec 32 := Scalar.shrsi v669 c3_i32_271
  let c3_i32_272 : BitVec 32 := 3#32
  let v671 : BitVec 32 := Scalar.shli v670 c3_i32_272
  let v672 : BitVec 32 := v671
  let v673 : Index := Scalar.indexCast v672
  let c0_273 : Index := 0#32
  ![v673.toNat, 0]

def k0_chk229 (v669 : BitVec 32) : Prop :=
  (8 ∣ (k0_mult37 v669).toNat) ∧
  (∀ a, (k0_off652 v669) a + S8x128.size a ≤ S10000x128.size a)
theorem k0_mult37_dvd : ∀ (v669 : BitVec 32) (k0_hw229 : k0_chk229 v669), 8 ∣ (k0_mult37 v669).toNat := fun v669 k0_hw229 => k0_hw229.1
theorem k0_off652_inb : ∀ (v669 : BitVec 32) (k0_hw229 : k0_chk229 v669), ∀ a, (k0_off652 v669) a + S8x128.size a ≤ S10000x128.size a := fun v669 k0_hw229 => k0_hw229.2

def k0_off653 (i : grid0.Coords) (k0_t6 : Fin k0_t6_loop.trips) : Fin 2 → Nat :=
  let arg0 : BitVec 32 := BitVec.ofNat 32 (i 0).val
  let v683 : Index := Scalar.indexCast arg0
  let arg1 : BitVec 32 := BitVec.ofNat 32 (i 1).val
  let c256_i32_276 : BitVec 32 := 256#32
  let v680 : BitVec 32 := Scalar.muli arg1 c256_i32_276
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v681 : BitVec 32 := Scalar.addi v680 v87
  let c37_i32 : BitVec 32 := 37#32
  let v682 : BitVec 32 := Scalar.addi v681 c37_i32
  let v684 : Index := Scalar.indexCast v682
  ![v683.toNat, v684.toNat]
def k0_mult38 (v685 : BitVec 32) : BitVec 32 :=
  let c3_i32_277 : BitVec 32 := 3#32
  let v686 : BitVec 32 := Scalar.shrsi v685 c3_i32_277
  let c3_i32_278 : BitVec 32 := 3#32
  let v687 : BitVec 32 := Scalar.shli v686 c3_i32_278
  v687

def k0_off654 (v685 : BitVec 32) : Fin 2 → Nat :=
  let c3_i32_277 : BitVec 32 := 3#32
  let v686 : BitVec 32 := Scalar.shrsi v685 c3_i32_277
  let c3_i32_278 : BitVec 32 := 3#32
  let v687 : BitVec 32 := Scalar.shli v686 c3_i32_278
  let v688 : BitVec 32 := v687
  let v689 : Index := Scalar.indexCast v688
  let c0_279 : Index := 0#32
  ![v689.toNat, 0]

def k0_chk230 (v685 : BitVec 32) : Prop :=
  (8 ∣ (k0_mult38 v685).toNat) ∧
  (∀ a, (k0_off654 v685) a + S8x128.size a ≤ S10000x128.size a)
theorem k0_mult38_dvd : ∀ (v685 : BitVec 32) (k0_hw230 : k0_chk230 v685), 8 ∣ (k0_mult38 v685).toNat := fun v685 k0_hw230 => k0_hw230.1
theorem k0_off654_inb : ∀ (v685 : BitVec 32) (k0_hw230 : k0_chk230 v685), ∀ a, (k0_off654 v685) a + S8x128.size a ≤ S10000x128.size a := fun v685 k0_hw230 => k0_hw230.2

def k0_off655 (i : grid0.Coords) (k0_t6 : Fin k0_t6_loop.trips) : Fin 2 → Nat :=
  let arg0 : BitVec 32 := BitVec.ofNat 32 (i 0).val
  let v699 : Index := Scalar.indexCast arg0
  let arg1 : BitVec 32 := BitVec.ofNat 32 (i 1).val
  let c256_i32_282 : BitVec 32 := 256#32
  let v696 : BitVec 32 := Scalar.muli arg1 c256_i32_282
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v697 : BitVec 32 := Scalar.addi v696 v87
  let c38_i32 : BitVec 32 := 38#32
  let v698 : BitVec 32 := Scalar.addi v697 c38_i32
  let v700 : Index := Scalar.indexCast v698
  ![v699.toNat, v700.toNat]
def k0_mult39 (v701 : BitVec 32) : BitVec 32 :=
  let c3_i32_283 : BitVec 32 := 3#32
  let v702 : BitVec 32 := Scalar.shrsi v701 c3_i32_283
  let c3_i32_284 : BitVec 32 := 3#32
  let v703 : BitVec 32 := Scalar.shli v702 c3_i32_284
  v703

def k0_off656 (v701 : BitVec 32) : Fin 2 → Nat :=
  let c3_i32_283 : BitVec 32 := 3#32
  let v702 : BitVec 32 := Scalar.shrsi v701 c3_i32_283
  let c3_i32_284 : BitVec 32 := 3#32
  let v703 : BitVec 32 := Scalar.shli v702 c3_i32_284
  let v704 : BitVec 32 := v703
  let v705 : Index := Scalar.indexCast v704
  let c0_285 : Index := 0#32
  ![v705.toNat, 0]

def k0_chk231 (v701 : BitVec 32) : Prop :=
  (8 ∣ (k0_mult39 v701).toNat) ∧
  (∀ a, (k0_off656 v701) a + S8x128.size a ≤ S10000x128.size a)
theorem k0_mult39_dvd : ∀ (v701 : BitVec 32) (k0_hw231 : k0_chk231 v701), 8 ∣ (k0_mult39 v701).toNat := fun v701 k0_hw231 => k0_hw231.1
theorem k0_off656_inb : ∀ (v701 : BitVec 32) (k0_hw231 : k0_chk231 v701), ∀ a, (k0_off656 v701) a + S8x128.size a ≤ S10000x128.size a := fun v701 k0_hw231 => k0_hw231.2

def k0_off657 (i : grid0.Coords) (k0_t6 : Fin k0_t6_loop.trips) : Fin 2 → Nat :=
  let arg0 : BitVec 32 := BitVec.ofNat 32 (i 0).val
  let v715 : Index := Scalar.indexCast arg0
  let arg1 : BitVec 32 := BitVec.ofNat 32 (i 1).val
  let c256_i32_288 : BitVec 32 := 256#32
  let v712 : BitVec 32 := Scalar.muli arg1 c256_i32_288
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v713 : BitVec 32 := Scalar.addi v712 v87
  let c39_i32 : BitVec 32 := 39#32
  let v714 : BitVec 32 := Scalar.addi v713 c39_i32
  let v716 : Index := Scalar.indexCast v714
  ![v715.toNat, v716.toNat]
def k0_mult40 (v717 : BitVec 32) : BitVec 32 :=
  let c3_i32_289 : BitVec 32 := 3#32
  let v718 : BitVec 32 := Scalar.shrsi v717 c3_i32_289
  let c3_i32_290 : BitVec 32 := 3#32
  let v719 : BitVec 32 := Scalar.shli v718 c3_i32_290
  v719

def k0_off658 (v717 : BitVec 32) : Fin 2 → Nat :=
  let c3_i32_289 : BitVec 32 := 3#32
  let v718 : BitVec 32 := Scalar.shrsi v717 c3_i32_289
  let c3_i32_290 : BitVec 32 := 3#32
  let v719 : BitVec 32 := Scalar.shli v718 c3_i32_290
  let v720 : BitVec 32 := v719
  let v721 : Index := Scalar.indexCast v720
  let c0_291 : Index := 0#32
  ![v721.toNat, 0]

def k0_chk232 (v717 : BitVec 32) : Prop :=
  (8 ∣ (k0_mult40 v717).toNat) ∧
  (∀ a, (k0_off658 v717) a + S8x128.size a ≤ S10000x128.size a)
theorem k0_mult40_dvd : ∀ (v717 : BitVec 32) (k0_hw232 : k0_chk232 v717), 8 ∣ (k0_mult40 v717).toNat := fun v717 k0_hw232 => k0_hw232.1
theorem k0_off658_inb : ∀ (v717 : BitVec 32) (k0_hw232 : k0_chk232 v717), ∀ a, (k0_off658 v717) a + S8x128.size a ≤ S10000x128.size a := fun v717 k0_hw232 => k0_hw232.2

def k0_off659 (i : grid0.Coords) (k0_t6 : Fin k0_t6_loop.trips) : Fin 2 → Nat :=
  let arg0 : BitVec 32 := BitVec.ofNat 32 (i 0).val
  let v731 : Index := Scalar.indexCast arg0
  let arg1 : BitVec 32 := BitVec.ofNat 32 (i 1).val
  let c256_i32_294 : BitVec 32 := 256#32
  let v728 : BitVec 32 := Scalar.muli arg1 c256_i32_294
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v729 : BitVec 32 := Scalar.addi v728 v87
  let c40_i32 : BitVec 32 := 40#32
  let v730 : BitVec 32 := Scalar.addi v729 c40_i32
  let v732 : Index := Scalar.indexCast v730
  ![v731.toNat, v732.toNat]
def k0_mult41 (v733 : BitVec 32) : BitVec 32 :=
  let c3_i32_295 : BitVec 32 := 3#32
  let v734 : BitVec 32 := Scalar.shrsi v733 c3_i32_295
  let c3_i32_296 : BitVec 32 := 3#32
  let v735 : BitVec 32 := Scalar.shli v734 c3_i32_296
  v735

def k0_off660 (v733 : BitVec 32) : Fin 2 → Nat :=
  let c3_i32_295 : BitVec 32 := 3#32
  let v734 : BitVec 32 := Scalar.shrsi v733 c3_i32_295
  let c3_i32_296 : BitVec 32 := 3#32
  let v735 : BitVec 32 := Scalar.shli v734 c3_i32_296
  let v736 : BitVec 32 := v735
  let v737 : Index := Scalar.indexCast v736
  let c0_297 : Index := 0#32
  ![v737.toNat, 0]

def k0_chk233 (v733 : BitVec 32) : Prop :=
  (8 ∣ (k0_mult41 v733).toNat) ∧
  (∀ a, (k0_off660 v733) a + S8x128.size a ≤ S10000x128.size a)
theorem k0_mult41_dvd : ∀ (v733 : BitVec 32) (k0_hw233 : k0_chk233 v733), 8 ∣ (k0_mult41 v733).toNat := fun v733 k0_hw233 => k0_hw233.1
theorem k0_off660_inb : ∀ (v733 : BitVec 32) (k0_hw233 : k0_chk233 v733), ∀ a, (k0_off660 v733) a + S8x128.size a ≤ S10000x128.size a := fun v733 k0_hw233 => k0_hw233.2

def k0_off661 (i : grid0.Coords) (k0_t6 : Fin k0_t6_loop.trips) : Fin 2 → Nat :=
  let arg0 : BitVec 32 := BitVec.ofNat 32 (i 0).val
  let v747 : Index := Scalar.indexCast arg0
  let arg1 : BitVec 32 := BitVec.ofNat 32 (i 1).val
  let c256_i32_300 : BitVec 32 := 256#32
  let v744 : BitVec 32 := Scalar.muli arg1 c256_i32_300
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v745 : BitVec 32 := Scalar.addi v744 v87
  let c41_i32 : BitVec 32 := 41#32
  let v746 : BitVec 32 := Scalar.addi v745 c41_i32
  let v748 : Index := Scalar.indexCast v746
  ![v747.toNat, v748.toNat]
def k0_mult42 (v749 : BitVec 32) : BitVec 32 :=
  let c3_i32_301 : BitVec 32 := 3#32
  let v750 : BitVec 32 := Scalar.shrsi v749 c3_i32_301
  let c3_i32_302 : BitVec 32 := 3#32
  let v751 : BitVec 32 := Scalar.shli v750 c3_i32_302
  v751

def k0_off662 (v749 : BitVec 32) : Fin 2 → Nat :=
  let c3_i32_301 : BitVec 32 := 3#32
  let v750 : BitVec 32 := Scalar.shrsi v749 c3_i32_301
  let c3_i32_302 : BitVec 32 := 3#32
  let v751 : BitVec 32 := Scalar.shli v750 c3_i32_302
  let v752 : BitVec 32 := v751
  let v753 : Index := Scalar.indexCast v752
  let c0_303 : Index := 0#32
  ![v753.toNat, 0]

def k0_chk234 (v749 : BitVec 32) : Prop :=
  (8 ∣ (k0_mult42 v749).toNat) ∧
  (∀ a, (k0_off662 v749) a + S8x128.size a ≤ S10000x128.size a)
theorem k0_mult42_dvd : ∀ (v749 : BitVec 32) (k0_hw234 : k0_chk234 v749), 8 ∣ (k0_mult42 v749).toNat := fun v749 k0_hw234 => k0_hw234.1
theorem k0_off662_inb : ∀ (v749 : BitVec 32) (k0_hw234 : k0_chk234 v749), ∀ a, (k0_off662 v749) a + S8x128.size a ≤ S10000x128.size a := fun v749 k0_hw234 => k0_hw234.2

def k0_off663 (i : grid0.Coords) (k0_t6 : Fin k0_t6_loop.trips) : Fin 2 → Nat :=
  let arg0 : BitVec 32 := BitVec.ofNat 32 (i 0).val
  let v763 : Index := Scalar.indexCast arg0
  let arg1 : BitVec 32 := BitVec.ofNat 32 (i 1).val
  let c256_i32_306 : BitVec 32 := 256#32
  let v760 : BitVec 32 := Scalar.muli arg1 c256_i32_306
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v761 : BitVec 32 := Scalar.addi v760 v87
  let c42_i32 : BitVec 32 := 42#32
  let v762 : BitVec 32 := Scalar.addi v761 c42_i32
  let v764 : Index := Scalar.indexCast v762
  ![v763.toNat, v764.toNat]
def k0_mult43 (v765 : BitVec 32) : BitVec 32 :=
  let c3_i32_307 : BitVec 32 := 3#32
  let v766 : BitVec 32 := Scalar.shrsi v765 c3_i32_307
  let c3_i32_308 : BitVec 32 := 3#32
  let v767 : BitVec 32 := Scalar.shli v766 c3_i32_308
  v767

def k0_off664 (v765 : BitVec 32) : Fin 2 → Nat :=
  let c3_i32_307 : BitVec 32 := 3#32
  let v766 : BitVec 32 := Scalar.shrsi v765 c3_i32_307
  let c3_i32_308 : BitVec 32 := 3#32
  let v767 : BitVec 32 := Scalar.shli v766 c3_i32_308
  let v768 : BitVec 32 := v767
  let v769 : Index := Scalar.indexCast v768
  let c0_309 : Index := 0#32
  ![v769.toNat, 0]

def k0_chk235 (v765 : BitVec 32) : Prop :=
  (8 ∣ (k0_mult43 v765).toNat) ∧
  (∀ a, (k0_off664 v765) a + S8x128.size a ≤ S10000x128.size a)
theorem k0_mult43_dvd : ∀ (v765 : BitVec 32) (k0_hw235 : k0_chk235 v765), 8 ∣ (k0_mult43 v765).toNat := fun v765 k0_hw235 => k0_hw235.1
theorem k0_off664_inb : ∀ (v765 : BitVec 32) (k0_hw235 : k0_chk235 v765), ∀ a, (k0_off664 v765) a + S8x128.size a ≤ S10000x128.size a := fun v765 k0_hw235 => k0_hw235.2

def k0_off665 (i : grid0.Coords) (k0_t6 : Fin k0_t6_loop.trips) : Fin 2 → Nat :=
  let arg0 : BitVec 32 := BitVec.ofNat 32 (i 0).val
  let v779 : Index := Scalar.indexCast arg0
  let arg1 : BitVec 32 := BitVec.ofNat 32 (i 1).val
  let c256_i32_312 : BitVec 32 := 256#32
  let v776 : BitVec 32 := Scalar.muli arg1 c256_i32_312
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v777 : BitVec 32 := Scalar.addi v776 v87
  let c43_i32 : BitVec 32 := 43#32
  let v778 : BitVec 32 := Scalar.addi v777 c43_i32
  let v780 : Index := Scalar.indexCast v778
  ![v779.toNat, v780.toNat]
def k0_mult44 (v781 : BitVec 32) : BitVec 32 :=
  let c3_i32_313 : BitVec 32 := 3#32
  let v782 : BitVec 32 := Scalar.shrsi v781 c3_i32_313
  let c3_i32_314 : BitVec 32 := 3#32
  let v783 : BitVec 32 := Scalar.shli v782 c3_i32_314
  v783

def k0_off666 (v781 : BitVec 32) : Fin 2 → Nat :=
  let c3_i32_313 : BitVec 32 := 3#32
  let v782 : BitVec 32 := Scalar.shrsi v781 c3_i32_313
  let c3_i32_314 : BitVec 32 := 3#32
  let v783 : BitVec 32 := Scalar.shli v782 c3_i32_314
  let v784 : BitVec 32 := v783
  let v785 : Index := Scalar.indexCast v784
  let c0_315 : Index := 0#32
  ![v785.toNat, 0]

def k0_chk236 (v781 : BitVec 32) : Prop :=
  (8 ∣ (k0_mult44 v781).toNat) ∧
  (∀ a, (k0_off666 v781) a + S8x128.size a ≤ S10000x128.size a)
theorem k0_mult44_dvd : ∀ (v781 : BitVec 32) (k0_hw236 : k0_chk236 v781), 8 ∣ (k0_mult44 v781).toNat := fun v781 k0_hw236 => k0_hw236.1
theorem k0_off666_inb : ∀ (v781 : BitVec 32) (k0_hw236 : k0_chk236 v781), ∀ a, (k0_off666 v781) a + S8x128.size a ≤ S10000x128.size a := fun v781 k0_hw236 => k0_hw236.2

def k0_off667 (i : grid0.Coords) (k0_t6 : Fin k0_t6_loop.trips) : Fin 2 → Nat :=
  let arg0 : BitVec 32 := BitVec.ofNat 32 (i 0).val
  let v795 : Index := Scalar.indexCast arg0
  let arg1 : BitVec 32 := BitVec.ofNat 32 (i 1).val
  let c256_i32_318 : BitVec 32 := 256#32
  let v792 : BitVec 32 := Scalar.muli arg1 c256_i32_318
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v793 : BitVec 32 := Scalar.addi v792 v87
  let c44_i32 : BitVec 32 := 44#32
  let v794 : BitVec 32 := Scalar.addi v793 c44_i32
  let v796 : Index := Scalar.indexCast v794
  ![v795.toNat, v796.toNat]
def k0_mult45 (v797 : BitVec 32) : BitVec 32 :=
  let c3_i32_319 : BitVec 32 := 3#32
  let v798 : BitVec 32 := Scalar.shrsi v797 c3_i32_319
  let c3_i32_320 : BitVec 32 := 3#32
  let v799 : BitVec 32 := Scalar.shli v798 c3_i32_320
  v799

def k0_off668 (v797 : BitVec 32) : Fin 2 → Nat :=
  let c3_i32_319 : BitVec 32 := 3#32
  let v798 : BitVec 32 := Scalar.shrsi v797 c3_i32_319
  let c3_i32_320 : BitVec 32 := 3#32
  let v799 : BitVec 32 := Scalar.shli v798 c3_i32_320
  let v800 : BitVec 32 := v799
  let v801 : Index := Scalar.indexCast v800
  let c0_321 : Index := 0#32
  ![v801.toNat, 0]

def k0_chk237 (v797 : BitVec 32) : Prop :=
  (8 ∣ (k0_mult45 v797).toNat) ∧
  (∀ a, (k0_off668 v797) a + S8x128.size a ≤ S10000x128.size a)
theorem k0_mult45_dvd : ∀ (v797 : BitVec 32) (k0_hw237 : k0_chk237 v797), 8 ∣ (k0_mult45 v797).toNat := fun v797 k0_hw237 => k0_hw237.1
theorem k0_off668_inb : ∀ (v797 : BitVec 32) (k0_hw237 : k0_chk237 v797), ∀ a, (k0_off668 v797) a + S8x128.size a ≤ S10000x128.size a := fun v797 k0_hw237 => k0_hw237.2

def k0_off669 (i : grid0.Coords) (k0_t6 : Fin k0_t6_loop.trips) : Fin 2 → Nat :=
  let arg0 : BitVec 32 := BitVec.ofNat 32 (i 0).val
  let v811 : Index := Scalar.indexCast arg0
  let arg1 : BitVec 32 := BitVec.ofNat 32 (i 1).val
  let c256_i32_324 : BitVec 32 := 256#32
  let v808 : BitVec 32 := Scalar.muli arg1 c256_i32_324
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v809 : BitVec 32 := Scalar.addi v808 v87
  let c45_i32 : BitVec 32 := 45#32
  let v810 : BitVec 32 := Scalar.addi v809 c45_i32
  let v812 : Index := Scalar.indexCast v810
  ![v811.toNat, v812.toNat]
def k0_mult46 (v813 : BitVec 32) : BitVec 32 :=
  let c3_i32_325 : BitVec 32 := 3#32
  let v814 : BitVec 32 := Scalar.shrsi v813 c3_i32_325
  let c3_i32_326 : BitVec 32 := 3#32
  let v815 : BitVec 32 := Scalar.shli v814 c3_i32_326
  v815

def k0_off670 (v813 : BitVec 32) : Fin 2 → Nat :=
  let c3_i32_325 : BitVec 32 := 3#32
  let v814 : BitVec 32 := Scalar.shrsi v813 c3_i32_325
  let c3_i32_326 : BitVec 32 := 3#32
  let v815 : BitVec 32 := Scalar.shli v814 c3_i32_326
  let v816 : BitVec 32 := v815
  let v817 : Index := Scalar.indexCast v816
  let c0_327 : Index := 0#32
  ![v817.toNat, 0]

def k0_chk238 (v813 : BitVec 32) : Prop :=
  (8 ∣ (k0_mult46 v813).toNat) ∧
  (∀ a, (k0_off670 v813) a + S8x128.size a ≤ S10000x128.size a)
theorem k0_mult46_dvd : ∀ (v813 : BitVec 32) (k0_hw238 : k0_chk238 v813), 8 ∣ (k0_mult46 v813).toNat := fun v813 k0_hw238 => k0_hw238.1
theorem k0_off670_inb : ∀ (v813 : BitVec 32) (k0_hw238 : k0_chk238 v813), ∀ a, (k0_off670 v813) a + S8x128.size a ≤ S10000x128.size a := fun v813 k0_hw238 => k0_hw238.2

def k0_off671 (i : grid0.Coords) (k0_t6 : Fin k0_t6_loop.trips) : Fin 2 → Nat :=
  let arg0 : BitVec 32 := BitVec.ofNat 32 (i 0).val
  let v827 : Index := Scalar.indexCast arg0
  let arg1 : BitVec 32 := BitVec.ofNat 32 (i 1).val
  let c256_i32_330 : BitVec 32 := 256#32
  let v824 : BitVec 32 := Scalar.muli arg1 c256_i32_330
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v825 : BitVec 32 := Scalar.addi v824 v87
  let c46_i32 : BitVec 32 := 46#32
  let v826 : BitVec 32 := Scalar.addi v825 c46_i32
  let v828 : Index := Scalar.indexCast v826
  ![v827.toNat, v828.toNat]
def k0_mult47 (v829 : BitVec 32) : BitVec 32 :=
  let c3_i32_331 : BitVec 32 := 3#32
  let v830 : BitVec 32 := Scalar.shrsi v829 c3_i32_331
  let c3_i32_332 : BitVec 32 := 3#32
  let v831 : BitVec 32 := Scalar.shli v830 c3_i32_332
  v831

def k0_off672 (v829 : BitVec 32) : Fin 2 → Nat :=
  let c3_i32_331 : BitVec 32 := 3#32
  let v830 : BitVec 32 := Scalar.shrsi v829 c3_i32_331
  let c3_i32_332 : BitVec 32 := 3#32
  let v831 : BitVec 32 := Scalar.shli v830 c3_i32_332
  let v832 : BitVec 32 := v831
  let v833 : Index := Scalar.indexCast v832
  let c0_333 : Index := 0#32
  ![v833.toNat, 0]

def k0_chk239 (v829 : BitVec 32) : Prop :=
  (8 ∣ (k0_mult47 v829).toNat) ∧
  (∀ a, (k0_off672 v829) a + S8x128.size a ≤ S10000x128.size a)
theorem k0_mult47_dvd : ∀ (v829 : BitVec 32) (k0_hw239 : k0_chk239 v829), 8 ∣ (k0_mult47 v829).toNat := fun v829 k0_hw239 => k0_hw239.1
theorem k0_off672_inb : ∀ (v829 : BitVec 32) (k0_hw239 : k0_chk239 v829), ∀ a, (k0_off672 v829) a + S8x128.size a ≤ S10000x128.size a := fun v829 k0_hw239 => k0_hw239.2

def k0_off673 (i : grid0.Coords) (k0_t6 : Fin k0_t6_loop.trips) : Fin 2 → Nat :=
  let arg0 : BitVec 32 := BitVec.ofNat 32 (i 0).val
  let v843 : Index := Scalar.indexCast arg0
  let arg1 : BitVec 32 := BitVec.ofNat 32 (i 1).val
  let c256_i32_336 : BitVec 32 := 256#32
  let v840 : BitVec 32 := Scalar.muli arg1 c256_i32_336
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v841 : BitVec 32 := Scalar.addi v840 v87
  let c47_i32 : BitVec 32 := 47#32
  let v842 : BitVec 32 := Scalar.addi v841 c47_i32
  let v844 : Index := Scalar.indexCast v842
  ![v843.toNat, v844.toNat]
def k0_mult48 (v845 : BitVec 32) : BitVec 32 :=
  let c3_i32_337 : BitVec 32 := 3#32
  let v846 : BitVec 32 := Scalar.shrsi v845 c3_i32_337
  let c3_i32_338 : BitVec 32 := 3#32
  let v847 : BitVec 32 := Scalar.shli v846 c3_i32_338
  v847

def k0_off674 (v845 : BitVec 32) : Fin 2 → Nat :=
  let c3_i32_337 : BitVec 32 := 3#32
  let v846 : BitVec 32 := Scalar.shrsi v845 c3_i32_337
  let c3_i32_338 : BitVec 32 := 3#32
  let v847 : BitVec 32 := Scalar.shli v846 c3_i32_338
  let v848 : BitVec 32 := v847
  let v849 : Index := Scalar.indexCast v848
  let c0_339 : Index := 0#32
  ![v849.toNat, 0]

def k0_chk240 (v845 : BitVec 32) : Prop :=
  (8 ∣ (k0_mult48 v845).toNat) ∧
  (∀ a, (k0_off674 v845) a + S8x128.size a ≤ S10000x128.size a)
theorem k0_mult48_dvd : ∀ (v845 : BitVec 32) (k0_hw240 : k0_chk240 v845), 8 ∣ (k0_mult48 v845).toNat := fun v845 k0_hw240 => k0_hw240.1
theorem k0_off674_inb : ∀ (v845 : BitVec 32) (k0_hw240 : k0_chk240 v845), ∀ a, (k0_off674 v845) a + S8x128.size a ≤ S10000x128.size a := fun v845 k0_hw240 => k0_hw240.2

def k0_off675 (i : grid0.Coords) (k0_t6 : Fin k0_t6_loop.trips) : Fin 2 → Nat :=
  let arg0 : BitVec 32 := BitVec.ofNat 32 (i 0).val
  let v859 : Index := Scalar.indexCast arg0
  let arg1 : BitVec 32 := BitVec.ofNat 32 (i 1).val
  let c256_i32_342 : BitVec 32 := 256#32
  let v856 : BitVec 32 := Scalar.muli arg1 c256_i32_342
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v857 : BitVec 32 := Scalar.addi v856 v87
  let c48_i32 : BitVec 32 := 48#32
  let v858 : BitVec 32 := Scalar.addi v857 c48_i32
  let v860 : Index := Scalar.indexCast v858
  ![v859.toNat, v860.toNat]
def k0_mult49 (v861 : BitVec 32) : BitVec 32 :=
  let c3_i32_343 : BitVec 32 := 3#32
  let v862 : BitVec 32 := Scalar.shrsi v861 c3_i32_343
  let c3_i32_344 : BitVec 32 := 3#32
  let v863 : BitVec 32 := Scalar.shli v862 c3_i32_344
  v863

def k0_off676 (v861 : BitVec 32) : Fin 2 → Nat :=
  let c3_i32_343 : BitVec 32 := 3#32
  let v862 : BitVec 32 := Scalar.shrsi v861 c3_i32_343
  let c3_i32_344 : BitVec 32 := 3#32
  let v863 : BitVec 32 := Scalar.shli v862 c3_i32_344
  let v864 : BitVec 32 := v863
  let v865 : Index := Scalar.indexCast v864
  let c0_345 : Index := 0#32
  ![v865.toNat, 0]

def k0_chk241 (v861 : BitVec 32) : Prop :=
  (8 ∣ (k0_mult49 v861).toNat) ∧
  (∀ a, (k0_off676 v861) a + S8x128.size a ≤ S10000x128.size a)
theorem k0_mult49_dvd : ∀ (v861 : BitVec 32) (k0_hw241 : k0_chk241 v861), 8 ∣ (k0_mult49 v861).toNat := fun v861 k0_hw241 => k0_hw241.1
theorem k0_off676_inb : ∀ (v861 : BitVec 32) (k0_hw241 : k0_chk241 v861), ∀ a, (k0_off676 v861) a + S8x128.size a ≤ S10000x128.size a := fun v861 k0_hw241 => k0_hw241.2

def k0_off677 (i : grid0.Coords) (k0_t6 : Fin k0_t6_loop.trips) : Fin 2 → Nat :=
  let arg0 : BitVec 32 := BitVec.ofNat 32 (i 0).val
  let v875 : Index := Scalar.indexCast arg0
  let arg1 : BitVec 32 := BitVec.ofNat 32 (i 1).val
  let c256_i32_348 : BitVec 32 := 256#32
  let v872 : BitVec 32 := Scalar.muli arg1 c256_i32_348
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v873 : BitVec 32 := Scalar.addi v872 v87
  let c49_i32 : BitVec 32 := 49#32
  let v874 : BitVec 32 := Scalar.addi v873 c49_i32
  let v876 : Index := Scalar.indexCast v874
  ![v875.toNat, v876.toNat]
def k0_mult50 (v877 : BitVec 32) : BitVec 32 :=
  let c3_i32_349 : BitVec 32 := 3#32
  let v878 : BitVec 32 := Scalar.shrsi v877 c3_i32_349
  let c3_i32_350 : BitVec 32 := 3#32
  let v879 : BitVec 32 := Scalar.shli v878 c3_i32_350
  v879

def k0_off678 (v877 : BitVec 32) : Fin 2 → Nat :=
  let c3_i32_349 : BitVec 32 := 3#32
  let v878 : BitVec 32 := Scalar.shrsi v877 c3_i32_349
  let c3_i32_350 : BitVec 32 := 3#32
  let v879 : BitVec 32 := Scalar.shli v878 c3_i32_350
  let v880 : BitVec 32 := v879
  let v881 : Index := Scalar.indexCast v880
  let c0_351 : Index := 0#32
  ![v881.toNat, 0]

def k0_chk242 (v877 : BitVec 32) : Prop :=
  (8 ∣ (k0_mult50 v877).toNat) ∧
  (∀ a, (k0_off678 v877) a + S8x128.size a ≤ S10000x128.size a)
theorem k0_mult50_dvd : ∀ (v877 : BitVec 32) (k0_hw242 : k0_chk242 v877), 8 ∣ (k0_mult50 v877).toNat := fun v877 k0_hw242 => k0_hw242.1
theorem k0_off678_inb : ∀ (v877 : BitVec 32) (k0_hw242 : k0_chk242 v877), ∀ a, (k0_off678 v877) a + S8x128.size a ≤ S10000x128.size a := fun v877 k0_hw242 => k0_hw242.2

def k0_off679 (i : grid0.Coords) (k0_t6 : Fin k0_t6_loop.trips) : Fin 2 → Nat :=
  let arg0 : BitVec 32 := BitVec.ofNat 32 (i 0).val
  let v891 : Index := Scalar.indexCast arg0
  let arg1 : BitVec 32 := BitVec.ofNat 32 (i 1).val
  let c256_i32_354 : BitVec 32 := 256#32
  let v888 : BitVec 32 := Scalar.muli arg1 c256_i32_354
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v889 : BitVec 32 := Scalar.addi v888 v87
  let c50_i32 : BitVec 32 := 50#32
  let v890 : BitVec 32 := Scalar.addi v889 c50_i32
  let v892 : Index := Scalar.indexCast v890
  ![v891.toNat, v892.toNat]
def k0_mult51 (v893 : BitVec 32) : BitVec 32 :=
  let c3_i32_355 : BitVec 32 := 3#32
  let v894 : BitVec 32 := Scalar.shrsi v893 c3_i32_355
  let c3_i32_356 : BitVec 32 := 3#32
  let v895 : BitVec 32 := Scalar.shli v894 c3_i32_356
  v895

def k0_off680 (v893 : BitVec 32) : Fin 2 → Nat :=
  let c3_i32_355 : BitVec 32 := 3#32
  let v894 : BitVec 32 := Scalar.shrsi v893 c3_i32_355
  let c3_i32_356 : BitVec 32 := 3#32
  let v895 : BitVec 32 := Scalar.shli v894 c3_i32_356
  let v896 : BitVec 32 := v895
  let v897 : Index := Scalar.indexCast v896
  let c0_357 : Index := 0#32
  ![v897.toNat, 0]

def k0_chk243 (v893 : BitVec 32) : Prop :=
  (8 ∣ (k0_mult51 v893).toNat) ∧
  (∀ a, (k0_off680 v893) a + S8x128.size a ≤ S10000x128.size a)
theorem k0_mult51_dvd : ∀ (v893 : BitVec 32) (k0_hw243 : k0_chk243 v893), 8 ∣ (k0_mult51 v893).toNat := fun v893 k0_hw243 => k0_hw243.1
theorem k0_off680_inb : ∀ (v893 : BitVec 32) (k0_hw243 : k0_chk243 v893), ∀ a, (k0_off680 v893) a + S8x128.size a ≤ S10000x128.size a := fun v893 k0_hw243 => k0_hw243.2

def k0_off681 (i : grid0.Coords) (k0_t6 : Fin k0_t6_loop.trips) : Fin 2 → Nat :=
  let arg0 : BitVec 32 := BitVec.ofNat 32 (i 0).val
  let v907 : Index := Scalar.indexCast arg0
  let arg1 : BitVec 32 := BitVec.ofNat 32 (i 1).val
  let c256_i32_360 : BitVec 32 := 256#32
  let v904 : BitVec 32 := Scalar.muli arg1 c256_i32_360
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v905 : BitVec 32 := Scalar.addi v904 v87
  let c51_i32 : BitVec 32 := 51#32
  let v906 : BitVec 32 := Scalar.addi v905 c51_i32
  let v908 : Index := Scalar.indexCast v906
  ![v907.toNat, v908.toNat]
def k0_mult52 (v909 : BitVec 32) : BitVec 32 :=
  let c3_i32_361 : BitVec 32 := 3#32
  let v910 : BitVec 32 := Scalar.shrsi v909 c3_i32_361
  let c3_i32_362 : BitVec 32 := 3#32
  let v911 : BitVec 32 := Scalar.shli v910 c3_i32_362
  v911

def k0_off682 (v909 : BitVec 32) : Fin 2 → Nat :=
  let c3_i32_361 : BitVec 32 := 3#32
  let v910 : BitVec 32 := Scalar.shrsi v909 c3_i32_361
  let c3_i32_362 : BitVec 32 := 3#32
  let v911 : BitVec 32 := Scalar.shli v910 c3_i32_362
  let v912 : BitVec 32 := v911
  let v913 : Index := Scalar.indexCast v912
  let c0_363 : Index := 0#32
  ![v913.toNat, 0]

def k0_chk244 (v909 : BitVec 32) : Prop :=
  (8 ∣ (k0_mult52 v909).toNat) ∧
  (∀ a, (k0_off682 v909) a + S8x128.size a ≤ S10000x128.size a)
theorem k0_mult52_dvd : ∀ (v909 : BitVec 32) (k0_hw244 : k0_chk244 v909), 8 ∣ (k0_mult52 v909).toNat := fun v909 k0_hw244 => k0_hw244.1
theorem k0_off682_inb : ∀ (v909 : BitVec 32) (k0_hw244 : k0_chk244 v909), ∀ a, (k0_off682 v909) a + S8x128.size a ≤ S10000x128.size a := fun v909 k0_hw244 => k0_hw244.2

def k0_off683 (i : grid0.Coords) (k0_t6 : Fin k0_t6_loop.trips) : Fin 2 → Nat :=
  let arg0 : BitVec 32 := BitVec.ofNat 32 (i 0).val
  let v923 : Index := Scalar.indexCast arg0
  let arg1 : BitVec 32 := BitVec.ofNat 32 (i 1).val
  let c256_i32_366 : BitVec 32 := 256#32
  let v920 : BitVec 32 := Scalar.muli arg1 c256_i32_366
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v921 : BitVec 32 := Scalar.addi v920 v87
  let c52_i32 : BitVec 32 := 52#32
  let v922 : BitVec 32 := Scalar.addi v921 c52_i32
  let v924 : Index := Scalar.indexCast v922
  ![v923.toNat, v924.toNat]
def k0_mult53 (v925 : BitVec 32) : BitVec 32 :=
  let c3_i32_367 : BitVec 32 := 3#32
  let v926 : BitVec 32 := Scalar.shrsi v925 c3_i32_367
  let c3_i32_368 : BitVec 32 := 3#32
  let v927 : BitVec 32 := Scalar.shli v926 c3_i32_368
  v927

def k0_off684 (v925 : BitVec 32) : Fin 2 → Nat :=
  let c3_i32_367 : BitVec 32 := 3#32
  let v926 : BitVec 32 := Scalar.shrsi v925 c3_i32_367
  let c3_i32_368 : BitVec 32 := 3#32
  let v927 : BitVec 32 := Scalar.shli v926 c3_i32_368
  let v928 : BitVec 32 := v927
  let v929 : Index := Scalar.indexCast v928
  let c0_369 : Index := 0#32
  ![v929.toNat, 0]

def k0_chk245 (v925 : BitVec 32) : Prop :=
  (8 ∣ (k0_mult53 v925).toNat) ∧
  (∀ a, (k0_off684 v925) a + S8x128.size a ≤ S10000x128.size a)
theorem k0_mult53_dvd : ∀ (v925 : BitVec 32) (k0_hw245 : k0_chk245 v925), 8 ∣ (k0_mult53 v925).toNat := fun v925 k0_hw245 => k0_hw245.1
theorem k0_off684_inb : ∀ (v925 : BitVec 32) (k0_hw245 : k0_chk245 v925), ∀ a, (k0_off684 v925) a + S8x128.size a ≤ S10000x128.size a := fun v925 k0_hw245 => k0_hw245.2

def k0_off685 (i : grid0.Coords) (k0_t6 : Fin k0_t6_loop.trips) : Fin 2 → Nat :=
  let arg0 : BitVec 32 := BitVec.ofNat 32 (i 0).val
  let v939 : Index := Scalar.indexCast arg0
  let arg1 : BitVec 32 := BitVec.ofNat 32 (i 1).val
  let c256_i32_372 : BitVec 32 := 256#32
  let v936 : BitVec 32 := Scalar.muli arg1 c256_i32_372
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v937 : BitVec 32 := Scalar.addi v936 v87
  let c53_i32 : BitVec 32 := 53#32
  let v938 : BitVec 32 := Scalar.addi v937 c53_i32
  let v940 : Index := Scalar.indexCast v938
  ![v939.toNat, v940.toNat]
def k0_mult54 (v941 : BitVec 32) : BitVec 32 :=
  let c3_i32_373 : BitVec 32 := 3#32
  let v942 : BitVec 32 := Scalar.shrsi v941 c3_i32_373
  let c3_i32_374 : BitVec 32 := 3#32
  let v943 : BitVec 32 := Scalar.shli v942 c3_i32_374
  v943

def k0_off686 (v941 : BitVec 32) : Fin 2 → Nat :=
  let c3_i32_373 : BitVec 32 := 3#32
  let v942 : BitVec 32 := Scalar.shrsi v941 c3_i32_373
  let c3_i32_374 : BitVec 32 := 3#32
  let v943 : BitVec 32 := Scalar.shli v942 c3_i32_374
  let v944 : BitVec 32 := v943
  let v945 : Index := Scalar.indexCast v944
  let c0_375 : Index := 0#32
  ![v945.toNat, 0]

def k0_chk246 (v941 : BitVec 32) : Prop :=
  (8 ∣ (k0_mult54 v941).toNat) ∧
  (∀ a, (k0_off686 v941) a + S8x128.size a ≤ S10000x128.size a)
theorem k0_mult54_dvd : ∀ (v941 : BitVec 32) (k0_hw246 : k0_chk246 v941), 8 ∣ (k0_mult54 v941).toNat := fun v941 k0_hw246 => k0_hw246.1
theorem k0_off686_inb : ∀ (v941 : BitVec 32) (k0_hw246 : k0_chk246 v941), ∀ a, (k0_off686 v941) a + S8x128.size a ≤ S10000x128.size a := fun v941 k0_hw246 => k0_hw246.2

def k0_off687 (i : grid0.Coords) (k0_t6 : Fin k0_t6_loop.trips) : Fin 2 → Nat :=
  let arg0 : BitVec 32 := BitVec.ofNat 32 (i 0).val
  let v955 : Index := Scalar.indexCast arg0
  let arg1 : BitVec 32 := BitVec.ofNat 32 (i 1).val
  let c256_i32_378 : BitVec 32 := 256#32
  let v952 : BitVec 32 := Scalar.muli arg1 c256_i32_378
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v953 : BitVec 32 := Scalar.addi v952 v87
  let c54_i32 : BitVec 32 := 54#32
  let v954 : BitVec 32 := Scalar.addi v953 c54_i32
  let v956 : Index := Scalar.indexCast v954
  ![v955.toNat, v956.toNat]
def k0_mult55 (v957 : BitVec 32) : BitVec 32 :=
  let c3_i32_379 : BitVec 32 := 3#32
  let v958 : BitVec 32 := Scalar.shrsi v957 c3_i32_379
  let c3_i32_380 : BitVec 32 := 3#32
  let v959 : BitVec 32 := Scalar.shli v958 c3_i32_380
  v959

def k0_off688 (v957 : BitVec 32) : Fin 2 → Nat :=
  let c3_i32_379 : BitVec 32 := 3#32
  let v958 : BitVec 32 := Scalar.shrsi v957 c3_i32_379
  let c3_i32_380 : BitVec 32 := 3#32
  let v959 : BitVec 32 := Scalar.shli v958 c3_i32_380
  let v960 : BitVec 32 := v959
  let v961 : Index := Scalar.indexCast v960
  let c0_381 : Index := 0#32
  ![v961.toNat, 0]

def k0_chk247 (v957 : BitVec 32) : Prop :=
  (8 ∣ (k0_mult55 v957).toNat) ∧
  (∀ a, (k0_off688 v957) a + S8x128.size a ≤ S10000x128.size a)
theorem k0_mult55_dvd : ∀ (v957 : BitVec 32) (k0_hw247 : k0_chk247 v957), 8 ∣ (k0_mult55 v957).toNat := fun v957 k0_hw247 => k0_hw247.1
theorem k0_off688_inb : ∀ (v957 : BitVec 32) (k0_hw247 : k0_chk247 v957), ∀ a, (k0_off688 v957) a + S8x128.size a ≤ S10000x128.size a := fun v957 k0_hw247 => k0_hw247.2

def k0_off689 (i : grid0.Coords) (k0_t6 : Fin k0_t6_loop.trips) : Fin 2 → Nat :=
  let arg0 : BitVec 32 := BitVec.ofNat 32 (i 0).val
  let v971 : Index := Scalar.indexCast arg0
  let arg1 : BitVec 32 := BitVec.ofNat 32 (i 1).val
  let c256_i32_384 : BitVec 32 := 256#32
  let v968 : BitVec 32 := Scalar.muli arg1 c256_i32_384
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v969 : BitVec 32 := Scalar.addi v968 v87
  let c55_i32 : BitVec 32 := 55#32
  let v970 : BitVec 32 := Scalar.addi v969 c55_i32
  let v972 : Index := Scalar.indexCast v970
  ![v971.toNat, v972.toNat]
def k0_mult56 (v973 : BitVec 32) : BitVec 32 :=
  let c3_i32_385 : BitVec 32 := 3#32
  let v974 : BitVec 32 := Scalar.shrsi v973 c3_i32_385
  let c3_i32_386 : BitVec 32 := 3#32
  let v975 : BitVec 32 := Scalar.shli v974 c3_i32_386
  v975

def k0_off690 (v973 : BitVec 32) : Fin 2 → Nat :=
  let c3_i32_385 : BitVec 32 := 3#32
  let v974 : BitVec 32 := Scalar.shrsi v973 c3_i32_385
  let c3_i32_386 : BitVec 32 := 3#32
  let v975 : BitVec 32 := Scalar.shli v974 c3_i32_386
  let v976 : BitVec 32 := v975
  let v977 : Index := Scalar.indexCast v976
  let c0_387 : Index := 0#32
  ![v977.toNat, 0]

def k0_chk248 (v973 : BitVec 32) : Prop :=
  (8 ∣ (k0_mult56 v973).toNat) ∧
  (∀ a, (k0_off690 v973) a + S8x128.size a ≤ S10000x128.size a)
theorem k0_mult56_dvd : ∀ (v973 : BitVec 32) (k0_hw248 : k0_chk248 v973), 8 ∣ (k0_mult56 v973).toNat := fun v973 k0_hw248 => k0_hw248.1
theorem k0_off690_inb : ∀ (v973 : BitVec 32) (k0_hw248 : k0_chk248 v973), ∀ a, (k0_off690 v973) a + S8x128.size a ≤ S10000x128.size a := fun v973 k0_hw248 => k0_hw248.2

def k0_off691 (i : grid0.Coords) (k0_t6 : Fin k0_t6_loop.trips) : Fin 2 → Nat :=
  let arg0 : BitVec 32 := BitVec.ofNat 32 (i 0).val
  let v987 : Index := Scalar.indexCast arg0
  let arg1 : BitVec 32 := BitVec.ofNat 32 (i 1).val
  let c256_i32_390 : BitVec 32 := 256#32
  let v984 : BitVec 32 := Scalar.muli arg1 c256_i32_390
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v985 : BitVec 32 := Scalar.addi v984 v87
  let c56_i32 : BitVec 32 := 56#32
  let v986 : BitVec 32 := Scalar.addi v985 c56_i32
  let v988 : Index := Scalar.indexCast v986
  ![v987.toNat, v988.toNat]
def k0_mult57 (v989 : BitVec 32) : BitVec 32 :=
  let c3_i32_391 : BitVec 32 := 3#32
  let v990 : BitVec 32 := Scalar.shrsi v989 c3_i32_391
  let c3_i32_392 : BitVec 32 := 3#32
  let v991 : BitVec 32 := Scalar.shli v990 c3_i32_392
  v991

def k0_off692 (v989 : BitVec 32) : Fin 2 → Nat :=
  let c3_i32_391 : BitVec 32 := 3#32
  let v990 : BitVec 32 := Scalar.shrsi v989 c3_i32_391
  let c3_i32_392 : BitVec 32 := 3#32
  let v991 : BitVec 32 := Scalar.shli v990 c3_i32_392
  let v992 : BitVec 32 := v991
  let v993 : Index := Scalar.indexCast v992
  let c0_393 : Index := 0#32
  ![v993.toNat, 0]

def k0_chk249 (v989 : BitVec 32) : Prop :=
  (8 ∣ (k0_mult57 v989).toNat) ∧
  (∀ a, (k0_off692 v989) a + S8x128.size a ≤ S10000x128.size a)
theorem k0_mult57_dvd : ∀ (v989 : BitVec 32) (k0_hw249 : k0_chk249 v989), 8 ∣ (k0_mult57 v989).toNat := fun v989 k0_hw249 => k0_hw249.1
theorem k0_off692_inb : ∀ (v989 : BitVec 32) (k0_hw249 : k0_chk249 v989), ∀ a, (k0_off692 v989) a + S8x128.size a ≤ S10000x128.size a := fun v989 k0_hw249 => k0_hw249.2

def k0_off693 (i : grid0.Coords) (k0_t6 : Fin k0_t6_loop.trips) : Fin 2 → Nat :=
  let arg0 : BitVec 32 := BitVec.ofNat 32 (i 0).val
  let v1003 : Index := Scalar.indexCast arg0
  let arg1 : BitVec 32 := BitVec.ofNat 32 (i 1).val
  let c256_i32_396 : BitVec 32 := 256#32
  let v1000 : BitVec 32 := Scalar.muli arg1 c256_i32_396
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1001 : BitVec 32 := Scalar.addi v1000 v87
  let c57_i32 : BitVec 32 := 57#32
  let v1002 : BitVec 32 := Scalar.addi v1001 c57_i32
  let v1004 : Index := Scalar.indexCast v1002
  ![v1003.toNat, v1004.toNat]
def k0_mult58 (v1005 : BitVec 32) : BitVec 32 :=
  let c3_i32_397 : BitVec 32 := 3#32
  let v1006 : BitVec 32 := Scalar.shrsi v1005 c3_i32_397
  let c3_i32_398 : BitVec 32 := 3#32
  let v1007 : BitVec 32 := Scalar.shli v1006 c3_i32_398
  v1007

def k0_off694 (v1005 : BitVec 32) : Fin 2 → Nat :=
  let c3_i32_397 : BitVec 32 := 3#32
  let v1006 : BitVec 32 := Scalar.shrsi v1005 c3_i32_397
  let c3_i32_398 : BitVec 32 := 3#32
  let v1007 : BitVec 32 := Scalar.shli v1006 c3_i32_398
  let v1008 : BitVec 32 := v1007
  let v1009 : Index := Scalar.indexCast v1008
  let c0_399 : Index := 0#32
  ![v1009.toNat, 0]

def k0_chk250 (v1005 : BitVec 32) : Prop :=
  (8 ∣ (k0_mult58 v1005).toNat) ∧
  (∀ a, (k0_off694 v1005) a + S8x128.size a ≤ S10000x128.size a)
theorem k0_mult58_dvd : ∀ (v1005 : BitVec 32) (k0_hw250 : k0_chk250 v1005), 8 ∣ (k0_mult58 v1005).toNat := fun v1005 k0_hw250 => k0_hw250.1
theorem k0_off694_inb : ∀ (v1005 : BitVec 32) (k0_hw250 : k0_chk250 v1005), ∀ a, (k0_off694 v1005) a + S8x128.size a ≤ S10000x128.size a := fun v1005 k0_hw250 => k0_hw250.2

def k0_off695 (i : grid0.Coords) (k0_t6 : Fin k0_t6_loop.trips) : Fin 2 → Nat :=
  let arg0 : BitVec 32 := BitVec.ofNat 32 (i 0).val
  let v1019 : Index := Scalar.indexCast arg0
  let arg1 : BitVec 32 := BitVec.ofNat 32 (i 1).val
  let c256_i32_402 : BitVec 32 := 256#32
  let v1016 : BitVec 32 := Scalar.muli arg1 c256_i32_402
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1017 : BitVec 32 := Scalar.addi v1016 v87
  let c58_i32 : BitVec 32 := 58#32
  let v1018 : BitVec 32 := Scalar.addi v1017 c58_i32
  let v1020 : Index := Scalar.indexCast v1018
  ![v1019.toNat, v1020.toNat]
def k0_mult59 (v1021 : BitVec 32) : BitVec 32 :=
  let c3_i32_403 : BitVec 32 := 3#32
  let v1022 : BitVec 32 := Scalar.shrsi v1021 c3_i32_403
  let c3_i32_404 : BitVec 32 := 3#32
  let v1023 : BitVec 32 := Scalar.shli v1022 c3_i32_404
  v1023

def k0_off696 (v1021 : BitVec 32) : Fin 2 → Nat :=
  let c3_i32_403 : BitVec 32 := 3#32
  let v1022 : BitVec 32 := Scalar.shrsi v1021 c3_i32_403
  let c3_i32_404 : BitVec 32 := 3#32
  let v1023 : BitVec 32 := Scalar.shli v1022 c3_i32_404
  let v1024 : BitVec 32 := v1023
  let v1025 : Index := Scalar.indexCast v1024
  let c0_405 : Index := 0#32
  ![v1025.toNat, 0]

def k0_chk251 (v1021 : BitVec 32) : Prop :=
  (8 ∣ (k0_mult59 v1021).toNat) ∧
  (∀ a, (k0_off696 v1021) a + S8x128.size a ≤ S10000x128.size a)
theorem k0_mult59_dvd : ∀ (v1021 : BitVec 32) (k0_hw251 : k0_chk251 v1021), 8 ∣ (k0_mult59 v1021).toNat := fun v1021 k0_hw251 => k0_hw251.1
theorem k0_off696_inb : ∀ (v1021 : BitVec 32) (k0_hw251 : k0_chk251 v1021), ∀ a, (k0_off696 v1021) a + S8x128.size a ≤ S10000x128.size a := fun v1021 k0_hw251 => k0_hw251.2

def k0_off697 (i : grid0.Coords) (k0_t6 : Fin k0_t6_loop.trips) : Fin 2 → Nat :=
  let arg0 : BitVec 32 := BitVec.ofNat 32 (i 0).val
  let v1035 : Index := Scalar.indexCast arg0
  let arg1 : BitVec 32 := BitVec.ofNat 32 (i 1).val
  let c256_i32_408 : BitVec 32 := 256#32
  let v1032 : BitVec 32 := Scalar.muli arg1 c256_i32_408
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1033 : BitVec 32 := Scalar.addi v1032 v87
  let c59_i32 : BitVec 32 := 59#32
  let v1034 : BitVec 32 := Scalar.addi v1033 c59_i32
  let v1036 : Index := Scalar.indexCast v1034
  ![v1035.toNat, v1036.toNat]
def k0_mult60 (v1037 : BitVec 32) : BitVec 32 :=
  let c3_i32_409 : BitVec 32 := 3#32
  let v1038 : BitVec 32 := Scalar.shrsi v1037 c3_i32_409
  let c3_i32_410 : BitVec 32 := 3#32
  let v1039 : BitVec 32 := Scalar.shli v1038 c3_i32_410
  v1039

def k0_off698 (v1037 : BitVec 32) : Fin 2 → Nat :=
  let c3_i32_409 : BitVec 32 := 3#32
  let v1038 : BitVec 32 := Scalar.shrsi v1037 c3_i32_409
  let c3_i32_410 : BitVec 32 := 3#32
  let v1039 : BitVec 32 := Scalar.shli v1038 c3_i32_410
  let v1040 : BitVec 32 := v1039
  let v1041 : Index := Scalar.indexCast v1040
  let c0_411 : Index := 0#32
  ![v1041.toNat, 0]

def k0_chk252 (v1037 : BitVec 32) : Prop :=
  (8 ∣ (k0_mult60 v1037).toNat) ∧
  (∀ a, (k0_off698 v1037) a + S8x128.size a ≤ S10000x128.size a)
theorem k0_mult60_dvd : ∀ (v1037 : BitVec 32) (k0_hw252 : k0_chk252 v1037), 8 ∣ (k0_mult60 v1037).toNat := fun v1037 k0_hw252 => k0_hw252.1
theorem k0_off698_inb : ∀ (v1037 : BitVec 32) (k0_hw252 : k0_chk252 v1037), ∀ a, (k0_off698 v1037) a + S8x128.size a ≤ S10000x128.size a := fun v1037 k0_hw252 => k0_hw252.2

def k0_off699 (i : grid0.Coords) (k0_t6 : Fin k0_t6_loop.trips) : Fin 2 → Nat :=
  let arg0 : BitVec 32 := BitVec.ofNat 32 (i 0).val
  let v1051 : Index := Scalar.indexCast arg0
  let arg1 : BitVec 32 := BitVec.ofNat 32 (i 1).val
  let c256_i32_414 : BitVec 32 := 256#32
  let v1048 : BitVec 32 := Scalar.muli arg1 c256_i32_414
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1049 : BitVec 32 := Scalar.addi v1048 v87
  let c60_i32 : BitVec 32 := 60#32
  let v1050 : BitVec 32 := Scalar.addi v1049 c60_i32
  let v1052 : Index := Scalar.indexCast v1050
  ![v1051.toNat, v1052.toNat]
def k0_mult61 (v1053 : BitVec 32) : BitVec 32 :=
  let c3_i32_415 : BitVec 32 := 3#32
  let v1054 : BitVec 32 := Scalar.shrsi v1053 c3_i32_415
  let c3_i32_416 : BitVec 32 := 3#32
  let v1055 : BitVec 32 := Scalar.shli v1054 c3_i32_416
  v1055

def k0_off700 (v1053 : BitVec 32) : Fin 2 → Nat :=
  let c3_i32_415 : BitVec 32 := 3#32
  let v1054 : BitVec 32 := Scalar.shrsi v1053 c3_i32_415
  let c3_i32_416 : BitVec 32 := 3#32
  let v1055 : BitVec 32 := Scalar.shli v1054 c3_i32_416
  let v1056 : BitVec 32 := v1055
  let v1057 : Index := Scalar.indexCast v1056
  let c0_417 : Index := 0#32
  ![v1057.toNat, 0]

def k0_chk253 (v1053 : BitVec 32) : Prop :=
  (8 ∣ (k0_mult61 v1053).toNat) ∧
  (∀ a, (k0_off700 v1053) a + S8x128.size a ≤ S10000x128.size a)
theorem k0_mult61_dvd : ∀ (v1053 : BitVec 32) (k0_hw253 : k0_chk253 v1053), 8 ∣ (k0_mult61 v1053).toNat := fun v1053 k0_hw253 => k0_hw253.1
theorem k0_off700_inb : ∀ (v1053 : BitVec 32) (k0_hw253 : k0_chk253 v1053), ∀ a, (k0_off700 v1053) a + S8x128.size a ≤ S10000x128.size a := fun v1053 k0_hw253 => k0_hw253.2

def k0_off701 (i : grid0.Coords) (k0_t6 : Fin k0_t6_loop.trips) : Fin 2 → Nat :=
  let arg0 : BitVec 32 := BitVec.ofNat 32 (i 0).val
  let v1067 : Index := Scalar.indexCast arg0
  let arg1 : BitVec 32 := BitVec.ofNat 32 (i 1).val
  let c256_i32_420 : BitVec 32 := 256#32
  let v1064 : BitVec 32 := Scalar.muli arg1 c256_i32_420
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1065 : BitVec 32 := Scalar.addi v1064 v87
  let c61_i32 : BitVec 32 := 61#32
  let v1066 : BitVec 32 := Scalar.addi v1065 c61_i32
  let v1068 : Index := Scalar.indexCast v1066
  ![v1067.toNat, v1068.toNat]
def k0_mult62 (v1069 : BitVec 32) : BitVec 32 :=
  let c3_i32_421 : BitVec 32 := 3#32
  let v1070 : BitVec 32 := Scalar.shrsi v1069 c3_i32_421
  let c3_i32_422 : BitVec 32 := 3#32
  let v1071 : BitVec 32 := Scalar.shli v1070 c3_i32_422
  v1071

def k0_off702 (v1069 : BitVec 32) : Fin 2 → Nat :=
  let c3_i32_421 : BitVec 32 := 3#32
  let v1070 : BitVec 32 := Scalar.shrsi v1069 c3_i32_421
  let c3_i32_422 : BitVec 32 := 3#32
  let v1071 : BitVec 32 := Scalar.shli v1070 c3_i32_422
  let v1072 : BitVec 32 := v1071
  let v1073 : Index := Scalar.indexCast v1072
  let c0_423 : Index := 0#32
  ![v1073.toNat, 0]

def k0_chk254 (v1069 : BitVec 32) : Prop :=
  (8 ∣ (k0_mult62 v1069).toNat) ∧
  (∀ a, (k0_off702 v1069) a + S8x128.size a ≤ S10000x128.size a)
theorem k0_mult62_dvd : ∀ (v1069 : BitVec 32) (k0_hw254 : k0_chk254 v1069), 8 ∣ (k0_mult62 v1069).toNat := fun v1069 k0_hw254 => k0_hw254.1
theorem k0_off702_inb : ∀ (v1069 : BitVec 32) (k0_hw254 : k0_chk254 v1069), ∀ a, (k0_off702 v1069) a + S8x128.size a ≤ S10000x128.size a := fun v1069 k0_hw254 => k0_hw254.2

def k0_off703 (i : grid0.Coords) (k0_t6 : Fin k0_t6_loop.trips) : Fin 2 → Nat :=
  let arg0 : BitVec 32 := BitVec.ofNat 32 (i 0).val
  let v1083 : Index := Scalar.indexCast arg0
  let arg1 : BitVec 32 := BitVec.ofNat 32 (i 1).val
  let c256_i32_426 : BitVec 32 := 256#32
  let v1080 : BitVec 32 := Scalar.muli arg1 c256_i32_426
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1081 : BitVec 32 := Scalar.addi v1080 v87
  let c62_i32 : BitVec 32 := 62#32
  let v1082 : BitVec 32 := Scalar.addi v1081 c62_i32
  let v1084 : Index := Scalar.indexCast v1082
  ![v1083.toNat, v1084.toNat]
def k0_mult63 (v1085 : BitVec 32) : BitVec 32 :=
  let c3_i32_427 : BitVec 32 := 3#32
  let v1086 : BitVec 32 := Scalar.shrsi v1085 c3_i32_427
  let c3_i32_428 : BitVec 32 := 3#32
  let v1087 : BitVec 32 := Scalar.shli v1086 c3_i32_428
  v1087

def k0_off704 (v1085 : BitVec 32) : Fin 2 → Nat :=
  let c3_i32_427 : BitVec 32 := 3#32
  let v1086 : BitVec 32 := Scalar.shrsi v1085 c3_i32_427
  let c3_i32_428 : BitVec 32 := 3#32
  let v1087 : BitVec 32 := Scalar.shli v1086 c3_i32_428
  let v1088 : BitVec 32 := v1087
  let v1089 : Index := Scalar.indexCast v1088
  let c0_429 : Index := 0#32
  ![v1089.toNat, 0]

def k0_chk255 (v1085 : BitVec 32) : Prop :=
  (8 ∣ (k0_mult63 v1085).toNat) ∧
  (∀ a, (k0_off704 v1085) a + S8x128.size a ≤ S10000x128.size a)
theorem k0_mult63_dvd : ∀ (v1085 : BitVec 32) (k0_hw255 : k0_chk255 v1085), 8 ∣ (k0_mult63 v1085).toNat := fun v1085 k0_hw255 => k0_hw255.1
theorem k0_off704_inb : ∀ (v1085 : BitVec 32) (k0_hw255 : k0_chk255 v1085), ∀ a, (k0_off704 v1085) a + S8x128.size a ≤ S10000x128.size a := fun v1085 k0_hw255 => k0_hw255.2

def k0_off705 (i : grid0.Coords) (k0_t6 : Fin k0_t6_loop.trips) : Fin 2 → Nat :=
  let arg0 : BitVec 32 := BitVec.ofNat 32 (i 0).val
  let v1099 : Index := Scalar.indexCast arg0
  let arg1 : BitVec 32 := BitVec.ofNat 32 (i 1).val
  let c256_i32_432 : BitVec 32 := 256#32
  let v1096 : BitVec 32 := Scalar.muli arg1 c256_i32_432
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1097 : BitVec 32 := Scalar.addi v1096 v87
  let c63_i32 : BitVec 32 := 63#32
  let v1098 : BitVec 32 := Scalar.addi v1097 c63_i32
  let v1100 : Index := Scalar.indexCast v1098
  ![v1099.toNat, v1100.toNat]
def k0_mult64 (v1101 : BitVec 32) : BitVec 32 :=
  let c3_i32_433 : BitVec 32 := 3#32
  let v1102 : BitVec 32 := Scalar.shrsi v1101 c3_i32_433
  let c3_i32_434 : BitVec 32 := 3#32
  let v1103 : BitVec 32 := Scalar.shli v1102 c3_i32_434
  v1103

def k0_off706 (v1101 : BitVec 32) : Fin 2 → Nat :=
  let c3_i32_433 : BitVec 32 := 3#32
  let v1102 : BitVec 32 := Scalar.shrsi v1101 c3_i32_433
  let c3_i32_434 : BitVec 32 := 3#32
  let v1103 : BitVec 32 := Scalar.shli v1102 c3_i32_434
  let v1104 : BitVec 32 := v1103
  let v1105 : Index := Scalar.indexCast v1104
  let c0_435 : Index := 0#32
  ![v1105.toNat, 0]

def k0_chk256 (v1101 : BitVec 32) : Prop :=
  (8 ∣ (k0_mult64 v1101).toNat) ∧
  (∀ a, (k0_off706 v1101) a + S8x128.size a ≤ S10000x128.size a)
theorem k0_mult64_dvd : ∀ (v1101 : BitVec 32) (k0_hw256 : k0_chk256 v1101), 8 ∣ (k0_mult64 v1101).toNat := fun v1101 k0_hw256 => k0_hw256.1
theorem k0_off706_inb : ∀ (v1101 : BitVec 32) (k0_hw256 : k0_chk256 v1101), ∀ a, (k0_off706 v1101) a + S8x128.size a ≤ S10000x128.size a := fun v1101 k0_hw256 => k0_hw256.2

def k0_off707 (k0_t6 : Fin k0_t6_loop.trips) : Fin 2 → Nat :=
  let c0_i32_15 : BitVec 32 := 0#32
  let c1_i32_16 : BitVec 32 := 1#32
  let arg15 : BitVec 32 := Scf.iv c0_i32_15 c1_i32_16 k0_t6
  let c64_i32 : BitVec 32 := 64#32
  let v87 : BitVec 32 := Scalar.muli arg15 c64_i32
  let v1113 : Index := Scalar.indexCast v87
  let c0_438 : Index := 0#32
  ![v1113.toNat, 0]
@[reducible] def k0_t7_loop : Scf.Loop 32 :=
  let c0_i32_21 : BitVec 32 := 0#32
  let c32_i32 : BitVec 32 := 32#32
  let v34 : BitVec 32 := Scalar.addi c0_i32_21 c32_i32
  let c1_i32_22 : BitVec 32 := 1#32
  ⟨c0_i32_21, v34, c1_i32_22⟩
def k0_off708 (i : grid0.Coords) (k0_t7 : Fin k0_t7_loop.trips) : Fin 2 → Nat :=
  let arg0 : BitVec 32 := BitVec.ofNat 32 (i 0).val
  let v89 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c0_i32_48 : BitVec 32 := 0#32
  let v88 : BitVec 32 := Scalar.addi v87 c0_i32_48
  let v90 : Index := Scalar.indexCast v88
  ![v89.toNat, v90.toNat]
def k0_off709 (v91 : BitVec 32) : Fin 3 → Nat :=
  let v92 : Index := Scalar.indexCast v91
  let c0_49 : Index := 0#32
  let c0_50 : Index := 0#32
  ![v92.toNat, 0, 0]

def k0_chk257 (v91 : BitVec 32) : Prop :=
  (∀ a, (k0_off709 v91) a + S1x1x256.size a ≤ S10112x1x256.size a)
theorem k0_off709_inb : ∀ (v91 : BitVec 32) (k0_hw257 : k0_chk257 v91), ∀ a, (k0_off709 v91) a + S1x1x256.size a ≤ S10112x1x256.size a := fun v91 k0_hw257 => k0_hw257

def k0_off710 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c0_i32_51 : BitVec 32 := 0#32
  let v95 : BitVec 32 := Scalar.addi v87 c0_i32_51
  let v96 : Index := Scalar.indexCast v95
  let c0_52 : Index := 0#32
  let c0_53 : Index := 0#32
  ![v96.toNat, 0, 0]
def k0_off711 (i : grid0.Coords) (k0_t7 : Fin k0_t7_loop.trips) : Fin 2 → Nat :=
  let arg0 : BitVec 32 := BitVec.ofNat 32 (i 0).val
  let v101 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c1_i32_54 : BitVec 32 := 1#32
  let v100 : BitVec 32 := Scalar.addi v87 c1_i32_54
  let v102 : Index := Scalar.indexCast v100
  ![v101.toNat, v102.toNat]
def k0_off712 (v103 : BitVec 32) : Fin 3 → Nat :=
  let v104 : Index := Scalar.indexCast v103
  let c0_55 : Index := 0#32
  let c0_56 : Index := 0#32
  ![v104.toNat, 0, 0]

def k0_chk258 (v103 : BitVec 32) : Prop :=
  (∀ a, (k0_off712 v103) a + S1x1x256.size a ≤ S10112x1x256.size a)
theorem k0_off712_inb : ∀ (v103 : BitVec 32) (k0_hw258 : k0_chk258 v103), ∀ a, (k0_off712 v103) a + S1x1x256.size a ≤ S10112x1x256.size a := fun v103 k0_hw258 => k0_hw258

def k0_off713 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c1_i32_57 : BitVec 32 := 1#32
  let v107 : BitVec 32 := Scalar.addi v87 c1_i32_57
  let v108 : Index := Scalar.indexCast v107
  let c0_58 : Index := 0#32
  let c0_59 : Index := 0#32
  ![v108.toNat, 0, 0]
def k0_off714 (i : grid0.Coords) (k0_t7 : Fin k0_t7_loop.trips) : Fin 2 → Nat :=
  let arg0 : BitVec 32 := BitVec.ofNat 32 (i 0).val
  let v113 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c2_i32_60 : BitVec 32 := 2#32
  let v112 : BitVec 32 := Scalar.addi v87 c2_i32_60
  let v114 : Index := Scalar.indexCast v112
  ![v113.toNat, v114.toNat]
def k0_off715 (v115 : BitVec 32) : Fin 3 → Nat :=
  let v116 : Index := Scalar.indexCast v115
  let c0_61 : Index := 0#32
  let c0_62 : Index := 0#32
  ![v116.toNat, 0, 0]

def k0_chk259 (v115 : BitVec 32) : Prop :=
  (∀ a, (k0_off715 v115) a + S1x1x256.size a ≤ S10112x1x256.size a)
theorem k0_off715_inb : ∀ (v115 : BitVec 32) (k0_hw259 : k0_chk259 v115), ∀ a, (k0_off715 v115) a + S1x1x256.size a ≤ S10112x1x256.size a := fun v115 k0_hw259 => k0_hw259

def k0_off716 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c2_i32_63 : BitVec 32 := 2#32
  let v119 : BitVec 32 := Scalar.addi v87 c2_i32_63
  let v120 : Index := Scalar.indexCast v119
  let c0_64 : Index := 0#32
  let c0_65 : Index := 0#32
  ![v120.toNat, 0, 0]
def k0_off717 (i : grid0.Coords) (k0_t7 : Fin k0_t7_loop.trips) : Fin 2 → Nat :=
  let arg0 : BitVec 32 := BitVec.ofNat 32 (i 0).val
  let v125 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c3_i32 : BitVec 32 := 3#32
  let v124 : BitVec 32 := Scalar.addi v87 c3_i32
  let v126 : Index := Scalar.indexCast v124
  ![v125.toNat, v126.toNat]
def k0_off718 (v127 : BitVec 32) : Fin 3 → Nat :=
  let v128 : Index := Scalar.indexCast v127
  let c0_66 : Index := 0#32
  let c0_67 : Index := 0#32
  ![v128.toNat, 0, 0]

def k0_chk260 (v127 : BitVec 32) : Prop :=
  (∀ a, (k0_off718 v127) a + S1x1x256.size a ≤ S10112x1x256.size a)
theorem k0_off718_inb : ∀ (v127 : BitVec 32) (k0_hw260 : k0_chk260 v127), ∀ a, (k0_off718 v127) a + S1x1x256.size a ≤ S10112x1x256.size a := fun v127 k0_hw260 => k0_hw260

def k0_off719 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c3_i32_68 : BitVec 32 := 3#32
  let v131 : BitVec 32 := Scalar.addi v87 c3_i32_68
  let v132 : Index := Scalar.indexCast v131
  let c0_69 : Index := 0#32
  let c0_70 : Index := 0#32
  ![v132.toNat, 0, 0]
def k0_off720 (i : grid0.Coords) (k0_t7 : Fin k0_t7_loop.trips) : Fin 2 → Nat :=
  let arg0 : BitVec 32 := BitVec.ofNat 32 (i 0).val
  let v137 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c4_i32_71 : BitVec 32 := 4#32
  let v136 : BitVec 32 := Scalar.addi v87 c4_i32_71
  let v138 : Index := Scalar.indexCast v136
  ![v137.toNat, v138.toNat]
def k0_off721 (v139 : BitVec 32) : Fin 3 → Nat :=
  let v140 : Index := Scalar.indexCast v139
  let c0_72 : Index := 0#32
  let c0_73 : Index := 0#32
  ![v140.toNat, 0, 0]

def k0_chk261 (v139 : BitVec 32) : Prop :=
  (∀ a, (k0_off721 v139) a + S1x1x256.size a ≤ S10112x1x256.size a)
theorem k0_off721_inb : ∀ (v139 : BitVec 32) (k0_hw261 : k0_chk261 v139), ∀ a, (k0_off721 v139) a + S1x1x256.size a ≤ S10112x1x256.size a := fun v139 k0_hw261 => k0_hw261

def k0_off722 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c4_i32_74 : BitVec 32 := 4#32
  let v143 : BitVec 32 := Scalar.addi v87 c4_i32_74
  let v144 : Index := Scalar.indexCast v143
  let c0_75 : Index := 0#32
  let c0_76 : Index := 0#32
  ![v144.toNat, 0, 0]
def k0_off723 (i : grid0.Coords) (k0_t7 : Fin k0_t7_loop.trips) : Fin 2 → Nat :=
  let arg0 : BitVec 32 := BitVec.ofNat 32 (i 0).val
  let v149 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c5_i32 : BitVec 32 := 5#32
  let v148 : BitVec 32 := Scalar.addi v87 c5_i32
  let v150 : Index := Scalar.indexCast v148
  ![v149.toNat, v150.toNat]
def k0_off724 (v151 : BitVec 32) : Fin 3 → Nat :=
  let v152 : Index := Scalar.indexCast v151
  let c0_77 : Index := 0#32
  let c0_78 : Index := 0#32
  ![v152.toNat, 0, 0]

def k0_chk262 (v151 : BitVec 32) : Prop :=
  (∀ a, (k0_off724 v151) a + S1x1x256.size a ≤ S10112x1x256.size a)
theorem k0_off724_inb : ∀ (v151 : BitVec 32) (k0_hw262 : k0_chk262 v151), ∀ a, (k0_off724 v151) a + S1x1x256.size a ≤ S10112x1x256.size a := fun v151 k0_hw262 => k0_hw262

def k0_off725 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c5_i32_79 : BitVec 32 := 5#32
  let v155 : BitVec 32 := Scalar.addi v87 c5_i32_79
  let v156 : Index := Scalar.indexCast v155
  let c0_80 : Index := 0#32
  let c0_81 : Index := 0#32
  ![v156.toNat, 0, 0]
def k0_off726 (i : grid0.Coords) (k0_t7 : Fin k0_t7_loop.trips) : Fin 2 → Nat :=
  let arg0 : BitVec 32 := BitVec.ofNat 32 (i 0).val
  let v161 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c6_i32 : BitVec 32 := 6#32
  let v160 : BitVec 32 := Scalar.addi v87 c6_i32
  let v162 : Index := Scalar.indexCast v160
  ![v161.toNat, v162.toNat]
def k0_off727 (v163 : BitVec 32) : Fin 3 → Nat :=
  let v164 : Index := Scalar.indexCast v163
  let c0_82 : Index := 0#32
  let c0_83 : Index := 0#32
  ![v164.toNat, 0, 0]

def k0_chk263 (v163 : BitVec 32) : Prop :=
  (∀ a, (k0_off727 v163) a + S1x1x256.size a ≤ S10112x1x256.size a)
theorem k0_off727_inb : ∀ (v163 : BitVec 32) (k0_hw263 : k0_chk263 v163), ∀ a, (k0_off727 v163) a + S1x1x256.size a ≤ S10112x1x256.size a := fun v163 k0_hw263 => k0_hw263

def k0_off728 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c6_i32_84 : BitVec 32 := 6#32
  let v167 : BitVec 32 := Scalar.addi v87 c6_i32_84
  let v168 : Index := Scalar.indexCast v167
  let c0_85 : Index := 0#32
  let c0_86 : Index := 0#32
  ![v168.toNat, 0, 0]
def k0_off729 (i : grid0.Coords) (k0_t7 : Fin k0_t7_loop.trips) : Fin 2 → Nat :=
  let arg0 : BitVec 32 := BitVec.ofNat 32 (i 0).val
  let v173 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c7_i32 : BitVec 32 := 7#32
  let v172 : BitVec 32 := Scalar.addi v87 c7_i32
  let v174 : Index := Scalar.indexCast v172
  ![v173.toNat, v174.toNat]
def k0_off730 (v175 : BitVec 32) : Fin 3 → Nat :=
  let v176 : Index := Scalar.indexCast v175
  let c0_87 : Index := 0#32
  let c0_88 : Index := 0#32
  ![v176.toNat, 0, 0]

def k0_chk264 (v175 : BitVec 32) : Prop :=
  (∀ a, (k0_off730 v175) a + S1x1x256.size a ≤ S10112x1x256.size a)
theorem k0_off730_inb : ∀ (v175 : BitVec 32) (k0_hw264 : k0_chk264 v175), ∀ a, (k0_off730 v175) a + S1x1x256.size a ≤ S10112x1x256.size a := fun v175 k0_hw264 => k0_hw264

def k0_off731 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c7_i32_89 : BitVec 32 := 7#32
  let v179 : BitVec 32 := Scalar.addi v87 c7_i32_89
  let v180 : Index := Scalar.indexCast v179
  let c0_90 : Index := 0#32
  let c0_91 : Index := 0#32
  ![v180.toNat, 0, 0]
def k0_off732 (i : grid0.Coords) (k0_t7 : Fin k0_t7_loop.trips) : Fin 2 → Nat :=
  let arg0 : BitVec 32 := BitVec.ofNat 32 (i 0).val
  let v185 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c8_i32_92 : BitVec 32 := 8#32
  let v184 : BitVec 32 := Scalar.addi v87 c8_i32_92
  let v186 : Index := Scalar.indexCast v184
  ![v185.toNat, v186.toNat]
def k0_off733 (v187 : BitVec 32) : Fin 3 → Nat :=
  let v188 : Index := Scalar.indexCast v187
  let c0_93 : Index := 0#32
  let c0_94 : Index := 0#32
  ![v188.toNat, 0, 0]

def k0_chk265 (v187 : BitVec 32) : Prop :=
  (∀ a, (k0_off733 v187) a + S1x1x256.size a ≤ S10112x1x256.size a)
theorem k0_off733_inb : ∀ (v187 : BitVec 32) (k0_hw265 : k0_chk265 v187), ∀ a, (k0_off733 v187) a + S1x1x256.size a ≤ S10112x1x256.size a := fun v187 k0_hw265 => k0_hw265

def k0_off734 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c8_i32_95 : BitVec 32 := 8#32
  let v191 : BitVec 32 := Scalar.addi v87 c8_i32_95
  let v192 : Index := Scalar.indexCast v191
  let c0_96 : Index := 0#32
  let c0_97 : Index := 0#32
  ![v192.toNat, 0, 0]
def k0_off735 (i : grid0.Coords) (k0_t7 : Fin k0_t7_loop.trips) : Fin 2 → Nat :=
  let arg0 : BitVec 32 := BitVec.ofNat 32 (i 0).val
  let v197 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c9_i32 : BitVec 32 := 9#32
  let v196 : BitVec 32 := Scalar.addi v87 c9_i32
  let v198 : Index := Scalar.indexCast v196
  ![v197.toNat, v198.toNat]
def k0_off736 (v199 : BitVec 32) : Fin 3 → Nat :=
  let v200 : Index := Scalar.indexCast v199
  let c0_98 : Index := 0#32
  let c0_99 : Index := 0#32
  ![v200.toNat, 0, 0]

def k0_chk266 (v199 : BitVec 32) : Prop :=
  (∀ a, (k0_off736 v199) a + S1x1x256.size a ≤ S10112x1x256.size a)
theorem k0_off736_inb : ∀ (v199 : BitVec 32) (k0_hw266 : k0_chk266 v199), ∀ a, (k0_off736 v199) a + S1x1x256.size a ≤ S10112x1x256.size a := fun v199 k0_hw266 => k0_hw266

def k0_off737 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c9_i32_100 : BitVec 32 := 9#32
  let v203 : BitVec 32 := Scalar.addi v87 c9_i32_100
  let v204 : Index := Scalar.indexCast v203
  let c0_101 : Index := 0#32
  let c0_102 : Index := 0#32
  ![v204.toNat, 0, 0]
def k0_off738 (i : grid0.Coords) (k0_t7 : Fin k0_t7_loop.trips) : Fin 2 → Nat :=
  let arg0 : BitVec 32 := BitVec.ofNat 32 (i 0).val
  let v209 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c10_i32 : BitVec 32 := 10#32
  let v208 : BitVec 32 := Scalar.addi v87 c10_i32
  let v210 : Index := Scalar.indexCast v208
  ![v209.toNat, v210.toNat]
def k0_off739 (v211 : BitVec 32) : Fin 3 → Nat :=
  let v212 : Index := Scalar.indexCast v211
  let c0_103 : Index := 0#32
  let c0_104 : Index := 0#32
  ![v212.toNat, 0, 0]

def k0_chk267 (v211 : BitVec 32) : Prop :=
  (∀ a, (k0_off739 v211) a + S1x1x256.size a ≤ S10112x1x256.size a)
theorem k0_off739_inb : ∀ (v211 : BitVec 32) (k0_hw267 : k0_chk267 v211), ∀ a, (k0_off739 v211) a + S1x1x256.size a ≤ S10112x1x256.size a := fun v211 k0_hw267 => k0_hw267

def k0_off740 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c10_i32_105 : BitVec 32 := 10#32
  let v215 : BitVec 32 := Scalar.addi v87 c10_i32_105
  let v216 : Index := Scalar.indexCast v215
  let c0_106 : Index := 0#32
  let c0_107 : Index := 0#32
  ![v216.toNat, 0, 0]
def k0_off741 (i : grid0.Coords) (k0_t7 : Fin k0_t7_loop.trips) : Fin 2 → Nat :=
  let arg0 : BitVec 32 := BitVec.ofNat 32 (i 0).val
  let v221 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c11_i32 : BitVec 32 := 11#32
  let v220 : BitVec 32 := Scalar.addi v87 c11_i32
  let v222 : Index := Scalar.indexCast v220
  ![v221.toNat, v222.toNat]
def k0_off742 (v223 : BitVec 32) : Fin 3 → Nat :=
  let v224 : Index := Scalar.indexCast v223
  let c0_108 : Index := 0#32
  let c0_109 : Index := 0#32
  ![v224.toNat, 0, 0]

def k0_chk268 (v223 : BitVec 32) : Prop :=
  (∀ a, (k0_off742 v223) a + S1x1x256.size a ≤ S10112x1x256.size a)
theorem k0_off742_inb : ∀ (v223 : BitVec 32) (k0_hw268 : k0_chk268 v223), ∀ a, (k0_off742 v223) a + S1x1x256.size a ≤ S10112x1x256.size a := fun v223 k0_hw268 => k0_hw268

def k0_off743 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c11_i32_110 : BitVec 32 := 11#32
  let v227 : BitVec 32 := Scalar.addi v87 c11_i32_110
  let v228 : Index := Scalar.indexCast v227
  let c0_111 : Index := 0#32
  let c0_112 : Index := 0#32
  ![v228.toNat, 0, 0]
def k0_off744 (i : grid0.Coords) (k0_t7 : Fin k0_t7_loop.trips) : Fin 2 → Nat :=
  let arg0 : BitVec 32 := BitVec.ofNat 32 (i 0).val
  let v233 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c12_i32 : BitVec 32 := 12#32
  let v232 : BitVec 32 := Scalar.addi v87 c12_i32
  let v234 : Index := Scalar.indexCast v232
  ![v233.toNat, v234.toNat]
def k0_off745 (v235 : BitVec 32) : Fin 3 → Nat :=
  let v236 : Index := Scalar.indexCast v235
  let c0_113 : Index := 0#32
  let c0_114 : Index := 0#32
  ![v236.toNat, 0, 0]

def k0_chk269 (v235 : BitVec 32) : Prop :=
  (∀ a, (k0_off745 v235) a + S1x1x256.size a ≤ S10112x1x256.size a)
theorem k0_off745_inb : ∀ (v235 : BitVec 32) (k0_hw269 : k0_chk269 v235), ∀ a, (k0_off745 v235) a + S1x1x256.size a ≤ S10112x1x256.size a := fun v235 k0_hw269 => k0_hw269

def k0_off746 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c12_i32_115 : BitVec 32 := 12#32
  let v239 : BitVec 32 := Scalar.addi v87 c12_i32_115
  let v240 : Index := Scalar.indexCast v239
  let c0_116 : Index := 0#32
  let c0_117 : Index := 0#32
  ![v240.toNat, 0, 0]
def k0_off747 (i : grid0.Coords) (k0_t7 : Fin k0_t7_loop.trips) : Fin 2 → Nat :=
  let arg0 : BitVec 32 := BitVec.ofNat 32 (i 0).val
  let v245 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c13_i32 : BitVec 32 := 13#32
  let v244 : BitVec 32 := Scalar.addi v87 c13_i32
  let v246 : Index := Scalar.indexCast v244
  ![v245.toNat, v246.toNat]
def k0_off748 (v247 : BitVec 32) : Fin 3 → Nat :=
  let v248 : Index := Scalar.indexCast v247
  let c0_118 : Index := 0#32
  let c0_119 : Index := 0#32
  ![v248.toNat, 0, 0]

def k0_chk270 (v247 : BitVec 32) : Prop :=
  (∀ a, (k0_off748 v247) a + S1x1x256.size a ≤ S10112x1x256.size a)
theorem k0_off748_inb : ∀ (v247 : BitVec 32) (k0_hw270 : k0_chk270 v247), ∀ a, (k0_off748 v247) a + S1x1x256.size a ≤ S10112x1x256.size a := fun v247 k0_hw270 => k0_hw270

def k0_off749 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c13_i32_120 : BitVec 32 := 13#32
  let v251 : BitVec 32 := Scalar.addi v87 c13_i32_120
  let v252 : Index := Scalar.indexCast v251
  let c0_121 : Index := 0#32
  let c0_122 : Index := 0#32
  ![v252.toNat, 0, 0]
def k0_off750 (i : grid0.Coords) (k0_t7 : Fin k0_t7_loop.trips) : Fin 2 → Nat :=
  let arg0 : BitVec 32 := BitVec.ofNat 32 (i 0).val
  let v257 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c14_i32 : BitVec 32 := 14#32
  let v256 : BitVec 32 := Scalar.addi v87 c14_i32
  let v258 : Index := Scalar.indexCast v256
  ![v257.toNat, v258.toNat]
def k0_off751 (v259 : BitVec 32) : Fin 3 → Nat :=
  let v260 : Index := Scalar.indexCast v259
  let c0_123 : Index := 0#32
  let c0_124 : Index := 0#32
  ![v260.toNat, 0, 0]

def k0_chk271 (v259 : BitVec 32) : Prop :=
  (∀ a, (k0_off751 v259) a + S1x1x256.size a ≤ S10112x1x256.size a)
theorem k0_off751_inb : ∀ (v259 : BitVec 32) (k0_hw271 : k0_chk271 v259), ∀ a, (k0_off751 v259) a + S1x1x256.size a ≤ S10112x1x256.size a := fun v259 k0_hw271 => k0_hw271

def k0_off752 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c14_i32_125 : BitVec 32 := 14#32
  let v263 : BitVec 32 := Scalar.addi v87 c14_i32_125
  let v264 : Index := Scalar.indexCast v263
  let c0_126 : Index := 0#32
  let c0_127 : Index := 0#32
  ![v264.toNat, 0, 0]
def k0_off753 (i : grid0.Coords) (k0_t7 : Fin k0_t7_loop.trips) : Fin 2 → Nat :=
  let arg0 : BitVec 32 := BitVec.ofNat 32 (i 0).val
  let v269 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c15_i32 : BitVec 32 := 15#32
  let v268 : BitVec 32 := Scalar.addi v87 c15_i32
  let v270 : Index := Scalar.indexCast v268
  ![v269.toNat, v270.toNat]
def k0_off754 (v271 : BitVec 32) : Fin 3 → Nat :=
  let v272 : Index := Scalar.indexCast v271
  let c0_128 : Index := 0#32
  let c0_129 : Index := 0#32
  ![v272.toNat, 0, 0]

def k0_chk272 (v271 : BitVec 32) : Prop :=
  (∀ a, (k0_off754 v271) a + S1x1x256.size a ≤ S10112x1x256.size a)
theorem k0_off754_inb : ∀ (v271 : BitVec 32) (k0_hw272 : k0_chk272 v271), ∀ a, (k0_off754 v271) a + S1x1x256.size a ≤ S10112x1x256.size a := fun v271 k0_hw272 => k0_hw272

def k0_off755 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c15_i32_130 : BitVec 32 := 15#32
  let v275 : BitVec 32 := Scalar.addi v87 c15_i32_130
  let v276 : Index := Scalar.indexCast v275
  let c0_131 : Index := 0#32
  let c0_132 : Index := 0#32
  ![v276.toNat, 0, 0]
def k0_off756 (i : grid0.Coords) (k0_t7 : Fin k0_t7_loop.trips) : Fin 2 → Nat :=
  let arg0 : BitVec 32 := BitVec.ofNat 32 (i 0).val
  let v281 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c16_i32 : BitVec 32 := 16#32
  let v280 : BitVec 32 := Scalar.addi v87 c16_i32
  let v282 : Index := Scalar.indexCast v280
  ![v281.toNat, v282.toNat]
def k0_off757 (v283 : BitVec 32) : Fin 3 → Nat :=
  let v284 : Index := Scalar.indexCast v283
  let c0_133 : Index := 0#32
  let c0_134 : Index := 0#32
  ![v284.toNat, 0, 0]

def k0_chk273 (v283 : BitVec 32) : Prop :=
  (∀ a, (k0_off757 v283) a + S1x1x256.size a ≤ S10112x1x256.size a)
theorem k0_off757_inb : ∀ (v283 : BitVec 32) (k0_hw273 : k0_chk273 v283), ∀ a, (k0_off757 v283) a + S1x1x256.size a ≤ S10112x1x256.size a := fun v283 k0_hw273 => k0_hw273

def k0_off758 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c16_i32_135 : BitVec 32 := 16#32
  let v287 : BitVec 32 := Scalar.addi v87 c16_i32_135
  let v288 : Index := Scalar.indexCast v287
  let c0_136 : Index := 0#32
  let c0_137 : Index := 0#32
  ![v288.toNat, 0, 0]
def k0_off759 (i : grid0.Coords) (k0_t7 : Fin k0_t7_loop.trips) : Fin 2 → Nat :=
  let arg0 : BitVec 32 := BitVec.ofNat 32 (i 0).val
  let v293 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c17_i32 : BitVec 32 := 17#32
  let v292 : BitVec 32 := Scalar.addi v87 c17_i32
  let v294 : Index := Scalar.indexCast v292
  ![v293.toNat, v294.toNat]
def k0_off760 (v295 : BitVec 32) : Fin 3 → Nat :=
  let v296 : Index := Scalar.indexCast v295
  let c0_138 : Index := 0#32
  let c0_139 : Index := 0#32
  ![v296.toNat, 0, 0]

def k0_chk274 (v295 : BitVec 32) : Prop :=
  (∀ a, (k0_off760 v295) a + S1x1x256.size a ≤ S10112x1x256.size a)
theorem k0_off760_inb : ∀ (v295 : BitVec 32) (k0_hw274 : k0_chk274 v295), ∀ a, (k0_off760 v295) a + S1x1x256.size a ≤ S10112x1x256.size a := fun v295 k0_hw274 => k0_hw274

def k0_off761 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c17_i32_140 : BitVec 32 := 17#32
  let v299 : BitVec 32 := Scalar.addi v87 c17_i32_140
  let v300 : Index := Scalar.indexCast v299
  let c0_141 : Index := 0#32
  let c0_142 : Index := 0#32
  ![v300.toNat, 0, 0]
def k0_off762 (i : grid0.Coords) (k0_t7 : Fin k0_t7_loop.trips) : Fin 2 → Nat :=
  let arg0 : BitVec 32 := BitVec.ofNat 32 (i 0).val
  let v305 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c18_i32 : BitVec 32 := 18#32
  let v304 : BitVec 32 := Scalar.addi v87 c18_i32
  let v306 : Index := Scalar.indexCast v304
  ![v305.toNat, v306.toNat]
def k0_off763 (v307 : BitVec 32) : Fin 3 → Nat :=
  let v308 : Index := Scalar.indexCast v307
  let c0_143 : Index := 0#32
  let c0_144 : Index := 0#32
  ![v308.toNat, 0, 0]

def k0_chk275 (v307 : BitVec 32) : Prop :=
  (∀ a, (k0_off763 v307) a + S1x1x256.size a ≤ S10112x1x256.size a)
theorem k0_off763_inb : ∀ (v307 : BitVec 32) (k0_hw275 : k0_chk275 v307), ∀ a, (k0_off763 v307) a + S1x1x256.size a ≤ S10112x1x256.size a := fun v307 k0_hw275 => k0_hw275

def k0_off764 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c18_i32_145 : BitVec 32 := 18#32
  let v311 : BitVec 32 := Scalar.addi v87 c18_i32_145
  let v312 : Index := Scalar.indexCast v311
  let c0_146 : Index := 0#32
  let c0_147 : Index := 0#32
  ![v312.toNat, 0, 0]
def k0_off765 (i : grid0.Coords) (k0_t7 : Fin k0_t7_loop.trips) : Fin 2 → Nat :=
  let arg0 : BitVec 32 := BitVec.ofNat 32 (i 0).val
  let v317 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c19_i32 : BitVec 32 := 19#32
  let v316 : BitVec 32 := Scalar.addi v87 c19_i32
  let v318 : Index := Scalar.indexCast v316
  ![v317.toNat, v318.toNat]
def k0_off766 (v319 : BitVec 32) : Fin 3 → Nat :=
  let v320 : Index := Scalar.indexCast v319
  let c0_148 : Index := 0#32
  let c0_149 : Index := 0#32
  ![v320.toNat, 0, 0]

def k0_chk276 (v319 : BitVec 32) : Prop :=
  (∀ a, (k0_off766 v319) a + S1x1x256.size a ≤ S10112x1x256.size a)
theorem k0_off766_inb : ∀ (v319 : BitVec 32) (k0_hw276 : k0_chk276 v319), ∀ a, (k0_off766 v319) a + S1x1x256.size a ≤ S10112x1x256.size a := fun v319 k0_hw276 => k0_hw276

def k0_off767 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c19_i32_150 : BitVec 32 := 19#32
  let v323 : BitVec 32 := Scalar.addi v87 c19_i32_150
  let v324 : Index := Scalar.indexCast v323
  let c0_151 : Index := 0#32
  let c0_152 : Index := 0#32
  ![v324.toNat, 0, 0]
def k0_off768 (i : grid0.Coords) (k0_t7 : Fin k0_t7_loop.trips) : Fin 2 → Nat :=
  let arg0 : BitVec 32 := BitVec.ofNat 32 (i 0).val
  let v329 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c20_i32 : BitVec 32 := 20#32
  let v328 : BitVec 32 := Scalar.addi v87 c20_i32
  let v330 : Index := Scalar.indexCast v328
  ![v329.toNat, v330.toNat]
def k0_off769 (v331 : BitVec 32) : Fin 3 → Nat :=
  let v332 : Index := Scalar.indexCast v331
  let c0_153 : Index := 0#32
  let c0_154 : Index := 0#32
  ![v332.toNat, 0, 0]

def k0_chk277 (v331 : BitVec 32) : Prop :=
  (∀ a, (k0_off769 v331) a + S1x1x256.size a ≤ S10112x1x256.size a)
theorem k0_off769_inb : ∀ (v331 : BitVec 32) (k0_hw277 : k0_chk277 v331), ∀ a, (k0_off769 v331) a + S1x1x256.size a ≤ S10112x1x256.size a := fun v331 k0_hw277 => k0_hw277

def k0_off770 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c20_i32_155 : BitVec 32 := 20#32
  let v335 : BitVec 32 := Scalar.addi v87 c20_i32_155
  let v336 : Index := Scalar.indexCast v335
  let c0_156 : Index := 0#32
  let c0_157 : Index := 0#32
  ![v336.toNat, 0, 0]
def k0_off771 (i : grid0.Coords) (k0_t7 : Fin k0_t7_loop.trips) : Fin 2 → Nat :=
  let arg0 : BitVec 32 := BitVec.ofNat 32 (i 0).val
  let v341 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c21_i32 : BitVec 32 := 21#32
  let v340 : BitVec 32 := Scalar.addi v87 c21_i32
  let v342 : Index := Scalar.indexCast v340
  ![v341.toNat, v342.toNat]
def k0_off772 (v343 : BitVec 32) : Fin 3 → Nat :=
  let v344 : Index := Scalar.indexCast v343
  let c0_158 : Index := 0#32
  let c0_159 : Index := 0#32
  ![v344.toNat, 0, 0]

def k0_chk278 (v343 : BitVec 32) : Prop :=
  (∀ a, (k0_off772 v343) a + S1x1x256.size a ≤ S10112x1x256.size a)
theorem k0_off772_inb : ∀ (v343 : BitVec 32) (k0_hw278 : k0_chk278 v343), ∀ a, (k0_off772 v343) a + S1x1x256.size a ≤ S10112x1x256.size a := fun v343 k0_hw278 => k0_hw278

def k0_off773 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c21_i32_160 : BitVec 32 := 21#32
  let v347 : BitVec 32 := Scalar.addi v87 c21_i32_160
  let v348 : Index := Scalar.indexCast v347
  let c0_161 : Index := 0#32
  let c0_162 : Index := 0#32
  ![v348.toNat, 0, 0]
def k0_off774 (i : grid0.Coords) (k0_t7 : Fin k0_t7_loop.trips) : Fin 2 → Nat :=
  let arg0 : BitVec 32 := BitVec.ofNat 32 (i 0).val
  let v353 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c22_i32 : BitVec 32 := 22#32
  let v352 : BitVec 32 := Scalar.addi v87 c22_i32
  let v354 : Index := Scalar.indexCast v352
  ![v353.toNat, v354.toNat]
def k0_off775 (v355 : BitVec 32) : Fin 3 → Nat :=
  let v356 : Index := Scalar.indexCast v355
  let c0_163 : Index := 0#32
  let c0_164 : Index := 0#32
  ![v356.toNat, 0, 0]

def k0_chk279 (v355 : BitVec 32) : Prop :=
  (∀ a, (k0_off775 v355) a + S1x1x256.size a ≤ S10112x1x256.size a)
theorem k0_off775_inb : ∀ (v355 : BitVec 32) (k0_hw279 : k0_chk279 v355), ∀ a, (k0_off775 v355) a + S1x1x256.size a ≤ S10112x1x256.size a := fun v355 k0_hw279 => k0_hw279

def k0_off776 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c22_i32_165 : BitVec 32 := 22#32
  let v359 : BitVec 32 := Scalar.addi v87 c22_i32_165
  let v360 : Index := Scalar.indexCast v359
  let c0_166 : Index := 0#32
  let c0_167 : Index := 0#32
  ![v360.toNat, 0, 0]
def k0_off777 (i : grid0.Coords) (k0_t7 : Fin k0_t7_loop.trips) : Fin 2 → Nat :=
  let arg0 : BitVec 32 := BitVec.ofNat 32 (i 0).val
  let v365 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c23_i32 : BitVec 32 := 23#32
  let v364 : BitVec 32 := Scalar.addi v87 c23_i32
  let v366 : Index := Scalar.indexCast v364
  ![v365.toNat, v366.toNat]
def k0_off778 (v367 : BitVec 32) : Fin 3 → Nat :=
  let v368 : Index := Scalar.indexCast v367
  let c0_168 : Index := 0#32
  let c0_169 : Index := 0#32
  ![v368.toNat, 0, 0]

def k0_chk280 (v367 : BitVec 32) : Prop :=
  (∀ a, (k0_off778 v367) a + S1x1x256.size a ≤ S10112x1x256.size a)
theorem k0_off778_inb : ∀ (v367 : BitVec 32) (k0_hw280 : k0_chk280 v367), ∀ a, (k0_off778 v367) a + S1x1x256.size a ≤ S10112x1x256.size a := fun v367 k0_hw280 => k0_hw280

def k0_off779 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c23_i32_170 : BitVec 32 := 23#32
  let v371 : BitVec 32 := Scalar.addi v87 c23_i32_170
  let v372 : Index := Scalar.indexCast v371
  let c0_171 : Index := 0#32
  let c0_172 : Index := 0#32
  ![v372.toNat, 0, 0]
def k0_off780 (i : grid0.Coords) (k0_t7 : Fin k0_t7_loop.trips) : Fin 2 → Nat :=
  let arg0 : BitVec 32 := BitVec.ofNat 32 (i 0).val
  let v377 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c24_i32 : BitVec 32 := 24#32
  let v376 : BitVec 32 := Scalar.addi v87 c24_i32
  let v378 : Index := Scalar.indexCast v376
  ![v377.toNat, v378.toNat]
def k0_off781 (v379 : BitVec 32) : Fin 3 → Nat :=
  let v380 : Index := Scalar.indexCast v379
  let c0_173 : Index := 0#32
  let c0_174 : Index := 0#32
  ![v380.toNat, 0, 0]

def k0_chk281 (v379 : BitVec 32) : Prop :=
  (∀ a, (k0_off781 v379) a + S1x1x256.size a ≤ S10112x1x256.size a)
theorem k0_off781_inb : ∀ (v379 : BitVec 32) (k0_hw281 : k0_chk281 v379), ∀ a, (k0_off781 v379) a + S1x1x256.size a ≤ S10112x1x256.size a := fun v379 k0_hw281 => k0_hw281

def k0_off782 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c24_i32_175 : BitVec 32 := 24#32
  let v383 : BitVec 32 := Scalar.addi v87 c24_i32_175
  let v384 : Index := Scalar.indexCast v383
  let c0_176 : Index := 0#32
  let c0_177 : Index := 0#32
  ![v384.toNat, 0, 0]
def k0_off783 (i : grid0.Coords) (k0_t7 : Fin k0_t7_loop.trips) : Fin 2 → Nat :=
  let arg0 : BitVec 32 := BitVec.ofNat 32 (i 0).val
  let v389 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c25_i32 : BitVec 32 := 25#32
  let v388 : BitVec 32 := Scalar.addi v87 c25_i32
  let v390 : Index := Scalar.indexCast v388
  ![v389.toNat, v390.toNat]
def k0_off784 (v391 : BitVec 32) : Fin 3 → Nat :=
  let v392 : Index := Scalar.indexCast v391
  let c0_178 : Index := 0#32
  let c0_179 : Index := 0#32
  ![v392.toNat, 0, 0]

def k0_chk282 (v391 : BitVec 32) : Prop :=
  (∀ a, (k0_off784 v391) a + S1x1x256.size a ≤ S10112x1x256.size a)
theorem k0_off784_inb : ∀ (v391 : BitVec 32) (k0_hw282 : k0_chk282 v391), ∀ a, (k0_off784 v391) a + S1x1x256.size a ≤ S10112x1x256.size a := fun v391 k0_hw282 => k0_hw282

def k0_off785 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c25_i32_180 : BitVec 32 := 25#32
  let v395 : BitVec 32 := Scalar.addi v87 c25_i32_180
  let v396 : Index := Scalar.indexCast v395
  let c0_181 : Index := 0#32
  let c0_182 : Index := 0#32
  ![v396.toNat, 0, 0]
def k0_off786 (i : grid0.Coords) (k0_t7 : Fin k0_t7_loop.trips) : Fin 2 → Nat :=
  let arg0 : BitVec 32 := BitVec.ofNat 32 (i 0).val
  let v401 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c26_i32 : BitVec 32 := 26#32
  let v400 : BitVec 32 := Scalar.addi v87 c26_i32
  let v402 : Index := Scalar.indexCast v400
  ![v401.toNat, v402.toNat]
def k0_off787 (v403 : BitVec 32) : Fin 3 → Nat :=
  let v404 : Index := Scalar.indexCast v403
  let c0_183 : Index := 0#32
  let c0_184 : Index := 0#32
  ![v404.toNat, 0, 0]

def k0_chk283 (v403 : BitVec 32) : Prop :=
  (∀ a, (k0_off787 v403) a + S1x1x256.size a ≤ S10112x1x256.size a)
theorem k0_off787_inb : ∀ (v403 : BitVec 32) (k0_hw283 : k0_chk283 v403), ∀ a, (k0_off787 v403) a + S1x1x256.size a ≤ S10112x1x256.size a := fun v403 k0_hw283 => k0_hw283

def k0_off788 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c26_i32_185 : BitVec 32 := 26#32
  let v407 : BitVec 32 := Scalar.addi v87 c26_i32_185
  let v408 : Index := Scalar.indexCast v407
  let c0_186 : Index := 0#32
  let c0_187 : Index := 0#32
  ![v408.toNat, 0, 0]
def k0_off789 (i : grid0.Coords) (k0_t7 : Fin k0_t7_loop.trips) : Fin 2 → Nat :=
  let arg0 : BitVec 32 := BitVec.ofNat 32 (i 0).val
  let v413 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c27_i32 : BitVec 32 := 27#32
  let v412 : BitVec 32 := Scalar.addi v87 c27_i32
  let v414 : Index := Scalar.indexCast v412
  ![v413.toNat, v414.toNat]
def k0_off790 (v415 : BitVec 32) : Fin 3 → Nat :=
  let v416 : Index := Scalar.indexCast v415
  let c0_188 : Index := 0#32
  let c0_189 : Index := 0#32
  ![v416.toNat, 0, 0]

def k0_chk284 (v415 : BitVec 32) : Prop :=
  (∀ a, (k0_off790 v415) a + S1x1x256.size a ≤ S10112x1x256.size a)
theorem k0_off790_inb : ∀ (v415 : BitVec 32) (k0_hw284 : k0_chk284 v415), ∀ a, (k0_off790 v415) a + S1x1x256.size a ≤ S10112x1x256.size a := fun v415 k0_hw284 => k0_hw284

def k0_off791 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c27_i32_190 : BitVec 32 := 27#32
  let v419 : BitVec 32 := Scalar.addi v87 c27_i32_190
  let v420 : Index := Scalar.indexCast v419
  let c0_191 : Index := 0#32
  let c0_192 : Index := 0#32
  ![v420.toNat, 0, 0]
def k0_off792 (i : grid0.Coords) (k0_t7 : Fin k0_t7_loop.trips) : Fin 2 → Nat :=
  let arg0 : BitVec 32 := BitVec.ofNat 32 (i 0).val
  let v425 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c28_i32 : BitVec 32 := 28#32
  let v424 : BitVec 32 := Scalar.addi v87 c28_i32
  let v426 : Index := Scalar.indexCast v424
  ![v425.toNat, v426.toNat]
def k0_off793 (v427 : BitVec 32) : Fin 3 → Nat :=
  let v428 : Index := Scalar.indexCast v427
  let c0_193 : Index := 0#32
  let c0_194 : Index := 0#32
  ![v428.toNat, 0, 0]

def k0_chk285 (v427 : BitVec 32) : Prop :=
  (∀ a, (k0_off793 v427) a + S1x1x256.size a ≤ S10112x1x256.size a)
theorem k0_off793_inb : ∀ (v427 : BitVec 32) (k0_hw285 : k0_chk285 v427), ∀ a, (k0_off793 v427) a + S1x1x256.size a ≤ S10112x1x256.size a := fun v427 k0_hw285 => k0_hw285

def k0_off794 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c28_i32_195 : BitVec 32 := 28#32
  let v431 : BitVec 32 := Scalar.addi v87 c28_i32_195
  let v432 : Index := Scalar.indexCast v431
  let c0_196 : Index := 0#32
  let c0_197 : Index := 0#32
  ![v432.toNat, 0, 0]
def k0_off795 (i : grid0.Coords) (k0_t7 : Fin k0_t7_loop.trips) : Fin 2 → Nat :=
  let arg0 : BitVec 32 := BitVec.ofNat 32 (i 0).val
  let v437 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c29_i32 : BitVec 32 := 29#32
  let v436 : BitVec 32 := Scalar.addi v87 c29_i32
  let v438 : Index := Scalar.indexCast v436
  ![v437.toNat, v438.toNat]
def k0_off796 (v439 : BitVec 32) : Fin 3 → Nat :=
  let v440 : Index := Scalar.indexCast v439
  let c0_198 : Index := 0#32
  let c0_199 : Index := 0#32
  ![v440.toNat, 0, 0]

def k0_chk286 (v439 : BitVec 32) : Prop :=
  (∀ a, (k0_off796 v439) a + S1x1x256.size a ≤ S10112x1x256.size a)
theorem k0_off796_inb : ∀ (v439 : BitVec 32) (k0_hw286 : k0_chk286 v439), ∀ a, (k0_off796 v439) a + S1x1x256.size a ≤ S10112x1x256.size a := fun v439 k0_hw286 => k0_hw286

def k0_off797 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c29_i32_200 : BitVec 32 := 29#32
  let v443 : BitVec 32 := Scalar.addi v87 c29_i32_200
  let v444 : Index := Scalar.indexCast v443
  let c0_201 : Index := 0#32
  let c0_202 : Index := 0#32
  ![v444.toNat, 0, 0]
def k0_off798 (i : grid0.Coords) (k0_t7 : Fin k0_t7_loop.trips) : Fin 2 → Nat :=
  let arg0 : BitVec 32 := BitVec.ofNat 32 (i 0).val
  let v449 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c30_i32 : BitVec 32 := 30#32
  let v448 : BitVec 32 := Scalar.addi v87 c30_i32
  let v450 : Index := Scalar.indexCast v448
  ![v449.toNat, v450.toNat]
def k0_off799 (v451 : BitVec 32) : Fin 3 → Nat :=
  let v452 : Index := Scalar.indexCast v451
  let c0_203 : Index := 0#32
  let c0_204 : Index := 0#32
  ![v452.toNat, 0, 0]

def k0_chk287 (v451 : BitVec 32) : Prop :=
  (∀ a, (k0_off799 v451) a + S1x1x256.size a ≤ S10112x1x256.size a)
theorem k0_off799_inb : ∀ (v451 : BitVec 32) (k0_hw287 : k0_chk287 v451), ∀ a, (k0_off799 v451) a + S1x1x256.size a ≤ S10112x1x256.size a := fun v451 k0_hw287 => k0_hw287

def k0_off800 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c30_i32_205 : BitVec 32 := 30#32
  let v455 : BitVec 32 := Scalar.addi v87 c30_i32_205
  let v456 : Index := Scalar.indexCast v455
  let c0_206 : Index := 0#32
  let c0_207 : Index := 0#32
  ![v456.toNat, 0, 0]
def k0_off801 (i : grid0.Coords) (k0_t7 : Fin k0_t7_loop.trips) : Fin 2 → Nat :=
  let arg0 : BitVec 32 := BitVec.ofNat 32 (i 0).val
  let v461 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c31_i32 : BitVec 32 := 31#32
  let v460 : BitVec 32 := Scalar.addi v87 c31_i32
  let v462 : Index := Scalar.indexCast v460
  ![v461.toNat, v462.toNat]
def k0_off802 (v463 : BitVec 32) : Fin 3 → Nat :=
  let v464 : Index := Scalar.indexCast v463
  let c0_208 : Index := 0#32
  let c0_209 : Index := 0#32
  ![v464.toNat, 0, 0]

def k0_chk288 (v463 : BitVec 32) : Prop :=
  (∀ a, (k0_off802 v463) a + S1x1x256.size a ≤ S10112x1x256.size a)
theorem k0_off802_inb : ∀ (v463 : BitVec 32) (k0_hw288 : k0_chk288 v463), ∀ a, (k0_off802 v463) a + S1x1x256.size a ≤ S10112x1x256.size a := fun v463 k0_hw288 => k0_hw288

def k0_off803 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c31_i32_210 : BitVec 32 := 31#32
  let v467 : BitVec 32 := Scalar.addi v87 c31_i32_210
  let v468 : Index := Scalar.indexCast v467
  let c0_211 : Index := 0#32
  let c0_212 : Index := 0#32
  ![v468.toNat, 0, 0]
def k0_off804 (i : grid0.Coords) (k0_t7 : Fin k0_t7_loop.trips) : Fin 2 → Nat :=
  let arg0 : BitVec 32 := BitVec.ofNat 32 (i 0).val
  let v473 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c32_i32_213 : BitVec 32 := 32#32
  let v472 : BitVec 32 := Scalar.addi v87 c32_i32_213
  let v474 : Index := Scalar.indexCast v472
  ![v473.toNat, v474.toNat]
def k0_off805 (v475 : BitVec 32) : Fin 3 → Nat :=
  let v476 : Index := Scalar.indexCast v475
  let c0_214 : Index := 0#32
  let c0_215 : Index := 0#32
  ![v476.toNat, 0, 0]

def k0_chk289 (v475 : BitVec 32) : Prop :=
  (∀ a, (k0_off805 v475) a + S1x1x256.size a ≤ S10112x1x256.size a)
theorem k0_off805_inb : ∀ (v475 : BitVec 32) (k0_hw289 : k0_chk289 v475), ∀ a, (k0_off805 v475) a + S1x1x256.size a ≤ S10112x1x256.size a := fun v475 k0_hw289 => k0_hw289

def k0_off806 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c32_i32_216 : BitVec 32 := 32#32
  let v479 : BitVec 32 := Scalar.addi v87 c32_i32_216
  let v480 : Index := Scalar.indexCast v479
  let c0_217 : Index := 0#32
  let c0_218 : Index := 0#32
  ![v480.toNat, 0, 0]
def k0_off807 (i : grid0.Coords) (k0_t7 : Fin k0_t7_loop.trips) : Fin 2 → Nat :=
  let arg0 : BitVec 32 := BitVec.ofNat 32 (i 0).val
  let v485 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c33_i32 : BitVec 32 := 33#32
  let v484 : BitVec 32 := Scalar.addi v87 c33_i32
  let v486 : Index := Scalar.indexCast v484
  ![v485.toNat, v486.toNat]
def k0_off808 (v487 : BitVec 32) : Fin 3 → Nat :=
  let v488 : Index := Scalar.indexCast v487
  let c0_219 : Index := 0#32
  let c0_220 : Index := 0#32
  ![v488.toNat, 0, 0]

def k0_chk290 (v487 : BitVec 32) : Prop :=
  (∀ a, (k0_off808 v487) a + S1x1x256.size a ≤ S10112x1x256.size a)
theorem k0_off808_inb : ∀ (v487 : BitVec 32) (k0_hw290 : k0_chk290 v487), ∀ a, (k0_off808 v487) a + S1x1x256.size a ≤ S10112x1x256.size a := fun v487 k0_hw290 => k0_hw290

def k0_off809 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c33_i32_221 : BitVec 32 := 33#32
  let v491 : BitVec 32 := Scalar.addi v87 c33_i32_221
  let v492 : Index := Scalar.indexCast v491
  let c0_222 : Index := 0#32
  let c0_223 : Index := 0#32
  ![v492.toNat, 0, 0]
def k0_off810 (i : grid0.Coords) (k0_t7 : Fin k0_t7_loop.trips) : Fin 2 → Nat :=
  let arg0 : BitVec 32 := BitVec.ofNat 32 (i 0).val
  let v497 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c34_i32 : BitVec 32 := 34#32
  let v496 : BitVec 32 := Scalar.addi v87 c34_i32
  let v498 : Index := Scalar.indexCast v496
  ![v497.toNat, v498.toNat]
def k0_off811 (v499 : BitVec 32) : Fin 3 → Nat :=
  let v500 : Index := Scalar.indexCast v499
  let c0_224 : Index := 0#32
  let c0_225 : Index := 0#32
  ![v500.toNat, 0, 0]

def k0_chk291 (v499 : BitVec 32) : Prop :=
  (∀ a, (k0_off811 v499) a + S1x1x256.size a ≤ S10112x1x256.size a)
theorem k0_off811_inb : ∀ (v499 : BitVec 32) (k0_hw291 : k0_chk291 v499), ∀ a, (k0_off811 v499) a + S1x1x256.size a ≤ S10112x1x256.size a := fun v499 k0_hw291 => k0_hw291

def k0_off812 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c34_i32_226 : BitVec 32 := 34#32
  let v503 : BitVec 32 := Scalar.addi v87 c34_i32_226
  let v504 : Index := Scalar.indexCast v503
  let c0_227 : Index := 0#32
  let c0_228 : Index := 0#32
  ![v504.toNat, 0, 0]
def k0_off813 (i : grid0.Coords) (k0_t7 : Fin k0_t7_loop.trips) : Fin 2 → Nat :=
  let arg0 : BitVec 32 := BitVec.ofNat 32 (i 0).val
  let v509 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c35_i32 : BitVec 32 := 35#32
  let v508 : BitVec 32 := Scalar.addi v87 c35_i32
  let v510 : Index := Scalar.indexCast v508
  ![v509.toNat, v510.toNat]
def k0_off814 (v511 : BitVec 32) : Fin 3 → Nat :=
  let v512 : Index := Scalar.indexCast v511
  let c0_229 : Index := 0#32
  let c0_230 : Index := 0#32
  ![v512.toNat, 0, 0]

def k0_chk292 (v511 : BitVec 32) : Prop :=
  (∀ a, (k0_off814 v511) a + S1x1x256.size a ≤ S10112x1x256.size a)
theorem k0_off814_inb : ∀ (v511 : BitVec 32) (k0_hw292 : k0_chk292 v511), ∀ a, (k0_off814 v511) a + S1x1x256.size a ≤ S10112x1x256.size a := fun v511 k0_hw292 => k0_hw292

def k0_off815 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c35_i32_231 : BitVec 32 := 35#32
  let v515 : BitVec 32 := Scalar.addi v87 c35_i32_231
  let v516 : Index := Scalar.indexCast v515
  let c0_232 : Index := 0#32
  let c0_233 : Index := 0#32
  ![v516.toNat, 0, 0]
def k0_off816 (i : grid0.Coords) (k0_t7 : Fin k0_t7_loop.trips) : Fin 2 → Nat :=
  let arg0 : BitVec 32 := BitVec.ofNat 32 (i 0).val
  let v521 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c36_i32 : BitVec 32 := 36#32
  let v520 : BitVec 32 := Scalar.addi v87 c36_i32
  let v522 : Index := Scalar.indexCast v520
  ![v521.toNat, v522.toNat]
def k0_off817 (v523 : BitVec 32) : Fin 3 → Nat :=
  let v524 : Index := Scalar.indexCast v523
  let c0_234 : Index := 0#32
  let c0_235 : Index := 0#32
  ![v524.toNat, 0, 0]

def k0_chk293 (v523 : BitVec 32) : Prop :=
  (∀ a, (k0_off817 v523) a + S1x1x256.size a ≤ S10112x1x256.size a)
theorem k0_off817_inb : ∀ (v523 : BitVec 32) (k0_hw293 : k0_chk293 v523), ∀ a, (k0_off817 v523) a + S1x1x256.size a ≤ S10112x1x256.size a := fun v523 k0_hw293 => k0_hw293

def k0_off818 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c36_i32_236 : BitVec 32 := 36#32
  let v527 : BitVec 32 := Scalar.addi v87 c36_i32_236
  let v528 : Index := Scalar.indexCast v527
  let c0_237 : Index := 0#32
  let c0_238 : Index := 0#32
  ![v528.toNat, 0, 0]
def k0_off819 (i : grid0.Coords) (k0_t7 : Fin k0_t7_loop.trips) : Fin 2 → Nat :=
  let arg0 : BitVec 32 := BitVec.ofNat 32 (i 0).val
  let v533 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c37_i32 : BitVec 32 := 37#32
  let v532 : BitVec 32 := Scalar.addi v87 c37_i32
  let v534 : Index := Scalar.indexCast v532
  ![v533.toNat, v534.toNat]
def k0_off820 (v535 : BitVec 32) : Fin 3 → Nat :=
  let v536 : Index := Scalar.indexCast v535
  let c0_239 : Index := 0#32
  let c0_240 : Index := 0#32
  ![v536.toNat, 0, 0]

def k0_chk294 (v535 : BitVec 32) : Prop :=
  (∀ a, (k0_off820 v535) a + S1x1x256.size a ≤ S10112x1x256.size a)
theorem k0_off820_inb : ∀ (v535 : BitVec 32) (k0_hw294 : k0_chk294 v535), ∀ a, (k0_off820 v535) a + S1x1x256.size a ≤ S10112x1x256.size a := fun v535 k0_hw294 => k0_hw294

def k0_off821 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c37_i32_241 : BitVec 32 := 37#32
  let v539 : BitVec 32 := Scalar.addi v87 c37_i32_241
  let v540 : Index := Scalar.indexCast v539
  let c0_242 : Index := 0#32
  let c0_243 : Index := 0#32
  ![v540.toNat, 0, 0]
def k0_off822 (i : grid0.Coords) (k0_t7 : Fin k0_t7_loop.trips) : Fin 2 → Nat :=
  let arg0 : BitVec 32 := BitVec.ofNat 32 (i 0).val
  let v545 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c38_i32 : BitVec 32 := 38#32
  let v544 : BitVec 32 := Scalar.addi v87 c38_i32
  let v546 : Index := Scalar.indexCast v544
  ![v545.toNat, v546.toNat]
def k0_off823 (v547 : BitVec 32) : Fin 3 → Nat :=
  let v548 : Index := Scalar.indexCast v547
  let c0_244 : Index := 0#32
  let c0_245 : Index := 0#32
  ![v548.toNat, 0, 0]

def k0_chk295 (v547 : BitVec 32) : Prop :=
  (∀ a, (k0_off823 v547) a + S1x1x256.size a ≤ S10112x1x256.size a)
theorem k0_off823_inb : ∀ (v547 : BitVec 32) (k0_hw295 : k0_chk295 v547), ∀ a, (k0_off823 v547) a + S1x1x256.size a ≤ S10112x1x256.size a := fun v547 k0_hw295 => k0_hw295

def k0_off824 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c38_i32_246 : BitVec 32 := 38#32
  let v551 : BitVec 32 := Scalar.addi v87 c38_i32_246
  let v552 : Index := Scalar.indexCast v551
  let c0_247 : Index := 0#32
  let c0_248 : Index := 0#32
  ![v552.toNat, 0, 0]
def k0_off825 (i : grid0.Coords) (k0_t7 : Fin k0_t7_loop.trips) : Fin 2 → Nat :=
  let arg0 : BitVec 32 := BitVec.ofNat 32 (i 0).val
  let v557 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c39_i32 : BitVec 32 := 39#32
  let v556 : BitVec 32 := Scalar.addi v87 c39_i32
  let v558 : Index := Scalar.indexCast v556
  ![v557.toNat, v558.toNat]
def k0_off826 (v559 : BitVec 32) : Fin 3 → Nat :=
  let v560 : Index := Scalar.indexCast v559
  let c0_249 : Index := 0#32
  let c0_250 : Index := 0#32
  ![v560.toNat, 0, 0]

def k0_chk296 (v559 : BitVec 32) : Prop :=
  (∀ a, (k0_off826 v559) a + S1x1x256.size a ≤ S10112x1x256.size a)
theorem k0_off826_inb : ∀ (v559 : BitVec 32) (k0_hw296 : k0_chk296 v559), ∀ a, (k0_off826 v559) a + S1x1x256.size a ≤ S10112x1x256.size a := fun v559 k0_hw296 => k0_hw296

def k0_off827 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c39_i32_251 : BitVec 32 := 39#32
  let v563 : BitVec 32 := Scalar.addi v87 c39_i32_251
  let v564 : Index := Scalar.indexCast v563
  let c0_252 : Index := 0#32
  let c0_253 : Index := 0#32
  ![v564.toNat, 0, 0]
def k0_off828 (i : grid0.Coords) (k0_t7 : Fin k0_t7_loop.trips) : Fin 2 → Nat :=
  let arg0 : BitVec 32 := BitVec.ofNat 32 (i 0).val
  let v569 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c40_i32 : BitVec 32 := 40#32
  let v568 : BitVec 32 := Scalar.addi v87 c40_i32
  let v570 : Index := Scalar.indexCast v568
  ![v569.toNat, v570.toNat]
def k0_off829 (v571 : BitVec 32) : Fin 3 → Nat :=
  let v572 : Index := Scalar.indexCast v571
  let c0_254 : Index := 0#32
  let c0_255 : Index := 0#32
  ![v572.toNat, 0, 0]

def k0_chk297 (v571 : BitVec 32) : Prop :=
  (∀ a, (k0_off829 v571) a + S1x1x256.size a ≤ S10112x1x256.size a)
theorem k0_off829_inb : ∀ (v571 : BitVec 32) (k0_hw297 : k0_chk297 v571), ∀ a, (k0_off829 v571) a + S1x1x256.size a ≤ S10112x1x256.size a := fun v571 k0_hw297 => k0_hw297

def k0_off830 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c40_i32_256 : BitVec 32 := 40#32
  let v575 : BitVec 32 := Scalar.addi v87 c40_i32_256
  let v576 : Index := Scalar.indexCast v575
  let c0_257 : Index := 0#32
  let c0_258 : Index := 0#32
  ![v576.toNat, 0, 0]
def k0_off831 (i : grid0.Coords) (k0_t7 : Fin k0_t7_loop.trips) : Fin 2 → Nat :=
  let arg0 : BitVec 32 := BitVec.ofNat 32 (i 0).val
  let v581 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c41_i32 : BitVec 32 := 41#32
  let v580 : BitVec 32 := Scalar.addi v87 c41_i32
  let v582 : Index := Scalar.indexCast v580
  ![v581.toNat, v582.toNat]
def k0_off832 (v583 : BitVec 32) : Fin 3 → Nat :=
  let v584 : Index := Scalar.indexCast v583
  let c0_259 : Index := 0#32
  let c0_260 : Index := 0#32
  ![v584.toNat, 0, 0]

def k0_chk298 (v583 : BitVec 32) : Prop :=
  (∀ a, (k0_off832 v583) a + S1x1x256.size a ≤ S10112x1x256.size a)
theorem k0_off832_inb : ∀ (v583 : BitVec 32) (k0_hw298 : k0_chk298 v583), ∀ a, (k0_off832 v583) a + S1x1x256.size a ≤ S10112x1x256.size a := fun v583 k0_hw298 => k0_hw298

def k0_off833 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c41_i32_261 : BitVec 32 := 41#32
  let v587 : BitVec 32 := Scalar.addi v87 c41_i32_261
  let v588 : Index := Scalar.indexCast v587
  let c0_262 : Index := 0#32
  let c0_263 : Index := 0#32
  ![v588.toNat, 0, 0]
def k0_off834 (i : grid0.Coords) (k0_t7 : Fin k0_t7_loop.trips) : Fin 2 → Nat :=
  let arg0 : BitVec 32 := BitVec.ofNat 32 (i 0).val
  let v593 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c42_i32 : BitVec 32 := 42#32
  let v592 : BitVec 32 := Scalar.addi v87 c42_i32
  let v594 : Index := Scalar.indexCast v592
  ![v593.toNat, v594.toNat]
def k0_off835 (v595 : BitVec 32) : Fin 3 → Nat :=
  let v596 : Index := Scalar.indexCast v595
  let c0_264 : Index := 0#32
  let c0_265 : Index := 0#32
  ![v596.toNat, 0, 0]

def k0_chk299 (v595 : BitVec 32) : Prop :=
  (∀ a, (k0_off835 v595) a + S1x1x256.size a ≤ S10112x1x256.size a)
theorem k0_off835_inb : ∀ (v595 : BitVec 32) (k0_hw299 : k0_chk299 v595), ∀ a, (k0_off835 v595) a + S1x1x256.size a ≤ S10112x1x256.size a := fun v595 k0_hw299 => k0_hw299

def k0_off836 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c42_i32_266 : BitVec 32 := 42#32
  let v599 : BitVec 32 := Scalar.addi v87 c42_i32_266
  let v600 : Index := Scalar.indexCast v599
  let c0_267 : Index := 0#32
  let c0_268 : Index := 0#32
  ![v600.toNat, 0, 0]
def k0_off837 (i : grid0.Coords) (k0_t7 : Fin k0_t7_loop.trips) : Fin 2 → Nat :=
  let arg0 : BitVec 32 := BitVec.ofNat 32 (i 0).val
  let v605 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c43_i32 : BitVec 32 := 43#32
  let v604 : BitVec 32 := Scalar.addi v87 c43_i32
  let v606 : Index := Scalar.indexCast v604
  ![v605.toNat, v606.toNat]
def k0_off838 (v607 : BitVec 32) : Fin 3 → Nat :=
  let v608 : Index := Scalar.indexCast v607
  let c0_269 : Index := 0#32
  let c0_270 : Index := 0#32
  ![v608.toNat, 0, 0]

def k0_chk300 (v607 : BitVec 32) : Prop :=
  (∀ a, (k0_off838 v607) a + S1x1x256.size a ≤ S10112x1x256.size a)
theorem k0_off838_inb : ∀ (v607 : BitVec 32) (k0_hw300 : k0_chk300 v607), ∀ a, (k0_off838 v607) a + S1x1x256.size a ≤ S10112x1x256.size a := fun v607 k0_hw300 => k0_hw300

def k0_off839 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c43_i32_271 : BitVec 32 := 43#32
  let v611 : BitVec 32 := Scalar.addi v87 c43_i32_271
  let v612 : Index := Scalar.indexCast v611
  let c0_272 : Index := 0#32
  let c0_273 : Index := 0#32
  ![v612.toNat, 0, 0]
def k0_off840 (i : grid0.Coords) (k0_t7 : Fin k0_t7_loop.trips) : Fin 2 → Nat :=
  let arg0 : BitVec 32 := BitVec.ofNat 32 (i 0).val
  let v617 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c44_i32 : BitVec 32 := 44#32
  let v616 : BitVec 32 := Scalar.addi v87 c44_i32
  let v618 : Index := Scalar.indexCast v616
  ![v617.toNat, v618.toNat]
def k0_off841 (v619 : BitVec 32) : Fin 3 → Nat :=
  let v620 : Index := Scalar.indexCast v619
  let c0_274 : Index := 0#32
  let c0_275 : Index := 0#32
  ![v620.toNat, 0, 0]

def k0_chk301 (v619 : BitVec 32) : Prop :=
  (∀ a, (k0_off841 v619) a + S1x1x256.size a ≤ S10112x1x256.size a)
theorem k0_off841_inb : ∀ (v619 : BitVec 32) (k0_hw301 : k0_chk301 v619), ∀ a, (k0_off841 v619) a + S1x1x256.size a ≤ S10112x1x256.size a := fun v619 k0_hw301 => k0_hw301

def k0_off842 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c44_i32_276 : BitVec 32 := 44#32
  let v623 : BitVec 32 := Scalar.addi v87 c44_i32_276
  let v624 : Index := Scalar.indexCast v623
  let c0_277 : Index := 0#32
  let c0_278 : Index := 0#32
  ![v624.toNat, 0, 0]
def k0_off843 (i : grid0.Coords) (k0_t7 : Fin k0_t7_loop.trips) : Fin 2 → Nat :=
  let arg0 : BitVec 32 := BitVec.ofNat 32 (i 0).val
  let v629 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c45_i32 : BitVec 32 := 45#32
  let v628 : BitVec 32 := Scalar.addi v87 c45_i32
  let v630 : Index := Scalar.indexCast v628
  ![v629.toNat, v630.toNat]
def k0_off844 (v631 : BitVec 32) : Fin 3 → Nat :=
  let v632 : Index := Scalar.indexCast v631
  let c0_279 : Index := 0#32
  let c0_280 : Index := 0#32
  ![v632.toNat, 0, 0]

def k0_chk302 (v631 : BitVec 32) : Prop :=
  (∀ a, (k0_off844 v631) a + S1x1x256.size a ≤ S10112x1x256.size a)
theorem k0_off844_inb : ∀ (v631 : BitVec 32) (k0_hw302 : k0_chk302 v631), ∀ a, (k0_off844 v631) a + S1x1x256.size a ≤ S10112x1x256.size a := fun v631 k0_hw302 => k0_hw302

def k0_off845 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c45_i32_281 : BitVec 32 := 45#32
  let v635 : BitVec 32 := Scalar.addi v87 c45_i32_281
  let v636 : Index := Scalar.indexCast v635
  let c0_282 : Index := 0#32
  let c0_283 : Index := 0#32
  ![v636.toNat, 0, 0]
def k0_off846 (i : grid0.Coords) (k0_t7 : Fin k0_t7_loop.trips) : Fin 2 → Nat :=
  let arg0 : BitVec 32 := BitVec.ofNat 32 (i 0).val
  let v641 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c46_i32 : BitVec 32 := 46#32
  let v640 : BitVec 32 := Scalar.addi v87 c46_i32
  let v642 : Index := Scalar.indexCast v640
  ![v641.toNat, v642.toNat]
def k0_off847 (v643 : BitVec 32) : Fin 3 → Nat :=
  let v644 : Index := Scalar.indexCast v643
  let c0_284 : Index := 0#32
  let c0_285 : Index := 0#32
  ![v644.toNat, 0, 0]

def k0_chk303 (v643 : BitVec 32) : Prop :=
  (∀ a, (k0_off847 v643) a + S1x1x256.size a ≤ S10112x1x256.size a)
theorem k0_off847_inb : ∀ (v643 : BitVec 32) (k0_hw303 : k0_chk303 v643), ∀ a, (k0_off847 v643) a + S1x1x256.size a ≤ S10112x1x256.size a := fun v643 k0_hw303 => k0_hw303

def k0_off848 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c46_i32_286 : BitVec 32 := 46#32
  let v647 : BitVec 32 := Scalar.addi v87 c46_i32_286
  let v648 : Index := Scalar.indexCast v647
  let c0_287 : Index := 0#32
  let c0_288 : Index := 0#32
  ![v648.toNat, 0, 0]
def k0_off849 (i : grid0.Coords) (k0_t7 : Fin k0_t7_loop.trips) : Fin 2 → Nat :=
  let arg0 : BitVec 32 := BitVec.ofNat 32 (i 0).val
  let v653 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c47_i32 : BitVec 32 := 47#32
  let v652 : BitVec 32 := Scalar.addi v87 c47_i32
  let v654 : Index := Scalar.indexCast v652
  ![v653.toNat, v654.toNat]
def k0_off850 (v655 : BitVec 32) : Fin 3 → Nat :=
  let v656 : Index := Scalar.indexCast v655
  let c0_289 : Index := 0#32
  let c0_290 : Index := 0#32
  ![v656.toNat, 0, 0]

def k0_chk304 (v655 : BitVec 32) : Prop :=
  (∀ a, (k0_off850 v655) a + S1x1x256.size a ≤ S10112x1x256.size a)
theorem k0_off850_inb : ∀ (v655 : BitVec 32) (k0_hw304 : k0_chk304 v655), ∀ a, (k0_off850 v655) a + S1x1x256.size a ≤ S10112x1x256.size a := fun v655 k0_hw304 => k0_hw304

def k0_off851 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c47_i32_291 : BitVec 32 := 47#32
  let v659 : BitVec 32 := Scalar.addi v87 c47_i32_291
  let v660 : Index := Scalar.indexCast v659
  let c0_292 : Index := 0#32
  let c0_293 : Index := 0#32
  ![v660.toNat, 0, 0]
def k0_off852 (i : grid0.Coords) (k0_t7 : Fin k0_t7_loop.trips) : Fin 2 → Nat :=
  let arg0 : BitVec 32 := BitVec.ofNat 32 (i 0).val
  let v665 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c48_i32 : BitVec 32 := 48#32
  let v664 : BitVec 32 := Scalar.addi v87 c48_i32
  let v666 : Index := Scalar.indexCast v664
  ![v665.toNat, v666.toNat]
def k0_off853 (v667 : BitVec 32) : Fin 3 → Nat :=
  let v668 : Index := Scalar.indexCast v667
  let c0_294 : Index := 0#32
  let c0_295 : Index := 0#32
  ![v668.toNat, 0, 0]

def k0_chk305 (v667 : BitVec 32) : Prop :=
  (∀ a, (k0_off853 v667) a + S1x1x256.size a ≤ S10112x1x256.size a)
theorem k0_off853_inb : ∀ (v667 : BitVec 32) (k0_hw305 : k0_chk305 v667), ∀ a, (k0_off853 v667) a + S1x1x256.size a ≤ S10112x1x256.size a := fun v667 k0_hw305 => k0_hw305

def k0_off854 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c48_i32_296 : BitVec 32 := 48#32
  let v671 : BitVec 32 := Scalar.addi v87 c48_i32_296
  let v672 : Index := Scalar.indexCast v671
  let c0_297 : Index := 0#32
  let c0_298 : Index := 0#32
  ![v672.toNat, 0, 0]
def k0_off855 (i : grid0.Coords) (k0_t7 : Fin k0_t7_loop.trips) : Fin 2 → Nat :=
  let arg0 : BitVec 32 := BitVec.ofNat 32 (i 0).val
  let v677 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c49_i32 : BitVec 32 := 49#32
  let v676 : BitVec 32 := Scalar.addi v87 c49_i32
  let v678 : Index := Scalar.indexCast v676
  ![v677.toNat, v678.toNat]
def k0_off856 (v679 : BitVec 32) : Fin 3 → Nat :=
  let v680 : Index := Scalar.indexCast v679
  let c0_299 : Index := 0#32
  let c0_300 : Index := 0#32
  ![v680.toNat, 0, 0]

def k0_chk306 (v679 : BitVec 32) : Prop :=
  (∀ a, (k0_off856 v679) a + S1x1x256.size a ≤ S10112x1x256.size a)
theorem k0_off856_inb : ∀ (v679 : BitVec 32) (k0_hw306 : k0_chk306 v679), ∀ a, (k0_off856 v679) a + S1x1x256.size a ≤ S10112x1x256.size a := fun v679 k0_hw306 => k0_hw306

def k0_off857 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c49_i32_301 : BitVec 32 := 49#32
  let v683 : BitVec 32 := Scalar.addi v87 c49_i32_301
  let v684 : Index := Scalar.indexCast v683
  let c0_302 : Index := 0#32
  let c0_303 : Index := 0#32
  ![v684.toNat, 0, 0]
def k0_off858 (i : grid0.Coords) (k0_t7 : Fin k0_t7_loop.trips) : Fin 2 → Nat :=
  let arg0 : BitVec 32 := BitVec.ofNat 32 (i 0).val
  let v689 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c50_i32 : BitVec 32 := 50#32
  let v688 : BitVec 32 := Scalar.addi v87 c50_i32
  let v690 : Index := Scalar.indexCast v688
  ![v689.toNat, v690.toNat]
def k0_off859 (v691 : BitVec 32) : Fin 3 → Nat :=
  let v692 : Index := Scalar.indexCast v691
  let c0_304 : Index := 0#32
  let c0_305 : Index := 0#32
  ![v692.toNat, 0, 0]

def k0_chk307 (v691 : BitVec 32) : Prop :=
  (∀ a, (k0_off859 v691) a + S1x1x256.size a ≤ S10112x1x256.size a)
theorem k0_off859_inb : ∀ (v691 : BitVec 32) (k0_hw307 : k0_chk307 v691), ∀ a, (k0_off859 v691) a + S1x1x256.size a ≤ S10112x1x256.size a := fun v691 k0_hw307 => k0_hw307

def k0_off860 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c50_i32_306 : BitVec 32 := 50#32
  let v695 : BitVec 32 := Scalar.addi v87 c50_i32_306
  let v696 : Index := Scalar.indexCast v695
  let c0_307 : Index := 0#32
  let c0_308 : Index := 0#32
  ![v696.toNat, 0, 0]
def k0_off861 (i : grid0.Coords) (k0_t7 : Fin k0_t7_loop.trips) : Fin 2 → Nat :=
  let arg0 : BitVec 32 := BitVec.ofNat 32 (i 0).val
  let v701 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c51_i32 : BitVec 32 := 51#32
  let v700 : BitVec 32 := Scalar.addi v87 c51_i32
  let v702 : Index := Scalar.indexCast v700
  ![v701.toNat, v702.toNat]
def k0_off862 (v703 : BitVec 32) : Fin 3 → Nat :=
  let v704 : Index := Scalar.indexCast v703
  let c0_309 : Index := 0#32
  let c0_310 : Index := 0#32
  ![v704.toNat, 0, 0]

def k0_chk308 (v703 : BitVec 32) : Prop :=
  (∀ a, (k0_off862 v703) a + S1x1x256.size a ≤ S10112x1x256.size a)
theorem k0_off862_inb : ∀ (v703 : BitVec 32) (k0_hw308 : k0_chk308 v703), ∀ a, (k0_off862 v703) a + S1x1x256.size a ≤ S10112x1x256.size a := fun v703 k0_hw308 => k0_hw308

def k0_off863 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c51_i32_311 : BitVec 32 := 51#32
  let v707 : BitVec 32 := Scalar.addi v87 c51_i32_311
  let v708 : Index := Scalar.indexCast v707
  let c0_312 : Index := 0#32
  let c0_313 : Index := 0#32
  ![v708.toNat, 0, 0]
def k0_off864 (i : grid0.Coords) (k0_t7 : Fin k0_t7_loop.trips) : Fin 2 → Nat :=
  let arg0 : BitVec 32 := BitVec.ofNat 32 (i 0).val
  let v713 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c52_i32 : BitVec 32 := 52#32
  let v712 : BitVec 32 := Scalar.addi v87 c52_i32
  let v714 : Index := Scalar.indexCast v712
  ![v713.toNat, v714.toNat]
def k0_off865 (v715 : BitVec 32) : Fin 3 → Nat :=
  let v716 : Index := Scalar.indexCast v715
  let c0_314 : Index := 0#32
  let c0_315 : Index := 0#32
  ![v716.toNat, 0, 0]

def k0_chk309 (v715 : BitVec 32) : Prop :=
  (∀ a, (k0_off865 v715) a + S1x1x256.size a ≤ S10112x1x256.size a)
theorem k0_off865_inb : ∀ (v715 : BitVec 32) (k0_hw309 : k0_chk309 v715), ∀ a, (k0_off865 v715) a + S1x1x256.size a ≤ S10112x1x256.size a := fun v715 k0_hw309 => k0_hw309

def k0_off866 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c52_i32_316 : BitVec 32 := 52#32
  let v719 : BitVec 32 := Scalar.addi v87 c52_i32_316
  let v720 : Index := Scalar.indexCast v719
  let c0_317 : Index := 0#32
  let c0_318 : Index := 0#32
  ![v720.toNat, 0, 0]
def k0_off867 (i : grid0.Coords) (k0_t7 : Fin k0_t7_loop.trips) : Fin 2 → Nat :=
  let arg0 : BitVec 32 := BitVec.ofNat 32 (i 0).val
  let v725 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c53_i32 : BitVec 32 := 53#32
  let v724 : BitVec 32 := Scalar.addi v87 c53_i32
  let v726 : Index := Scalar.indexCast v724
  ![v725.toNat, v726.toNat]
def k0_off868 (v727 : BitVec 32) : Fin 3 → Nat :=
  let v728 : Index := Scalar.indexCast v727
  let c0_319 : Index := 0#32
  let c0_320 : Index := 0#32
  ![v728.toNat, 0, 0]

def k0_chk310 (v727 : BitVec 32) : Prop :=
  (∀ a, (k0_off868 v727) a + S1x1x256.size a ≤ S10112x1x256.size a)
theorem k0_off868_inb : ∀ (v727 : BitVec 32) (k0_hw310 : k0_chk310 v727), ∀ a, (k0_off868 v727) a + S1x1x256.size a ≤ S10112x1x256.size a := fun v727 k0_hw310 => k0_hw310

def k0_off869 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c53_i32_321 : BitVec 32 := 53#32
  let v731 : BitVec 32 := Scalar.addi v87 c53_i32_321
  let v732 : Index := Scalar.indexCast v731
  let c0_322 : Index := 0#32
  let c0_323 : Index := 0#32
  ![v732.toNat, 0, 0]
def k0_off870 (i : grid0.Coords) (k0_t7 : Fin k0_t7_loop.trips) : Fin 2 → Nat :=
  let arg0 : BitVec 32 := BitVec.ofNat 32 (i 0).val
  let v737 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c54_i32 : BitVec 32 := 54#32
  let v736 : BitVec 32 := Scalar.addi v87 c54_i32
  let v738 : Index := Scalar.indexCast v736
  ![v737.toNat, v738.toNat]
def k0_off871 (v739 : BitVec 32) : Fin 3 → Nat :=
  let v740 : Index := Scalar.indexCast v739
  let c0_324 : Index := 0#32
  let c0_325 : Index := 0#32
  ![v740.toNat, 0, 0]

def k0_chk311 (v739 : BitVec 32) : Prop :=
  (∀ a, (k0_off871 v739) a + S1x1x256.size a ≤ S10112x1x256.size a)
theorem k0_off871_inb : ∀ (v739 : BitVec 32) (k0_hw311 : k0_chk311 v739), ∀ a, (k0_off871 v739) a + S1x1x256.size a ≤ S10112x1x256.size a := fun v739 k0_hw311 => k0_hw311

def k0_off872 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c54_i32_326 : BitVec 32 := 54#32
  let v743 : BitVec 32 := Scalar.addi v87 c54_i32_326
  let v744 : Index := Scalar.indexCast v743
  let c0_327 : Index := 0#32
  let c0_328 : Index := 0#32
  ![v744.toNat, 0, 0]
def k0_off873 (i : grid0.Coords) (k0_t7 : Fin k0_t7_loop.trips) : Fin 2 → Nat :=
  let arg0 : BitVec 32 := BitVec.ofNat 32 (i 0).val
  let v749 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c55_i32 : BitVec 32 := 55#32
  let v748 : BitVec 32 := Scalar.addi v87 c55_i32
  let v750 : Index := Scalar.indexCast v748
  ![v749.toNat, v750.toNat]
def k0_off874 (v751 : BitVec 32) : Fin 3 → Nat :=
  let v752 : Index := Scalar.indexCast v751
  let c0_329 : Index := 0#32
  let c0_330 : Index := 0#32
  ![v752.toNat, 0, 0]

def k0_chk312 (v751 : BitVec 32) : Prop :=
  (∀ a, (k0_off874 v751) a + S1x1x256.size a ≤ S10112x1x256.size a)
theorem k0_off874_inb : ∀ (v751 : BitVec 32) (k0_hw312 : k0_chk312 v751), ∀ a, (k0_off874 v751) a + S1x1x256.size a ≤ S10112x1x256.size a := fun v751 k0_hw312 => k0_hw312

def k0_off875 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c55_i32_331 : BitVec 32 := 55#32
  let v755 : BitVec 32 := Scalar.addi v87 c55_i32_331
  let v756 : Index := Scalar.indexCast v755
  let c0_332 : Index := 0#32
  let c0_333 : Index := 0#32
  ![v756.toNat, 0, 0]
def k0_off876 (i : grid0.Coords) (k0_t7 : Fin k0_t7_loop.trips) : Fin 2 → Nat :=
  let arg0 : BitVec 32 := BitVec.ofNat 32 (i 0).val
  let v761 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c56_i32 : BitVec 32 := 56#32
  let v760 : BitVec 32 := Scalar.addi v87 c56_i32
  let v762 : Index := Scalar.indexCast v760
  ![v761.toNat, v762.toNat]
def k0_off877 (v763 : BitVec 32) : Fin 3 → Nat :=
  let v764 : Index := Scalar.indexCast v763
  let c0_334 : Index := 0#32
  let c0_335 : Index := 0#32
  ![v764.toNat, 0, 0]

def k0_chk313 (v763 : BitVec 32) : Prop :=
  (∀ a, (k0_off877 v763) a + S1x1x256.size a ≤ S10112x1x256.size a)
theorem k0_off877_inb : ∀ (v763 : BitVec 32) (k0_hw313 : k0_chk313 v763), ∀ a, (k0_off877 v763) a + S1x1x256.size a ≤ S10112x1x256.size a := fun v763 k0_hw313 => k0_hw313

def k0_off878 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c56_i32_336 : BitVec 32 := 56#32
  let v767 : BitVec 32 := Scalar.addi v87 c56_i32_336
  let v768 : Index := Scalar.indexCast v767
  let c0_337 : Index := 0#32
  let c0_338 : Index := 0#32
  ![v768.toNat, 0, 0]
def k0_off879 (i : grid0.Coords) (k0_t7 : Fin k0_t7_loop.trips) : Fin 2 → Nat :=
  let arg0 : BitVec 32 := BitVec.ofNat 32 (i 0).val
  let v773 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c57_i32 : BitVec 32 := 57#32
  let v772 : BitVec 32 := Scalar.addi v87 c57_i32
  let v774 : Index := Scalar.indexCast v772
  ![v773.toNat, v774.toNat]
def k0_off880 (v775 : BitVec 32) : Fin 3 → Nat :=
  let v776 : Index := Scalar.indexCast v775
  let c0_339 : Index := 0#32
  let c0_340 : Index := 0#32
  ![v776.toNat, 0, 0]

def k0_chk314 (v775 : BitVec 32) : Prop :=
  (∀ a, (k0_off880 v775) a + S1x1x256.size a ≤ S10112x1x256.size a)
theorem k0_off880_inb : ∀ (v775 : BitVec 32) (k0_hw314 : k0_chk314 v775), ∀ a, (k0_off880 v775) a + S1x1x256.size a ≤ S10112x1x256.size a := fun v775 k0_hw314 => k0_hw314

def k0_off881 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c57_i32_341 : BitVec 32 := 57#32
  let v779 : BitVec 32 := Scalar.addi v87 c57_i32_341
  let v780 : Index := Scalar.indexCast v779
  let c0_342 : Index := 0#32
  let c0_343 : Index := 0#32
  ![v780.toNat, 0, 0]
def k0_off882 (i : grid0.Coords) (k0_t7 : Fin k0_t7_loop.trips) : Fin 2 → Nat :=
  let arg0 : BitVec 32 := BitVec.ofNat 32 (i 0).val
  let v785 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c58_i32 : BitVec 32 := 58#32
  let v784 : BitVec 32 := Scalar.addi v87 c58_i32
  let v786 : Index := Scalar.indexCast v784
  ![v785.toNat, v786.toNat]
def k0_off883 (v787 : BitVec 32) : Fin 3 → Nat :=
  let v788 : Index := Scalar.indexCast v787
  let c0_344 : Index := 0#32
  let c0_345 : Index := 0#32
  ![v788.toNat, 0, 0]

def k0_chk315 (v787 : BitVec 32) : Prop :=
  (∀ a, (k0_off883 v787) a + S1x1x256.size a ≤ S10112x1x256.size a)
theorem k0_off883_inb : ∀ (v787 : BitVec 32) (k0_hw315 : k0_chk315 v787), ∀ a, (k0_off883 v787) a + S1x1x256.size a ≤ S10112x1x256.size a := fun v787 k0_hw315 => k0_hw315

def k0_off884 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c58_i32_346 : BitVec 32 := 58#32
  let v791 : BitVec 32 := Scalar.addi v87 c58_i32_346
  let v792 : Index := Scalar.indexCast v791
  let c0_347 : Index := 0#32
  let c0_348 : Index := 0#32
  ![v792.toNat, 0, 0]
def k0_off885 (i : grid0.Coords) (k0_t7 : Fin k0_t7_loop.trips) : Fin 2 → Nat :=
  let arg0 : BitVec 32 := BitVec.ofNat 32 (i 0).val
  let v797 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c59_i32 : BitVec 32 := 59#32
  let v796 : BitVec 32 := Scalar.addi v87 c59_i32
  let v798 : Index := Scalar.indexCast v796
  ![v797.toNat, v798.toNat]
def k0_off886 (v799 : BitVec 32) : Fin 3 → Nat :=
  let v800 : Index := Scalar.indexCast v799
  let c0_349 : Index := 0#32
  let c0_350 : Index := 0#32
  ![v800.toNat, 0, 0]

def k0_chk316 (v799 : BitVec 32) : Prop :=
  (∀ a, (k0_off886 v799) a + S1x1x256.size a ≤ S10112x1x256.size a)
theorem k0_off886_inb : ∀ (v799 : BitVec 32) (k0_hw316 : k0_chk316 v799), ∀ a, (k0_off886 v799) a + S1x1x256.size a ≤ S10112x1x256.size a := fun v799 k0_hw316 => k0_hw316

def k0_off887 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c59_i32_351 : BitVec 32 := 59#32
  let v803 : BitVec 32 := Scalar.addi v87 c59_i32_351
  let v804 : Index := Scalar.indexCast v803
  let c0_352 : Index := 0#32
  let c0_353 : Index := 0#32
  ![v804.toNat, 0, 0]
def k0_off888 (i : grid0.Coords) (k0_t7 : Fin k0_t7_loop.trips) : Fin 2 → Nat :=
  let arg0 : BitVec 32 := BitVec.ofNat 32 (i 0).val
  let v809 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c60_i32 : BitVec 32 := 60#32
  let v808 : BitVec 32 := Scalar.addi v87 c60_i32
  let v810 : Index := Scalar.indexCast v808
  ![v809.toNat, v810.toNat]
def k0_off889 (v811 : BitVec 32) : Fin 3 → Nat :=
  let v812 : Index := Scalar.indexCast v811
  let c0_354 : Index := 0#32
  let c0_355 : Index := 0#32
  ![v812.toNat, 0, 0]

def k0_chk317 (v811 : BitVec 32) : Prop :=
  (∀ a, (k0_off889 v811) a + S1x1x256.size a ≤ S10112x1x256.size a)
theorem k0_off889_inb : ∀ (v811 : BitVec 32) (k0_hw317 : k0_chk317 v811), ∀ a, (k0_off889 v811) a + S1x1x256.size a ≤ S10112x1x256.size a := fun v811 k0_hw317 => k0_hw317

def k0_off890 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c60_i32_356 : BitVec 32 := 60#32
  let v815 : BitVec 32 := Scalar.addi v87 c60_i32_356
  let v816 : Index := Scalar.indexCast v815
  let c0_357 : Index := 0#32
  let c0_358 : Index := 0#32
  ![v816.toNat, 0, 0]
def k0_off891 (i : grid0.Coords) (k0_t7 : Fin k0_t7_loop.trips) : Fin 2 → Nat :=
  let arg0 : BitVec 32 := BitVec.ofNat 32 (i 0).val
  let v821 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c61_i32 : BitVec 32 := 61#32
  let v820 : BitVec 32 := Scalar.addi v87 c61_i32
  let v822 : Index := Scalar.indexCast v820
  ![v821.toNat, v822.toNat]
def k0_off892 (v823 : BitVec 32) : Fin 3 → Nat :=
  let v824 : Index := Scalar.indexCast v823
  let c0_359 : Index := 0#32
  let c0_360 : Index := 0#32
  ![v824.toNat, 0, 0]

def k0_chk318 (v823 : BitVec 32) : Prop :=
  (∀ a, (k0_off892 v823) a + S1x1x256.size a ≤ S10112x1x256.size a)
theorem k0_off892_inb : ∀ (v823 : BitVec 32) (k0_hw318 : k0_chk318 v823), ∀ a, (k0_off892 v823) a + S1x1x256.size a ≤ S10112x1x256.size a := fun v823 k0_hw318 => k0_hw318

def k0_off893 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c61_i32_361 : BitVec 32 := 61#32
  let v827 : BitVec 32 := Scalar.addi v87 c61_i32_361
  let v828 : Index := Scalar.indexCast v827
  let c0_362 : Index := 0#32
  let c0_363 : Index := 0#32
  ![v828.toNat, 0, 0]
def k0_off894 (i : grid0.Coords) (k0_t7 : Fin k0_t7_loop.trips) : Fin 2 → Nat :=
  let arg0 : BitVec 32 := BitVec.ofNat 32 (i 0).val
  let v833 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c62_i32 : BitVec 32 := 62#32
  let v832 : BitVec 32 := Scalar.addi v87 c62_i32
  let v834 : Index := Scalar.indexCast v832
  ![v833.toNat, v834.toNat]
def k0_off895 (v835 : BitVec 32) : Fin 3 → Nat :=
  let v836 : Index := Scalar.indexCast v835
  let c0_364 : Index := 0#32
  let c0_365 : Index := 0#32
  ![v836.toNat, 0, 0]

def k0_chk319 (v835 : BitVec 32) : Prop :=
  (∀ a, (k0_off895 v835) a + S1x1x256.size a ≤ S10112x1x256.size a)
theorem k0_off895_inb : ∀ (v835 : BitVec 32) (k0_hw319 : k0_chk319 v835), ∀ a, (k0_off895 v835) a + S1x1x256.size a ≤ S10112x1x256.size a := fun v835 k0_hw319 => k0_hw319

def k0_off896 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c62_i32_366 : BitVec 32 := 62#32
  let v839 : BitVec 32 := Scalar.addi v87 c62_i32_366
  let v840 : Index := Scalar.indexCast v839
  let c0_367 : Index := 0#32
  let c0_368 : Index := 0#32
  ![v840.toNat, 0, 0]
def k0_off897 (i : grid0.Coords) (k0_t7 : Fin k0_t7_loop.trips) : Fin 2 → Nat :=
  let arg0 : BitVec 32 := BitVec.ofNat 32 (i 0).val
  let v845 : Index := Scalar.indexCast arg0
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c63_i32 : BitVec 32 := 63#32
  let v844 : BitVec 32 := Scalar.addi v87 c63_i32
  let v846 : Index := Scalar.indexCast v844
  ![v845.toNat, v846.toNat]
def k0_off898 (v847 : BitVec 32) : Fin 3 → Nat :=
  let v848 : Index := Scalar.indexCast v847
  let c0_369 : Index := 0#32
  let c0_370 : Index := 0#32
  ![v848.toNat, 0, 0]

def k0_chk320 (v847 : BitVec 32) : Prop :=
  (∀ a, (k0_off898 v847) a + S1x1x256.size a ≤ S10112x1x256.size a)
theorem k0_off898_inb : ∀ (v847 : BitVec 32) (k0_hw320 : k0_chk320 v847), ∀ a, (k0_off898 v847) a + S1x1x256.size a ≤ S10112x1x256.size a := fun v847 k0_hw320 => k0_hw320

def k0_off899 (k0_t7 : Fin k0_t7_loop.trips) : Fin 3 → Nat :=
  let c0_i32_21 : BitVec 32 := 0#32
  let c1_i32_22 : BitVec 32 := 1#32
  let arg15 : BitVec 32 := Scf.iv c0_i32_21 c1_i32_22 k0_t7
  let c64_i32 : BitVec 32 := 64#32
  let v87 : BitVec 32 := Scalar.muli arg15 c64_i32
  let c63_i32_371 : BitVec 32 := 63#32
  let v851 : BitVec 32 := Scalar.addi v87 c63_i32_371
  let v852 : Index := Scalar.indexCast v851
  let c0_372 : Index := 0#32
  let c0_373 : Index := 0#32
  ![v852.toNat, 0, 0]
@[reducible] def k0_t8_loop : Scf.Loop 32 :=
  let c0_i32_24 : BitVec 32 := 0#32
  let c4_i32_25 : BitVec 32 := 4#32
  let v35 : BitVec 32 := Scalar.addi c0_i32_24 c4_i32_25
  let c1_i32_26 : BitVec 32 := 1#32
  ⟨c0_i32_24, v35, c1_i32_26⟩
def k0_off900 (i : grid0.Coords) (k0_t8 : Fin k0_t8_loop.trips) : Fin 2 → Nat :=
  let arg0 : BitVec 32 := BitVec.ofNat 32 (i 0).val
  let v91 : Index := Scalar.indexCast arg0
  let arg1 : BitVec 32 := BitVec.ofNat 32 (i 1).val
  let c256_i32_49 : BitVec 32 := 256#32
  let v89 : BitVec 32 := Scalar.muli arg1 c256_i32_49
  let c0_i32_24 : BitVec 32 := 0#32
  let c1_i32_26 : BitVec 32 := 1#32
  let arg15 : BitVec 32 := Scf.iv c0_i32_24 c1_i32_26 k0_t8
  let c64_i32 : BitVec 32 := 64#32
  let v87 : BitVec 32 := Scalar.muli arg15 c64_i32
  let c0_i32_48 : BitVec 32 := 0#32
  let v88 : BitVec 32 := Scalar.addi v87 c0_i32_48
  let v90 : BitVec 32 := Scalar.addi v89 v88
  let v92 : Index := Scalar.indexCast v90
  ![v91.toNat, v92.toNat]
def k0_off901 (v93 : BitVec 32) : Fin 3 → Nat :=
  let c7_i32 : BitVec 32 := 7#32
  let v94 : BitVec 32 := Scalar.shrsi v93 c7_i32
  let v95 : Index := Scalar.indexCast v94
  let c0_50 : Index := 0#32
  let c0_51 : Index := 0#32
  ![v95.toNat, 0, 0]

def k0_chk321 (v93 : BitVec 32) : Prop :=
  (∀ a, (k0_off901 v93) a + S1x1x128.size a ≤ S79x1x128.size a)
theorem k0_off901_inb : ∀ (v93 : BitVec 32) (k0_hw321 : k0_chk321 v93), ∀ a, (k0_off901 v93) a + S1x1x128.size a ≤ S79x1x128.size a := fun v93 k0_hw321 => k0_hw321

def k0_off902 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32 : BitVec 32 := 64#32
  let v87 : BitVec 32 := Scalar.muli arg15 c64_i32
  let c0_i32_48 : BitVec 32 := 0#32
  let v88 : BitVec 32 := Scalar.addi v87 c0_i32_48
  let v98 : Index := Scalar.indexCast v88
  let c0_52 : Index := 0#32
  let c0_53 : Index := 0#32
  ![v98.toNat, 0, 0]
def k0_off903 (i : grid0.Coords) (k0_t8 : Fin k0_t8_loop.trips) : Fin 2 → Nat :=
  let arg0 : BitVec 32 := BitVec.ofNat 32 (i 0).val
  let v106 : Index := Scalar.indexCast arg0
  let arg1 : BitVec 32 := BitVec.ofNat 32 (i 1).val
  let c256_i32_56 : BitVec 32 := 256#32
  let v104 : BitVec 32 := Scalar.muli arg1 c256_i32_56
  let c0_i32_24 : BitVec 32 := 0#32
  let c1_i32_26 : BitVec 32 := 1#32
  let arg15 : BitVec 32 := Scf.iv c0_i32_24 c1_i32_26 k0_t8
  let c64_i32_54 : BitVec 32 := 64#32
  let v102 : BitVec 32 := Scalar.muli arg15 c64_i32_54
  let c1_i32_55 : BitVec 32 := 1#32
  let v103 : BitVec 32 := Scalar.addi v102 c1_i32_55
  let v105 : BitVec 32 := Scalar.addi v104 v103
  let v107 : Index := Scalar.indexCast v105
  ![v106.toNat, v107.toNat]
def k0_off904 (v108 : BitVec 32) : Fin 3 → Nat :=
  let c7_i32_57 : BitVec 32 := 7#32
  let v109 : BitVec 32 := Scalar.shrsi v108 c7_i32_57
  let v110 : Index := Scalar.indexCast v109
  let c0_58 : Index := 0#32
  let c0_59 : Index := 0#32
  ![v110.toNat, 0, 0]

def k0_chk322 (v108 : BitVec 32) : Prop :=
  (∀ a, (k0_off904 v108) a + S1x1x128.size a ≤ S79x1x128.size a)
theorem k0_off904_inb : ∀ (v108 : BitVec 32) (k0_hw322 : k0_chk322 v108), ∀ a, (k0_off904 v108) a + S1x1x128.size a ≤ S79x1x128.size a := fun v108 k0_hw322 => k0_hw322

def k0_off905 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_54 : BitVec 32 := 64#32
  let v102 : BitVec 32 := Scalar.muli arg15 c64_i32_54
  let c1_i32_55 : BitVec 32 := 1#32
  let v103 : BitVec 32 := Scalar.addi v102 c1_i32_55
  let v113 : Index := Scalar.indexCast v103
  let c0_60 : Index := 0#32
  let c0_61 : Index := 0#32
  ![v113.toNat, 0, 0]
def k0_off906 (i : grid0.Coords) (k0_t8 : Fin k0_t8_loop.trips) : Fin 2 → Nat :=
  let arg0 : BitVec 32 := BitVec.ofNat 32 (i 0).val
  let v121 : Index := Scalar.indexCast arg0
  let arg1 : BitVec 32 := BitVec.ofNat 32 (i 1).val
  let c256_i32_64 : BitVec 32 := 256#32
  let v119 : BitVec 32 := Scalar.muli arg1 c256_i32_64
  let c0_i32_24 : BitVec 32 := 0#32
  let c1_i32_26 : BitVec 32 := 1#32
  let arg15 : BitVec 32 := Scf.iv c0_i32_24 c1_i32_26 k0_t8
  let c64_i32_62 : BitVec 32 := 64#32
  let v117 : BitVec 32 := Scalar.muli arg15 c64_i32_62
  let c2_i32_63 : BitVec 32 := 2#32
  let v118 : BitVec 32 := Scalar.addi v117 c2_i32_63
  let v120 : BitVec 32 := Scalar.addi v119 v118
  let v122 : Index := Scalar.indexCast v120
  ![v121.toNat, v122.toNat]
def k0_off907 (v123 : BitVec 32) : Fin 3 → Nat :=
  let c7_i32_65 : BitVec 32 := 7#32
  let v124 : BitVec 32 := Scalar.shrsi v123 c7_i32_65
  let v125 : Index := Scalar.indexCast v124
  let c0_66 : Index := 0#32
  let c0_67 : Index := 0#32
  ![v125.toNat, 0, 0]

def k0_chk323 (v123 : BitVec 32) : Prop :=
  (∀ a, (k0_off907 v123) a + S1x1x128.size a ≤ S79x1x128.size a)
theorem k0_off907_inb : ∀ (v123 : BitVec 32) (k0_hw323 : k0_chk323 v123), ∀ a, (k0_off907 v123) a + S1x1x128.size a ≤ S79x1x128.size a := fun v123 k0_hw323 => k0_hw323

def k0_off908 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_62 : BitVec 32 := 64#32
  let v117 : BitVec 32 := Scalar.muli arg15 c64_i32_62
  let c2_i32_63 : BitVec 32 := 2#32
  let v118 : BitVec 32 := Scalar.addi v117 c2_i32_63
  let v128 : Index := Scalar.indexCast v118
  let c0_68 : Index := 0#32
  let c0_69 : Index := 0#32
  ![v128.toNat, 0, 0]
def k0_off909 (i : grid0.Coords) (k0_t8 : Fin k0_t8_loop.trips) : Fin 2 → Nat :=
  let arg0 : BitVec 32 := BitVec.ofNat 32 (i 0).val
  let v136 : Index := Scalar.indexCast arg0
  let arg1 : BitVec 32 := BitVec.ofNat 32 (i 1).val
  let c256_i32_71 : BitVec 32 := 256#32
  let v134 : BitVec 32 := Scalar.muli arg1 c256_i32_71
  let c0_i32_24 : BitVec 32 := 0#32
  let c1_i32_26 : BitVec 32 := 1#32
  let arg15 : BitVec 32 := Scf.iv c0_i32_24 c1_i32_26 k0_t8
  let c64_i32_70 : BitVec 32 := 64#32
  let v132 : BitVec 32 := Scalar.muli arg15 c64_i32_70
  let c3_i32 : BitVec 32 := 3#32
  let v133 : BitVec 32 := Scalar.addi v132 c3_i32
  let v135 : BitVec 32 := Scalar.addi v134 v133
  let v137 : Index := Scalar.indexCast v135
  ![v136.toNat, v137.toNat]
def k0_off910 (v138 : BitVec 32) : Fin 3 → Nat :=
  let c7_i32_72 : BitVec 32 := 7#32
  let v139 : BitVec 32 := Scalar.shrsi v138 c7_i32_72
  let v140 : Index := Scalar.indexCast v139
  let c0_73 : Index := 0#32
  let c0_74 : Index := 0#32
  ![v140.toNat, 0, 0]

def k0_chk324 (v138 : BitVec 32) : Prop :=
  (∀ a, (k0_off910 v138) a + S1x1x128.size a ≤ S79x1x128.size a)
theorem k0_off910_inb : ∀ (v138 : BitVec 32) (k0_hw324 : k0_chk324 v138), ∀ a, (k0_off910 v138) a + S1x1x128.size a ≤ S79x1x128.size a := fun v138 k0_hw324 => k0_hw324

def k0_off911 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_70 : BitVec 32 := 64#32
  let v132 : BitVec 32 := Scalar.muli arg15 c64_i32_70
  let c3_i32 : BitVec 32 := 3#32
  let v133 : BitVec 32 := Scalar.addi v132 c3_i32
  let v143 : Index := Scalar.indexCast v133
  let c0_75 : Index := 0#32
  let c0_76 : Index := 0#32
  ![v143.toNat, 0, 0]
def k0_off912 (i : grid0.Coords) (k0_t8 : Fin k0_t8_loop.trips) : Fin 2 → Nat :=
  let arg0 : BitVec 32 := BitVec.ofNat 32 (i 0).val
  let v151 : Index := Scalar.indexCast arg0
  let arg1 : BitVec 32 := BitVec.ofNat 32 (i 1).val
  let c256_i32_79 : BitVec 32 := 256#32
  let v149 : BitVec 32 := Scalar.muli arg1 c256_i32_79
  let c0_i32_24 : BitVec 32 := 0#32
  let c1_i32_26 : BitVec 32 := 1#32
  let arg15 : BitVec 32 := Scf.iv c0_i32_24 c1_i32_26 k0_t8
  let c64_i32_77 : BitVec 32 := 64#32
  let v147 : BitVec 32 := Scalar.muli arg15 c64_i32_77
  let c4_i32_78 : BitVec 32 := 4#32
  let v148 : BitVec 32 := Scalar.addi v147 c4_i32_78
  let v150 : BitVec 32 := Scalar.addi v149 v148
  let v152 : Index := Scalar.indexCast v150
  ![v151.toNat, v152.toNat]
def k0_off913 (v153 : BitVec 32) : Fin 3 → Nat :=
  let c7_i32_80 : BitVec 32 := 7#32
  let v154 : BitVec 32 := Scalar.shrsi v153 c7_i32_80
  let v155 : Index := Scalar.indexCast v154
  let c0_81 : Index := 0#32
  let c0_82 : Index := 0#32
  ![v155.toNat, 0, 0]

def k0_chk325 (v153 : BitVec 32) : Prop :=
  (∀ a, (k0_off913 v153) a + S1x1x128.size a ≤ S79x1x128.size a)
theorem k0_off913_inb : ∀ (v153 : BitVec 32) (k0_hw325 : k0_chk325 v153), ∀ a, (k0_off913 v153) a + S1x1x128.size a ≤ S79x1x128.size a := fun v153 k0_hw325 => k0_hw325

def k0_off914 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_77 : BitVec 32 := 64#32
  let v147 : BitVec 32 := Scalar.muli arg15 c64_i32_77
  let c4_i32_78 : BitVec 32 := 4#32
  let v148 : BitVec 32 := Scalar.addi v147 c4_i32_78
  let v158 : Index := Scalar.indexCast v148
  let c0_83 : Index := 0#32
  let c0_84 : Index := 0#32
  ![v158.toNat, 0, 0]
def k0_off915 (i : grid0.Coords) (k0_t8 : Fin k0_t8_loop.trips) : Fin 2 → Nat :=
  let arg0 : BitVec 32 := BitVec.ofNat 32 (i 0).val
  let v166 : Index := Scalar.indexCast arg0
  let arg1 : BitVec 32 := BitVec.ofNat 32 (i 1).val
  let c256_i32_86 : BitVec 32 := 256#32
  let v164 : BitVec 32 := Scalar.muli arg1 c256_i32_86
  let c0_i32_24 : BitVec 32 := 0#32
  let c1_i32_26 : BitVec 32 := 1#32
  let arg15 : BitVec 32 := Scf.iv c0_i32_24 c1_i32_26 k0_t8
  let c64_i32_85 : BitVec 32 := 64#32
  let v162 : BitVec 32 := Scalar.muli arg15 c64_i32_85
  let c5_i32 : BitVec 32 := 5#32
  let v163 : BitVec 32 := Scalar.addi v162 c5_i32
  let v165 : BitVec 32 := Scalar.addi v164 v163
  let v167 : Index := Scalar.indexCast v165
  ![v166.toNat, v167.toNat]
def k0_off916 (v168 : BitVec 32) : Fin 3 → Nat :=
  let c7_i32_87 : BitVec 32 := 7#32
  let v169 : BitVec 32 := Scalar.shrsi v168 c7_i32_87
  let v170 : Index := Scalar.indexCast v169
  let c0_88 : Index := 0#32
  let c0_89 : Index := 0#32
  ![v170.toNat, 0, 0]

def k0_chk326 (v168 : BitVec 32) : Prop :=
  (∀ a, (k0_off916 v168) a + S1x1x128.size a ≤ S79x1x128.size a)
theorem k0_off916_inb : ∀ (v168 : BitVec 32) (k0_hw326 : k0_chk326 v168), ∀ a, (k0_off916 v168) a + S1x1x128.size a ≤ S79x1x128.size a := fun v168 k0_hw326 => k0_hw326

def k0_off917 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_85 : BitVec 32 := 64#32
  let v162 : BitVec 32 := Scalar.muli arg15 c64_i32_85
  let c5_i32 : BitVec 32 := 5#32
  let v163 : BitVec 32 := Scalar.addi v162 c5_i32
  let v173 : Index := Scalar.indexCast v163
  let c0_90 : Index := 0#32
  let c0_91 : Index := 0#32
  ![v173.toNat, 0, 0]
def k0_off918 (i : grid0.Coords) (k0_t8 : Fin k0_t8_loop.trips) : Fin 2 → Nat :=
  let arg0 : BitVec 32 := BitVec.ofNat 32 (i 0).val
  let v181 : Index := Scalar.indexCast arg0
  let arg1 : BitVec 32 := BitVec.ofNat 32 (i 1).val
  let c256_i32_93 : BitVec 32 := 256#32
  let v179 : BitVec 32 := Scalar.muli arg1 c256_i32_93
  let c0_i32_24 : BitVec 32 := 0#32
  let c1_i32_26 : BitVec 32 := 1#32
  let arg15 : BitVec 32 := Scf.iv c0_i32_24 c1_i32_26 k0_t8
  let c64_i32_92 : BitVec 32 := 64#32
  let v177 : BitVec 32 := Scalar.muli arg15 c64_i32_92
  let c6_i32 : BitVec 32 := 6#32
  let v178 : BitVec 32 := Scalar.addi v177 c6_i32
  let v180 : BitVec 32 := Scalar.addi v179 v178
  let v182 : Index := Scalar.indexCast v180
  ![v181.toNat, v182.toNat]
def k0_off919 (v183 : BitVec 32) : Fin 3 → Nat :=
  let c7_i32_94 : BitVec 32 := 7#32
  let v184 : BitVec 32 := Scalar.shrsi v183 c7_i32_94
  let v185 : Index := Scalar.indexCast v184
  let c0_95 : Index := 0#32
  let c0_96 : Index := 0#32
  ![v185.toNat, 0, 0]

def k0_chk327 (v183 : BitVec 32) : Prop :=
  (∀ a, (k0_off919 v183) a + S1x1x128.size a ≤ S79x1x128.size a)
theorem k0_off919_inb : ∀ (v183 : BitVec 32) (k0_hw327 : k0_chk327 v183), ∀ a, (k0_off919 v183) a + S1x1x128.size a ≤ S79x1x128.size a := fun v183 k0_hw327 => k0_hw327

def k0_off920 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_92 : BitVec 32 := 64#32
  let v177 : BitVec 32 := Scalar.muli arg15 c64_i32_92
  let c6_i32 : BitVec 32 := 6#32
  let v178 : BitVec 32 := Scalar.addi v177 c6_i32
  let v188 : Index := Scalar.indexCast v178
  let c0_97 : Index := 0#32
  let c0_98 : Index := 0#32
  ![v188.toNat, 0, 0]
def k0_off921 (i : grid0.Coords) (k0_t8 : Fin k0_t8_loop.trips) : Fin 2 → Nat :=
  let arg0 : BitVec 32 := BitVec.ofNat 32 (i 0).val
  let v196 : Index := Scalar.indexCast arg0
  let arg1 : BitVec 32 := BitVec.ofNat 32 (i 1).val
  let c256_i32_101 : BitVec 32 := 256#32
  let v194 : BitVec 32 := Scalar.muli arg1 c256_i32_101
  let c0_i32_24 : BitVec 32 := 0#32
  let c1_i32_26 : BitVec 32 := 1#32
  let arg15 : BitVec 32 := Scf.iv c0_i32_24 c1_i32_26 k0_t8
  let c64_i32_99 : BitVec 32 := 64#32
  let v192 : BitVec 32 := Scalar.muli arg15 c64_i32_99
  let c7_i32_100 : BitVec 32 := 7#32
  let v193 : BitVec 32 := Scalar.addi v192 c7_i32_100
  let v195 : BitVec 32 := Scalar.addi v194 v193
  let v197 : Index := Scalar.indexCast v195
  ![v196.toNat, v197.toNat]
def k0_off922 (v198 : BitVec 32) : Fin 3 → Nat :=
  let c7_i32_102 : BitVec 32 := 7#32
  let v199 : BitVec 32 := Scalar.shrsi v198 c7_i32_102
  let v200 : Index := Scalar.indexCast v199
  let c0_103 : Index := 0#32
  let c0_104 : Index := 0#32
  ![v200.toNat, 0, 0]

def k0_chk328 (v198 : BitVec 32) : Prop :=
  (∀ a, (k0_off922 v198) a + S1x1x128.size a ≤ S79x1x128.size a)
theorem k0_off922_inb : ∀ (v198 : BitVec 32) (k0_hw328 : k0_chk328 v198), ∀ a, (k0_off922 v198) a + S1x1x128.size a ≤ S79x1x128.size a := fun v198 k0_hw328 => k0_hw328

def k0_off923 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_99 : BitVec 32 := 64#32
  let v192 : BitVec 32 := Scalar.muli arg15 c64_i32_99
  let c7_i32_100 : BitVec 32 := 7#32
  let v193 : BitVec 32 := Scalar.addi v192 c7_i32_100
  let v203 : Index := Scalar.indexCast v193
  let c0_105 : Index := 0#32
  let c0_106 : Index := 0#32
  ![v203.toNat, 0, 0]
def k0_off924 (i : grid0.Coords) (k0_t8 : Fin k0_t8_loop.trips) : Fin 2 → Nat :=
  let arg0 : BitVec 32 := BitVec.ofNat 32 (i 0).val
  let v211 : Index := Scalar.indexCast arg0
  let arg1 : BitVec 32 := BitVec.ofNat 32 (i 1).val
  let c256_i32_109 : BitVec 32 := 256#32
  let v209 : BitVec 32 := Scalar.muli arg1 c256_i32_109
  let c0_i32_24 : BitVec 32 := 0#32
  let c1_i32_26 : BitVec 32 := 1#32
  let arg15 : BitVec 32 := Scf.iv c0_i32_24 c1_i32_26 k0_t8
  let c64_i32_107 : BitVec 32 := 64#32
  let v207 : BitVec 32 := Scalar.muli arg15 c64_i32_107
  let c8_i32_108 : BitVec 32 := 8#32
  let v208 : BitVec 32 := Scalar.addi v207 c8_i32_108
  let v210 : BitVec 32 := Scalar.addi v209 v208
  let v212 : Index := Scalar.indexCast v210
  ![v211.toNat, v212.toNat]
def k0_off925 (v213 : BitVec 32) : Fin 3 → Nat :=
  let c7_i32_110 : BitVec 32 := 7#32
  let v214 : BitVec 32 := Scalar.shrsi v213 c7_i32_110
  let v215 : Index := Scalar.indexCast v214
  let c0_111 : Index := 0#32
  let c0_112 : Index := 0#32
  ![v215.toNat, 0, 0]

def k0_chk329 (v213 : BitVec 32) : Prop :=
  (∀ a, (k0_off925 v213) a + S1x1x128.size a ≤ S79x1x128.size a)
theorem k0_off925_inb : ∀ (v213 : BitVec 32) (k0_hw329 : k0_chk329 v213), ∀ a, (k0_off925 v213) a + S1x1x128.size a ≤ S79x1x128.size a := fun v213 k0_hw329 => k0_hw329

def k0_off926 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_107 : BitVec 32 := 64#32
  let v207 : BitVec 32 := Scalar.muli arg15 c64_i32_107
  let c8_i32_108 : BitVec 32 := 8#32
  let v208 : BitVec 32 := Scalar.addi v207 c8_i32_108
  let v218 : Index := Scalar.indexCast v208
  let c0_113 : Index := 0#32
  let c0_114 : Index := 0#32
  ![v218.toNat, 0, 0]
def k0_off927 (i : grid0.Coords) (k0_t8 : Fin k0_t8_loop.trips) : Fin 2 → Nat :=
  let arg0 : BitVec 32 := BitVec.ofNat 32 (i 0).val
  let v226 : Index := Scalar.indexCast arg0
  let arg1 : BitVec 32 := BitVec.ofNat 32 (i 1).val
  let c256_i32_116 : BitVec 32 := 256#32
  let v224 : BitVec 32 := Scalar.muli arg1 c256_i32_116
  let c0_i32_24 : BitVec 32 := 0#32
  let c1_i32_26 : BitVec 32 := 1#32
  let arg15 : BitVec 32 := Scf.iv c0_i32_24 c1_i32_26 k0_t8
  let c64_i32_115 : BitVec 32 := 64#32
  let v222 : BitVec 32 := Scalar.muli arg15 c64_i32_115
  let c9_i32 : BitVec 32 := 9#32
  let v223 : BitVec 32 := Scalar.addi v222 c9_i32
  let v225 : BitVec 32 := Scalar.addi v224 v223
  let v227 : Index := Scalar.indexCast v225
  ![v226.toNat, v227.toNat]
def k0_off928 (v228 : BitVec 32) : Fin 3 → Nat :=
  let c7_i32_117 : BitVec 32 := 7#32
  let v229 : BitVec 32 := Scalar.shrsi v228 c7_i32_117
  let v230 : Index := Scalar.indexCast v229
  let c0_118 : Index := 0#32
  let c0_119 : Index := 0#32
  ![v230.toNat, 0, 0]

def k0_chk330 (v228 : BitVec 32) : Prop :=
  (∀ a, (k0_off928 v228) a + S1x1x128.size a ≤ S79x1x128.size a)
theorem k0_off928_inb : ∀ (v228 : BitVec 32) (k0_hw330 : k0_chk330 v228), ∀ a, (k0_off928 v228) a + S1x1x128.size a ≤ S79x1x128.size a := fun v228 k0_hw330 => k0_hw330

def k0_off929 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_115 : BitVec 32 := 64#32
  let v222 : BitVec 32 := Scalar.muli arg15 c64_i32_115
  let c9_i32 : BitVec 32 := 9#32
  let v223 : BitVec 32 := Scalar.addi v222 c9_i32
  let v233 : Index := Scalar.indexCast v223
  let c0_120 : Index := 0#32
  let c0_121 : Index := 0#32
  ![v233.toNat, 0, 0]
def k0_off930 (i : grid0.Coords) (k0_t8 : Fin k0_t8_loop.trips) : Fin 2 → Nat :=
  let arg0 : BitVec 32 := BitVec.ofNat 32 (i 0).val
  let v241 : Index := Scalar.indexCast arg0
  let arg1 : BitVec 32 := BitVec.ofNat 32 (i 1).val
  let c256_i32_123 : BitVec 32 := 256#32
  let v239 : BitVec 32 := Scalar.muli arg1 c256_i32_123
  let c0_i32_24 : BitVec 32 := 0#32
  let c1_i32_26 : BitVec 32 := 1#32
  let arg15 : BitVec 32 := Scf.iv c0_i32_24 c1_i32_26 k0_t8
  let c64_i32_122 : BitVec 32 := 64#32
  let v237 : BitVec 32 := Scalar.muli arg15 c64_i32_122
  let c10_i32 : BitVec 32 := 10#32
  let v238 : BitVec 32 := Scalar.addi v237 c10_i32
  let v240 : BitVec 32 := Scalar.addi v239 v238
  let v242 : Index := Scalar.indexCast v240
  ![v241.toNat, v242.toNat]
def k0_off931 (v243 : BitVec 32) : Fin 3 → Nat :=
  let c7_i32_124 : BitVec 32 := 7#32
  let v244 : BitVec 32 := Scalar.shrsi v243 c7_i32_124
  let v245 : Index := Scalar.indexCast v244
  let c0_125 : Index := 0#32
  let c0_126 : Index := 0#32
  ![v245.toNat, 0, 0]

def k0_chk331 (v243 : BitVec 32) : Prop :=
  (∀ a, (k0_off931 v243) a + S1x1x128.size a ≤ S79x1x128.size a)
theorem k0_off931_inb : ∀ (v243 : BitVec 32) (k0_hw331 : k0_chk331 v243), ∀ a, (k0_off931 v243) a + S1x1x128.size a ≤ S79x1x128.size a := fun v243 k0_hw331 => k0_hw331

def k0_off932 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_122 : BitVec 32 := 64#32
  let v237 : BitVec 32 := Scalar.muli arg15 c64_i32_122
  let c10_i32 : BitVec 32 := 10#32
  let v238 : BitVec 32 := Scalar.addi v237 c10_i32
  let v248 : Index := Scalar.indexCast v238
  let c0_127 : Index := 0#32
  let c0_128 : Index := 0#32
  ![v248.toNat, 0, 0]
def k0_off933 (i : grid0.Coords) (k0_t8 : Fin k0_t8_loop.trips) : Fin 2 → Nat :=
  let arg0 : BitVec 32 := BitVec.ofNat 32 (i 0).val
  let v256 : Index := Scalar.indexCast arg0
  let arg1 : BitVec 32 := BitVec.ofNat 32 (i 1).val
  let c256_i32_130 : BitVec 32 := 256#32
  let v254 : BitVec 32 := Scalar.muli arg1 c256_i32_130
  let c0_i32_24 : BitVec 32 := 0#32
  let c1_i32_26 : BitVec 32 := 1#32
  let arg15 : BitVec 32 := Scf.iv c0_i32_24 c1_i32_26 k0_t8
  let c64_i32_129 : BitVec 32 := 64#32
  let v252 : BitVec 32 := Scalar.muli arg15 c64_i32_129
  let c11_i32 : BitVec 32 := 11#32
  let v253 : BitVec 32 := Scalar.addi v252 c11_i32
  let v255 : BitVec 32 := Scalar.addi v254 v253
  let v257 : Index := Scalar.indexCast v255
  ![v256.toNat, v257.toNat]
def k0_off934 (v258 : BitVec 32) : Fin 3 → Nat :=
  let c7_i32_131 : BitVec 32 := 7#32
  let v259 : BitVec 32 := Scalar.shrsi v258 c7_i32_131
  let v260 : Index := Scalar.indexCast v259
  let c0_132 : Index := 0#32
  let c0_133 : Index := 0#32
  ![v260.toNat, 0, 0]

def k0_chk332 (v258 : BitVec 32) : Prop :=
  (∀ a, (k0_off934 v258) a + S1x1x128.size a ≤ S79x1x128.size a)
theorem k0_off934_inb : ∀ (v258 : BitVec 32) (k0_hw332 : k0_chk332 v258), ∀ a, (k0_off934 v258) a + S1x1x128.size a ≤ S79x1x128.size a := fun v258 k0_hw332 => k0_hw332

def k0_off935 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_129 : BitVec 32 := 64#32
  let v252 : BitVec 32 := Scalar.muli arg15 c64_i32_129
  let c11_i32 : BitVec 32 := 11#32
  let v253 : BitVec 32 := Scalar.addi v252 c11_i32
  let v263 : Index := Scalar.indexCast v253
  let c0_134 : Index := 0#32
  let c0_135 : Index := 0#32
  ![v263.toNat, 0, 0]
def k0_off936 (i : grid0.Coords) (k0_t8 : Fin k0_t8_loop.trips) : Fin 2 → Nat :=
  let arg0 : BitVec 32 := BitVec.ofNat 32 (i 0).val
  let v271 : Index := Scalar.indexCast arg0
  let arg1 : BitVec 32 := BitVec.ofNat 32 (i 1).val
  let c256_i32_137 : BitVec 32 := 256#32
  let v269 : BitVec 32 := Scalar.muli arg1 c256_i32_137
  let c0_i32_24 : BitVec 32 := 0#32
  let c1_i32_26 : BitVec 32 := 1#32
  let arg15 : BitVec 32 := Scf.iv c0_i32_24 c1_i32_26 k0_t8
  let c64_i32_136 : BitVec 32 := 64#32
  let v267 : BitVec 32 := Scalar.muli arg15 c64_i32_136
  let c12_i32 : BitVec 32 := 12#32
  let v268 : BitVec 32 := Scalar.addi v267 c12_i32
  let v270 : BitVec 32 := Scalar.addi v269 v268
  let v272 : Index := Scalar.indexCast v270
  ![v271.toNat, v272.toNat]
def k0_off937 (v273 : BitVec 32) : Fin 3 → Nat :=
  let c7_i32_138 : BitVec 32 := 7#32
  let v274 : BitVec 32 := Scalar.shrsi v273 c7_i32_138
  let v275 : Index := Scalar.indexCast v274
  let c0_139 : Index := 0#32
  let c0_140 : Index := 0#32
  ![v275.toNat, 0, 0]

def k0_chk333 (v273 : BitVec 32) : Prop :=
  (∀ a, (k0_off937 v273) a + S1x1x128.size a ≤ S79x1x128.size a)
theorem k0_off937_inb : ∀ (v273 : BitVec 32) (k0_hw333 : k0_chk333 v273), ∀ a, (k0_off937 v273) a + S1x1x128.size a ≤ S79x1x128.size a := fun v273 k0_hw333 => k0_hw333

def k0_off938 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_136 : BitVec 32 := 64#32
  let v267 : BitVec 32 := Scalar.muli arg15 c64_i32_136
  let c12_i32 : BitVec 32 := 12#32
  let v268 : BitVec 32 := Scalar.addi v267 c12_i32
  let v278 : Index := Scalar.indexCast v268
  let c0_141 : Index := 0#32
  let c0_142 : Index := 0#32
  ![v278.toNat, 0, 0]
def k0_off939 (i : grid0.Coords) (k0_t8 : Fin k0_t8_loop.trips) : Fin 2 → Nat :=
  let arg0 : BitVec 32 := BitVec.ofNat 32 (i 0).val
  let v286 : Index := Scalar.indexCast arg0
  let arg1 : BitVec 32 := BitVec.ofNat 32 (i 1).val
  let c256_i32_144 : BitVec 32 := 256#32
  let v284 : BitVec 32 := Scalar.muli arg1 c256_i32_144
  let c0_i32_24 : BitVec 32 := 0#32
  let c1_i32_26 : BitVec 32 := 1#32
  let arg15 : BitVec 32 := Scf.iv c0_i32_24 c1_i32_26 k0_t8
  let c64_i32_143 : BitVec 32 := 64#32
  let v282 : BitVec 32 := Scalar.muli arg15 c64_i32_143
  let c13_i32 : BitVec 32 := 13#32
  let v283 : BitVec 32 := Scalar.addi v282 c13_i32
  let v285 : BitVec 32 := Scalar.addi v284 v283
  let v287 : Index := Scalar.indexCast v285
  ![v286.toNat, v287.toNat]
def k0_off940 (v288 : BitVec 32) : Fin 3 → Nat :=
  let c7_i32_145 : BitVec 32 := 7#32
  let v289 : BitVec 32 := Scalar.shrsi v288 c7_i32_145
  let v290 : Index := Scalar.indexCast v289
  let c0_146 : Index := 0#32
  let c0_147 : Index := 0#32
  ![v290.toNat, 0, 0]

def k0_chk334 (v288 : BitVec 32) : Prop :=
  (∀ a, (k0_off940 v288) a + S1x1x128.size a ≤ S79x1x128.size a)
theorem k0_off940_inb : ∀ (v288 : BitVec 32) (k0_hw334 : k0_chk334 v288), ∀ a, (k0_off940 v288) a + S1x1x128.size a ≤ S79x1x128.size a := fun v288 k0_hw334 => k0_hw334

def k0_off941 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_143 : BitVec 32 := 64#32
  let v282 : BitVec 32 := Scalar.muli arg15 c64_i32_143
  let c13_i32 : BitVec 32 := 13#32
  let v283 : BitVec 32 := Scalar.addi v282 c13_i32
  let v293 : Index := Scalar.indexCast v283
  let c0_148 : Index := 0#32
  let c0_149 : Index := 0#32
  ![v293.toNat, 0, 0]
def k0_off942 (i : grid0.Coords) (k0_t8 : Fin k0_t8_loop.trips) : Fin 2 → Nat :=
  let arg0 : BitVec 32 := BitVec.ofNat 32 (i 0).val
  let v301 : Index := Scalar.indexCast arg0
  let arg1 : BitVec 32 := BitVec.ofNat 32 (i 1).val
  let c256_i32_151 : BitVec 32 := 256#32
  let v299 : BitVec 32 := Scalar.muli arg1 c256_i32_151
  let c0_i32_24 : BitVec 32 := 0#32
  let c1_i32_26 : BitVec 32 := 1#32
  let arg15 : BitVec 32 := Scf.iv c0_i32_24 c1_i32_26 k0_t8
  let c64_i32_150 : BitVec 32 := 64#32
  let v297 : BitVec 32 := Scalar.muli arg15 c64_i32_150
  let c14_i32 : BitVec 32 := 14#32
  let v298 : BitVec 32 := Scalar.addi v297 c14_i32
  let v300 : BitVec 32 := Scalar.addi v299 v298
  let v302 : Index := Scalar.indexCast v300
  ![v301.toNat, v302.toNat]
def k0_off943 (v303 : BitVec 32) : Fin 3 → Nat :=
  let c7_i32_152 : BitVec 32 := 7#32
  let v304 : BitVec 32 := Scalar.shrsi v303 c7_i32_152
  let v305 : Index := Scalar.indexCast v304
  let c0_153 : Index := 0#32
  let c0_154 : Index := 0#32
  ![v305.toNat, 0, 0]

def k0_chk335 (v303 : BitVec 32) : Prop :=
  (∀ a, (k0_off943 v303) a + S1x1x128.size a ≤ S79x1x128.size a)
theorem k0_off943_inb : ∀ (v303 : BitVec 32) (k0_hw335 : k0_chk335 v303), ∀ a, (k0_off943 v303) a + S1x1x128.size a ≤ S79x1x128.size a := fun v303 k0_hw335 => k0_hw335

def k0_off944 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_150 : BitVec 32 := 64#32
  let v297 : BitVec 32 := Scalar.muli arg15 c64_i32_150
  let c14_i32 : BitVec 32 := 14#32
  let v298 : BitVec 32 := Scalar.addi v297 c14_i32
  let v308 : Index := Scalar.indexCast v298
  let c0_155 : Index := 0#32
  let c0_156 : Index := 0#32
  ![v308.toNat, 0, 0]
def k0_off945 (i : grid0.Coords) (k0_t8 : Fin k0_t8_loop.trips) : Fin 2 → Nat :=
  let arg0 : BitVec 32 := BitVec.ofNat 32 (i 0).val
  let v316 : Index := Scalar.indexCast arg0
  let arg1 : BitVec 32 := BitVec.ofNat 32 (i 1).val
  let c256_i32_158 : BitVec 32 := 256#32
  let v314 : BitVec 32 := Scalar.muli arg1 c256_i32_158
  let c0_i32_24 : BitVec 32 := 0#32
  let c1_i32_26 : BitVec 32 := 1#32
  let arg15 : BitVec 32 := Scf.iv c0_i32_24 c1_i32_26 k0_t8
  let c64_i32_157 : BitVec 32 := 64#32
  let v312 : BitVec 32 := Scalar.muli arg15 c64_i32_157
  let c15_i32 : BitVec 32 := 15#32
  let v313 : BitVec 32 := Scalar.addi v312 c15_i32
  let v315 : BitVec 32 := Scalar.addi v314 v313
  let v317 : Index := Scalar.indexCast v315
  ![v316.toNat, v317.toNat]
def k0_off946 (v318 : BitVec 32) : Fin 3 → Nat :=
  let c7_i32_159 : BitVec 32 := 7#32
  let v319 : BitVec 32 := Scalar.shrsi v318 c7_i32_159
  let v320 : Index := Scalar.indexCast v319
  let c0_160 : Index := 0#32
  let c0_161 : Index := 0#32
  ![v320.toNat, 0, 0]

def k0_chk336 (v318 : BitVec 32) : Prop :=
  (∀ a, (k0_off946 v318) a + S1x1x128.size a ≤ S79x1x128.size a)
theorem k0_off946_inb : ∀ (v318 : BitVec 32) (k0_hw336 : k0_chk336 v318), ∀ a, (k0_off946 v318) a + S1x1x128.size a ≤ S79x1x128.size a := fun v318 k0_hw336 => k0_hw336

def k0_off947 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_157 : BitVec 32 := 64#32
  let v312 : BitVec 32 := Scalar.muli arg15 c64_i32_157
  let c15_i32 : BitVec 32 := 15#32
  let v313 : BitVec 32 := Scalar.addi v312 c15_i32
  let v323 : Index := Scalar.indexCast v313
  let c0_162 : Index := 0#32
  let c0_163 : Index := 0#32
  ![v323.toNat, 0, 0]
def k0_off948 (i : grid0.Coords) (k0_t8 : Fin k0_t8_loop.trips) : Fin 2 → Nat :=
  let arg0 : BitVec 32 := BitVec.ofNat 32 (i 0).val
  let v331 : Index := Scalar.indexCast arg0
  let arg1 : BitVec 32 := BitVec.ofNat 32 (i 1).val
  let c256_i32_165 : BitVec 32 := 256#32
  let v329 : BitVec 32 := Scalar.muli arg1 c256_i32_165
  let c0_i32_24 : BitVec 32 := 0#32
  let c1_i32_26 : BitVec 32 := 1#32
  let arg15 : BitVec 32 := Scf.iv c0_i32_24 c1_i32_26 k0_t8
  let c64_i32_164 : BitVec 32 := 64#32
  let v327 : BitVec 32 := Scalar.muli arg15 c64_i32_164
  let c16_i32 : BitVec 32 := 16#32
  let v328 : BitVec 32 := Scalar.addi v327 c16_i32
  let v330 : BitVec 32 := Scalar.addi v329 v328
  let v332 : Index := Scalar.indexCast v330
  ![v331.toNat, v332.toNat]
def k0_off949 (v333 : BitVec 32) : Fin 3 → Nat :=
  let c7_i32_166 : BitVec 32 := 7#32
  let v334 : BitVec 32 := Scalar.shrsi v333 c7_i32_166
  let v335 : Index := Scalar.indexCast v334
  let c0_167 : Index := 0#32
  let c0_168 : Index := 0#32
  ![v335.toNat, 0, 0]

def k0_chk337 (v333 : BitVec 32) : Prop :=
  (∀ a, (k0_off949 v333) a + S1x1x128.size a ≤ S79x1x128.size a)
theorem k0_off949_inb : ∀ (v333 : BitVec 32) (k0_hw337 : k0_chk337 v333), ∀ a, (k0_off949 v333) a + S1x1x128.size a ≤ S79x1x128.size a := fun v333 k0_hw337 => k0_hw337

def k0_off950 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_164 : BitVec 32 := 64#32
  let v327 : BitVec 32 := Scalar.muli arg15 c64_i32_164
  let c16_i32 : BitVec 32 := 16#32
  let v328 : BitVec 32 := Scalar.addi v327 c16_i32
  let v338 : Index := Scalar.indexCast v328
  let c0_169 : Index := 0#32
  let c0_170 : Index := 0#32
  ![v338.toNat, 0, 0]
def k0_off951 (i : grid0.Coords) (k0_t8 : Fin k0_t8_loop.trips) : Fin 2 → Nat :=
  let arg0 : BitVec 32 := BitVec.ofNat 32 (i 0).val
  let v346 : Index := Scalar.indexCast arg0
  let arg1 : BitVec 32 := BitVec.ofNat 32 (i 1).val
  let c256_i32_172 : BitVec 32 := 256#32
  let v344 : BitVec 32 := Scalar.muli arg1 c256_i32_172
  let c0_i32_24 : BitVec 32 := 0#32
  let c1_i32_26 : BitVec 32 := 1#32
  let arg15 : BitVec 32 := Scf.iv c0_i32_24 c1_i32_26 k0_t8
  let c64_i32_171 : BitVec 32 := 64#32
  let v342 : BitVec 32 := Scalar.muli arg15 c64_i32_171
  let c17_i32 : BitVec 32 := 17#32
  let v343 : BitVec 32 := Scalar.addi v342 c17_i32
  let v345 : BitVec 32 := Scalar.addi v344 v343
  let v347 : Index := Scalar.indexCast v345
  ![v346.toNat, v347.toNat]
def k0_off952 (v348 : BitVec 32) : Fin 3 → Nat :=
  let c7_i32_173 : BitVec 32 := 7#32
  let v349 : BitVec 32 := Scalar.shrsi v348 c7_i32_173
  let v350 : Index := Scalar.indexCast v349
  let c0_174 : Index := 0#32
  let c0_175 : Index := 0#32
  ![v350.toNat, 0, 0]

def k0_chk338 (v348 : BitVec 32) : Prop :=
  (∀ a, (k0_off952 v348) a + S1x1x128.size a ≤ S79x1x128.size a)
theorem k0_off952_inb : ∀ (v348 : BitVec 32) (k0_hw338 : k0_chk338 v348), ∀ a, (k0_off952 v348) a + S1x1x128.size a ≤ S79x1x128.size a := fun v348 k0_hw338 => k0_hw338

def k0_off953 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_171 : BitVec 32 := 64#32
  let v342 : BitVec 32 := Scalar.muli arg15 c64_i32_171
  let c17_i32 : BitVec 32 := 17#32
  let v343 : BitVec 32 := Scalar.addi v342 c17_i32
  let v353 : Index := Scalar.indexCast v343
  let c0_176 : Index := 0#32
  let c0_177 : Index := 0#32
  ![v353.toNat, 0, 0]
def k0_off954 (i : grid0.Coords) (k0_t8 : Fin k0_t8_loop.trips) : Fin 2 → Nat :=
  let arg0 : BitVec 32 := BitVec.ofNat 32 (i 0).val
  let v361 : Index := Scalar.indexCast arg0
  let arg1 : BitVec 32 := BitVec.ofNat 32 (i 1).val
  let c256_i32_179 : BitVec 32 := 256#32
  let v359 : BitVec 32 := Scalar.muli arg1 c256_i32_179
  let c0_i32_24 : BitVec 32 := 0#32
  let c1_i32_26 : BitVec 32 := 1#32
  let arg15 : BitVec 32 := Scf.iv c0_i32_24 c1_i32_26 k0_t8
  let c64_i32_178 : BitVec 32 := 64#32
  let v357 : BitVec 32 := Scalar.muli arg15 c64_i32_178
  let c18_i32 : BitVec 32 := 18#32
  let v358 : BitVec 32 := Scalar.addi v357 c18_i32
  let v360 : BitVec 32 := Scalar.addi v359 v358
  let v362 : Index := Scalar.indexCast v360
  ![v361.toNat, v362.toNat]
def k0_off955 (v363 : BitVec 32) : Fin 3 → Nat :=
  let c7_i32_180 : BitVec 32 := 7#32
  let v364 : BitVec 32 := Scalar.shrsi v363 c7_i32_180
  let v365 : Index := Scalar.indexCast v364
  let c0_181 : Index := 0#32
  let c0_182 : Index := 0#32
  ![v365.toNat, 0, 0]

def k0_chk339 (v363 : BitVec 32) : Prop :=
  (∀ a, (k0_off955 v363) a + S1x1x128.size a ≤ S79x1x128.size a)
theorem k0_off955_inb : ∀ (v363 : BitVec 32) (k0_hw339 : k0_chk339 v363), ∀ a, (k0_off955 v363) a + S1x1x128.size a ≤ S79x1x128.size a := fun v363 k0_hw339 => k0_hw339

def k0_off956 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_178 : BitVec 32 := 64#32
  let v357 : BitVec 32 := Scalar.muli arg15 c64_i32_178
  let c18_i32 : BitVec 32 := 18#32
  let v358 : BitVec 32 := Scalar.addi v357 c18_i32
  let v368 : Index := Scalar.indexCast v358
  let c0_183 : Index := 0#32
  let c0_184 : Index := 0#32
  ![v368.toNat, 0, 0]
def k0_off957 (i : grid0.Coords) (k0_t8 : Fin k0_t8_loop.trips) : Fin 2 → Nat :=
  let arg0 : BitVec 32 := BitVec.ofNat 32 (i 0).val
  let v376 : Index := Scalar.indexCast arg0
  let arg1 : BitVec 32 := BitVec.ofNat 32 (i 1).val
  let c256_i32_186 : BitVec 32 := 256#32
  let v374 : BitVec 32 := Scalar.muli arg1 c256_i32_186
  let c0_i32_24 : BitVec 32 := 0#32
  let c1_i32_26 : BitVec 32 := 1#32
  let arg15 : BitVec 32 := Scf.iv c0_i32_24 c1_i32_26 k0_t8
  let c64_i32_185 : BitVec 32 := 64#32
  let v372 : BitVec 32 := Scalar.muli arg15 c64_i32_185
  let c19_i32 : BitVec 32 := 19#32
  let v373 : BitVec 32 := Scalar.addi v372 c19_i32
  let v375 : BitVec 32 := Scalar.addi v374 v373
  let v377 : Index := Scalar.indexCast v375
  ![v376.toNat, v377.toNat]
def k0_off958 (v378 : BitVec 32) : Fin 3 → Nat :=
  let c7_i32_187 : BitVec 32 := 7#32
  let v379 : BitVec 32 := Scalar.shrsi v378 c7_i32_187
  let v380 : Index := Scalar.indexCast v379
  let c0_188 : Index := 0#32
  let c0_189 : Index := 0#32
  ![v380.toNat, 0, 0]

def k0_chk340 (v378 : BitVec 32) : Prop :=
  (∀ a, (k0_off958 v378) a + S1x1x128.size a ≤ S79x1x128.size a)
theorem k0_off958_inb : ∀ (v378 : BitVec 32) (k0_hw340 : k0_chk340 v378), ∀ a, (k0_off958 v378) a + S1x1x128.size a ≤ S79x1x128.size a := fun v378 k0_hw340 => k0_hw340

def k0_off959 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_185 : BitVec 32 := 64#32
  let v372 : BitVec 32 := Scalar.muli arg15 c64_i32_185
  let c19_i32 : BitVec 32 := 19#32
  let v373 : BitVec 32 := Scalar.addi v372 c19_i32
  let v383 : Index := Scalar.indexCast v373
  let c0_190 : Index := 0#32
  let c0_191 : Index := 0#32
  ![v383.toNat, 0, 0]
def k0_off960 (i : grid0.Coords) (k0_t8 : Fin k0_t8_loop.trips) : Fin 2 → Nat :=
  let arg0 : BitVec 32 := BitVec.ofNat 32 (i 0).val
  let v391 : Index := Scalar.indexCast arg0
  let arg1 : BitVec 32 := BitVec.ofNat 32 (i 1).val
  let c256_i32_193 : BitVec 32 := 256#32
  let v389 : BitVec 32 := Scalar.muli arg1 c256_i32_193
  let c0_i32_24 : BitVec 32 := 0#32
  let c1_i32_26 : BitVec 32 := 1#32
  let arg15 : BitVec 32 := Scf.iv c0_i32_24 c1_i32_26 k0_t8
  let c64_i32_192 : BitVec 32 := 64#32
  let v387 : BitVec 32 := Scalar.muli arg15 c64_i32_192
  let c20_i32 : BitVec 32 := 20#32
  let v388 : BitVec 32 := Scalar.addi v387 c20_i32
  let v390 : BitVec 32 := Scalar.addi v389 v388
  let v392 : Index := Scalar.indexCast v390
  ![v391.toNat, v392.toNat]
def k0_off961 (v393 : BitVec 32) : Fin 3 → Nat :=
  let c7_i32_194 : BitVec 32 := 7#32
  let v394 : BitVec 32 := Scalar.shrsi v393 c7_i32_194
  let v395 : Index := Scalar.indexCast v394
  let c0_195 : Index := 0#32
  let c0_196 : Index := 0#32
  ![v395.toNat, 0, 0]

def k0_chk341 (v393 : BitVec 32) : Prop :=
  (∀ a, (k0_off961 v393) a + S1x1x128.size a ≤ S79x1x128.size a)
theorem k0_off961_inb : ∀ (v393 : BitVec 32) (k0_hw341 : k0_chk341 v393), ∀ a, (k0_off961 v393) a + S1x1x128.size a ≤ S79x1x128.size a := fun v393 k0_hw341 => k0_hw341

def k0_off962 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_192 : BitVec 32 := 64#32
  let v387 : BitVec 32 := Scalar.muli arg15 c64_i32_192
  let c20_i32 : BitVec 32 := 20#32
  let v388 : BitVec 32 := Scalar.addi v387 c20_i32
  let v398 : Index := Scalar.indexCast v388
  let c0_197 : Index := 0#32
  let c0_198 : Index := 0#32
  ![v398.toNat, 0, 0]
def k0_off963 (i : grid0.Coords) (k0_t8 : Fin k0_t8_loop.trips) : Fin 2 → Nat :=
  let arg0 : BitVec 32 := BitVec.ofNat 32 (i 0).val
  let v406 : Index := Scalar.indexCast arg0
  let arg1 : BitVec 32 := BitVec.ofNat 32 (i 1).val
  let c256_i32_200 : BitVec 32 := 256#32
  let v404 : BitVec 32 := Scalar.muli arg1 c256_i32_200
  let c0_i32_24 : BitVec 32 := 0#32
  let c1_i32_26 : BitVec 32 := 1#32
  let arg15 : BitVec 32 := Scf.iv c0_i32_24 c1_i32_26 k0_t8
  let c64_i32_199 : BitVec 32 := 64#32
  let v402 : BitVec 32 := Scalar.muli arg15 c64_i32_199
  let c21_i32 : BitVec 32 := 21#32
  let v403 : BitVec 32 := Scalar.addi v402 c21_i32
  let v405 : BitVec 32 := Scalar.addi v404 v403
  let v407 : Index := Scalar.indexCast v405
  ![v406.toNat, v407.toNat]
def k0_off964 (v408 : BitVec 32) : Fin 3 → Nat :=
  let c7_i32_201 : BitVec 32 := 7#32
  let v409 : BitVec 32 := Scalar.shrsi v408 c7_i32_201
  let v410 : Index := Scalar.indexCast v409
  let c0_202 : Index := 0#32
  let c0_203 : Index := 0#32
  ![v410.toNat, 0, 0]

def k0_chk342 (v408 : BitVec 32) : Prop :=
  (∀ a, (k0_off964 v408) a + S1x1x128.size a ≤ S79x1x128.size a)
theorem k0_off964_inb : ∀ (v408 : BitVec 32) (k0_hw342 : k0_chk342 v408), ∀ a, (k0_off964 v408) a + S1x1x128.size a ≤ S79x1x128.size a := fun v408 k0_hw342 => k0_hw342

def k0_off965 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_199 : BitVec 32 := 64#32
  let v402 : BitVec 32 := Scalar.muli arg15 c64_i32_199
  let c21_i32 : BitVec 32 := 21#32
  let v403 : BitVec 32 := Scalar.addi v402 c21_i32
  let v413 : Index := Scalar.indexCast v403
  let c0_204 : Index := 0#32
  let c0_205 : Index := 0#32
  ![v413.toNat, 0, 0]
def k0_off966 (i : grid0.Coords) (k0_t8 : Fin k0_t8_loop.trips) : Fin 2 → Nat :=
  let arg0 : BitVec 32 := BitVec.ofNat 32 (i 0).val
  let v421 : Index := Scalar.indexCast arg0
  let arg1 : BitVec 32 := BitVec.ofNat 32 (i 1).val
  let c256_i32_207 : BitVec 32 := 256#32
  let v419 : BitVec 32 := Scalar.muli arg1 c256_i32_207
  let c0_i32_24 : BitVec 32 := 0#32
  let c1_i32_26 : BitVec 32 := 1#32
  let arg15 : BitVec 32 := Scf.iv c0_i32_24 c1_i32_26 k0_t8
  let c64_i32_206 : BitVec 32 := 64#32
  let v417 : BitVec 32 := Scalar.muli arg15 c64_i32_206
  let c22_i32 : BitVec 32 := 22#32
  let v418 : BitVec 32 := Scalar.addi v417 c22_i32
  let v420 : BitVec 32 := Scalar.addi v419 v418
  let v422 : Index := Scalar.indexCast v420
  ![v421.toNat, v422.toNat]
def k0_off967 (v423 : BitVec 32) : Fin 3 → Nat :=
  let c7_i32_208 : BitVec 32 := 7#32
  let v424 : BitVec 32 := Scalar.shrsi v423 c7_i32_208
  let v425 : Index := Scalar.indexCast v424
  let c0_209 : Index := 0#32
  let c0_210 : Index := 0#32
  ![v425.toNat, 0, 0]

def k0_chk343 (v423 : BitVec 32) : Prop :=
  (∀ a, (k0_off967 v423) a + S1x1x128.size a ≤ S79x1x128.size a)
theorem k0_off967_inb : ∀ (v423 : BitVec 32) (k0_hw343 : k0_chk343 v423), ∀ a, (k0_off967 v423) a + S1x1x128.size a ≤ S79x1x128.size a := fun v423 k0_hw343 => k0_hw343

def k0_off968 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_206 : BitVec 32 := 64#32
  let v417 : BitVec 32 := Scalar.muli arg15 c64_i32_206
  let c22_i32 : BitVec 32 := 22#32
  let v418 : BitVec 32 := Scalar.addi v417 c22_i32
  let v428 : Index := Scalar.indexCast v418
  let c0_211 : Index := 0#32
  let c0_212 : Index := 0#32
  ![v428.toNat, 0, 0]
def k0_off969 (i : grid0.Coords) (k0_t8 : Fin k0_t8_loop.trips) : Fin 2 → Nat :=
  let arg0 : BitVec 32 := BitVec.ofNat 32 (i 0).val
  let v436 : Index := Scalar.indexCast arg0
  let arg1 : BitVec 32 := BitVec.ofNat 32 (i 1).val
  let c256_i32_214 : BitVec 32 := 256#32
  let v434 : BitVec 32 := Scalar.muli arg1 c256_i32_214
  let c0_i32_24 : BitVec 32 := 0#32
  let c1_i32_26 : BitVec 32 := 1#32
  let arg15 : BitVec 32 := Scf.iv c0_i32_24 c1_i32_26 k0_t8
  let c64_i32_213 : BitVec 32 := 64#32
  let v432 : BitVec 32 := Scalar.muli arg15 c64_i32_213
  let c23_i32 : BitVec 32 := 23#32
  let v433 : BitVec 32 := Scalar.addi v432 c23_i32
  let v435 : BitVec 32 := Scalar.addi v434 v433
  let v437 : Index := Scalar.indexCast v435
  ![v436.toNat, v437.toNat]
def k0_off970 (v438 : BitVec 32) : Fin 3 → Nat :=
  let c7_i32_215 : BitVec 32 := 7#32
  let v439 : BitVec 32 := Scalar.shrsi v438 c7_i32_215
  let v440 : Index := Scalar.indexCast v439
  let c0_216 : Index := 0#32
  let c0_217 : Index := 0#32
  ![v440.toNat, 0, 0]

def k0_chk344 (v438 : BitVec 32) : Prop :=
  (∀ a, (k0_off970 v438) a + S1x1x128.size a ≤ S79x1x128.size a)
theorem k0_off970_inb : ∀ (v438 : BitVec 32) (k0_hw344 : k0_chk344 v438), ∀ a, (k0_off970 v438) a + S1x1x128.size a ≤ S79x1x128.size a := fun v438 k0_hw344 => k0_hw344

def k0_off971 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_213 : BitVec 32 := 64#32
  let v432 : BitVec 32 := Scalar.muli arg15 c64_i32_213
  let c23_i32 : BitVec 32 := 23#32
  let v433 : BitVec 32 := Scalar.addi v432 c23_i32
  let v443 : Index := Scalar.indexCast v433
  let c0_218 : Index := 0#32
  let c0_219 : Index := 0#32
  ![v443.toNat, 0, 0]
def k0_off972 (i : grid0.Coords) (k0_t8 : Fin k0_t8_loop.trips) : Fin 2 → Nat :=
  let arg0 : BitVec 32 := BitVec.ofNat 32 (i 0).val
  let v451 : Index := Scalar.indexCast arg0
  let arg1 : BitVec 32 := BitVec.ofNat 32 (i 1).val
  let c256_i32_221 : BitVec 32 := 256#32
  let v449 : BitVec 32 := Scalar.muli arg1 c256_i32_221
  let c0_i32_24 : BitVec 32 := 0#32
  let c1_i32_26 : BitVec 32 := 1#32
  let arg15 : BitVec 32 := Scf.iv c0_i32_24 c1_i32_26 k0_t8
  let c64_i32_220 : BitVec 32 := 64#32
  let v447 : BitVec 32 := Scalar.muli arg15 c64_i32_220
  let c24_i32 : BitVec 32 := 24#32
  let v448 : BitVec 32 := Scalar.addi v447 c24_i32
  let v450 : BitVec 32 := Scalar.addi v449 v448
  let v452 : Index := Scalar.indexCast v450
  ![v451.toNat, v452.toNat]
def k0_off973 (v453 : BitVec 32) : Fin 3 → Nat :=
  let c7_i32_222 : BitVec 32 := 7#32
  let v454 : BitVec 32 := Scalar.shrsi v453 c7_i32_222
  let v455 : Index := Scalar.indexCast v454
  let c0_223 : Index := 0#32
  let c0_224 : Index := 0#32
  ![v455.toNat, 0, 0]

def k0_chk345 (v453 : BitVec 32) : Prop :=
  (∀ a, (k0_off973 v453) a + S1x1x128.size a ≤ S79x1x128.size a)
theorem k0_off973_inb : ∀ (v453 : BitVec 32) (k0_hw345 : k0_chk345 v453), ∀ a, (k0_off973 v453) a + S1x1x128.size a ≤ S79x1x128.size a := fun v453 k0_hw345 => k0_hw345

def k0_off974 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_220 : BitVec 32 := 64#32
  let v447 : BitVec 32 := Scalar.muli arg15 c64_i32_220
  let c24_i32 : BitVec 32 := 24#32
  let v448 : BitVec 32 := Scalar.addi v447 c24_i32
  let v458 : Index := Scalar.indexCast v448
  let c0_225 : Index := 0#32
  let c0_226 : Index := 0#32
  ![v458.toNat, 0, 0]
def k0_off975 (i : grid0.Coords) (k0_t8 : Fin k0_t8_loop.trips) : Fin 2 → Nat :=
  let arg0 : BitVec 32 := BitVec.ofNat 32 (i 0).val
  let v466 : Index := Scalar.indexCast arg0
  let arg1 : BitVec 32 := BitVec.ofNat 32 (i 1).val
  let c256_i32_228 : BitVec 32 := 256#32
  let v464 : BitVec 32 := Scalar.muli arg1 c256_i32_228
  let c0_i32_24 : BitVec 32 := 0#32
  let c1_i32_26 : BitVec 32 := 1#32
  let arg15 : BitVec 32 := Scf.iv c0_i32_24 c1_i32_26 k0_t8
  let c64_i32_227 : BitVec 32 := 64#32
  let v462 : BitVec 32 := Scalar.muli arg15 c64_i32_227
  let c25_i32 : BitVec 32 := 25#32
  let v463 : BitVec 32 := Scalar.addi v462 c25_i32
  let v465 : BitVec 32 := Scalar.addi v464 v463
  let v467 : Index := Scalar.indexCast v465
  ![v466.toNat, v467.toNat]
def k0_off976 (v468 : BitVec 32) : Fin 3 → Nat :=
  let c7_i32_229 : BitVec 32 := 7#32
  let v469 : BitVec 32 := Scalar.shrsi v468 c7_i32_229
  let v470 : Index := Scalar.indexCast v469
  let c0_230 : Index := 0#32
  let c0_231 : Index := 0#32
  ![v470.toNat, 0, 0]

def k0_chk346 (v468 : BitVec 32) : Prop :=
  (∀ a, (k0_off976 v468) a + S1x1x128.size a ≤ S79x1x128.size a)
theorem k0_off976_inb : ∀ (v468 : BitVec 32) (k0_hw346 : k0_chk346 v468), ∀ a, (k0_off976 v468) a + S1x1x128.size a ≤ S79x1x128.size a := fun v468 k0_hw346 => k0_hw346

def k0_off977 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_227 : BitVec 32 := 64#32
  let v462 : BitVec 32 := Scalar.muli arg15 c64_i32_227
  let c25_i32 : BitVec 32 := 25#32
  let v463 : BitVec 32 := Scalar.addi v462 c25_i32
  let v473 : Index := Scalar.indexCast v463
  let c0_232 : Index := 0#32
  let c0_233 : Index := 0#32
  ![v473.toNat, 0, 0]
def k0_off978 (i : grid0.Coords) (k0_t8 : Fin k0_t8_loop.trips) : Fin 2 → Nat :=
  let arg0 : BitVec 32 := BitVec.ofNat 32 (i 0).val
  let v481 : Index := Scalar.indexCast arg0
  let arg1 : BitVec 32 := BitVec.ofNat 32 (i 1).val
  let c256_i32_235 : BitVec 32 := 256#32
  let v479 : BitVec 32 := Scalar.muli arg1 c256_i32_235
  let c0_i32_24 : BitVec 32 := 0#32
  let c1_i32_26 : BitVec 32 := 1#32
  let arg15 : BitVec 32 := Scf.iv c0_i32_24 c1_i32_26 k0_t8
  let c64_i32_234 : BitVec 32 := 64#32
  let v477 : BitVec 32 := Scalar.muli arg15 c64_i32_234
  let c26_i32 : BitVec 32 := 26#32
  let v478 : BitVec 32 := Scalar.addi v477 c26_i32
  let v480 : BitVec 32 := Scalar.addi v479 v478
  let v482 : Index := Scalar.indexCast v480
  ![v481.toNat, v482.toNat]
def k0_off979 (v483 : BitVec 32) : Fin 3 → Nat :=
  let c7_i32_236 : BitVec 32 := 7#32
  let v484 : BitVec 32 := Scalar.shrsi v483 c7_i32_236
  let v485 : Index := Scalar.indexCast v484
  let c0_237 : Index := 0#32
  let c0_238 : Index := 0#32
  ![v485.toNat, 0, 0]

def k0_chk347 (v483 : BitVec 32) : Prop :=
  (∀ a, (k0_off979 v483) a + S1x1x128.size a ≤ S79x1x128.size a)
theorem k0_off979_inb : ∀ (v483 : BitVec 32) (k0_hw347 : k0_chk347 v483), ∀ a, (k0_off979 v483) a + S1x1x128.size a ≤ S79x1x128.size a := fun v483 k0_hw347 => k0_hw347

def k0_off980 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_234 : BitVec 32 := 64#32
  let v477 : BitVec 32 := Scalar.muli arg15 c64_i32_234
  let c26_i32 : BitVec 32 := 26#32
  let v478 : BitVec 32 := Scalar.addi v477 c26_i32
  let v488 : Index := Scalar.indexCast v478
  let c0_239 : Index := 0#32
  let c0_240 : Index := 0#32
  ![v488.toNat, 0, 0]
def k0_off981 (i : grid0.Coords) (k0_t8 : Fin k0_t8_loop.trips) : Fin 2 → Nat :=
  let arg0 : BitVec 32 := BitVec.ofNat 32 (i 0).val
  let v496 : Index := Scalar.indexCast arg0
  let arg1 : BitVec 32 := BitVec.ofNat 32 (i 1).val
  let c256_i32_242 : BitVec 32 := 256#32
  let v494 : BitVec 32 := Scalar.muli arg1 c256_i32_242
  let c0_i32_24 : BitVec 32 := 0#32
  let c1_i32_26 : BitVec 32 := 1#32
  let arg15 : BitVec 32 := Scf.iv c0_i32_24 c1_i32_26 k0_t8
  let c64_i32_241 : BitVec 32 := 64#32
  let v492 : BitVec 32 := Scalar.muli arg15 c64_i32_241
  let c27_i32 : BitVec 32 := 27#32
  let v493 : BitVec 32 := Scalar.addi v492 c27_i32
  let v495 : BitVec 32 := Scalar.addi v494 v493
  let v497 : Index := Scalar.indexCast v495
  ![v496.toNat, v497.toNat]
def k0_off982 (v498 : BitVec 32) : Fin 3 → Nat :=
  let c7_i32_243 : BitVec 32 := 7#32
  let v499 : BitVec 32 := Scalar.shrsi v498 c7_i32_243
  let v500 : Index := Scalar.indexCast v499
  let c0_244 : Index := 0#32
  let c0_245 : Index := 0#32
  ![v500.toNat, 0, 0]

def k0_chk348 (v498 : BitVec 32) : Prop :=
  (∀ a, (k0_off982 v498) a + S1x1x128.size a ≤ S79x1x128.size a)
theorem k0_off982_inb : ∀ (v498 : BitVec 32) (k0_hw348 : k0_chk348 v498), ∀ a, (k0_off982 v498) a + S1x1x128.size a ≤ S79x1x128.size a := fun v498 k0_hw348 => k0_hw348

def k0_off983 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_241 : BitVec 32 := 64#32
  let v492 : BitVec 32 := Scalar.muli arg15 c64_i32_241
  let c27_i32 : BitVec 32 := 27#32
  let v493 : BitVec 32 := Scalar.addi v492 c27_i32
  let v503 : Index := Scalar.indexCast v493
  let c0_246 : Index := 0#32
  let c0_247 : Index := 0#32
  ![v503.toNat, 0, 0]
def k0_off984 (i : grid0.Coords) (k0_t8 : Fin k0_t8_loop.trips) : Fin 2 → Nat :=
  let arg0 : BitVec 32 := BitVec.ofNat 32 (i 0).val
  let v511 : Index := Scalar.indexCast arg0
  let arg1 : BitVec 32 := BitVec.ofNat 32 (i 1).val
  let c256_i32_249 : BitVec 32 := 256#32
  let v509 : BitVec 32 := Scalar.muli arg1 c256_i32_249
  let c0_i32_24 : BitVec 32 := 0#32
  let c1_i32_26 : BitVec 32 := 1#32
  let arg15 : BitVec 32 := Scf.iv c0_i32_24 c1_i32_26 k0_t8
  let c64_i32_248 : BitVec 32 := 64#32
  let v507 : BitVec 32 := Scalar.muli arg15 c64_i32_248
  let c28_i32 : BitVec 32 := 28#32
  let v508 : BitVec 32 := Scalar.addi v507 c28_i32
  let v510 : BitVec 32 := Scalar.addi v509 v508
  let v512 : Index := Scalar.indexCast v510
  ![v511.toNat, v512.toNat]
def k0_off985 (v513 : BitVec 32) : Fin 3 → Nat :=
  let c7_i32_250 : BitVec 32 := 7#32
  let v514 : BitVec 32 := Scalar.shrsi v513 c7_i32_250
  let v515 : Index := Scalar.indexCast v514
  let c0_251 : Index := 0#32
  let c0_252 : Index := 0#32
  ![v515.toNat, 0, 0]

def k0_chk349 (v513 : BitVec 32) : Prop :=
  (∀ a, (k0_off985 v513) a + S1x1x128.size a ≤ S79x1x128.size a)
theorem k0_off985_inb : ∀ (v513 : BitVec 32) (k0_hw349 : k0_chk349 v513), ∀ a, (k0_off985 v513) a + S1x1x128.size a ≤ S79x1x128.size a := fun v513 k0_hw349 => k0_hw349

def k0_off986 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_248 : BitVec 32 := 64#32
  let v507 : BitVec 32 := Scalar.muli arg15 c64_i32_248
  let c28_i32 : BitVec 32 := 28#32
  let v508 : BitVec 32 := Scalar.addi v507 c28_i32
  let v518 : Index := Scalar.indexCast v508
  let c0_253 : Index := 0#32
  let c0_254 : Index := 0#32
  ![v518.toNat, 0, 0]
def k0_off987 (i : grid0.Coords) (k0_t8 : Fin k0_t8_loop.trips) : Fin 2 → Nat :=
  let arg0 : BitVec 32 := BitVec.ofNat 32 (i 0).val
  let v526 : Index := Scalar.indexCast arg0
  let arg1 : BitVec 32 := BitVec.ofNat 32 (i 1).val
  let c256_i32_256 : BitVec 32 := 256#32
  let v524 : BitVec 32 := Scalar.muli arg1 c256_i32_256
  let c0_i32_24 : BitVec 32 := 0#32
  let c1_i32_26 : BitVec 32 := 1#32
  let arg15 : BitVec 32 := Scf.iv c0_i32_24 c1_i32_26 k0_t8
  let c64_i32_255 : BitVec 32 := 64#32
  let v522 : BitVec 32 := Scalar.muli arg15 c64_i32_255
  let c29_i32 : BitVec 32 := 29#32
  let v523 : BitVec 32 := Scalar.addi v522 c29_i32
  let v525 : BitVec 32 := Scalar.addi v524 v523
  let v527 : Index := Scalar.indexCast v525
  ![v526.toNat, v527.toNat]
def k0_off988 (v528 : BitVec 32) : Fin 3 → Nat :=
  let c7_i32_257 : BitVec 32 := 7#32
  let v529 : BitVec 32 := Scalar.shrsi v528 c7_i32_257
  let v530 : Index := Scalar.indexCast v529
  let c0_258 : Index := 0#32
  let c0_259 : Index := 0#32
  ![v530.toNat, 0, 0]

def k0_chk350 (v528 : BitVec 32) : Prop :=
  (∀ a, (k0_off988 v528) a + S1x1x128.size a ≤ S79x1x128.size a)
theorem k0_off988_inb : ∀ (v528 : BitVec 32) (k0_hw350 : k0_chk350 v528), ∀ a, (k0_off988 v528) a + S1x1x128.size a ≤ S79x1x128.size a := fun v528 k0_hw350 => k0_hw350

def k0_off989 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_255 : BitVec 32 := 64#32
  let v522 : BitVec 32 := Scalar.muli arg15 c64_i32_255
  let c29_i32 : BitVec 32 := 29#32
  let v523 : BitVec 32 := Scalar.addi v522 c29_i32
  let v533 : Index := Scalar.indexCast v523
  let c0_260 : Index := 0#32
  let c0_261 : Index := 0#32
  ![v533.toNat, 0, 0]
def k0_off990 (i : grid0.Coords) (k0_t8 : Fin k0_t8_loop.trips) : Fin 2 → Nat :=
  let arg0 : BitVec 32 := BitVec.ofNat 32 (i 0).val
  let v541 : Index := Scalar.indexCast arg0
  let arg1 : BitVec 32 := BitVec.ofNat 32 (i 1).val
  let c256_i32_263 : BitVec 32 := 256#32
  let v539 : BitVec 32 := Scalar.muli arg1 c256_i32_263
  let c0_i32_24 : BitVec 32 := 0#32
  let c1_i32_26 : BitVec 32 := 1#32
  let arg15 : BitVec 32 := Scf.iv c0_i32_24 c1_i32_26 k0_t8
  let c64_i32_262 : BitVec 32 := 64#32
  let v537 : BitVec 32 := Scalar.muli arg15 c64_i32_262
  let c30_i32 : BitVec 32 := 30#32
  let v538 : BitVec 32 := Scalar.addi v537 c30_i32
  let v540 : BitVec 32 := Scalar.addi v539 v538
  let v542 : Index := Scalar.indexCast v540
  ![v541.toNat, v542.toNat]
def k0_off991 (v543 : BitVec 32) : Fin 3 → Nat :=
  let c7_i32_264 : BitVec 32 := 7#32
  let v544 : BitVec 32 := Scalar.shrsi v543 c7_i32_264
  let v545 : Index := Scalar.indexCast v544
  let c0_265 : Index := 0#32
  let c0_266 : Index := 0#32
  ![v545.toNat, 0, 0]

def k0_chk351 (v543 : BitVec 32) : Prop :=
  (∀ a, (k0_off991 v543) a + S1x1x128.size a ≤ S79x1x128.size a)
theorem k0_off991_inb : ∀ (v543 : BitVec 32) (k0_hw351 : k0_chk351 v543), ∀ a, (k0_off991 v543) a + S1x1x128.size a ≤ S79x1x128.size a := fun v543 k0_hw351 => k0_hw351

def k0_off992 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_262 : BitVec 32 := 64#32
  let v537 : BitVec 32 := Scalar.muli arg15 c64_i32_262
  let c30_i32 : BitVec 32 := 30#32
  let v538 : BitVec 32 := Scalar.addi v537 c30_i32
  let v548 : Index := Scalar.indexCast v538
  let c0_267 : Index := 0#32
  let c0_268 : Index := 0#32
  ![v548.toNat, 0, 0]
def k0_off993 (i : grid0.Coords) (k0_t8 : Fin k0_t8_loop.trips) : Fin 2 → Nat :=
  let arg0 : BitVec 32 := BitVec.ofNat 32 (i 0).val
  let v556 : Index := Scalar.indexCast arg0
  let arg1 : BitVec 32 := BitVec.ofNat 32 (i 1).val
  let c256_i32_270 : BitVec 32 := 256#32
  let v554 : BitVec 32 := Scalar.muli arg1 c256_i32_270
  let c0_i32_24 : BitVec 32 := 0#32
  let c1_i32_26 : BitVec 32 := 1#32
  let arg15 : BitVec 32 := Scf.iv c0_i32_24 c1_i32_26 k0_t8
  let c64_i32_269 : BitVec 32 := 64#32
  let v552 : BitVec 32 := Scalar.muli arg15 c64_i32_269
  let c31_i32 : BitVec 32 := 31#32
  let v553 : BitVec 32 := Scalar.addi v552 c31_i32
  let v555 : BitVec 32 := Scalar.addi v554 v553
  let v557 : Index := Scalar.indexCast v555
  ![v556.toNat, v557.toNat]
def k0_off994 (v558 : BitVec 32) : Fin 3 → Nat :=
  let c7_i32_271 : BitVec 32 := 7#32
  let v559 : BitVec 32 := Scalar.shrsi v558 c7_i32_271
  let v560 : Index := Scalar.indexCast v559
  let c0_272 : Index := 0#32
  let c0_273 : Index := 0#32
  ![v560.toNat, 0, 0]

def k0_chk352 (v558 : BitVec 32) : Prop :=
  (∀ a, (k0_off994 v558) a + S1x1x128.size a ≤ S79x1x128.size a)
theorem k0_off994_inb : ∀ (v558 : BitVec 32) (k0_hw352 : k0_chk352 v558), ∀ a, (k0_off994 v558) a + S1x1x128.size a ≤ S79x1x128.size a := fun v558 k0_hw352 => k0_hw352

def k0_off995 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_269 : BitVec 32 := 64#32
  let v552 : BitVec 32 := Scalar.muli arg15 c64_i32_269
  let c31_i32 : BitVec 32 := 31#32
  let v553 : BitVec 32 := Scalar.addi v552 c31_i32
  let v563 : Index := Scalar.indexCast v553
  let c0_274 : Index := 0#32
  let c0_275 : Index := 0#32
  ![v563.toNat, 0, 0]
def k0_off996 (i : grid0.Coords) (k0_t8 : Fin k0_t8_loop.trips) : Fin 2 → Nat :=
  let arg0 : BitVec 32 := BitVec.ofNat 32 (i 0).val
  let v571 : Index := Scalar.indexCast arg0
  let arg1 : BitVec 32 := BitVec.ofNat 32 (i 1).val
  let c256_i32_278 : BitVec 32 := 256#32
  let v569 : BitVec 32 := Scalar.muli arg1 c256_i32_278
  let c0_i32_24 : BitVec 32 := 0#32
  let c1_i32_26 : BitVec 32 := 1#32
  let arg15 : BitVec 32 := Scf.iv c0_i32_24 c1_i32_26 k0_t8
  let c64_i32_276 : BitVec 32 := 64#32
  let v567 : BitVec 32 := Scalar.muli arg15 c64_i32_276
  let c32_i32_277 : BitVec 32 := 32#32
  let v568 : BitVec 32 := Scalar.addi v567 c32_i32_277
  let v570 : BitVec 32 := Scalar.addi v569 v568
  let v572 : Index := Scalar.indexCast v570
  ![v571.toNat, v572.toNat]
def k0_off997 (v573 : BitVec 32) : Fin 3 → Nat :=
  let c7_i32_279 : BitVec 32 := 7#32
  let v574 : BitVec 32 := Scalar.shrsi v573 c7_i32_279
  let v575 : Index := Scalar.indexCast v574
  let c0_280 : Index := 0#32
  let c0_281 : Index := 0#32
  ![v575.toNat, 0, 0]

def k0_chk353 (v573 : BitVec 32) : Prop :=
  (∀ a, (k0_off997 v573) a + S1x1x128.size a ≤ S79x1x128.size a)
theorem k0_off997_inb : ∀ (v573 : BitVec 32) (k0_hw353 : k0_chk353 v573), ∀ a, (k0_off997 v573) a + S1x1x128.size a ≤ S79x1x128.size a := fun v573 k0_hw353 => k0_hw353

def k0_off998 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_276 : BitVec 32 := 64#32
  let v567 : BitVec 32 := Scalar.muli arg15 c64_i32_276
  let c32_i32_277 : BitVec 32 := 32#32
  let v568 : BitVec 32 := Scalar.addi v567 c32_i32_277
  let v578 : Index := Scalar.indexCast v568
  let c0_282 : Index := 0#32
  let c0_283 : Index := 0#32
  ![v578.toNat, 0, 0]
def k0_off999 (i : grid0.Coords) (k0_t8 : Fin k0_t8_loop.trips) : Fin 2 → Nat :=
  let arg0 : BitVec 32 := BitVec.ofNat 32 (i 0).val
  let v586 : Index := Scalar.indexCast arg0
  let arg1 : BitVec 32 := BitVec.ofNat 32 (i 1).val
  let c256_i32_285 : BitVec 32 := 256#32
  let v584 : BitVec 32 := Scalar.muli arg1 c256_i32_285
  let c0_i32_24 : BitVec 32 := 0#32
  let c1_i32_26 : BitVec 32 := 1#32
  let arg15 : BitVec 32 := Scf.iv c0_i32_24 c1_i32_26 k0_t8
  let c64_i32_284 : BitVec 32 := 64#32
  let v582 : BitVec 32 := Scalar.muli arg15 c64_i32_284
  let c33_i32 : BitVec 32 := 33#32
  let v583 : BitVec 32 := Scalar.addi v582 c33_i32
  let v585 : BitVec 32 := Scalar.addi v584 v583
  let v587 : Index := Scalar.indexCast v585
  ![v586.toNat, v587.toNat]
def k0_off1000 (v588 : BitVec 32) : Fin 3 → Nat :=
  let c7_i32_286 : BitVec 32 := 7#32
  let v589 : BitVec 32 := Scalar.shrsi v588 c7_i32_286
  let v590 : Index := Scalar.indexCast v589
  let c0_287 : Index := 0#32
  let c0_288 : Index := 0#32
  ![v590.toNat, 0, 0]

def k0_chk354 (v588 : BitVec 32) : Prop :=
  (∀ a, (k0_off1000 v588) a + S1x1x128.size a ≤ S79x1x128.size a)
theorem k0_off1000_inb : ∀ (v588 : BitVec 32) (k0_hw354 : k0_chk354 v588), ∀ a, (k0_off1000 v588) a + S1x1x128.size a ≤ S79x1x128.size a := fun v588 k0_hw354 => k0_hw354

def k0_off1001 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_284 : BitVec 32 := 64#32
  let v582 : BitVec 32 := Scalar.muli arg15 c64_i32_284
  let c33_i32 : BitVec 32 := 33#32
  let v583 : BitVec 32 := Scalar.addi v582 c33_i32
  let v593 : Index := Scalar.indexCast v583
  let c0_289 : Index := 0#32
  let c0_290 : Index := 0#32
  ![v593.toNat, 0, 0]
def k0_off1002 (i : grid0.Coords) (k0_t8 : Fin k0_t8_loop.trips) : Fin 2 → Nat :=
  let arg0 : BitVec 32 := BitVec.ofNat 32 (i 0).val
  let v601 : Index := Scalar.indexCast arg0
  let arg1 : BitVec 32 := BitVec.ofNat 32 (i 1).val
  let c256_i32_292 : BitVec 32 := 256#32
  let v599 : BitVec 32 := Scalar.muli arg1 c256_i32_292
  let c0_i32_24 : BitVec 32 := 0#32
  let c1_i32_26 : BitVec 32 := 1#32
  let arg15 : BitVec 32 := Scf.iv c0_i32_24 c1_i32_26 k0_t8
  let c64_i32_291 : BitVec 32 := 64#32
  let v597 : BitVec 32 := Scalar.muli arg15 c64_i32_291
  let c34_i32 : BitVec 32 := 34#32
  let v598 : BitVec 32 := Scalar.addi v597 c34_i32
  let v600 : BitVec 32 := Scalar.addi v599 v598
  let v602 : Index := Scalar.indexCast v600
  ![v601.toNat, v602.toNat]
def k0_off1003 (v603 : BitVec 32) : Fin 3 → Nat :=
  let c7_i32_293 : BitVec 32 := 7#32
  let v604 : BitVec 32 := Scalar.shrsi v603 c7_i32_293
  let v605 : Index := Scalar.indexCast v604
  let c0_294 : Index := 0#32
  let c0_295 : Index := 0#32
  ![v605.toNat, 0, 0]

def k0_chk355 (v603 : BitVec 32) : Prop :=
  (∀ a, (k0_off1003 v603) a + S1x1x128.size a ≤ S79x1x128.size a)
theorem k0_off1003_inb : ∀ (v603 : BitVec 32) (k0_hw355 : k0_chk355 v603), ∀ a, (k0_off1003 v603) a + S1x1x128.size a ≤ S79x1x128.size a := fun v603 k0_hw355 => k0_hw355

def k0_off1004 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_291 : BitVec 32 := 64#32
  let v597 : BitVec 32 := Scalar.muli arg15 c64_i32_291
  let c34_i32 : BitVec 32 := 34#32
  let v598 : BitVec 32 := Scalar.addi v597 c34_i32
  let v608 : Index := Scalar.indexCast v598
  let c0_296 : Index := 0#32
  let c0_297 : Index := 0#32
  ![v608.toNat, 0, 0]
def k0_off1005 (i : grid0.Coords) (k0_t8 : Fin k0_t8_loop.trips) : Fin 2 → Nat :=
  let arg0 : BitVec 32 := BitVec.ofNat 32 (i 0).val
  let v616 : Index := Scalar.indexCast arg0
  let arg1 : BitVec 32 := BitVec.ofNat 32 (i 1).val
  let c256_i32_299 : BitVec 32 := 256#32
  let v614 : BitVec 32 := Scalar.muli arg1 c256_i32_299
  let c0_i32_24 : BitVec 32 := 0#32
  let c1_i32_26 : BitVec 32 := 1#32
  let arg15 : BitVec 32 := Scf.iv c0_i32_24 c1_i32_26 k0_t8
  let c64_i32_298 : BitVec 32 := 64#32
  let v612 : BitVec 32 := Scalar.muli arg15 c64_i32_298
  let c35_i32 : BitVec 32 := 35#32
  let v613 : BitVec 32 := Scalar.addi v612 c35_i32
  let v615 : BitVec 32 := Scalar.addi v614 v613
  let v617 : Index := Scalar.indexCast v615
  ![v616.toNat, v617.toNat]
def k0_off1006 (v618 : BitVec 32) : Fin 3 → Nat :=
  let c7_i32_300 : BitVec 32 := 7#32
  let v619 : BitVec 32 := Scalar.shrsi v618 c7_i32_300
  let v620 : Index := Scalar.indexCast v619
  let c0_301 : Index := 0#32
  let c0_302 : Index := 0#32
  ![v620.toNat, 0, 0]

def k0_chk356 (v618 : BitVec 32) : Prop :=
  (∀ a, (k0_off1006 v618) a + S1x1x128.size a ≤ S79x1x128.size a)
theorem k0_off1006_inb : ∀ (v618 : BitVec 32) (k0_hw356 : k0_chk356 v618), ∀ a, (k0_off1006 v618) a + S1x1x128.size a ≤ S79x1x128.size a := fun v618 k0_hw356 => k0_hw356

def k0_off1007 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_298 : BitVec 32 := 64#32
  let v612 : BitVec 32 := Scalar.muli arg15 c64_i32_298
  let c35_i32 : BitVec 32 := 35#32
  let v613 : BitVec 32 := Scalar.addi v612 c35_i32
  let v623 : Index := Scalar.indexCast v613
  let c0_303 : Index := 0#32
  let c0_304 : Index := 0#32
  ![v623.toNat, 0, 0]
def k0_off1008 (i : grid0.Coords) (k0_t8 : Fin k0_t8_loop.trips) : Fin 2 → Nat :=
  let arg0 : BitVec 32 := BitVec.ofNat 32 (i 0).val
  let v631 : Index := Scalar.indexCast arg0
  let arg1 : BitVec 32 := BitVec.ofNat 32 (i 1).val
  let c256_i32_306 : BitVec 32 := 256#32
  let v629 : BitVec 32 := Scalar.muli arg1 c256_i32_306
  let c0_i32_24 : BitVec 32 := 0#32
  let c1_i32_26 : BitVec 32 := 1#32
  let arg15 : BitVec 32 := Scf.iv c0_i32_24 c1_i32_26 k0_t8
  let c64_i32_305 : BitVec 32 := 64#32
  let v627 : BitVec 32 := Scalar.muli arg15 c64_i32_305
  let c36_i32 : BitVec 32 := 36#32
  let v628 : BitVec 32 := Scalar.addi v627 c36_i32
  let v630 : BitVec 32 := Scalar.addi v629 v628
  let v632 : Index := Scalar.indexCast v630
  ![v631.toNat, v632.toNat]
def k0_off1009 (v633 : BitVec 32) : Fin 3 → Nat :=
  let c7_i32_307 : BitVec 32 := 7#32
  let v634 : BitVec 32 := Scalar.shrsi v633 c7_i32_307
  let v635 : Index := Scalar.indexCast v634
  let c0_308 : Index := 0#32
  let c0_309 : Index := 0#32
  ![v635.toNat, 0, 0]

def k0_chk357 (v633 : BitVec 32) : Prop :=
  (∀ a, (k0_off1009 v633) a + S1x1x128.size a ≤ S79x1x128.size a)
theorem k0_off1009_inb : ∀ (v633 : BitVec 32) (k0_hw357 : k0_chk357 v633), ∀ a, (k0_off1009 v633) a + S1x1x128.size a ≤ S79x1x128.size a := fun v633 k0_hw357 => k0_hw357

def k0_off1010 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_305 : BitVec 32 := 64#32
  let v627 : BitVec 32 := Scalar.muli arg15 c64_i32_305
  let c36_i32 : BitVec 32 := 36#32
  let v628 : BitVec 32 := Scalar.addi v627 c36_i32
  let v638 : Index := Scalar.indexCast v628
  let c0_310 : Index := 0#32
  let c0_311 : Index := 0#32
  ![v638.toNat, 0, 0]
def k0_off1011 (i : grid0.Coords) (k0_t8 : Fin k0_t8_loop.trips) : Fin 2 → Nat :=
  let arg0 : BitVec 32 := BitVec.ofNat 32 (i 0).val
  let v646 : Index := Scalar.indexCast arg0
  let arg1 : BitVec 32 := BitVec.ofNat 32 (i 1).val
  let c256_i32_313 : BitVec 32 := 256#32
  let v644 : BitVec 32 := Scalar.muli arg1 c256_i32_313
  let c0_i32_24 : BitVec 32 := 0#32
  let c1_i32_26 : BitVec 32 := 1#32
  let arg15 : BitVec 32 := Scf.iv c0_i32_24 c1_i32_26 k0_t8
  let c64_i32_312 : BitVec 32 := 64#32
  let v642 : BitVec 32 := Scalar.muli arg15 c64_i32_312
  let c37_i32 : BitVec 32 := 37#32
  let v643 : BitVec 32 := Scalar.addi v642 c37_i32
  let v645 : BitVec 32 := Scalar.addi v644 v643
  let v647 : Index := Scalar.indexCast v645
  ![v646.toNat, v647.toNat]
def k0_off1012 (v648 : BitVec 32) : Fin 3 → Nat :=
  let c7_i32_314 : BitVec 32 := 7#32
  let v649 : BitVec 32 := Scalar.shrsi v648 c7_i32_314
  let v650 : Index := Scalar.indexCast v649
  let c0_315 : Index := 0#32
  let c0_316 : Index := 0#32
  ![v650.toNat, 0, 0]

def k0_chk358 (v648 : BitVec 32) : Prop :=
  (∀ a, (k0_off1012 v648) a + S1x1x128.size a ≤ S79x1x128.size a)
theorem k0_off1012_inb : ∀ (v648 : BitVec 32) (k0_hw358 : k0_chk358 v648), ∀ a, (k0_off1012 v648) a + S1x1x128.size a ≤ S79x1x128.size a := fun v648 k0_hw358 => k0_hw358

def k0_off1013 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_312 : BitVec 32 := 64#32
  let v642 : BitVec 32 := Scalar.muli arg15 c64_i32_312
  let c37_i32 : BitVec 32 := 37#32
  let v643 : BitVec 32 := Scalar.addi v642 c37_i32
  let v653 : Index := Scalar.indexCast v643
  let c0_317 : Index := 0#32
  let c0_318 : Index := 0#32
  ![v653.toNat, 0, 0]
def k0_off1014 (i : grid0.Coords) (k0_t8 : Fin k0_t8_loop.trips) : Fin 2 → Nat :=
  let arg0 : BitVec 32 := BitVec.ofNat 32 (i 0).val
  let v661 : Index := Scalar.indexCast arg0
  let arg1 : BitVec 32 := BitVec.ofNat 32 (i 1).val
  let c256_i32_320 : BitVec 32 := 256#32
  let v659 : BitVec 32 := Scalar.muli arg1 c256_i32_320
  let c0_i32_24 : BitVec 32 := 0#32
  let c1_i32_26 : BitVec 32 := 1#32
  let arg15 : BitVec 32 := Scf.iv c0_i32_24 c1_i32_26 k0_t8
  let c64_i32_319 : BitVec 32 := 64#32
  let v657 : BitVec 32 := Scalar.muli arg15 c64_i32_319
  let c38_i32 : BitVec 32 := 38#32
  let v658 : BitVec 32 := Scalar.addi v657 c38_i32
  let v660 : BitVec 32 := Scalar.addi v659 v658
  let v662 : Index := Scalar.indexCast v660
  ![v661.toNat, v662.toNat]
def k0_off1015 (v663 : BitVec 32) : Fin 3 → Nat :=
  let c7_i32_321 : BitVec 32 := 7#32
  let v664 : BitVec 32 := Scalar.shrsi v663 c7_i32_321
  let v665 : Index := Scalar.indexCast v664
  let c0_322 : Index := 0#32
  let c0_323 : Index := 0#32
  ![v665.toNat, 0, 0]

def k0_chk359 (v663 : BitVec 32) : Prop :=
  (∀ a, (k0_off1015 v663) a + S1x1x128.size a ≤ S79x1x128.size a)
theorem k0_off1015_inb : ∀ (v663 : BitVec 32) (k0_hw359 : k0_chk359 v663), ∀ a, (k0_off1015 v663) a + S1x1x128.size a ≤ S79x1x128.size a := fun v663 k0_hw359 => k0_hw359

def k0_off1016 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_319 : BitVec 32 := 64#32
  let v657 : BitVec 32 := Scalar.muli arg15 c64_i32_319
  let c38_i32 : BitVec 32 := 38#32
  let v658 : BitVec 32 := Scalar.addi v657 c38_i32
  let v668 : Index := Scalar.indexCast v658
  let c0_324 : Index := 0#32
  let c0_325 : Index := 0#32
  ![v668.toNat, 0, 0]
def k0_off1017 (i : grid0.Coords) (k0_t8 : Fin k0_t8_loop.trips) : Fin 2 → Nat :=
  let arg0 : BitVec 32 := BitVec.ofNat 32 (i 0).val
  let v676 : Index := Scalar.indexCast arg0
  let arg1 : BitVec 32 := BitVec.ofNat 32 (i 1).val
  let c256_i32_327 : BitVec 32 := 256#32
  let v674 : BitVec 32 := Scalar.muli arg1 c256_i32_327
  let c0_i32_24 : BitVec 32 := 0#32
  let c1_i32_26 : BitVec 32 := 1#32
  let arg15 : BitVec 32 := Scf.iv c0_i32_24 c1_i32_26 k0_t8
  let c64_i32_326 : BitVec 32 := 64#32
  let v672 : BitVec 32 := Scalar.muli arg15 c64_i32_326
  let c39_i32 : BitVec 32 := 39#32
  let v673 : BitVec 32 := Scalar.addi v672 c39_i32
  let v675 : BitVec 32 := Scalar.addi v674 v673
  let v677 : Index := Scalar.indexCast v675
  ![v676.toNat, v677.toNat]
def k0_off1018 (v678 : BitVec 32) : Fin 3 → Nat :=
  let c7_i32_328 : BitVec 32 := 7#32
  let v679 : BitVec 32 := Scalar.shrsi v678 c7_i32_328
  let v680 : Index := Scalar.indexCast v679
  let c0_329 : Index := 0#32
  let c0_330 : Index := 0#32
  ![v680.toNat, 0, 0]

def k0_chk360 (v678 : BitVec 32) : Prop :=
  (∀ a, (k0_off1018 v678) a + S1x1x128.size a ≤ S79x1x128.size a)
theorem k0_off1018_inb : ∀ (v678 : BitVec 32) (k0_hw360 : k0_chk360 v678), ∀ a, (k0_off1018 v678) a + S1x1x128.size a ≤ S79x1x128.size a := fun v678 k0_hw360 => k0_hw360

def k0_off1019 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_326 : BitVec 32 := 64#32
  let v672 : BitVec 32 := Scalar.muli arg15 c64_i32_326
  let c39_i32 : BitVec 32 := 39#32
  let v673 : BitVec 32 := Scalar.addi v672 c39_i32
  let v683 : Index := Scalar.indexCast v673
  let c0_331 : Index := 0#32
  let c0_332 : Index := 0#32
  ![v683.toNat, 0, 0]
def k0_off1020 (i : grid0.Coords) (k0_t8 : Fin k0_t8_loop.trips) : Fin 2 → Nat :=
  let arg0 : BitVec 32 := BitVec.ofNat 32 (i 0).val
  let v691 : Index := Scalar.indexCast arg0
  let arg1 : BitVec 32 := BitVec.ofNat 32 (i 1).val
  let c256_i32_334 : BitVec 32 := 256#32
  let v689 : BitVec 32 := Scalar.muli arg1 c256_i32_334
  let c0_i32_24 : BitVec 32 := 0#32
  let c1_i32_26 : BitVec 32 := 1#32
  let arg15 : BitVec 32 := Scf.iv c0_i32_24 c1_i32_26 k0_t8
  let c64_i32_333 : BitVec 32 := 64#32
  let v687 : BitVec 32 := Scalar.muli arg15 c64_i32_333
  let c40_i32 : BitVec 32 := 40#32
  let v688 : BitVec 32 := Scalar.addi v687 c40_i32
  let v690 : BitVec 32 := Scalar.addi v689 v688
  let v692 : Index := Scalar.indexCast v690
  ![v691.toNat, v692.toNat]
def k0_off1021 (v693 : BitVec 32) : Fin 3 → Nat :=
  let c7_i32_335 : BitVec 32 := 7#32
  let v694 : BitVec 32 := Scalar.shrsi v693 c7_i32_335
  let v695 : Index := Scalar.indexCast v694
  let c0_336 : Index := 0#32
  let c0_337 : Index := 0#32
  ![v695.toNat, 0, 0]

def k0_chk361 (v693 : BitVec 32) : Prop :=
  (∀ a, (k0_off1021 v693) a + S1x1x128.size a ≤ S79x1x128.size a)
theorem k0_off1021_inb : ∀ (v693 : BitVec 32) (k0_hw361 : k0_chk361 v693), ∀ a, (k0_off1021 v693) a + S1x1x128.size a ≤ S79x1x128.size a := fun v693 k0_hw361 => k0_hw361

def k0_off1022 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_333 : BitVec 32 := 64#32
  let v687 : BitVec 32 := Scalar.muli arg15 c64_i32_333
  let c40_i32 : BitVec 32 := 40#32
  let v688 : BitVec 32 := Scalar.addi v687 c40_i32
  let v698 : Index := Scalar.indexCast v688
  let c0_338 : Index := 0#32
  let c0_339 : Index := 0#32
  ![v698.toNat, 0, 0]
def k0_off1023 (i : grid0.Coords) (k0_t8 : Fin k0_t8_loop.trips) : Fin 2 → Nat :=
  let arg0 : BitVec 32 := BitVec.ofNat 32 (i 0).val
  let v706 : Index := Scalar.indexCast arg0
  let arg1 : BitVec 32 := BitVec.ofNat 32 (i 1).val
  let c256_i32_341 : BitVec 32 := 256#32
  let v704 : BitVec 32 := Scalar.muli arg1 c256_i32_341
  let c0_i32_24 : BitVec 32 := 0#32
  let c1_i32_26 : BitVec 32 := 1#32
  let arg15 : BitVec 32 := Scf.iv c0_i32_24 c1_i32_26 k0_t8
  let c64_i32_340 : BitVec 32 := 64#32
  let v702 : BitVec 32 := Scalar.muli arg15 c64_i32_340
  let c41_i32 : BitVec 32 := 41#32
  let v703 : BitVec 32 := Scalar.addi v702 c41_i32
  let v705 : BitVec 32 := Scalar.addi v704 v703
  let v707 : Index := Scalar.indexCast v705
  ![v706.toNat, v707.toNat]
def k0_off1024 (v708 : BitVec 32) : Fin 3 → Nat :=
  let c7_i32_342 : BitVec 32 := 7#32
  let v709 : BitVec 32 := Scalar.shrsi v708 c7_i32_342
  let v710 : Index := Scalar.indexCast v709
  let c0_343 : Index := 0#32
  let c0_344 : Index := 0#32
  ![v710.toNat, 0, 0]

def k0_chk362 (v708 : BitVec 32) : Prop :=
  (∀ a, (k0_off1024 v708) a + S1x1x128.size a ≤ S79x1x128.size a)
theorem k0_off1024_inb : ∀ (v708 : BitVec 32) (k0_hw362 : k0_chk362 v708), ∀ a, (k0_off1024 v708) a + S1x1x128.size a ≤ S79x1x128.size a := fun v708 k0_hw362 => k0_hw362

def k0_off1025 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_340 : BitVec 32 := 64#32
  let v702 : BitVec 32 := Scalar.muli arg15 c64_i32_340
  let c41_i32 : BitVec 32 := 41#32
  let v703 : BitVec 32 := Scalar.addi v702 c41_i32
  let v713 : Index := Scalar.indexCast v703
  let c0_345 : Index := 0#32
  let c0_346 : Index := 0#32
  ![v713.toNat, 0, 0]
def k0_off1026 (i : grid0.Coords) (k0_t8 : Fin k0_t8_loop.trips) : Fin 2 → Nat :=
  let arg0 : BitVec 32 := BitVec.ofNat 32 (i 0).val
  let v721 : Index := Scalar.indexCast arg0
  let arg1 : BitVec 32 := BitVec.ofNat 32 (i 1).val
  let c256_i32_348 : BitVec 32 := 256#32
  let v719 : BitVec 32 := Scalar.muli arg1 c256_i32_348
  let c0_i32_24 : BitVec 32 := 0#32
  let c1_i32_26 : BitVec 32 := 1#32
  let arg15 : BitVec 32 := Scf.iv c0_i32_24 c1_i32_26 k0_t8
  let c64_i32_347 : BitVec 32 := 64#32
  let v717 : BitVec 32 := Scalar.muli arg15 c64_i32_347
  let c42_i32 : BitVec 32 := 42#32
  let v718 : BitVec 32 := Scalar.addi v717 c42_i32
  let v720 : BitVec 32 := Scalar.addi v719 v718
  let v722 : Index := Scalar.indexCast v720
  ![v721.toNat, v722.toNat]
def k0_off1027 (v723 : BitVec 32) : Fin 3 → Nat :=
  let c7_i32_349 : BitVec 32 := 7#32
  let v724 : BitVec 32 := Scalar.shrsi v723 c7_i32_349
  let v725 : Index := Scalar.indexCast v724
  let c0_350 : Index := 0#32
  let c0_351 : Index := 0#32
  ![v725.toNat, 0, 0]

def k0_chk363 (v723 : BitVec 32) : Prop :=
  (∀ a, (k0_off1027 v723) a + S1x1x128.size a ≤ S79x1x128.size a)
theorem k0_off1027_inb : ∀ (v723 : BitVec 32) (k0_hw363 : k0_chk363 v723), ∀ a, (k0_off1027 v723) a + S1x1x128.size a ≤ S79x1x128.size a := fun v723 k0_hw363 => k0_hw363

def k0_off1028 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_347 : BitVec 32 := 64#32
  let v717 : BitVec 32 := Scalar.muli arg15 c64_i32_347
  let c42_i32 : BitVec 32 := 42#32
  let v718 : BitVec 32 := Scalar.addi v717 c42_i32
  let v728 : Index := Scalar.indexCast v718
  let c0_352 : Index := 0#32
  let c0_353 : Index := 0#32
  ![v728.toNat, 0, 0]
def k0_off1029 (i : grid0.Coords) (k0_t8 : Fin k0_t8_loop.trips) : Fin 2 → Nat :=
  let arg0 : BitVec 32 := BitVec.ofNat 32 (i 0).val
  let v736 : Index := Scalar.indexCast arg0
  let arg1 : BitVec 32 := BitVec.ofNat 32 (i 1).val
  let c256_i32_355 : BitVec 32 := 256#32
  let v734 : BitVec 32 := Scalar.muli arg1 c256_i32_355
  let c0_i32_24 : BitVec 32 := 0#32
  let c1_i32_26 : BitVec 32 := 1#32
  let arg15 : BitVec 32 := Scf.iv c0_i32_24 c1_i32_26 k0_t8
  let c64_i32_354 : BitVec 32 := 64#32
  let v732 : BitVec 32 := Scalar.muli arg15 c64_i32_354
  let c43_i32 : BitVec 32 := 43#32
  let v733 : BitVec 32 := Scalar.addi v732 c43_i32
  let v735 : BitVec 32 := Scalar.addi v734 v733
  let v737 : Index := Scalar.indexCast v735
  ![v736.toNat, v737.toNat]
def k0_off1030 (v738 : BitVec 32) : Fin 3 → Nat :=
  let c7_i32_356 : BitVec 32 := 7#32
  let v739 : BitVec 32 := Scalar.shrsi v738 c7_i32_356
  let v740 : Index := Scalar.indexCast v739
  let c0_357 : Index := 0#32
  let c0_358 : Index := 0#32
  ![v740.toNat, 0, 0]

def k0_chk364 (v738 : BitVec 32) : Prop :=
  (∀ a, (k0_off1030 v738) a + S1x1x128.size a ≤ S79x1x128.size a)
theorem k0_off1030_inb : ∀ (v738 : BitVec 32) (k0_hw364 : k0_chk364 v738), ∀ a, (k0_off1030 v738) a + S1x1x128.size a ≤ S79x1x128.size a := fun v738 k0_hw364 => k0_hw364

def k0_off1031 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_354 : BitVec 32 := 64#32
  let v732 : BitVec 32 := Scalar.muli arg15 c64_i32_354
  let c43_i32 : BitVec 32 := 43#32
  let v733 : BitVec 32 := Scalar.addi v732 c43_i32
  let v743 : Index := Scalar.indexCast v733
  let c0_359 : Index := 0#32
  let c0_360 : Index := 0#32
  ![v743.toNat, 0, 0]
def k0_off1032 (i : grid0.Coords) (k0_t8 : Fin k0_t8_loop.trips) : Fin 2 → Nat :=
  let arg0 : BitVec 32 := BitVec.ofNat 32 (i 0).val
  let v751 : Index := Scalar.indexCast arg0
  let arg1 : BitVec 32 := BitVec.ofNat 32 (i 1).val
  let c256_i32_362 : BitVec 32 := 256#32
  let v749 : BitVec 32 := Scalar.muli arg1 c256_i32_362
  let c0_i32_24 : BitVec 32 := 0#32
  let c1_i32_26 : BitVec 32 := 1#32
  let arg15 : BitVec 32 := Scf.iv c0_i32_24 c1_i32_26 k0_t8
  let c64_i32_361 : BitVec 32 := 64#32
  let v747 : BitVec 32 := Scalar.muli arg15 c64_i32_361
  let c44_i32 : BitVec 32 := 44#32
  let v748 : BitVec 32 := Scalar.addi v747 c44_i32
  let v750 : BitVec 32 := Scalar.addi v749 v748
  let v752 : Index := Scalar.indexCast v750
  ![v751.toNat, v752.toNat]
def k0_off1033 (v753 : BitVec 32) : Fin 3 → Nat :=
  let c7_i32_363 : BitVec 32 := 7#32
  let v754 : BitVec 32 := Scalar.shrsi v753 c7_i32_363
  let v755 : Index := Scalar.indexCast v754
  let c0_364 : Index := 0#32
  let c0_365 : Index := 0#32
  ![v755.toNat, 0, 0]

def k0_chk365 (v753 : BitVec 32) : Prop :=
  (∀ a, (k0_off1033 v753) a + S1x1x128.size a ≤ S79x1x128.size a)
theorem k0_off1033_inb : ∀ (v753 : BitVec 32) (k0_hw365 : k0_chk365 v753), ∀ a, (k0_off1033 v753) a + S1x1x128.size a ≤ S79x1x128.size a := fun v753 k0_hw365 => k0_hw365

def k0_off1034 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_361 : BitVec 32 := 64#32
  let v747 : BitVec 32 := Scalar.muli arg15 c64_i32_361
  let c44_i32 : BitVec 32 := 44#32
  let v748 : BitVec 32 := Scalar.addi v747 c44_i32
  let v758 : Index := Scalar.indexCast v748
  let c0_366 : Index := 0#32
  let c0_367 : Index := 0#32
  ![v758.toNat, 0, 0]
def k0_off1035 (i : grid0.Coords) (k0_t8 : Fin k0_t8_loop.trips) : Fin 2 → Nat :=
  let arg0 : BitVec 32 := BitVec.ofNat 32 (i 0).val
  let v766 : Index := Scalar.indexCast arg0
  let arg1 : BitVec 32 := BitVec.ofNat 32 (i 1).val
  let c256_i32_369 : BitVec 32 := 256#32
  let v764 : BitVec 32 := Scalar.muli arg1 c256_i32_369
  let c0_i32_24 : BitVec 32 := 0#32
  let c1_i32_26 : BitVec 32 := 1#32
  let arg15 : BitVec 32 := Scf.iv c0_i32_24 c1_i32_26 k0_t8
  let c64_i32_368 : BitVec 32 := 64#32
  let v762 : BitVec 32 := Scalar.muli arg15 c64_i32_368
  let c45_i32 : BitVec 32 := 45#32
  let v763 : BitVec 32 := Scalar.addi v762 c45_i32
  let v765 : BitVec 32 := Scalar.addi v764 v763
  let v767 : Index := Scalar.indexCast v765
  ![v766.toNat, v767.toNat]
def k0_off1036 (v768 : BitVec 32) : Fin 3 → Nat :=
  let c7_i32_370 : BitVec 32 := 7#32
  let v769 : BitVec 32 := Scalar.shrsi v768 c7_i32_370
  let v770 : Index := Scalar.indexCast v769
  let c0_371 : Index := 0#32
  let c0_372 : Index := 0#32
  ![v770.toNat, 0, 0]

def k0_chk366 (v768 : BitVec 32) : Prop :=
  (∀ a, (k0_off1036 v768) a + S1x1x128.size a ≤ S79x1x128.size a)
theorem k0_off1036_inb : ∀ (v768 : BitVec 32) (k0_hw366 : k0_chk366 v768), ∀ a, (k0_off1036 v768) a + S1x1x128.size a ≤ S79x1x128.size a := fun v768 k0_hw366 => k0_hw366

def k0_off1037 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_368 : BitVec 32 := 64#32
  let v762 : BitVec 32 := Scalar.muli arg15 c64_i32_368
  let c45_i32 : BitVec 32 := 45#32
  let v763 : BitVec 32 := Scalar.addi v762 c45_i32
  let v773 : Index := Scalar.indexCast v763
  let c0_373 : Index := 0#32
  let c0_374 : Index := 0#32
  ![v773.toNat, 0, 0]
def k0_off1038 (i : grid0.Coords) (k0_t8 : Fin k0_t8_loop.trips) : Fin 2 → Nat :=
  let arg0 : BitVec 32 := BitVec.ofNat 32 (i 0).val
  let v781 : Index := Scalar.indexCast arg0
  let arg1 : BitVec 32 := BitVec.ofNat 32 (i 1).val
  let c256_i32_376 : BitVec 32 := 256#32
  let v779 : BitVec 32 := Scalar.muli arg1 c256_i32_376
  let c0_i32_24 : BitVec 32 := 0#32
  let c1_i32_26 : BitVec 32 := 1#32
  let arg15 : BitVec 32 := Scf.iv c0_i32_24 c1_i32_26 k0_t8
  let c64_i32_375 : BitVec 32 := 64#32
  let v777 : BitVec 32 := Scalar.muli arg15 c64_i32_375
  let c46_i32 : BitVec 32 := 46#32
  let v778 : BitVec 32 := Scalar.addi v777 c46_i32
  let v780 : BitVec 32 := Scalar.addi v779 v778
  let v782 : Index := Scalar.indexCast v780
  ![v781.toNat, v782.toNat]
def k0_off1039 (v783 : BitVec 32) : Fin 3 → Nat :=
  let c7_i32_377 : BitVec 32 := 7#32
  let v784 : BitVec 32 := Scalar.shrsi v783 c7_i32_377
  let v785 : Index := Scalar.indexCast v784
  let c0_378 : Index := 0#32
  let c0_379 : Index := 0#32
  ![v785.toNat, 0, 0]

def k0_chk367 (v783 : BitVec 32) : Prop :=
  (∀ a, (k0_off1039 v783) a + S1x1x128.size a ≤ S79x1x128.size a)
theorem k0_off1039_inb : ∀ (v783 : BitVec 32) (k0_hw367 : k0_chk367 v783), ∀ a, (k0_off1039 v783) a + S1x1x128.size a ≤ S79x1x128.size a := fun v783 k0_hw367 => k0_hw367

def k0_off1040 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_375 : BitVec 32 := 64#32
  let v777 : BitVec 32 := Scalar.muli arg15 c64_i32_375
  let c46_i32 : BitVec 32 := 46#32
  let v778 : BitVec 32 := Scalar.addi v777 c46_i32
  let v788 : Index := Scalar.indexCast v778
  let c0_380 : Index := 0#32
  let c0_381 : Index := 0#32
  ![v788.toNat, 0, 0]
def k0_off1041 (i : grid0.Coords) (k0_t8 : Fin k0_t8_loop.trips) : Fin 2 → Nat :=
  let arg0 : BitVec 32 := BitVec.ofNat 32 (i 0).val
  let v796 : Index := Scalar.indexCast arg0
  let arg1 : BitVec 32 := BitVec.ofNat 32 (i 1).val
  let c256_i32_383 : BitVec 32 := 256#32
  let v794 : BitVec 32 := Scalar.muli arg1 c256_i32_383
  let c0_i32_24 : BitVec 32 := 0#32
  let c1_i32_26 : BitVec 32 := 1#32
  let arg15 : BitVec 32 := Scf.iv c0_i32_24 c1_i32_26 k0_t8
  let c64_i32_382 : BitVec 32 := 64#32
  let v792 : BitVec 32 := Scalar.muli arg15 c64_i32_382
  let c47_i32 : BitVec 32 := 47#32
  let v793 : BitVec 32 := Scalar.addi v792 c47_i32
  let v795 : BitVec 32 := Scalar.addi v794 v793
  let v797 : Index := Scalar.indexCast v795
  ![v796.toNat, v797.toNat]
def k0_off1042 (v798 : BitVec 32) : Fin 3 → Nat :=
  let c7_i32_384 : BitVec 32 := 7#32
  let v799 : BitVec 32 := Scalar.shrsi v798 c7_i32_384
  let v800 : Index := Scalar.indexCast v799
  let c0_385 : Index := 0#32
  let c0_386 : Index := 0#32
  ![v800.toNat, 0, 0]

def k0_chk368 (v798 : BitVec 32) : Prop :=
  (∀ a, (k0_off1042 v798) a + S1x1x128.size a ≤ S79x1x128.size a)
theorem k0_off1042_inb : ∀ (v798 : BitVec 32) (k0_hw368 : k0_chk368 v798), ∀ a, (k0_off1042 v798) a + S1x1x128.size a ≤ S79x1x128.size a := fun v798 k0_hw368 => k0_hw368

def k0_off1043 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_382 : BitVec 32 := 64#32
  let v792 : BitVec 32 := Scalar.muli arg15 c64_i32_382
  let c47_i32 : BitVec 32 := 47#32
  let v793 : BitVec 32 := Scalar.addi v792 c47_i32
  let v803 : Index := Scalar.indexCast v793
  let c0_387 : Index := 0#32
  let c0_388 : Index := 0#32
  ![v803.toNat, 0, 0]
def k0_off1044 (i : grid0.Coords) (k0_t8 : Fin k0_t8_loop.trips) : Fin 2 → Nat :=
  let arg0 : BitVec 32 := BitVec.ofNat 32 (i 0).val
  let v811 : Index := Scalar.indexCast arg0
  let arg1 : BitVec 32 := BitVec.ofNat 32 (i 1).val
  let c256_i32_390 : BitVec 32 := 256#32
  let v809 : BitVec 32 := Scalar.muli arg1 c256_i32_390
  let c0_i32_24 : BitVec 32 := 0#32
  let c1_i32_26 : BitVec 32 := 1#32
  let arg15 : BitVec 32 := Scf.iv c0_i32_24 c1_i32_26 k0_t8
  let c64_i32_389 : BitVec 32 := 64#32
  let v807 : BitVec 32 := Scalar.muli arg15 c64_i32_389
  let c48_i32 : BitVec 32 := 48#32
  let v808 : BitVec 32 := Scalar.addi v807 c48_i32
  let v810 : BitVec 32 := Scalar.addi v809 v808
  let v812 : Index := Scalar.indexCast v810
  ![v811.toNat, v812.toNat]
def k0_off1045 (v813 : BitVec 32) : Fin 3 → Nat :=
  let c7_i32_391 : BitVec 32 := 7#32
  let v814 : BitVec 32 := Scalar.shrsi v813 c7_i32_391
  let v815 : Index := Scalar.indexCast v814
  let c0_392 : Index := 0#32
  let c0_393 : Index := 0#32
  ![v815.toNat, 0, 0]

def k0_chk369 (v813 : BitVec 32) : Prop :=
  (∀ a, (k0_off1045 v813) a + S1x1x128.size a ≤ S79x1x128.size a)
theorem k0_off1045_inb : ∀ (v813 : BitVec 32) (k0_hw369 : k0_chk369 v813), ∀ a, (k0_off1045 v813) a + S1x1x128.size a ≤ S79x1x128.size a := fun v813 k0_hw369 => k0_hw369

def k0_off1046 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_389 : BitVec 32 := 64#32
  let v807 : BitVec 32 := Scalar.muli arg15 c64_i32_389
  let c48_i32 : BitVec 32 := 48#32
  let v808 : BitVec 32 := Scalar.addi v807 c48_i32
  let v818 : Index := Scalar.indexCast v808
  let c0_394 : Index := 0#32
  let c0_395 : Index := 0#32
  ![v818.toNat, 0, 0]
def k0_off1047 (i : grid0.Coords) (k0_t8 : Fin k0_t8_loop.trips) : Fin 2 → Nat :=
  let arg0 : BitVec 32 := BitVec.ofNat 32 (i 0).val
  let v826 : Index := Scalar.indexCast arg0
  let arg1 : BitVec 32 := BitVec.ofNat 32 (i 1).val
  let c256_i32_397 : BitVec 32 := 256#32
  let v824 : BitVec 32 := Scalar.muli arg1 c256_i32_397
  let c0_i32_24 : BitVec 32 := 0#32
  let c1_i32_26 : BitVec 32 := 1#32
  let arg15 : BitVec 32 := Scf.iv c0_i32_24 c1_i32_26 k0_t8
  let c64_i32_396 : BitVec 32 := 64#32
  let v822 : BitVec 32 := Scalar.muli arg15 c64_i32_396
  let c49_i32 : BitVec 32 := 49#32
  let v823 : BitVec 32 := Scalar.addi v822 c49_i32
  let v825 : BitVec 32 := Scalar.addi v824 v823
  let v827 : Index := Scalar.indexCast v825
  ![v826.toNat, v827.toNat]
def k0_off1048 (v828 : BitVec 32) : Fin 3 → Nat :=
  let c7_i32_398 : BitVec 32 := 7#32
  let v829 : BitVec 32 := Scalar.shrsi v828 c7_i32_398
  let v830 : Index := Scalar.indexCast v829
  let c0_399 : Index := 0#32
  let c0_400 : Index := 0#32
  ![v830.toNat, 0, 0]

def k0_chk370 (v828 : BitVec 32) : Prop :=
  (∀ a, (k0_off1048 v828) a + S1x1x128.size a ≤ S79x1x128.size a)
theorem k0_off1048_inb : ∀ (v828 : BitVec 32) (k0_hw370 : k0_chk370 v828), ∀ a, (k0_off1048 v828) a + S1x1x128.size a ≤ S79x1x128.size a := fun v828 k0_hw370 => k0_hw370

def k0_off1049 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_396 : BitVec 32 := 64#32
  let v822 : BitVec 32 := Scalar.muli arg15 c64_i32_396
  let c49_i32 : BitVec 32 := 49#32
  let v823 : BitVec 32 := Scalar.addi v822 c49_i32
  let v833 : Index := Scalar.indexCast v823
  let c0_401 : Index := 0#32
  let c0_402 : Index := 0#32
  ![v833.toNat, 0, 0]
def k0_off1050 (i : grid0.Coords) (k0_t8 : Fin k0_t8_loop.trips) : Fin 2 → Nat :=
  let arg0 : BitVec 32 := BitVec.ofNat 32 (i 0).val
  let v841 : Index := Scalar.indexCast arg0
  let arg1 : BitVec 32 := BitVec.ofNat 32 (i 1).val
  let c256_i32_404 : BitVec 32 := 256#32
  let v839 : BitVec 32 := Scalar.muli arg1 c256_i32_404
  let c0_i32_24 : BitVec 32 := 0#32
  let c1_i32_26 : BitVec 32 := 1#32
  let arg15 : BitVec 32 := Scf.iv c0_i32_24 c1_i32_26 k0_t8
  let c64_i32_403 : BitVec 32 := 64#32
  let v837 : BitVec 32 := Scalar.muli arg15 c64_i32_403
  let c50_i32 : BitVec 32 := 50#32
  let v838 : BitVec 32 := Scalar.addi v837 c50_i32
  let v840 : BitVec 32 := Scalar.addi v839 v838
  let v842 : Index := Scalar.indexCast v840
  ![v841.toNat, v842.toNat]
def k0_off1051 (v843 : BitVec 32) : Fin 3 → Nat :=
  let c7_i32_405 : BitVec 32 := 7#32
  let v844 : BitVec 32 := Scalar.shrsi v843 c7_i32_405
  let v845 : Index := Scalar.indexCast v844
  let c0_406 : Index := 0#32
  let c0_407 : Index := 0#32
  ![v845.toNat, 0, 0]

def k0_chk371 (v843 : BitVec 32) : Prop :=
  (∀ a, (k0_off1051 v843) a + S1x1x128.size a ≤ S79x1x128.size a)
theorem k0_off1051_inb : ∀ (v843 : BitVec 32) (k0_hw371 : k0_chk371 v843), ∀ a, (k0_off1051 v843) a + S1x1x128.size a ≤ S79x1x128.size a := fun v843 k0_hw371 => k0_hw371

def k0_off1052 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_403 : BitVec 32 := 64#32
  let v837 : BitVec 32 := Scalar.muli arg15 c64_i32_403
  let c50_i32 : BitVec 32 := 50#32
  let v838 : BitVec 32 := Scalar.addi v837 c50_i32
  let v848 : Index := Scalar.indexCast v838
  let c0_408 : Index := 0#32
  let c0_409 : Index := 0#32
  ![v848.toNat, 0, 0]
def k0_off1053 (i : grid0.Coords) (k0_t8 : Fin k0_t8_loop.trips) : Fin 2 → Nat :=
  let arg0 : BitVec 32 := BitVec.ofNat 32 (i 0).val
  let v856 : Index := Scalar.indexCast arg0
  let arg1 : BitVec 32 := BitVec.ofNat 32 (i 1).val
  let c256_i32_411 : BitVec 32 := 256#32
  let v854 : BitVec 32 := Scalar.muli arg1 c256_i32_411
  let c0_i32_24 : BitVec 32 := 0#32
  let c1_i32_26 : BitVec 32 := 1#32
  let arg15 : BitVec 32 := Scf.iv c0_i32_24 c1_i32_26 k0_t8
  let c64_i32_410 : BitVec 32 := 64#32
  let v852 : BitVec 32 := Scalar.muli arg15 c64_i32_410
  let c51_i32 : BitVec 32 := 51#32
  let v853 : BitVec 32 := Scalar.addi v852 c51_i32
  let v855 : BitVec 32 := Scalar.addi v854 v853
  let v857 : Index := Scalar.indexCast v855
  ![v856.toNat, v857.toNat]
def k0_off1054 (v858 : BitVec 32) : Fin 3 → Nat :=
  let c7_i32_412 : BitVec 32 := 7#32
  let v859 : BitVec 32 := Scalar.shrsi v858 c7_i32_412
  let v860 : Index := Scalar.indexCast v859
  let c0_413 : Index := 0#32
  let c0_414 : Index := 0#32
  ![v860.toNat, 0, 0]

def k0_chk372 (v858 : BitVec 32) : Prop :=
  (∀ a, (k0_off1054 v858) a + S1x1x128.size a ≤ S79x1x128.size a)
theorem k0_off1054_inb : ∀ (v858 : BitVec 32) (k0_hw372 : k0_chk372 v858), ∀ a, (k0_off1054 v858) a + S1x1x128.size a ≤ S79x1x128.size a := fun v858 k0_hw372 => k0_hw372

def k0_off1055 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_410 : BitVec 32 := 64#32
  let v852 : BitVec 32 := Scalar.muli arg15 c64_i32_410
  let c51_i32 : BitVec 32 := 51#32
  let v853 : BitVec 32 := Scalar.addi v852 c51_i32
  let v863 : Index := Scalar.indexCast v853
  let c0_415 : Index := 0#32
  let c0_416 : Index := 0#32
  ![v863.toNat, 0, 0]
def k0_off1056 (i : grid0.Coords) (k0_t8 : Fin k0_t8_loop.trips) : Fin 2 → Nat :=
  let arg0 : BitVec 32 := BitVec.ofNat 32 (i 0).val
  let v871 : Index := Scalar.indexCast arg0
  let arg1 : BitVec 32 := BitVec.ofNat 32 (i 1).val
  let c256_i32_418 : BitVec 32 := 256#32
  let v869 : BitVec 32 := Scalar.muli arg1 c256_i32_418
  let c0_i32_24 : BitVec 32 := 0#32
  let c1_i32_26 : BitVec 32 := 1#32
  let arg15 : BitVec 32 := Scf.iv c0_i32_24 c1_i32_26 k0_t8
  let c64_i32_417 : BitVec 32 := 64#32
  let v867 : BitVec 32 := Scalar.muli arg15 c64_i32_417
  let c52_i32 : BitVec 32 := 52#32
  let v868 : BitVec 32 := Scalar.addi v867 c52_i32
  let v870 : BitVec 32 := Scalar.addi v869 v868
  let v872 : Index := Scalar.indexCast v870
  ![v871.toNat, v872.toNat]
def k0_off1057 (v873 : BitVec 32) : Fin 3 → Nat :=
  let c7_i32_419 : BitVec 32 := 7#32
  let v874 : BitVec 32 := Scalar.shrsi v873 c7_i32_419
  let v875 : Index := Scalar.indexCast v874
  let c0_420 : Index := 0#32
  let c0_421 : Index := 0#32
  ![v875.toNat, 0, 0]

def k0_chk373 (v873 : BitVec 32) : Prop :=
  (∀ a, (k0_off1057 v873) a + S1x1x128.size a ≤ S79x1x128.size a)
theorem k0_off1057_inb : ∀ (v873 : BitVec 32) (k0_hw373 : k0_chk373 v873), ∀ a, (k0_off1057 v873) a + S1x1x128.size a ≤ S79x1x128.size a := fun v873 k0_hw373 => k0_hw373

def k0_off1058 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_417 : BitVec 32 := 64#32
  let v867 : BitVec 32 := Scalar.muli arg15 c64_i32_417
  let c52_i32 : BitVec 32 := 52#32
  let v868 : BitVec 32 := Scalar.addi v867 c52_i32
  let v878 : Index := Scalar.indexCast v868
  let c0_422 : Index := 0#32
  let c0_423 : Index := 0#32
  ![v878.toNat, 0, 0]
def k0_off1059 (i : grid0.Coords) (k0_t8 : Fin k0_t8_loop.trips) : Fin 2 → Nat :=
  let arg0 : BitVec 32 := BitVec.ofNat 32 (i 0).val
  let v886 : Index := Scalar.indexCast arg0
  let arg1 : BitVec 32 := BitVec.ofNat 32 (i 1).val
  let c256_i32_425 : BitVec 32 := 256#32
  let v884 : BitVec 32 := Scalar.muli arg1 c256_i32_425
  let c0_i32_24 : BitVec 32 := 0#32
  let c1_i32_26 : BitVec 32 := 1#32
  let arg15 : BitVec 32 := Scf.iv c0_i32_24 c1_i32_26 k0_t8
  let c64_i32_424 : BitVec 32 := 64#32
  let v882 : BitVec 32 := Scalar.muli arg15 c64_i32_424
  let c53_i32 : BitVec 32 := 53#32
  let v883 : BitVec 32 := Scalar.addi v882 c53_i32
  let v885 : BitVec 32 := Scalar.addi v884 v883
  let v887 : Index := Scalar.indexCast v885
  ![v886.toNat, v887.toNat]
def k0_off1060 (v888 : BitVec 32) : Fin 3 → Nat :=
  let c7_i32_426 : BitVec 32 := 7#32
  let v889 : BitVec 32 := Scalar.shrsi v888 c7_i32_426
  let v890 : Index := Scalar.indexCast v889
  let c0_427 : Index := 0#32
  let c0_428 : Index := 0#32
  ![v890.toNat, 0, 0]

def k0_chk374 (v888 : BitVec 32) : Prop :=
  (∀ a, (k0_off1060 v888) a + S1x1x128.size a ≤ S79x1x128.size a)
theorem k0_off1060_inb : ∀ (v888 : BitVec 32) (k0_hw374 : k0_chk374 v888), ∀ a, (k0_off1060 v888) a + S1x1x128.size a ≤ S79x1x128.size a := fun v888 k0_hw374 => k0_hw374

def k0_off1061 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_424 : BitVec 32 := 64#32
  let v882 : BitVec 32 := Scalar.muli arg15 c64_i32_424
  let c53_i32 : BitVec 32 := 53#32
  let v883 : BitVec 32 := Scalar.addi v882 c53_i32
  let v893 : Index := Scalar.indexCast v883
  let c0_429 : Index := 0#32
  let c0_430 : Index := 0#32
  ![v893.toNat, 0, 0]
def k0_off1062 (i : grid0.Coords) (k0_t8 : Fin k0_t8_loop.trips) : Fin 2 → Nat :=
  let arg0 : BitVec 32 := BitVec.ofNat 32 (i 0).val
  let v901 : Index := Scalar.indexCast arg0
  let arg1 : BitVec 32 := BitVec.ofNat 32 (i 1).val
  let c256_i32_432 : BitVec 32 := 256#32
  let v899 : BitVec 32 := Scalar.muli arg1 c256_i32_432
  let c0_i32_24 : BitVec 32 := 0#32
  let c1_i32_26 : BitVec 32 := 1#32
  let arg15 : BitVec 32 := Scf.iv c0_i32_24 c1_i32_26 k0_t8
  let c64_i32_431 : BitVec 32 := 64#32
  let v897 : BitVec 32 := Scalar.muli arg15 c64_i32_431
  let c54_i32 : BitVec 32 := 54#32
  let v898 : BitVec 32 := Scalar.addi v897 c54_i32
  let v900 : BitVec 32 := Scalar.addi v899 v898
  let v902 : Index := Scalar.indexCast v900
  ![v901.toNat, v902.toNat]
def k0_off1063 (v903 : BitVec 32) : Fin 3 → Nat :=
  let c7_i32_433 : BitVec 32 := 7#32
  let v904 : BitVec 32 := Scalar.shrsi v903 c7_i32_433
  let v905 : Index := Scalar.indexCast v904
  let c0_434 : Index := 0#32
  let c0_435 : Index := 0#32
  ![v905.toNat, 0, 0]

def k0_chk375 (v903 : BitVec 32) : Prop :=
  (∀ a, (k0_off1063 v903) a + S1x1x128.size a ≤ S79x1x128.size a)
theorem k0_off1063_inb : ∀ (v903 : BitVec 32) (k0_hw375 : k0_chk375 v903), ∀ a, (k0_off1063 v903) a + S1x1x128.size a ≤ S79x1x128.size a := fun v903 k0_hw375 => k0_hw375

def k0_off1064 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_431 : BitVec 32 := 64#32
  let v897 : BitVec 32 := Scalar.muli arg15 c64_i32_431
  let c54_i32 : BitVec 32 := 54#32
  let v898 : BitVec 32 := Scalar.addi v897 c54_i32
  let v908 : Index := Scalar.indexCast v898
  let c0_436 : Index := 0#32
  let c0_437 : Index := 0#32
  ![v908.toNat, 0, 0]
def k0_off1065 (i : grid0.Coords) (k0_t8 : Fin k0_t8_loop.trips) : Fin 2 → Nat :=
  let arg0 : BitVec 32 := BitVec.ofNat 32 (i 0).val
  let v916 : Index := Scalar.indexCast arg0
  let arg1 : BitVec 32 := BitVec.ofNat 32 (i 1).val
  let c256_i32_439 : BitVec 32 := 256#32
  let v914 : BitVec 32 := Scalar.muli arg1 c256_i32_439
  let c0_i32_24 : BitVec 32 := 0#32
  let c1_i32_26 : BitVec 32 := 1#32
  let arg15 : BitVec 32 := Scf.iv c0_i32_24 c1_i32_26 k0_t8
  let c64_i32_438 : BitVec 32 := 64#32
  let v912 : BitVec 32 := Scalar.muli arg15 c64_i32_438
  let c55_i32 : BitVec 32 := 55#32
  let v913 : BitVec 32 := Scalar.addi v912 c55_i32
  let v915 : BitVec 32 := Scalar.addi v914 v913
  let v917 : Index := Scalar.indexCast v915
  ![v916.toNat, v917.toNat]
def k0_off1066 (v918 : BitVec 32) : Fin 3 → Nat :=
  let c7_i32_440 : BitVec 32 := 7#32
  let v919 : BitVec 32 := Scalar.shrsi v918 c7_i32_440
  let v920 : Index := Scalar.indexCast v919
  let c0_441 : Index := 0#32
  let c0_442 : Index := 0#32
  ![v920.toNat, 0, 0]

def k0_chk376 (v918 : BitVec 32) : Prop :=
  (∀ a, (k0_off1066 v918) a + S1x1x128.size a ≤ S79x1x128.size a)
theorem k0_off1066_inb : ∀ (v918 : BitVec 32) (k0_hw376 : k0_chk376 v918), ∀ a, (k0_off1066 v918) a + S1x1x128.size a ≤ S79x1x128.size a := fun v918 k0_hw376 => k0_hw376

def k0_off1067 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_438 : BitVec 32 := 64#32
  let v912 : BitVec 32 := Scalar.muli arg15 c64_i32_438
  let c55_i32 : BitVec 32 := 55#32
  let v913 : BitVec 32 := Scalar.addi v912 c55_i32
  let v923 : Index := Scalar.indexCast v913
  let c0_443 : Index := 0#32
  let c0_444 : Index := 0#32
  ![v923.toNat, 0, 0]
def k0_off1068 (i : grid0.Coords) (k0_t8 : Fin k0_t8_loop.trips) : Fin 2 → Nat :=
  let arg0 : BitVec 32 := BitVec.ofNat 32 (i 0).val
  let v931 : Index := Scalar.indexCast arg0
  let arg1 : BitVec 32 := BitVec.ofNat 32 (i 1).val
  let c256_i32_446 : BitVec 32 := 256#32
  let v929 : BitVec 32 := Scalar.muli arg1 c256_i32_446
  let c0_i32_24 : BitVec 32 := 0#32
  let c1_i32_26 : BitVec 32 := 1#32
  let arg15 : BitVec 32 := Scf.iv c0_i32_24 c1_i32_26 k0_t8
  let c64_i32_445 : BitVec 32 := 64#32
  let v927 : BitVec 32 := Scalar.muli arg15 c64_i32_445
  let c56_i32 : BitVec 32 := 56#32
  let v928 : BitVec 32 := Scalar.addi v927 c56_i32
  let v930 : BitVec 32 := Scalar.addi v929 v928
  let v932 : Index := Scalar.indexCast v930
  ![v931.toNat, v932.toNat]
def k0_off1069 (v933 : BitVec 32) : Fin 3 → Nat :=
  let c7_i32_447 : BitVec 32 := 7#32
  let v934 : BitVec 32 := Scalar.shrsi v933 c7_i32_447
  let v935 : Index := Scalar.indexCast v934
  let c0_448 : Index := 0#32
  let c0_449 : Index := 0#32
  ![v935.toNat, 0, 0]

def k0_chk377 (v933 : BitVec 32) : Prop :=
  (∀ a, (k0_off1069 v933) a + S1x1x128.size a ≤ S79x1x128.size a)
theorem k0_off1069_inb : ∀ (v933 : BitVec 32) (k0_hw377 : k0_chk377 v933), ∀ a, (k0_off1069 v933) a + S1x1x128.size a ≤ S79x1x128.size a := fun v933 k0_hw377 => k0_hw377

def k0_off1070 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_445 : BitVec 32 := 64#32
  let v927 : BitVec 32 := Scalar.muli arg15 c64_i32_445
  let c56_i32 : BitVec 32 := 56#32
  let v928 : BitVec 32 := Scalar.addi v927 c56_i32
  let v938 : Index := Scalar.indexCast v928
  let c0_450 : Index := 0#32
  let c0_451 : Index := 0#32
  ![v938.toNat, 0, 0]
def k0_off1071 (i : grid0.Coords) (k0_t8 : Fin k0_t8_loop.trips) : Fin 2 → Nat :=
  let arg0 : BitVec 32 := BitVec.ofNat 32 (i 0).val
  let v946 : Index := Scalar.indexCast arg0
  let arg1 : BitVec 32 := BitVec.ofNat 32 (i 1).val
  let c256_i32_453 : BitVec 32 := 256#32
  let v944 : BitVec 32 := Scalar.muli arg1 c256_i32_453
  let c0_i32_24 : BitVec 32 := 0#32
  let c1_i32_26 : BitVec 32 := 1#32
  let arg15 : BitVec 32 := Scf.iv c0_i32_24 c1_i32_26 k0_t8
  let c64_i32_452 : BitVec 32 := 64#32
  let v942 : BitVec 32 := Scalar.muli arg15 c64_i32_452
  let c57_i32 : BitVec 32 := 57#32
  let v943 : BitVec 32 := Scalar.addi v942 c57_i32
  let v945 : BitVec 32 := Scalar.addi v944 v943
  let v947 : Index := Scalar.indexCast v945
  ![v946.toNat, v947.toNat]
def k0_off1072 (v948 : BitVec 32) : Fin 3 → Nat :=
  let c7_i32_454 : BitVec 32 := 7#32
  let v949 : BitVec 32 := Scalar.shrsi v948 c7_i32_454
  let v950 : Index := Scalar.indexCast v949
  let c0_455 : Index := 0#32
  let c0_456 : Index := 0#32
  ![v950.toNat, 0, 0]

def k0_chk378 (v948 : BitVec 32) : Prop :=
  (∀ a, (k0_off1072 v948) a + S1x1x128.size a ≤ S79x1x128.size a)
theorem k0_off1072_inb : ∀ (v948 : BitVec 32) (k0_hw378 : k0_chk378 v948), ∀ a, (k0_off1072 v948) a + S1x1x128.size a ≤ S79x1x128.size a := fun v948 k0_hw378 => k0_hw378

def k0_off1073 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_452 : BitVec 32 := 64#32
  let v942 : BitVec 32 := Scalar.muli arg15 c64_i32_452
  let c57_i32 : BitVec 32 := 57#32
  let v943 : BitVec 32 := Scalar.addi v942 c57_i32
  let v953 : Index := Scalar.indexCast v943
  let c0_457 : Index := 0#32
  let c0_458 : Index := 0#32
  ![v953.toNat, 0, 0]
def k0_off1074 (i : grid0.Coords) (k0_t8 : Fin k0_t8_loop.trips) : Fin 2 → Nat :=
  let arg0 : BitVec 32 := BitVec.ofNat 32 (i 0).val
  let v961 : Index := Scalar.indexCast arg0
  let arg1 : BitVec 32 := BitVec.ofNat 32 (i 1).val
  let c256_i32_460 : BitVec 32 := 256#32
  let v959 : BitVec 32 := Scalar.muli arg1 c256_i32_460
  let c0_i32_24 : BitVec 32 := 0#32
  let c1_i32_26 : BitVec 32 := 1#32
  let arg15 : BitVec 32 := Scf.iv c0_i32_24 c1_i32_26 k0_t8
  let c64_i32_459 : BitVec 32 := 64#32
  let v957 : BitVec 32 := Scalar.muli arg15 c64_i32_459
  let c58_i32 : BitVec 32 := 58#32
  let v958 : BitVec 32 := Scalar.addi v957 c58_i32
  let v960 : BitVec 32 := Scalar.addi v959 v958
  let v962 : Index := Scalar.indexCast v960
  ![v961.toNat, v962.toNat]
def k0_off1075 (v963 : BitVec 32) : Fin 3 → Nat :=
  let c7_i32_461 : BitVec 32 := 7#32
  let v964 : BitVec 32 := Scalar.shrsi v963 c7_i32_461
  let v965 : Index := Scalar.indexCast v964
  let c0_462 : Index := 0#32
  let c0_463 : Index := 0#32
  ![v965.toNat, 0, 0]

def k0_chk379 (v963 : BitVec 32) : Prop :=
  (∀ a, (k0_off1075 v963) a + S1x1x128.size a ≤ S79x1x128.size a)
theorem k0_off1075_inb : ∀ (v963 : BitVec 32) (k0_hw379 : k0_chk379 v963), ∀ a, (k0_off1075 v963) a + S1x1x128.size a ≤ S79x1x128.size a := fun v963 k0_hw379 => k0_hw379

def k0_off1076 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_459 : BitVec 32 := 64#32
  let v957 : BitVec 32 := Scalar.muli arg15 c64_i32_459
  let c58_i32 : BitVec 32 := 58#32
  let v958 : BitVec 32 := Scalar.addi v957 c58_i32
  let v968 : Index := Scalar.indexCast v958
  let c0_464 : Index := 0#32
  let c0_465 : Index := 0#32
  ![v968.toNat, 0, 0]
def k0_off1077 (i : grid0.Coords) (k0_t8 : Fin k0_t8_loop.trips) : Fin 2 → Nat :=
  let arg0 : BitVec 32 := BitVec.ofNat 32 (i 0).val
  let v976 : Index := Scalar.indexCast arg0
  let arg1 : BitVec 32 := BitVec.ofNat 32 (i 1).val
  let c256_i32_467 : BitVec 32 := 256#32
  let v974 : BitVec 32 := Scalar.muli arg1 c256_i32_467
  let c0_i32_24 : BitVec 32 := 0#32
  let c1_i32_26 : BitVec 32 := 1#32
  let arg15 : BitVec 32 := Scf.iv c0_i32_24 c1_i32_26 k0_t8
  let c64_i32_466 : BitVec 32 := 64#32
  let v972 : BitVec 32 := Scalar.muli arg15 c64_i32_466
  let c59_i32 : BitVec 32 := 59#32
  let v973 : BitVec 32 := Scalar.addi v972 c59_i32
  let v975 : BitVec 32 := Scalar.addi v974 v973
  let v977 : Index := Scalar.indexCast v975
  ![v976.toNat, v977.toNat]
def k0_off1078 (v978 : BitVec 32) : Fin 3 → Nat :=
  let c7_i32_468 : BitVec 32 := 7#32
  let v979 : BitVec 32 := Scalar.shrsi v978 c7_i32_468
  let v980 : Index := Scalar.indexCast v979
  let c0_469 : Index := 0#32
  let c0_470 : Index := 0#32
  ![v980.toNat, 0, 0]

def k0_chk380 (v978 : BitVec 32) : Prop :=
  (∀ a, (k0_off1078 v978) a + S1x1x128.size a ≤ S79x1x128.size a)
theorem k0_off1078_inb : ∀ (v978 : BitVec 32) (k0_hw380 : k0_chk380 v978), ∀ a, (k0_off1078 v978) a + S1x1x128.size a ≤ S79x1x128.size a := fun v978 k0_hw380 => k0_hw380

def k0_off1079 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_466 : BitVec 32 := 64#32
  let v972 : BitVec 32 := Scalar.muli arg15 c64_i32_466
  let c59_i32 : BitVec 32 := 59#32
  let v973 : BitVec 32 := Scalar.addi v972 c59_i32
  let v983 : Index := Scalar.indexCast v973
  let c0_471 : Index := 0#32
  let c0_472 : Index := 0#32
  ![v983.toNat, 0, 0]
def k0_off1080 (i : grid0.Coords) (k0_t8 : Fin k0_t8_loop.trips) : Fin 2 → Nat :=
  let arg0 : BitVec 32 := BitVec.ofNat 32 (i 0).val
  let v991 : Index := Scalar.indexCast arg0
  let arg1 : BitVec 32 := BitVec.ofNat 32 (i 1).val
  let c256_i32_474 : BitVec 32 := 256#32
  let v989 : BitVec 32 := Scalar.muli arg1 c256_i32_474
  let c0_i32_24 : BitVec 32 := 0#32
  let c1_i32_26 : BitVec 32 := 1#32
  let arg15 : BitVec 32 := Scf.iv c0_i32_24 c1_i32_26 k0_t8
  let c64_i32_473 : BitVec 32 := 64#32
  let v987 : BitVec 32 := Scalar.muli arg15 c64_i32_473
  let c60_i32 : BitVec 32 := 60#32
  let v988 : BitVec 32 := Scalar.addi v987 c60_i32
  let v990 : BitVec 32 := Scalar.addi v989 v988
  let v992 : Index := Scalar.indexCast v990
  ![v991.toNat, v992.toNat]
def k0_off1081 (v993 : BitVec 32) : Fin 3 → Nat :=
  let c7_i32_475 : BitVec 32 := 7#32
  let v994 : BitVec 32 := Scalar.shrsi v993 c7_i32_475
  let v995 : Index := Scalar.indexCast v994
  let c0_476 : Index := 0#32
  let c0_477 : Index := 0#32
  ![v995.toNat, 0, 0]

def k0_chk381 (v993 : BitVec 32) : Prop :=
  (∀ a, (k0_off1081 v993) a + S1x1x128.size a ≤ S79x1x128.size a)
theorem k0_off1081_inb : ∀ (v993 : BitVec 32) (k0_hw381 : k0_chk381 v993), ∀ a, (k0_off1081 v993) a + S1x1x128.size a ≤ S79x1x128.size a := fun v993 k0_hw381 => k0_hw381

def k0_off1082 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_473 : BitVec 32 := 64#32
  let v987 : BitVec 32 := Scalar.muli arg15 c64_i32_473
  let c60_i32 : BitVec 32 := 60#32
  let v988 : BitVec 32 := Scalar.addi v987 c60_i32
  let v998 : Index := Scalar.indexCast v988
  let c0_478 : Index := 0#32
  let c0_479 : Index := 0#32
  ![v998.toNat, 0, 0]
def k0_off1083 (i : grid0.Coords) (k0_t8 : Fin k0_t8_loop.trips) : Fin 2 → Nat :=
  let arg0 : BitVec 32 := BitVec.ofNat 32 (i 0).val
  let v1006 : Index := Scalar.indexCast arg0
  let arg1 : BitVec 32 := BitVec.ofNat 32 (i 1).val
  let c256_i32_481 : BitVec 32 := 256#32
  let v1004 : BitVec 32 := Scalar.muli arg1 c256_i32_481
  let c0_i32_24 : BitVec 32 := 0#32
  let c1_i32_26 : BitVec 32 := 1#32
  let arg15 : BitVec 32 := Scf.iv c0_i32_24 c1_i32_26 k0_t8
  let c64_i32_480 : BitVec 32 := 64#32
  let v1002 : BitVec 32 := Scalar.muli arg15 c64_i32_480
  let c61_i32 : BitVec 32 := 61#32
  let v1003 : BitVec 32 := Scalar.addi v1002 c61_i32
  let v1005 : BitVec 32 := Scalar.addi v1004 v1003
  let v1007 : Index := Scalar.indexCast v1005
  ![v1006.toNat, v1007.toNat]
def k0_off1084 (v1008 : BitVec 32) : Fin 3 → Nat :=
  let c7_i32_482 : BitVec 32 := 7#32
  let v1009 : BitVec 32 := Scalar.shrsi v1008 c7_i32_482
  let v1010 : Index := Scalar.indexCast v1009
  let c0_483 : Index := 0#32
  let c0_484 : Index := 0#32
  ![v1010.toNat, 0, 0]

def k0_chk382 (v1008 : BitVec 32) : Prop :=
  (∀ a, (k0_off1084 v1008) a + S1x1x128.size a ≤ S79x1x128.size a)
theorem k0_off1084_inb : ∀ (v1008 : BitVec 32) (k0_hw382 : k0_chk382 v1008), ∀ a, (k0_off1084 v1008) a + S1x1x128.size a ≤ S79x1x128.size a := fun v1008 k0_hw382 => k0_hw382

def k0_off1085 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_480 : BitVec 32 := 64#32
  let v1002 : BitVec 32 := Scalar.muli arg15 c64_i32_480
  let c61_i32 : BitVec 32 := 61#32
  let v1003 : BitVec 32 := Scalar.addi v1002 c61_i32
  let v1013 : Index := Scalar.indexCast v1003
  let c0_485 : Index := 0#32
  let c0_486 : Index := 0#32
  ![v1013.toNat, 0, 0]
def k0_off1086 (i : grid0.Coords) (k0_t8 : Fin k0_t8_loop.trips) : Fin 2 → Nat :=
  let arg0 : BitVec 32 := BitVec.ofNat 32 (i 0).val
  let v1021 : Index := Scalar.indexCast arg0
  let arg1 : BitVec 32 := BitVec.ofNat 32 (i 1).val
  let c256_i32_488 : BitVec 32 := 256#32
  let v1019 : BitVec 32 := Scalar.muli arg1 c256_i32_488
  let c0_i32_24 : BitVec 32 := 0#32
  let c1_i32_26 : BitVec 32 := 1#32
  let arg15 : BitVec 32 := Scf.iv c0_i32_24 c1_i32_26 k0_t8
  let c64_i32_487 : BitVec 32 := 64#32
  let v1017 : BitVec 32 := Scalar.muli arg15 c64_i32_487
  let c62_i32 : BitVec 32 := 62#32
  let v1018 : BitVec 32 := Scalar.addi v1017 c62_i32
  let v1020 : BitVec 32 := Scalar.addi v1019 v1018
  let v1022 : Index := Scalar.indexCast v1020
  ![v1021.toNat, v1022.toNat]
def k0_off1087 (v1023 : BitVec 32) : Fin 3 → Nat :=
  let c7_i32_489 : BitVec 32 := 7#32
  let v1024 : BitVec 32 := Scalar.shrsi v1023 c7_i32_489
  let v1025 : Index := Scalar.indexCast v1024
  let c0_490 : Index := 0#32
  let c0_491 : Index := 0#32
  ![v1025.toNat, 0, 0]

def k0_chk383 (v1023 : BitVec 32) : Prop :=
  (∀ a, (k0_off1087 v1023) a + S1x1x128.size a ≤ S79x1x128.size a)
theorem k0_off1087_inb : ∀ (v1023 : BitVec 32) (k0_hw383 : k0_chk383 v1023), ∀ a, (k0_off1087 v1023) a + S1x1x128.size a ≤ S79x1x128.size a := fun v1023 k0_hw383 => k0_hw383

def k0_off1088 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_487 : BitVec 32 := 64#32
  let v1017 : BitVec 32 := Scalar.muli arg15 c64_i32_487
  let c62_i32 : BitVec 32 := 62#32
  let v1018 : BitVec 32 := Scalar.addi v1017 c62_i32
  let v1028 : Index := Scalar.indexCast v1018
  let c0_492 : Index := 0#32
  let c0_493 : Index := 0#32
  ![v1028.toNat, 0, 0]
def k0_off1089 (i : grid0.Coords) (k0_t8 : Fin k0_t8_loop.trips) : Fin 2 → Nat :=
  let arg0 : BitVec 32 := BitVec.ofNat 32 (i 0).val
  let v1036 : Index := Scalar.indexCast arg0
  let arg1 : BitVec 32 := BitVec.ofNat 32 (i 1).val
  let c256_i32_495 : BitVec 32 := 256#32
  let v1034 : BitVec 32 := Scalar.muli arg1 c256_i32_495
  let c0_i32_24 : BitVec 32 := 0#32
  let c1_i32_26 : BitVec 32 := 1#32
  let arg15 : BitVec 32 := Scf.iv c0_i32_24 c1_i32_26 k0_t8
  let c64_i32_494 : BitVec 32 := 64#32
  let v1032 : BitVec 32 := Scalar.muli arg15 c64_i32_494
  let c63_i32 : BitVec 32 := 63#32
  let v1033 : BitVec 32 := Scalar.addi v1032 c63_i32
  let v1035 : BitVec 32 := Scalar.addi v1034 v1033
  let v1037 : Index := Scalar.indexCast v1035
  ![v1036.toNat, v1037.toNat]
def k0_off1090 (v1038 : BitVec 32) : Fin 3 → Nat :=
  let c7_i32_496 : BitVec 32 := 7#32
  let v1039 : BitVec 32 := Scalar.shrsi v1038 c7_i32_496
  let v1040 : Index := Scalar.indexCast v1039
  let c0_497 : Index := 0#32
  let c0_498 : Index := 0#32
  ![v1040.toNat, 0, 0]

def k0_chk384 (v1038 : BitVec 32) : Prop :=
  (∀ a, (k0_off1090 v1038) a + S1x1x128.size a ≤ S79x1x128.size a)
theorem k0_off1090_inb : ∀ (v1038 : BitVec 32) (k0_hw384 : k0_chk384 v1038), ∀ a, (k0_off1090 v1038) a + S1x1x128.size a ≤ S79x1x128.size a := fun v1038 k0_hw384 => k0_hw384

def k0_off1091 (k0_t8 : Fin k0_t8_loop.trips) : Fin 3 → Nat :=
  let c0_i32_24 : BitVec 32 := 0#32
  let c1_i32_26 : BitVec 32 := 1#32
  let arg15 : BitVec 32 := Scf.iv c0_i32_24 c1_i32_26 k0_t8
  let c64_i32_494 : BitVec 32 := 64#32
  let v1032 : BitVec 32 := Scalar.muli arg15 c64_i32_494
  let c63_i32 : BitVec 32 := 63#32
  let v1033 : BitVec 32 := Scalar.addi v1032 c63_i32
  let v1043 : Index := Scalar.indexCast v1033
  let c0_499 : Index := 0#32
  let c0_500 : Index := 0#32
  ![v1043.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S79x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048 : Shape := ⟨2, ![8, 2048]⟩
abbrev S10000x10000 : Shape := ⟨2, ![10000, 10000]⟩
abbrev S10000 : Shape := ⟨1, ![10000]⟩
abbrev S8x2048x1 : Shape := ⟨3, ![8, 2048, 1]⟩
abbrev S8x1x2048 : Shape := ⟨3, ![8, 1, 2048]⟩
abbrev S_ : Shape := ⟨0, ![]⟩
abbrev S8x2048x2048 : Shape := ⟨3, ![8, 2048, 2048]⟩
abbrev S8x2048x2048x1 : Shape := ⟨4, ![8, 2048, 2048, 1]⟩
abbrev S8x2048x2048x2 : Shape := ⟨4, ![8, 2048, 2048, 2]⟩
abbrev S2048 : Shape := ⟨1, ![2048]⟩
abbrev S2048x1 : Shape := ⟨2, ![2048, 1]⟩
abbrev S2048x2 : Shape := ⟨2, ![2048, 2]⟩

abbrev nBuf : Space → Nat
  | .hbm => 53
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S10000x10000, .f32⟩
  | .hbm, ⟨2, _⟩ => ⟨S10000, .f32⟩
  | .hbm, ⟨3, _⟩ => ⟨S8x2048x1, .i32⟩
  | .hbm, ⟨4, _⟩ => ⟨S8x1x2048, .i32⟩
  | .hbm, ⟨5, _⟩ => ⟨S_, .i32⟩
  | .hbm, ⟨6, _⟩ => ⟨S8x2048x1, .i32⟩
  | .hbm, ⟨7, _⟩ => ⟨S8x2048x1, .i1⟩
  | .hbm, ⟨8, _⟩ => ⟨S_, .i32⟩
  | .hbm, ⟨9, _⟩ => ⟨S8x2048x1, .i32⟩
  | .hbm, ⟨10, _⟩ => ⟨S8x2048x1, .i32⟩
  | .hbm, ⟨11, _⟩ => ⟨S8x2048x1, .i32⟩
  | .hbm, ⟨12, _⟩ => ⟨S_, .i32⟩
  | .hbm, ⟨13, _⟩ => ⟨S8x1x2048, .i32⟩
  | .hbm, ⟨14, _⟩ => ⟨S8x1x2048, .i1⟩
  | .hbm, ⟨15, _⟩ => ⟨S_, .i32⟩
  | .hbm, ⟨16, _⟩ => ⟨S8x1x2048, .i32⟩
  | .hbm, ⟨17, _⟩ => ⟨S8x1x2048, .i32⟩
  | .hbm, ⟨18, _⟩ => ⟨S8x1x2048, .i32⟩
  | .hbm, ⟨19, _⟩ => ⟨S8x2048x2048, .i32⟩
  | .hbm, ⟨20, _⟩ => ⟨S8x2048x2048, .i32⟩
  | .hbm, ⟨21, _⟩ => ⟨S8x2048x2048x1, .i32⟩
  | .hbm, ⟨22, _⟩ => ⟨S8x2048x2048x1, .i32⟩
  | .hbm, ⟨23, _⟩ => ⟨S8x2048x2048x2, .i32⟩
  | .hbm, ⟨24, _⟩ => ⟨S8x2048x2048, .f32⟩
  | .hbm, ⟨25, _⟩ => ⟨S_, .i32⟩
  | .hbm, ⟨26, _⟩ => ⟨S8x2048, .i32⟩
  | .hbm, ⟨27, _⟩ => ⟨S8x2048, .i1⟩
  | .hbm, ⟨28, _⟩ => ⟨S_, .i32⟩
  | .hbm, ⟨29, _⟩ => ⟨S8x2048, .i32⟩
  | .hbm, ⟨30, _⟩ => ⟨S8x2048, .i32⟩
  | .hbm, ⟨31, _⟩ => ⟨S8x2048, .i32⟩
  | .hbm, ⟨32, _⟩ => ⟨S8x2048x1, .i32⟩
  | .hbm, ⟨33, _⟩ => ⟨S8x2048, .f32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048x1, .i32⟩
  | .hbm, ⟨50, _⟩ => ⟨S2048x1, .i32⟩
  | .hbm, ⟨51, _⟩ => ⟨S2048x2, .i32⟩
  | .hbm, ⟨52, _⟩ => ⟨S8x2048x2048, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_c_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Own.lean ====
/- Rules for single operations and for runs of steps, over arrays owned with their contents as read
   (`owns`): what a load yields, what a store leaves, and that a property carried by every step of a run
   is carried by the run. Stated once here and used by both programs. -/
module

public import Idealize.ShloMosaic.Lib.Pipeline.Frame
public import Idealize.ShloMosaic.Lib.Tactic
public import Idealize.ShloMosaic.Lib.Transfers
public import Idealize.ShloMosaic.Lib.Batch
public import Idealize.ShloMosaic.Lib.VecWindow
public import Idealize.ShloMosaic.Lib.Exec.Geometry

@[expose] public section

noncomputable section

namespace GatherLib

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem

section Steps

/-- The steps `0 … n-1`, one after the other. -/
def steps {E : Type → Type} : (n : Nat) → (f : (u : Nat) → u < n → Prog E Unit) → Prog E Unit
  | 0, _ => .ret ()
  | n + 1, f => (f 0 (Nat.succ_pos n)).bind fun _ => steps n fun u h => f (u + 1) (Nat.succ_lt_succ h)

/-- `n` values in a row, as nested pairs. -/
def Row (α : Type) : Nat → Type
  | 0 => Unit
  | n + 1 => α × Row α n

/-- The steps `0 … n-1`, run one after the other, and then `k` of their values. -/
def collect {E : Type → Type} {α β : Type} : (n : Nat) → (f : (u : Nat) → u < n → Prog E α) → (k : Row α n → Prog E β) → Prog E β
  | 0, _, k => k ()
  | n + 1, f, k => (f 0 (Nat.succ_pos n)).bind fun a =>
      collect n (fun u h => f (u + 1) (Nat.succ_lt_succ h)) fun g => k (a, g)

/-- Those values, each put to use, as a list. -/
def Row.list {α β : Type} (w : α → β) : (n : Nat) → Row α n → List β
  | 0, _ => []
  | n + 1, g => w g.1 :: Row.list w n g.2

/-- The row whose value `u` is `f u`. -/
def Row.of {α : Type} : (n : Nat) → (Nat → α) → Row α n
  | 0, _ => ()
  | n + 1, f => (f 0, Row.of n fun u => f (u + 1))

theorem Row.list_of {α β : Type} (w : α → β) (n : Nat) : ∀ f : Nat → α, Row.list w n (Row.of n f) = List.ofFn fun u : Fin n => w (f u.val) := by
  induction n with
  | zero => intro f; rfl
  | succ n ih =>
    intro f
    rw [List.ofFn_succ]
    show w (f 0) :: Row.list w n (Row.of n fun u => f (u + 1)) = _
    rw [ih]
    rfl

/-- What was put somewhere, read there … -/
theorem put_in {α : Type} {s : Shape} (X : s.Idx → α) {off size : Fin s.rank → Nat} (w : ((a : Fin s.rank) → Fin (size a)) → α) (y : s.Idx)
    (h : ∀ a, off a ≤ (y a).val ∧ (y a).val < off a + size a) : VecWindow.put X off size w y = w (Rect.unitLocal y h) := dif_pos h
/-- … and elsewhere. -/
theorem put_out {α : Type} {s : Shape} (X : s.Idx → α) {off size : Fin s.rank → Nat} (w : ((a : Fin s.rank) → Fin (size a)) → α) (y : s.Idx)
    (a : Fin s.rank) (h : (y a).val < off a ∨ off a + size a ≤ (y a).val) : VecWindow.put X off size w y = X y :=
  dif_neg fun h' => by have := h' a; omega

end Steps

section Rules

variable {nD : Nat} {τ : Topo} {sig : RefSig} {Val : EltTy → Type} {Λ : Labels} {U : Type} [URA U]
local notation "𝕄" => MT nD τ sig Unit Val ℕ U ℕ
variable {defs : Defs nD τ sig Val Λ} (𝒱 : Variants) (c : Thread nD τ) (bd : Option 𝒱.V)

/-- Separating conjunctions taken one by one, and the two conjunctions of them all. -/
theorem bigSep_sepConj {I : Type} (s : Finset I) (Φ Ψ : I → sProp 𝕄) :
    bigSep s (fun i => iprop(Φ i ∗ Ψ i)) = iprop(bigSep s Φ ∗ bigSep s Ψ) := bigSep_sep s Φ Ψ

/-- Facts known of every member, taken out. -/
theorem bigSep_pure_out {I : Type} [DecidableEq I] (s : Finset I) (P : I → Prop) (Φ : I → sProp 𝕄) :
    bigSep s (fun i => iprop(⌜P i⌝ ∗ Φ i)) ⊢ iprop(⌜∀ i ∈ s, P i⌝ ∗ bigSep s Φ) := by
  induction s using Finset.induction_on with
  | empty =>
    iintro H
    isplitr
    · ipureintro; intro i hi; exact absurd hi (Finset.notMem_empty _)
    · iexact H
  | insert i s hi ih =>
    rw [bigSep_insert hi, bigSep_insert hi]
    show iprop((⌜P i⌝ ∗ Φ i) ∗ bigSep s fun i => iprop(⌜P i⌝ ∗ Φ i)) ⊢ iprop(⌜∀ j ∈ insert i s, P j⌝ ∗ Φ i ∗ bigSep s Φ)
    iintro ⟨⟨%h, H⟩, HS⟩
    ihave HS' := ih $$ HS
    icases HS' with ⟨%hs, HS⟩
    isplitr
    · ipureintro
      intro j hj
      rcases Finset.mem_insert.mp hj with rfl | hj
      · exact h
      · exact hs j hj
    · isplitl [H] <;> iassumption

/-- A property each step carries on is carried by the run. -/
theorem wp_steps (n : Nat) : ∀ (f : (u : Nat) → u < n → Prog (TpuEff nD τ sig Val Λ c.2) Unit) (I : Nat → sProp 𝕄)
    (h : ∀ u hu, I u ⊢ wp frame (wpE defs 𝒱 c bd) Set.univ (f u hu) fun _ => I (u + 1)),
    I 0 ⊢ wp frame (wpE defs 𝒱 c bd) Set.univ (steps n f) fun _ => I n := by
  induction n with
  | zero => intro f I h; iintro H; unfold steps; rw [wp_ret]; imodintro; iexact H
  | succ n ih =>
    intro f I h
    unfold steps
    rw [show ∀ (p : Prog (TpuEff nD τ sig Val Λ c.2) Unit) (k : Unit → Prog (TpuEff nD τ sig Val Λ c.2) Unit), p.bind k = p >>= k from fun _ _ => rfl, wp_bind]
    exact BIBase.Entails.trans (h 0 (Nat.succ_pos n)) (wp_mono _ _ _ fun _ =>
      ih (fun u hu => f (u + 1) (Nat.succ_lt_succ hu)) (fun u => I (u + 1)) fun u hu => h (u + 1) (Nat.succ_lt_succ hu))

/-- Steps that each leave the memory as it was and yield `v u` yield the row of these. -/
theorem wp_collect {α β : Type} (n : Nat) : ∀ (f : (u : Nat) → u < n → Prog (TpuEff nD τ sig Val Λ c.2) α) (R : sProp 𝕄) (v : Nat → α)
    (k : Row α n → Prog (TpuEff nD τ sig Val Λ c.2) β) (Q : β → sProp 𝕄)
    (h : ∀ u hu, R ⊢ wp frame (wpE defs 𝒱 c bd) Set.univ (f u hu) fun a => iprop(⌜a = v u⌝ ∗ R))
    (hk : R ⊢ wp frame (wpE defs 𝒱 c bd) Set.univ (k (Row.of n v)) Q),
    R ⊢ wp frame (wpE defs 𝒱 c bd) Set.univ (collect n f k) Q := by
  induction n with
  | zero => intro f R v k Q h hk; exact hk
  | succ n ih =>
    intro f R v k Q h hk
    unfold collect
    rw [show ∀ (p : Prog (TpuEff nD τ sig Val Λ c.2) α) (k : α → Prog (TpuEff nD τ sig Val Λ c.2) β), p.bind k = p >>= k from fun _ _ => rfl, wp_bind]
    refine BIBase.Entails.trans (h 0 (Nat.succ_pos n)) (wp_mono _ _ _ fun a => ?_)
    iintro ⟨%ha, HR⟩
    subst ha
    iapply (ih (fun u hu => f (u + 1) (Nat.succ_lt_succ hu)) R (fun u => v (u + 1)) (fun g => k (v 0, g)) Q
      (fun u hu => h (u + 1) (Nat.succ_lt_succ hu)) hk)
    iexact HR

variable {sp : Space} {s : Shape} {e : EltTy}

/-- A load yields what the array reads at the places loaded. -/
theorem wp_lift_load {cs : CoreSpace} {M : Memref sig c.2.kind cs s e} {r : LoadRect s} {hl : M.view.LoadsAt r} {q : PosShare TreeShare}
    {X : s.Idx → Val e} {Q : (r.shape.Idx → Val e) → sProp 𝕄} :
    owns c M q X ⊢ iprop((owns c M q X -∗ Q fun x => X (r.idx x))
      -∗ wp frame (wpE defs 𝒱 c bd) Set.univ (Prog.lift (.load M r hl)) Q) := by
  unfold owns
  iintro ⟨%f, %hf, H⟩ HK
  iapply (wp_load 𝒱 c bd Set.univ (M.view.setOn_subset_set _)) $$ H
  iintro H
  rw [wp_ret, show M.view.readAt Val r f = fun x => X (r.idx x) by subst hf; rfl]; imodintro
  iapply HK
  iexists f; isplitr
  · ipureintro; exact hf
  · iexact H

/-- A load through an array's reshape. -/
theorem wp_lift_load_reshape {cs : CoreSpace} {M : Memref sig c.2.kind cs s e} {s' : Shape} {hn : s'.numel = s.numel} {hr} {hc} {r : LoadRect s'}
    {hl : (M.reshape s' hn hr hc).view.LoadsAt r} {q : PosShare TreeShare}
    {X : s.Idx → Val e} {Q : (r.shape.Idx → Val e) → sProp 𝕄} :
    owns c M q X ⊢ iprop((owns c M q X -∗ Q fun x => X (Shape.reshapeEquiv hn (r.idx x)))
      -∗ wp frame (wpE defs 𝒱 c bd) Set.univ (Prog.lift (.load (M.reshape s' hn hr hc) r hl)) Q) := by
  unfold owns
  iintro ⟨%f, %hf, H⟩ HK
  iapply (wp_load (m := M.reshape s' hn hr hc) 𝒱 c bd Set.univ (f := f) (q := q) (S := M.view.set) (by
    refine ((M.reshape s' hn hr hc).view.setOn_subset_set _).trans ?_
    exact subset_of_eq (M.view.set_reshape hn))) $$ H
  iintro H
  rw [wp_ret, show (M.reshape s' hn hr hc).view.readAt Val r f = fun x => X (Shape.reshapeEquiv hn (r.idx x)) by subst hf; rfl]; imodintro
  iapply HK
  iexists f; isplitr
  · ipureintro; exact hf
  · iexact H

/-- A store leaves the array with the value put in its place. -/
theorem wp_lift_store {cs : CoreSpace} {M : Memref sig c.2.kind cs s e} {off off' size : Fin s.rank → Nat} {inb : ∀ a, off a + size a ≤ s.size a}
    {w : (Rect.unit off size inb).shape.Idx → Val e} {hx} {hm} (ho : off = off') {X : s.Idx → Val e} {Q : PUnit → sProp 𝕄} :
    owns c M fullShare X ⊢ iprop((owns c M fullShare (VecWindow.put X off' size w) -∗ Q ⟨⟩)
      -∗ wp frame (wpE defs 𝒱 c bd) Set.univ (Prog.lift (.store M (Rect.unit off size inb) w Finset.univ hx hm)) Q) := by
  unfold owns
  iintro ⟨%f, %hf, H⟩ HK
  iapply (wp_store (m := M) (r := Rect.unit off size inb) (w := w) (Mk := Finset.univ) (hx := hx) (hm := hm) (f := f) (S := M.view.set)
    𝒱 c bd Set.univ (View.setOn_slice_subset_set M.view _ _)) $$ H
  iintro H
  rw [wp_ret]; imodintro
  subst hf
  iapply HK
  iexists _; isplitr
  swap
  · iexact H
  · ipureintro
    exact View.read_writes_cons_put M.view f inb w [] ho

/-- An assumption that holds. -/
theorem wp_lift_assume {P : Prop} {d : Decidable P} (h : P) {Q : PLift P → sProp 𝕄} :
    Q ⟨h⟩ ⊢ wp frame (wpE defs 𝒱 c bd) Set.univ (Prog.lift (.assume P d) : Prog (TpuEff nD τ sig Val Λ c.2) (PLift P)) Q := by
  refine BIBase.Entails.trans ?_ (wp_assume 𝒱 c bd Set.univ h)
  rw [wp_ret]
  iintro H; imodintro; iexact H

/-- One word of a table in scalar memory. -/
theorem wp_word {M : Memref sig c.2.kind .smem s e} {off : Fin s.rank → Nat} {size : Fin s.rank → Nat} {inb : ∀ a, off a + size a ≤ s.size a}
    {h1} {hp} {q : PosShare TreeShare} {X : s.Idx → Val e} {Q : Val e → sProp 𝕄} (y : s.Idx) (hy : ∀ a, (y a).val = off a)
    (h0 : ∀ a, size a = 1) :
    owns c M q X ⊢ iprop((owns c M q X -∗ Q (X y))
      -∗ wp frame (wpE defs 𝒱 c bd) Set.univ (smemLoad M (Rect.unit off size inb) h1 hp) Q) := by
  unfold owns smemLoad
  iintro ⟨%f, %hf, H⟩ HK
  iapply (wp_smemLoadElt (m := M) (r := Rect.unit off size inb) (f := f) (S := M.view.set) 𝒱 c bd Set.univ (View.set_slice_subset M.view _)) $$ H
  iintro H
  rw [wp_ret, show (M.access (Rect.unit off size inb)).read Val f (Shape.Idx.first (h1.symm ▸ Nat.one_pos)) = X y by
    subst hf
    show M.view.read Val f _ = _
    congr 1
    funext a
    apply Fin.ext
    rw [hy a]
    have := ((Shape.Idx.first (s := (Rect.unit off size inb).shape) (h1.symm ▸ Nat.one_pos)) a).isLt
    have e : (Rect.unit off size inb).shape.size a = 1 := h0 a
    show off a + 1 * _ = off a
    omega]
  imodintro
  iapply HK
  iexists f; isplitr
  · ipureintro; exact hf
  · iexact H

end Rules

end GatherLib
-- ==== Proof.Ideal.Steps.lean ====
/- The kernel body as sequences of steps: every unrolled run of the printed body — the row copies it starts, the
   transposes, the gathers — is one step, stated once over the place it works at, repeated by `steps` (or by
   `collect` where the step yields a value). `bodyA_eq`, `bodyB_eq` and `t6_eq` say that the printed parts are these. -/
module

public import proofs.«01_k».proof.Proof.Gen.KernelIdeal.Skeleton
public import proofs.«01_k».proof.Proof.Own

@[expose] public section

noncomputable section

namespace Cert.KernelIdeal.Gather

open Idealize.ShloMosaic Idealize.SL.Sem
open Cert.KernelIdeal.Gen GatherLib

variable {F : FTy → Type} [FloatOps F]

/-- Number `u` of the unrolled steps of trip `iv`. -/
abbrev stepNo (iv : BitVec 32) (u : Nat) : BitVec 32 := Scalar.addi (Scalar.muli iv 64#32) (BitVec.ofNat 32 u)

/-- A place in the table of words: row `b`, column `m`. -/
def wordAt (b m : BitVec 32) : Fin 2 → Nat :=
  ![(Scalar.indexCast b : Index).toNat, (Scalar.indexCast m : Index).toNat]

/-- A word of the table, read. -/
abbrev readWord (arg2 : Memref sig .tc .smem S8x2048 .i32) (b m : BitVec 32)
    (h : ∀ a, wordAt b m a + S1x1.size a ≤ S8x2048.size a) : Prog (TpuEff nD τ sig (Elt F) Λ₀ .tc) (Elt F .i32) :=
  smemLoad arg2 (Rect.unit (s := S8x2048) (wordAt b m) S1x1.size h) numel1_S1x1 rfl

/-- The row of a scratch buffer a step works on, as the copies name it. -/
def rowAt (m : BitVec 32) : Fin 3 → Nat := ![m.toNat, 0, 0]

/-- The row of a scratch buffer a step works on, as loads and stores name it. -/
def rowIx (m : BitVec 32) : Fin 3 → Nat := ![(Scalar.indexCast m : Index).toNat, 0, 0]

/-- The row of the matrix a word names. -/
def srcRow (v : BitVec 32) : Fin 2 → Nat := ![v.toNat, 0]

/-- The row a word names lies inside the matrix (where the step runs at all). -/
def RowIn (P : Prop) (v : BitVec 32) : Prop :=
  ∀ (_ : P), ∀ a, (srcRow v) a + S1x9984.size a ≤ S10000x10000.size a
instance RowIn.dec (P : Prop) [Decidable P] : ∀ (v : BitVec 32), Decidable (RowIn P v) :=
  fun v => decidable_of_iff' _ (Iff.of_eq (RowIn.eq_1 P v))

/-- The first 9984 entries of row `m` of a slot. -/
abbrev slotRow (g : Memref sig .tc .vmem S256x1x10112 .f32) (m : BitVec 32)
    (h : ∀ a, rowAt m a + S1x1x9984.size a ≤ S256x1x10112.size a) : Memref sig .tc .vmem S1x9984 .f32 :=
  (g.slice (Rect.unit (s := S256x1x10112) (rowAt m) S1x1x9984.size h) (fun _ => rfl)).squeeze S1x9984 squeezes_S1x1x9984_S1x9984

/-- One row's copy out of the matrix, started: the word at `(b, m)` says which row, `r` is the row of the slot. -/
def issueStep (P : Prop) [Decidable P] (hP : P) (arg2 : Memref sig .tc .smem S8x2048 .i32)
    (arg3 : Memref sig .tc .hbm S10000x10000 .f32) (g : Memref sig .tc .vmem S256x1x10112 .f32)
    (sem : DmaSems sig S_) (b m r : BitVec 32) (hA : ∀ a, wordAt b m a + S1x1.size a ≤ S8x2048.size a)
    (hB : ∀ a, rowAt r a + S1x1x9984.size a ≤ S256x1x10112.size a) : Prog (TpuEff nD τ sig (Elt F) Λ₀ .tc) Unit := do
  let v : Elt F .i32 ← readWord arg2 b m hA
  have hw : RowIn P v := (← Prog.lift (TpuEff.assume (RowIn P v) (RowIn.dec P v))).down
  let src : Memref sig .tc .hbm S1x9984 .f32 := arg3.slice (Rect.unit (s := S10000x10000) (srcRow v) S1x9984.size (hw hP)) (fun _ => rfl)
  Prog.lift (.enqueueDma src (.here (slotRow g r hB)) (.dma sem.sem) (View.wordExact_bits rfl) ((View.wordExact_bits rfl).reshape _ _) ⟨Or.inl rfl, trivial⟩)

/-- One row's copy into a slot, awaited. -/
def waitStep (arg3 : Memref sig .tc .hbm S10000x10000 .f32) (g : Memref sig .tc .vmem S256x1x10112 .f32)
    (sem : DmaSems sig S_) (r : BitVec 32) (hB : ∀ a, rowAt r a + S1x1x9984.size a ≤ S256x1x10112.size a) :
    Prog (TpuEff nD τ sig (Elt F) Λ₀ .tc) Unit := do
  let src : Memref sig .tc .hbm S1x9984 .f32 := arg3.slice (Rect.unit (s := S10000x10000) ![0, 0] S1x9984.size inb_S10000x10000_S1x9984_0_0) (fun _ => rfl)
  Prog.lift (.waitDma2 sem.sem src (slotRow g r hB) (View.wordExact_bits rfl) ((View.wordExact_bits rfl).reshape _ _))

/-- Where lane block `k` of a slot's rows starts, in the slot seen as rows of 128. -/
theorem lanes_inb (k : Nat) (hk : k < 78) (a : Fin 2) :
    S256x128.size a = 0 ∨ (![k, 0] : Fin 2 → Nat) a + (![79, 1] : Fin 2 → Nat) a * (S256x128.size a - 1) < S20224x128.size a := by
  match a with
  | 0 => right; show k + 79 * 255 < 20224; omega
  | 1 => right; show 0 + 1 * 127 < 128; omega

/-- Where lane block `k` goes: rows `128 k … 128 k + 127` of the transposed buffer. -/
theorem block_inb (k : Nat) (hk : k < 78) (a : Fin 3) :
    (![128 * k, 0, 0] : Fin 3 → Nat) a + S128x1x256.size a ≤ S10112x1x256.size a := by
  match a with
  | 0 => show 128 * k + 128 ≤ 10112; omega
  | 1 => show 0 + 1 ≤ 1; omega
  | 2 => show 0 + 256 ≤ 256; omega

/-- Lane block `k` of a slot, transposed into its place. -/
def transStep (g : Memref sig .tc .vmem S256x1x10112 .f32) (hg : g.IsWhole)
    (gt : Memref sig .tc .vmem S10112x1x256 .f32) (k : Nat) (hk : k < 78) : Prog (TpuEff nD τ sig (Elt F) Λ₀ .tc) Unit := do
  let v : Vec F S256x128 .f32 ← Prog.lift (.load (g.reshape S20224x128 reshapes_S256x1x10112_S20224x128.1 reshapes_S256x1x10112_S20224x128.2 hg.contiguous) (⟨![k, 0], S256x128.size, ![79, 1], lanes_inb k hk⟩ : LoadRect S20224x128) (View.loadsAt_vmem h_S256x128))
  let _ : Vec F S128x1x256 .f32 ← Prog.lift (.load gt (Rect.unit (s := S10112x1x256) ![128 * k, 0, 0] S128x1x256.size (block_inb k hk)).toLoadRect (View.loadsAt_vmem h_S128x1x256))
  Prog.lift (.store gt (Rect.unit (s := S10112x1x256) ![128 * k, 0, 0] S128x1x256.size (block_inb k hk)) (k0_pay389 v) Finset.univ (View.stores_vmem_bits_univ h_S128x1x256 rfl) (.inl rfl))

/-- The eight rows of the tail a word falls among. -/
def eightAt (v : BitVec 32) : Fin 2 → Nat :=
  ![(Scalar.indexCast (Scalar.shli (Scalar.shrsi v 3#32) 3#32) : Index).toNat, 0]

/-- Those eight rows lie inside the tail and start at a multiple of eight. -/
def EightIn (v : BitVec 32) : Prop :=
  (8 ∣ (Scalar.shli (Scalar.shrsi v 3#32) 3#32 : BitVec 32).toNat) ∧ (∀ a, (eightAt v) a + S8x128.size a ≤ S10000x128.size a)
instance EightIn.dec : ∀ (v : BitVec 32), Decidable (EightIn v) :=
  fun v => decidable_of_iff' _ (Iff.of_eq (EightIn.eq_1 v))

/-- One row of the tail, by the word at `(b, m)`. -/
def tailStep (arg2 : Memref sig .tc .smem S8x2048 .i32) (arg4 : Memref sig .tc .vmem S10000x128 .f32) (b m : BitVec 32)
    (hA : ∀ a, wordAt b m a + S1x1.size a ≤ S8x2048.size a) : Prog (TpuEff nD τ sig (Elt F) Λ₀ .tc) (FVec F S1x128 .f32) := do
  let v : Elt F .i32 ← readWord arg2 b m hA
  have hw : EightIn v := (← Prog.lift (TpuEff.assume (EightIn v) (EightIn.dec v))).down
  let x : Vec F S8x128 .f32 ← Prog.lift (.load arg4 (Rect.unit (s := S10000x128) (eightAt v) S8x128.size hw.2).toLoadRect (View.loadsAt_vmem h_S8x128))
  pure (k0_pay179 v x)

theorem concat_rows (g : Row (FVec F S1x128 .f32) 64) :
    Shape.Concatenates ((Row.list (fun x => (⟨S1x128, x⟩ : (s : Shape) × (s.Idx → Elt F .f32))) 64 g).map (·.1)) S64x128 0 :=
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S64x128_d0

/-- 64 rows put one under the other. -/
def stack (g : Row (FVec F S1x128 .f32) 64) : FVec F S64x128 .f32 :=
  shapeCast S64x128 (concatenate S64x128 0 (Row.list (fun x => (⟨S1x128, x⟩ : (s : Shape) × (s.Idx → Elt F .f32))) 64 g) (concat_rows g)) shapeCasts_S64x128_S64x128

/-- 64 rows of the tail, gathered and stored. -/
def tailBody (arg2 : Memref sig .tc .smem S8x2048 .i32) (arg4 : Memref sig .tc .vmem S10000x128 .f32)
    (arg13 : Memref sig .tc .vmem S256x128 .f32) (b : BitVec 32) (m : (u : Nat) → BitVec 32)
    (hA : ∀ u, u < 64 → ∀ a, wordAt b (m u) a + S1x1.size a ≤ S8x2048.size a)
    (off : Fin 2 → Nat) (hO : ∀ a, off a + S64x128.size a ≤ S256x128.size a) :
    Prog (TpuEff nD τ sig (Elt F) Λ₀ .tc) Unit := do
  collect 64 (fun u hu => tailStep (F := F) arg2 arg4 b (m u) (hA u hu)) fun g => do
  let _ : Vec F S64x128 .f32 ← Prog.lift (.load arg13 (Rect.unit (s := S256x128) off S64x128.size hO).toLoadRect (View.loadsAt_vmem h_S64x128))
  Prog.lift (.store arg13 (Rect.unit (s := S256x128) off S64x128.size hO) (stack g) Finset.univ (View.stores_vmem_bits_univ h_S64x128 rfl) (.inl rfl))

/-- The row of the transposed buffer a word names lies inside it. -/
def ColIn (v : BitVec 32) : Prop := (∀ a, (rowIx v) a + S1x1x256.size a ≤ S10112x1x256.size a)
instance ColIn.dec : ∀ (v : BitVec 32), Decidable (ColIn v) :=
  fun v => decidable_of_iff' _ (Iff.of_eq (ColIn.eq_1 v))

/-- One row of the tile, gathered out of the transposed buffer by the word at `(b, m)`. -/
def tileStep (arg2 : Memref sig .tc .smem S8x2048 .i32) (gt : Memref sig .tc .vmem S10112x1x256 .f32)
    (tile : Memref sig .tc .vmem S2048x1x256 .f32) (b m : BitVec 32)
    (hA : ∀ a, wordAt b m a + S1x1.size a ≤ S8x2048.size a)
    (hO : ∀ a, rowIx m a + S1x1x256.size a ≤ S2048x1x256.size a) : Prog (TpuEff nD τ sig (Elt F) Λ₀ .tc) Unit := do
  let v : Elt F .i32 ← readWord arg2 b m hA
  have hw : ColIn v := (← Prog.lift (TpuEff.assume (ColIn v) (ColIn.dec v))).down
  let x : Vec F S1x1x256 .f32 ← Prog.lift (.load gt (Rect.unit (s := S10112x1x256) (rowIx v) S1x1x256.size hw).toLoadRect (View.loadsAt_vmem h_S1x1x256))
  let _ : Vec F S1x1x256 .f32 ← Prog.lift (.load tile (Rect.unit (s := S2048x1x256) (rowIx m) S1x1x256.size hO).toLoadRect (View.loadsAt_vmem h_S1x1x256))
  Prog.lift (.store tile (Rect.unit (s := S2048x1x256) (rowIx m) S1x1x256.size hO) (k0_pay391 x) Finset.univ (View.stores_vmem_bits_univ h_S1x1x256 rfl) (.inl rfl))

/-- The row of the root table a word falls in. -/
def rootAt (v : BitVec 32) : Fin 3 → Nat := ![(Scalar.indexCast (Scalar.shrsi v 7#32) : Index).toNat, 0, 0]
/-- That row lies inside the table. -/
def RootIn (v : BitVec 32) : Prop := (∀ a, (rootAt v) a + S1x1x128.size a ≤ S79x1x128.size a)
instance RootIn.dec : ∀ (v : BitVec 32), Decidable (RootIn v) :=
  fun v => decidable_of_iff' _ (Iff.of_eq (RootIn.eq_1 v))

/-- One row of the root table, gathered by the word at `(b, m)` into row `r`. -/
def rootStep (arg2 : Memref sig .tc .smem S8x2048 .i32) (arg6 : Memref sig .tc .vmem S79x1x128 .f32)
    (troot : Memref sig .tc .vmem S256x1x128 .f32) (b m r : BitVec 32)
    (hA : ∀ a, wordAt b m a + S1x1.size a ≤ S8x2048.size a)
    (hO : ∀ a, rowIx r a + S1x1x128.size a ≤ S256x1x128.size a) : Prog (TpuEff nD τ sig (Elt F) Λ₀ .tc) Unit := do
  let v : Elt F .i32 ← readWord arg2 b m hA
  have hw : RootIn v := (← Prog.lift (TpuEff.assume (RootIn v) (RootIn.dec v))).down
  let x : Vec F S1x1x128 .f32 ← Prog.lift (.load arg6 (Rect.unit (s := S79x1x128) (rootAt v) S1x1x128.size hw).toLoadRect (View.loadsAt_vmem h_S1x1x128))
  let _ : Vec F S1x1x128 .f32 ← Prog.lift (.load troot (Rect.unit (s := S256x1x128) (rowIx r) S1x1x128.size hO).toLoadRect (View.loadsAt_vmem h_S1x1x128))
  Prog.lift (.store troot (Rect.unit (s := S256x1x128) (rowIx r) S1x1x128.size hO) (k0_pay312 x) Finset.univ (View.stores_vmem_bits_univ h_S1x1x128 rfl) (.inl rfl))

/-! ## The places lie inside their arrays -/

theorem wordAt_eq (b m : BitVec 32) : wordAt b m = ![b.toNat, m.toNat] := rfl
theorem rowAt_eq (m : BitVec 32) : rowAt m = ![m.toNat, 0, 0] := rfl
theorem rowIx_eq (m : BitVec 32) : rowIx m = ![m.toNat, 0, 0] := rfl

theorem wordAt_inb (b m : BitVec 32) (hb : b.toNat < 8) (hm : m.toNat < 2048) (a : Fin 2) :
    wordAt b m a + S1x1.size a ≤ S8x2048.size a := by
  match a with
  | 0 => show b.toNat + 1 ≤ 8; omega
  | 1 => show m.toNat + 1 ≤ 2048; omega

theorem rowAt_inb (m : BitVec 32) (hm : m.toNat < 256) (a : Fin 3) :
    rowAt m a + S1x1x9984.size a ≤ S256x1x10112.size a := by
  match a with
  | 0 => show m.toNat + 1 ≤ 256; omega
  | 1 => show 0 + 1 ≤ 1; omega
  | 2 => show 0 + 9984 ≤ 10112; omega

theorem tileRow_inb (m : BitVec 32) (hm : m.toNat < 2048) (a : Fin 3) :
    rowIx m a + S1x1x256.size a ≤ S2048x1x256.size a := by
  match a with
  | 0 => show m.toNat + 1 ≤ 2048; omega
  | 1 => show 0 + 1 ≤ 1; omega
  | 2 => show 0 + 256 ≤ 256; omega

theorem rootRow_inb (m : BitVec 32) (hm : m.toNat < 256) (a : Fin 3) :
    rowIx m a + S1x1x128.size a ≤ S256x1x128.size a := by
  match a with
  | 0 => show m.toNat + 1 ≤ 256; omega
  | 1 => show 0 + 1 ≤ 1; omega
  | 2 => show 0 + 128 ≤ 128; omega

theorem stepNo_toNat {k n : Nat} (hn : n ≤ 32) (hk : k < n) {u : Nat} (hu : u < 64) :
    (stepNo (Scf.iv 0#32 1#32 k) u).toNat = 64 * k + u := by
  show ((0#32 + BitVec.ofNat 32 k * 1#32) * 64#32 + BitVec.ofNat 32 u).toNat = _
  simp only [BitVec.toNat_add, BitVec.toNat_mul, BitVec.toNat_ofNat]
  omega

/-- The sum of a tile's base and a position in it. -/
theorem base_toNat (x : BitVec 32) {t p : Nat} (hx : x.toNat = p) (ht : t < 8) (hp : p < 256) :
    (Scalar.addi (Scalar.muli (BitVec.ofNat 32 t) 256#32) x : BitVec 32).toNat = 256 * t + p := by
  show (BitVec.ofNat 32 t * 256#32 + x).toNat = _
  simp only [BitVec.toNat_add, BitVec.toNat_mul, BitVec.toNat_ofNat, hx]
  omega

theorem iv_toNat {k : Nat} (hk : k < 256) : (Scf.iv 0#32 1#32 k).toNat = k := by
  show (0#32 + BitVec.ofNat 32 k * 1#32).toNat = _
  simp only [BitVec.toNat_add, BitVec.toNat_mul, BitVec.toNat_ofNat]
  omega

/-! ## The printed conditions, in plain arithmetic of the tile number -/

theorem tile_lt (i : grid0.Coords) : (i 1).val < 8 := (i 1).isLt
theorem batch_lt (i : grid0.Coords) : (i 0).val < 8 := (i 0).isLt

theorem cond1_iff (i : grid0.Coords) : k0_cond1 i = 1#1 ↔ (i 1).val = 0 := by
  have h := tile_lt i; unfold k0_cond1; generalize (i 1).val = n at *; rcases (by omega : n = 0 ∨ n = 1 ∨ n = 2 ∨ n = 3 ∨ n = 4 ∨ n = 5 ∨ n = 6 ∨ n = 7) with rfl | rfl | rfl | rfl | rfl | rfl | rfl | rfl <;> decide
theorem cond2_iff (i : grid0.Coords) : k0_cond2 i = 1#1 ↔ (i 1).val % 2 = 0 := by
  have h := tile_lt i; unfold k0_cond2; generalize (i 1).val = n at *; rcases (by omega : n = 0 ∨ n = 1 ∨ n = 2 ∨ n = 3 ∨ n = 4 ∨ n = 5 ∨ n = 6 ∨ n = 7) with rfl | rfl | rfl | rfl | rfl | rfl | rfl | rfl <;> decide
theorem cond3_iff (i : grid0.Coords) : k0_cond3 i = 1#1 ↔ (i 1).val % 2 = 1 := by
  have h := tile_lt i; unfold k0_cond3; generalize (i 1).val = n at *; rcases (by omega : n = 0 ∨ n = 1 ∨ n = 2 ∨ n = 3 ∨ n = 4 ∨ n = 5 ∨ n = 6 ∨ n = 7) with rfl | rfl | rfl | rfl | rfl | rfl | rfl | rfl <;> decide
theorem cond4_iff (i : grid0.Coords) : k0_cond4 i = 1#1 ↔ (i 1).val + 1 < 8 ∧ (i 1).val % 2 = 0 := by
  have h := tile_lt i; unfold k0_cond4; generalize (i 1).val = n at *; rcases (by omega : n = 0 ∨ n = 1 ∨ n = 2 ∨ n = 3 ∨ n = 4 ∨ n = 5 ∨ n = 6 ∨ n = 7) with rfl | rfl | rfl | rfl | rfl | rfl | rfl | rfl <;> decide
theorem cond5_iff (i : grid0.Coords) : k0_cond5 i = 1#1 ↔ (i 1).val + 1 < 8 ∧ (i 1).val % 2 = 1 := by
  have h := tile_lt i; unfold k0_cond5; generalize (i 1).val = n at *; rcases (by omega : n = 0 ∨ n = 1 ∨ n = 2 ∨ n = 3 ∨ n = 4 ∨ n = 5 ∨ n = 6 ∨ n = 7) with rfl | rfl | rfl | rfl | rfl | rfl | rfl | rfl <;> decide

/-- The batch and tile number as words. -/
abbrev bw (i : grid0.Coords) : BitVec 32 := BitVec.ofNat 32 (i 0).val
abbrev tw (i : grid0.Coords) : BitVec 32 := BitVec.ofNat 32 (i 1).val

theorem bw_toNat (i : grid0.Coords) : (bw i).toNat = (i 0).val := by
  have h := batch_lt i; simp only [bw, BitVec.toNat_ofNat]; omega
theorem tw_toNat (i : grid0.Coords) : (tw i).toNat = (i 1).val := by
  have h := tile_lt i; simp only [tw, BitVec.toNat_ofNat]; omega

/-- Where a step of the current tile reads its word, with the tile's base added last … -/
abbrev hereNo (i : grid0.Coords) (x : BitVec 32) : BitVec 32 := Scalar.addi (Scalar.muli (tw i) 256#32) x
/-- … and where a step for the next tile does. -/
abbrev nextNo (i : grid0.Coords) (x : BitVec 32) : BitVec 32 :=
  Scalar.addi (Scalar.muli (Scalar.addi (tw i) 1#32) 256#32) x
/-- The same place as `hereNo`, added in the other order. -/
abbrev tailNo (i : grid0.Coords) (iv : BitVec 32) (u : Nat) : BitVec 32 :=
  Scalar.addi (Scalar.addi (Scalar.muli (tw i) 256#32) (Scalar.muli iv 64#32)) (BitVec.ofNat 32 u)

theorem zero_stepNo {k : Nat} (hk : k < 4) {u : Nat} (hu : u < 64) :
    (Scalar.addi 0#32 (stepNo (Scf.iv 0#32 1#32 k) u) : BitVec 32).toNat = 64 * k + u := by
  show (0#32 + stepNo (Scf.iv 0#32 1#32 k) u).toNat = _
  rw [BitVec.toNat_add, stepNo_toNat (n := 4) (by omega) hk hu, BitVec.toNat_ofNat]
  omega
theorem hereNo_toNat (i : grid0.Coords) {k : Nat} (hk : k < 4) {u : Nat} (hu : u < 64) :
    (hereNo i (stepNo (Scf.iv 0#32 1#32 k) u)).toNat = 256 * (i 1).val + (64 * k + u) :=
  base_toNat _ (stepNo_toNat (n := 4) (by omega) hk hu) (tile_lt i) (by omega)
theorem nextNo_toNat (i : grid0.Coords) (h : (i 1).val + 1 < 8) {k : Nat} (hk : k < 4) {u : Nat} (hu : u < 64) :
    (nextNo i (stepNo (Scf.iv 0#32 1#32 k) u)).toNat = 256 * ((i 1).val + 1) + (64 * k + u) := by
  have e : (Scalar.addi (tw i) 1#32 : BitVec 32) = BitVec.ofNat 32 ((i 1).val + 1) := by
    show BitVec.ofNat 32 (i 1).val + 1#32 = _
    apply BitVec.eq_of_toNat_eq; simp only [BitVec.toNat_add, BitVec.toNat_ofNat]; omega
  show (Scalar.addi (Scalar.muli (Scalar.addi (tw i) 1#32) 256#32) _ : BitVec 32).toNat = _
  rw [e]
  exact base_toNat _ (stepNo_toNat (n := 4) (by omega) hk hu) h (by omega)
theorem tailNo_toNat (i : grid0.Coords) {k : Nat} (hk : k < 4) {u : Nat} (hu : u < 64) :
    (tailNo i (Scf.iv 0#32 1#32 k) u).toNat = 256 * (i 1).val + (64 * k + u) := by
  have h := tile_lt i
  show (BitVec.ofNat 32 (i 1).val * 256#32 + (0#32 + BitVec.ofNat 32 k * 1#32) * 64#32 + BitVec.ofNat 32 u).toNat = _
  simp only [BitVec.toNat_add, BitVec.toNat_mul, BitVec.toNat_ofNat]
  omega

theorem trips1 (t : Fin k0_t1_loop.trips) : t.val < 4 := t.isLt
theorem trips2 (t : Fin k0_t2_loop.trips) : t.val < 256 := t.isLt
theorem trips3 (t : Fin k0_t3_loop.trips) : t.val < 256 := t.isLt
theorem trips4 (t : Fin k0_t4_loop.trips) : t.val < 4 := t.isLt
theorem trips5 (t : Fin k0_t5_loop.trips) : t.val < 4 := t.isLt
theorem trips6 (t : Fin k0_t6_loop.trips) : t.val < 4 := t.isLt
theorem trips7 (t : Fin k0_t7_loop.trips) : t.val < 32 := t.isLt
theorem trips8 (t : Fin k0_t8_loop.trips) : t.val < 4 := t.isLt

/-- The places of the words, all inside the table. -/
theorem inb_first (i : grid0.Coords) {k : Nat} (hk : k < 4) (u : Nat) (hu : u < 64) (a : Fin 2) :
    wordAt (bw i) (Scalar.addi 0#32 (stepNo (Scf.iv 0#32 1#32 k) u)) a + S1x1.size a ≤ S8x2048.size a :=
  wordAt_inb _ _ (by rw [bw_toNat]; exact batch_lt i) (by rw [zero_stepNo hk hu]; omega) a
theorem inb_here (i : grid0.Coords) {k : Nat} (hk : k < 4) (u : Nat) (hu : u < 64) (a : Fin 2) :
    wordAt (bw i) (hereNo i (stepNo (Scf.iv 0#32 1#32 k) u)) a + S1x1.size a ≤ S8x2048.size a :=
  wordAt_inb _ _ (by rw [bw_toNat]; exact batch_lt i) (by have := tile_lt i; rw [hereNo_toNat i hk hu]; omega) a
theorem inb_next (i : grid0.Coords) (h : (i 1).val + 1 < 8) {k : Nat} (hk : k < 4) (u : Nat) (hu : u < 64) (a : Fin 2) :
    wordAt (bw i) (nextNo i (stepNo (Scf.iv 0#32 1#32 k) u)) a + S1x1.size a ≤ S8x2048.size a :=
  wordAt_inb _ _ (by rw [bw_toNat]; exact batch_lt i) (by rw [nextNo_toNat i h hk hu]; omega) a
theorem inb_tail (i : grid0.Coords) {k : Nat} (hk : k < 4) (u : Nat) (hu : u < 64) (a : Fin 2) :
    wordAt (bw i) (tailNo i (Scf.iv 0#32 1#32 k) u) a + S1x1.size a ≤ S8x2048.size a :=
  wordAt_inb _ _ (by rw [bw_toNat]; exact batch_lt i) (by have := tile_lt i; rw [tailNo_toNat i hk hu]; omega) a
theorem inb_tile (i : grid0.Coords) {k : Nat} (hk : k < 32) (u : Nat) (hu : u < 64) (a : Fin 2) :
    wordAt (bw i) (stepNo (Scf.iv 0#32 1#32 k) u) a + S1x1.size a ≤ S8x2048.size a :=
  wordAt_inb _ _ (by rw [bw_toNat]; exact batch_lt i) (by rw [stepNo_toNat (n := 32) (by omega) hk hu]; omega) a
theorem inb_slot {k : Nat} (hk : k < 4) (u : Nat) (hu : u < 64) (a : Fin 3) :
    rowAt (stepNo (Scf.iv 0#32 1#32 k) u) a + S1x1x9984.size a ≤ S256x1x10112.size a :=
  rowAt_inb _ (by rw [stepNo_toNat (n := 4) (by omega) hk hu]; omega) a
theorem inb_wait {k : Nat} (hk : k < 256) (a : Fin 3) :
    rowAt (Scf.iv 0#32 1#32 k) a + S1x1x9984.size a ≤ S256x1x10112.size a :=
  rowAt_inb _ (by rw [iv_toNat hk]; omega) a
theorem inb_tileRow {k : Nat} (hk : k < 32) (u : Nat) (hu : u < 64) (a : Fin 3) :
    rowIx (stepNo (Scf.iv 0#32 1#32 k) u) a + S1x1x256.size a ≤ S2048x1x256.size a :=
  tileRow_inb _ (by rw [stepNo_toNat (n := 32) (by omega) hk hu]; omega) a
theorem inb_rootRow {k : Nat} (hk : k < 4) (u : Nat) (hu : u < 64) (a : Fin 3) :
    rowIx (stepNo (Scf.iv 0#32 1#32 k) u) a + S1x1x128.size a ≤ S256x1x128.size a :=
  rootRow_inb _ (by rw [stepNo_toNat (n := 4) (by omega) hk hu]; omega) a

/-- The semaphores of the two slots. -/
abbrev semA (arg14 : DmaSems sig S2) : DmaSems sig S_ :=
  (arg14.slice (Rect.unit (s := S2) ![0] S1.size inb_S2_S1_0)).squeeze S_ squeezes_S1_S_
abbrev semB (arg14 : DmaSems sig S2) : DmaSems sig S_ :=
  (arg14.slice (Rect.unit (s := S2) ![1] S1.size inb_S2_S1_1)).squeeze S_ squeezes_S1_S_

set_option maxRecDepth 100000
set_option maxHeartbeats 8000000

/-- The first part of the body, by its steps: the copies and the transposes. -/
def bodyA (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2) : Prog (TpuEff nD τ sig (Elt F) Λ₀ .tc) (Σ' (arg0 : BitVec 32) (arg1 : BitVec 32) (c0_i32_15 : BitVec 32), BitVec 32) := do
  if h : k0_cond1 i = 1#1 then do
    Scf.Loop.for k0_t1_loop (k0_t1_ok i h) () fun (t : Fin k0_t1_loop.trips) _ => steps 64 fun u hu =>
      issueStep (F := F) (k0_cond1 i = 1#1) h arg2 arg3 arg8 (semA arg14) (bw i)
        (Scalar.addi 0#32 (stepNo (Scf.iv 0#32 1#32 t) u)) (stepNo (Scf.iv 0#32 1#32 t) u)
        (inb_first i (trips1 t) u hu) (inb_slot (trips1 t) u hu)
    pure ⟨⟩
  else do
    pure ⟨⟩
  if h : k0_cond2 i = 1#1 then do
    Scf.Loop.for k0_t2_loop (k0_t2_ok i h) () fun (t : Fin k0_t2_loop.trips) _ =>
      waitStep (F := F) arg3 arg8 (semA arg14) (Scf.iv 0#32 1#32 t) (inb_wait (trips2 t))
    pure ⟨⟩
  else do
    pure ⟨⟩
  if h : k0_cond3 i = 1#1 then do
    Scf.Loop.for k0_t3_loop (k0_t3_ok i h) () fun (t : Fin k0_t3_loop.trips) _ =>
      waitStep (F := F) arg3 arg9 (semB arg14) (Scf.iv 0#32 1#32 t) (inb_wait (trips3 t))
    pure ⟨⟩
  else do
    pure ⟨⟩
  if h : k0_cond4 i = 1#1 then do
    Scf.Loop.for k0_t4_loop (k0_t4_ok i h) () fun (t : Fin k0_t4_loop.trips) _ => steps 64 fun u hu =>
      issueStep (F := F) (k0_cond4 i = 1#1) h arg2 arg3 arg9 (semB arg14) (bw i)
        (nextNo i (stepNo (Scf.iv 0#32 1#32 t) u)) (stepNo (Scf.iv 0#32 1#32 t) u)
        (inb_next i ((cond4_iff i).1 h).1 (trips4 t) u hu) (inb_slot (trips4 t) u hu)
    pure ⟨⟩
  else do
    pure ⟨⟩
  if h : k0_cond5 i = 1#1 then do
    Scf.Loop.for k0_t5_loop (k0_t5_ok i h) () fun (t : Fin k0_t5_loop.trips) _ => steps 64 fun u hu =>
      issueStep (F := F) (k0_cond5 i = 1#1) h arg2 arg3 arg8 (semA arg14) (bw i)
        (nextNo i (stepNo (Scf.iv 0#32 1#32 t) u)) (stepNo (Scf.iv 0#32 1#32 t) u)
        (inb_next i ((cond5_iff i).1 h).1 (trips5 t) u hu) (inb_slot (trips5 t) u hu)
    pure ⟨⟩
  else do
    pure ⟨⟩
  if h : (Scalar.cmpi .ne (Scalar.extui (Scalar.cmpi .eq (Scalar.remsi (tw i) 2#32 : BitVec 32) 0#32) : BitVec 32) 0#32) = 1#1 then do
    steps 78 fun k hk => transStep (F := F) arg8 harg8 arg10 k hk
    pure ⟨⟩
  else do
    pure ⟨⟩
  if h : (Scalar.cmpi .ne (Scalar.extui (Scalar.cmpi .eq (Scalar.remsi (tw i) 2#32 : BitVec 32) 1#32) : BitVec 32) 0#32) = 1#1 then do
    steps 78 fun k hk => transStep (F := F) arg9 harg9 arg10 k hk
    pure ⟨⟩
  else do
    pure ⟨⟩
  pure ⟨bw i, tw i, 0#32, 1#32⟩

/-- The second part: the gathers, and what the output block is computed from. -/
def bodyB (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2) : Prog (TpuEff nD τ sig (Elt F) Λ₀ .tc) (Σ' (v48 : FVec F S256x1 .f32) (v51 : FVec F S128x2048 .f32) (v52 : IVec S128x2048 32) (v53 : IVec S128x2048 32), IVec S128x2048 32) := do
  Scf.Loop.for k0_t6_loop k0_t6_ok () (k0_t6_body (F := F) i arg2 harg2 arg3 harg3 arg4 harg4 arg5 harg5 arg6 harg6 arg7 harg7 arg8 harg8 arg9 harg9 arg10 harg10 arg11 harg11 arg12 harg12 arg13 harg13 arg14 (bw i) (tw i) 0#32 1#32)
  let v29 : Vec F S256x128 .f32 ← Prog.lift (.load arg13 (Rect.unit (s := S256x128) ![0, 0] S256x128.size inb_S256x128_S256x128_0_0).toLoadRect (View.loadsAt_vmem h_S256x128))
  let _ : Vec F S128x1x256 .f32 ← Prog.lift (.load arg10 (Rect.unit (s := S10112x1x256) ![9872, 0, 0] S128x1x256.size inb_S10112x1x256_S128x1x256_9872_0_0).toLoadRect (View.loadsAt_vmem h_S128x1x256))
  Prog.lift (.store arg10 (Rect.unit (s := S10112x1x256) ![9872, 0, 0] S128x1x256.size inb_S10112x1x256_S128x1x256_9872_0_0) (k0_pay389 v29) Finset.univ (View.stores_vmem_bits_univ h_S128x1x256 rfl) (.inl rfl))
  Scf.Loop.for k0_t7_loop k0_t7_ok () fun (t : Fin k0_t7_loop.trips) _ => steps 64 fun u hu =>
    tileStep (F := F) arg2 arg10 arg11 (bw i) (stepNo (Scf.iv 0#32 1#32 t) u) (inb_tile i (trips7 t) u hu) (inb_tileRow (trips7 t) u hu)
  Scf.Loop.for k0_t8_loop k0_t8_ok () fun (t : Fin k0_t8_loop.trips) _ => steps 64 fun u hu =>
    rootStep (F := F) arg2 arg6 arg12 (bw i) (hereNo i (stepNo (Scf.iv 0#32 1#32 t) u)) (stepNo (Scf.iv 0#32 1#32 t) u)
      (inb_here i (trips8 t) u hu) (inb_rootRow (trips8 t) u hu)
  let v36 : Vec F S1x1x256x1 .i32 ← Prog.lift (.load arg5 (Rect.unit (s := S1x1x256x1) ![0, 0, 0, 0] S1x1x256x1.size inb_S1x1x256x1_S1x1x256x1_0_0_0_0).toLoadRect (View.loadsAt_vmem h_S1x1x256x1))
  let v39 : Vec F S256x1x128 .f32 ← Prog.lift (.load arg12 (Rect.unit (s := S256x1x128) ![0, 0, 0] S256x1x128.size inb_S256x1x128_S256x1x128_0_0_0).toLoadRect (View.loadsAt_vmem h_S256x1x128))
  let v50 : Vec F S2048x128 .f32 ← Prog.lift (.load (arg11.reshape S4096x128 reshapes_S2048x1x256_S4096x128.1 reshapes_S2048x1x256_S4096x128.2 harg11.contiguous) (⟨![0, 0], S2048x128.size, ![2, 1], inb_S4096x128_S2048x128_0_0_s_2_1⟩ : LoadRect S4096x128) (View.loadsAt_vmem h_S2048x128))
  pure ⟨k0_pay393 v36 v39, k0_pay394 v50, iota .tc S128x2048 32 [0] iota_S128x2048_d0_w32, iota .tc S128x2048 32 [1] iota_S128x2048_d1_w32, k0_pay395 (tw i)⟩

/-- The two printed parts are these. -/
theorem bodyA_eq (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2) : k0_part157 (F := F) i arg2 harg2 arg3 harg3 arg4 harg4 arg5 harg5 arg6 harg6 arg7 harg7 arg8 harg8 arg9 harg9 arg10 harg10 arg11 harg11 arg12 harg12 arg13 harg13 arg14 = bodyA (F := F) i arg2 harg2 arg3 harg3 arg4 harg4 arg5 harg5 arg6 harg6 arg7 harg7 arg8 harg8 arg9 harg9 arg10 harg10 arg11 harg11 arg12 harg12 arg13 harg13 arg14 := rfl
theorem bodyB_eq (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2) : k0_part158 (F := F) i arg2 harg2 arg3 harg3 arg4 harg4 arg5 harg5 arg6 harg6 arg7 harg7 arg8 harg8 arg9 harg9 arg10 harg10 arg11 harg11 arg12 harg12 arg13 harg13 arg14 (bw i) (tw i) 0#32 1#32 = bodyB (F := F) i arg2 harg2 arg3 harg3 arg4 harg4 arg5 harg5 arg6 harg6 arg7 harg7 arg8 harg8 arg9 harg9 arg10 harg10 arg11 harg11 arg12 harg12 arg13 harg13 arg14 := rfl

/-- The loop over the tail's rows, by its steps. -/
theorem t6_eq (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2) :
    k0_t6_body (F := F) i arg2 harg2 arg3 harg3 arg4 harg4 arg5 harg5 arg6 harg6 arg7 harg7 arg8 harg8 arg9 harg9 arg10 harg10 arg11 harg11 arg12 harg12 arg13 harg13 arg14 (bw i) (tw i) 0#32 1#32 = fun (t : Fin k0_t6_loop.trips) _ =>
      tailBody (F := F) arg2 arg4 arg13 (bw i) (tailNo i (Scf.iv 0#32 1#32 t)) (inb_tail i (trips6 t))
        (k0_off707 t) (k0_off707_inb t) := rfl

end Cert.KernelIdeal.Gather
-- ==== Proof.Ideal.Copies.lean ====
/- The row copies: starting one, awaiting them all, and what the slot then holds. -/
module

public import proofs.«01_k».proof.Proof.Ideal.Steps
public import Idealize.ShloMosaic.Lib.Pointwise.Reshape

@[expose] public section

noncomputable section

set_option maxRecDepth 20000

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal.Gen GatherLib

variable {F : FTy → Type} [FloatOps F]

local notation "𝕄" => MT nD τ sig Unit (Elt F) ℕ (Pipeline.UD sig nD τ) ℕ

/-- The counters the copies in flight are counted by. -/
abbrev EC : UEmb Counters 𝕄 := countersEmb (U := Pipeline.UD sig nD τ)

/-- The place `(b, m)` of the table of words. -/
def wordIx (b m : Nat) : S8x2048.Idx := fun a => match a with
  | 0 => ⟨b % 8, Nat.mod_lt _ (by decide)⟩
  | 1 => ⟨m % 2048, Nat.mod_lt _ (by decide)⟩

/-- The word there, as a number. -/
def wd (X2 : S8x2048.Idx → BitVec 32) (b m : Nat) : Nat := (X2 (wordIx b m)).toNat

theorem wordIx_val (b m : BitVec 32) (hb : b.toNat < 8) (hm : m.toNat < 2048) (a : Fin 2) :
    (wordIx b.toNat m.toNat a).val = wordAt b m a := by
  match a with
  | 0 => exact Nat.mod_eq_of_lt hb
  | 1 => exact Nat.mod_eq_of_lt hm

section Slot

variable (g : Memref sig .tc .vmem S256x1x10112 .f32) (arg3 : Memref sig .tc .hbm S10000x10000 .f32)

/-- Row `r` of a slot. -/
def rowSet (r : Nat) : Finset g.view.ty.Idx := g.view.setOn (Finset.univ.filter fun x => (x 0).val = r)

/-- The first 9984 entries of row `n` of the matrix. -/
def srcSet (n : Nat) : Finset arg3.view.ty.Idx :=
  arg3.view.setOn (Finset.univ.filter fun y => (y 0).val = n ∧ (y 1).val < 9984)

/-- Row `r` of the slot holds the first 9984 entries of row `n` of the matrix `W`. -/
def Filled (W : S10000x10000.Idx → Elt F .f32) (r n : Nat) (X : S256x1x10112.Idx → Elt F .f32) : Prop :=
  ∀ (x : S256x1x10112.Idx) (y : S10000x10000.Idx), (x 0).val = r → (y 0).val = n → (y 1).val = (x 2).val → (x 2).val < 9984 → X x = W y

theorem slotRow_set (m : BitVec 32) (h) : (slotRow g m h).view.set ⊆ rowSet g m.toNat := by
  rw [show (slotRow g m h).view.set = (g.view.slice (Rect.unit (s := S256x1x10112) (rowAt m) S1x1x9984.size h)).set from
    View.set_reshape _ _, View.set_slice]
  refine Finset.map_subset_map.mpr fun x hx => ?_
  rw [← Rect.map_emb_univ, Finset.mem_map] at hx
  obtain ⟨z, -, rfl⟩ := hx
  refine Finset.mem_filter.mpr ⟨Finset.mem_univ _, ?_⟩
  have := (z 0).isLt
  show m.toNat + 1 * (z 0).val = m.toNat
  have e : (Rect.unit (s := S256x1x10112) (rowAt m) S1x1x9984.size h).shape.size 0 = 1 := rfl
  omega

theorem src_set (v : BitVec 32) (h : ∀ a, srcRow v a + S1x9984.size a ≤ S10000x10000.size a) :
    (arg3.view.slice (Rect.unit (s := S10000x10000) (srcRow v) S1x9984.size h)).set = srcSet arg3 v.toNat := by
  rw [View.set_slice]
  unfold srcSet View.setOn
  refine congrArg (Finset.map _) ?_
  ext y
  rw [← Rect.map_emb_univ, Finset.mem_map, Finset.mem_filter]
  constructor
  · rintro ⟨z, -, rfl⟩
    have h0 := (z 0).isLt
    have h1 := (z 1).isLt
    have e0 : (Rect.unit (s := S10000x10000) (srcRow v) S1x9984.size h).shape.size 0 = 1 := rfl
    have e1 : (Rect.unit (s := S10000x10000) (srcRow v) S1x9984.size h).shape.size 1 = 9984 := rfl
    refine ⟨Finset.mem_univ _, ?_, ?_⟩
    · show v.toNat + 1 * (z 0).val = v.toNat; omega
    · show 0 + 1 * (z 1).val < 9984; omega
  · rintro ⟨-, h0, h1⟩
    refine ⟨fun a => match a with | 0 => ⟨0, Nat.one_pos⟩ | 1 => ⟨(y 1).val, h1⟩, Finset.mem_univ _, ?_⟩
    funext a
    apply Fin.ext
    match a with
    | 0 => show v.toNat + 1 * 0 = _; omega
    | 1 => show 0 + 1 * (y 1).val = _; omega

/-- What a copy leaves in its row. -/
theorem filled_write (fd : g.view.ty.Contents (Elt F)) (fW : arg3.view.ty.Contents (Elt F)) (m v : BitVec 32) (h)
    (hv : ∀ a, srcRow v a + S1x9984.size a ≤ S10000x10000.size a) :
    Filled (arg3.view.read (Elt F) fW) m.toNat v.toNat (g.view.read (Elt F) ((slotRow g m h).view.write (Elt F) fd
      ((arg3.view.slice (Rect.unit (s := S10000x10000) (srcRow v) S1x9984.size hv)).read (Elt F) fW) Finset.univ)) := by
  intro x y hx h0 h1 h2
  let z : S1x9984.Idx := fun a => match a with | 0 => ⟨0, by decide⟩ | 1 => ⟨(x 2).val, h2⟩
  let z' : S1x1x9984.Idx := fun a => match a with | 0 => ⟨0, by decide⟩ | 1 => ⟨0, by decide⟩ | 2 => ⟨(x 2).val, h2⟩
  have hz : Shape.reshapeEquiv squeezes_S1x1x9984_S1x9984.numel_eq z = z' :=
    Shape.reshapeEquiv_eq_of_vals _ z z' _ _ (rowMajor_val3 z' 9984 9984 rfl rfl) (rowMajor_val2 z 9984 rfl) (by
      show 0 * 9984 + 0 * 9984 + (x 2).val = 0 * 9984 + (x 2).val; omega)
  have hx' : x = (Rect.unit (s := S256x1x10112) (rowAt m) S1x1x9984.size h).emb z' := by
    funext a
    apply Fin.ext
    match a with
    | 0 => show _ = m.toNat + 1 * 0; omega
    | 1 => show (x 1).val = 0 + 1 * 0; have := (x 1).isLt; have e : S256x1x10112.size 1 = 1 := rfl; omega
    | 2 => show _ = 0 + 1 * (x 2).val; omega
  have hy : (Rect.unit (s := S10000x10000) (srcRow v) S1x9984.size hv).emb z = y := by
    funext a
    apply Fin.ext
    match a with
    | 0 => show v.toNat + 1 * 0 = _; omega
    | 1 => show 0 + 1 * (x 2).val = _; omega
  have key := congrFun (View.read_write_univ (Val := Elt F) (v := (slotRow g m h).view) fd
    ((arg3.view.slice (Rect.unit (s := S10000x10000) (srcRow v) S1x9984.size hv)).read (Elt F) fW)) z
  rw [hx', ← hz, ← hy]
  exact key

variable (c : Dev nD) (q : PosShare TreeShare) (fW : arg3.view.ty.Contents (Elt F)) (n : Nat → Nat)

/-- Before its copy starts, row `i`: the row itself and a share of the matrix. -/
def Ready (i : Fin 256) : sProp 𝕄 :=
  iprop((∃ f, g.view.loc (c : Thread nD τ) ↦[rowSet g i.val]{fullShare} f) ∗ (arg3.view.loc (c : Thread nD τ) ↦[arg3.view.set]{shareTok q 256 i} fW))

/-- While its copy is in flight, what remains: that share less the row copied. -/
def Aside (i : Fin 256) : sProp 𝕄 :=
  arg3.view.loc (c : Thread nD τ) ↦[arg3.view.set \ srcSet arg3 (n i.val)]{shareTok q 256 i} fW

/-- What the copy gives back: the row, filled, and the share of what was copied. -/
def Landed (i : Fin 256) : sProp 𝕄 :=
  iprop((∃ f, ⌜Filled (arg3.view.read (Elt F) fW) i.val (n i.val) (g.view.read (Elt F) f)⌝ ∗ (g.view.loc (c : Thread nD τ) ↦[rowSet g i.val]{fullShare} f))
    ∗ (arg3.view.loc (c : Thread nD τ) ↦[srcSet arg3 (n i.val)]{shareTok q 256 i} fW))

instance landed_storable (i : Fin 256) : Storable (upEmb : UEmb _ 𝕄) (Landed g arg3 c q fW n i) := by
  unfold Landed; infer_instance

/-- What one copy counts for on its semaphore. -/
def credit : ℕ := (slotRow g 0#32 (rowAt_inb _ (by decide))).view.dmaCredit

theorem credit_pos : 0 < credit g := View.dmaCredit_pos _ (by decide)

/-- With the first `j` copies started. -/
def Started (sem : DmaSems sig S_) (j : Nat) : sProp 𝕄 :=
  iprop((bigSep Finset.univ fun i : Fin 256 => if i.val < j then Aside arg3 c q fW n i else Ready g arg3 c q fW i)
    ∗ Batch (n := 256) EC (c : Thread nD τ) (.dma sem.sem) () (credit g) (Landed g arg3 c q fW n) j 0)

variable (𝒱 : Variants) (bd : Option 𝒱.V) (arg2 : Memref sig .tc .smem S8x2048 .i32) (X2 : S8x2048.Idx → BitVec 32) (q2 : PosShare TreeShare)

/-- One copy started. -/
theorem wp_issue (sem : DmaSems sig S_) (P : Prop) [Decidable P] (hP : P) (b m r : BitVec 32) (hA) (hB) (hb : b.toNat < 8) (hm : m.toNat < 2048)
    (hr : r.toNat < 256) (hn : wd X2 b.toNat m.toNat = n r.toNat) (hw : ∀ y, (X2 y).toNat < 10000) :
    iprop(owns (c : Thread nD τ) arg2 q2 X2 ∗ Started g arg3 c q fW n sem r.toNat)
      ⊢ wp frame (wpE (defs₀ (F := F)) 𝒱 (c : Thread nD τ) bd) Set.univ (issueStep (F := F) P hP arg2 arg3 g sem b m r hA hB)
        fun _ => iprop(owns (c : Thread nD τ) arg2 q2 X2 ∗ Started g arg3 c q fW n sem (r.toNat + 1)) := by
  unfold issueStep
  unfold Started
  have e₁ : ∀ (j : Nat) , (bigSep Finset.univ fun i : Fin 256 => if i.val < j then Aside arg3 c q fW n i else Ready g arg3 c q fW i)
      = iprop((if r.toNat < j then Aside arg3 c q fW n ⟨r.toNat, hr⟩ else Ready g arg3 c q fW ⟨r.toNat, hr⟩)
        ∗ bigSep (Finset.univ.erase ⟨r.toNat, hr⟩) fun i : Fin 256 => if i.val < j then Aside arg3 c q fW n i else Ready g arg3 c q fW i) :=
    fun j => bigSep_univ_split (⟨r.toNat, hr⟩ : Fin 256)
  have e₂ : (bigSep (Finset.univ.erase ⟨r.toNat, hr⟩) fun i : Fin 256 => if i.val < r.toNat + 1 then Aside arg3 c q fW n i else Ready g arg3 c q fW i)
      = bigSep (Finset.univ.erase ⟨r.toNat, hr⟩) fun i : Fin 256 => if i.val < r.toNat then Aside arg3 c q fW n i else Ready g arg3 c q fW i :=
    bigSep_congr fun i hi => by
      have hne : i.val ≠ r.toNat := fun h => (Finset.mem_erase.mp hi).1 (Fin.ext h)
      by_cases h : i.val < r.toNat
      · rw [if_pos h, if_pos (by omega)]
      · rw [if_neg h, if_neg (by omega)]
  rw [e₁ r.toNat, e₁ (r.toNat + 1), e₂, if_neg (lt_irrefl _), if_pos (Nat.lt_succ_self _)]
  rw [wp_bind]
  iintro ⟨H2, HS⟩
  iapply (wp_word (M := arg2) 𝒱 (c : Thread nD τ) bd (wordIx b.toNat m.toNat) (wordIx_val b m hb hm) (fun a => by match a with | 0 => rfl | 1 => rfl)) $$ H2
  iintro H2
  have hv : (X2 (wordIx b.toNat m.toNat)).toNat = n r.toNat := hn
  have hlt : (X2 (wordIx b.toNat m.toNat)).toNat < 10000 := hw _
  generalize X2 (wordIx b.toNat m.toNat) = v at *
  have hRow : RowIn P v := fun _ a => by
    match a with
    | 0 => show v.toNat + 1 ≤ 10000; omega
    | 1 => show 0 + 9984 ≤ 10000; omega
  rw [wp_bind]
  iapply (wp_lift_assume 𝒱 (c : Thread nD τ) bd hRow)
  icases HS with ⟨HR, HB⟩
  icases HR with ⟨HR, HRest⟩
  unfold Ready
  icases HR with ⟨⟨%fd, Hd⟩, Hs⟩
  have hset : (arg3.slice (Rect.unit (s := S10000x10000) (srcRow v) S1x9984.size (hRow hP)) (fun _ => rfl)).view.set = srcSet arg3 (n r.toNat) := by
    rw [← hv]; exact src_set arg3 v (hRow hP)
  have hsub : srcSet arg3 (n r.toNat) ⊆ arg3.view.set := Finset.map_subset_map.mpr (Finset.subset_univ _)
  ihave Hs' := (pointsTo_split_subset (q := shareTok q 256 ⟨r.toNat, hr⟩) (f := fW) hsub).1 $$ Hs
  icases Hs' with ⟨Hs, Ha⟩
  iapply (wp_dmaBatch (defs := defs₀ (F := F)) (n := 256) (src := arg3.slice (Rect.unit (s := S10000x10000) (srcRow v) S1x9984.size (hRow hP)) (fun _ => rfl))
    (via := .same) (dst := slotRow g r hB) (sm := .dma sem.sem) (q := shareTok q 256 ⟨r.toNat, hr⟩) (fs := fW) (fd := fd)
    (Sd := rowSet g r.toNat) (D := Landed g arg3 c q fW n) (j := r.toNat) (u := 0)
    EC 𝒱 (c : Thread nD τ) bd () (credit g) rfl (slotRow_set g r hB) hr (Nat.zero_le _) ?_) $$ [Hs Hd HB]
  · unfold Landed
    iintro ⟨Hd, Hs⟩
    isplitl [Hd]
    · iexists _
      isplitr
      swap
      · iexact Hd
      · ipureintro
        rw [← hv]
        exact filled_write g arg3 fd fW r v hB (hRow hP)
    · rw [← hset]; iexact Hs
  · isplitl [Hs]
    · rw [hset]; iexact Hs
    isplitl [Hd]
    · iexact Hd
    · iexact HB
  iintro HB
  rw [wp_ret]; imodintro
  isplitl [H2]; · iexact H2
  isplitr [HB]
  swap; · iexact HB
  isplitl [Ha]
  · unfold Aside; iexact Ha
  · iexact HRest

/-- With `k` of the 256 copies awaited. -/
def Waited (sem : DmaSems sig S_) (k : Nat) : sProp 𝕄 :=
  if k < 256 then
    iprop(Batch (n := 256) EC (c : Thread nD τ) (.dma sem.sem) () (credit g) (Landed g arg3 c q fW n) 256 (k * credit g)
      ∗ ∃ W, owes (c : Thread nD τ) 0 W)
  else iprop(bigSep Finset.univ (Landed g arg3 c q fW n) ∗ semVal ((c : Thread nD τ), .dma sem.sem) 0 ∗ ∃ W, owes (c : Thread nD τ) 0 W)

/-- One copy awaited. -/
theorem wp_waitOne (sem : DmaSems sig S_) (r : BitVec 32) (hB) (hr : r.toNat < 256) :
    Waited g arg3 c q fW n sem r.toNat
      ⊢ wp frame (wpE (defs₀ (F := F)) 𝒱 (c : Thread nD τ) bd) Set.univ (waitStep (F := F) arg3 g sem r hB)
        fun _ => Waited g arg3 c q fW n sem (r.toNat + 1) := by
  unfold waitStep Waited
  rw [if_pos hr]
  by_cases h : r.toNat + 1 < 256
  · rw [if_pos h, Nat.succ_mul]
    iintro ⟨HB, %W, HO⟩
    have hu : r.toNat * credit g + credit g < credit g * 256 := by
      rw [← Nat.succ_mul, Nat.mul_comm (credit g)]
      exact Nat.mul_lt_mul_of_pos_right h (credit_pos g)
    iapply (wp_waitBatch (defs := defs₀ (F := F)) (n := 256) EC 𝒱 (c : Thread nD τ) bd (sem := sem.sem) (dstw := slotRow g r hB) () (N := credit g) rfl
      (D := Landed g arg3 c q fW n) (u := r.toNat * credit g) hu (W := W)) $$ [HB HO]
    · isplitl [HB] <;> iassumption
    iintro ⟨HB, HO⟩
    rw [wp_ret]; imodintro
    isplitl [HB]
    · iexact HB
    · iexists _; iexact HO
  · rw [if_neg h]
    iintro ⟨HB, %W, HO⟩
    have hu : r.toNat * credit g + credit g = credit g * 256 := by
      rw [← Nat.succ_mul, Nat.mul_comm (credit g), show r.toNat.succ = 256 by omega]
    iapply (wp_waitBatchLast (defs := defs₀ (F := F)) (n := 256) EC 𝒱 (c : Thread nD τ) bd (sem := sem.sem) (dstw := slotRow g r hB) () (N := credit g) rfl
      (credit_pos g) (D := Landed g arg3 c q fW n) (u := r.toNat * credit g) hu (W := W)) $$ [HB HO]
    · isplitl [HB] <;> iassumption
    iintro ⟨HB, HS, HO⟩
    rw [wp_ret]; imodintro
    isplitl [HB]
    · iexact HB
    isplitl [HS]
    · iexact HS
    · iexists _; iexact HO

theorem rows_disjoint (r r' : Fin 256) (h : r ≠ r') : Disjoint (rowSet g r.val) (rowSet g r'.val) := by
  unfold rowSet View.setOn
  rw [Finset.disjoint_map, Finset.disjoint_filter]
  intro x _ h1 h2
  exact h (Fin.ext (h1.symm.trans h2))

theorem rows_cover : (Finset.univ.biUnion fun r : Fin 256 => rowSet g r.val) = g.view.set := by
  ext i
  rw [Finset.mem_biUnion]
  constructor
  · rintro ⟨r, -, h⟩
    exact Finset.map_subset_map.mpr (Finset.subset_univ _) h
  · intro h
    obtain ⟨x, -, rfl⟩ := Finset.mem_map.mp h
    exact ⟨x 0, Finset.mem_univ _, Finset.mem_map_of_mem _ (Finset.mem_filter.mpr ⟨Finset.mem_univ _, rfl⟩)⟩

/-- The whole slot and a share of the matrix, dealt into rows. -/
theorem ready_intro :
    iprop((∃ X, owns (c : Thread nD τ) g fullShare X) ∗ (arg3.view.loc (c : Thread nD τ) ↦[arg3.view.set]{q} fW))
      ⊢ iprop((bigSep Finset.univ (Ready g arg3 c q fW)) ∗ (arg3.view.loc (c : Thread nD τ) ↦[arg3.view.set]{shareDrop q 256} fW)) := by
  iintro ⟨⟨%X, Hg⟩, HW⟩
  unfold owns
  icases Hg with ⟨%f, %hf, Hg⟩
  ihave HW' := (pointsTo_toks_split q 256) $$ HW
  icases HW' with ⟨HD, HW⟩
  isplitr [HD]
  swap; · iexact HD
  rw [show Ready g arg3 c q fW = fun i : Fin 256 => iprop((∃ f, g.view.loc (c : Thread nD τ) ↦[rowSet g i.val]{fullShare} f) ∗ (arg3.view.loc (c : Thread nD τ) ↦[arg3.view.set]{shareTok q 256 i} fW)) from rfl,
    bigSep_sepConj]
  isplitl [Hg]
  · have hs : (g.view.loc (c : Thread nD τ) ↦[g.view.set]{fullShare} f : sProp 𝕄)
        ⊢ bigSep Finset.univ fun i : Fin 256 => iprop(∃ f, g.view.loc (c : Thread nD τ) ↦[rowSet g i.val]{fullShare} f) := by
      rw [← rows_cover g]
      refine BIBase.Entails.trans (Entails.of_eq (pointsTo_biUnion (ℓ := g.view.loc (c : Thread nD τ)) Finset.univ (fun r : Fin 256 => rowSet g r.val) (fun r _ r' _ h => rows_disjoint g r r' h))) ?_
      exact bigSep_mono fun i _ => exists_intro (Φ := fun f => (g.view.loc (c : Thread nD τ) ↦[rowSet g i.val]{fullShare} f : sProp 𝕄)) f
    iapply hs $$ Hg
  · iexact HW

/-- Everything given back: the whole slot, every row filled, and the share of the matrix. -/
theorem landed_elim (X₀ : g.view.ty.Contents (Elt F)) :
    iprop(bigSep Finset.univ (Landed g arg3 c q fW n) ∗ bigSep Finset.univ (Aside arg3 c q fW n)
        ∗ (arg3.view.loc (c : Thread nD τ) ↦[arg3.view.set]{shareDrop q 256} fW))
      ⊢ iprop((∃ X, ⌜∀ r : Fin 256, Filled (arg3.view.read (Elt F) fW) r.val (n r.val) X⌝ ∗ owns (c : Thread nD τ) g fullShare X)
        ∗ (arg3.view.loc (c : Thread nD τ) ↦[arg3.view.set]{q} fW)) := by
  have ne : Nonempty (g.view.ty.Contents (Elt F)) := ⟨X₀⟩
  rw [show Landed g arg3 c q fW n = fun i : Fin 256 => iprop((∃ f, ⌜Filled (arg3.view.read (Elt F) fW) i.val (n i.val) (g.view.read (Elt F) f)⌝ ∗ (g.view.loc (c : Thread nD τ) ↦[rowSet g i.val]{fullShare} f))
    ∗ (arg3.view.loc (c : Thread nD τ) ↦[srcSet arg3 (n i.val)]{shareTok q 256 i} fW)) from rfl, bigSep_sepConj]
  iintro ⟨⟨Hg, HL⟩, HA, HD⟩
  isplitl [Hg]
  · ihave Hg' := (bigSep_exists_pi Finset.univ (fun (i : Fin 256) (f : g.view.ty.Contents (Elt F)) =>
      iprop(⌜Filled (arg3.view.read (Elt F) fW) i.val (n i.val) (g.view.read (Elt F) f)⌝ ∗ (g.view.loc (c : Thread nD τ) ↦[rowSet g i.val]{fullShare} f) : sProp 𝕄))) $$ Hg
    icases Hg' with ⟨%fs, Hg⟩
    ihave Hg' := (bigSep_pure_out Finset.univ (fun i : Fin 256 => Filled (arg3.view.read (Elt F) fW) i.val (n i.val) (g.view.read (Elt F) (fs i)))
      (fun i : Fin 256 => (g.view.loc (c : Thread nD τ) ↦[rowSet g i.val]{fullShare} fs i : sProp 𝕄))) $$ Hg
    icases Hg' with ⟨%hfs, Hg⟩
    ihave Hg' := (pointsTo_biUnion_join (ℓ := g.view.loc (c : Thread nD τ)) Finset.univ (fun r : Fin 256 => rowSet g r.val) fs X₀
      (fun r _ r' _ h => rows_disjoint g r r' h)) $$ Hg
    icases Hg' with ⟨%f, %hf, Hg⟩
    iexists (g.view.read (Elt F) f)
    isplitr
    · ipureintro
      intro r x y hx h0 h1 h2
      rw [← hfs r (Finset.mem_univ _) x y hx h0 h1 h2, View.read_apply, View.read_apply,
        hf r (Finset.mem_univ _) _ (Finset.mem_map_of_mem _ (Finset.mem_filter.mpr ⟨Finset.mem_univ _, hx⟩))]
    · iapply (owns_intro (c : Thread nD τ) g fullShare f)
      rw [← rows_cover g]
      iexact Hg
  · iapply (pointsTo_toks_join q 256)
    isplitl [HD]; · iexact HD
    have hj : iprop((bigSep Finset.univ fun i : Fin 256 => (arg3.view.loc (c : Thread nD τ) ↦[srcSet arg3 (n i.val)]{shareTok q 256 i} fW : sProp 𝕄))
          ∗ bigSep Finset.univ (Aside arg3 c q fW n))
        ⊢ bigSep Finset.univ fun i : Fin 256 => (arg3.view.loc (c : Thread nD τ) ↦[arg3.view.set]{shareTok q 256 i} fW : sProp 𝕄) := by
      refine BIBase.Entails.trans (Entails.of_eq (bigSep_sepConj Finset.univ
        (fun i : Fin 256 => (arg3.view.loc (c : Thread nD τ) ↦[srcSet arg3 (n i.val)]{shareTok q 256 i} fW : sProp 𝕄)) (Aside arg3 c q fW n)).symm) ?_
      refine bigSep_mono fun i _ => ?_
      have hsub : srcSet arg3 (n i.val) ⊆ arg3.view.set := Finset.map_subset_map.mpr (Finset.subset_univ _)
      exact (pointsTo_split_subset (ℓ := arg3.view.loc (c : Thread nD τ)) (q := shareTok q 256 i) (f := fW) hsub).2
    iapply hj
    isplitl [HL]
    · iexact HL
    · iexact HA

end Slot

end Cert.KernelIdeal.Gather
-- ==== Proof.Ideal.Gathers.lean ====
/- The loads and stores between the copies and the output: the transposes, the rows of the tail, the tile and the roots. -/
module

public import proofs.«01_k».proof.Proof.Ideal.Copies
public import Idealize.ShloMosaic.Lib.Pipeline.Value

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Cert.KernelIdeal.Gen GatherLib

variable {F : FTy → Type} [FloatOps F]

local notation "𝕄" => MT nD τ sig Unit (Elt F) ℕ (Pipeline.UD sig nD τ) ℕ

/-! ## What the values are, entry by entry -/

theorem pay389_at (v : Vec F S256x128 .f32) (z : S128x1x256.Idx) (j : S256x128.Idx) (h0 : (j 0).val = (z 2).val) (h1 : (j 1).val = (z 0).val) :
    k0_pay389 v z = v j := by
  let z' : S128x256.Idx := fun a => match a with | 0 => z 0 | 1 => z 2
  have hz : Shape.reshapeEquiv shapeCasts_S128x256_S128x1x256 z = z' :=
    Shape.reshapeEquiv_eq_of_vals _ z z' _ _ (rowMajor_val2 z' 256 rfl) (rowMajor_val3 z 256 256 rfl rfl) (by
      have := (z 1).isLt; have e : S128x1x256.size 1 = 1 := rfl
      show (z 0).val * 256 + (z 2).val = (z 0).val * 256 + (z 1).val * 256 + (z 2).val; omega)
  show transpose S128x256 [1, 0] v transposes_S256x128_p1_0_S128x256 (Shape.reshapeEquiv shapeCasts_S128x256_S128x1x256 z) = v j
  rw [hz]
  show v _ = v j
  congr 1
  funext a
  apply Fin.ext
  match a with
  | 0 => exact h0.symm
  | 1 => exact h1.symm

theorem pay391_eq (v : Vec F S1x1x256 .f32) : k0_pay391 v = v := by
  show shapeCast S1x1x256 (shapeCast S256 v shapeCasts_S1x1x256_S256) shapeCasts_S256_S1x1x256 = v
  rw [shapeCast_comp, shapeCast_id]

theorem pay312_eq (v : Vec F S1x1x128 .f32) : k0_pay312 v = v := by
  show shapeCast S1x1x128 (shapeCast S128 v shapeCasts_S1x1x128_S128) shapeCasts_S128_S1x1x128 = v
  rw [shapeCast_comp, shapeCast_id]

/-- The row of eight a word picks. -/
theorem pay179_at (v : BitVec 32) (x : Vec F S8x128 .f32) (z : S1x128.Idx) (j : S8x128.Idx) (h0 : (j 0).val = v.toNat % 8) (h1 : (j 1).val = (z 1).val) :
    k0_pay179 (F := F) v x z = x j := by
  show shapeCast S8x128 x shapeCasts_S8x128_S8x128 _ = x j
  rw [shapeCast_id]
  congr 1
  funext a
  apply Fin.ext
  have hv : (Scalar.subi 8#32 (Scalar.andi v 7#32) : BitVec 32).toNat = 8 - v.toNat % 8 := by
    show (8#32 - (v &&& 7#32)).toNat = _
    have hand : (v &&& 7#32).toNat = v.toNat % 8 := by
      rw [BitVec.toNat_and]; exact Nat.and_two_pow_sub_one_eq_mod v.toNat 3
    rw [BitVec.toNat_sub, hand]
    have : v.toNat % 8 < 8 := Nat.mod_lt _ (by decide)
    show (2 ^ 32 - v.toNat % 8 + 8) % 2 ^ 32 = _
    omega
  match a with
  | 0 =>
    show ((0 + (z 0).val) + 8 - ((Scalar.subi 8#32 (Scalar.andi v 7#32) : BitVec 32).toNat + 0) % 8) % 8 = (j 0).val
    have := (z 0).isLt; have e : S1x128.size 0 = 1 := rfl
    rw [hv, h0]
    have : v.toNat % 8 < 8 := Nat.mod_lt _ (by decide)
    omega
  | 1 => show 0 + (z 1).val = (j 1).val; omega

/-- Entry of a stack of rows. -/
theorem stack_at (f : Nat → FVec F S1x128 .f32) (z : S64x128.Idx) (j : S1x128.Idx) (h1 : (j 1).val = (z 1).val) :
    stack (Row.of 64 f) z = f (z 0).val j := by
  unfold stack
  rw [shapeCast_id]
  have e := Row.list_of (fun x => (⟨S1x128, x⟩ : (s : Shape) × (s.Idx → Elt F .f32))) 64 f
  have key : ∀ (xs ys : List ((s : Shape) × (s.Idx → Elt F .f32))) (hx : Shape.Concatenates (xs.map (·.1)) S64x128 0) (exy : xs = ys)
      (hy : Shape.Concatenates (ys.map (·.1)) S64x128 0), concatenate S64x128 0 xs hx z = concatenate S64x128 0 ys hy z := by
    intro xs ys hx exy hy; subst exy; rfl
  rw [key _ _ _ e (e ▸ concat_rows (Row.of 64 f))]
  exact concatenate_ofFn_unit_apply (t := S64x128) (s₁ := S1x128) 0 (fun u : Fin 64 => f u.val) _ rfl rfl z (z 0) rfl j (fun b hb => by
    match b with
    | 0 => exact absurd rfl hb
    | 1 => exact h1)

/-! ## The steps -/

theorem shr_toNat (v : BitVec 32) (hv : v.toNat < 10000) (k : Nat) (hk : k < 32) :
    (Scalar.shrsi v (BitVec.ofNat 32 k) : BitVec 32).toNat = v.toNat / 2 ^ k := by
  have hmsb : v.msb = false := by
    rw [BitVec.msb_eq_decide]; exact decide_eq_false (by omega)
  have hk' : (BitVec.ofNat 32 k).toNat = k := by rw [BitVec.toNat_ofNat]; omega
  unfold Scalar.shrsi IntOp.shrsi
  rw [if_pos (by omega), BitVec.sshiftRight', hk', BitVec.sshiftRight_eq_of_msb_false hmsb, BitVec.toNat_ushiftRight, Nat.shiftRight_eq_div_pow]

section Steps

variable (c : Dev nD) (𝒱 : Variants) (bd : Option 𝒱.V) (arg2 : Memref sig .tc .smem S8x2048 .i32) (X2 : S8x2048.Idx → BitVec 32) (q2 : PosShare TreeShare)

/-- The first `k` lane blocks of the slot stand transposed. -/
def Transposed (X : S256x1x10112.Idx → Elt F .f32) (k : Nat) (Y : S10112x1x256.Idx → Elt F .f32) : Prop :=
  ∀ (x : S10112x1x256.Idx) (y : S256x1x10112.Idx), (x 0).val < 128 * k → (y 0).val = (x 2).val → (y 2).val = (x 0).val → Y x = X y

theorem wp_trans (g : Memref sig .tc .vmem S256x1x10112 .f32) (hg : g.IsWhole) (gt : Memref sig .tc .vmem S10112x1x256 .f32)
    (X : S256x1x10112.Idx → Elt F .f32) (k : Nat) (hk : k < 78) :
    (iprop(owns (c : Thread nD τ) g fullShare X ∗ ∃ Y, ⌜Transposed X k Y⌝ ∗ owns (c : Thread nD τ) gt fullShare Y) : sProp 𝕄)
      ⊢ wp frame (wpE (defs₀ (F := F)) 𝒱 (c : Thread nD τ) bd) Set.univ (transStep (F := F) g hg gt k hk)
        fun _ => iprop(owns (c : Thread nD τ) g fullShare X ∗ ∃ Y, ⌜Transposed X (k + 1) Y⌝ ∗ owns (c : Thread nD τ) gt fullShare Y) := by
  unfold transStep
  rw [wp_bind]
  iintro ⟨Hg, %Y, %hY, Ht⟩
  iapply (wp_lift_load_reshape (M := g) 𝒱 (c : Thread nD τ) bd) $$ Hg
  iintro Hg
  rw [wp_bind]
  iapply (wp_lift_load (M := gt) 𝒱 (c : Thread nD τ) bd) $$ Ht
  iintro Ht
  iapply (wp_lift_store (M := gt) 𝒱 (c : Thread nD τ) bd rfl) $$ Ht
  iintro Ht
  isplitl [Hg]; · iexact Hg
  iexists _
  isplitr
  swap
  · iexact Ht
  · ipureintro
    intro x y h0 h1 h2
    by_cases hx : (x 0).val < 128 * k
    · rw [put_out _ _ x 0 (.inl hx)]
      exact hY x y hx h1 h2
    · have hin : ∀ a, (![128 * k, 0, 0] : Fin 3 → Nat) a ≤ (x a).val ∧ (x a).val < (![128 * k, 0, 0] : Fin 3 → Nat) a + S128x1x256.size a := fun a => by
        match a with
        | 0 => show 128 * k ≤ (x 0).val ∧ (x 0).val < 128 * k + 128; omega
        | 1 => exact ⟨Nat.zero_le _, by show (x 1).val < 0 + 1; have := (x 1).isLt; have e : S10112x1x256.size 1 = 1 := rfl; omega⟩
        | 2 => exact ⟨Nat.zero_le _, by show (x 2).val < 0 + 256; have := (x 2).isLt; have e : S10112x1x256.size 2 = 256 := rfl; omega⟩
      rw [put_in _ _ x hin]
      have hx2 : (x 2).val < 256 := (x 2).isLt
      have hy1 : (y 1).val < 1 := (y 1).isLt
      let j : S256x128.Idx := fun a => match a with | 0 => ⟨(x 2).val, hx2⟩ | 1 => ⟨(x 0).val - 128 * k, by show _ < 128; omega⟩
      rw [pay389_at _ _ j (show (x 2).val = (x 2).val - 0 by omega) rfl]
      refine congrArg X ?_
      refine Shape.reshapeEquiv_eq_of_vals _ _ _ _ _ (rowMajor_val3 y 10112 10112 rfl rfl) (rowMajor_val2 _ 128 rfl) ?_
      show (y 0).val * 10112 + (y 1).val * 10112 + (y 2).val = (k + 79 * (x 2).val) * 128 + (0 + 1 * ((x 0).val - 128 * k))
      omega

/-- The rows before `m` of the tile are the rows of `Y` the words name. -/
def Tiled (b : Nat) (Y : S10112x1x256.Idx → Elt F .f32) (m : Nat) (T : S2048x1x256.Idx → Elt F .f32) : Prop :=
  ∀ (x : S2048x1x256.Idx) (y : S10112x1x256.Idx), (x 0).val < m → (y 0).val = wd X2 b (x 0).val → (y 2).val = (x 2).val → T x = Y y

theorem wp_tile (gt : Memref sig .tc .vmem S10112x1x256 .f32) (tile : Memref sig .tc .vmem S2048x1x256 .f32)
    (Y : S10112x1x256.Idx → Elt F .f32) (b m : BitVec 32) (hA) (hO) (hb : b.toNat < 8) (hm : m.toNat < 2048) (hw : ∀ y, (X2 y).toNat < 10000) :
    (iprop(owns (c : Thread nD τ) arg2 q2 X2 ∗ owns (c : Thread nD τ) gt fullShare Y
        ∗ ∃ T, ⌜Tiled X2 b.toNat Y m.toNat T⌝ ∗ owns (c : Thread nD τ) tile fullShare T) : sProp 𝕄)
      ⊢ wp frame (wpE (defs₀ (F := F)) 𝒱 (c : Thread nD τ) bd) Set.univ (tileStep (F := F) arg2 gt tile b m hA hO)
        fun _ => iprop(owns (c : Thread nD τ) arg2 q2 X2 ∗ owns (c : Thread nD τ) gt fullShare Y
          ∗ ∃ T, ⌜Tiled X2 b.toNat Y (m.toNat + 1) T⌝ ∗ owns (c : Thread nD τ) tile fullShare T) := by
  unfold tileStep
  rw [wp_bind]
  iintro ⟨H2, Hy, %T, %hT, Ht⟩
  iapply (wp_word (M := arg2) 𝒱 (c : Thread nD τ) bd (wordIx b.toNat m.toNat) (wordIx_val b m hb hm) (fun a => by match a with | 0 => rfl | 1 => rfl)) $$ H2
  iintro H2
  have hv : (X2 (wordIx b.toNat m.toNat)).toNat = wd X2 b.toNat m.toNat := rfl
  have hlt : (X2 (wordIx b.toNat m.toNat)).toNat < 10000 := hw _
  generalize X2 (wordIx b.toNat m.toNat) = v at hv hlt
  have hCol : ColIn v := fun a => by
    match a with
    | 0 => show v.toNat + 1 ≤ 10112; omega
    | 1 => show 0 + 1 ≤ 1; omega
    | 2 => show 0 + 256 ≤ 256; omega
  rw [wp_bind]
  iapply (wp_lift_assume 𝒱 (c : Thread nD τ) bd hCol)
  rw [wp_bind]
  iapply (wp_lift_load (M := gt) 𝒱 (c : Thread nD τ) bd) $$ Hy
  iintro Hy
  rw [wp_bind]
  iapply (wp_lift_load (M := tile) 𝒱 (c : Thread nD τ) bd) $$ Ht
  iintro Ht
  iapply (wp_lift_store (M := tile) 𝒱 (c : Thread nD τ) bd (rowIx_eq m)) $$ Ht
  iintro Ht
  isplitl [H2]; · iexact H2
  isplitl [Hy]; · iexact Hy
  iexists _
  isplitr
  swap
  · iexact Ht
  · ipureintro
    intro x y h0 h1 h2
    by_cases hx : (x 0).val < m.toNat
    · rw [put_out _ _ x 0 (.inl hx)]
      exact hT x y hx h1 h2
    · have hin : ∀ a, (![m.toNat, 0, 0] : Fin 3 → Nat) a ≤ (x a).val ∧ (x a).val < (![m.toNat, 0, 0] : Fin 3 → Nat) a + S1x1x256.size a := fun a => by
        match a with
        | 0 => show m.toNat ≤ (x 0).val ∧ (x 0).val < m.toNat + 1; omega
        | 1 => exact ⟨Nat.zero_le _, by show (x 1).val < 0 + 1; have := (x 1).isLt; have e : S2048x1x256.size 1 = 1 := rfl; omega⟩
        | 2 => exact ⟨Nat.zero_le _, by show (x 2).val < 0 + 256; have := (x 2).isLt; have e : S2048x1x256.size 2 = 256 := rfl; omega⟩
      rw [put_in _ _ x hin, pay391_eq]
      refine congrArg Y (funext fun a => Fin.ext ?_)
      match a with
      | 0 =>
        show v.toNat + 1 * ((x 0).val - m.toNat) = _
        rw [h1, hv, show (x 0).val = m.toNat by omega]; omega
      | 1 =>
        show 0 + 1 * ((x 1).val - 0) = _
        have := (x 1).isLt; have e : S2048x1x256.size 1 = 1 := rfl
        have := (y 1).isLt; have e : S10112x1x256.size 1 = 1 := rfl
        omega
      | 2 => show 0 + 1 * ((x 2).val - 0) = _; omega

/-- The rows before `r` of the root rows are the rows of the root table the words of the tile at `base` fall in. -/
def Rooted (b base : Nat) (X6 : S79x1x128.Idx → Elt F .f32) (r : Nat) (T : S256x1x128.Idx → Elt F .f32) : Prop :=
  ∀ (x : S256x1x128.Idx) (y : S79x1x128.Idx), (x 0).val < r → (y 0).val = wd X2 b (base + (x 0).val) / 128 → (y 2).val = (x 2).val → T x = X6 y

theorem wp_root (arg6 : Memref sig .tc .vmem S79x1x128 .f32) (troot : Memref sig .tc .vmem S256x1x128 .f32) (q6 : PosShare TreeShare)
    (X6 : S79x1x128.Idx → Elt F .f32) (base : Nat) (b m r : BitVec 32) (hA) (hO) (hb : b.toNat < 8) (hm : m.toNat < 2048) (hr : r.toNat < 256)
    (hbase : m.toNat = base + r.toNat) (hw : ∀ y, (X2 y).toNat < 10000) :
    (iprop(owns (c : Thread nD τ) arg2 q2 X2 ∗ owns (c : Thread nD τ) arg6 q6 X6
        ∗ ∃ T, ⌜Rooted X2 b.toNat base X6 r.toNat T⌝ ∗ owns (c : Thread nD τ) troot fullShare T) : sProp 𝕄)
      ⊢ wp frame (wpE (defs₀ (F := F)) 𝒱 (c : Thread nD τ) bd) Set.univ (rootStep (F := F) arg2 arg6 troot b m r hA hO)
        fun _ => iprop(owns (c : Thread nD τ) arg2 q2 X2 ∗ owns (c : Thread nD τ) arg6 q6 X6
          ∗ ∃ T, ⌜Rooted X2 b.toNat base X6 (r.toNat + 1) T⌝ ∗ owns (c : Thread nD τ) troot fullShare T) := by
  unfold rootStep
  rw [wp_bind]
  iintro ⟨H2, Hy, %T, %hT, Ht⟩
  iapply (wp_word (M := arg2) 𝒱 (c : Thread nD τ) bd (wordIx b.toNat m.toNat) (wordIx_val b m hb hm) (fun a => by match a with | 0 => rfl | 1 => rfl)) $$ H2
  iintro H2
  have hv : (X2 (wordIx b.toNat m.toNat)).toNat = wd X2 b.toNat m.toNat := rfl
  have hlt : (X2 (wordIx b.toNat m.toNat)).toNat < 10000 := hw _
  generalize X2 (wordIx b.toNat m.toNat) = v at hv hlt
  have hsh : (Scalar.shrsi v 7#32 : BitVec 32).toNat = v.toNat / 128 := shr_toNat v hlt 7 (by decide)
  have hIn : RootIn v := fun a => by
    match a with
    | 0 => show (Scalar.shrsi v 7#32 : BitVec 32).toNat + 1 ≤ 79; omega
    | 1 => show 0 + 1 ≤ 1; omega
    | 2 => show 0 + 128 ≤ 128; omega
  rw [wp_bind]
  iapply (wp_lift_assume 𝒱 (c : Thread nD τ) bd hIn)
  rw [wp_bind]
  iapply (wp_lift_load (M := arg6) 𝒱 (c : Thread nD τ) bd) $$ Hy
  iintro Hy
  rw [wp_bind]
  iapply (wp_lift_load (M := troot) 𝒱 (c : Thread nD τ) bd) $$ Ht
  iintro Ht
  iapply (wp_lift_store (M := troot) 𝒱 (c : Thread nD τ) bd (rowIx_eq r)) $$ Ht
  iintro Ht
  isplitl [H2]; · iexact H2
  isplitl [Hy]; · iexact Hy
  iexists _
  isplitr
  swap
  · iexact Ht
  · ipureintro
    intro x y h0 h1 h2
    by_cases hx : (x 0).val < r.toNat
    · rw [put_out _ _ x 0 (.inl hx)]
      exact hT x y hx h1 h2
    · have hin : ∀ a, (![r.toNat, 0, 0] : Fin 3 → Nat) a ≤ (x a).val ∧ (x a).val < (![r.toNat, 0, 0] : Fin 3 → Nat) a + S1x1x128.size a := fun a => by
        match a with
        | 0 => show r.toNat ≤ (x 0).val ∧ (x 0).val < r.toNat + 1; omega
        | 1 => exact ⟨Nat.zero_le _, by show (x 1).val < 0 + 1; have := (x 1).isLt; have e : S256x1x128.size 1 = 1 := rfl; omega⟩
        | 2 => exact ⟨Nat.zero_le _, by show (x 2).val < 0 + 128; have := (x 2).isLt; have e : S256x1x128.size 2 = 128 := rfl; omega⟩
      rw [put_in _ _ x hin, pay312_eq]
      refine congrArg X6 (funext fun a => Fin.ext ?_)
      match a with
      | 0 =>
        show (Scalar.shrsi v 7#32 : BitVec 32).toNat + 1 * ((x 0).val - r.toNat) = _
        rw [h1, hsh, hv, hbase, show (x 0).val = r.toNat by omega]; omega
      | 1 =>
        show 0 + 1 * ((x 1).val - 0) = _
        have := (x 1).isLt; have e : S256x1x128.size 1 = 1 := rfl
        have := (y 1).isLt; have e : S79x1x128.size 1 = 1 := rfl
        omega
      | 2 => show 0 + 1 * ((x 2).val - 0) = _; omega

/-- A row of the tail. -/
def tailRow (X4 : S10000x128.Idx → Elt F .f32) (n : Nat) : FVec F S1x128 .f32 :=
  fun z => X4 fun a => match a with | 0 => ⟨n % 10000, Nat.mod_lt _ (by decide)⟩ | 1 => z 1

theorem wp_tailOne (arg4 : Memref sig .tc .vmem S10000x128 .f32) (q4 : PosShare TreeShare) (X4 : S10000x128.Idx → Elt F .f32)
    (b m : BitVec 32) (hA) (hb : b.toNat < 8) (hm : m.toNat < 2048) (hw : ∀ y, (X2 y).toNat < 10000) (R : sProp 𝕄) :
    (iprop(owns (c : Thread nD τ) arg2 q2 X2 ∗ owns (c : Thread nD τ) arg4 q4 X4 ∗ R) : sProp 𝕄)
      ⊢ wp frame (wpE (defs₀ (F := F)) 𝒱 (c : Thread nD τ) bd) Set.univ (tailStep (F := F) arg2 arg4 b m hA)
        fun a => iprop(⌜a = tailRow X4 (wd X2 b.toNat m.toNat)⌝ ∗ owns (c : Thread nD τ) arg2 q2 X2 ∗ owns (c : Thread nD τ) arg4 q4 X4 ∗ R) := by
  unfold tailStep
  rw [wp_bind]
  iintro ⟨H2, H4, HR⟩
  iapply (wp_word (M := arg2) 𝒱 (c : Thread nD τ) bd (wordIx b.toNat m.toNat) (wordIx_val b m hb hm) (fun a => by match a with | 0 => rfl | 1 => rfl)) $$ H2
  iintro H2
  have hv : (X2 (wordIx b.toNat m.toNat)).toNat = wd X2 b.toNat m.toNat := rfl
  have hlt : (X2 (wordIx b.toNat m.toNat)).toNat < 10000 := hw _
  generalize X2 (wordIx b.toNat m.toNat) = v at hv hlt
  have hsh : (Scalar.shli (Scalar.shrsi v 3#32) 3#32 : BitVec 32).toNat = v.toNat / 8 * 8 := by
    have h3 : (Scalar.shrsi v 3#32 : BitVec 32).toNat = v.toNat / 8 := shr_toNat v hlt 3 (by decide)
    generalize (Scalar.shrsi v 3#32 : BitVec 32) = u at h3
    unfold Scalar.shli IntOp.shli
    rw [if_pos (by decide)]
    show (u <<< 3).toNat = _
    rw [BitVec.toNat_shiftLeft, Nat.shiftLeft_eq, h3]
    omega
  have hIn : EightIn v := ⟨by rw [hsh]; exact Dvd.intro_left _ rfl, fun a => by
    match a with
    | 0 => show (Scalar.shli (Scalar.shrsi v 3#32) 3#32 : BitVec 32).toNat + 8 ≤ 10000; omega
    | 1 => show 0 + 128 ≤ 128; omega⟩
  rw [wp_bind]
  iapply (wp_lift_assume 𝒱 (c : Thread nD τ) bd hIn)
  rw [wp_bind]
  iapply (wp_lift_load (M := arg4) 𝒱 (c : Thread nD τ) bd) $$ H4
  iintro H4
  rw [show ∀ x : FVec F S1x128 .f32, (pure x : Prog (TpuEff nD τ sig (Elt F) Λ₀ .tc) _) = .ret x from fun _ => rfl, wp_ret]
  imodintro
  isplitr
  · ipureintro
    funext z
    have hz : (z 1).val < 128 := (z 1).isLt
    let j : S8x128.Idx := fun a => match a with | 0 => ⟨v.toNat % 8, Nat.mod_lt _ (by decide)⟩ | 1 => ⟨(z 1).val, hz⟩
    rw [pay179_at v _ z j rfl rfl]
    refine congrArg X4 (funext fun a => Fin.ext ?_)
    match a with
    | 0 =>
      show (Scalar.shli (Scalar.shrsi v 3#32) 3#32 : BitVec 32).toNat + 1 * (v.toNat % 8) = wd X2 b.toNat m.toNat % 10000
      rw [← hv, hsh]; omega
    | 1 => show 0 + 1 * (z 1).val = (z 1).val; omega
  · isplitl [H2]; · iexact H2
    isplitl [H4] <;> iassumption

/-- The rows before `r` of the gathered tail are the rows of the tail the words of the tile at `base` name. -/
def Tailed (b base : Nat) (X4 : S10000x128.Idx → Elt F .f32) (r : Nat) (T : S256x128.Idx → Elt F .f32) : Prop :=
  ∀ (x : S256x128.Idx) (y : S10000x128.Idx), (x 0).val < r → (y 0).val = wd X2 b (base + (x 0).val) → (y 1).val = (x 1).val → T x = X4 y

theorem wp_tail (arg4 : Memref sig .tc .vmem S10000x128 .f32) (arg13 : Memref sig .tc .vmem S256x128 .f32) (q4 : PosShare TreeShare)
    (X4 : S10000x128.Idx → Elt F .f32) (base k : Nat) (hk : k < 4) (b : BitVec 32) (m : Nat → BitVec 32) (hA) (off) (hO) (hoff : off = ![64 * k, 0])
    (hb : b.toNat < 8) (hm : ∀ u, u < 64 → (m u).toNat = base + (64 * k + u)) (hbase : base + 256 ≤ 2048) (hw : ∀ y, (X2 y).toNat < 10000) :
    (iprop(owns (c : Thread nD τ) arg2 q2 X2 ∗ owns (c : Thread nD τ) arg4 q4 X4
        ∗ ∃ T, ⌜Tailed X2 b.toNat base X4 (64 * k) T⌝ ∗ owns (c : Thread nD τ) arg13 fullShare T) : sProp 𝕄)
      ⊢ wp frame (wpE (defs₀ (F := F)) 𝒱 (c : Thread nD τ) bd) Set.univ (tailBody (F := F) arg2 arg4 arg13 b m hA off hO)
        fun _ => iprop(owns (c : Thread nD τ) arg2 q2 X2 ∗ owns (c : Thread nD τ) arg4 q4 X4
          ∗ ∃ T, ⌜Tailed X2 b.toNat base X4 (64 * (k + 1)) T⌝ ∗ owns (c : Thread nD τ) arg13 fullShare T) := by
  unfold tailBody
  refine wp_collect 𝒱 (c : Thread nD τ) bd 64 _ _ (fun u => tailRow X4 (wd X2 b.toNat (base + (64 * k + u)))) _ _ (fun u hu => ?_) ?_
  · rw [← hm u hu]
    exact wp_tailOne c 𝒱 bd arg2 X2 q2 arg4 q4 X4 b (m u) (hA u hu) hb (by rw [hm u hu]; omega) hw _
  · iintro ⟨H2, H4, %T, %hT, Ht⟩
    rw [wp_bind]
    iapply (wp_lift_load (M := arg13) 𝒱 (c : Thread nD τ) bd) $$ Ht
    iintro Ht
    iapply (wp_lift_store (M := arg13) 𝒱 (c : Thread nD τ) bd hoff) $$ Ht
    iintro Ht
    isplitl [H2]; · iexact H2
    isplitl [H4]; · iexact H4
    iexists _
    isplitr
    swap
    · iexact Ht
    · ipureintro
      intro x y h0 h1 h2
      by_cases hx : (x 0).val < 64 * k
      · rw [put_out _ _ x 0 (.inl hx)]
        exact hT x y hx h1 h2
      · have hin : ∀ a, (![64 * k, 0] : Fin 2 → Nat) a ≤ (x a).val ∧ (x a).val < (![64 * k, 0] : Fin 2 → Nat) a + S64x128.size a := fun a => by
          match a with
          | 0 => show 64 * k ≤ (x 0).val ∧ (x 0).val < 64 * k + 64; omega
          | 1 => exact ⟨Nat.zero_le _, by show (x 1).val < 0 + 128; have := (x 1).isLt; have e : S256x128.size 1 = 128 := rfl; omega⟩
        rw [put_in _ _ x hin]
        have hx1 : (x 1).val < 128 := (x 1).isLt
        let j : S1x128.Idx := fun a => match a with | 0 => ⟨0, Nat.one_pos⟩ | 1 => ⟨(x 1).val, hx1⟩
        rw [stack_at _ _ j (show (x 1).val = (x 1).val - 0 by omega)]
        refine congrArg X4 (funext fun a => Fin.ext ?_)
        match a with
        | 0 =>
          show wd X2 b.toNat (base + (64 * k + ((x 0).val - 64 * k))) % 10000 = (y 0).val
          rw [h1, show 64 * k + ((x 0).val - 64 * k) = (x 0).val by omega]
          exact Nat.mod_eq_of_lt (hw _)
        | 1 => show (x 1).val = (y 1).val; omega

end Steps

end Cert.KernelIdeal.Gather
-- ==== Proof.Ideal.Slots.lean ====
/- The two slots of gathered rows over a grid step: which is idle, which is being filled, which is full. -/
module

public import proofs.«01_k».proof.Proof.Ideal.Gathers

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal.Gen GatherLib

variable {F : FTy → Type} [FloatOps F]

local notation "𝕄" => MT nD τ sig Unit (Elt F) ℕ (Pipeline.UD sig nD τ) ℕ

variable (g : Memref sig .tc .vmem S256x1x10112 .f32) (arg3 : Memref sig .tc .hbm S10000x10000 .f32) (c : Dev nD) (q : PosShare TreeShare)
  (fW : Buf (Elt F) (arg3.view.loc (c : Thread nD τ))) (n : Nat → Nat)

/-- No copy in flight, and nothing said of the rows. -/
def Idle (sem : DmaSems sig S_) : sProp 𝕄 :=
  iprop((∃ X, owns (c : Thread nD τ) g fullShare X) ∗ (arg3.view.loc (c : Thread nD τ) ↦[arg3.view.set]{q} fW)
    ∗ semVal ((c : Thread nD τ), .dma sem.sem) 0)

/-- All the copies in flight. -/
def Flying (sem : DmaSems sig S_) : sProp 𝕄 :=
  iprop(⌜Nonempty (g.view.ty.Contents (Elt F))⌝ ∗ Started g arg3 c q fW n sem 256
    ∗ (arg3.view.loc (c : Thread nD τ) ↦[arg3.view.set]{shareDrop q 256} fW))

/-- The rows all there. -/
def Full (sem : DmaSems sig S_) : sProp 𝕄 :=
  iprop((∃ X, ⌜∀ r : Fin 256, Filled (arg3.view.read (Elt F) fW) r.val (n r.val) X⌝ ∗ owns (c : Thread nD τ) g fullShare X)
    ∗ (arg3.view.loc (c : Thread nD τ) ↦[arg3.view.set]{q} fW) ∗ semVal ((c : Thread nD τ), .dma sem.sem) 0)

theorem full_idle (sem : DmaSems sig S_) : Full g arg3 c q fW n sem ⊢ Idle g arg3 c q fW sem := by
  unfold Full Idle
  iintro ⟨⟨%X, %h, HX⟩, Hr⟩
  isplitl [HX]
  · iexists X; iexact HX
  · iexact Hr

theorem owns_nonempty : (iprop(∃ X, owns (c : Thread nD τ) g fullShare X) : sProp 𝕄) ⊢ iprop(⌜Nonempty (g.view.ty.Contents (Elt F))⌝) := by
  unfold owns
  iintro ⟨%X, %f, -⟩
  ipureintro
  exact ⟨f⟩

theorem started_intro (sem : DmaSems sig S_) :
    iprop((bigSep Finset.univ (Ready g arg3 c q fW)) ∗ Batch (n := 256) EC (c : Thread nD τ) (.dma sem.sem) () (credit g) (Landed g arg3 c q fW n) 0 0)
      ⊢ Started g arg3 c q fW n sem 0 := by
  unfold Started
  rw [show (fun i : Fin 256 => if i.val < 0 then Aside arg3 c q fW n i else Ready g arg3 c q fW i) = Ready g arg3 c q fW from
    funext fun i => if_neg (Nat.not_lt_zero _)]

theorem waited_all (sem : DmaSems sig S_) :
    Waited g arg3 c q fW n sem 256 ⊢ iprop(bigSep Finset.univ (Landed g arg3 c q fW n) ∗ semVal ((c : Thread nD τ), .dma sem.sem) 0
      ∗ ∃ W, owes (c : Thread nD τ) 0 W) := by
  unfold Waited
  rw [if_neg (by decide)]

variable (𝒱 : Variants) (bd : Option 𝒱.V) (arg2 : Memref sig .tc .smem S8x2048 .i32) (X2 : S8x2048.Idx → BitVec 32) (q2 : PosShare TreeShare)

/-- The loop that starts them. -/
theorem wp_issueAll (sem : DmaSems sig S_) (L : Scf.Loop 32) (ok : L.OK) (hL : L.trips = 4) (P : Prop) [Decidable P] (hP : P) (b : BitVec 32)
    (m r : Fin L.trips → Nat → BitVec 32) (hA : ∀ (t : Fin L.trips) u, u < 64 → ∀ a, wordAt b (m t u) a + S1x1.size a ≤ S8x2048.size a)
    (hB : ∀ (t : Fin L.trips) u, u < 64 → ∀ a, rowAt (r t u) a + S1x1x9984.size a ≤ S256x1x10112.size a) (base : Nat) (hb : b.toNat < 8) (hbase : base + 256 ≤ 2048)
    (hm : ∀ (t : Fin L.trips) u, u < 64 → (m t u).toNat = base + (64 * t.val + u)) (hr : ∀ (t : Fin L.trips) u, u < 64 → (r t u).toNat = 64 * t.val + u)
    (hn : ∀ r, n r = wd X2 b.toNat (base + r)) (hw : ∀ y, (X2 y).toNat < 10000) :
    (iprop(owns (c : Thread nD τ) arg2 q2 X2 ∗ Idle g arg3 c q fW sem) : sProp 𝕄)
      ⊢ wp frame (wpE (defs₀ (F := F)) 𝒱 (c : Thread nD τ) bd) Set.univ
        (Scf.Loop.for L ok () fun t _ => steps 64 fun u hu => issueStep (F := F) P hP arg2 arg3 g sem b (m t u) (r t u) (hA t u hu) (hB t u hu))
        fun _ => iprop(owns (c : Thread nD τ) arg2 q2 X2 ∗ Flying g arg3 c q fW n sem) := by
  unfold Idle
  iintro ⟨H2, HX, HW, HV⟩
  ihave %hne := (owns_nonempty g c) $$ HX
  ihave HR := (ready_intro g arg3 c q fW) $$ [HX HW]
  · isplitl [HX] <;> iassumption
  icases HR with ⟨HR, HD⟩
  imod (batch_alloc' EC (c : Thread nD τ) () (credit g) (Landed g arg3 c q fW n)) $$ HV with HB
  ihave HS := (started_intro g arg3 c q fW n sem) $$ [HR HB]
  · isplitl [HR] <;> iassumption
  have hbody : ∀ (t : Fin L.trips) (acc : Unit), iprop(owns (c : Thread nD τ) arg2 q2 X2 ∗ Started g arg3 c q fW n sem (64 * t.val))
      ⊢ wp frame (wpE (defs₀ (F := F)) 𝒱 (c : Thread nD τ) bd) Set.univ
        (steps 64 fun u hu => issueStep (F := F) P hP arg2 arg3 g sem b (m t u) (r t u) (hA t u hu) (hB t u hu))
        fun _ => iprop(owns (c : Thread nD τ) arg2 q2 X2 ∗ Started g arg3 c q fW n sem (64 * (t.val + 1))) := fun t _ => by
    refine wp_steps 𝒱 (c : Thread nD τ) bd 64 _ (fun u => iprop(owns (c : Thread nD τ) arg2 q2 X2 ∗ Started g arg3 c q fW n sem (64 * t.val + u))) (fun u hu => ?_)
    have ht : t.val < 4 := by have := t.isLt; rw [← hL]; exact this
    have h := wp_issue g arg3 c q fW n 𝒱 bd arg2 X2 q2 sem P hP b (m t u) (r t u) (hA t u hu) (hB t u hu) hb (by rw [hm t u hu]; omega)
      (by rw [hr t u hu]; omega) (by rw [hm t u hu, hr t u hu, hn]) hw
    rw [hr t u hu] at h
    exact h
  iapply (Scf.wp_for _ _ _ L.lb L.ub L.st ok () _ (fun k _ => iprop(owns (c : Thread nD τ) arg2 q2 X2 ∗ Started g arg3 c q fW n sem (64 * k))) hbody)
  · isplitl [H2 HS]
    · isplitl [H2] <;> iassumption
    · iintro %acc ⟨H2, HS⟩
      rw [show Scf.trips L.lb L.ub L.st = 4 from hL]
      isplitl [H2]; · iexact H2
      unfold Flying
      isplitr; · ipureintro; exact hne
      isplitl [HS]; · iexact HS
      iexact HD

/-- The loop that awaits them. -/
theorem wp_waitAll (sem : DmaSems sig S_) (L : Scf.Loop 32) (ok : L.OK) (hL : L.trips = 256)
    (r : Fin L.trips → BitVec 32) (hB : ∀ (t : Fin L.trips) a, rowAt (r t) a + S1x1x9984.size a ≤ S256x1x10112.size a) (hr : ∀ t : Fin L.trips, (r t).toNat = t.val) :
    (iprop(Flying g arg3 c q fW n sem ∗ ∃ W, owes (c : Thread nD τ) 0 W) : sProp 𝕄)
      ⊢ wp frame (wpE (defs₀ (F := F)) 𝒱 (c : Thread nD τ) bd) Set.univ
        (Scf.Loop.for L ok () fun t _ => waitStep (F := F) arg3 g sem (r t) (hB t))
        fun _ => iprop(Full g arg3 c q fW n sem ∗ ∃ W, owes (c : Thread nD τ) 0 W) := by
  unfold Flying Started
  rw [show (fun i : Fin 256 => if i.val < 256 then Aside arg3 c q fW n i else Ready g arg3 c q fW i) = Aside arg3 c q fW n from
    funext fun i => if_pos i.isLt]
  iintro ⟨⟨%hne, ⟨HA, HB⟩, HD⟩, HO⟩
  have hbody : ∀ (t : Fin L.trips) (acc : Unit), Waited g arg3 c q fW n sem t.val
      ⊢ wp frame (wpE (defs₀ (F := F)) 𝒱 (c : Thread nD τ) bd) Set.univ (waitStep (F := F) arg3 g sem (r t) (hB t))
        fun _ => Waited g arg3 c q fW n sem (t.val + 1) := fun t _ => by
    have ht : t.val < 256 := by have := t.isLt; rw [← hL]; exact this
    have h := wp_waitOne g arg3 c q fW n 𝒱 bd sem (r t) (hB t) (by rw [hr t]; exact ht)
    rw [hr t] at h
    exact h
  iapply (Scf.wp_for _ _ _ L.lb L.ub L.st ok () _ (fun k _ => Waited g arg3 c q fW n sem k) hbody)
  · isplitl [HB HO]
    · unfold Waited
      rw [if_pos (by decide), Nat.zero_mul]
      isplitl [HB] <;> iassumption
    · iintro %acc HW
      rw [show Scf.trips L.lb L.ub L.st = 256 from hL]
      ihave HW := (waited_all g arg3 c q fW n sem) $$ HW
      icases HW with ⟨HL, HS, HO⟩
      isplitr [HO]
      swap
      · iexact HO
      obtain ⟨X₀⟩ := hne
      ihave HF := (landed_elim g arg3 c q fW n X₀) $$ [HL HA HD]
      · isplitl [HL]; · iexact HL
        isplitl [HA] <;> iassumption
      icases HF with ⟨HX, HW⟩
      unfold Full
      isplitl [HX]; · iexact HX
      isplitl [HW] <;> iassumption

end Cert.KernelIdeal.Gather
-- ==== Proof.Ideal.First.lean ====
/- The first part of the body: the copies started and awaited, and the full slot transposed. -/
module

public import proofs.«01_k».proof.Proof.Ideal.Slots

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Cert.KernelIdeal.Gen GatherLib

variable {F : FTy → Type} [FloatOps F]

local notation "𝕄" => MT nD τ sig Unit (Elt F) ℕ (Pipeline.UD sig nD τ) ℕ

section Rules

variable (c : Dev nD) (𝒱 : Variants) (bd : Option 𝒱.V) {α β : Type}

theorem wp_then {p : Prog (TpuEff nD τ sig (Elt F) Λ₀ .tc) α} {k : α → Prog (TpuEff nD τ sig (Elt F) Λ₀ .tc) β} {R R' : sProp 𝕄} {Q : β → sProp 𝕄}
    (h : R ⊢ wp frame (wpE (defs₀ (F := F)) 𝒱 (c : Thread nD τ) bd) Set.univ p fun _ => R')
    (hk : ∀ a, R' ⊢ wp frame (wpE (defs₀ (F := F)) 𝒱 (c : Thread nD τ) bd) Set.univ (k a) Q) :
    R ⊢ wp frame (wpE (defs₀ (F := F)) 𝒱 (c : Thread nD τ) bd) Set.univ (p >>= k) Q := by
  rw [wp_bind]
  exact h.trans (wp_mono _ _ _ hk)

theorem wp_framed {p : Prog (TpuEff nD τ sig (Elt F) Λ₀ .tc) α} {P P' R R' : sProp 𝕄} (S : sProp 𝕄)
    (h : P ⊢ wp frame (wpE (defs₀ (F := F)) 𝒱 (c : Thread nD τ) bd) Set.univ p fun _ => P') (h1 : R ⊢ iprop(P ∗ S)) (h2 : iprop(P' ∗ S) ⊢ R') :
    R ⊢ wp frame (wpE (defs₀ (F := F)) 𝒱 (c : Thread nD τ) bd) Set.univ p fun _ => R' :=
  by
  refine BIBase.Entails.trans h1 ?_
  iintro ⟨HP, HS⟩
  ihave HW := h $$ HP
  iapply (wp_wand _ _ _) $$ HW
  iintro %_ HP
  iapply h2
  isplitl [HP] <;> iassumption

theorem wp_cond {P : Prop} [Decidable P] {p : P → Prog (TpuEff nD τ sig (Elt F) Λ₀ .tc) α} {k : Prog (TpuEff nD τ sig (Elt F) Λ₀ .tc) β}
    {R : sProp 𝕄} (R' : sProp 𝕄) {Q : β → sProp 𝕄}
    (h : ∀ hP : P, R ⊢ wp frame (wpE (defs₀ (F := F)) 𝒱 (c : Thread nD τ) bd) Set.univ (p hP) fun _ => R')
    (h' : ¬P → R ⊢ R')
    (hk : R' ⊢ wp frame (wpE (defs₀ (F := F)) 𝒱 (c : Thread nD τ) bd) Set.univ k Q) :
    R ⊢ wp frame (wpE (defs₀ (F := F)) 𝒱 (c : Thread nD τ) bd) Set.univ (if hP : P then p hP >>= fun _ => k else k) Q := by
  by_cases hP : P
  · rw [dif_pos hP]
    exact wp_then c 𝒱 bd (h hP) fun _ => hk
  · rw [dif_neg hP]
    exact BIBase.Entails.trans (h' hP) hk

end Rules

section First

variable (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2)
  (c : Dev nD) (qA qB : PosShare TreeShare) (fW : Buf (Elt F) (arg3.view.loc (c : Thread nD τ))) (𝒱 : Variants) (bd : Option 𝒱.V)
  (X2 : S8x2048.Idx → BitVec 32) (q2 : PosShare TreeShare)

/-- The rows of the tile of number `t`. -/
def rowsOf (b t : Nat) : Nat → Nat := fun r => wd X2 b (256 * t + r)

/-- What the two slots hold before tile `t` is handled. -/
def slotA (b t : Nat) : sProp 𝕄 :=
  if t % 2 = 0 ∧ 0 < t ∧ t < 8 then Flying arg8 arg3 c qA fW (rowsOf X2 b t) (semA arg14) else Idle arg8 arg3 c qA fW (semA arg14)
def slotB (b t : Nat) : sProp 𝕄 :=
  if t % 2 = 1 then Flying arg9 arg3 c qB fW (rowsOf X2 b t) (semB arg14) else Idle arg9 arg3 c qB fW (semB arg14)

/-- The rows of the current tile, transposed, but for the tail. -/
def Gathered (b t : Nat) (Y : S10112x1x256.Idx → Elt F .f32) : Prop :=
  ∀ (x : S10112x1x256.Idx) (y : S10000x10000.Idx), (x 0).val < 9984 → (y 0).val = wd X2 b (256 * t + (x 2).val) → (y 1).val = (x 0).val →
    Y x = arg3.view.read (Elt F) fW y

theorem gathered_of (b t : Nat) (X : S256x1x10112.Idx → Elt F .f32) (Y : S10112x1x256.Idx → Elt F .f32)
    (hX : ∀ r : Fin 256, Filled (arg3.view.read (Elt F) fW) r.val (rowsOf X2 b t r.val) X) (hY : Transposed X 78 Y) : Gathered arg3 c fW X2 b t Y := by
  intro x y h0 h1 h2
  let z : S256x1x10112.Idx := fun a => match a with | 0 => x 2 | 1 => ⟨0, Nat.one_pos⟩ | 2 => x 0
  rw [hY x z (by omega) rfl rfl]
  exact hX (x 2) z y rfl h1 h2 h0

theorem wp_transAll (g : Memref sig .tc .vmem S256x1x10112 .f32) (hg : g.IsWhole) (q : PosShare TreeShare) (sem : DmaSems sig S_) (b t : Nat) :
    (iprop(Full g arg3 c q fW (rowsOf X2 b t) sem ∗ ∃ Y, owns (c : Thread nD τ) arg10 fullShare Y) : sProp 𝕄)
      ⊢ wp frame (wpE (defs₀ (F := F)) 𝒱 (c : Thread nD τ) bd) Set.univ (steps 78 fun k hk => transStep (F := F) g hg arg10 k hk)
        fun _ => iprop(Idle g arg3 c q fW sem ∗ ∃ Y, ⌜Gathered arg3 c fW X2 b t Y⌝ ∗ owns (c : Thread nD τ) arg10 fullShare Y) := by
  unfold Full Idle
  iintro ⟨⟨⟨%X, %hX, HX⟩, HW, HV⟩, %Y, HY⟩
  have h := wp_steps 𝒱 (c : Thread nD τ) bd 78 (fun k hk => transStep (F := F) g hg arg10 k hk)
    (fun k => iprop(owns (c : Thread nD τ) g fullShare X ∗ ∃ Y, ⌜Transposed X k Y⌝ ∗ owns (c : Thread nD τ) arg10 fullShare Y))
    fun k hk => wp_trans c 𝒱 bd g hg arg10 X k hk
  ihave HP := h $$ [HX HY]
  · isplitl [HX]; · iexact HX
    iexists Y
    isplitr
    · ipureintro; intro x y h0; omega
    · iexact HY
  iapply (wp_wand _ _ _) $$ HP
  iintro %_ ⟨HX, %Y', %hY', HY⟩
  isplitr [HY]
  · isplitl [HX]; · iexists X; iexact HX
    isplitl [HW] <;> iassumption
  · iexists Y'
    isplitr
    · ipureintro; exact gathered_of arg3 c fW X2 b t X Y' hX hY'
    · iexact HY

/-- What the first part works on: the words, the two slots, what is owed, and the transposed rows. -/
def St (A B Y : sProp 𝕄) : sProp 𝕄 :=
  iprop(owns (c : Thread nD τ) arg2 q2 X2 ∗ A ∗ B ∗ (∃ W, owes (c : Thread nD τ) 0 W) ∗ Y)

theorem st_swap (A B Y : sProp 𝕄) : St arg2 c X2 q2 A B Y ⊢ St arg2 c X2 q2 B A Y := by
  unfold St
  iintro ⟨H2, HA, HB, HR⟩
  isplitl [H2]; · iexact H2
  isplitl [HB]; · iexact HB
  isplitl [HA]; · iexact HA
  iexact HR

variable {α : Type} {p : Prog (TpuEff nD τ sig (Elt F) Λ₀ .tc) α}

theorem st_other {A B Y A' B' Y' : sProp 𝕄}
    (h : St arg2 c X2 q2 B A Y ⊢ wp frame (wpE (defs₀ (F := F)) 𝒱 (c : Thread nD τ) bd) Set.univ p fun _ => St arg2 c X2 q2 B' A' Y') :
    St arg2 c X2 q2 A B Y ⊢ wp frame (wpE (defs₀ (F := F)) 𝒱 (c : Thread nD τ) bd) Set.univ p fun _ => St arg2 c X2 q2 A' B' Y' :=
  BIBase.Entails.trans (st_swap arg2 c X2 q2 A B Y) (BIBase.Entails.trans h (wp_mono _ _ _ fun _ => st_swap arg2 c X2 q2 B' A' Y'))

theorem st_issue {A A' B Y : sProp 𝕄}
    (h : (iprop(owns (c : Thread nD τ) arg2 q2 X2 ∗ A) : sProp 𝕄) ⊢ wp frame (wpE (defs₀ (F := F)) 𝒱 (c : Thread nD τ) bd) Set.univ p
      fun _ => iprop(owns (c : Thread nD τ) arg2 q2 X2 ∗ A')) :
    St arg2 c X2 q2 A B Y ⊢ wp frame (wpE (defs₀ (F := F)) 𝒱 (c : Thread nD τ) bd) Set.univ p fun _ => St arg2 c X2 q2 A' B Y := by
  refine wp_framed c 𝒱 bd (iprop(B ∗ (∃ W, owes (c : Thread nD τ) 0 W) ∗ Y)) h ?_ ?_
  · unfold St
    iintro ⟨H2, HA, HR⟩
    isplitr [HR]; · isplitl [H2] <;> iassumption
    iexact HR
  · unfold St
    iintro ⟨⟨H2, HA⟩, HR⟩
    isplitl [H2]; · iexact H2
    isplitl [HA] <;> iassumption

theorem st_wait {A A' B Y : sProp 𝕄}
    (h : (iprop(A ∗ ∃ W, owes (c : Thread nD τ) 0 W) : sProp 𝕄) ⊢ wp frame (wpE (defs₀ (F := F)) 𝒱 (c : Thread nD τ) bd) Set.univ p
      fun _ => iprop(A' ∗ ∃ W, owes (c : Thread nD τ) 0 W)) :
    St arg2 c X2 q2 A B Y ⊢ wp frame (wpE (defs₀ (F := F)) 𝒱 (c : Thread nD τ) bd) Set.univ p fun _ => St arg2 c X2 q2 A' B Y := by
  refine wp_framed c 𝒱 bd (iprop(owns (c : Thread nD τ) arg2 q2 X2 ∗ B ∗ Y)) h ?_ ?_
  · unfold St
    iintro ⟨H2, HA, HB, HO, HY⟩
    isplitl [HA HO]; · isplitl [HA] <;> iassumption
    isplitl [H2]; · iexact H2
    isplitl [HB] <;> iassumption
  · unfold St
    iintro ⟨⟨HA, HO⟩, H2, HB, HY⟩
    isplitl [H2]; · iexact H2
    isplitl [HA]; · iexact HA
    isplitl [HB]; · iexact HB
    isplitl [HO] <;> iassumption

theorem st_trans {A A' B Y Y' : sProp 𝕄}
    (h : (iprop(A ∗ Y) : sProp 𝕄) ⊢ wp frame (wpE (defs₀ (F := F)) 𝒱 (c : Thread nD τ) bd) Set.univ p fun _ => iprop(A' ∗ Y')) :
    St arg2 c X2 q2 A B Y ⊢ wp frame (wpE (defs₀ (F := F)) 𝒱 (c : Thread nD τ) bd) Set.univ p fun _ => St arg2 c X2 q2 A' B Y' := by
  refine wp_framed c 𝒱 bd (iprop(owns (c : Thread nD τ) arg2 q2 X2 ∗ B ∗ ∃ W, owes (c : Thread nD τ) 0 W)) h ?_ ?_
  · unfold St
    iintro ⟨H2, HA, HB, HO, HY⟩
    isplitl [HA HY]; · isplitl [HA] <;> iassumption
    isplitl [H2]; · iexact H2
    isplitl [HB] <;> iassumption
  · unfold St
    iintro ⟨⟨HA, HY⟩, H2, HB, HO⟩
    isplitl [H2]; · iexact H2
    isplitl [HA]; · iexact HA
    isplitl [HB]; · iexact HB
    isplitl [HO] <;> iassumption

theorem even_iff : (Scalar.cmpi .ne (Scalar.extui (Scalar.cmpi .eq (Scalar.remsi (tw i) 2#32 : BitVec 32) 0#32) : BitVec 32) 0#32) = 1#1 ↔ (i 1).val % 2 = 0 :=
  cond2_iff i
theorem odd_iff : (Scalar.cmpi .ne (Scalar.extui (Scalar.cmpi .eq (Scalar.remsi (tw i) 2#32 : BitVec 32) 1#32) : BitVec 32) 0#32) = 1#1 ↔ (i 1).val % 2 = 1 :=
  cond3_iff i

/-- The first part, whole. -/
theorem wp_bodyA (hw : ∀ y, (X2 y).toNat < 10000) :
    St arg2 c X2 q2 (slotA arg3 arg8 arg14 c qA fW X2 (i 0).val (i 1).val) (slotB arg3 arg9 arg14 c qB fW X2 (i 0).val (i 1).val)
        (iprop(∃ Y, owns (c : Thread nD τ) arg10 fullShare Y))
      ⊢ wp frame (wpE (defs₀ (F := F)) 𝒱 (c : Thread nD τ) bd) Set.univ (bodyA (F := F) i arg2 harg2 arg3 harg3 arg4 harg4 arg5 harg5 arg6 harg6 arg7 harg7 arg8 harg8 arg9 harg9 arg10 harg10 arg11 harg11 arg12 harg12 arg13 harg13 arg14)
        fun r => iprop(⌜r = ⟨bw i, tw i, 0#32, 1#32⟩⌝ ∗ St arg2 c X2 q2 (slotA arg3 arg8 arg14 c qA fW X2 (i 0).val ((i 1).val + 1))
          (slotB arg3 arg9 arg14 c qB fW X2 (i 0).val ((i 1).val + 1))
          (iprop(∃ Y, ⌜Gathered arg3 c fW X2 (i 0).val (i 1).val Y⌝ ∗ owns (c : Thread nD τ) arg10 fullShare Y))) := by
  have ht := tile_lt i
  have hb : (bw i).toNat = (i 0).val := bw_toNat i
  have hb8 : (bw i).toNat < 8 := by rw [hb]; exact batch_lt i
  -- the two ways the next tile's copies are started
  have hnext : ∀ (g : Memref sig .tc .vmem S256x1x10112 .f32) (q : PosShare TreeShare) (sem : DmaSems sig S_) (L : Scf.Loop 32) (ok : L.OK) (hL : L.trips = 4)
      (P : Prop) [Decidable P] (hP : P) (h8 : (i 1).val + 1 < 8)
      (hA : ∀ (t : Fin L.trips) u, u < 64 → ∀ a, wordAt (bw i) (nextNo i (stepNo (Scf.iv 0#32 1#32 t) u)) a + S1x1.size a ≤ S8x2048.size a)
      (hB : ∀ (t : Fin L.trips) u, u < 64 → ∀ a, rowAt (stepNo (Scf.iv 0#32 1#32 t) u) a + S1x1x9984.size a ≤ S256x1x10112.size a),
      (iprop(owns (c : Thread nD τ) arg2 q2 X2 ∗ Idle g arg3 c q fW sem) : sProp 𝕄)
        ⊢ wp frame (wpE (defs₀ (F := F)) 𝒱 (c : Thread nD τ) bd) Set.univ
          (Scf.Loop.for L ok () fun (t : Fin L.trips) _ => steps 64 fun u hu => issueStep (F := F) P hP arg2 arg3 g sem (bw i)
            (nextNo i (stepNo (Scf.iv 0#32 1#32 t) u)) (stepNo (Scf.iv 0#32 1#32 t) u) (hA t u hu) (hB t u hu))
          fun _ => iprop(owns (c : Thread nD τ) arg2 q2 X2 ∗ Flying g arg3 c q fW (rowsOf X2 (i 0).val ((i 1).val + 1)) sem) :=
    fun g q sem L ok hL P _ hP h8 hA hB =>
      have tl : ∀ t : Fin L.trips, t.val < 4 := fun t => hL ▸ t.isLt
      wp_issueAll g arg3 c q fW _ 𝒱 bd arg2 X2 q2 sem L ok hL P hP (bw i) (fun t u => nextNo i (stepNo (Scf.iv 0#32 1#32 t) u))
        (fun t u => stepNo (Scf.iv 0#32 1#32 t) u) hA hB (256 * ((i 1).val + 1)) hb8 (by omega) (fun t u hu => nextNo_toNat i h8 (tl t) hu)
        (fun t u hu => stepNo_toNat (n := 4) (by omega) (tl t) hu) (fun r => by rw [hb]; rfl) hw
  have hfinal : ∀ (A B Y : sProp 𝕄) (A' B' : sProp 𝕄), A' = A → B' = B → St arg2 c X2 q2 A B Y
      ⊢ wp frame (wpE (defs₀ (F := F)) 𝒱 (c : Thread nD τ) bd) Set.univ (pure ⟨bw i, tw i, 0#32, 1#32⟩ : Prog (TpuEff nD τ sig (Elt F) Λ₀ .tc) (Σ' (arg0 : BitVec 32) (arg1 : BitVec 32) (c0_i32_15 : BitVec 32), BitVec 32))
        fun r => iprop(⌜r = ⟨bw i, tw i, 0#32, 1#32⟩⌝ ∗ St arg2 c X2 q2 A' B' Y) := fun A B Y A' B' eA eB => by
    rw [eA, eB]
    show _ ⊢ wp _ _ _ (Prog.ret _) _
    rw [wp_ret]
    iintro H
    imodintro
    isplitr; · ipureintro; rfl
    iexact H
  have hwaitNo : ∀ (L : Scf.Loop 32) (hL : L.trips = 256) (t : Fin L.trips), (Scf.iv 0#32 1#32 t.val).toNat = t.val := fun L hL t =>
    iv_toNat (hL ▸ t.isLt : t.val < 256)
  unfold bodyA
  rcases (by omega : (i 1).val % 2 = 0 ∨ (i 1).val % 2 = 1) with he | he
  · have h8 : (i 1).val + 1 < 8 := by omega
    have eB : slotB arg3 arg9 arg14 c qB fW X2 (i 0).val (i 1).val = Idle arg9 arg3 c qB fW (semB arg14) := if_neg (by omega)
    have eA' : slotA arg3 arg8 arg14 c qA fW X2 (i 0).val ((i 1).val + 1) = Idle arg8 arg3 c qA fW (semA arg14) := if_neg (by omega)
    have eB' : slotB arg3 arg9 arg14 c qB fW X2 (i 0).val ((i 1).val + 1) = Flying arg9 arg3 c qB fW (rowsOf X2 (i 0).val ((i 1).val + 1)) (semB arg14) :=
      if_pos (by omega)
    rw [eB]
    refine wp_cond c 𝒱 bd (St arg2 c X2 q2 (Flying arg8 arg3 c qA fW (rowsOf X2 (i 0).val (i 1).val) (semA arg14)) (Idle arg9 arg3 c qB fW (semB arg14)) (iprop(∃ Y, owns (c : Thread nD τ) arg10 fullShare Y)))
      (fun h1 => ?_) (fun h1 => ?_) ?_
    · have h0 := (cond1_iff i).1 h1
      rw [show slotA arg3 arg8 arg14 c qA fW X2 (i 0).val (i 1).val = Idle arg8 arg3 c qA fW (semA arg14) from if_neg (by omega)]
      have tl : ∀ t : Fin k0_t1_loop.trips, t.val < 4 := fun t => trips1 t
      exact st_issue arg2 c 𝒱 bd X2 q2 (wp_issueAll arg8 arg3 c qA fW _ 𝒱 bd arg2 X2 q2 (semA arg14) k0_t1_loop (k0_t1_ok i h1) rfl _ h1 (bw i)
        (fun t u => Scalar.addi 0#32 (stepNo (Scf.iv 0#32 1#32 t) u)) (fun t u => stepNo (Scf.iv 0#32 1#32 t) u) _ _ 0 hb8 (by omega)
        (fun t u hu => (zero_stepNo (tl t) hu).trans (Nat.zero_add _).symm)
        (fun t u hu => stepNo_toNat (n := 4) (by omega) (tl t) hu) (fun r => by rw [hb]; show wd X2 _ (256 * (i 1).val + r) = _; rw [h0]) hw)
    · have h0 : (i 1).val ≠ 0 := fun h => h1 ((cond1_iff i).2 h)
      rw [show slotA arg3 arg8 arg14 c qA fW X2 (i 0).val (i 1).val = Flying arg8 arg3 c qA fW (rowsOf X2 (i 0).val (i 1).val) (semA arg14) from if_pos (by omega)]
    refine wp_cond c 𝒱 bd (St arg2 c X2 q2 (Full arg8 arg3 c qA fW (rowsOf X2 (i 0).val (i 1).val) (semA arg14)) (Idle arg9 arg3 c qB fW (semB arg14)) (iprop(∃ Y, owns (c : Thread nD τ) arg10 fullShare Y)))
      (fun h1 => st_wait arg2 c 𝒱 bd X2 q2 (wp_waitAll arg8 arg3 c qA fW _ 𝒱 bd (semA arg14) k0_t2_loop (k0_t2_ok i h1) rfl _ _ (hwaitNo k0_t2_loop rfl)))
      (fun h1 => absurd ((cond2_iff i).2 he) h1) ?_
    refine wp_cond c 𝒱 bd _ (fun h1 => absurd ((cond3_iff i).1 h1) (by omega)) (fun _ => .rfl) ?_
    refine wp_cond c 𝒱 bd (St arg2 c X2 q2 (Full arg8 arg3 c qA fW (rowsOf X2 (i 0).val (i 1).val) (semA arg14))
      (Flying arg9 arg3 c qB fW (rowsOf X2 (i 0).val ((i 1).val + 1)) (semB arg14)) (iprop(∃ Y, owns (c : Thread nD τ) arg10 fullShare Y)))
      (fun h1 => st_other arg2 c 𝒱 bd X2 q2 (st_issue arg2 c 𝒱 bd X2 q2 (hnext arg9 qB (semB arg14) k0_t4_loop (k0_t4_ok i h1) rfl _ h1 h8 _ _)))
      (fun h1 => absurd ((cond4_iff i).2 ⟨h8, he⟩) h1) ?_
    refine wp_cond c 𝒱 bd _ (fun h1 => absurd ((cond5_iff i).1 h1).2 (by omega)) (fun _ => .rfl) ?_
    refine wp_cond c 𝒱 bd (St arg2 c X2 q2 (Idle arg8 arg3 c qA fW (semA arg14)) (Flying arg9 arg3 c qB fW (rowsOf X2 (i 0).val ((i 1).val + 1)) (semB arg14)) (iprop(∃ Y, ⌜Gathered arg3 c fW X2 (i 0).val (i 1).val Y⌝ ∗ owns (c : Thread nD τ) arg10 fullShare Y)))
      (fun h1 => st_trans arg2 c 𝒱 bd X2 q2 (wp_transAll arg3 arg10 c fW 𝒱 bd X2 arg8 harg8 qA (semA arg14) (i 0).val (i 1).val))
      (fun h1 => absurd ((even_iff i).2 he) h1) ?_
    refine wp_cond c 𝒱 bd _ (fun h1 => absurd ((odd_iff i).1 h1) (by omega)) (fun _ => .rfl) ?_
    exact hfinal _ _ _ _ _ eA' eB'
  · have eA : slotA arg3 arg8 arg14 c qA fW X2 (i 0).val (i 1).val = Idle arg8 arg3 c qA fW (semA arg14) := if_neg (by omega)
    have eB : slotB arg3 arg9 arg14 c qB fW X2 (i 0).val (i 1).val = Flying arg9 arg3 c qB fW (rowsOf X2 (i 0).val (i 1).val) (semB arg14) := if_pos (by omega)
    have eB' : slotB arg3 arg9 arg14 c qB fW X2 (i 0).val ((i 1).val + 1) = Idle arg9 arg3 c qB fW (semB arg14) := if_neg (by omega)
    rw [eA, eB]
    refine wp_cond c 𝒱 bd _ (fun h1 => absurd ((cond1_iff i).1 h1) (by omega)) (fun _ => .rfl) ?_
    refine wp_cond c 𝒱 bd _ (fun h1 => absurd ((cond2_iff i).1 h1) (by omega)) (fun _ => .rfl) ?_
    refine wp_cond c 𝒱 bd (St arg2 c X2 q2 (Idle arg8 arg3 c qA fW (semA arg14)) (Full arg9 arg3 c qB fW (rowsOf X2 (i 0).val (i 1).val) (semB arg14)) (iprop(∃ Y, owns (c : Thread nD τ) arg10 fullShare Y)))
      (fun h1 => st_other arg2 c 𝒱 bd X2 q2 (st_wait arg2 c 𝒱 bd X2 q2
        (wp_waitAll arg9 arg3 c qB fW _ 𝒱 bd (semB arg14) k0_t3_loop (k0_t3_ok i h1) rfl _ _ (hwaitNo k0_t3_loop rfl))))
      (fun h1 => absurd ((cond3_iff i).2 he) h1) ?_
    refine wp_cond c 𝒱 bd _ (fun h1 => absurd ((cond4_iff i).1 h1).2 (by omega)) (fun _ => .rfl) ?_
    refine wp_cond c 𝒱 bd (St arg2 c X2 q2 (slotA arg3 arg8 arg14 c qA fW X2 (i 0).val ((i 1).val + 1))
      (Full arg9 arg3 c qB fW (rowsOf X2 (i 0).val (i 1).val) (semB arg14)) (iprop(∃ Y, owns (c : Thread nD τ) arg10 fullShare Y))) (fun h1 => ?_) (fun h1 => ?_) ?_
    · have h8 := ((cond5_iff i).1 h1).1
      rw [show slotA arg3 arg8 arg14 c qA fW X2 (i 0).val ((i 1).val + 1) = Flying arg8 arg3 c qA fW (rowsOf X2 (i 0).val ((i 1).val + 1)) (semA arg14) from
        if_pos (by omega)]
      exact st_issue arg2 c 𝒱 bd X2 q2 (hnext arg8 qA (semA arg14) k0_t5_loop (k0_t5_ok i h1) rfl _ h1 h8 _ _)
    · have h8 : ¬(i 1).val + 1 < 8 := fun h => h1 ((cond5_iff i).2 ⟨h, he⟩)
      rw [show slotA arg3 arg8 arg14 c qA fW X2 (i 0).val ((i 1).val + 1) = Idle arg8 arg3 c qA fW (semA arg14) from if_neg (by omega)]
    refine wp_cond c 𝒱 bd _ (fun h1 => absurd ((even_iff i).1 h1) (by omega)) (fun _ => .rfl) ?_
    refine wp_cond c 𝒱 bd (St arg2 c X2 q2 (slotA arg3 arg8 arg14 c qA fW X2 (i 0).val ((i 1).val + 1)) (Idle arg9 arg3 c qB fW (semB arg14)) (iprop(∃ Y, ⌜Gathered arg3 c fW X2 (i 0).val (i 1).val Y⌝ ∗ owns (c : Thread nD τ) arg10 fullShare Y)))
      (fun h1 => st_other arg2 c 𝒱 bd X2 q2 (st_trans arg2 c 𝒱 bd X2 q2
        (wp_transAll arg3 arg10 c fW 𝒱 bd X2 arg9 harg9 qB (semB arg14) (i 0).val (i 1).val)))
      (fun h1 => absurd ((odd_iff i).2 he) h1) ?_
    exact hfinal _ _ _ _ _ rfl eB'

end First

end Cert.KernelIdeal.Gather
-- ==== Proof.Ideal.Second.lean ====
/- The second part of the body: the tail, the tile, the roots, and the output block. -/
module

public import proofs.«01_k».proof.Proof.Ideal.First

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Cert.KernelIdeal.Gen GatherLib

variable {F : FTy → Type} [FloatOps F]

local notation "𝕄" => MT nD τ sig Unit (Elt F) ℕ (Pipeline.UD sig nD τ) ℕ

/-! ## What a step computes -/

section Values

variable (W : S10000x10000.Idx → Elt F .f32) (X2 : S8x2048.Idx → BitVec 32) (X6 : S79x1x128.Idx → Elt F .f32) (X5 : S1x1x256x1.Idx → BitVec 32)

/-- An index of the matrix from its row and column. -/
def matIx (a b : Nat) : S10000x10000.Idx := fun k => match k with
  | 0 => ⟨a % 10000, Nat.mod_lt _ (by decide)⟩
  | 1 => ⟨b % 10000, Nat.mod_lt _ (by decide)⟩

/-- The tile: row `m`, place `r`, the matrix at the words `256 t + r` and `m`. -/
def tileOf (b t : Nat) : S2048x1x256.Idx → Elt F .f32 := fun x => W (matIx (wd X2 b (256 * t + (x 2).val)) (wd X2 b (x 0).val))

/-- The rows of the root table the tile's words fall in. -/
def rootOf (b t : Nat) : S256x1x128.Idx → Elt F .f32 := fun x => X6 fun k => match k with
  | 0 => ⟨wd X2 b (256 * t + (x 0).val) / 128 % 79, Nat.mod_lt _ (by decide)⟩
  | 1 => ⟨0, Nat.one_pos⟩
  | 2 => x 2

/-- The half of the tile's lanes the output's rows from `128 h` are read from. -/
def half0 (T : S2048x1x256.Idx → Elt F .f32) : Vec F S2048x128 .f32 := fun x =>
  T (Shape.reshapeEquiv reshapes_S2048x1x256_S4096x128.1 ((⟨![0, 0], S2048x128.size, ![2, 1], inb_S4096x128_S2048x128_0_0_s_2_1⟩ : LoadRect S4096x128).idx x))
def half1 (T : S2048x1x256.Idx → Elt F .f32) : Vec F S2048x128 .f32 := fun x =>
  T (Shape.reshapeEquiv reshapes_S2048x1x256_S4096x128.1 ((⟨![1, 0], S2048x128.size, ![2, 1], inb_S4096x128_S2048x128_1_0_s_2_1⟩ : LoadRect S4096x128).idx x))

/-- The scores the diagonal is raised by. -/
def colOf (TR : S256x1x128.Idx → Elt F .f32) : FVec F S256x1 .f32 :=
  k0_pay393 (F := F) (fun x => X5 ((Rect.unit (s := S1x1x256x1) ![0, 0, 0, 0] S1x1x256x1.size inb_S1x1x256x1_S1x1x256x1_0_0_0_0).toLoadRect.idx x))
    (fun x => TR ((Rect.unit (s := S256x1x128) ![0, 0, 0] S256x1x128.size inb_S256x1x128_S256x1x128_0_0_0).toLoadRect.idx x))

/-- The output block, stored over `X7` half by half. -/
def outOver (i : grid0.Coords) (T : S2048x1x256.Idx → Elt F .f32) (TR : S256x1x128.Idx → Elt F .f32) (X7 : S1x256x2048.Idx → Elt F .f32) :
    S1x256x2048.Idx → Elt F .f32 :=
  VecWindow.put (VecWindow.put X7 ![0, 0, 0] S1x128x2048.size
    (k0_pay1 (colOf X5 TR) (k0_pay394 (half0 T)) (iota .tc S128x2048 32 [0] iota_S128x2048_d0_w32) (iota .tc S128x2048 32 [1] iota_S128x2048_d1_w32) (k0_pay395 (tw i))))
    ![0, 128, 0] S1x128x2048.size (k0_pay2 (tw i) (colOf X5 TR) (half1 T))

/-- The block a grid step leaves. -/
def outOf (i : grid0.Coords) : S1x256x2048.Idx → Elt F .f32 :=
  outOver X5 i (tileOf W X2 (i 0).val (i 1).val) (rootOf X2 X6 (i 0).val (i 1).val) fun _ => Scalar.ofBits .f32 0x00000000#32

theorem low_in (y : S1x256x2048.Idx) (h : (y 1).val < 128) (a : Fin 3) :
    (![0, 0, 0] : Fin 3 → Nat) a ≤ (y a).val ∧ (y a).val < (![0, 0, 0] : Fin 3 → Nat) a + S1x128x2048.size a := by
  match a with
  | 0 => exact ⟨Nat.zero_le _, by have := (y 0).isLt; have e : S1x256x2048.size 0 = 1 := rfl; show (y 0).val < 0 + 1; omega⟩
  | 1 => exact ⟨Nat.zero_le _, by show (y 1).val < 0 + 128; omega⟩
  | 2 => exact ⟨Nat.zero_le _, by have := (y 2).isLt; have e : S1x256x2048.size 2 = 2048 := rfl; show (y 2).val < 0 + 2048; omega⟩

theorem high_in (y : S1x256x2048.Idx) (h : ¬(y 1).val < 128) (a : Fin 3) :
    (![0, 128, 0] : Fin 3 → Nat) a ≤ (y a).val ∧ (y a).val < (![0, 128, 0] : Fin 3 → Nat) a + S1x128x2048.size a := by
  match a with
  | 0 => exact ⟨Nat.zero_le _, by have := (y 0).isLt; have e : S1x256x2048.size 0 = 1 := rfl; show (y 0).val < 0 + 1; omega⟩
  | 1 => exact ⟨by show 128 ≤ (y 1).val; omega, by have := (y 1).isLt; have e : S1x256x2048.size 1 = 256 := rfl; show (y 1).val < 128 + 128; omega⟩
  | 2 => exact ⟨Nat.zero_le _, by have := (y 2).isLt; have e : S1x256x2048.size 2 = 2048 := rfl; show (y 2).val < 0 + 2048; omega⟩

/-- What the block held before does not matter. -/
theorem outOver_any (i : grid0.Coords) (T : S2048x1x256.Idx → Elt F .f32) (TR : S256x1x128.Idx → Elt F .f32) (X7 X7' : S1x256x2048.Idx → Elt F .f32) :
    outOver X5 i T TR X7 = outOver X5 i T TR X7' := by
  funext y
  unfold outOver
  by_cases h : (y 1).val < 128
  · have h' : (y 1).val < (![0, 128, 0] : Fin 3 → Nat) 1 := h
    rw [put_out _ _ y 1 (.inl h'), put_out _ _ y 1 (.inl h'), put_in _ _ y (low_in y h), put_in _ _ y (low_in y h)]
  · rw [put_in _ _ y (high_in y h), put_in _ _ y (high_in y h)]

end Values

section Second

variable (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2)
  (c : Dev nD) (fW : Buf (Elt F) (arg3.view.loc (c : Thread nD τ))) (𝒱 : Variants) (bd : Option 𝒱.V)
  (X2 : S8x2048.Idx → BitVec 32) (q2 : PosShare TreeShare)
  (q4 q5 q6 : PosShare TreeShare) (X4 : S10000x128.Idx → Elt F .f32) (X5 : S1x1x256x1.Idx → BitVec 32) (X6 : S79x1x128.Idx → Elt F .f32)

theorem wp_tailAll (hw : ∀ y, (X2 y).toNat < 10000) (Q : sProp 𝕄)
    (hQ : (iprop(owns (c : Thread nD τ) arg2 q2 X2 ∗ owns (c : Thread nD τ) arg4 q4 X4
      ∗ ∃ T, ⌜Tailed X2 (i 0).val (256 * (i 1).val) X4 256 T⌝ ∗ owns (c : Thread nD τ) arg13 fullShare T) : sProp 𝕄) ⊢ Q) :
    (iprop(owns (c : Thread nD τ) arg2 q2 X2 ∗ owns (c : Thread nD τ) arg4 q4 X4 ∗ ∃ T, owns (c : Thread nD τ) arg13 fullShare T) : sProp 𝕄)
      ⊢ wp frame (wpE (defs₀ (F := F)) 𝒱 (c : Thread nD τ) bd) Set.univ
        (Scf.Loop.for k0_t6_loop k0_t6_ok () fun (t : Fin k0_t6_loop.trips) _ =>
          tailBody (F := F) arg2 arg4 arg13 (bw i) (tailNo i (Scf.iv 0#32 1#32 t)) (inb_tail i (trips6 t)) (k0_off707 t) (k0_off707_inb t))
        fun _ => Q := by
  have hb : (bw i).toNat = (i 0).val := bw_toNat i
  have ht := tile_lt i
  have hbody : ∀ (t : Fin k0_t6_loop.trips) (acc : Unit), (iprop(owns (c : Thread nD τ) arg2 q2 X2 ∗ owns (c : Thread nD τ) arg4 q4 X4
      ∗ ∃ T, ⌜Tailed X2 (i 0).val (256 * (i 1).val) X4 (64 * t.val) T⌝ ∗ owns (c : Thread nD τ) arg13 fullShare T) : sProp 𝕄)
      ⊢ wp frame (wpE (defs₀ (F := F)) 𝒱 (c : Thread nD τ) bd) Set.univ
        (tailBody (F := F) arg2 arg4 arg13 (bw i) (tailNo i (Scf.iv 0#32 1#32 t)) (inb_tail i (trips6 t)) (k0_off707 t) (k0_off707_inb t))
        fun _ => iprop(owns (c : Thread nD τ) arg2 q2 X2 ∗ owns (c : Thread nD τ) arg4 q4 X4
          ∗ ∃ T, ⌜Tailed X2 (i 0).val (256 * (i 1).val) X4 (64 * (t.val + 1)) T⌝ ∗ owns (c : Thread nD τ) arg13 fullShare T) := fun t _ => by
    rw [← hb]
    exact wp_tail c 𝒱 bd arg2 X2 q2 arg4 arg13 q4 X4 (256 * (i 1).val) t.val (trips6 t) (bw i) (tailNo i (Scf.iv 0#32 1#32 t)) _ _ _ (k0_off707_eq t)
      (by rw [hb]; exact batch_lt i) (fun u hu => tailNo_toNat i (trips6 t) hu) (by omega) hw
  iintro ⟨H2, H4, %T, HT⟩
  iapply (Scf.wp_for _ _ _ k0_t6_loop.lb k0_t6_loop.ub k0_t6_loop.st k0_t6_ok () _ (fun k _ => iprop(owns (c : Thread nD τ) arg2 q2 X2 ∗ owns (c : Thread nD τ) arg4 q4 X4
      ∗ ∃ T, ⌜Tailed X2 (i 0).val (256 * (i 1).val) X4 (64 * k) T⌝ ∗ owns (c : Thread nD τ) arg13 fullShare T)) hbody)
  isplitl [H2 H4 HT]
  · isplitl [H2]; · iexact H2
    isplitl [H4]; · iexact H4
    iexists T; isplitr
    · ipureintro; intro x y h; omega
    · iexact HT
  · iintro %acc H
    iapply hQ
    iexact H

theorem wp_tileAll (Y : S10112x1x256.Idx → Elt F .f32) (hw : ∀ y, (X2 y).toNat < 10000) (Q : sProp 𝕄)
    (hQ : (iprop(owns (c : Thread nD τ) arg2 q2 X2 ∗ owns (c : Thread nD τ) arg10 fullShare Y
      ∗ ∃ T, ⌜Tiled X2 (i 0).val Y 2048 T⌝ ∗ owns (c : Thread nD τ) arg11 fullShare T) : sProp 𝕄) ⊢ Q) :
    (iprop(owns (c : Thread nD τ) arg2 q2 X2 ∗ owns (c : Thread nD τ) arg10 fullShare Y ∗ ∃ T, owns (c : Thread nD τ) arg11 fullShare T) : sProp 𝕄)
      ⊢ wp frame (wpE (defs₀ (F := F)) 𝒱 (c : Thread nD τ) bd) Set.univ
        (Scf.Loop.for k0_t7_loop k0_t7_ok () fun (t : Fin k0_t7_loop.trips) _ => steps 64 fun u hu =>
          tileStep (F := F) arg2 arg10 arg11 (bw i) (stepNo (Scf.iv 0#32 1#32 t) u) (inb_tile i (trips7 t) u hu) (inb_tileRow (trips7 t) u hu))
        fun _ => Q := by
  have hb : (bw i).toNat = (i 0).val := bw_toNat i
  have hbody : ∀ (t : Fin k0_t7_loop.trips) (acc : Unit), (iprop(owns (c : Thread nD τ) arg2 q2 X2 ∗ owns (c : Thread nD τ) arg10 fullShare Y
      ∗ ∃ T, ⌜Tiled X2 (i 0).val Y (64 * t.val) T⌝ ∗ owns (c : Thread nD τ) arg11 fullShare T) : sProp 𝕄)
      ⊢ wp frame (wpE (defs₀ (F := F)) 𝒱 (c : Thread nD τ) bd) Set.univ
        (steps 64 fun u hu => tileStep (F := F) arg2 arg10 arg11 (bw i) (stepNo (Scf.iv 0#32 1#32 t) u) (inb_tile i (trips7 t) u hu) (inb_tileRow (trips7 t) u hu))
        fun _ => iprop(owns (c : Thread nD τ) arg2 q2 X2 ∗ owns (c : Thread nD τ) arg10 fullShare Y
          ∗ ∃ T, ⌜Tiled X2 (i 0).val Y (64 * (t.val + 1)) T⌝ ∗ owns (c : Thread nD τ) arg11 fullShare T) := fun t _ => by
    refine wp_steps 𝒱 (c : Thread nD τ) bd 64 _ (fun u => iprop(owns (c : Thread nD τ) arg2 q2 X2 ∗ owns (c : Thread nD τ) arg10 fullShare Y
      ∗ ∃ T, ⌜Tiled X2 (i 0).val Y (64 * t.val + u) T⌝ ∗ owns (c : Thread nD τ) arg11 fullShare T)) (fun u hu => ?_)
    have e := stepNo_toNat (n := 32) (by omega) (trips7 t) hu
    have h := wp_tile c 𝒱 bd arg2 X2 q2 arg10 arg11 Y (bw i) (stepNo (Scf.iv 0#32 1#32 t) u) (inb_tile i (trips7 t) u hu) (inb_tileRow (trips7 t) u hu)
      (by rw [hb]; exact batch_lt i) (by rw [e]; have := trips7 t; omega) hw
    rw [e, hb] at h
    exact h
  iintro ⟨H2, H4, %T, HT⟩
  iapply (Scf.wp_for _ _ _ k0_t7_loop.lb k0_t7_loop.ub k0_t7_loop.st k0_t7_ok () _ (fun k _ => iprop(owns (c : Thread nD τ) arg2 q2 X2 ∗ owns (c : Thread nD τ) arg10 fullShare Y
      ∗ ∃ T, ⌜Tiled X2 (i 0).val Y (64 * k) T⌝ ∗ owns (c : Thread nD τ) arg11 fullShare T)) hbody)
  isplitl [H2 H4 HT]
  · isplitl [H2]; · iexact H2
    isplitl [H4]; · iexact H4
    iexists T; isplitr
    · ipureintro; intro x y h; omega
    · iexact HT
  · iintro %acc H
    iapply hQ
    iexact H

theorem wp_rootAll (hw : ∀ y, (X2 y).toNat < 10000) (Q : sProp 𝕄)
    (hQ : (iprop(owns (c : Thread nD τ) arg2 q2 X2 ∗ owns (c : Thread nD τ) arg6 q6 X6
      ∗ ∃ T, ⌜Rooted X2 (i 0).val (256 * (i 1).val) X6 256 T⌝ ∗ owns (c : Thread nD τ) arg12 fullShare T) : sProp 𝕄) ⊢ Q) :
    (iprop(owns (c : Thread nD τ) arg2 q2 X2 ∗ owns (c : Thread nD τ) arg6 q6 X6 ∗ ∃ T, owns (c : Thread nD τ) arg12 fullShare T) : sProp 𝕄)
      ⊢ wp frame (wpE (defs₀ (F := F)) 𝒱 (c : Thread nD τ) bd) Set.univ
        (Scf.Loop.for k0_t8_loop k0_t8_ok () fun (t : Fin k0_t8_loop.trips) _ => steps 64 fun u hu =>
          rootStep (F := F) arg2 arg6 arg12 (bw i) (hereNo i (stepNo (Scf.iv 0#32 1#32 t) u)) (stepNo (Scf.iv 0#32 1#32 t) u)
            (inb_here i (trips8 t) u hu) (inb_rootRow (trips8 t) u hu))
        fun _ => Q := by
  have hb : (bw i).toNat = (i 0).val := bw_toNat i
  have ht := tile_lt i
  have hbody : ∀ (t : Fin k0_t8_loop.trips) (acc : Unit), (iprop(owns (c : Thread nD τ) arg2 q2 X2 ∗ owns (c : Thread nD τ) arg6 q6 X6
      ∗ ∃ T, ⌜Rooted X2 (i 0).val (256 * (i 1).val) X6 (64 * t.val) T⌝ ∗ owns (c : Thread nD τ) arg12 fullShare T) : sProp 𝕄)
      ⊢ wp frame (wpE (defs₀ (F := F)) 𝒱 (c : Thread nD τ) bd) Set.univ
        (steps 64 fun u hu => rootStep (F := F) arg2 arg6 arg12 (bw i) (hereNo i (stepNo (Scf.iv 0#32 1#32 t) u)) (stepNo (Scf.iv 0#32 1#32 t) u)
            (inb_here i (trips8 t) u hu) (inb_rootRow (trips8 t) u hu))
        fun _ => iprop(owns (c : Thread nD τ) arg2 q2 X2 ∗ owns (c : Thread nD τ) arg6 q6 X6
          ∗ ∃ T, ⌜Rooted X2 (i 0).val (256 * (i 1).val) X6 (64 * (t.val + 1)) T⌝ ∗ owns (c : Thread nD τ) arg12 fullShare T) := fun t _ => by
    refine wp_steps 𝒱 (c : Thread nD τ) bd 64 _ (fun u => iprop(owns (c : Thread nD τ) arg2 q2 X2 ∗ owns (c : Thread nD τ) arg6 q6 X6
      ∗ ∃ T, ⌜Rooted X2 (i 0).val (256 * (i 1).val) X6 (64 * t.val + u) T⌝ ∗ owns (c : Thread nD τ) arg12 fullShare T)) (fun u hu => ?_)
    have e := stepNo_toNat (n := 4) (by omega) (trips8 t) hu
    have e' := hereNo_toNat i (trips8 t) hu
    have tl := trips8 t
    have h := wp_root c 𝒱 bd arg2 X2 q2 arg6 arg12 q6 X6 (256 * (i 1).val) (bw i) (hereNo i (stepNo (Scf.iv 0#32 1#32 t) u)) (stepNo (Scf.iv 0#32 1#32 t) u)
      (inb_here i (trips8 t) u hu) (inb_rootRow (trips8 t) u hu)
      (by rw [hb]; exact batch_lt i) (by rw [e']; omega) (by rw [e]; omega) (by rw [e, e']) hw
    rw [e, hb] at h
    exact h
  iintro ⟨H2, H4, %T, HT⟩
  iapply (Scf.wp_for _ _ _ k0_t8_loop.lb k0_t8_loop.ub k0_t8_loop.st k0_t8_ok () _ (fun k _ => iprop(owns (c : Thread nD τ) arg2 q2 X2 ∗ owns (c : Thread nD τ) arg6 q6 X6
      ∗ ∃ T, ⌜Rooted X2 (i 0).val (256 * (i 1).val) X6 (64 * k) T⌝ ∗ owns (c : Thread nD τ) arg12 fullShare T)) hbody)
  isplitl [H2 H4 HT]
  · isplitl [H2]; · iexact H2
    isplitl [H4]; · iexact H4
    iexists T; isplitr
    · ipureintro; intro x y h; omega
    · iexact HT
  · iintro %acc H
    iapply hQ
    iexact H

/-- The rows of the current tile, transposed, tail and all. -/
def Complete (W : S10000x10000.Idx → Elt F .f32) (b t : Nat) (Y : S10112x1x256.Idx → Elt F .f32) : Prop :=
  ∀ (x : S10112x1x256.Idx) (y : S10000x10000.Idx), (x 0).val < 10000 → (y 0).val = wd X2 b (256 * t + (x 2).val) → (y 1).val = (x 0).val → Y x = W y

theorem complete_of (b t : Nat) (Y : S10112x1x256.Idx → Elt F .f32) (T : S256x128.Idx → Elt F .f32)
    (hX4 : ∀ (z : S10000x128.Idx) (y : S10000x10000.Idx), (y 0).val = (z 0).val → (y 1).val = 9872 + (z 1).val → X4 z = arg3.view.read (Elt F) fW y)
    (hY : Gathered arg3 c fW X2 b t Y) (hT : Tailed X2 b (256 * t) X4 256 T) (v : Vec F S256x128 .f32) (hv : v = T) :
    Complete X2 (arg3.view.read (Elt F) fW) b t (VecWindow.put Y ![9872, 0, 0] S128x1x256.size (k0_pay389 v)) := by
  intro x y h0 h1 h2
  by_cases hx : (x 0).val < 9872
  · rw [put_out _ _ x 0 (.inl hx)]
    exact hY x y (by omega) h1 h2
  · have hx2 : (x 2).val < 256 := (x 2).isLt
    have hin : ∀ a, (![9872, 0, 0] : Fin 3 → Nat) a ≤ (x a).val ∧ (x a).val < (![9872, 0, 0] : Fin 3 → Nat) a + S128x1x256.size a := fun a => by
      match a with
      | 0 => show 9872 ≤ (x 0).val ∧ (x 0).val < 9872 + 128; omega
      | 1 => exact ⟨Nat.zero_le _, by show (x 1).val < 0 + 1; have := (x 1).isLt; have e : S10112x1x256.size 1 = 1 := rfl; omega⟩
      | 2 => exact ⟨Nat.zero_le _, by show (x 2).val < 0 + 256; omega⟩
    rw [put_in _ _ x hin]
    let j : S256x128.Idx := fun a => match a with | 0 => ⟨(x 2).val, hx2⟩ | 1 => ⟨(x 0).val - 9872, by show _ < 128; omega⟩
    refine (pay389_at v _ j (Nat.sub_zero _).symm ?_).trans ?_
    · exact Eq.refl ((x 0).val - 9872)
    rw [hv]
    let z : S10000x128.Idx := fun a => match a with | 0 => y 0 | 1 => ⟨(x 0).val - 9872, by show _ < 128; omega⟩
    rw [hT j z (show (x 2).val < 256 from hx2) h1 rfl]
    exact hX4 z y rfl (by show (y 1).val = 9872 + ((x 0).val - 9872); omega)

theorem tile_eq (W : S10000x10000.Idx → Elt F .f32) (hw : ∀ y, (X2 y).toNat < 10000) (b t : Nat) (Y : S10112x1x256.Idx → Elt F .f32) (T : S2048x1x256.Idx → Elt F .f32)
    (hY : Complete X2 W b t Y) (hT : Tiled X2 b Y 2048 T) : T = tileOf W X2 b t := by
  funext x
  have h1 : wd X2 b (x 0).val < 10000 := hw _
  have h2 : wd X2 b (256 * t + (x 2).val) < 10000 := hw _
  let y : S10112x1x256.Idx := fun a => match a with | 0 => ⟨wd X2 b (x 0).val, by show _ < 10112; omega⟩ | 1 => ⟨0, Nat.one_pos⟩ | 2 => x 2
  rw [hT x y (x 0).isLt rfl rfl]
  exact hY y _ h1 (Nat.mod_eq_of_lt h2) (Nat.mod_eq_of_lt h1)

theorem root_eq (hw : ∀ y, (X2 y).toNat < 10000) (b t : Nat) (T : S256x1x128.Idx → Elt F .f32)
    (hT : Rooted X2 b (256 * t) X6 256 T) : T = rootOf X2 X6 b t := by
  funext x
  have h2 : wd X2 b (256 * t + (x 0).val) < 10000 := hw _
  exact hT x _ (x 0).isLt (Nat.mod_eq_of_lt (by omega)) rfl

end Second

end Cert.KernelIdeal.Gather
-- ==== Proof.Ideal.Step.lean ====
/- A whole grid step. -/
module

public import proofs.«01_k».proof.Proof.Ideal.Second

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Cert.KernelIdeal.Gen GatherLib

variable {F : FTy → Type} [FloatOps F]

local notation "𝕄" => MT nD τ sig Unit (Elt F) ℕ (Pipeline.UD sig nD τ) ℕ

theorem wp_known (c : Dev nD) (𝒱 : Variants) (bd : Option 𝒱.V) {α β : Type} {p : Prog (TpuEff nD τ sig (Elt F) Λ₀ .tc) α} {k : α → Prog (TpuEff nD τ sig (Elt F) Λ₀ .tc) β}
    {P P' R R' : sProp 𝕄} {Q : β → sProp 𝕄} (S : sProp 𝕄) (v : α)
    (h : P ⊢ wp frame (wpE (defs₀ (F := F)) 𝒱 (c : Thread nD τ) bd) Set.univ p fun r => iprop(⌜r = v⌝ ∗ P')) (h1 : R ⊢ iprop(P ∗ S)) (h2 : iprop(P' ∗ S) ⊢ R')
    (hk : R' ⊢ wp frame (wpE (defs₀ (F := F)) 𝒱 (c : Thread nD τ) bd) Set.univ (k v) Q) :
    R ⊢ wp frame (wpE (defs₀ (F := F)) 𝒱 (c : Thread nD τ) bd) Set.univ (p >>= k) Q := by
  rw [wp_bind]
  refine BIBase.Entails.trans h1 ?_
  iintro ⟨HP, HS⟩
  ihave HW := h $$ HP
  iapply (wp_wand _ _ _) $$ HW
  iintro %r ⟨%hr, HP⟩
  rw [hr]
  iapply (h2.trans hk)
  isplitl [HP] <;> iassumption

section Whole

variable (i : grid0.Coords) (arg2 : Memref sig .tc .smem S8x2048 .i32) (harg2 : arg2.IsWhole) (arg3 : Memref sig .tc .hbm S10000x10000 .f32) (harg3 : arg3.IsWhole) (arg4 : Memref sig .tc .vmem S10000x128 .f32) (harg4 : arg4.IsWhole) (arg5 : Memref sig .tc .vmem S1x1x256x1 .i32) (harg5 : arg5.IsWhole) (arg6 : Memref sig .tc .vmem S79x1x128 .f32) (harg6 : arg6.IsWhole) (arg7 : Memref sig .tc .vmem S1x256x2048 .f32) (harg7 : arg7.IsWhole) (arg8 : Memref sig .tc .vmem S256x1x10112 .f32) (harg8 : arg8.IsWhole) (arg9 : Memref sig .tc .vmem S256x1x10112 .f32) (harg9 : arg9.IsWhole) (arg10 : Memref sig .tc .vmem S10112x1x256 .f32) (harg10 : arg10.IsWhole) (arg11 : Memref sig .tc .vmem S2048x1x256 .f32) (harg11 : arg11.IsWhole) (arg12 : Memref sig .tc .vmem S256x1x128 .f32) (harg12 : arg12.IsWhole) (arg13 : Memref sig .tc .vmem S256x128 .f32) (harg13 : arg13.IsWhole) (arg14 : DmaSems sig S2)
  (c : Dev nD) (qA qB : PosShare TreeShare) (fW : Buf (Elt F) (arg3.view.loc (c : Thread nD τ))) (𝒱 : Variants) (bd : Option 𝒱.V)
  (X2 : S8x2048.Idx → BitVec 32) (q2 : PosShare TreeShare)
  (q4 q5 q6 : PosShare TreeShare) (X4 : S10000x128.Idx → Elt F .f32) (X5 : S1x1x256x1.Idx → BitVec 32) (X6 : S79x1x128.Idx → Elt F .f32)

theorem wp_bodyB (hw : ∀ y, (X2 y).toNat < 10000)
    (hX4 : ∀ (z : S10000x128.Idx) (y : S10000x10000.Idx), (y 0).val = (z 0).val → (y 1).val = 9872 + (z 1).val → X4 z = arg3.view.read (Elt F) fW y) :
    (iprop(owns (c : Thread nD τ) arg2 q2 X2 ∗ owns (c : Thread nD τ) arg4 q4 X4 ∗ owns (c : Thread nD τ) arg5 q5 X5 ∗ owns (c : Thread nD τ) arg6 q6 X6
        ∗ (∃ Y, ⌜Gathered arg3 c fW X2 (i 0).val (i 1).val Y⌝ ∗ owns (c : Thread nD τ) arg10 fullShare Y)
        ∗ (∃ T, owns (c : Thread nD τ) arg11 fullShare T) ∗ (∃ T, owns (c : Thread nD τ) arg12 fullShare T) ∗ (∃ T, owns (c : Thread nD τ) arg13 fullShare T)) : sProp 𝕄)
      ⊢ wp frame (wpE (defs₀ (F := F)) 𝒱 (c : Thread nD τ) bd) Set.univ (bodyB (F := F) i arg2 harg2 arg3 harg3 arg4 harg4 arg5 harg5 arg6 harg6 arg7 harg7 arg8 harg8 arg9 harg9 arg10 harg10 arg11 harg11 arg12 harg12 arg13 harg13 arg14)
        fun r => iprop(⌜r = ⟨colOf X5 (rootOf X2 X6 (i 0).val (i 1).val), k0_pay394 (half0 (tileOf (arg3.view.read (Elt F) fW) X2 (i 0).val (i 1).val)),
            iota .tc S128x2048 32 [0] iota_S128x2048_d0_w32, iota .tc S128x2048 32 [1] iota_S128x2048_d1_w32, k0_pay395 (tw i)⟩⌝
          ∗ owns (c : Thread nD τ) arg2 q2 X2 ∗ owns (c : Thread nD τ) arg4 q4 X4 ∗ owns (c : Thread nD τ) arg5 q5 X5 ∗ owns (c : Thread nD τ) arg6 q6 X6
          ∗ (∃ Y, owns (c : Thread nD τ) arg10 fullShare Y)
          ∗ owns (c : Thread nD τ) arg11 fullShare (tileOf (arg3.view.read (Elt F) fW) X2 (i 0).val (i 1).val)
          ∗ (∃ T, owns (c : Thread nD τ) arg12 fullShare T) ∗ (∃ T, owns (c : Thread nD τ) arg13 fullShare T)) := by
  unfold bodyB
  rw [t6_eq]
  iintro ⟨H2, H4, H5, H6, ⟨%Y, %hY, H10⟩, H11, H12, H13⟩
  rw [wp_bind]
  ihave HW := (wp_tailAll i arg2 arg4 arg13 c 𝒱 bd X2 q2 q4 X4 hw _ .rfl) $$ [H2 H4 H13]
  · isplitl [H2]; · iexact H2
    isplitl [H4] <;> iassumption
  iapply (wp_wand _ _ _) $$ HW
  iintro %_ ⟨H2, H4, %T, %hT, H13⟩
  rw [wp_bind]
  iapply (wp_lift_load (M := arg13) 𝒱 (c : Thread nD τ) bd) $$ H13
  iintro H13
  rw [wp_bind]
  iapply (wp_lift_load (M := arg10) 𝒱 (c : Thread nD τ) bd) $$ H10
  iintro H10
  rw [wp_bind]
  iapply (wp_lift_store (M := arg10) 𝒱 (c : Thread nD τ) bd rfl) $$ H10
  iintro H10
  have hC := complete_of arg3 c fW X2 X4 (i 0).val (i 1).val Y T hX4 hY hT
    (fun x => T ((Rect.unit (s := S256x128) ![0, 0] S256x128.size inb_S256x128_S256x128_0_0).toLoadRect.idx x)) (funext fun x => congrArg T (by
      funext a; match a with | 0 => exact Fin.ext (by show 0 + 1 * (x 0).val = (x 0).val; omega) | 1 => exact Fin.ext (by show 0 + 1 * (x 1).val = (x 1).val; omega)))
  rw [wp_bind]
  ihave HW := (wp_tileAll i arg2 arg10 arg11 c 𝒱 bd X2 q2 _ hw _ .rfl) $$ [H2 H10 H11]
  · isplitl [H2]; · iexact H2
    isplitl [H10] <;> iassumption
  iapply (wp_wand _ _ _) $$ HW
  iintro %_ ⟨H2, H10, %TT, %hTT, H11⟩
  have eT := tile_eq X2 (arg3.view.read (Elt F) fW) hw (i 0).val (i 1).val _ TT hC hTT
  rw [wp_bind]
  ihave HW := (wp_rootAll i arg2 arg6 arg12 c 𝒱 bd X2 q2 q6 X6 hw _ .rfl) $$ [H2 H6 H12]
  · isplitl [H2]; · iexact H2
    isplitl [H6] <;> iassumption
  iapply (wp_wand _ _ _) $$ HW
  iintro %_ ⟨H2, H6, %TR, %hTR, H12⟩
  have eR := root_eq X2 X6 hw (i 0).val (i 1).val TR hTR
  subst eT
  subst eR
  rw [wp_bind]
  iapply (wp_lift_load (M := arg5) 𝒱 (c : Thread nD τ) bd) $$ H5
  iintro H5
  rw [wp_bind]
  iapply (wp_lift_load (M := arg12) 𝒱 (c : Thread nD τ) bd) $$ H12
  iintro H12
  rw [wp_bind]
  iapply (wp_lift_load_reshape (M := arg11) 𝒱 (c : Thread nD τ) bd) $$ H11
  iintro H11
  iapply (show ∀ {α : Type} (x : α) (Q : α → sProp 𝕄), Q x ⊢ wp frame (wpE (defs₀ (F := F)) 𝒱 (c : Thread nD τ) bd) Set.univ (pure x : Prog (TpuEff nD τ sig (Elt F) Λ₀ .tc) α) Q from
    fun x Q => by show _ ⊢ wp _ _ _ (Prog.ret _) _; rw [wp_ret]; exact fupd_intro)
  isplitr
  · ipureintro; rfl
  isplitl [H2]; · iexact H2
  isplitl [H4]; · iexact H4
  isplitl [H5]; · iexact H5
  isplitl [H6]; · iexact H6
  isplitl [H10]; · iexists _; iexact H10
  isplitl [H11]; · iexact H11
  isplitl [H12]; · iexists _; iexact H12
  iexists _; iexact H13

/-- What a step holds: the words, the slots, the windows' blocks and the scratch. -/
def Held (A B : sProp 𝕄) (P7 : sProp 𝕄) : sProp 𝕄 :=
  iprop(St arg2 c X2 q2 A B (iprop(∃ Y, owns (c : Thread nD τ) arg10 fullShare Y)) ∗ owns (c : Thread nD τ) arg4 q4 X4 ∗ owns (c : Thread nD τ) arg5 q5 X5 ∗ owns (c : Thread nD τ) arg6 q6 X6
    ∗ (∃ T, owns (c : Thread nD τ) arg11 fullShare T) ∗ (∃ T, owns (c : Thread nD τ) arg12 fullShare T) ∗ (∃ T, owns (c : Thread nD τ) arg13 fullShare T) ∗ P7)

theorem wp_step (hw : ∀ y, (X2 y).toNat < 10000)
    (hX4 : ∀ (z : S10000x128.Idx) (y : S10000x10000.Idx), (y 0).val = (z 0).val → (y 1).val = 9872 + (z 1).val → X4 z = arg3.view.read (Elt F) fW y) :
    Held arg2 arg4 arg5 arg6 arg10 arg11 arg12 arg13 c X2 q2 q4 q5 q6 X4 X5 X6 (slotA arg3 arg8 arg14 c qA fW X2 (i 0).val (i 1).val) (slotB arg3 arg9 arg14 c qB fW X2 (i 0).val (i 1).val)
        (iprop(∃ X7, owns (c : Thread nD τ) arg7 fullShare X7))
      ⊢ wp frame (wpE (defs₀ (F := F)) 𝒱 (c : Thread nD τ) bd) Set.univ (cc0_gather_bilinear (F := F) i arg2 harg2 arg3 harg3 arg4 harg4 arg5 harg5 arg6 harg6 arg7 harg7 arg8 harg8 arg9 harg9 arg10 harg10 arg11 harg11 arg12 harg12 arg13 harg13 arg14)
        fun _ => Held arg2 arg4 arg5 arg6 arg10 arg11 arg12 arg13 c X2 q2 q4 q5 q6 X4 X5 X6 (slotA arg3 arg8 arg14 c qA fW X2 (i 0).val ((i 1).val + 1)) (slotB arg3 arg9 arg14 c qB fW X2 (i 0).val ((i 1).val + 1))
          (owns (c : Thread nD τ) arg7 fullShare (outOf (arg3.view.read (Elt F) fW) X2 X6 X5 i)) := by
  rw [cc0_gather_bilinear_eq_skeleton]
  unfold cc0_gather_bilinear_skel
  rw [bodyA_eq]
  refine wp_known c 𝒱 bd (iprop(owns (c : Thread nD τ) arg4 q4 X4 ∗ owns (c : Thread nD τ) arg5 q5 X5 ∗ owns (c : Thread nD τ) arg6 q6 X6
    ∗ (∃ T, owns (c : Thread nD τ) arg11 fullShare T) ∗ (∃ T, owns (c : Thread nD τ) arg12 fullShare T) ∗ (∃ T, owns (c : Thread nD τ) arg13 fullShare T)
    ∗ ∃ X7, owns (c : Thread nD τ) arg7 fullShare X7)) _
    (wp_bodyA i arg2 harg2 arg3 harg3 arg4 harg4 arg5 harg5 arg6 harg6 arg7 harg7 arg8 harg8 arg9 harg9 arg10 harg10 arg11 harg11 arg12 harg12 arg13 harg13 arg14 c qA qB fW 𝒱 bd X2 q2 hw) (by unfold Held; exact .rfl) .rfl ?_
  dsimp only
  rw [bodyB_eq]
  refine wp_known c 𝒱 bd (iprop(slotA arg3 arg8 arg14 c qA fW X2 (i 0).val ((i 1).val + 1) ∗ slotB arg3 arg9 arg14 c qB fW X2 (i 0).val ((i 1).val + 1)
    ∗ (∃ W, owes (c : Thread nD τ) 0 W) ∗ ∃ X7, owns (c : Thread nD τ) arg7 fullShare X7)) _
    (wp_bodyB i arg2 harg2 arg3 harg3 arg4 harg4 arg5 harg5 arg6 harg6 arg7 harg7 arg8 harg8 arg9 harg9 arg10 harg10 arg11 harg11 arg12 harg12 arg13 harg13 arg14 c fW 𝒱 bd X2 q2 q4 q5 q6 X4 X5 X6 hw hX4) ?_ .rfl ?_
  · unfold St
    iintro ⟨⟨H2, HA, HB, HO, H10⟩, H4, H5, H6, H11, H12, H13, H7⟩
    isplitr [HA HB HO H7]
    · isplitl [H2]; · iexact H2
      isplitl [H4]; · iexact H4
      isplitl [H5]; · iexact H5
      isplitl [H6]; · iexact H6
      isplitl [H10]; · iexact H10
      isplitl [H11]; · iexact H11
      isplitl [H12] <;> iassumption
    · isplitl [HA]; · iexact HA
      isplitl [HB]; · iexact HB
      isplitl [HO] <;> iassumption
  dsimp only
  unfold Held St
  iintro ⟨⟨H2, H4, H5, H6, H10, H11, H12, H13⟩, HA, HB, HO, %X7, H7⟩
  rw [wp_bind]
  iapply (wp_lift_load (M := arg7) 𝒱 (c : Thread nD τ) bd) $$ H7
  iintro H7
  rw [wp_bind]
  iapply (wp_lift_store (M := arg7) 𝒱 (c : Thread nD τ) bd rfl) $$ H7
  iintro H7
  rw [wp_bind]
  iapply (wp_lift_load_reshape (M := arg11) 𝒱 (c : Thread nD τ) bd) $$ H11
  iintro H11
  rw [wp_bind]
  iapply (wp_lift_load (M := arg7) 𝒱 (c : Thread nD τ) bd) $$ H7
  iintro H7
  rw [wp_bind]
  iapply (wp_lift_store (M := arg7) 𝒱 (c : Thread nD τ) bd rfl) $$ H7
  iintro H7
  iapply (show ∀ {α : Type} (x : α) (Q : α → sProp 𝕄), Q x ⊢ wp frame (wpE (defs₀ (F := F)) 𝒱 (c : Thread nD τ) bd) Set.univ (pure x : Prog (TpuEff nD τ sig (Elt F) Λ₀ .tc) α) Q from
    fun x Q => by show _ ⊢ wp _ _ _ (Prog.ret _) _; rw [wp_ret]; exact fupd_intro)
  isplitl [H2 HA HB HO H10]
  · isplitl [H2]; · iexact H2
    isplitl [HA]; · iexact HA
    isplitl [HB]; · iexact HB
    isplitl [HO] <;> iassumption
  isplitl [H4]; · iexact H4
  isplitl [H5]; · iexact H5
  isplitl [H6]; · iexact H6
  isplitl [H11]; · iexists _; iexact H11
  isplitl [H12]; · iexact H12
  isplitl [H13]; · iexact H13
  iapply (BIBase.Entails.of_eq (congrArg (owns (c : Thread nD τ) arg7 fullShare) (outOver_any X5 i (tileOf (arg3.view.read (Elt F) fW) X2 (i 0).val (i 1).val)
    (rootOf X2 X6 (i 0).val (i 1).val) X7 fun _ => Scalar.ofBits .f32 0x00000000#32)))
  iexact H7

end Whole

end Cert.KernelIdeal.Gather
-- ==== Proof.Ideal.Launch.lean ====
/- The launch: what the grid's steps hold between them, and the body at each step. -/
module

public import proofs.«01_k».proof.Proof.Ideal.Step
public import proofs.«01_k».proof.Proof.Gen.KernelIdeal.Launch
public import Idealize.ShloMosaic.Lib.Pipeline.Frame

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen GatherLib

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## What the launch finds in memory -/

/-- The host operations ahead of the launch. -/
abbrev hostLines : List (List (HloOp τ sig (Elt F))) := [hostOps0, hostOps0_1, hostOps0_2]

/-- A buffer once they have run. -/
def V (c : Dev nD) (b : Ref sig .tc) : Buf (Elt F) ((c : Thread nD τ).loc b) :=
  StableHlo.after (hostLines (F := F)).flatten (fun b => m (c, b)) b

/-- The words, as the launch reads them. -/
def tbl : pre0.Contents (Elt F) := fun k => V m 0 (pre0.ref k)
def adm : (pcfg0 (F := F)).Adm := ⟨tbl m, (Iff.of_eq (ok0.eq_1 (tbl m))).2 trivial⟩

abbrev cfgM : Pipeline.Cfg sig Λ₀ := cfg0 (adm m)

/-- The words, the matrix and the padded scores on core `c`. -/
def words (c : Dev nD) : S8x2048.Idx → BitVec 32 := V m c main_arg0
def matrix (c : Dev nD) : Buf (Elt F) ((Memref.whole (sig := sig) main_arg1).view.loc (c : Thread nD τ)) := V m c main_arg1

/-! ## The kernel's own semaphores, and the matrix -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semA cc0_scratch6).sem) 0 ∗ semVal ((c : Thread nD τ), SemLoc.dma (semB cc0_scratch6).sem) 0) := by
  rw [Pipeline.ownSems0_eq_of_list c osem0 [0, 1] (by decide) (by decide)]; rfl

def H0 : Finset (Ref sig .tc) := {main_arg1}
theorem H0_sub : H0 ⊆ Pipeline.restRefsP sig pre0 spec0 := by decide
theorem held0_eq (c : Dev nD) :
    (bigSep H0 (fun b => ((c : Thread nD τ).loc b) ↦{fullShare} V m c b) : sProp 𝕄)
      = iprop((Memref.whole (sig := sig) main_arg1).view.loc (c : Thread nD τ) ↦[(Memref.whole (sig := sig) main_arg1).view.set]{fullShare} matrix m c) := by
  rw [BI.bigSep_eq_bigSepL_of_eq [main_arg1] (by decide) (by decide)]
  simp only [Memref.view_whole, View.set_whole]; rfl

theorem table_eq (c : Dev nD) :
    (Pipeline.ΦT (U := Pipeline.UD sig nD τ) pre0 (adm m).1 c : sProp 𝕄)
      = owns (c : Thread nD τ) (Memref.whole (sig := sig) main_arg0) fullShare.right (words m c) := by
  have hc : c = 0 := Subsingleton.elim _ _
  subst hc
  rw [owns_whole]
  unfold Pipeline.ΦT Pipeline.prefHeld
  rw [bigSep_univ_eq_bigSepL [(0 : Fin 1)] (by decide) (by decide)]; rfl

/-! ## Between two steps -/

theorem coords_eq (t : Fin grid0.N) : (grid0.coords t 0).val = t.val / 8 ∧ (grid0.coords t 1).val = t.val % 8 := by
  revert t; decide

/-- What is held before step `n`. -/
def between (c : Dev nD) (n : Nat) : sProp 𝕄 :=
  iprop(owns (c : Thread nD τ) (Memref.whole (sig := sig) main_arg0) fullShare.right (words m c)
    ∗ slotA (Memref.whole main_arg1) (Memref.whole cc0_scratch0) cc0_scratch6 c fullShare.left (matrix m c) (words m c) (n / 8) (n % 8)
    ∗ slotB (Memref.whole main_arg1) (Memref.whole cc0_scratch1) cc0_scratch6 c fullShare.right (matrix m c) (words m c) (n / 8) (n % 8)
    ∗ (∃ Y, owns (c : Thread nD τ) (Memref.whole cc0_scratch2) fullShare Y)
    ∗ (∃ T, owns (c : Thread nD τ) (Memref.whole cc0_scratch3) fullShare T)
    ∗ (∃ T, owns (c : Thread nD τ) (Memref.whole cc0_scratch4) fullShare T)
    ∗ (∃ T, owns (c : Thread nD τ) (Memref.whole cc0_scratch5) fullShare T)
    ∗ ∃ r, prngReg c r)

theorem slotA_next (arg3 : Memref sig .tc .hbm S10000x10000 .f32) (g : Memref sig .tc .vmem S256x1x10112 .f32) (arg14 : DmaSems sig S2) (c : Dev nD)
    (q : PosShare TreeShare) (fW : Buf (Elt F) (arg3.view.loc (c : Thread nD τ))) (X2 : S8x2048.Idx → BitVec 32) (n : Nat) :
    slotA arg3 g arg14 c q fW X2 (n / 8) (n % 8 + 1) = slotA arg3 g arg14 c q fW X2 ((n + 1) / 8) ((n + 1) % 8) := by
  by_cases h : n % 8 = 7
  · unfold slotA; rw [if_neg (by omega), if_neg (by omega)]
  · rw [show (n + 1) / 8 = n / 8 by omega, show (n + 1) % 8 = n % 8 + 1 by omega]

theorem slotB_next (arg3 : Memref sig .tc .hbm S10000x10000 .f32) (g : Memref sig .tc .vmem S256x1x10112 .f32) (arg14 : DmaSems sig S2) (c : Dev nD)
    (q : PosShare TreeShare) (fW : Buf (Elt F) (arg3.view.loc (c : Thread nD τ))) (X2 : S8x2048.Idx → BitVec 32) (n : Nat) :
    slotB arg3 g arg14 c q fW X2 (n / 8) (n % 8 + 1) = slotB arg3 g arg14 c q fW X2 ((n + 1) / 8) ((n + 1) % 8) := by
  by_cases h : n % 8 = 7
  · unfold slotB; rw [if_neg (by omega), if_neg (by omega)]
  · rw [show (n + 1) / 8 = n / 8 by omega, show (n + 1) % 8 = n % 8 + 1 by omega]

/-! ## The proof data -/

/-- The windows' arrays as the launch finds them. -/
def arrays (c : Dev nD) (w : Fin (cfgM m).W) : Buf (Elt F) (((cfgM m).win w).arr.view.loc (c : Thread nD τ)) := V m c (Pipeline.arrRef spec0 w)

/-- The input windows' blocks at a step: the last columns of the matrix, a tile's words as a column, the padded scores. -/
def tailBlk (c : Dev nD) (t : Fin (cfgM m).N) : S10000x128.Idx → Elt F .f32 := Pipeline.heldIn (cfgM m) (arrays m c) (0 : Fin 4) t.val t.isLt
def colBlk (c : Dev nD) (t : Fin (cfgM m).N) : S1x1x256x1.Idx → BitVec 32 := Pipeline.heldIn (cfgM m) (arrays m c) (1 : Fin 4) t.val t.isLt
def rootBlk (c : Dev nD) (t : Fin (cfgM m).N) : S79x1x128.Idx → Elt F .f32 := Pipeline.heldIn (cfgM m) (arrays m c) (2 : Fin 4) t.val t.isLt

/-- The output's block after a step. -/
def outBlk (c : Dev nD) (t : Fin (cfgM m).N) : S1x256x2048.Idx → Elt F .f32 :=
  outOf ((Memref.whole (sig := sig) main_arg1).view.read (Elt F) (matrix m c)) (words m c) (rootBlk m c t) (colBlk m c t) (grid0.coords t)

/-- What each window's buffer holds after a step. -/
def afterAt (c : Dev nD) : (w : Fin 4) → (t : Fin (cfgM m).N) → ((cfgM m).win w).block.Idx → Elt F ((cfgM m).win w).elt
  | 0, t => tailBlk m c t
  | 1, t => colBlk m c t
  | 2, t => rootBlk m c t
  | 3, t => outBlk m c t
  | ⟨_ + 4, h⟩, _ => absurd h (Nat.not_lt.2 (Nat.le_add_left _ _))

def dats (_ : Fin 1) (c : Dev nD) : Dat τ (Elt F) Unit ℕ (Pipeline.UD sig nD τ) ℕ (cfgM m) c where
  A w := arrays m c w
  after w t := afterAt m c w t
  Φ k := between m c k.val
  q _ := fullShare
  owed _ := 0

theorem A_eq (c : Dev nD) (w : Fin (cfgM m).W) : (dats m 0 c).A w = V m c (Pipeline.arrRef spec0 w) := by dsimp only [dats]; rfl

theorem before_in (c : Dev nD) (w : Fin (cfgM m).W) (hw : ((cfgM m).win w).isOut = false)
    (hafter : ∀ t, (dats m 0 c).after w t = Pipeline.heldIn (cfgM m) (arrays m c) w t.val t.isLt) (t : Fin (cfgM m).N) (d) :
    (dats m 0 c).before w t d = (dats m 0 c).after w t :=
  ((dats m 0 c).before_eq_heldIn w hw (fun _ => rfl) (fun _ _ => rfl) hafter t d).trans (hafter t).symm

end Cert.KernelIdeal.Gather
-- ==== Proof.Ideal.Blocks.lean ====
/- What the windows hold, element by element, and what the host operations leave in their arrays. -/
module

public import proofs.«01_k».proof.Proof.Ideal.Launch
public import Idealize.ShloMosaic.Lib.Pipeline.Value
public import Idealize.ShloMosaic.Lib.StableHlo.RunRead

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open Idealize.ShloMosaic.Pipeline (Dat BodyObligation)
open Cert.KernelIdeal.Gen GatherLib

variable {F : FTy → Type} [FloatOps F] [∀ e, Nonempty (Elt F e)]

variable (m : (ℓ : Loc nD τ sig) → Buf (Elt F) ℓ)

/-- A window whose block never moves holds the block of the first step throughout. -/
theorem heldIn_still (c : Dev nD) (w : Fin (cfgM m).W)
    (h : ∀ t t' : Fin (cfgM m).N, ((cfgM m).win w).fill ((cfgM m).grid.coords t) (fun _ => Classical.arbitrary _) ((((cfgM m).win w).blk t).view.read (Elt F) (arrays m c w))
      = ((cfgM m).win w).fill ((cfgM m).grid.coords t') (fun _ => Classical.arbitrary _) ((((cfgM m).win w).blk t').view.read (Elt F) (arrays m c w))) :
    ∀ (n : Nat) (hn : n < (cfgM m).N), Pipeline.heldIn (cfgM m) (arrays m c) w n hn
      = ((cfgM m).win w).fill ((cfgM m).grid.coords ⟨n, hn⟩) (fun _ => Classical.arbitrary _) ((((cfgM m).win w).blk ⟨n, hn⟩).view.read (Elt F) (arrays m c w))
  | 0, hn => rfl
  | n + 1, hn => by
    unfold Pipeline.heldIn
    split
    · rfl
    · exact (heldIn_still c w h n (Nat.lt_of_succ_lt hn)).trans (h _ _)

theorem tailBlk_eq (c : Dev nD) (t : Fin (cfgM m).N) (z : S10000x128.Idx) : tailBlk m c t z = V m c main_v3 z := by
  refine (congrFun (heldIn_still m c (0 : Fin 4) (fun _ _ => rfl) t.val t.isLt) z).trans ?_
  show V m c main_v3 _ = _
  refine congrArg (V m c main_v3) (funext fun a => Fin.ext ?_)
  exact Pipeline.Window.rect_emb_val_of_index_zero ((cfgM m).win (0 : Fin 4)) t a (by fin_cases a <;> rfl) z

theorem rootBlk_eq (c : Dev nD) (t : Fin (cfgM m).N) (z : S79x1x128.Idx) : rootBlk m c t z = V m c main_v1 z := by
  refine (congrFun (heldIn_still m c (2 : Fin 4) (fun _ _ => rfl) t.val t.isLt) z).trans ?_
  show V m c main_v1 _ = _
  refine congrArg (V m c main_v1) (funext fun a => Fin.ext ?_)
  exact Pipeline.Window.rect_emb_val_of_index_zero ((cfgM m).win (2 : Fin 4)) t a (by fin_cases a <;> rfl) z

theorem V_arg0 (c : Dev nD) : V m c main_arg0 = m ((c : Thread nD τ).loc main_arg0) := by
  unfold V; after_reads_simp
theorem V_arg1 (c : Dev nD) : V m c main_arg1 = m ((c : Thread nD τ).loc main_arg1) := by
  unfold V; after_reads_simp
theorem V_arg2 (c : Dev nD) : V m c main_arg2 = m ((c : Thread nD τ).loc main_arg2) := by
  unfold V; after_reads_simp
theorem V_v3 (c : Dev nD) : V m c main_v3 = (extractStridedSlice S10000x128 ![0, 9872] (m ((c : Thread nD τ).loc main_arg1)) slices_S10000x10000_S10000x128_0_9872 : S10000x128.Idx → Elt F .f32) := by
  unfold V; after_reads_simp

end Cert.KernelIdeal.Gather
-- ==== Proof.Ideal.Run.lean ====
/- The body at each step, and the run of the whole program. -/
module

public import proofs.«01_k».proof.Proof.Ideal.Blocks

@[expose] public section

set_option maxRecDepth 20000

noncomputable section

namespace Cert.KernelIdeal.Gather

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen GatherLib

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The tail's block is the matrix's last columns. -/
theorem tail_matrix (c : Dev nD) (t : Fin (cfgM m).N) (z : S10000x128.Idx) (y : S10000x10000.Idx) (h0 : (y 0).val = (z 0).val)
    (h1 : (y 1).val = 9872 + (z 1).val) : tailBlk m c t z = (Memref.whole (sig := sig) main_arg1).view.read (Elt F) (matrix m c) y := by
  rw [tailBlk_eq, V_v3]
  show _ = V m c main_arg1 y
  rw [V_arg1]
  refine congrArg (m ((c : Thread nD τ).loc main_arg1)) (funext fun a => Fin.ext ?_)
  fin_cases a
  · show 0 + (z 0).val = (y 0).val; omega
  · show 9872 + (z 1).val = (y 1).val; omega

/-- The body at a step, on the operands the pipeline hands it. -/
abbrev bodyAt (t : Fin (cfgM m).N) : Prog (TpuEff nD τ sig (Elt F) Λ₀ .tc) PUnit :=
  cc0_gather_bilinear (grid0.coords t) (Memref.whole main_arg0) (Memref.isWhole_whole _) (Memref.whole main_arg1) (Memref.isWhole_whole _)
    (spec0_0.stage ((cfgM m).slots t (0 : Fin 4))) (hstage0_0 (((cfgM m).slots t (0 : Fin 4)).cast nbuf0_0))
    (spec0_1.stage ((cfgM m).slots t (1 : Fin 4))) (hstage0_1 (((cfgM m).slots t (1 : Fin 4)).cast nbuf0_1))
    (spec0_2.stage ((cfgM m).slots t (2 : Fin 4))) (hstage0_2 (((cfgM m).slots t (2 : Fin 4)).cast nbuf0_2))
    (spec0_3.stage ((cfgM m).slots t (3 : Fin 4))) (hstage0_3 (((cfgM m).slots t (3 : Fin 4)).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _) cc0_scratch6

theorem defs₀_row (t : Fin (cfgM m).N) : defs₀ (F := F) .tc (cfgM m).body ((cfgM m).bodyArgs t ((cfgM m).slots t)) = bodyAt m t := by
  unfold defs₀; rw [Defs.onTc_tc]

/-- What the body is called with and what it returns. -/
def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t (0 : Fin 4))) fullShare ((dats m 0 c).before (0 : Fin 4) t d))
    ∗ (∃ d, owns (c : Thread nD τ) (spec0_1.stage ((cfgM m).slots t (1 : Fin 4))) fullShare ((dats m 0 c).before (1 : Fin 4) t d))
    ∗ (∃ d, owns (c : Thread nD τ) (spec0_2.stage ((cfgM m).slots t (2 : Fin 4))) fullShare ((dats m 0 c).before (2 : Fin 4) t d))
    ∗ (∃ d, owns (c : Thread nD τ) (spec0_3.stage ((cfgM m).slots t (3 : Fin 4))) fullShare ((dats m 0 c).before (3 : Fin 4) t d)))
def bodyPost (c : Dev nD) (t : Fin (cfgM m).N) : sProp 𝕄 :=
  iprop((dats m 0 c).Φ t.succ ∗ (dats m 0 c).owesAt () t.succ
    ∗ owns (c : Thread nD τ) (spec0_0.stage ((cfgM m).slots t (0 : Fin 4))) fullShare (tailBlk m c t)
    ∗ owns (c : Thread nD τ) (spec0_1.stage ((cfgM m).slots t (1 : Fin 4))) fullShare (colBlk m c t)
    ∗ owns (c : Thread nD τ) (spec0_2.stage ((cfgM m).slots t (2 : Fin 4))) fullShare (rootBlk m c t)
    ∗ owns (c : Thread nD τ) (spec0_3.stage ((cfgM m).slots t (3 : Fin 4))) fullShare (outBlk m c t))

theorem owes_in (c : Dev nD) (t : Fin ((cfgM m).N + 1)) : (dats m 0 c).owesAt () t ⊢ (iprop(∃ W, owes (c : Thread nD τ) 0 W) : sProp 𝕄) := by
  unfold Dat.owesAt Pipeline.owesWithin
  rw [show (dats m 0 c).owed t = 0 from rfl]
  iintro ⟨%W, -, HO⟩
  iexists W; iexact HO

theorem owes_out (c : Dev nD) (t : Fin ((cfgM m).N + 1)) : (iprop(∃ W, owes (c : Thread nD τ) 0 W) : sProp 𝕄) ⊢ (dats m 0 c).owesAt () t := by
  unfold Dat.owesAt Pipeline.owesWithin
  rw [show (dats m 0 c).owed t = 0 from rfl]
  iintro ⟨%W, HO⟩
  iexists W; isplitr; · ipureintro; exact fun _ _ => Or.inl trivial
  iexact HO

theorem sound_body (c : Dev nD) (hw : ∀ y, (words m c y).toNat < 10000) (t : Fin (cfgM m).N) :
    bodyPre m c t ⊢ wp frame (wpE (defs₀ (F := F)) Variants.none c none) Set.univ (bodyAt m t) (fun _ => bodyPost m c t) := by
  have hstep := wp_step (F := F) (grid0.coords t) (Memref.whole main_arg0) (Memref.isWhole_whole _) (Memref.whole main_arg1) (Memref.isWhole_whole _)
    (spec0_0.stage ((cfgM m).slots t (0 : Fin 4))) (hstage0_0 (((cfgM m).slots t (0 : Fin 4)).cast nbuf0_0))
    (spec0_1.stage ((cfgM m).slots t (1 : Fin 4))) (hstage0_1 (((cfgM m).slots t (1 : Fin 4)).cast nbuf0_1))
    (spec0_2.stage ((cfgM m).slots t (2 : Fin 4))) (hstage0_2 (((cfgM m).slots t (2 : Fin 4)).cast nbuf0_2))
    (spec0_3.stage ((cfgM m).slots t (3 : Fin 4))) (hstage0_3 (((cfgM m).slots t (3 : Fin 4)).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _) cc0_scratch6
    c fullShare.left fullShare.right (matrix m c) Variants.none none (words m c) fullShare.right fullShare fullShare fullShare (tailBlk m c t) (colBlk m c t) (rootBlk m c t)
    hw (tail_matrix m c t)
  rw [(coords_eq t).1, (coords_eq t).2, slotA_next, slotB_next] at hstep
  have e0 : ∀ d, (dats m 0 c).before (0 : Fin 4) t d = tailBlk m c t := before_in m c (0 : Fin 4) rfl (fun _ => rfl) t
  have e1 : ∀ d, (dats m 0 c).before (1 : Fin 4) t d = colBlk m c t := before_in m c (1 : Fin 4) rfl (fun _ => rfl) t
  have e2 : ∀ d, (dats m 0 c).before (2 : Fin 4) t d = rootBlk m c t := before_in m c (2 : Fin 4) rfl (fun _ => rfl) t
  unfold bodyPre bodyPost
  simp only [e0, e1, e2]
  rw [show (dats m 0 c).Φ t.castSucc = between m c t.val from rfl, show (dats m 0 c).Φ t.succ = between m c (t.val + 1) from rfl]
  unfold between
  unfold Held St at hstep
  iintro ⟨⟨H2, HA, HB, H10, H11, H12, H13, HG⟩, HO, ⟨%d0, H4⟩, ⟨%d1, H5⟩, ⟨%d2, H6⟩, ⟨%d3, H7⟩⟩
  ihave HO := (owes_in m c t.castSucc) $$ HO
  iapply (wp_wand _ _ _) $$ [H2 HA HB H10 H11 H12 H13 HO H4 H5 H6 H7]
  · iapply hstep
    isplitl [H2 HA HB HO H10]
    · isplitl [H2]; · iexact H2
      isplitl [HA]; · iexact HA
      isplitl [HB]; · iexact HB
      isplitl [HO]; · iexact HO
      iexact H10
    isplitl [H4]; · iexact H4
    isplitl [H5]; · iexact H5
    isplitl [H6]; · iexact H6
    isplitl [H11]; · iexact H11
    isplitl [H12]; · iexact H12
    isplitl [H13]; · iexact H13
    iexists _; iexact H7
  iintro %u ⟨⟨H2, HA, HB, HO, H10⟩, H4, H5, H6, H11, H12, H13, H7⟩
  isplitl [H2 HA HB H10 H11 H12 H13 HG]
  · isplitl [H2]; · iexact H2
    isplitl [HA]; · iexact HA
    isplitl [HB]; · iexact HB
    isplitl [H10]; · iexact H10
    isplitl [H11]; · iexact H11
    isplitl [H12]; · iexact H12
    isplitl [H13]; · iexact H13
    iexact HG
  isplitl [HO]; · iapply (owes_out m c t.succ); iexact HO
  isplitl [H4]; · iexact H4
  isplitl [H5]; · iexact H5
  isplitl [H6]; · iexact H6
  iexact H7

theorem body_obligation (c : Dev nD) (hw : ∀ y, (words m c y).toNat < 10000) :
    BodyObligation (dats (F := F) m 0 c) (defs₀ (F := F)) Variants.none () Set.univ := fun t => by
  rw [bigSep_W0, bigSep_W0, defs₀_row]
  exact triple_restated (sound_body m c hw t) rfl .rfl fun _ => .rfl

/-! ## The launch -/

theorem hmainD (𝒱₀ : Variants) :
    Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main hostLines ⟨hostOps0_sub, hostOps0_1_sub, hostOps0_2_sub⟩
    ⟨rfl, ⟨rfl, rfl⟩, ⟨rfl, rfl, rfl⟩⟩ fun c => main_chain c

theorem enter (c : Dev nD) :
    iprop(Pipeline.ΦD osem0 spec0 H0 (V m) c ∗ Pipeline.ΦT (U := Pipeline.UD sig nD τ) pre0 (adm m).1 c) ⊢ (dats m 0 c).Φ 0 := by
  rw [Pipeline.ΦD_eq, scopedRest0_eq, ownSems00_eq, held0_eq, table_eq]
  rw [show (dats m 0 c).Φ 0 = between m c 0 from rfl]
  unfold between
  rw [show slotA (Memref.whole main_arg1) (Memref.whole cc0_scratch0) cc0_scratch6 c fullShare.left (matrix m c) (words m c) (0 / 8) (0 % 8)
      = Idle (Memref.whole cc0_scratch0) (Memref.whole main_arg1) c fullShare.left (matrix m c) (semA cc0_scratch6) from if_neg (by decide),
    show slotB (Memref.whole main_arg1) (Memref.whole cc0_scratch1) cc0_scratch6 c fullShare.right (matrix m c) (words m c) (0 / 8) (0 % 8)
      = Idle (Memref.whole cc0_scratch1) (Memref.whole main_arg1) c fullShare.right (matrix m c) (semB cc0_scratch6) from if_neg (by decide)]
  unfold Idle
  simp only [← owns_whole]
  iintro ⟨⟨⟨S0, S1, S2, S3, S4, S5⟩, HG, ⟨HqA, HqB⟩, HM⟩, HT⟩
  ihave HM := (pointsTo_share (PosShare.mem_left_op_right fullShare)).1 $$ HM
  icases HM with ⟨HMA, HMB⟩
  isplitl [HT]; · iexact HT
  isplitl [S0 HMA HqA]
  · isplitl [S0]; · iexact S0
    isplitl [HMA] <;> iassumption
  isplitl [S1 HMB HqB]
  · isplitl [S1]; · iexact S1
    isplitl [HMB] <;> iassumption
  isplitl [S2]; · iexact S2
  isplitl [S3]; · iexact S3
  isplitl [S4]; · iexact S4
  isplitl [S5]; · iexact S5
  iexact HG

theorem leave (c : Dev nD) : (dats m 0 c).Φ (Fin.last (cfgM m).N) ⊢ Pipeline.ΦD osem0 spec0 H0 (V m) c := by
  rw [Pipeline.ΦD_eq, scopedRest0_eq, ownSems00_eq, held0_eq]
  rw [show (dats m 0 c).Φ (Fin.last (cfgM m).N) = between m c 64 from rfl]
  unfold between
  rw [show slotA (Memref.whole main_arg1) (Memref.whole cc0_scratch0) cc0_scratch6 c fullShare.left (matrix m c) (words m c) (64 / 8) (64 % 8)
      = Idle (Memref.whole cc0_scratch0) (Memref.whole main_arg1) c fullShare.left (matrix m c) (semA cc0_scratch6) from if_neg (by decide),
    show slotB (Memref.whole main_arg1) (Memref.whole cc0_scratch1) cc0_scratch6 c fullShare.right (matrix m c) (words m c) (64 / 8) (64 % 8)
      = Idle (Memref.whole cc0_scratch1) (Memref.whole main_arg1) c fullShare.right (matrix m c) (semB cc0_scratch6) from if_neg (by decide)]
  unfold Idle
  simp only [← owns_whole]
  iintro ⟨-, ⟨S0, HMA, HqA⟩, ⟨S1, HMB, HqB⟩, S2, S3, S4, S5, HG⟩
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [HG]; · iexact HG
  isplitl [HqA HqB]; · isplitl [HqA] <;> iassumption
  iapply (pointsTo_share (PosShare.mem_left_op_right fullShare)).2
  isplitl [HMA] <;> iassumption

-- the launch theorem's implicit arguments are found by unifying its conclusion with this statement
set_option backward.isDefEq.respectTransparency.types false in
theorem run_main (hw : ∀ c y, (words m c y).toNat < 10000) :
    θ_run defs (onTc (τ := τ) (main (F := F))) (s₀ m ρ)
      (fun r => Pipeline.FramePost (Pipeline.pin (pcfgs (F := F)) fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c (hw c)).loose) (hshare := fun c => (dats m 0 c).share_full fun _ => rfl)
    (howed := fun _ _ => rfl) (V := V m) (hmain := hmainD m Variants.none) (hA := A_eq m)
    (hpf := fun c k => by have hc : c = 0 := Subsingleton.elim _ _; subst hc; rfl)
    (hin := enter m) (hout := leave m)

variable {m ρ}

/-- After the run the arguments hold what they held at launch. -/
theorem final_args {r : PUnit × MemSt nD τ sig (Elt F)}
    (h : Pipeline.FramePost (Pipeline.pin (pcfgs (F := F)) fun _ => adm m) (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (show ∀ w : Fin 4, (spec0 w).arr.view.ref ≠ main_arg0 by decide))).trans (V_arg0 m c),
    ((h c).2 main_arg1 (Pipeline.mem_restRefs_of main_arg1 (by decide) (show ∀ w : Fin 4, (spec0 w).arr.view.ref ≠ main_arg1 by decide))).trans (V_arg1 m c),
    ((h c).2 main_arg2 (Pipeline.mem_restRefs_of main_arg2 (by decide) (show ∀ w : Fin 4, (spec0 w).arr.view.ref ≠ main_arg2 by decide))).trans (V_arg2 m c)⟩

end Cert.KernelIdeal.Gather
-- ==== Proof.Ideal.Entry.lean ====
/- One entry of the block a grid step leaves, over the extended reals. -/
module

public import proofs.«01_k».proof.Proof.Ideal.Second
public import Idealize.ShloMosaic.Lib.Pointwise
public import Idealize.ShloMosaic.Lib.WordCmp
public import Idealize.ShloMosaic.PureOps.Ideal

@[expose] public section

set_option maxRecDepth 20000

noncomputable section

namespace Cert.KernelIdeal.Gather

open Idealize.ShloMosaic Idealize.ShloMosaic.WordCmp
open Cert.KernelIdeal.Gen GatherLib

/-- The place of root `w` in the table of roots laid out in rows of 128. -/
def rootIx (w : Nat) : S79x1x128.Idx := fun a => match a with
  | 0 => ⟨w / 128 % 79, Nat.mod_lt _ (by decide)⟩
  | 1 => ⟨0, Nat.one_pos⟩
  | 2 => ⟨w % 128, Nat.mod_lt _ (by decide)⟩

/-- The low seven bits of a word are its remainder by 128. -/
theorem low_bits (w : BitVec 32) : (IntOp.andi w 127#32).toNat = w.toNat % 128 := by
  show (w &&& 127#32).toNat = _
  rw [BitVec.toNat_and]
  exact Nat.and_two_pow_sub_one_eq_mod w.toNat 7

/-- A score: of the row's 128 lanes the one the word names is kept, and the sum is that lane. -/
theorem colOf_at (X5 : S1x1x256x1.Idx → BitVec 32) (TR : S256x1x128.Idx → Elt Ideal .f32) (x : S256x1.Idx) (z : S1x1x256x1.Idx) (y : S256x1x128.Idx)
    (hz : (z 2).val = (x 0).val) (h0 : (y 0).val = (x 0).val) (h2 : (y 2).val = (X5 z).toNat % 128) :
    colOf (F := Ideal) X5 TR x = TR y := by
  unfold colOf k0_pay393
  pointwise
  have hX : ∀ z', (z' 2).val = (x 0).val → X5 z' = X5 z := fun z' h => congrArg X5 (funext fun a => Fin.ext (match a with
    | 0 => by have := (z' 0).isLt; have := (z 0).isLt; have e : S1x1x256x1.size 0 = 1 := rfl; omega
    | 1 => by have := (z' 1).isLt; have := (z 1).isLt; have e : S1x1x256x1.size 1 = 1 := rfl; omega
    | 2 => h.trans hz.symm
    | 3 => by have := (z' 3).isLt; have := (z 3).isLt; have e : S1x1x256x1.size 3 = 1 := rfl; omega))
  have hT : ∀ y', (y' 0).val = (x 0).val → (y' 2).val = (y 2).val → TR y' = TR y := fun y' e0 e2 => congrArg TR (funext fun a => Fin.ext (match a with
    | 0 => e0.trans h0.symm
    | 1 => by have := (y' 1).isLt; have := (y 1).isLt; have e : S256x1x128.size 1 = 1 := rfl; omega
    | 2 => e2))
  have hb : ∀ l : Fin 128, BitVec.ofNat 32 l.val = IntOp.andi (X5 z) 127#32 ↔ l.val = (y 2).val := fun l => by
    rw [← BitVec.toNat_inj, low_bits, BitVec.toNat_ofNat, Nat.mod_eq_of_lt (show l.val < 2 ^ 32 by have := l.isLt; omega), h2]
  refine (Finset.sum_eq_single (⟨(y 2).val, (y 2).isLt⟩ : Fin 128) (fun l _ hl => ?_) fun h => absurd (Finset.mem_univ _) h).trans ?_
  · refine (congrArg (fun w => Scalar.select (IntOp.cmpi .eq (BitVec.ofNat 32 l.val) (IntOp.andi w 127#32)) _ (0 : EReal)) (hX _ rfl)).trans ?_
    rw [cmpi_eq_eq, select_decide, if_neg fun h => hl (Fin.ext ((hb _).1 h))]
  · refine (congrArg (fun w => Scalar.select (IntOp.cmpi .eq (BitVec.ofNat 32 (y 2).val) (IntOp.andi w 127#32)) _ (0 : EReal)) (hX _ rfl)).trans ?_
    rw [cmpi_eq_eq, select_decide, if_pos ((hb ⟨(y 2).val, (y 2).isLt⟩).2 rfl)]
    exact hT _ rfl rfl

theorem half_ix (h m r : Nat) (j : S4096x128.Idx) (y : S2048x1x256.Idx) (j0 : (j 0).val = 2 * m + h) (j1 : (j 1).val = r)
    (y0 : (y 0).val = m) (y2 : (y 2).val = 128 * h + r) : Shape.reshapeEquiv reshapes_S2048x1x256_S4096x128.1 j = y :=
  Shape.reshapeEquiv_eq_of_vals _ _ _ _ _ (rowMajor_val3 y 256 256 rfl rfl) (rowMajor_val2 j 128 rfl) (by
    have := (y 1).isLt; have e : S2048x1x256.size 1 = 1 := rfl
    omega)

theorem half0_at (T : S2048x1x256.Idx → Elt Ideal .f32) (x : S2048x128.Idx) (y : S2048x1x256.Idx) (y0 : (y 0).val = (x 0).val) (y2 : (y 2).val = (x 1).val) :
    half0 T x = T y :=
  congrArg T (half_ix 0 (x 0).val (x 1).val _ y (by show 0 + 2 * (x 0).val = _; omega) (by show 0 + 1 * (x 1).val = _; omega) y0 (by omega))

theorem half1_at (T : S2048x1x256.Idx → Elt Ideal .f32) (x : S2048x128.Idx) (y : S2048x1x256.Idx) (y0 : (y 0).val = (x 0).val) (y2 : (y 2).val = 128 + (x 1).val) :
    half1 T x = T y :=
  congrArg T (half_ix 1 (x 0).val (x 1).val _ y (by show 1 + 2 * (x 0).val = _; omega) (by show 0 + 1 * (x 1).val = _; omega) y0 (by omega))

/-- Whether a column is the row's own. -/
theorem diag_iff (t h r n : Nat) (ht : t < 8) (hh : h < 256) (hr : r < 256) (hn : n < 2048) :
    BitVec.ofNat 32 n = IntOp.addi (Scalar.addi (Scalar.muli (BitVec.ofNat 32 t) 256#32) (BitVec.ofNat 32 h)) (BitVec.ofNat 32 r) ↔ n = 256 * t + (h + r) := by
  show BitVec.ofNat 32 n = BitVec.ofNat 32 t * BitVec.ofNat 32 256 + BitVec.ofNat 32 h + BitVec.ofNat 32 r ↔ _
  rw [← BitVec.ofNat_mul, ← BitVec.ofNat_add, ← BitVec.ofNat_add, ← BitVec.toNat_inj, BitVec.toNat_ofNat, BitVec.toNat_ofNat]
  omega

/-- Rows of the two halves of the block: the tile's entry, raised on the diagonal by the row's score. -/
theorem low_at (t : Nat) (ht : t < 8) (C : S256x1.Idx → Elt Ideal .f32) (T : S2048x128.Idx → Elt Ideal .f32) (y : S1x128x2048.Idx) (x : S2048x128.Idx) (z : S256x1.Idx)
    (x0 : (x 0).val = (y 2).val) (x1 : (x 1).val = (y 1).val) (hz : (z 0).val = (y 1).val) :
    k0_pay1 (F := Ideal) C (k0_pay394 T) (iota .tc S128x2048 32 [0] iota_S128x2048_d0_w32) (iota .tc S128x2048 32 [1] iota_S128x2048_d1_w32) (k0_pay395 (BitVec.ofNat 32 t)) y
      = T x + if (y 2).val = 256 * t + (y 1).val then C z else (0 : EReal) := by
  unfold k0_pay1 k0_pay394 k0_pay395
  pointwise
  have h1 : (y 1).val < 128 := (y 1).isLt
  have h2 : (y 2).val < 2048 := (y 2).isLt
  refine congrArg₂ (fun a b : EReal => a + b) (congrArg T (funext fun a => Fin.ext (match a with | 0 => x0.symm | 1 => x1.symm))) ?_
  rw [cmpi_eq_eq, select_decide]
  refine if_congr ((diag_iff t 0 (y 1).val (y 2).val ht (by omega) (by omega) h2).trans (by rw [Nat.zero_add])) ?_ rfl
  exact congrArg C (funext fun a => Fin.ext (match a with | 0 => hz.symm | 1 => by have := (z 1).isLt; have e : S256x1.size 1 = 1 := rfl; show 0 = _; omega))

theorem high_at (t : Nat) (ht : t < 8) (C : S256x1.Idx → Elt Ideal .f32) (T : S2048x128.Idx → Elt Ideal .f32) (y : S1x128x2048.Idx) (x : S2048x128.Idx) (z : S256x1.Idx)
    (x0 : (x 0).val = (y 2).val) (x1 : (x 1).val = (y 1).val) (hz : (z 0).val = 128 + (y 1).val) :
    k0_pay2 (F := Ideal) (BitVec.ofNat 32 t) C T y
      = T x + if (y 2).val = 256 * t + (128 + (y 1).val) then C z else (0 : EReal) := by
  unfold k0_pay2
  pointwise
  have h1 : (y 1).val < 128 := (y 1).isLt
  have h2 : (y 2).val < 2048 := (y 2).isLt
  refine congrArg₂ (fun a b : EReal => a + b) (congrArg T (funext fun a => Fin.ext (match a with | 0 => x0.symm | 1 => x1.symm))) ?_
  rw [cmpi_eq_eq, select_decide]
  refine if_congr (diag_iff t 128 (y 1).val (y 2).val ht (by omega) (by omega) h2) ?_ rfl
  exact congrArg C (funext fun a => Fin.ext (match a with | 0 => by rw [hz]; rfl | 1 => by have := (z 1).isLt; have e : S256x1.size 1 = 1 := rfl; show 0 = _; omega))

/-- An entry of the block a step leaves: the matrix at the row's word and the column's, and the root of the row's word on the diagonal. -/
theorem outOf_at (W : S10000x10000.Idx → Elt Ideal .f32) (X2 : S8x2048.Idx → BitVec 32) (X6 : S79x1x128.Idx → Elt Ideal .f32) (X5 : S1x1x256x1.Idx → BitVec 32)
    (i : grid0.Coords) (h5 : ∀ z, (X5 z).toNat = wd X2 (i 0).val (256 * (i 1).val + (z 2).val)) (y : S1x256x2048.Idx) :
    outOf W X2 X6 X5 i y = W (matIx (wd X2 (i 0).val (256 * (i 1).val + (y 1).val)) (wd X2 (i 0).val (y 2).val))
      + if (y 2).val = 256 * (i 1).val + (y 1).val then X6 (rootIx (wd X2 (i 0).val (256 * (i 1).val + (y 1).val))) else (0 : EReal) := by
  have ht : (i 1).val < 8 := (i 1).isLt
  have hy : (y 1).val < 256 := (y 1).isLt
  -- the row's score is the root of its word
  have hC : ∀ (x : S256x1.Idx), (x 0).val = (y 1).val →
      colOf (F := Ideal) X5 (rootOf X2 X6 (i 0).val (i 1).val) x = X6 (rootIx (wd X2 (i 0).val (256 * (i 1).val + (y 1).val))) := fun x hx => by
    let z : S1x1x256x1.Idx := fun a => match a with
      | 0 => ⟨0, Nat.one_pos⟩ | 1 => ⟨0, Nat.one_pos⟩ | 2 => ⟨(y 1).val, hy⟩ | 3 => ⟨0, Nat.one_pos⟩
    have hw : (X5 z).toNat = wd X2 (i 0).val (256 * (i 1).val + (y 1).val) := h5 z
    let r : S256x1x128.Idx := fun a => match a with
      | 0 => ⟨(y 1).val, hy⟩ | 1 => ⟨0, Nat.one_pos⟩ | 2 => ⟨(X5 z).toNat % 128, Nat.mod_lt _ (by decide)⟩
    rw [colOf_at X5 _ x z r hx.symm hx.symm rfl]
    exact congrArg X6 (funext fun a => Fin.ext (match a with | 0 => rfl | 1 => rfl | 2 => congrArg (· % 128) hw))
  unfold outOf outOver
  by_cases h : (y 1).val < 128
  · rw [put_out _ _ y 1 (.inl h), put_in _ _ y (low_in y h)]
    let q : S2048x1x256.Idx := fun a => match a with
      | 0 => ⟨(y 2).val, (y 2).isLt⟩ | 1 => ⟨0, Nat.one_pos⟩ | 2 => ⟨(y 1).val, hy⟩
    let x : S2048x128.Idx := fun a => match a with
      | 0 => ⟨(y 2).val, (y 2).isLt⟩ | 1 => ⟨(y 1).val, h⟩
    let z : S256x1.Idx := fun a => match a with
      | 0 => ⟨(y 1).val, hy⟩ | 1 => ⟨0, Nat.one_pos⟩
    refine (low_at (i 1).val ht _ _ (Rect.unitLocal (s := S1x256x2048) (off := ![0, 0, 0]) (size := S1x128x2048.size) y (low_in y h)) x z rfl rfl rfl).trans ?_
    rw [half0_at _ x q rfl rfl, hC z rfl]
    rfl
  · have h' : 128 ≤ (y 1).val := Nat.le_of_not_lt h
    rw [put_in _ _ y (high_in y h)]
    let q : S2048x1x256.Idx := fun a => match a with
      | 0 => ⟨(y 2).val, (y 2).isLt⟩ | 1 => ⟨0, Nat.one_pos⟩ | 2 => ⟨(y 1).val, hy⟩
    let x : S2048x128.Idx := fun a => match a with
      | 0 => ⟨(y 2).val, (y 2).isLt⟩ | 1 => ⟨(y 1).val - 128, by show _ < 128; omega⟩
    let z : S256x1.Idx := fun a => match a with
      | 0 => ⟨(y 1).val, hy⟩ | 1 => ⟨0, Nat.one_pos⟩
    refine (high_at (i 1).val ht _ _ (Rect.unitLocal (s := S1x256x2048) (off := ![0, 128, 0]) (size := S1x128x2048.size) y (high_in y h)) x z rfl rfl (by show (y 1).val = 128 + ((y 1).val - 128); omega)).trans ?_
    rw [half1_at _ x q rfl (by show (y 1).val = 128 + ((y 1).val - 128); omega), hC z rfl]
    refine congrArg₂ (fun a b : EReal => a + b) rfl (if_congr ?_ rfl rfl)
    show (y 2).val = 256 * (i 1).val + (128 + ((y 1).val - 128)) ↔ _
    rw [show 128 + ((y 1).val - 128) = (y 1).val by omega]

end Cert.KernelIdeal.Gather
end
-- ==== Proof.Vocabulary.lean ====
/- What the precondition says of the table of words: every entry, read as a natural number, is a row of the
   10000 x 10000 table. -/
module

public import proofs.«01_k».proof.Defs
public import Idealize.ShloMosaic.Lib.ReduceAll
public import Idealize.ShloMosaic.Lib.WordCmp

@[expose] public section

noncomputable section

namespace GatherLib

open Idealize.ShloMosaic Idealize.ShloMosaic.WordCmp Cert.Pre_words_in_vocabulary

variable {F : FTy → Type} [FloatOps F] [Cert.Pre_words_in_vocabulary.Facts]

/-- Where the precondition's function is 1, every word is below 10000. -/
theorem word_lt (w : IVec S8x2048 32) (W : FVec F S10000x10000 .f32) (r : FVec F S10000 .f32)
    (h : Cert.Pre_words_in_vocabulary.fn w W r = fun _ => 1#1) (y : S8x2048.Idx) : (w y).toNat < 10000 := by
  haveI : Subsingleton S_.Idx := ⟨fun a b => funext fun d => d.elim0⟩
  have h0 := congrFun h fun d => d.elim0
  simp only [Cert.Pre_words_in_vocabulary.fn] at h0
  have e := Host.reduce_andi_all _ _ Facts.reducesTo_S8x2048_S_d0_1 Facts.h_S_ _ h0 y
  have e' : BitVec.ofBool (decide ((w y).toNat < 10000)) = 1#1 :=
    (andi_sge_zero_slt_ofNat (w := 32) (k := 10000) (by decide) (w y)).symm.trans e
  by_contra hn
  rw [decide_eq_false hn] at e'
  exact absurd e' (by decide)

end GatherLib

end
-- ==== Proof.Reference.lean ====
/- The reference: what it leaves in its result, at an index. -/
module

public import proofs.«01_k».proof.Proof.Vocabulary
public import proofs.«01_k».proof.Proof.Gen.ReferenceIdeal
public import Idealize.ShloMosaic.Lib.Claim
public import Idealize.ShloMosaic.Lib.Pointwise
public import Idealize.ShloMosaic.Lib.WordCmp
public import Idealize.ShloMosaic.Lib.Routing.OpsPair
public import Idealize.ShloMosaic.PureOps.Ideal
public import Idealize.ShloMosaic.Adequacy
public import Idealize.ShloMosaic.Init

@[expose] public section

set_option maxRecDepth 20000

noncomputable section

namespace Cert.ReferenceIdeal.Value

open Idealize.ShloMosaic Idealize.ShloMosaic.TcCoe Idealize.ShloMosaic.WordCmp Idealize.SL.Sem
open Cert.ReferenceIdeal Cert.ReferenceIdeal.Facts₀

/-- A word counted from the end where it is negative. -/
def rows (w : IVec S8x2048 32) : IVec S8x2048x1 32 :=
  broadcastInDim S8x2048x1 ![0, 1] bcast_S8x2048_S8x2048x1_0_1
    (select (cmpi .slt w (broadcastInDim S8x2048 ![] bcast_S_S8x2048 (constantI S_ 32 0#32)))
      (addi w (broadcastInDim S8x2048 ![] bcast_S_S8x2048 (constantI S_ 32 10000#32))) w)

/-- The pairs of words the matrix is read at. -/
def pairs (w : IVec S8x2048 32) : IVec S8x2048x2048x2 32 :=
  let a := broadcastInDim S8x2048x1 ![0, 1] bcast_S8x2048_S8x2048x1_0_1 w
  let b := broadcastInDim S8x1x2048 ![0, 2] bcast_S8x2048_S8x1x2048_0_2 w
  concatenate S8x2048x2048x2 3
    [⟨S8x2048x2048x1, broadcastInDim S8x2048x2048x1 ![0, 1, 2] bcast_S8x2048x2048_S8x2048x2048x1_0_1_2 (broadcastInDim S8x2048x2048 ![0, 1, 2] bcast_S8x2048x1_S8x2048x2048_0_1_2
      (select (cmpi .slt a (broadcastInDim S8x2048x1 ![] bcast_S_S8x2048x1 (constantI S_ 32 0#32)))
        (addi a (broadcastInDim S8x2048x1 ![] bcast_S_S8x2048x1 (constantI S_ 32 10000#32))) a))⟩,
     ⟨S8x2048x2048x1, broadcastInDim S8x2048x2048x1 ![0, 1, 2] bcast_S8x2048x2048_S8x2048x2048x1_0_1_2 (broadcastInDim S8x2048x2048 ![0, 1, 2] bcast_S8x1x2048_S8x2048x2048_0_1_2
      (select (cmpi .slt b (broadcastInDim S8x1x2048 ![] bcast_S_S8x1x2048 (constantI S_ 32 0#32)))
        (addi b (broadcastInDim S8x1x2048 ![] bcast_S_S8x1x2048 (constantI S_ 32 10000#32))) b))⟩]
    concatenates_S8x2048x2048x1_S8x2048x2048x1_S8x2048x2048x2_d3

/-- The places of the diagonal. -/
def diagonal : IVec S2048x2 32 :=
  let n : IVec S2048x1 32 := broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32))) (iotaInDim S2048 32 0))
  concatenate S2048x2 1 [⟨S2048x1, n⟩, ⟨S2048x1, n⟩] concatenates_S2048x1_S2048x1_S2048x2_d1

/-- What the reference leaves in its result. -/
def out {F : FTy → Type} [FloatOps F] (w : IVec S8x2048 32) (W : FVec F S10000x10000 .f32) (r : FVec F S10000 .f32) : FVec F S8x2048x2048 .f32 :=
  Host.scatterAdd scatter_S8x2048x2048_S2048x2_S8x2048_0_12_12_1
    (Host.gather gather_S10000x10000_S8x2048x2048x2_S8x2048x2048_n_01_n_n_01_3_11 W (pairs w)) diagonal
    (Host.gather gather_S10000_S8x2048x1_S8x2048_n_0_n_n_0_2_1 r (rows w))

theorem run {F : FTy → Type} [FloatOps F] [∀ e, Nonempty (Elt F e)] (m : (ℓ : Loc nD τ sig) → Buf (Elt F) ℓ) (g : Dev nD → PrngReg) :
    θ_run (defs (F := F)) (onTc (τ := τ) (main (F := F))) ⟨m, fun _ => 0, g⟩ (fun r =>
      ∀ c : Dev nD, r.2.mem (c.tc.loc main_v39) = out (m (c.tc.loc main_arg0)) (m (c.tc.loc main_arg1)) (m (c.tc.loc main_arg2))
        ∧ r.2.mem (c.tc.loc main_arg0) = m (c.tc.loc main_arg0) ∧ r.2.mem (c.tc.loc main_arg1) = m (c.tc.loc main_arg1)
        ∧ r.2.mem (c.tc.loc main_arg2) = m (c.tc.loc main_arg2)) := by
  hlo_run
  rfl

/-- A word below a half of the words' range isn't counted from the end. -/
theorem plain (x k : BitVec 32) (h : x.toNat < 10000) : Scalar.select (IntOp.cmpi .slt x 0#32) (IntOp.addi x k) x = x :=
  Idealize.ShloMosaic.Routing.wrap_of_lt x _ (by omega)

theorem rows_at (w : IVec S8x2048 32) (hw : ∀ y, (w y).toNat < 10000) (j : S8x2048x1.Idx) (y : S8x2048.Idx) (h0 : (y 0).val = (j 0).val)
    (h1 : (y 1).val = (j 1).val) : rows w j = w y := by
  unfold rows
  pointwise
  refine (plain _ _ (hw _)).trans (congrArg w (funext fun a => Fin.ext (match a with | 0 => h0.symm | 1 => h1.symm)))

theorem pairs_row (w : IVec S8x2048 32) (hw : ∀ y, (w y).toNat < 10000) (j : S8x2048x2048x2.Idx) (y : S8x2048.Idx) (h3 : (j 3).val = 0)
    (h0 : (y 0).val = (j 0).val) (h1 : (y 1).val = (j 1).val) : pairs w j = w y := by
  unfold pairs
  pointwise
  refine (dif_pos (by omega)).trans ((plain _ _ (hw _)).trans (congrArg w (funext fun a => Fin.ext (match a with | 0 => h0.symm | 1 => h1.symm))))

theorem pairs_col (w : IVec S8x2048 32) (hw : ∀ y, (w y).toNat < 10000) (j : S8x2048x2048x2.Idx) (y : S8x2048.Idx) (h3 : (j 3).val = 1)
    (h0 : (y 0).val = (j 0).val) (h1 : (y 1).val = (j 2).val) : pairs w j = w y := by
  unfold pairs
  pointwise
  refine (dif_neg (by omega)).trans ((plain _ _ (hw _)).trans (congrArg w (funext fun a => Fin.ext (match a with | 0 => h0.symm | 1 => h1.symm))))

theorem diagonal_at (j : S2048x2.Idx) : (diagonal j).toInt = ((j 0).val : Int) := by
  have h : (j 0).val < 2048 := (j 0).isLt
  have hn : (BitVec.ofNat 32 (j 0).val).toNat = (j 0).val := by rw [BitVec.toNat_ofNat]; exact Nat.mod_eq_of_lt (by omega)
  have e : diagonal j = BitVec.ofNat 32 (j 0).val := by
    unfold diagonal
    pointwise
    rw [plain _ _ (by omega)]
    split <;> rfl
  rw [e, toInt_eq_toNat_of_lt_half (by omega), hn]

/-- The word a matrix entry is read at, cut to the matrix, is the word. -/
theorem cut (x : BitVec 32) (h : x.toNat < 10000) : min x.toInt.toNat (10000 - 1) = x.toNat := by
  rw [toInt_eq_toNat_of_lt_half (show x.toNat < 2 ^ (32 - 1) by omega), Int.toNat_natCast]
  omega

theorem matrix_at {F : FTy → Type} [FloatOps F] (w : IVec S8x2048 32) (hw : ∀ y, (w y).toNat < 10000) (W : FVec F S10000x10000 .f32) (j : S8x2048x2048.Idx)
    (y z : S8x2048.Idx) (p : S10000x10000.Idx) (y0 : (y 0).val = (j 0).val) (y1 : (y 1).val = (j 1).val) (z0 : (z 0).val = (j 0).val) (z1 : (z 1).val = (j 2).val)
    (p0 : (p 0).val = (w y).toNat) (p1 : (p 1).val = (w z).toNat) :
    Host.gather gather_S10000x10000_S8x2048x2048x2_S8x2048x2048_n_01_n_n_01_3_11 W (pairs w) j = W p := by
  refine congrArg W (funext fun a => Fin.ext ?_)
  match a with
  | 0 =>
    show min (pairs w _).toInt.toNat (10000 - 1) + 0 + 0 = _
    rw [pairs_row w hw _ y rfl y0 y1, cut _ (hw y)]; exact p0.symm
  | 1 =>
    show min (pairs w _).toInt.toNat (10000 - 1) + 0 + 0 = _
    rw [pairs_col w hw _ z rfl z0 z1, cut _ (hw z)]; exact p1.symm

theorem root_at {F : FTy → Type} [FloatOps F] (w : IVec S8x2048 32) (hw : ∀ y, (w y).toNat < 10000) (r : FVec F S10000 .f32) (j : S8x2048.Idx)
    (p : S10000.Idx) (p0 : (p 0).val = (w j).toNat) :
    Host.gather gather_S10000_S8x2048x1_S8x2048_n_0_n_n_0_2_1 r (rows w) j = r p := by
  refine congrArg r (funext fun a => Fin.ext ?_)
  match a with
  | 0 =>
    show min (rows w _).toInt.toNat (10000 - 1) + 0 + 0 = _
    rw [rows_at w hw _ j rfl rfl, cut _ (hw j)]; exact p0.symm

/-- Update `(b, k)` lands at place `(k, k)` of batch `b`. -/
theorem lands (k : S8x2048.Idx) (j : S8x2048x2048.Idx) :
    scatter_S8x2048x2048_S2048x2_S8x2048_0_12_12_1.resultIdx? k diagonal = some j
      ↔ (k 0).val = (j 0).val ∧ (k 1).val = (j 1).val ∧ (k 1).val = (j 2).val := by
  rw [Idealize.ShloMosaic.Routing.resultIdx?_eq_some]
  have e0 : scatter_S8x2048x2048_S2048x2_S8x2048_0_12_12_1.start k diagonal 0 + (scatter_S8x2048x2048_S2048x2_S8x2048_0_12_12_1.window k 0 : Int) = ((k 0).val : Int) := by
    show 0 + ((k 0).val : Int) = _; omega
  have e1 : scatter_S8x2048x2048_S2048x2_S8x2048_0_12_12_1.start k diagonal 1 + (scatter_S8x2048x2048_S2048x2_S8x2048_0_12_12_1.window k 1 : Int) = ((k 1).val : Int) := by
    show (diagonal _).toInt + ((0 : Nat) : Int) = _
    rw [diagonal_at]; show ((k 1).val : Int) + 0 = _; omega
  have e2 : scatter_S8x2048x2048_S2048x2_S8x2048_0_12_12_1.start k diagonal 2 + (scatter_S8x2048x2048_S2048x2_S8x2048_0_12_12_1.window k 2 : Int) = ((k 1).val : Int) := by
    show (diagonal _).toInt + ((0 : Nat) : Int) = _
    rw [diagonal_at]; show ((k 1).val : Int) + 0 = _; omega
  constructor
  · intro h
    exact ⟨by have := h 0; rw [e0] at this; omega, by have := h 1; rw [e1] at this; omega, by have := h 2; rw [e2] at this; omega⟩
  · intro h a
    match a with
    | 0 => rw [e0, h.1]
    | 1 => rw [e1, h.2.1]
    | 2 => rw [e2, h.2.2]

/-- An entry of the reference's result over the extended reals. -/
theorem out_at (w : IVec S8x2048 32) (hw : ∀ y, (w y).toNat < 10000) (W : FVec Ideal S10000x10000 .f32) (r : FVec Ideal S10000 .f32) (j : S8x2048x2048.Idx)
    (y z : S8x2048.Idx) (p : S10000x10000.Idx) (q : S10000.Idx) (y0 : (y 0).val = (j 0).val) (y1 : (y 1).val = (j 1).val) (z0 : (z 0).val = (j 0).val)
    (z1 : (z 1).val = (j 2).val) (p0 : (p 0).val = (w y).toNat) (p1 : (p 1).val = (w z).toNat) (q0 : (q 0).val = (w y).toNat) :
    out (F := Ideal) w W r j = W p + if (j 2).val = (j 1).val then r q else (0 : EReal) := by
  show Host.gather gather_S10000x10000_S8x2048x2048x2_S8x2048x2048_n_01_n_n_01_3_11 W (pairs w) j
    + ∑ k ∈ Finset.univ.filter (fun k => scatter_S8x2048x2048_S2048x2_S8x2048_0_12_12_1.resultIdx? k diagonal = some j),
      Host.gather gather_S10000_S8x2048x1_S8x2048_n_0_n_n_0_2_1 r (rows w) k = _
  rw [matrix_at w hw W j y z p y0 y1 z0 z1 p0 p1]
  refine congrArg (fun x : EReal => W p + x) ?_
  split
  · next h =>
    have hs : Finset.univ.filter (fun k => scatter_S8x2048x2048_S2048x2_S8x2048_0_12_12_1.resultIdx? k diagonal = some j) = {y} := by
      ext k
      rw [Finset.mem_filter, Finset.mem_singleton, lands]
      constructor
      · intro hk
        exact funext fun a => Fin.ext (match a with | 0 => hk.2.1.trans y0.symm | 1 => hk.2.2.1.trans y1.symm)
      · intro hk; subst hk
        exact ⟨Finset.mem_univ _, y0, y1, y1.trans h.symm⟩
    rw [hs, Finset.sum_singleton, root_at w hw r y q q0]
  · next h =>
    refine Finset.sum_eq_zero fun k hk => absurd ?_ h
    rw [Finset.mem_filter, lands] at hk
    exact hk.2.2.2.symm.trans hk.2.2.1

end Cert.ReferenceIdeal.Value
end
-- ==== Proof.Ideal.Result.lean ====
/- The result array of the kernel over the extended reals, entry by entry. -/
module

public import proofs.«01_k».proof.Proof.Ideal.Run
public import proofs.«01_k».proof.Proof.Ideal.Entry
public import proofs.«01_k».proof.Proof.Reference
public import Idealize.ShloMosaic.Lib.StableHlo.ReadAt

@[expose] public section

set_option maxRecDepth 20000

noncomputable section

namespace Cert.KernelIdeal.Gather

open Idealize.ShloMosaic Idealize.ShloMosaic.TcCoe Idealize.ShloMosaic.Tactic
open Idealize.ShloMosaic.Pipeline (Dat)
open Cert.KernelIdeal.Gen GatherLib

variable {F : FTy → Type} [FloatOps F] [∀ e, Nonempty (Elt F e)]
variable (m : (ℓ : Loc nD τ sig) → Buf (Elt F) ℓ)

/-- The table of words laid out in tiles, at a place. -/
theorem V_v2_at (c : Dev nD) (z : S8x8x256x1.Idx) (y : S8x2048.Idx) (y0 : (y 0).val = (z 0).val) (y1 : (y 1).val = 256 * (z 1).val + (z 2).val) :
    V m c main_v2 z = m ((c : Thread nD τ).loc main_arg0) y := by
  unfold V hostLines
  after_reads_at
  refine congrArg (m ((c : Thread nD τ).loc main_arg0)) (funext fun a => Fin.ext (match a with
    | 0 => y0.symm
    | 1 => by show (z 1).val * 256 + (z 2).val = _; omega))

/-- The padded roots laid out in rows of 128, at a root's place. -/
theorem V_v1_at (c : Dev nD) (w : Nat) (hw : w < 10000) (y : S10000.Idx) (hy : (y 0).val = w) :
    V m c main_v1 (rootIx w) = m ((c : Thread nD τ).loc main_arg2) y := by
  have e0 : (rootIx w 0).val = w / 128 % 79 := rfl
  have e2 : (rootIx w 2).val = w % 128 := rfl
  unfold V hostLines
  after_reads_at
  have h : (rootIx w 0).val * 128 + (rootIx w 2).val = w := by omega
  refine (dif_pos (by omega)).trans (congrArg (m ((c : Thread nD τ).loc main_arg2)) (funext fun a => Fin.ext (match a with
    | 0 => by show (rootIx w 0).val * 128 + (rootIx w 2).val = _; omega)))

theorem coord_word (n : Nat) (h : n < 8) : (BitVec.ofNat 32 n).toNat = n := by
  rw [BitVec.toNat_ofNat]; exact Nat.mod_eq_of_lt (by omega)

/-- The columns' block moves at every step. -/
theorem col_fetch (t : Fin (cfgM m).N) : ((cfgM m).win (1 : Fin 4)).fetch t = true := by
  rw [((cfgM m).win (1 : Fin 4)).fetch_in rfl]
  by_cases h0 : t.val = 0
  · exact .inl h0
  · refine .inr ⟨by omega, fun h => ?_⟩
    have h1 : (BitVec.ofNat 32 (grid0.coords t 0).val).toNat = (BitVec.ofNat 32 (grid0.coords ⟨t.val - 1, Nat.lt_of_le_of_lt (Nat.sub_le _ _) t.isLt⟩ 0).val).toNat := congrFun h 0
    have h2 : (BitVec.ofNat 32 (grid0.coords t 1).val).toNat = (BitVec.ofNat 32 (grid0.coords ⟨t.val - 1, Nat.lt_of_le_of_lt (Nat.sub_le _ _) t.isLt⟩ 1).val).toNat := congrFun h 1
    rw [coord_word _ (grid0.coords _ 0).isLt, coord_word _ (grid0.coords _ 0).isLt, (coords_eq _).1, (coords_eq _).1] at h1
    rw [coord_word _ (grid0.coords _ 1).isLt, coord_word _ (grid0.coords _ 1).isLt, (coords_eq _).2, (coords_eq _).2] at h2
    simp only at h1 h2
    omega

/-- The output's block moves at every step. -/
theorem out_flush (t : Fin (cfgM m).N) : ((cfgM m).win (3 : Fin 4)).flush t = true := by
  rw [((cfgM m).win (3 : Fin 4)).flush_out rfl]
  by_cases h0 : t.val + 1 = grid0.N
  · exact .inl h0
  · have hl : t.val + 1 < grid0.N := by have : t.val < grid0.N := t.isLt; omega
    refine .inr ⟨hl, fun h => ?_⟩
    have h1 : (BitVec.ofNat 32 (grid0.coords ⟨t.val + 1, hl⟩ 0).val).toNat = (BitVec.ofNat 32 (grid0.coords t 0).val).toNat := congrFun h 0
    have h2 : (BitVec.ofNat 32 (grid0.coords ⟨t.val + 1, hl⟩ 1).val).toNat = (BitVec.ofNat 32 (grid0.coords t 1).val).toNat := congrFun h 1
    rw [coord_word _ (grid0.coords _ 0).isLt, coord_word _ (grid0.coords _ 0).isLt, (coords_eq _).1, (coords_eq _).1] at h1
    rw [coord_word _ (grid0.coords _ 1).isLt, coord_word _ (grid0.coords _ 1).isLt, (coords_eq _).2, (coords_eq _).2] at h2
    simp only at h1 h2
    omega

/-- A step's column of words. -/
theorem colBlk_eq (c : Dev nD) (t : Fin (cfgM m).N) (z : S1x1x256x1.Idx) (y : S8x2048.Idx) (y0 : (y 0).val = (grid0.coords t 0).val)
    (y1 : (y 1).val = 256 * (grid0.coords t 1).val + (z 2).val) : colBlk m c t z = m ((c : Thread nD τ).loc main_arg0) y := by
  refine (congrFun (Pipeline.heldIn_of_fetch (c := c) (arrays m c) (1 : Fin 4) t (col_fetch m t)) z).trans ?_
  have hz0 : (z 0).val = 0 := by have := (z 0).isLt; have e : S1x1x256x1.size 0 = 1 := rfl; omega
  have hz1 : (z 1).val = 0 := by have := (z 1).isLt; have e : S1x1x256x1.size 1 = 1 := rfl; omega
  show V m c main_v2 (((cfgM m).win (1 : Fin 4)).rect t |>.emb z) = _
  refine V_v2_at m c _ y ?_ ?_
  · rw [y0, Pipeline.Window.rect_emb_val ((cfgM m).win (1 : Fin 4)) t z 0]
    show _ = (BitVec.ofNat 32 (grid0.coords t 0).val).toNat * 1 + (z 0).val
    rw [coord_word _ (grid0.coords _ 0).isLt]; omega
  · rw [y1, Pipeline.Window.rect_emb_val ((cfgM m).win (1 : Fin 4)) t z 1, Pipeline.Window.rect_emb_val_of_index_zero ((cfgM m).win (1 : Fin 4)) t 2 rfl z]
    show _ = 256 * ((BitVec.ofNat 32 (grid0.coords t 1).val).toNat * 1 + (z 1).val) + (z 2).val
    rw [coord_word _ (grid0.coords _ 1).isLt]; omega

/-! ## Over the extended reals -/

section Ideal

variable (m : (ℓ : Loc nD τ sig) → Buf (Elt Ideal) ℓ)

/-- The reference's result of the same arguments. -/
def result (c : Dev nD) : S8x2048x2048.Idx → Elt Ideal .f32 :=
  Cert.ReferenceIdeal.Value.out (F := Ideal) (m ((c : Thread nD τ).loc main_arg0)) (m ((c : Thread nD τ).loc main_arg1)) (m ((c : Thread nD τ).loc main_arg2))

/-- A step's block of the output is the block of the reference's result at that step's place. -/
theorem outBlk_eq (hw : ∀ c y, (words m c y).toNat < 10000) (c : Dev nD) (t : Fin (cfgM m).N) (y : S1x256x2048.Idx) (j : S8x2048x2048.Idx)
    (j0 : (j 0).val = (grid0.coords t 0).val) (j1 : (j 1).val = 256 * (grid0.coords t 1).val + (y 1).val) (j2 : (j 2).val = (y 2).val) :
    outBlk m c t y = result m c j := by
  have hb : (grid0.coords t 0).val < 8 := (grid0.coords t 0).isLt
  have ht : (grid0.coords t 1).val < 8 := (grid0.coords t 1).isLt
  have hy1 : (y 1).val < 256 := (y 1).isLt
  have hy2 : (y 2).val < 2048 := (y 2).isLt
  have hwd : ∀ n (h : n < 2048), wd (words m c) (grid0.coords t 0).val n = (m ((c : Thread nD τ).loc main_arg0) (wordIx (grid0.coords t 0).val n)).toNat := fun n h => by
    unfold wd words; rw [V_arg0]
  have hw' : ∀ y, (m ((c : Thread nD τ).loc main_arg0) y).toNat < 10000 := fun y => by
    have := hw c y; unfold words at this; rwa [V_arg0] at this
  have hlt : ∀ n (h : n < 2048), wd (words m c) (grid0.coords t 0).val n < 10000 := fun n h => by rw [hwd n h]; exact hw' _
  have hI0 : ∀ n, (wordIx (grid0.coords t 0).val n 0).val = (grid0.coords t 0).val := fun n => Nat.mod_eq_of_lt hb
  have hI1 : ∀ n, n < 2048 → (wordIx (grid0.coords t 0).val n 1).val = n := fun n h => Nat.mod_eq_of_lt h
  have hr : 256 * (grid0.coords t 1).val + (y 1).val < 2048 := by omega
  unfold outBlk
  rw [outOf_at _ _ _ _ _ (fun z => by
    have hz : (z 2).val < 256 := (z 2).isLt
    rw [colBlk_eq m c t z (wordIx (grid0.coords t 0).val (256 * (grid0.coords t 1).val + (z 2).val)) (hI0 _) (hI1 _ (by omega)), hwd _ (by omega)])]
  unfold result
  let q : S10000.Idx := fun a => match a with | 0 => ⟨wd (words m c) (grid0.coords t 0).val (256 * (grid0.coords t 1).val + (y 1).val), hlt _ hr⟩
  rw [Cert.ReferenceIdeal.Value.out_at _ hw' _ _ j (wordIx (grid0.coords t 0).val (256 * (grid0.coords t 1).val + (y 1).val)) (wordIx (grid0.coords t 0).val (y 2).val)
    (matIx (wd (words m c) (grid0.coords t 0).val (256 * (grid0.coords t 1).val + (y 1).val)) (wd (words m c) (grid0.coords t 0).val (y 2).val)) q
    ((hI0 _).trans j0.symm) ((hI1 _ hr).trans j1.symm) ((hI0 _).trans j0.symm) ((hI1 _ hy2).trans j2.symm)
    ((Nat.mod_eq_of_lt (hlt _ hr)).trans (hwd _ hr)) ((Nat.mod_eq_of_lt (hlt _ hy2)).trans (hwd _ hy2)) (hwd _ hr)]
  refine congrArg₂ (fun a b : EReal => a + b) ?_ (if_congr (by rw [j1, j2]) ?_ rfl)
  · show V m c main_arg1 _ = _
    rw [V_arg1]; rfl
  · rw [rootBlk_eq]
    exact V_v1_at m c _ (hlt _ hr) q rfl

/-- After the run the output array holds the reference's result. -/
theorem final_out (hw : ∀ c y, (words m c y).toNat < 10000) (c : Dev nD) : (dats m 0 c).arrAt (3 : Fin 4) (cfgM m).N = result m c := by
  refine (dats m 0 c).arrAt_eq_of_cover (3 : Fin 4) (result m c) (fun t _ => funext fun y => ?_) fun i => ?_
  · have hy0 : (y 0).val = 0 := by have : (y 0).val < 1 := (y 0).isLt; omega
    refine outBlk_eq m hw c t y (((cfgM m).win (3 : Fin 4)).rect t |>.emb y) ?_ ?_ ?_
    · rw [Pipeline.Window.rect_emb_val ((cfgM m).win (3 : Fin 4)) t y 0]
      show (BitVec.ofNat 32 (grid0.coords t 0).val).toNat * 1 + (y 0).val = _
      rw [coord_word _ (grid0.coords _ 0).isLt]; omega
    · rw [Pipeline.Window.rect_emb_val ((cfgM m).win (3 : Fin 4)) t y 1]
      show (BitVec.ofNat 32 (grid0.coords t 1).val).toNat * 256 + (y 1).val = _
      rw [coord_word _ (grid0.coords _ 1).isLt]; omega
    · exact Pipeline.Window.rect_emb_val_of_index_zero ((cfgM m).win (3 : Fin 4)) t 2 rfl y
  · have h0 : (i 0).val < 8 := (i 0).isLt
    have h1 : (i 1).val < 2048 := (i 1).isLt
    let t : Fin (cfgM m).N := ⟨8 * (i 0).val + (i 1).val / 256, by show _ < grid0.N; have e : grid0.N = 64 := by decide
                                                                   omega⟩
    have c0 : (grid0.coords t 0).val = (i 0).val := (coords_eq t).1.trans (by show (8 * (i 0).val + (i 1).val / 256) / 8 = _; omega)
    have c1 : (grid0.coords t 1).val = (i 1).val / 256 := (coords_eq t).2.trans (by show (8 * (i 0).val + (i 1).val / 256) % 8 = _; omega)
    let y : S1x256x2048.Idx := fun a => match a with
      | 0 => ⟨0, Nat.one_pos⟩ | 1 => ⟨(i 1).val % 256, Nat.mod_lt _ (by decide)⟩ | 2 => ⟨(i 2).val, (i 2).isLt⟩
    refine ⟨t, out_flush m t, ?_⟩
    have e : (((cfgM m).win (3 : Fin 4)).rect t |>.emb y) = i := funext fun a => Fin.ext (match a with
      | 0 => by
        refine (Pipeline.Window.rect_emb_val ((cfgM m).win (3 : Fin 4)) t y 0).trans ?_
        show (BitVec.ofNat 32 (grid0.coords t 0).val).toNat * 1 + 0 = (i 0).val
        rw [coord_word _ (grid0.coords _ 0).isLt]; omega
      | 1 => by
        refine (Pipeline.Window.rect_emb_val ((cfgM m).win (3 : Fin 4)) t y 1).trans ?_
        show (BitVec.ofNat 32 (grid0.coords t 1).val).toNat * 256 + (i 1).val % 256 = (i 1).val
        rw [coord_word _ (grid0.coords _ 1).isLt]; omega
      | 2 => Pipeline.Window.rect_emb_val_of_index_zero ((cfgM m).win (3 : Fin 4)) t 2 rfl y)
    have := (((cfgM m).win (3 : Fin 4)).blk t).view.emb_mem_set y
    rw [← e]; exact this

/-- The run: the result at the reference's, the arguments unchanged, every counter at zero. -/
theorem run_result (g : Dev nD → PrngReg) (hw : ∀ c y, (words m c y).toNat < 10000) :
    θ_run (defs (F := Ideal)) (onTc (τ := τ) (main (F := Ideal))) ⟨m, fun _ => 0, g⟩ (fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r hr c => ⟨((hr.1 c).1 (3 : Fin 4)).trans (final_out m hw c), final_args hr.1 c⟩) (run_main m g hw)

end Ideal

end Cert.KernelIdeal.Gather
end
-- ==== Proof.lean ====
/- The claims, from the runs: the kernel's at the bits (`Proof/Run.lean`), the idealized kernel's with its result
   (`Proof/Ideal/Result.lean`) and the reference's with its own (`Proof/Reference.lean`). -/
module

public import proofs.«01_k».proof.Defs
public import proofs.«01_k».proof.Proof.Run
public import proofs.«01_k».proof.Proof.Ideal.Result
public import proofs.«01_k».proof.Proof.Vocabulary
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.Pre_words_in_vocabulary
public import Idealize.ShloMosaic.Lib.Claim
public import Idealize.ShloMosaic.Adequacy
public import Idealize.ShloMosaic.Init

@[expose] public section

noncomputable section

namespace Cert.Proof

open Idealize.ShloMosaic Idealize.SL.Sem

/-- Under the precondition every word the kernel reads names a row. -/
theorem kernel_words (m : (ℓ : Loc Cert.Kernel.nD Cert.Kernel.τ Cert.Kernel.sig) → Buf (Elt Bits) ℓ) (h : Pre_Kernel m) :
    ∀ c y, (Cert.Kernel.Gather.words m c y).toNat < 10000 := fun c y => by
  unfold Cert.Kernel.Gather.words; rw [Cert.Kernel.Gather.V_arg0]
  exact GatherLib.word_lt _ _ _ (h c) y

/-- The same of the idealized kernel. -/
theorem ideal_words (m : (ℓ : Loc Cert.KernelIdeal.nD Cert.KernelIdeal.τ Cert.KernelIdeal.sig) → Buf (Elt Ideal) ℓ) (h : Pre_KernelIdeal m) :
    ∀ c y, (Cert.KernelIdeal.Gather.words m c y).toNat < 10000 := fun c y => by
  unfold Cert.KernelIdeal.Gather.words; rw [Cert.KernelIdeal.Gather.V_arg0]
  exact GatherLib.word_lt _ _ _ (h c) y

theorem frame_kernel : quiescent_Kernel := fun m g h =>
  (θ_run _ _ _).mono (fun _ hr => ⟨fun c => Cert.Kernel.Gather.final_args hr.1 c, hr.2⟩) (Cert.Kernel.Gather.run_main m g (kernel_words m h))

theorem frame_ideal : quiescent_KernelIdeal := fun m g h =>
  (θ_run _ _ _).mono (fun _ hr => ⟨fun c => Cert.KernelIdeal.Gather.final_args hr.1 c, hr.2⟩) (Cert.KernelIdeal.Gather.run_main m g (ideal_words m h))

/-- The reference's arguments stay; it declares no semaphore. -/
theorem frame_reference : quiescent_ReferenceIdeal := fun m g _ =>
  (θ_run _ _ _).mono (fun r hr => ⟨fun c => (hr c).2, Idealize.ShloMosaic.sem_eq_zero_of_no_sems (by decide) r.2⟩)
    (Cert.ReferenceIdeal.Value.run m g)

/-- The idealized kernel and the reference both end with the reference's function of the arguments. -/
theorem same_result : algebraic_KernelIdeal_ReferenceIdeal := fun m g m' g' h hm =>
  ⟨Cert.KernelIdeal.Gather.result m, Cert.KernelIdeal.Gather.run_result m g (ideal_words m h),
    (θ_run _ _ _).mono (fun _ hr c => ⟨by
      have h0 := (hm c).1
      have h1 := (hm c).2.1
      have h2 := (hm c).2.2
      rw [(hr c).1, h0, h1, h2]; rfl, (hr c).2⟩) (Cert.ReferenceIdeal.Value.run m' g')⟩

theorem claim : Cert.Claim :=
  ⟨Cert.Kernel.Gen.facts, Cert.KernelIdeal.Gen.facts, Cert.ReferenceIdeal.Gen.facts, Cert.Pre_words_in_vocabulary.Gen.facts,
    frame_kernel, frame_ideal, frame_reference, fun m g _ => frame_reference m g trivial, trivial, same_result⟩

end Cert.Proof

end
